-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "log2e" .f32 0x3FB8AA3B#32 (((Real.log 2)⁻¹ : ℝ) : EReal)
  ∧ IdealRules.named_const.Statement Cert.Kernel2Ideal.κ "ln2" .f32 0x3F317218#32 ((Real.log 2 : ℝ) : EReal)

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v46_0)) (v1 : (c : Dev Cert.Kernel2Ideal.nD) → Buf (Elt Ideal) ((c.tc : Thread Cert.Kernel2Ideal.nD Cert.Kernel2Ideal.τ).loc Cert.Kernel2Ideal.main_v46_1)) (v2 : (c : Dev Cert.Kernel2Ideal.nD) → Buf (Elt Ideal) ((c.tc : Thread Cert.Kernel2Ideal.nD Cert.Kernel2Ideal.τ).loc Cert.Kernel2Ideal.main_v46_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v46_0) = v0 c
          ∧ r.2.mem ((c.tc : Thread Cert.Kernel2Ideal.nD Cert.Kernel2Ideal.τ).loc Cert.Kernel2Ideal.main_v46_1) = v1 c
          ∧ r.2.mem ((c.tc : Thread Cert.Kernel2Ideal.nD Cert.Kernel2Ideal.τ).loc Cert.Kernel2Ideal.main_v46_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v66) = v0 c
          ∧ r.2.mem ((c.tc : Thread Cert.Reference2Ideal.nD Cert.Reference2Ideal.τ).loc Cert.Reference2Ideal.main_v68) = v1 c
          ∧ r.2.mem ((c.tc : Thread Cert.Reference2Ideal.nD Cert.Reference2Ideal.τ).loc Cert.Reference2Ideal.main_v70) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_v61) = v1 c
          ∧ r.2.mem ((c.tc : Thread Cert.Reference3Ideal.nD Cert.Reference3Ideal.τ).loc Cert.Reference3Ideal.main_v60) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v48_0)) (v1 : (c : Dev Cert.Kernel4Ideal.nD) → Buf (Elt Ideal) ((c.tc : Thread Cert.Kernel4Ideal.nD Cert.Kernel4Ideal.τ).loc Cert.Kernel4Ideal.main_v48_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v48_0) = v0 c
          ∧ r.2.mem ((c.tc : Thread Cert.Kernel4Ideal.nD Cert.Kernel4Ideal.τ).loc Cert.Kernel4Ideal.main_v48_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v82) = v0 c
          ∧ r.2.mem ((c.tc : Thread Cert.Reference4Ideal.nD Cert.Reference4Ideal.τ).loc Cert.Reference4Ideal.main_v84) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v30_0)) (v1 : (c : Dev Cert.Kernel5Ideal.nD) → Buf (Elt Ideal) ((c.tc : Thread Cert.Kernel5Ideal.nD Cert.Kernel5Ideal.τ).loc Cert.Kernel5Ideal.main_v30_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v30_0) = v0 c
          ∧ r.2.mem ((c.tc : Thread Cert.Kernel5Ideal.nD Cert.Kernel5Ideal.τ).loc Cert.Kernel5Ideal.main_v30_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_v31) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v12)) (v2 : (c : Dev Cert.Kernel6Ideal.nD) → Buf (Elt Ideal) ((c.tc : Thread Cert.Kernel6Ideal.nD Cert.Kernel6Ideal.τ).loc Cert.Kernel6Ideal.main_v17)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v12) = v1 c
          ∧ r.2.mem ((c.tc : Thread Cert.Kernel6Ideal.nD Cert.Kernel6Ideal.τ).loc Cert.Kernel6Ideal.main_v17) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v65) = v0 c
          ∧ r.2.mem ((c.tc : Thread Cert.Reference6Ideal.nD Cert.Reference6Ideal.τ).loc Cert.Reference6Ideal.main_v66) = v1 c
          ∧ r.2.mem ((c.tc : Thread Cert.Reference6Ideal.nD Cert.Reference6Ideal.τ).loc Cert.Reference6Ideal.main_v67) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v12)) (v2 : (c : Dev Cert.Kernel8Ideal.nD) → Buf (Elt Ideal) ((c.tc : Thread Cert.Kernel8Ideal.nD Cert.Kernel8Ideal.τ).loc Cert.Kernel8Ideal.main_v17)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v12) = v1 c
          ∧ r.2.mem ((c.tc : Thread Cert.Kernel8Ideal.nD Cert.Kernel8Ideal.τ).loc Cert.Kernel8Ideal.main_v17) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v65) = v0 c
          ∧ r.2.mem ((c.tc : Thread Cert.Reference8Ideal.nD Cert.Reference8Ideal.τ).loc Cert.Reference8Ideal.main_v66) = v1 c
          ∧ r.2.mem ((c.tc : Thread Cert.Reference8Ideal.nD Cert.Reference8Ideal.τ).loc Cert.Reference8Ideal.main_v67) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v14_0)) (v1 : (c : Dev Cert.Kernel9Ideal.nD) → Buf (Elt Ideal) ((c.tc : Thread Cert.Kernel9Ideal.nD Cert.Kernel9Ideal.τ).loc Cert.Kernel9Ideal.main_v19)) (v2 : (c : Dev Cert.Kernel9Ideal.nD) → Buf (Elt Ideal) ((c.tc : Thread Cert.Kernel9Ideal.nD Cert.Kernel9Ideal.τ).loc Cert.Kernel9Ideal.main_v24)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v14_0) = v0 c
          ∧ r.2.mem ((c.tc : Thread Cert.Kernel9Ideal.nD Cert.Kernel9Ideal.τ).loc Cert.Kernel9Ideal.main_v19) = v1 c
          ∧ r.2.mem ((c.tc : Thread Cert.Kernel9Ideal.nD Cert.Kernel9Ideal.τ).loc Cert.Kernel9Ideal.main_v24) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v62) = v0 c
          ∧ r.2.mem ((c.tc : Thread Cert.Reference9Ideal.nD Cert.Reference9Ideal.τ).loc Cert.Reference9Ideal.main_v63) = v1 c
          ∧ r.2.mem ((c.tc : Thread Cert.Reference9Ideal.nD Cert.Reference9Ideal.τ).loc Cert.Reference9Ideal.main_v64) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v9)) (v2 : (c : Dev Cert.Kernel10Ideal.nD) → Buf (Elt Ideal) ((c.tc : Thread Cert.Kernel10Ideal.nD Cert.Kernel10Ideal.τ).loc Cert.Kernel10Ideal.main_v14)) (v3 : (c : Dev Cert.Kernel10Ideal.nD) → Buf (Elt Ideal) ((c.tc : Thread Cert.Kernel10Ideal.nD Cert.Kernel10Ideal.τ).loc Cert.Kernel10Ideal.main_v20)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v9) = v1 c
          ∧ r.2.mem ((c.tc : Thread Cert.Kernel10Ideal.nD Cert.Kernel10Ideal.τ).loc Cert.Kernel10Ideal.main_v14) = v2 c
          ∧ r.2.mem ((c.tc : Thread Cert.Kernel10Ideal.nD Cert.Kernel10Ideal.τ).loc Cert.Kernel10Ideal.main_v20) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v76) = v0 c
          ∧ r.2.mem ((c.tc : Thread Cert.Reference10Ideal.nD Cert.Reference10Ideal.τ).loc Cert.Reference10Ideal.main_v77) = v1 c
          ∧ r.2.mem ((c.tc : Thread Cert.Reference10Ideal.nD Cert.Reference10Ideal.τ).loc Cert.Reference10Ideal.main_v78) = v2 c
          ∧ r.2.mem ((c.tc : Thread Cert.Reference10Ideal.nD Cert.Reference10Ideal.τ).loc Cert.Reference10Ideal.main_v79) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v9_0)) (v1 : (c : Dev Cert.Kernel11Ideal.nD) → Buf (Elt Ideal) ((c.tc : Thread Cert.Kernel11Ideal.nD Cert.Kernel11Ideal.τ).loc Cert.Kernel11Ideal.main_v9_1)) (v2 : (c : Dev Cert.Kernel11Ideal.nD) → Buf (Elt Ideal) ((c.tc : Thread Cert.Kernel11Ideal.nD Cert.Kernel11Ideal.τ).loc Cert.Kernel11Ideal.main_v9_2)) (v3 : (c : Dev Cert.Kernel11Ideal.nD) → Buf (Elt Ideal) ((c.tc : Thread Cert.Kernel11Ideal.nD Cert.Kernel11Ideal.τ).loc Cert.Kernel11Ideal.main_v9_3)) (v4 : (c : Dev Cert.Kernel11Ideal.nD) → Buf (Elt Ideal) ((c.tc : Thread Cert.Kernel11Ideal.nD Cert.Kernel11Ideal.τ).loc Cert.Kernel11Ideal.main_v9_4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v9_0) = v0 c
          ∧ r.2.mem ((c.tc : Thread Cert.Kernel11Ideal.nD Cert.Kernel11Ideal.τ).loc Cert.Kernel11Ideal.main_v9_1) = v1 c
          ∧ r.2.mem ((c.tc : Thread Cert.Kernel11Ideal.nD Cert.Kernel11Ideal.τ).loc Cert.Kernel11Ideal.main_v9_2) = v2 c
          ∧ r.2.mem ((c.tc : Thread Cert.Kernel11Ideal.nD Cert.Kernel11Ideal.τ).loc Cert.Kernel11Ideal.main_v9_3) = v3 c
          ∧ r.2.mem ((c.tc : Thread Cert.Kernel11Ideal.nD Cert.Kernel11Ideal.τ).loc Cert.Kernel11Ideal.main_v9_4) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v46) = v0 c
          ∧ r.2.mem ((c.tc : Thread Cert.Reference11Ideal.nD Cert.Reference11Ideal.τ).loc Cert.Reference11Ideal.main_v47) = v1 c
          ∧ r.2.mem ((c.tc : Thread Cert.Reference11Ideal.nD Cert.Reference11Ideal.τ).loc Cert.Reference11Ideal.main_v48) = v2 c
          ∧ r.2.mem ((c.tc : Thread Cert.Reference11Ideal.nD Cert.Reference11Ideal.τ).loc Cert.Reference11Ideal.main_v49) = v3 c
          ∧ r.2.mem ((c.tc : Thread Cert.Reference11Ideal.nD Cert.Reference11Ideal.τ).loc Cert.Reference11Ideal.main_v50) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v15_0)) (v1 : (c : Dev Cert.Kernel12Ideal.nD) → Buf (Elt Ideal) ((c.tc : Thread Cert.Kernel12Ideal.nD Cert.Kernel12Ideal.τ).loc Cert.Kernel12Ideal.main_v20)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v15_0) = v0 c
          ∧ r.2.mem ((c.tc : Thread Cert.Kernel12Ideal.nD Cert.Kernel12Ideal.τ).loc Cert.Kernel12Ideal.main_v20) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v39) = v0 c
          ∧ r.2.mem ((c.tc : Thread Cert.Reference12Ideal.nD Cert.Reference12Ideal.τ).loc Cert.Reference12Ideal.main_v40) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v18_0)) (v1 : (c : Dev Cert.Kernel13Ideal.nD) → Buf (Elt Ideal) ((c.tc : Thread Cert.Kernel13Ideal.nD Cert.Kernel13Ideal.τ).loc Cert.Kernel13Ideal.main_v23)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v18_0) = v0 c
          ∧ r.2.mem ((c.tc : Thread Cert.Kernel13Ideal.nD Cert.Kernel13Ideal.τ).loc Cert.Kernel13Ideal.main_v23) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v46) = v0 c
          ∧ r.2.mem ((c.tc : Thread Cert.Reference13Ideal.nD Cert.Reference13Ideal.τ).loc Cert.Reference13Ideal.main_v47) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v20) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  IdealRules.named_const.Statement Cert.Kernel15Ideal.κ "mask" .f32 0xF149F2CA#32 ⊥
  ∧ IdealRules.named_const.Statement Cert.Kernel15Ideal.κ "log2e" .f32 0x3FB8AA3B#32 (((Real.log 2)⁻¹ : ℝ) : EReal)
  ∧ IdealRules.named_const.Statement Cert.Kernel15Ideal.κ "ln2" .f32 0x3F317218#32 ((Real.log 2 : ℝ) : EReal)

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v14_0)) (v1 : (c : Dev Cert.Kernel15Ideal.nD) → Buf (Elt Ideal) ((c.tc : Thread Cert.Kernel15Ideal.nD Cert.Kernel15Ideal.τ).loc Cert.Kernel15Ideal.main_v14_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v14_0) = v0 c
          ∧ r.2.mem ((c.tc : Thread Cert.Kernel15Ideal.nD Cert.Kernel15Ideal.τ).loc Cert.Kernel15Ideal.main_v14_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v24) = v0 c
          ∧ r.2.mem ((c.tc : Thread Cert.Reference15Ideal.nD Cert.Reference15Ideal.τ).loc Cert.Reference15Ideal.main_v33) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v4_0)) (v1 : (c : Dev Cert.Kernel16Ideal.nD) → Buf (Elt Ideal) ((c.tc : Thread Cert.Kernel16Ideal.nD Cert.Kernel16Ideal.τ).loc Cert.Kernel16Ideal.main_v4_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4_0) = v0 c
          ∧ r.2.mem ((c.tc : Thread Cert.Kernel16Ideal.nD Cert.Kernel16Ideal.τ).loc Cert.Kernel16Ideal.main_v4_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v13_0)) (v1 : (c : Dev Cert.Kernel17Ideal.nD) → Buf (Elt Ideal) ((c.tc : Thread Cert.Kernel17Ideal.nD Cert.Kernel17Ideal.τ).loc Cert.Kernel17Ideal.main_v13_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v13_0) = v0 c
          ∧ r.2.mem ((c.tc : Thread Cert.Kernel17Ideal.nD Cert.Kernel17Ideal.τ).loc Cert.Kernel17Ideal.main_v13_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v25) = v0 c
          ∧ r.2.mem ((c.tc : Thread Cert.Reference17Ideal.nD Cert.Reference17Ideal.τ).loc Cert.Reference17Ideal.main_v29) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts) (hPre_finite3 : Cert.Pre_finite3.Facts) (hPre_finite15 : Cert.Pre_finite15.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite15 (hKernel15Ideal := hKernel15Ideal) (hReference15Ideal := hReference15Ideal) (hPre_finite15 := hPre_finite15)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite.lean ====
abbrev S8192x8x96 : Shape := ⟨3, ![8192, 8, 96]⟩
abbrev S8192x8x64 : Shape := ⟨3, ![8192, 8, 64]⟩
abbrev S8192x512 : Shape := ⟨2, ![8192, 512]⟩
abbrev S_ : Shape := ⟨0, ![]⟩

class Facts : Prop where
  bcast_S_S8192x8x96 : S_.BroadcastsInDim S8192x8x96 (![] : Fin 0 → Fin S8192x8x96.rank)
  reducesTo_S8192x8x96_S_d0_1_2 : S8192x8x96.ReducesTo [0, 1, 2] S_
  h_S_ : 0 < S_.numel
  bcast_S_S8192x8x64 : S_.BroadcastsInDim S8192x8x64 (![] : Fin 0 → Fin S8192x8x64.rank)
  reducesTo_S8192x8x64_S_d0_1_2 : S8192x8x64.ReducesTo [0, 1, 2] S_
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x8x96 .f32) (main_arg1 : FVec F S8192x8x96 .f32) (main_arg2 : FVec F S8192x8x64 .f32) (main_arg3 : FVec F S8192x512 .f32) : IVec S_ 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_c : IVec S_ 1 := constantI S_ 1 1#1
  let main_v3 : IVec S_ 1 := (fun x v => Host.reduce IntOp.andi x v reducesTo_S8192x8x96_S_d0_1_2 h_S_) main_v2 main_c
  let main_v4 : FVec F S8192x8x96 .f32 := Host.absf main_arg1
  let main_cst_0 : FVec F S_ .f32 := constant S_ .f32 0x7F800000#32
  let main_v5 : FVec F S8192x8x96 .f32 := broadcastInDim S8192x8x96 ![] bcast_S_S8192x8x96 main_cst_0
  let main_v6 : IVec S8192x8x96 1 := cmpf .olt main_v4 main_v5
  let main_c_1 : IVec S_ 1 := constantI S_ 1 1#1
  let main_v7 : IVec S_ 1 := (fun x v => Host.reduce IntOp.andi x v reducesTo_S8192x8x96_S_d0_1_2 h_S_) main_v6 main_c_1
  let main_v8 : FVec F S8192x8x64 .f32 := Host.absf main_arg2
  let main_cst_2 : FVec F S_ .f32 := constant S_ .f32 0x7F800000#32
  let main_v9 : FVec F S8192x8x64 .f32 := broadcastInDim S8192x8x64 ![] bcast_S_S8192x8x64 main_cst_2
  let main_v10 : IVec S8192x8x64 1 := cmpf .olt main_v8 main_v9
  let main_c_3 : IVec S_ 1 := constantI S_ 1 1#1
  let main_v11 : IVec S_ 1 := (fun x v => Host.reduce IntOp.andi x v reducesTo_S8192x8x64_S_d0_1_2 h_S_) main_v10 main_c_3
  let main_v12 : FVec F S8192x512 .f32 := Host.absf main_arg3
  let main_cst_4 : FVec F S_ .f32 := constant S_ .f32 0x7F800000#32
  let main_v13 : FVec F S8192x512 .f32 := broadcastInDim S8192x512 ![] bcast_S_S8192x512 main_cst_4
  let main_v14 : IVec S8192x512 1 := cmpf .olt main_v12 main_v13
  let main_c_5 : IVec S_ 1 := constantI S_ 1 1#1
  let main_v15 : IVec S_ 1 := (fun x v => Host.reduce IntOp.andi x v reducesTo_S8192x512_S_d0_1 h_S_) main_v14 main_c_5
  fn_part1 (F := F) main_v3 main_v7 main_v11 main_v15
-- ==== Pre_finite15.lean ====
abbrev S8192x8x96 : Shape := ⟨3, ![8192, 8, 96]⟩
abbrev S8192x8x64 : Shape := ⟨3, ![8192, 8, 64]⟩
abbrev S_ : Shape := ⟨0, ![]⟩

class Facts : Prop where
  bcast_S_S8192x8x96 : S_.BroadcastsInDim S8192x8x96 (![] : Fin 0 → Fin S8192x8x96.rank)
  reducesTo_S8192x8x96_S_d0_1_2 : S8192x8x96.ReducesTo [0, 1, 2] S_
  h_S_ : 0 < S_.numel
  bcast_S_S8192x8x64 : S_.BroadcastsInDim S8192x8x64 (![] : Fin 0 → Fin S8192x8x64.rank)
  reducesTo_S8192x8x64_S_d0_1_2 : S8192x8x64.ReducesTo [0, 1, 2] S_

variable [Facts]

def fn {F : FTy → Type} [FloatOps F] (main_arg0 : FVec F S8192x8x96 .f32) (main_arg1 : FVec F S8192x8x96 .f32) (main_arg2 : FVec F S8192x8x64 .f32) : IVec S_ 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_c : IVec S_ 1 := constantI S_ 1 1#1
  let main_v3 : IVec S_ 1 := (fun x v => Host.reduce IntOp.andi x v reducesTo_S8192x8x96_S_d0_1_2 h_S_) main_v2 main_c
  let main_v4 : FVec F S8192x8x96 .f32 := Host.absf main_arg1
  let main_cst_0 : FVec F S_ .f32 := constant S_ .f32 0x7F800000#32
  let main_v5 : FVec F S8192x8x96 .f32 := broadcastInDim S8192x8x96 ![] bcast_S_S8192x8x96 main_cst_0
  let main_v6 : IVec S8192x8x96 1 := cmpf .olt main_v4 main_v5
  let main_c_1 : IVec S_ 1 := constantI S_ 1 1#1
  let main_v7 : IVec S_ 1 := (fun x v => Host.reduce IntOp.andi x v reducesTo_S8192x8x96_S_d0_1_2 h_S_) main_v6 main_c_1
  let main_v8 : FVec F S8192x8x64 .f32 := Host.absf main_arg2
  let main_cst_2 : FVec F S_ .f32 := constant S_ .f32 0x7F800000#32
  let main_v9 : FVec F S8192x8x64 .f32 := broadcastInDim S8192x8x64 ![] bcast_S_S8192x8x64 main_cst_2
  let main_v10 : IVec S8192x8x64 1 := cmpf .olt main_v8 main_v9
  let main_c_3 : IVec S_ 1 := constantI S_ 1 1#1
  let main_v11 : IVec S_ 1 := (fun x v => Host.reduce IntOp.andi x v reducesTo_S8192x8x64_S_d0_1_2 h_S_) main_v10 main_c_3
  let main_v12 : IVec S_ 1 := andi main_v3 main_v7
  let main_v13 : IVec S_ 1 := andi main_v12 main_v11
  main_v13
-- ==== Pre_finite3.lean ====
abbrev S8192x1024 : Shape := ⟨2, ![8192, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x1024 .f32) (main_arg1 : FVec F S256x1024 .f32) (main_arg2 : FVec F S256x1024 .f32) (main_arg3 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : FVec F S256x1024 .f32 := Host.absf main_arg2
  let main_cst_2 : FVec F S_ .f32 := constant S_ .f32 0x7F800000#32
  let main_v9 : FVec F S256x1024 .f32 := broadcastInDim S256x1024 ![] bcast_S_S256x1024 main_cst_2
  let main_v10 : IVec S256x1024 1 := cmpf .olt main_v8 main_v9
  let main_c_3 : IVec S_ 1 := constantI S_ 1 1#1
  let main_v11 : IVec S_ 1 := (fun x v => Host.reduce IntOp.andi x v reducesTo_S256x1024_S_d0_1 h_S_) main_v10 main_c_3
  let main_v12 : FVec F S8192x1024 .f32 := Host.absf main_arg3
  let main_cst_4 : FVec F S_ .f32 := constant S_ .f32 0x7F800000#32
  let main_v13 : FVec F S8192x1024 .f32 := broadcastInDim S8192x1024 ![] bcast_S_S8192x1024 main_cst_4
  let main_v14 : IVec S8192x1024 1 := cmpf .olt main_v12 main_v13
  let main_c_5 : IVec S_ 1 := constantI S_ 1 1#1
  let main_v15 : IVec S_ 1 := (fun x v => Host.reduce IntOp.andi x v reducesTo_S8192x1024_S_d0_1 h_S_) main_v14 main_c_5
  fn_part1 (F := F) main_v3 main_v7 main_v11 main_v15
-- ==== Kernel.lean ====
abbrev S8192x4096 : Shape := ⟨2, ![8192, 4096]⟩
abbrev S4096x1024 : Shape := ⟨2, ![4096, 1024]⟩
abbrev S8192x1024 : Shape := ⟨2, ![8192, 1024]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 6
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S4096x1024, .bf16⟩
  | .hbm, ⟨4, _⟩ => ⟨S8192x4096, .bf16⟩
  | .hbm, ⟨5, _⟩ => ⟨S8192x4096, .bf16⟩
  | .local _ .vmem, ⟨0, _⟩ => ⟨S1024x1024, .f32⟩
  | .local _ .vmem, ⟨1, _⟩ => ⟨S1024x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel2.lean ====
abbrev S8192x8x96 : Shape := ⟨3, ![8192, 8, 96]⟩
abbrev S8192x8x64 : Shape := ⟨3, ![8192, 8, 64]⟩
abbrev S8192x512 : Shape := ⟨2, ![8192, 512]⟩
abbrev S136 : Shape := ⟨1, ![136]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8192x8 : Shape := ⟨2, ![8192, 8]⟩
abbrev S8192x8x128 : Shape := ⟨3, ![8192, 8, 128]⟩
abbrev S8192x1024 : Shape := ⟨2, ![8192, 1024]⟩
abbrev S8x1x8192 : Shape := ⟨3, ![8, 1, 8192]⟩
abbrev S512x1024 : Shape := ⟨2, ![512, 1024]⟩
abbrev S1 : Shape := ⟨1, ![1]⟩
abbrev S8x1x512 : Shape := ⟨3, ![8, 1, 512]⟩
abbrev S512x128 : Shape := ⟨2, ![512, 128]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 67
  | .vmem => 17
  | .smem => 2
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x512, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S8x8192x8192, .i1⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192, .f32⟩
  | .hbm, ⟨21, _⟩ => ⟨S8x8192x1, .f32⟩
  | .hbm, ⟨22, _⟩ => ⟨S8x8192x8192, .f32⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192, .f32⟩
  | .hbm, ⟨27, _⟩ => ⟨S8x8192x1, .f32⟩
  | .hbm, ⟨28, _⟩ => ⟨S8x8192x1, .f32⟩
  | .hbm, ⟨29, _⟩ => ⟨S8x8192x1, .f32⟩
  | .hbm, ⟨30, _⟩ => ⟨S8x8192x8192, .f32⟩
  | .hbm, ⟨31, _⟩ => ⟨S8x8192x8192, .f32⟩
  | .hbm, ⟨32, _⟩ => ⟨S8x64x8192, .f32⟩
  | .hbm, ⟨33, _⟩ => ⟨S8192x8x64, .f32⟩
  | .hbm, ⟨34, _⟩ => ⟨S8192x8x64, .f32⟩
  | .hbm, ⟨35, _⟩ => ⟨S8192x8x64, .f32⟩
  | .hbm, ⟨36, _⟩ => ⟨S_, .f32⟩
  | .hbm, ⟨37, _⟩ => ⟨S8192x8, .f32⟩
  | .hbm, ⟨38, _⟩ => ⟨S_, .f32⟩
  | .hbm, ⟨39, _⟩ => ⟨S8192x8x128, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .bf16⟩
  | .hbm, ⟨49, _⟩ => ⟨S_, .f32⟩
  | .hbm, ⟨50, _⟩ => ⟨S8192x8x128, .f32⟩
  | .hbm, ⟨51, _⟩ => ⟨S8192x1024, .f32⟩
  | .hbm, ⟨52, _⟩ => ⟨S8192x1024, .bf16⟩
  | .hbm, ⟨53, _⟩ => ⟨S_, .f32⟩
  | .hbm, ⟨54, _⟩ => ⟨S8192x8x128, .f32⟩
  | .hbm, ⟨55, _⟩ => ⟨S8192x1024, .f32⟩
  | .hbm, ⟨56, _⟩ => ⟨S8192x1024, .bf16⟩
  | .hbm, ⟨57, _⟩ => ⟨S_, .f32⟩
  | .hbm, ⟨58, _⟩ => ⟨S8192x8x128, .f32⟩
  | .hbm, ⟨59, _⟩ => ⟨S8192x1024, .f32⟩
  | .hbm, ⟨60, _⟩ => ⟨S8192x1024, .bf16⟩
  | .hbm, ⟨61, _⟩ => ⟨S8x1x8192, .f32⟩
  | .hbm, ⟨62, _⟩ => ⟨S8x8192, .f32⟩
  | .hbm, ⟨63, _⟩ => ⟨S8x1x8192, .f32⟩
  | .hbm, ⟨64, _⟩ => ⟨S8192x1024, .f32⟩
  | .hbm, ⟨65, _⟩ => ⟨S8192x1024, .f32⟩
  | .hbm, ⟨66, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S8x1x512, .f32⟩
  | .local _ .vmem, ⟨9, _⟩ => ⟨S8x1x512, .f32⟩
  | .local _ .vmem, ⟨10, _⟩ => ⟨S8x1x512, .f32⟩
  | .local _ .vmem, ⟨11, _⟩ => ⟨S8x1x512, .f32⟩
  | .local _ .vmem, ⟨12, _⟩ => ⟨S8192x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .smem, ⟨0, _⟩ => ⟨S136, .i32⟩
  | .local _ .smem, ⟨1, _⟩ => ⟨S136, .i32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46_0 : Ref sig .tc := ⟨.hbm, 64, rfl⟩
abbrev main_v46_1 : Ref sig .tc := ⟨.hbm, 65, rfl⟩
abbrev main_v46_2 : Ref sig .tc := ⟨.hbm, 66, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![1, 136], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c512_i32 : BitVec 32 := 512#32
  let v22 : BitVec 32 := Scalar.muli v1 c512_i32
  v22
def k0_cond3 (v1 : BitVec 32) (v3 : BitVec 32) : BitVec 1 :=
  let v10 : BitVec 1 := Scalar.cmpi .sgt v1 v3
  let v11 : BitVec 32 := Scalar.extui v10
  let c0_i32_2 : BitVec 32 := 0#32
  let v12 : BitVec 1 := Scalar.cmpi .ne v11 c0_i32_2
  v12

def k0_off2 (v1 : BitVec 32) : Fin 2 → Nat :=
  let c512_i32 : BitVec 32 := 512#32
  let v22 : BitVec 32 := Scalar.muli v1 c512_i32
  let v23 : BitVec 32 := v22
  let v58 : Index := Scalar.indexCast v23
  let c0_31 : Index := 0#32
  ![v58.toNat, 0]
def k0_off3 (v1 : BitVec 32) : Fin 2 → Nat :=
  let c512_i32 : BitVec 32 := 512#32
  let v22 : BitVec 32 := Scalar.muli v1 c512_i32
  let v23 : BitVec 32 := v22
  let v99 : Index := Scalar.indexCast v23
  let c128_59 : Index := 128#32
  ![v99.toNat, 128]
def k0_off4 (v1 : BitVec 32) : Fin 2 → Nat :=
  let c512_i32 : BitVec 32 := 512#32
  let v22 : BitVec 32 := Scalar.muli v1 c512_i32
  let v23 : BitVec 32 := v22
  let v140 : Index := Scalar.indexCast v23
  let c256_87 : Index := 256#32
  ![v140.toNat, 256]
def k0_off5 (v1 : BitVec 32) : Fin 2 → Nat :=
  let c512_i32 : BitVec 32 := 512#32
  let v22 : BitVec 32 := Scalar.muli v1 c512_i32
  let v23 : BitVec 32 := v22
  let v181 : Index := Scalar.indexCast v23
  let c384_115 : Index := 384#32
  ![v181.toNat, 384]
def k0_off6 (v1 : BitVec 32) : Fin 2 → Nat :=
  let c512_i32 : BitVec 32 := 512#32
  let v22 : BitVec 32 := Scalar.muli v1 c512_i32
  let v23 : BitVec 32 := v22
  let v222 : Index := Scalar.indexCast v23
  let c512_143 : Index := 512#32
  ![v222.toNat, 512]
def k0_off7 (v1 : BitVec 32) : Fin 2 → Nat :=
  let c512_i32 : BitVec 32 := 512#32
  let v22 : BitVec 32 := Scalar.muli v1 c512_i32
  let v23 : BitVec 32 := v22
  let v263 : Index := Scalar.indexCast v23
  let c640_171 : Index := 640#32
  ![v263.toNat, 640]
def k0_off8 (v1 : BitVec 32) : Fin 2 → Nat :=
  let c512_i32 : BitVec 32 := 512#32
  let v22 : BitVec 32 := Scalar.muli v1 c512_i32
  let v23 : BitVec 32 := v22
  let v304 : Index := Scalar.indexCast v23
  let c768_199 : Index := 768#32
  ![v304.toNat, 768]
def k0_off9 (v1 : BitVec 32) : Fin 2 → Nat :=
  let c512_i32 : BitVec 32 := 512#32
  let v22 : BitVec 32 := Scalar.muli v1 c512_i32
  let v23 : BitVec 32 := v22
  let v345 : Index := Scalar.indexCast v23
  let c896_227 : Index := 896#32
  ![v345.toNat, 896]
def k0_mult2 (v1 : BitVec 32) : BitVec 32 :=
  let c512_i32 : BitVec 32 := 512#32
  let v22 : BitVec 32 := Scalar.muli v1 c512_i32
  v22
def k0_cond4 (v1 : BitVec 32) (v3 : BitVec 32) : BitVec 1 :=
  let v13 : BitVec 1 := Scalar.cmpi .eq v1 v3
  let v14 : BitVec 32 := Scalar.extui v13
  let c0_i32_3 : BitVec 32 := 0#32
  let v15 : BitVec 1 := Scalar.cmpi .ne v14 c0_i32_3
  v15

def k0_off10 (v1 : BitVec 32) : Fin 2 → Nat :=
  let c512_i32 : BitVec 32 := 512#32
  let v22 : BitVec 32 := Scalar.muli v1 c512_i32
  let v23 : BitVec 32 := v22
  let v63 : Index := Scalar.indexCast v23
  let c0_32 : Index := 0#32
  ![v63.toNat, 0]
def k0_off11 (v1 : BitVec 32) : Fin 2 → Nat :=
  let c512_i32 : BitVec 32 := 512#32
  let v22 : BitVec 32 := Scalar.muli v1 c512_i32
  let v23 : BitVec 32 := v22
  let v109 : Index := Scalar.indexCast v23
  let c128_61 : Index := 128#32
  ![v109.toNat, 128]
def k0_off12 (v1 : BitVec 32) : Fin 2 → Nat :=
  let c512_i32 : BitVec 32 := 512#32
  let v22 : BitVec 32 := Scalar.muli v1 c512_i32
  let v23 : BitVec 32 := v22
  let v155 : Index := Scalar.indexCast v23
  let c256_90 : Index := 256#32
  ![v155.toNat, 256]
def k0_off13 (v1 : BitVec 32) : Fin 2 → Nat :=
  let c512_i32 : BitVec 32 := 512#32
  let v22 : BitVec 32 := Scalar.muli v1 c512_i32
  let v23 : BitVec 32 := v22
  let v201 : Index := Scalar.indexCast v23
  let c384_119 : Index := 384#32
  ![v201.toNat, 384]
def k0_off14 (v1 : BitVec 32) : Fin 2 → Nat :=
  let c512_i32 : BitVec 32 := 512#32
  let v22 : BitVec 32 := Scalar.muli v1 c512_i32
  let v23 : BitVec 32 := v22
  let v247 : Index := Scalar.indexCast v23
  let c512_148 : Index := 512#32
  ![v247.toNat, 512]
def k0_off15 (v1 : BitVec 32) : Fin 2 → Nat :=
  let c512_i32 : BitVec 32 := 512#32
  let v22 : BitVec 32 := Scalar.muli v1 c512_i32
  let v23 : BitVec 32 := v22
  let v293 : Index := Scalar.indexCast v23
  let c640_177 : Index := 640#32
  ![v293.toNat, 640]
def k0_off16 (v1 : BitVec 32) : Fin 2 → Nat :=
  let c512_i32 : BitVec 32 := 512#32
  let v22 : BitVec 32 := Scalar.muli v1 c512_i32
  let v23 : BitVec 32 := v22
  let v339 : Index := Scalar.indexCast v23
  let c768_206 : Index := 768#32
  ![v339.toNat, 768]
def k0_off17 (v1 : BitVec 32) : Fin 2 → Nat :=
  let c512_i32 : BitVec 32 := 512#32
  let v22 : BitVec 32 := Scalar.muli v1 c512_i32
  let v23 : BitVec 32 := v22
  let v385 : Index := Scalar.indexCast v23
  let c896_235 : Index := 896#32
  ![v385.toNat, 896]

def k0_chk1 (v1 : BitVec 32) (v3 : BitVec 32) : Prop :=
  (∀ (k0_h3 : k0_cond3 v1 v3 = 1#1), 512 ∣ (k0_mult1 v1).toNat) ∧
  (∀ (k0_h3 : k0_cond3 v1 v3 = 1#1), ∀ a, (k0_off2 v1) a + S512x128.size a ≤ S8192x1024.size a) ∧
  (∀ (k0_h3 : k0_cond3 v1 v3 = 1#1), ∀ a, (k0_off3 v1) a + S512x128.size a ≤ S8192x1024.size a) ∧
  (∀ (k0_h3 : k0_cond3 v1 v3 = 1#1), ∀ a, (k0_off4 v1) a + S512x128.size a ≤ S8192x1024.size a) ∧
  (∀ (k0_h3 : k0_cond3 v1 v3 = 1#1), ∀ a, (k0_off5 v1) a + S512x128.size a ≤ S8192x1024.size a) ∧
  (∀ (k0_h3 : k0_cond3 v1 v3 = 1#1), ∀ a, (k0_off6 v1) a + S512x128.size a ≤ S8192x1024.size a) ∧
  (∀ (k0_h3 : k0_cond3 v1 v3 = 1#1), ∀ a, (k0_off7 v1) a + S512x128.size a ≤ S8192x1024.size a) ∧
  (∀ (k0_h3 : k0_cond3 v1 v3 = 1#1), ∀ a, (k0_off8 v1) a + S512x128.size a ≤ S8192x1024.size a) ∧
  (∀ (k0_h3 : k0_cond3 v1 v3 = 1#1), ∀ a, (k0_off9 v1) a + S512x128.size a ≤ S8192x1024.size a) ∧
  (∀ (k0_h4 : k0_cond4 v1 v3 = 1#1), 512 ∣ (k0_mult2 v1).toNat) ∧
  (∀ (k0_h4 : k0_cond4 v1 v3 = 1#1), ∀ a, (k0_off10 v1) a + S512x128.size a ≤ S8192x1024.size a) ∧
  (∀ (k0_h4 : k0_cond4 v1 v3 = 1#1), ∀ a, (k0_off11 v1) a + S512x128.size a ≤ S8192x1024.size a) ∧
  (∀ (k0_h4 : k0_cond4 v1 v3 = 1#1), ∀ a, (k0_off12 v1) a + S512x128.size a ≤ S8192x1024.size a) ∧
  (∀ (k0_h4 : k0_cond4 v1 v3 = 1#1), ∀ a, (k0_off13 v1) a + S512x128.size a ≤ S8192x1024.size a) ∧
  (∀ (k0_h4 : k0_cond4 v1 v3 = 1#1), ∀ a, (k0_off14 v1) a + S512x128.size a ≤ S8192x1024.size a) ∧
  (∀ (k0_h4 : k0_cond4 v1 v3 = 1#1), ∀ a, (k0_off15 v1) a + S512x128.size a ≤ S8192x1024.size a) ∧
  (∀ (k0_h4 : k0_cond4 v1 v3 = 1#1), ∀ a, (k0_off16 v1) a + S512x128.size a ≤ S8192x1024.size a) ∧
  (∀ (k0_h4 : k0_cond4 v1 v3 = 1#1), ∀ a, (k0_off17 v1) a + S512x128.size a ≤ S8192x1024.size a)
theorem k0_mult1_dvd : ∀ (v1 : BitVec 32) (v3 : BitVec 32) (k0_hw1 : k0_chk1 v1 v3), ∀ (k0_h3 : k0_cond3 v1 v3 = 1#1), 512 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v1) a + S512x128.size a ≤ S8192x1024.size a := fun v1 v3 k0_hw1 k0_h3 => k0_hw1.2.1 k0_h3
theorem k0_off3_inb : ∀ (v1 : BitVec 32) (v3 : BitVec 32) (k0_hw1 : k0_chk1 v1 v3), ∀ (k0_h3 : k0_cond3 v1 v3 = 1#1), ∀ a, (k0_off3 v1) a + S512x128.size a ≤ S8192x1024.size a := fun v1 v3 k0_hw1 k0_h3 => k0_hw1.2.2.1 k0_h3
theorem k0_off4_inb : ∀ (v1 : BitVec 32) (v3 : BitVec 32) (k0_hw1 : k0_chk1 v1 v3), ∀ (k0_h3 : k0_cond3 v1 v3 = 1#1), ∀ a, (k0_off4 v1) a + S512x128.size a ≤ S8192x1024.size a := fun v1 v3 k0_hw1 k0_h3 => k0_hw1.2.2.2.1 k0_h3
theorem k0_off5_inb : ∀ (v1 : BitVec 32) (v3 : BitVec 32) (k0_hw1 : k0_chk1 v1 v3), ∀ (k0_h3 : k0_cond3 v1 v3 = 1#1), ∀ a, (k0_off5 v1) a + S512x128.size a ≤ S8192x1024.size a := fun v1 v3 k0_hw1 k0_h3 => k0_hw1.2.2.2.2.1 k0_h3
theorem k0_off6_inb : ∀ (v1 : BitVec 32) (v3 : BitVec 32) (k0_hw1 : k0_chk1 v1 v3), ∀ (k0_h3 : k0_cond3 v1 v3 = 1#1), ∀ a, (k0_off6 v1) a + S512x128.size a ≤ S8192x1024.size a := fun v1 v3 k0_hw1 k0_h3 => k0_hw1.2.2.2.2.2.1 k0_h3
theorem k0_off7_inb : ∀ (v1 : BitVec 32) (v3 : BitVec 32) (k0_hw1 : k0_chk1 v1 v3), ∀ (k0_h3 : k0_cond3 v1 v3 = 1#1), ∀ a, (k0_off7 v1) a + S512x128.size a ≤ S8192x1024.size a := fun v1 v3 k0_hw1 k0_h3 => k0_hw1.2.2.2.2.2.2.1 k0_h3
theorem k0_off8_inb : ∀ (v1 : BitVec 32) (v3 : BitVec 32) (k0_hw1 : k0_chk1 v1 v3), ∀ (k0_h3 : k0_cond3 v1 v3 = 1#1), ∀ a, (k0_off8 v1) a + S512x128.size a ≤ S8192x1024.size a := fun v1 v3 k0_hw1 k0_h3 => k0_hw1.2.2.2.2.2.2.2.1 k0_h3
theorem k0_off9_inb : ∀ (v1 : BitVec 32) (v3 : BitVec 32) (k0_hw1 : k0_chk1 v1 v3), ∀ (k0_h3 : k0_cond3 v1 v3 = 1#1), ∀ a, (k0_off9 v1) a + S512x128.size a ≤ S8192x1024.size a := fun v1 v3 k0_hw1 k0_h3 => k0_hw1.2.2.2.2.2.2.2.2.1 k0_h3
theorem k0_mult2_dvd : ∀ (v1 : BitVec 32) (v3 : BitVec 32) (k0_hw1 : k0_chk1 v1 v3), ∀ (k0_h4 : k0_cond4 v1 v3 = 1#1), 512 ∣ (k0_mult2 v1).toNat := fun v1 v3 k0_hw1 k0_h4 => k0_hw1.2.2.2.2.2.2.2.2.2.1 k0_h4
theorem k0_off10_inb : ∀ (v1 : BitVec 32) (v3 : BitVec 32) (k0_hw1 : k0_chk1 v1 v3), ∀ (k0_h4 : k0_cond4 v1 v3 = 1#1), ∀ a, (k0_off10 v1) a + S512x128.size a ≤ S8192x1024.size a := fun v1 v3 k0_hw1 k0_h4 => k0_hw1.2.2.2.2.2.2.2.2.2.2.1 k0_h4
theorem k0_off11_inb : ∀ (v1 : BitVec 32) (v3 : BitVec 32) (k0_hw1 : k0_chk1 v1 v3), ∀ (k0_h4 : k0_cond4 v1 v3 = 1#1), ∀ a, (k0_off11 v1) a + S512x128.size a ≤ S8192x1024.size a := fun v1 v3 k0_hw1 k0_h4 => k0_hw1.2.2.2.2.2.2.2.2.2.2.2.1 k0_h4
theorem k0_off12_inb : ∀ (v1 : BitVec 32) (v3 : BitVec 32) (k0_hw1 : k0_chk1 v1 v3), ∀ (k0_h4 : k0_cond4 v1 v3 = 1#1), ∀ a, (k0_off12 v1) a + S512x128.size a ≤ S8192x1024.size a := fun v1 v3 k0_hw1 k0_h4 => k0_hw1.2.2.2.2.2.2.2.2.2.2.2.2.1 k0_h4
theorem k0_off13_inb : ∀ (v1 : BitVec 32) (v3 : BitVec 32) (k0_hw1 : k0_chk1 v1 v3), ∀ (k0_h4 : k0_cond4 v1 v3 = 1#1), ∀ a, (k0_off13 v1) a + S512x128.size a ≤ S8192x1024.size a := fun v1 v3 k0_hw1 k0_h4 => k0_hw1.2.2.2.2.2.2.2.2.2.2.2.2.2.1 k0_h4
theorem k0_off14_inb : ∀ (v1 : BitVec 32) (v3 : BitVec 32) (k0_hw1 : k0_chk1 v1 v3), ∀ (k0_h4 : k0_cond4 v1 v3 = 1#1), ∀ a, (k0_off14 v1) a + S512x128.size a ≤ S8192x1024.size a := fun v1 v3 k0_hw1 k0_h4 => k0_hw1.2.2.2.2.2.2.2.2.2.2.2.2.2.2.1 k0_h4
theorem k0_off15_inb : ∀ (v1 : BitVec 32) (v3 : BitVec 32) (k0_hw1 : k0_chk1 v1 v3), ∀ (k0_h4 : k0_cond4 v1 v3 = 1#1), ∀ a, (k0_off15 v1) a + S512x128.size a ≤ S8192x1024.size a := fun v1 v3 k0_hw1 k0_h4 => k0_hw1.2.2.2.2.2.2.2.2.2.2.2.2.2.2.2.1 k0_h4
theorem k0_off16_inb : ∀ (v1 : BitVec 32) (v3 : BitVec 32) (k0_hw1 : k0_chk1 v1 v3), ∀ (k0_h4 : k0_cond4 v1 v3 = 1#1), ∀ a, (k0_off16 v1) a + S512x128.size a ≤ S8192x1024.size a := fun v1 v3 k0_hw1 k0_h4 => k0_hw1.2.2.2.2.2.2.2.2.2.2.2.2.2.2.2.2.1 k0_h4
theorem k0_off17_inb : ∀ (v1 : BitVec 32) (v3 : BitVec 32) (k0_hw1 : k0_chk1 v1 v3), ∀ (k0_h4 : k0_cond4 v1 v3 = 1#1), ∀ a, (k0_off17 v1) a + S512x128.size a ≤ S8192x1024.size a := fun v1 v3 k0_hw1 k0_h4 => k0_hw1.2.2.2.2.2.2.2.2.2.2.2.2.2.2.2.2.2 k0_h4

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond6 (i : grid0.Coords) : BitVec 1 :=
  let arg1 : BitVec 32 := BitVec.ofNat 32 (i 1).val
  let c135_i32 : BitVec 32 := 135#32
  let v19 : BitVec 1 := Scalar.cmpi .eq arg1 c135_i32
  let v20 : BitVec 32 := Scalar.extui v19
  let c0_i32_5 : BitVec 32 := 0#32
  let v21 : BitVec 1 := Scalar.cmpi .ne v20 c0_i32_5
  v21

def k0_cond2 (v1 : BitVec 32) (v3 : BitVec 32) : BitVec 1 :=
  let v7 : BitVec 1 := Scalar.cmpi .eq v1 v3
  let v8 : BitVec 32 := Scalar.extui v7
  let c0_i32_1 : BitVec 32 := 0#32
  let v9 : BitVec 1 := Scalar.cmpi .ne v8 c0_i32_1
  v9

def k0_cond5 (v1 : BitVec 32) : BitVec 1 :=
  let c15_i32 : BitVec 32 := 15#32
  let v16 : BitVec 1 := Scalar.cmpi .eq v1 c15_i32
  let v17 : BitVec 32 := Scalar.extui v16
  let c0_i32_4 : BitVec 32 := 0#32
  let v18 : BitVec 1 := Scalar.cmpi .ne v17 c0_i32_4
  v18

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, c0_i32.toNat, v1.toNat]

def cc0_transform_5 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, c0_i32.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

def cc0_transform_8 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8192x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel2Ideal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== Reference2Ideal.lean ====
abbrev S8192x8x96 : Shape := ⟨3, ![8192, 8, 96]⟩
abbrev S8192x8x64 : Shape := ⟨3, ![8192, 8, 64]⟩
abbrev S8192x512 : Shape := ⟨2, ![8192, 512]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8x8192x96 : Shape := ⟨3, ![8, 8192, 96]⟩
abbrev S8192x8x128 : Shape := ⟨3, ![8192, 8, 128]⟩
abbrev S8192x1024 : Shape := ⟨2, ![8192, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x512, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S8x8192x8192, .i1⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .i1⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S_, .f32⟩
  | .hbm, ⟨30, _⟩ => ⟨S8x8192, .f32⟩
  | .hbm, ⟨31, _⟩ => ⟨S8x8192, .f32⟩
  | .hbm, ⟨32, _⟩ => ⟨S_, .f32⟩
  | .hbm, ⟨33, _⟩ => ⟨S8x8192, .f32⟩
  | .hbm, ⟨34, _⟩ => ⟨S8x8192, .i1⟩
  | .hbm, ⟨35, _⟩ => ⟨S_, .f32⟩
  | .hbm, ⟨36, _⟩ => ⟨S8x8192, .f32⟩
  | .hbm, ⟨37, _⟩ => ⟨S8x8192, .i1⟩
  | .hbm, ⟨38, _⟩ => ⟨S_, .f32⟩
  | .hbm, ⟨39, _⟩ => ⟨S8x8192, .f32⟩
  | .hbm, ⟨40, _⟩ => ⟨S_, .f32⟩
  | .hbm, ⟨41, _⟩ => ⟨S8x8192, .f32⟩
  | .hbm, ⟨42, _⟩ => ⟨S_, .f32⟩
  | .hbm, ⟨43, _⟩ => ⟨S8x8192, .f32⟩
  | .hbm, ⟨44, _⟩ => ⟨S8x8192, .f32⟩
  | .hbm, ⟨45, _⟩ => ⟨S8x8192, .f32⟩
  | .hbm, ⟨46, _⟩ => ⟨S8x8192x1, .f32⟩
  | .hbm, ⟨47, _⟩ => ⟨S8x8192x8192, .f32⟩
  | .hbm, ⟨48, _⟩ => ⟨S8x8192x8192, .f32⟩
  | .hbm, ⟨49, _⟩ => ⟨S8x8192x8192, .f32⟩
  | .hbm, ⟨50, _⟩ => ⟨S_, .f32⟩
  | .hbm, ⟨51, _⟩ => ⟨S8x8192, .f32⟩
  | .hbm, ⟨52, _⟩ => ⟨S8x8192x1, .f32⟩
  | .hbm, ⟨53, _⟩ => ⟨S8x8192x8192, .f32⟩
  | .hbm, ⟨54, _⟩ => ⟨S8x8192x8192, .f32⟩
  | .hbm, ⟨55, _⟩ => ⟨S8x8192x1, .f32⟩
  | .hbm, ⟨56, _⟩ => ⟨S_, .f32⟩
  | .hbm, ⟨57, _⟩ => ⟨S8x8192x1, .f32⟩
  | .hbm, ⟨58, _⟩ => ⟨S8x8192x1, .f32⟩
  | .hbm, ⟨59, _⟩ => ⟨S8x64x8192, .f32⟩
  | .hbm, ⟨60, _⟩ => ⟨S8192x8x64, .f32⟩
  | .hbm, ⟨61, _⟩ => ⟨S8192x512, .f32⟩
  | .hbm, ⟨62, _⟩ => ⟨S8192x8x64, .f32⟩
  | .hbm, ⟨63, _⟩ => ⟨S8x64x8192, .f32⟩
  | .hbm, ⟨64, _⟩ => ⟨S8x8192x8192, .f32⟩
  | .hbm, ⟨65, _⟩ => ⟨S8x64x8192, .f32⟩
  | .hbm, ⟨66, _⟩ => ⟨S8192x8x64, .f32⟩
  | .hbm, ⟨67, _⟩ => ⟨S8x8192x8192, .f32⟩
  | .hbm, ⟨68, _⟩ => ⟨S8x8192x8192, .f32⟩
  | .hbm, ⟨69, _⟩ => ⟨S8x8192x8192, .f32⟩
  | .hbm, ⟨70, _⟩ => ⟨S_, .f32⟩
  | .hbm, ⟨71, _⟩ => ⟨S8x8192, .f32⟩
  | .hbm, ⟨72, _⟩ => ⟨S8x8192x1, .f32⟩
  | .hbm, ⟨73, _⟩ => ⟨S8x8192x1, .f32⟩
  | .hbm, ⟨74, _⟩ => ⟨S8x8192x8192, .f32⟩
  | .hbm, ⟨75, _⟩ => ⟨S8x8192x8192, .f32⟩
  | .hbm, ⟨76, _⟩ => ⟨S_, .f32⟩
  | .hbm, ⟨77, _⟩ => ⟨S8x8192, .f32⟩
  | .hbm, ⟨78, _⟩ => ⟨S8x8192x8192, .f32⟩
  | .hbm, ⟨79, _⟩ => ⟨S8x8192x8192, .f32⟩
  | .hbm, ⟨80, _⟩ => ⟨S8x8192x8192, .f32⟩
  | .hbm, ⟨81, _⟩ => ⟨S_, .f32⟩
  | .hbm, ⟨82, _⟩ => ⟨S8x8192x8192, .f32⟩
  | .hbm, ⟨83, _⟩ => ⟨S8x8192x8192, .f32⟩
  | .hbm, ⟨84, _⟩ => ⟨S_, .f32⟩
  | .hbm, ⟨85, _⟩ => ⟨S8x8192x8192, .f32⟩
  | .hbm, ⟨86, _⟩ => ⟨S8x8192x8192, .f32⟩
  | .hbm, ⟨87, _⟩ => ⟨S8x8192x96, .f32⟩
  | .hbm, ⟨88, _⟩ => ⟨S8192x8x96, .f32⟩
  | .hbm, ⟨89, _⟩ => ⟨S8x8192x96, .f32⟩
  | .hbm, ⟨90, _⟩ => ⟨S8192x8x96, .f32⟩
  | .hbm, ⟨91, _⟩ => ⟨S_, .f32⟩
  | .hbm, ⟨92, _⟩ => ⟨S8192x8x128, .f32⟩
  | .hbm, ⟨93, _⟩ => ⟨S8192x1024, .f32⟩
  | .hbm, ⟨94, _⟩ => ⟨S_, .f32⟩
  | .hbm, ⟨95, _⟩ => ⟨S8192x8x128, .f32⟩
  | .hbm, ⟨96, _⟩ => ⟨S8192x1024, .f32⟩
  | .hbm, ⟨97, _⟩ => ⟨S_, .f32⟩
  | .hbm, ⟨98, _⟩ => ⟨S8192x8x128, .f32⟩
  | .hbm, ⟨99, _⟩ => ⟨S8192x1024, .f32⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_14 : Ref sig .tc := ⟨.hbm, 91, rfl⟩
abbrev main_v65 : Ref sig .tc := ⟨.hbm, 92, rfl⟩
abbrev main_v66 : Ref sig .tc := ⟨.hbm, 93, rfl⟩
abbrev main_cst_15 : Ref sig .tc := ⟨.hbm, 94, rfl⟩
abbrev main_v67 : Ref sig .tc := ⟨.hbm, 95, rfl⟩
abbrev main_v68 : Ref sig .tc := ⟨.hbm, 96, rfl⟩
abbrev main_cst_16 : Ref sig .tc := ⟨.hbm, 97, rfl⟩
abbrev main_v69 : Ref sig .tc := ⟨.hbm, 98, rfl⟩
abbrev main_v70 : Ref sig .tc := ⟨.hbm, 99, rfl⟩

abbrev nD : Nat := 1
abbrev τ : Topo := Topo.v7x

variable {F : FTy → Type} [FloatOps F]
-- ==== Kernel3.lean ====
abbrev S8192x1024 : Shape := ⟨2, ![8192, 1024]⟩
abbrev S256x1024 : Shape := ⟨2, ![256, 1024]⟩
abbrev S2048x1024 : Shape := ⟨2, ![2048, 1024]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 11
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S256x1024, .f32⟩
  | .hbm, ⟨3, _⟩ => ⟨S8192x1024, .f32⟩
  | .hbm, ⟨4, _⟩ => ⟨S8192x1024, .bf16⟩
  | .hbm, ⟨5, _⟩ => ⟨S8192x1024, .bf16⟩
  | .hbm, ⟨6, _⟩ => ⟨S256x1024, .bf16⟩
  | .hbm, ⟨7, _⟩ => ⟨S256x1024, .bf16⟩
  | .hbm, ⟨8, _⟩ => ⟨S8192x1024, .bf16⟩
  | .hbm, ⟨9, _⟩ => ⟨S256x1024, .f32⟩
  | .hbm, ⟨10, _⟩ => ⟨S256x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S2048x1024, .bf16⟩
  | .local _ .vmem, ⟨7, _⟩ => ⟨S2048x1024, .bf16⟩
  | .local _ .vmem, ⟨8, _⟩ => ⟨S256x1024, .f32⟩
  | .local _ .vmem, ⟨9, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S8192x1024 : Shape := ⟨2, ![8192, 1024]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 82
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S256x1024, .f32⟩
  | .hbm, ⟨3, _⟩ => ⟨S8192x1024, .f32⟩
  | .hbm, ⟨4, _⟩ => ⟨S8192x4x256, .f32⟩
  | .hbm, ⟨5, _⟩ => ⟨S256x4x256, .f32⟩
  | .hbm, ⟨6, _⟩ => ⟨S256x4x256, .f32⟩
  | .hbm, ⟨7, _⟩ => ⟨S4x8192x256, .f32⟩
  | .hbm, ⟨8, _⟩ => ⟨S_, .f32⟩
  | .hbm, ⟨9, _⟩ => ⟨S4x8192x256, .f32⟩
  | .hbm, ⟨10, _⟩ => ⟨S4x8192x256, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S4x8192x256, .f32⟩
  | .hbm, ⟨15, _⟩ => ⟨S4x8192x256, .i1⟩
  | .hbm, ⟨16, _⟩ => ⟨S4x8192x256, .f32⟩
  | .hbm, ⟨17, _⟩ => ⟨S_, .f32⟩
  | .hbm, ⟨18, _⟩ => ⟨S4x8192, .f32⟩
  | .hbm, ⟨19, _⟩ => ⟨S_, .f32⟩
  | .hbm, ⟨20, _⟩ => ⟨S4x8192, .f32⟩
  | .hbm, ⟨21, _⟩ => ⟨S4x8192, .f32⟩
  | .hbm, ⟨22, _⟩ => ⟨S_, .f32⟩
  | .hbm, ⟨23, _⟩ => ⟨S4x8192, .f32⟩
  | .hbm, ⟨24, _⟩ => ⟨S4x8192, .i1⟩
  | .hbm, ⟨25, _⟩ => ⟨S_, .f32⟩
  | .hbm, ⟨26, _⟩ => ⟨S4x8192, .f32⟩
  | .hbm, ⟨27, _⟩ => ⟨S4x8192, .i1⟩
  | .hbm, ⟨28, _⟩ => ⟨S_, .f32⟩
  | .hbm, ⟨29, _⟩ => ⟨S4x8192, .f32⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S4x8192, .f32⟩
  | .hbm, ⟨35, _⟩ => ⟨S4x8192, .f32⟩
  | .hbm, ⟨36, _⟩ => ⟨S4x8192x1, .f32⟩
  | .hbm, ⟨37, _⟩ => ⟨S4x8192x256, .f32⟩
  | .hbm, ⟨38, _⟩ => ⟨S4x8192x256, .f32⟩
  | .hbm, ⟨39, _⟩ => ⟨S4x8192x256, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S4x8192x256, .f32⟩
  | .hbm, ⟨44, _⟩ => ⟨S4x8192x256, .f32⟩
  | .hbm, ⟨45, _⟩ => ⟨S4x8192x1, .f32⟩
  | .hbm, ⟨46, _⟩ => ⟨S_, .f32⟩
  | .hbm, ⟨47, _⟩ => ⟨S4x8192x1, .f32⟩
  | .hbm, ⟨48, _⟩ => ⟨S4x8192x1, .f32⟩
  | .hbm, ⟨49, _⟩ => ⟨S4x256x8192, .f32⟩
  | .hbm, ⟨50, _⟩ => ⟨S8192x4x256, .f32⟩
  | .hbm, ⟨51, _⟩ => ⟨S8192x1024, .f32⟩
  | .hbm, ⟨52, _⟩ => ⟨S8192x4x256, .f32⟩
  | .hbm, ⟨53, _⟩ => ⟨S4x256x8192, .f32⟩
  | .hbm, ⟨54, _⟩ => ⟨S4x8192x256, .f32⟩
  | .hbm, ⟨55, _⟩ => ⟨S4x256x256, .f32⟩
  | .hbm, ⟨56, _⟩ => ⟨S256x4x256, .f32⟩
  | .hbm, ⟨57, _⟩ => ⟨S4x8192x256, .f32⟩
  | .hbm, ⟨58, _⟩ => ⟨S4x8192x256, .f32⟩
  | .hbm, ⟨59, _⟩ => ⟨S4x8192x256, .f32⟩
  | .hbm, ⟨60, _⟩ => ⟨S_, .f32⟩
  | .hbm, ⟨61, _⟩ => ⟨S4x8192, .f32⟩
  | .hbm, ⟨62, _⟩ => ⟨S4x8192x1, .f32⟩
  | .hbm, ⟨63, _⟩ => ⟨S4x8192x1, .f32⟩
  | .hbm, ⟨64, _⟩ => ⟨S4x8192x256, .f32⟩
  | .hbm, ⟨65, _⟩ => ⟨S4x8192x256, .f32⟩
  | .hbm, ⟨66, _⟩ => ⟨S_, .f32⟩
  | .hbm, ⟨67, _⟩ => ⟨S4x8192, .f32⟩
  | .hbm, ⟨68, _⟩ => ⟨S4x8192x256, .f32⟩
  | .hbm, ⟨69, _⟩ => ⟨S4x8192x256, .f32⟩
  | .hbm, ⟨70, _⟩ => ⟨S4x8192x256, .f32⟩
  | .hbm, ⟨71, _⟩ => ⟨S_, .f32⟩
  | .hbm, ⟨72, _⟩ => ⟨S4x8192x256, .f32⟩
  | .hbm, ⟨73, _⟩ => ⟨S4x8192x256, .f32⟩
  | .hbm, ⟨74, _⟩ => ⟨S4x256x256, .f32⟩
  | .hbm, ⟨75, _⟩ => ⟨S256x4x256, .f32⟩
  | .hbm, ⟨76, _⟩ => ⟨S4x8192x256, .f32⟩
  | .hbm, ⟨77, _⟩ => ⟨S8192x4x256, .f32⟩
  | .hbm, ⟨78, _⟩ => ⟨S256x1024, .f32⟩
  | .hbm, ⟨79, _⟩ => ⟨S256x1024, .f32⟩
  | .hbm, ⟨80, _⟩ => ⟨S8192x1024, .f32⟩
  | .hbm, ⟨81, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== Kernel4.lean ====
abbrev S8192x8x96 : Shape := ⟨3, ![8192, 8, 96]⟩
abbrev S8192x32 : Shape := ⟨2, ![8192, 32]⟩
abbrev S8192 : Shape := ⟨1, ![8192]⟩
abbrev S16 : Shape := ⟨1, ![16]⟩
abbrev S_ : Shape := ⟨0, ![]⟩
abbrev S128 : Shape := ⟨1, ![128]⟩
abbrev S8192x1 : Shape := ⟨2, ![8192, 1]⟩
abbrev S128x1 : Shape := ⟨2, ![128, 1]⟩
abbrev S1x128 : Shape := ⟨2, ![1, 128]⟩
abbrev S8192x128 : Shape := ⟨2, ![8192, 128]⟩
abbrev S8192x8x128 : Shape := ⟨3, ![8192, 8, 128]⟩
abbrev S8192x1024 : Shape := ⟨2, ![8192, 1024]⟩
abbrev S512x1024 : Shape := ⟨2, ![512, 1024]⟩
abbrev S512x128 : Shape := ⟨2, ![512, 128]⟩

abbrev nBuf : Space → Nat
  | .hbm => 100
  | .vmem => 14
  | .smem => 0
  | _ => 0

abbrev bufTy : (tb : Table) → Fin (tcTables nBuf tb) → BufTy
  | .hbm, ⟨0, _⟩ => ⟨S8192x8x96, .f32⟩
  | .hbm, ⟨1, _⟩ => ⟨S8192x32, .f32⟩
  | .hbm, ⟨2, _⟩ => ⟨S8192, .i32⟩
  | .hbm, ⟨3, _⟩ => ⟨S8192x8x96, .f32⟩
  | .hbm, ⟨4, _⟩ => ⟨S8192x8x96, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S128, .i32⟩
  | .hbm, ⟨20, _⟩ => ⟨S_, .i32⟩
  | .hbm, ⟨21, _⟩ => ⟨S128, .i32⟩
  | .hbm, ⟨22, _⟩ => ⟨S128, .i1⟩
  | .hbm, ⟨23, _⟩ => ⟨S_, .i32⟩
  | .hbm, ⟨24, _⟩ => ⟨S128, .i32⟩
  | .hbm, ⟨25, _⟩ => ⟨S128, .i1⟩
  | .hbm, ⟨26, _⟩ => ⟨S128, .i1⟩
  | .hbm, ⟨27, _⟩ => ⟨S_, .i32⟩
  | .hbm, ⟨28, _⟩ => ⟨S128, .i32⟩
  | .hbm, ⟨29, _⟩ => ⟨S128, .i1⟩
  | .hbm, ⟨30, _⟩ => ⟨S_, .i32⟩
  | .hbm, ⟨31, _⟩ => ⟨S128, .i32⟩
  | .hbm, ⟨32, _⟩ => ⟨S128, .i1⟩
  | .hbm, ⟨33, _⟩ => ⟨S128, .i1⟩
  | .hbm, ⟨34, _⟩ => ⟨S8192, .f32⟩
  | .hbm, ⟨35, _⟩ => ⟨S8192x1, .f32⟩
  | .hbm, ⟨36, _⟩ => ⟨S128, .i1⟩
  | .hbm, ⟨37, _⟩ => ⟨S_, .i32⟩
  | .hbm, ⟨38, _⟩ => ⟨S128, .i32⟩
  | .hbm, ⟨39, _⟩ => ⟨S128, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S128, .i32⟩
  | .hbm, ⟨47, _⟩ => ⟨S128, .i32⟩
  | .hbm, ⟨48, _⟩ => ⟨S_, .i32⟩
  | .hbm, ⟨49, _⟩ => ⟨S128, .i32⟩
  | .hbm, ⟨50, _⟩ => ⟨S128, .i1⟩
  | .hbm, ⟨51, _⟩ => ⟨S_, .i32⟩
  | .hbm, ⟨52, _⟩ => ⟨S128, .i32⟩
  | .hbm, ⟨53, _⟩ => ⟨S128, .i1⟩
  | .hbm, ⟨54, _⟩ => ⟨S_, .i32⟩
  | .hbm, ⟨55, _⟩ => ⟨S_, .i1⟩
  | .hbm, ⟨56, _⟩ => ⟨S128, .i1⟩
  | .hbm, ⟨57, _⟩ => ⟨S128, .i1⟩
  | .hbm, ⟨58, _⟩ => ⟨S128, .i1⟩
  | .hbm, ⟨59, _⟩ => ⟨S128, .i32⟩
  | .hbm, ⟨60, _⟩ => ⟨S128, .i32⟩
  | .hbm, ⟨61, _⟩ => ⟨S128, .i32⟩
  | .hbm, ⟨62, _⟩ => ⟨S_, .i32⟩
  | .hbm, ⟨63, _⟩ => ⟨S128, .i32⟩
  | .hbm, ⟨64, _⟩ => ⟨S128, .i1⟩
  | .hbm, ⟨65, _⟩ => ⟨S_, .i32⟩
  | .hbm, ⟨66, _⟩ => ⟨S128, .i32⟩
  | .hbm, ⟨67, _⟩ => ⟨S128, .i32⟩
  | .hbm, ⟨68, _⟩ => ⟨S128, .i32⟩
  | .hbm, ⟨69, _⟩ => ⟨S128x1, .i32⟩
  | .hbm, ⟨70, _⟩ => ⟨S128, .f32⟩
  | .hbm, ⟨71, _⟩ => ⟨S_, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S1x128, .f32⟩
  | .hbm, ⟨76, _⟩ => ⟨S8192x128, .f32⟩
  | .hbm, ⟨77, _⟩ => ⟨S8192x128, .f32⟩
  | .hbm, ⟨78, _⟩ => ⟨S8192x128, .f32⟩
  | .hbm, ⟨79, _⟩ => ⟨S8192x128, .f32⟩
  | .hbm, ⟨80, _⟩ => ⟨S8192x128, .f32⟩
  | .hbm, ⟨81, _⟩ => ⟨S_, .f32⟩
  | .hbm, ⟨82, _⟩ => ⟨S_, .f32⟩
  | .hbm, ⟨83, _⟩ => ⟨S8192x128, .i1⟩
  | .hbm, ⟨84, _⟩ => ⟨S8192x128, .f32⟩
  | .hbm, ⟨85, _⟩ => ⟨S8192x128, .f32⟩
  | .hbm, ⟨86, _⟩ => ⟨S8192x128, .f32⟩
  | .hbm, ⟨87, _⟩ => ⟨S_, .f32⟩
  | .hbm, ⟨88, _⟩ => ⟨S_, .f32⟩
  | .hbm, ⟨89, _⟩ => ⟨S8192x128, .i1⟩
  | .hbm, ⟨90, _⟩ => ⟨S8192x128, .f32⟩
  | .hbm, ⟨91, _⟩ => ⟨S8192x128, .f32⟩
  | .hbm, ⟨92, _⟩ => ⟨S_, .f32⟩
  | .hbm, ⟨93, _⟩ => ⟨S8192x8x128, .f32⟩
  | .hbm, ⟨94, _⟩ => ⟨S8192x1024, .f32⟩
  | .hbm, ⟨95, _⟩ => ⟨S_, .f32⟩
  | .hbm, ⟨96, _⟩ => ⟨S8192x8x128, .f32⟩
  | .hbm, ⟨97, _⟩ => ⟨S8192x1024, .f32⟩
  | .hbm, ⟨98, _⟩ => ⟨S8192x1024, .bf16⟩
  | .hbm, ⟨99, _⟩ => ⟨S8192x128, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x128, .bf16⟩
  | .local _ .vmem, ⟨13, _⟩ => ⟨S512x128, .bf16⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_c_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_c_7 : Ref sig .tc := ⟨.hbm, 40, rfl⟩
abbrev main_call0_v0 : Ref sig .tc := ⟨.hbm, 41, rfl⟩
abbrev main_call0_c : Ref sig .tc := ⟨.hbm, 42, rfl⟩
abbrev main_call0_v1 : Ref sig .tc := ⟨.hbm, 43, rfl⟩
abbrev main_call0_c_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_c_1 : Ref sig .tc := ⟨.hbm, 48, rfl⟩
abbrev main_call0_v5 : Ref sig .tc := ⟨.hbm, 49, rfl⟩
abbrev main_call0_v6 : Ref sig .tc := ⟨.hbm, 50, rfl⟩
abbrev main_call0_c_2 : Ref sig .tc := ⟨.hbm, 51, rfl⟩
abbrev main_call0_v7 : Ref sig .tc := ⟨.hbm, 52, rfl⟩
abbrev main_call0_v8 : Ref sig .tc := ⟨.hbm, 53, rfl⟩
abbrev main_call0_c_3 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_v12 : Ref sig .tc := ⟨.hbm, 58, rfl⟩
abbrev main_call0_v13 : Ref sig .tc := ⟨.hbm, 59, rfl⟩
abbrev main_call0_v14 : Ref sig .tc := ⟨.hbm, 60, rfl⟩
abbrev main_v26 : Ref sig .tc := ⟨.hbm, 61, rfl⟩
abbrev main_c_8 : Ref sig .tc := ⟨.hbm, 62, rfl⟩
abbrev main_v27 : Ref sig .tc := ⟨.hbm, 63, rfl⟩
abbrev main_v28 : Ref sig .tc := ⟨.hbm, 64, rfl⟩
abbrev main_c_9 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_10 : Ref sig .tc := ⟨.hbm, 71, rfl⟩
abbrev main_call1_v0 : Ref sig .tc := ⟨.hbm, 72, rfl⟩
abbrev main_call1_v1 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_cst_11 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v41 : Ref sig .tc := ⟨.hbm, 85, rfl⟩
abbrev main_v42 : Ref sig .tc := ⟨.hbm, 86, rfl⟩
abbrev main_cst_12 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v43 : Ref sig .tc := ⟨.hbm, 91, rfl⟩
abbrev main_cst_13 : Ref sig .tc := ⟨.hbm, 92, rfl⟩
abbrev main_v44 : Ref sig .tc := ⟨.hbm, 93, rfl⟩
abbrev main_v45 : Ref sig .tc := ⟨.hbm, 94, rfl⟩
abbrev main_cst_14 : Ref sig .tc := ⟨.hbm, 95, rfl⟩
abbrev main_v46 : Ref sig .tc := ⟨.hbm, 96, rfl⟩
abbrev main_v47 : Ref sig .tc := ⟨.hbm, 97, rfl⟩
abbrev main_v48_0 : Ref sig .tc := ⟨.hbm, 98, rfl⟩
abbrev main_v48_1 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8192x8x96 : Shape := ⟨3, ![8192, 8, 96]⟩
abbrev S8192x32 : Shape := ⟨2, ![8192, 32]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S8192x8x64 : Shape := ⟨3, ![8192, 8, 64]⟩
abbrev S8192x8x32 : Shape := ⟨3, ![8192, 8, 32]⟩
abbrev S8192x8x16 : Shape := ⟨3, ![8192, 8, 16]⟩
abbrev S8192x1x32 : Shape := ⟨3, ![8192, 1, 32]⟩
abbrev S8192x8x128 : Shape := ⟨3, ![8192, 8, 128]⟩
abbrev S8192x1024 : Shape := ⟨2, ![8192, 1024]⟩
abbrev S8192x128 : Shape := ⟨2, ![8192, 128]⟩

abbrev nBuf : Space → Nat
  | .hbm => 101
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x32, .f32⟩
  | .hbm, ⟨2, _⟩ => ⟨S8192, .i32⟩
  | .hbm, ⟨3, _⟩ => ⟨S8192x8x96, .f32⟩
  | .hbm, ⟨4, _⟩ => ⟨S8192x8x96, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S8192, .f32⟩
  | .hbm, ⟨20, _⟩ => ⟨S8192x1, .f32⟩
  | .hbm, ⟨21, _⟩ => ⟨S1x16, .f32⟩
  | .hbm, ⟨22, _⟩ => ⟨S8192x16, .f32⟩
  | .hbm, ⟨23, _⟩ => ⟨S8192x16, .f32⟩
  | .hbm, ⟨24, _⟩ => ⟨S8192x16, .f32⟩
  | .hbm, ⟨25, _⟩ => ⟨S8192x16, .f32⟩
  | .hbm, ⟨26, _⟩ => ⟨S8192x1x16, .f32⟩
  | .hbm, ⟨27, _⟩ => ⟨S8192x16, .f32⟩
  | .hbm, ⟨28, _⟩ => ⟨S8192x1x16, .f32⟩
  | .hbm, ⟨29, _⟩ => ⟨S8192x8x64, .f32⟩
  | .hbm, ⟨30, _⟩ => ⟨S8192x8x32, .f32⟩
  | .hbm, ⟨31, _⟩ => ⟨S8192x8x16, .f32⟩
  | .hbm, ⟨32, _⟩ => ⟨S8192x8x16, .f32⟩
  | .hbm, ⟨33, _⟩ => ⟨S8192x8x16, .f32⟩
  | .hbm, ⟨34, _⟩ => ⟨S8192x8x16, .f32⟩
  | .hbm, ⟨35, _⟩ => ⟨S8192x8x16, .f32⟩
  | .hbm, ⟨36, _⟩ => ⟨S8192x8x16, .f32⟩
  | .hbm, ⟨37, _⟩ => ⟨S8192x8x16, .f32⟩
  | .hbm, ⟨38, _⟩ => ⟨S8192x8x16, .f32⟩
  | .hbm, ⟨39, _⟩ => ⟨S8192x8x16, .f32⟩
  | .hbm, ⟨40, _⟩ => ⟨S8192x8x16, .f32⟩
  | .hbm, ⟨41, _⟩ => ⟨S8192x8x16, .f32⟩
  | .hbm, ⟨42, _⟩ => ⟨S8192x8x16, .f32⟩
  | .hbm, ⟨43, _⟩ => ⟨S8192x8x32, .f32⟩
  | .hbm, ⟨44, _⟩ => ⟨S8192x8x96, .f32⟩
  | .hbm, ⟨45, _⟩ => ⟨S8192x1x32, .f32⟩
  | .hbm, ⟨46, _⟩ => ⟨S8192x1x16, .f32⟩
  | .hbm, ⟨47, _⟩ => ⟨S8192x1x16, .f32⟩
  | .hbm, ⟨48, _⟩ => ⟨S8192x1x16, .f32⟩
  | .hbm, ⟨49, _⟩ => ⟨S8192x1x16, .f32⟩
  | .hbm, ⟨50, _⟩ => ⟨S8192x1x16, .f32⟩
  | .hbm, ⟨51, _⟩ => ⟨S8192x1x16, .f32⟩
  | .hbm, ⟨52, _⟩ => ⟨S8192x1x16, .f32⟩
  | .hbm, ⟨53, _⟩ => ⟨S8192x1x16, .f32⟩
  | .hbm, ⟨54, _⟩ => ⟨S8192x1x32, .f32⟩
  | .hbm, ⟨55, _⟩ => ⟨S8192x8x32, .f32⟩
  | .hbm, ⟨56, _⟩ => ⟨S8192x8x32, .f32⟩
  | .hbm, ⟨57, _⟩ => ⟨S_, .f32⟩
  | .hbm, ⟨58, _⟩ => ⟨S8192x32, .f32⟩
  | .hbm, ⟨59, _⟩ => ⟨S8192x1x32, .f32⟩
  | .hbm, ⟨60, _⟩ => ⟨S8192x1x16, .f32⟩
  | .hbm, ⟨61, _⟩ => ⟨S8192x1x16, .f32⟩
  | .hbm, ⟨62, _⟩ => ⟨S8192x1x16, .f32⟩
  | .hbm, ⟨63, _⟩ => ⟨S8192x1x16, .f32⟩
  | .hbm, ⟨64, _⟩ => ⟨S8192x1x16, .f32⟩
  | .hbm, ⟨65, _⟩ => ⟨S8192x1x16, .f32⟩
  | .hbm, ⟨66, _⟩ => ⟨S8192x1x16, .f32⟩
  | .hbm, ⟨67, _⟩ => ⟨S8192x1x16, .f32⟩
  | .hbm, ⟨68, _⟩ => ⟨S8192x1x16, .f32⟩
  | .hbm, ⟨69, _⟩ => ⟨S8192x1x32, .f32⟩
  | .hbm, ⟨70, _⟩ => ⟨S_, .f32⟩
  | .hbm, ⟨71, _⟩ => ⟨S8192x32, .f32⟩
  | .hbm, ⟨72, _⟩ => ⟨S8192x8x64, .f32⟩
  | .hbm, ⟨73, _⟩ => ⟨S8192x8x32, .f32⟩
  | .hbm, ⟨74, _⟩ => ⟨S8192x8x16, .f32⟩
  | .hbm, ⟨75, _⟩ => ⟨S8192x8x16, .f32⟩
  | .hbm, ⟨76, _⟩ => ⟨S8192x8x16, .f32⟩
  | .hbm, ⟨77, _⟩ => ⟨S8192x8x16, .f32⟩
  | .hbm, ⟨78, _⟩ => ⟨S8192x8x16, .f32⟩
  | .hbm, ⟨79, _⟩ => ⟨S8192x8x16, .f32⟩
  | .hbm, ⟨80, _⟩ => ⟨S8192x8x16, .f32⟩
  | .hbm, ⟨81, _⟩ => ⟨S8192x8x16, .f32⟩
  | .hbm, ⟨82, _⟩ => ⟨S8192x8x16, .f32⟩
  | .hbm, ⟨83, _⟩ => ⟨S8192x8x16, .f32⟩
  | .hbm, ⟨84, _⟩ => ⟨S8192x8x16, .f32⟩
  | .hbm, ⟨85, _⟩ => ⟨S8192x8x16, .f32⟩
  | .hbm, ⟨86, _⟩ => ⟨S8192x8x16, .f32⟩
  | .hbm, ⟨87, _⟩ => ⟨S8192x8x32, .f32⟩
  | .hbm, ⟨88, _⟩ => ⟨S_, .f32⟩
  | .hbm, ⟨89, _⟩ => ⟨S8192x8x96, .f32⟩
  | .hbm, ⟨90, _⟩ => ⟨S_, .f32⟩
  | .hbm, ⟨91, _⟩ => ⟨S8192x8x96, .f32⟩
  | .hbm, ⟨92, _⟩ => ⟨S8192x8x96, .f32⟩
  | .hbm, ⟨93, _⟩ => ⟨S_, .f32⟩
  | .hbm, ⟨94, _⟩ => ⟨S8192x8x128, .f32⟩
  | .hbm, ⟨95, _⟩ => ⟨S8192x1024, .f32⟩
  | .hbm, ⟨96, _⟩ => ⟨S8192x1024, .bf16⟩
  | .hbm, ⟨97, _⟩ => ⟨S_, .i32⟩
  | .hbm, ⟨98, _⟩ => ⟨S_, .f32⟩
  | .hbm, ⟨99, _⟩ => ⟨S8192x128, .f32⟩
  | .hbm, ⟨100, _⟩ => ⟨S8192x128, .bf16⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_3 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_4 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_cst_5 : Ref sig .tc := ⟨.hbm, 88, rfl⟩
abbrev main_v77 : Ref sig .tc := ⟨.hbm, 89, rfl⟩
abbrev main_cst_6 : Ref sig .tc := ⟨.hbm, 90, rfl⟩
abbrev main_v78 : Ref sig .tc := ⟨.hbm, 91, rfl⟩
abbrev main_v79 : Ref sig .tc := ⟨.hbm, 92, rfl⟩
abbrev main_cst_7 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_c : Ref sig .tc := ⟨.hbm, 97, rfl⟩
abbrev main_call0_v0 : Ref sig .tc := ⟨.hbm, 98, rfl⟩
abbrev main_v83 : Ref sig .tc := ⟨.hbm, 99, rfl⟩
abbrev main_v84 : Ref sig .tc := ⟨.hbm, 100, rfl⟩

abbrev nD : Nat := 1
abbrev τ : Topo := Topo.v7x

variable {F : FTy → Type} [FloatOps F]
-- ==== Kernel5.lean ====
abbrev S8192x8x96 : Shape := ⟨3, ![8192, 8, 96]⟩
abbrev S8192x8x64 : Shape := ⟨3, ![8192, 8, 64]⟩
abbrev S512x1024 : Shape := ⟨2, ![512, 1024]⟩
abbrev S8192x1024 : Shape := ⟨2, ![8192, 1024]⟩
abbrev S8x64x1024 : Shape := ⟨3, ![8, 64, 1024]⟩
abbrev S_ : Shape := ⟨0, ![]⟩
abbrev S8x128x1024 : Shape := ⟨3, ![8, 128, 1024]⟩
abbrev S1024x1024 : Shape := ⟨2, ![1024, 1024]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8192x8x128 : Shape := ⟨3, ![8192, 8, 128]⟩
abbrev S8192x8 : Shape := ⟨2, ![8192, 8]⟩
abbrev S512x8 : Shape := ⟨2, ![512, 8]⟩
abbrev S512x128 : Shape := ⟨2, ![512, 128]⟩
abbrev S512 : Shape := ⟨1, ![512]⟩
abbrev S512x1 : Shape := ⟨2, ![512, 1]⟩

abbrev nBuf : Space → Nat
  | .hbm => 48
  | .vmem => 9
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S512x1024, .f32⟩
  | .hbm, ⟨4, _⟩ => ⟨S8192x1024, .f32⟩
  | .hbm, ⟨5, _⟩ => ⟨S8x64x1024, .f32⟩
  | .hbm, ⟨6, _⟩ => ⟨S_, .i32⟩
  | .hbm, ⟨7, _⟩ => ⟨S_, .f32⟩
  | .hbm, ⟨8, _⟩ => ⟨S8x128x1024, .f32⟩
  | .hbm, ⟨9, _⟩ => ⟨S1024x1024, .f32⟩
  | .hbm, ⟨10, _⟩ => ⟨S8192x1024, .bf16⟩
  | .hbm, ⟨11, _⟩ => ⟨S1024x1024, .bf16⟩
  | .hbm, ⟨12, _⟩ => ⟨S8x8192x8192, .f32⟩
  | .hbm, ⟨13, _⟩ => ⟨S_, .f32⟩
  | .hbm, ⟨14, _⟩ => ⟨S8x8192x8192, .f32⟩
  | .hbm, ⟨15, _⟩ => ⟨S8x8192x8192, .f32⟩
  | .hbm, ⟨16, _⟩ => ⟨S8192, .i32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8x8192x8192, .i1⟩
  | .hbm, ⟨25, _⟩ => ⟨S8x8192x8192, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S_, .f32⟩
  | .hbm, ⟨30, _⟩ => ⟨S8x8192, .f32⟩
  | .hbm, ⟨31, _⟩ => ⟨S8x8192, .f32⟩
  | .hbm, ⟨32, _⟩ => ⟨S8x8192x1, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S_, .f32⟩
  | .hbm, ⟨37, _⟩ => ⟨S8x8192, .f32⟩
  | .hbm, ⟨38, _⟩ => ⟨S8x8192x1, .f32⟩
  | .hbm, ⟨39, _⟩ => ⟨S8x8192x8192, .f32⟩
  | .hbm, ⟨40, _⟩ => ⟨S8x8192x8192, .f32⟩
  | .hbm, ⟨41, _⟩ => ⟨S8x64x8192, .f32⟩
  | .hbm, ⟨42, _⟩ => ⟨S8192x8x64, .f32⟩
  | .hbm, ⟨43, _⟩ => ⟨S_, .f32⟩
  | .hbm, ⟨44, _⟩ => ⟨S8192x8x128, .f32⟩
  | .hbm, ⟨45, _⟩ => ⟨S8192x1024, .f32⟩
  | .hbm, ⟨46, _⟩ => ⟨S8192x1024, .bf16⟩
  | .hbm, ⟨47, _⟩ => ⟨S8192x8, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S512x8, .f32⟩
  | .local _ .vmem, ⟨8, _⟩ => ⟨S512x8, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30_0 : Ref sig .tc := ⟨.hbm, 46, rfl⟩
abbrev main_v30_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference5Ideal.lean ====
abbrev S8192x8x96 : Shape := ⟨3, ![8192, 8, 96]⟩
abbrev S8192x8x64 : Shape := ⟨3, ![8192, 8, 64]⟩
abbrev S512x1024 : Shape := ⟨2, ![512, 1024]⟩
abbrev S8192x1024 : Shape := ⟨2, ![8192, 1024]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8192x512 : Shape := ⟨2, ![8192, 512]⟩
abbrev S8192x8x128 : Shape := ⟨3, ![8192, 8, 128]⟩
abbrev S8192x8 : Shape := ⟨2, ![8192, 8]⟩

abbrev nBuf : Space → Nat
  | .hbm => 47
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S512x1024, .f32⟩
  | .hbm, ⟨4, _⟩ => ⟨S8192x1024, .f32⟩
  | .hbm, ⟨5, _⟩ => ⟨S8x8192x8192, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S8192, .i32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S_, .f32⟩
  | .hbm, ⟨16, _⟩ => ⟨S_, .f32⟩
  | .hbm, ⟨17, _⟩ => ⟨S8x8192x8192, .i1⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192, .f32⟩
  | .hbm, ⟨22, _⟩ => ⟨S_, .f32⟩
  | .hbm, ⟨23, _⟩ => ⟨S8x8192, .f32⟩
  | .hbm, ⟨24, _⟩ => ⟨S8x8192, .f32⟩
  | .hbm, ⟨25, _⟩ => ⟨S8x8192x1, .f32⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S_, .f32⟩
  | .hbm, ⟨30, _⟩ => ⟨S8x8192, .f32⟩
  | .hbm, ⟨31, _⟩ => ⟨S8x8192x1, .f32⟩
  | .hbm, ⟨32, _⟩ => ⟨S8x8192x8192, .f32⟩
  | .hbm, ⟨33, _⟩ => ⟨S8x8192x8192, .f32⟩
  | .hbm, ⟨34, _⟩ => ⟨S8x64x8192, .f32⟩
  | .hbm, ⟨35, _⟩ => ⟨S8192x8x64, .f32⟩
  | .hbm, ⟨36, _⟩ => ⟨S8192x512, .f32⟩
  | .hbm, ⟨37, _⟩ => ⟨S8192x1024, .f32⟩
  | .hbm, ⟨38, _⟩ => ⟨S8192x512, .f32⟩
  | .hbm, ⟨39, _⟩ => ⟨S8192x8x64, .f32⟩
  | .hbm, ⟨40, _⟩ => ⟨S_, .f32⟩
  | .hbm, ⟨41, _⟩ => ⟨S8192x8x128, .f32⟩
  | .hbm, ⟨42, _⟩ => ⟨S8192x1024, .f32⟩
  | .hbm, ⟨43, _⟩ => ⟨S8192x1024, .bf16⟩
  | .hbm, ⟨44, _⟩ => ⟨S8192x8x64, .f32⟩
  | .hbm, ⟨45, _⟩ => ⟨S_, .f32⟩
  | .hbm, ⟨46, _⟩ => ⟨S8192x8, .f32⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Kernel6.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S1x1024 : Shape := ⟨2, ![1, 1024]⟩
abbrev S128x1024 : Shape := ⟨2, ![128, 1024]⟩
abbrev S512x4096 : Shape := ⟨2, ![512, 4096]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S16x8x1024 : Shape := ⟨3, ![16, 8, 1024]⟩
abbrev S16x1x1024 : Shape := ⟨3, ![16, 1, 1024]⟩
abbrev S16x1024 : Shape := ⟨2, ![16, 1024]⟩

abbrev nBuf : Space → Nat
  | .hbm => 30
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S8192x4096, .f32⟩
  | .hbm, ⟨6, _⟩ => ⟨S8192x1024, .f32⟩
  | .hbm, ⟨7, _⟩ => ⟨S8192x4096, .bf16⟩
  | .hbm, ⟨8, _⟩ => ⟨S1024x4096, .bf16⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S1x1024, .f32⟩
  | .hbm, ⟨14, _⟩ => ⟨S1x1024, .f32⟩
  | .hbm, ⟨15, _⟩ => ⟨S8192x1024, .f32⟩
  | .hbm, ⟨16, _⟩ => ⟨S128x1024, .f32⟩
  | .hbm, ⟨17, _⟩ => ⟨S128x1024, .f32⟩
  | .hbm, ⟨18, _⟩ => ⟨S16x8x1024, .f32⟩
  | .hbm, ⟨19, _⟩ => ⟨S16x1x1024, .f32⟩
  | .hbm, ⟨20, _⟩ => ⟨S16x1024, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S16x8x1024, .f32⟩
  | .hbm, ⟨25, _⟩ => ⟨S16x1x1024, .f32⟩
  | .hbm, ⟨26, _⟩ => ⟨S16x1024, .f32⟩
  | .hbm, ⟨27, _⟩ => ⟨S_, .f32⟩
  | .hbm, ⟨28, _⟩ => ⟨S1024, .f32⟩
  | .hbm, ⟨29, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== Reference6Ideal.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S8192x4096, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x4096, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S_, .f32⟩
  | .hbm, ⟨55, _⟩ => ⟨S1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192, .f32⟩
  | .hbm, ⟨90, _⟩ => ⟨S8192x1024, .f32⟩
  | .hbm, ⟨91, _⟩ => ⟨S8192x1024, .f32⟩
  | .hbm, ⟨92, _⟩ => ⟨S1x1024, .f32⟩
  | .hbm, ⟨93, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_11 : Ref sig .tc := ⟨.hbm, 62, rfl⟩
abbrev main_v43 : Ref sig .tc := ⟨.hbm, 63, rfl⟩
abbrev main_v44 : Ref sig .tc := ⟨.hbm, 64, rfl⟩
abbrev main_cst_12 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_13 : Ref sig .tc := ⟨.hbm, 71, rfl⟩
abbrev main_v50 : Ref sig .tc := ⟨.hbm, 72, rfl⟩
abbrev main_v51 : Ref sig .tc := ⟨.hbm, 73, rfl⟩
abbrev main_cst_14 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_15 : Ref sig .tc := ⟨.hbm, 82, rfl⟩
abbrev main_v59 : Ref sig .tc := ⟨.hbm, 83, rfl⟩
abbrev main_v60 : Ref sig .tc := ⟨.hbm, 84, rfl⟩
abbrev main_cst_16 : Ref sig .tc := ⟨.hbm, 85, rfl⟩
abbrev main_v61 : Ref sig .tc := ⟨.hbm, 86, rfl⟩
abbrev main_v62 : Ref sig .tc := ⟨.hbm, 87, rfl⟩
abbrev main_cst_17 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩

abbrev nD : Nat := 1
abbrev τ : Topo := Topo.v7x

variable {F : FTy → Type} [FloatOps F]
-- ==== Kernel7.lean ====
abbrev S8192x256 : Shape := ⟨2, ![8192, 256]⟩
abbrev S8192x2944 : Shape := ⟨2, ![8192, 2944]⟩
abbrev S8192x2048 : Shape := ⟨2, ![8192, 2048]⟩
abbrev S16x64 : Shape := ⟨2, ![16, 64]⟩
abbrev S16x64x16 : Shape := ⟨3, ![16, 64, 16]⟩
abbrev S16x16x64 : Shape := ⟨3, ![16, 16, 64]⟩
abbrev S256 : Shape := ⟨1, ![256]⟩
abbrev S1x1024 : Shape := ⟨2, ![1, 1024]⟩
abbrev S8x1024 : Shape := ⟨2, ![8, 1024]⟩
abbrev S8 : Shape := ⟨1, ![8]⟩
abbrev S8x1 : Shape := ⟨2, ![8, 1]⟩
abbrev S8x2048 : Shape := ⟨2, ![8, 2048]⟩
abbrev S_ : Shape := ⟨0, ![]⟩
abbrev S32x2048 : Shape := ⟨2, ![32, 2048]⟩
abbrev S16x16x1x64 : Shape := ⟨4, ![16, 16, 1, 64]⟩
abbrev S16x16 : Shape := ⟨2, ![16, 16]⟩
abbrev S16x1x16x1 : Shape := ⟨4, ![16, 1, 16, 1]⟩
abbrev S16x16x16x64 : Shape := ⟨4, ![16, 16, 16, 64]⟩
abbrev S256x1024 : Shape := ⟨2, ![256, 1024]⟩
abbrev S256x2048 : Shape := ⟨2, ![256, 2048]⟩
abbrev S16x64x1x16 : Shape := ⟨4, ![16, 64, 1, 16]⟩
abbrev S16x64x16x16 : Shape := ⟨4, ![16, 64, 16, 16]⟩
abbrev S1024x256 : Shape := ⟨2, ![1024, 256]⟩
abbrev S2048x256 : Shape := ⟨2, ![2048, 256]⟩
abbrev S1x256 : Shape := ⟨2, ![1, 256]⟩
abbrev S1x2048 : Shape := ⟨2, ![1, 2048]⟩
abbrev S1024x2048 : Shape := ⟨2, ![1024, 2048]⟩
abbrev S1024 : Shape := ⟨1, ![1024]⟩

abbrev nBuf : Space → Nat
  | .hbm => 179
  | .vmem => 22
  | .smem => 0
  | _ => 0

abbrev hbmTy0_0 (i : Nat) : BufTy := match i % 128 with
  | 0 => ⟨S8192x256, .f32⟩
  | 1 => ⟨S8192x256, .f32⟩
  | 2 => ⟨S8192x2944, .bf16⟩
  | 3 => ⟨S8192x2048, .f32⟩
  | 4 => ⟨S16x64, .f32⟩
  | 5 => ⟨S16x64, .f32⟩
  | 6 => ⟨S16x64x16, .f32⟩
  | 7 => ⟨S16x64x16, .f32⟩
  | 8 => ⟨S16x16x64, .f32⟩
  | 9 => ⟨S16x16x64, .f32⟩
  | 10 => ⟨S256, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S1x1024, .f32⟩
  | 25 => ⟨S1x1024, .f32⟩
  | 26 => ⟨S1x1024, .f32⟩
  | 27 => ⟨S1x1024, .f32⟩
  | 28 => ⟨S1x1024, .f32⟩
  | 29 => ⟨S1x1024, .f32⟩
  | 30 => ⟨S1x1024, .f32⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S1x1024, .f32⟩
  | 37 => ⟨S1x1024, .f32⟩
  | 38 => ⟨S1x1024, .f32⟩
  | 39 => ⟨S1x1024, .f32⟩
  | 40 => ⟨S1x1024, .f32⟩
  | 41 => ⟨S1x1024, .f32⟩
  | 42 => ⟨S1x1024, .f32⟩
  | 43 => ⟨S1x1024, .f32⟩
  | 44 => ⟨S1x1024, .f32⟩
  | 45 => ⟨S1x1024, .f32⟩
  | 46 => ⟨S1x1024, .f32⟩
  | 47 => ⟨S1x1024, .f32⟩
  | 48 => ⟨S1x1024, .f32⟩
  | 49 => ⟨S1x1024, .f32⟩
  | 50 => ⟨S1x1024, .f32⟩
  | 51 => ⟨S1x1024, .f32⟩
  | 52 => ⟨S1x1024, .f32⟩
  | 53 => ⟨S1x1024, .f32⟩
  | 54 => ⟨S1x1024, .f32⟩
  | 55 => ⟨S1x1024, .f32⟩
  | 56 => ⟨S8x1024, .f32⟩
  | 57 => ⟨S8x1024, .f32⟩
  | 58 => ⟨S8x1024, .f32⟩
  | 59 => ⟨S8x1024, .f32⟩
  | 60 => ⟨S8, .i32⟩
  | 61 => ⟨S8x1, .i32⟩
  | 62 => ⟨S8x2048, .f32⟩
  | 63 => ⟨S_, .i32⟩
  | 64 => ⟨S8x1, .i32⟩
  | 65 => ⟨S8x1, .i1⟩
  | 66 => ⟨S_, .f32⟩
  | 67 => ⟨S_, .f32⟩
  | 68 => ⟨S8x1024, .i1⟩
  | 69 => ⟨S8x1024, .f32⟩
  | 70 => ⟨S8x1024, .f32⟩
  | 71 => ⟨S8x1024, .f32⟩
  | 72 => ⟨S_, .f32⟩
  | 73 => ⟨S_, .f32⟩
  | 74 => ⟨S8x1024, .i1⟩
  | 75 => ⟨S8x1024, .f32⟩
  | 76 => ⟨S8x1024, .f32⟩
  | 77 => ⟨S8x1024, .f32⟩
  | 78 => ⟨S8x2048, .f32⟩
  | 79 => ⟨S_, .i32⟩
  | 80 => ⟨S8x1, .i32⟩
  | 81 => ⟨S8x1, .i1⟩
  | 82 => ⟨S_, .f32⟩
  | 83 => ⟨S_, .f32⟩
  | 84 => ⟨S8x1024, .i1⟩
  | 85 => ⟨S8x1024, .f32⟩
  | 86 => ⟨S8x1024, .f32⟩
  | 87 => ⟨S8x1024, .f32⟩
  | 88 => ⟨S_, .f32⟩
  | 89 => ⟨S_, .f32⟩
  | 90 => ⟨S8x1024, .i1⟩
  | 91 => ⟨S8x1024, .f32⟩
  | 92 => ⟨S8x1024, .f32⟩
  | 93 => ⟨S8x1024, .f32⟩
  | 94 => ⟨S8x2048, .f32⟩
  | 95 => ⟨S_, .i32⟩
  | 96 => ⟨S8x1, .i32⟩
  | 97 => ⟨S8x1, .i1⟩
  | 98 => ⟨S_, .f32⟩
  | 99 => ⟨S_, .f32⟩
  | 100 => ⟨S8x1024, .i1⟩
  | 101 => ⟨S8x1024, .f32⟩
  | 102 => ⟨S8x1024, .f32⟩
  | 103 => ⟨S8x1024, .f32⟩
  | 104 => ⟨S_, .f32⟩
  | 105 => ⟨S_, .f32⟩
  | 106 => ⟨S8x1024, .i1⟩
  | 107 => ⟨S8x1024, .f32⟩
  | 108 => ⟨S8x1024, .f32⟩
  | 109 => ⟨S8x1024, .f32⟩
  | 110 => ⟨S8x2048, .f32⟩
  | 111 => ⟨S32x2048, .f32⟩
  | 112 => ⟨S16x16x64, .f32⟩
  | 113 => ⟨S16x16x1x64, .f32⟩
  | 114 => ⟨S16x16, .i32⟩
  | 115 => ⟨S16x16, .i32⟩
  | 116 => ⟨S_, .i32⟩
  | 117 => ⟨S16x16, .i32⟩
  | 118 => ⟨S16x16, .i32⟩
  | 119 => ⟨S16x16, .i1⟩
  | 120 => ⟨S16x16, .f32⟩
  | 121 => ⟨S16x1x16x1, .f32⟩
  | 122 => ⟨S16x16x16x64, .f32⟩
  | 123 => ⟨S16x16x16x64, .f32⟩
  | 124 => ⟨S16x16x16x64, .f32⟩
  | 125 => ⟨S256x1024, .f32⟩
  | 126 => ⟨S16x16x64, .f32⟩
  | 127 => ⟨S16x16x1x64, .f32⟩
  | _ => ⟨S8192x256, .f32⟩

abbrev hbmTy0_1 (i : Nat) : BufTy := match i % 128 with
  | 0 => ⟨S16x16, .i32⟩
  | 1 => ⟨S16x16, .i32⟩
  | 2 => ⟨S_, .i32⟩
  | 3 => ⟨S16x16, .i32⟩
  | 4 => ⟨S16x16, .i32⟩
  | 5 => ⟨S16x16, .i1⟩
  | 6 => ⟨S16x16, .f32⟩
  | 7 => ⟨S16x1x16x1, .f32⟩
  | 8 => ⟨S16x16x16x64, .f32⟩
  | 9 => ⟨S16x16x16x64, .f32⟩
  | 10 => ⟨S16x16x16x64, .f32⟩
  | 11 => ⟨S256x1024, .f32⟩
  | 12 => ⟨S256x2048, .f32⟩
  | 13 => ⟨S256x2048, .bf16⟩
  | 14 => ⟨S16x64x16, .f32⟩
  | 15 => ⟨S16x64x1x16, .f32⟩
  | 16 => ⟨S16x16, .i32⟩
  | 17 => ⟨S16x16, .i32⟩
  | 18 => ⟨S_, .i32⟩
  | 19 => ⟨S16x16, .i32⟩
  | 20 => ⟨S16x16, .i32⟩
  | 21 => ⟨S16x16, .i1⟩
  | 22 => ⟨S16x16, .f32⟩
  | 23 => ⟨S16x1x16x1, .f32⟩
  | 24 => ⟨S16x64x16x16, .f32⟩
  | 25 => ⟨S16x64x16x16, .f32⟩
  | 26 => ⟨S16x64x16x16, .f32⟩
  | 27 => ⟨S1024x256, .f32⟩
  | 28 => ⟨S16x64x16, .f32⟩
  | 29 => ⟨S16x64x1x16, .f32⟩
  | 30 => ⟨S16x16, .i32⟩
  | 31 => ⟨S16x16, .i32⟩
  | 32 => ⟨S_, .i32⟩
  | 33 => ⟨S16x16, .i32⟩
  | 34 => ⟨S16x16, .i32⟩
  | 35 => ⟨S16x16, .i1⟩
  | 36 => ⟨S16x16, .f32⟩
  | 37 => ⟨S16x1x16x1, .f32⟩
  | 38 => ⟨S16x64x16x16, .f32⟩
  | 39 => ⟨S16x64x16x16, .f32⟩
  | 40 => ⟨S16x64x16x16, .f32⟩
  | 41 => ⟨S1024x256, .f32⟩
  | 42 => ⟨S1024x256, .f32⟩
  | 43 => ⟨S2048x256, .f32⟩
  | 44 => ⟨S2048x256, .bf16⟩
  | 45 => ⟨S1x256, .f32⟩
  | 46 => ⟨S8192x256, .bf16⟩
  | 47 => ⟨S1x2048, .f32⟩
  | 48 => ⟨S256x2048, .f32⟩
  | 49 => ⟨S256x2048, .f32⟩
  | 50 => ⟨S1x256, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .bf16⟩
  | .local _ .vmem, ⟨5, _⟩ => ⟨S1024x256, .bf16⟩
  | .local _ .vmem, ⟨6, _⟩ => ⟨S1024x2048, .f32⟩
  | .local _ .vmem, ⟨7, _⟩ => ⟨S1024x2048, .f32⟩
  | .local _ .vmem, ⟨8, _⟩ => ⟨S8x2048, .f32⟩
  | .local _ .vmem, ⟨9, _⟩ => ⟨S8x2048, .f32⟩
  | .local _ .vmem, ⟨10, _⟩ => ⟨S256x2048, .bf16⟩
  | .local _ .vmem, ⟨11, _⟩ => ⟨S2048x256, .bf16⟩
  | .local _ .vmem, ⟨12, _⟩ => ⟨S1x256, .f32⟩
  | .local _ .vmem, ⟨13, _⟩ => ⟨S32x2048, .f32⟩
  | .local _ .vmem, ⟨14, _⟩ => ⟨S1024x256, .bf16⟩
  | .local _ .vmem, ⟨15, _⟩ => ⟨S1024x256, .bf16⟩
  | .local _ .vmem, ⟨16, _⟩ => ⟨S1x2048, .f32⟩
  | .local _ .vmem, ⟨17, _⟩ => ⟨S256x2048, .f32⟩
  | .local _ .vmem, ⟨18, _⟩ => ⟨S256x2048, .f32⟩
  | .local _ .vmem, ⟨19, _⟩ => ⟨S1x256, .f32⟩
  | .local _ .vmem, ⟨20, _⟩ => ⟨S8x2048, .f32⟩
  | .local _ .vmem, ⟨21, _⟩ => ⟨S1024x2048, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_c : Ref sig .tc := ⟨.hbm, 63, rfl⟩
abbrev main_v52 : Ref sig .tc := ⟨.hbm, 64, rfl⟩
abbrev main_v53 : Ref sig .tc := ⟨.hbm, 65, rfl⟩
abbrev main_cst : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_v54 : Ref sig .tc := ⟨.hbm, 71, rfl⟩
abbrev main_cst_0 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_v55 : Ref sig .tc := ⟨.hbm, 77, rfl⟩
abbrev main_v56 : Ref sig .tc := ⟨.hbm, 78, rfl⟩
abbrev main_c_1 : Ref sig .tc := ⟨.hbm, 79, rfl⟩
abbrev main_v57 : Ref sig .tc := ⟨.hbm, 80, rfl⟩
abbrev main_v58 : Ref sig .tc := ⟨.hbm, 81, rfl⟩
abbrev main_cst_2 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_v59 : Ref sig .tc := ⟨.hbm, 87, rfl⟩
abbrev main_cst_3 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_v60 : Ref sig .tc := ⟨.hbm, 93, rfl⟩
abbrev main_v61 : Ref sig .tc := ⟨.hbm, 94, rfl⟩
abbrev main_c_4 : Ref sig .tc := ⟨.hbm, 95, rfl⟩
abbrev main_v62 : Ref sig .tc := ⟨.hbm, 96, rfl⟩
abbrev main_v63 : Ref sig .tc := ⟨.hbm, 97, rfl⟩
abbrev main_cst_5 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_call4_v3 : Ref sig .tc := ⟨.hbm, 102, rfl⟩
abbrev main_v64 : Ref sig .tc := ⟨.hbm, 103, rfl⟩
abbrev main_cst_6 : Ref sig .tc := ⟨.hbm, 104, rfl⟩
abbrev main_call5_v0 : Ref sig .tc := ⟨.hbm, 105, rfl⟩
abbrev main_call5_v1 : Ref sig .tc := ⟨.hbm, 106, rfl⟩
abbrev main_call5_v2 : Ref sig .tc := ⟨.hbm, 107, rfl⟩
abbrev main_call5_v3 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_c_7 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_c_8 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_c_9 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_c_10 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126_0 : Ref sig .tc := ⟨.hbm, 174, rfl⟩
abbrev main_v126_1 : Ref sig .tc := ⟨.hbm, 175, rfl⟩
abbrev main_v126_2 : Ref sig .tc := ⟨.hbm, 176, rfl⟩
abbrev main_v126_3 : Ref sig .tc := ⟨.hbm, 177, rfl⟩
abbrev main_v126_4 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_38 : BitVec 32 := 0#32
  let c128_i32 : BitVec 32 := 128#32
  let v64 : BitVec 32 := Scalar.addi c0_i32_38 c128_i32
  let c1_i32 : BitVec 32 := 1#32
  ⟨c0_i32_38, v64, c1_i32⟩
def k0_mult1 (k0_t1 : Fin k0_t1_loop.trips) : BitVec 32 :=
  let c127_i32 : BitVec 32 := 127#32
  let c0_i32_38 : BitVec 32 := 0#32
  let c1_i32 : BitVec 32 := 1#32
  let arg17 : BitVec 32 := Scf.iv c0_i32_38 c1_i32 k0_t1
  let v98 : BitVec 32 := Scalar.subi c127_i32 arg17
  let c8_i32 : BitVec 32 := 8#32
  let v99 : BitVec 32 := Scalar.muli v98 c8_i32
  v99
def k0_off1 (k0_t1 : Fin k0_t1_loop.trips) : Fin 2 → Nat :=
  let c127_i32 : BitVec 32 := 127#32
  let c0_i32_38 : BitVec 32 := 0#32
  let c1_i32 : BitVec 32 := 1#32
  let arg17 : BitVec 32 := Scf.iv c0_i32_38 c1_i32 k0_t1
  let v98 : BitVec 32 := Scalar.subi c127_i32 arg17
  let c8_i32 : BitVec 32 := 8#32
  let v99 : BitVec 32 := Scalar.muli v98 c8_i32
  let v100 : BitVec 32 := v99
  let v101 : Index := Scalar.indexCast v100
  let c0_66 : Index := 0#32
  ![v101.toNat, 0]
def k0_off2 (k0_t1 : Fin k0_t1_loop.trips) : Fin 2 → Nat :=
  let c127_i32 : BitVec 32 := 127#32
  let c0_i32_38 : BitVec 32 := 0#32
  let c1_i32 : BitVec 32 := 1#32
  let arg17 : BitVec 32 := Scf.iv c0_i32_38 c1_i32 k0_t1
  let v98 : BitVec 32 := Scalar.subi c127_i32 arg17
  let c8_i32 : BitVec 32 := 8#32
  let v99 : BitVec 32 := Scalar.muli v98 c8_i32
  let v100 : BitVec 32 := v99
  let v103 : Index := Scalar.indexCast v100
  let c1024_67 : Index := 1024#32
  ![v103.toNat, 1024]
def k0_mult2 (k0_t1 : Fin k0_t1_loop.trips) : BitVec 32 :=
  let c127_i32 : BitVec 32 := 127#32
  let c0_i32_38 : BitVec 32 := 0#32
  let c1_i32 : BitVec 32 := 1#32
  let arg17 : BitVec 32 := Scf.iv c0_i32_38 c1_i32 k0_t1
  let v98 : BitVec 32 := Scalar.subi c127_i32 arg17
  let c1_i32_87 : BitVec 32 := 1#32
  let v171 : BitVec 32 := Scalar.subi v98 c1_i32_87
  let c0_i32_88 : BitVec 32 := 0#32
  let v172 : BitVec 32 := Scalar.maxsi v171 c0_i32_88
  let c8_i32_89 : BitVec 32 := 8#32
  let v173 : BitVec 32 := Scalar.muli v172 c8_i32_89
  v173
def k0_off3 (k0_t1 : Fin k0_t1_loop.trips) : Fin 2 → Nat :=
  let c127_i32 : BitVec 32 := 127#32
  let c0_i32_38 : BitVec 32 := 0#32
  let c1_i32 : BitVec 32 := 1#32
  let arg17 : BitVec 32 := Scf.iv c0_i32_38 c1_i32 k0_t1
  let v98 : BitVec 32 := Scalar.subi c127_i32 arg17
  let c1_i32_87 : BitVec 32 := 1#32
  let v171 : BitVec 32 := Scalar.subi v98 c1_i32_87
  let c0_i32_88 : BitVec 32 := 0#32
  let v172 : BitVec 32 := Scalar.maxsi v171 c0_i32_88
  let c8_i32_89 : BitVec 32 := 8#32
  let v173 : BitVec 32 := Scalar.muli v172 c8_i32_89
  let v174 : BitVec 32 := v173
  let v179 : Index := Scalar.indexCast v174
  let c0_92 : Index := 0#32
  ![v179.toNat, 0]
def k0_off4 (k0_t1 : Fin k0_t1_loop.trips) : Fin 2 → Nat :=
  let c127_i32 : BitVec 32 := 127#32
  let c0_i32_38 : BitVec 32 := 0#32
  let c1_i32 : BitVec 32 := 1#32
  let arg17 : BitVec 32 := Scf.iv c0_i32_38 c1_i32 k0_t1
  let v98 : BitVec 32 := Scalar.subi c127_i32 arg17
  let c1_i32_87 : BitVec 32 := 1#32
  let v171 : BitVec 32 := Scalar.subi v98 c1_i32_87
  let c0_i32_88 : BitVec 32 := 0#32
  let v172 : BitVec 32 := Scalar.maxsi v171 c0_i32_88
  let c8_i32_89 : BitVec 32 := 8#32
  let v173 : BitVec 32 := Scalar.muli v172 c8_i32_89
  let v174 : BitVec 32 := v173
  let v187 : Index := Scalar.indexCast v174
  let c1024_96 : Index := 1024#32
  ![v187.toNat, 1024]
def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c8_i32 : BitVec 32 := 8#32
  let c0_i32 : BitVec 32 := 0#32
  ![v0.toNat, c8_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c128_i32 : BitVec 32 := 128#32
  let v1 : BitVec 32 := Scalar.muli v0 c128_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Kernel8.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S1x1024 : Shape := ⟨2, ![1, 1024]⟩
abbrev S128x1024 : Shape := ⟨2, ![128, 1024]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S16x8x1024 : Shape := ⟨3, ![16, 8, 1024]⟩
abbrev S16x1x1024 : Shape := ⟨3, ![16, 1, 1024]⟩
abbrev S16x1024 : Shape := ⟨2, ![16, 1024]⟩

abbrev nBuf : Space → Nat
  | .hbm => 30
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .hbm, ⟨8, _⟩ => ⟨S1024x1024, .bf16⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S1x1024, .f32⟩
  | .hbm, ⟨14, _⟩ => ⟨S1x1024, .f32⟩
  | .hbm, ⟨15, _⟩ => ⟨S8192x1024, .f32⟩
  | .hbm, ⟨16, _⟩ => ⟨S128x1024, .f32⟩
  | .hbm, ⟨17, _⟩ => ⟨S128x1024, .f32⟩
  | .hbm, ⟨18, _⟩ => ⟨S16x8x1024, .f32⟩
  | .hbm, ⟨19, _⟩ => ⟨S16x1x1024, .f32⟩
  | .hbm, ⟨20, _⟩ => ⟨S16x1024, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S16x8x1024, .f32⟩
  | .hbm, ⟨25, _⟩ => ⟨S16x1x1024, .f32⟩
  | .hbm, ⟨26, _⟩ => ⟨S16x1024, .f32⟩
  | .hbm, ⟨27, _⟩ => ⟨S_, .f32⟩
  | .hbm, ⟨28, _⟩ => ⟨S1024, .f32⟩
  | .hbm, ⟨29, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== Reference8Ideal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S_, .f32⟩
  | .hbm, ⟨55, _⟩ => ⟨S1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192, .f32⟩
  | .hbm, ⟨90, _⟩ => ⟨S8192x1024, .f32⟩
  | .hbm, ⟨91, _⟩ => ⟨S8192x1024, .f32⟩
  | .hbm, ⟨92, _⟩ => ⟨S1x1024, .f32⟩
  | .hbm, ⟨93, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_11 : Ref sig .tc := ⟨.hbm, 62, rfl⟩
abbrev main_v43 : Ref sig .tc := ⟨.hbm, 63, rfl⟩
abbrev main_v44 : Ref sig .tc := ⟨.hbm, 64, rfl⟩
abbrev main_cst_12 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_13 : Ref sig .tc := ⟨.hbm, 71, rfl⟩
abbrev main_v50 : Ref sig .tc := ⟨.hbm, 72, rfl⟩
abbrev main_v51 : Ref sig .tc := ⟨.hbm, 73, rfl⟩
abbrev main_cst_14 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_15 : Ref sig .tc := ⟨.hbm, 82, rfl⟩
abbrev main_v59 : Ref sig .tc := ⟨.hbm, 83, rfl⟩
abbrev main_v60 : Ref sig .tc := ⟨.hbm, 84, rfl⟩
abbrev main_cst_16 : Ref sig .tc := ⟨.hbm, 85, rfl⟩
abbrev main_v61 : Ref sig .tc := ⟨.hbm, 86, rfl⟩
abbrev main_v62 : Ref sig .tc := ⟨.hbm, 87, rfl⟩
abbrev main_cst_17 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩

abbrev nD : Nat := 1
abbrev τ : Topo := Topo.v7x

variable {F : FTy → Type} [FloatOps F]
-- ==== Kernel9.lean ====
abbrev S8192x1024 : Shape := ⟨2, ![8192, 1024]⟩
abbrev S1024 : Shape := ⟨1, ![1024]⟩
abbrev S1024x2848 : Shape := ⟨2, ![1024, 2848]⟩
abbrev S8192x2848 : Shape := ⟨2, ![8192, 2848]⟩
abbrev S8192x2048 : Shape := ⟨2, ![8192, 2048]⟩
abbrev S8192x768 : Shape := ⟨2, ![8192, 768]⟩
abbrev S8192x32 : Shape := ⟨2, ![8192, 32]⟩
abbrev S_ : Shape := ⟨0, ![]⟩
abbrev S8192x96 : Shape := ⟨2, ![8192, 96]⟩
abbrev S8192x2944 : Shape := ⟨2, ![8192, 2944]⟩
abbrev S1024x2048 : Shape := ⟨2, ![1024, 2048]⟩
abbrev S1024x768 : Shape := ⟨2, ![1024, 768]⟩
abbrev S1024x32 : Shape := ⟨2, ![1024, 32]⟩
abbrev S1024x96 : Shape := ⟨2, ![1024, 96]⟩
abbrev S1024x2944 : Shape := ⟨2, ![1024, 2944]⟩
abbrev S1x1024 : Shape := ⟨2, ![1, 1024]⟩
abbrev S128x1024 : Shape := ⟨2, ![128, 1024]⟩
abbrev S512x2944 : Shape := ⟨2, ![512, 2944]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S16x8x1024 : Shape := ⟨3, ![16, 8, 1024]⟩
abbrev S16x1x1024 : Shape := ⟨3, ![16, 1, 1024]⟩
abbrev S16x1024 : Shape := ⟨2, ![16, 1024]⟩

abbrev nBuf : Space → Nat
  | .hbm => 37
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2848, .f32⟩
  | .hbm, ⟨4, _⟩ => ⟨S8192x2848, .f32⟩
  | .hbm, ⟨5, _⟩ => ⟨S8192x1024, .f32⟩
  | .hbm, ⟨6, _⟩ => ⟨S8192x2048, .f32⟩
  | .hbm, ⟨7, _⟩ => ⟨S8192x768, .f32⟩
  | .hbm, ⟨8, _⟩ => ⟨S8192x32, .f32⟩
  | .hbm, ⟨9, _⟩ => ⟨S_, .f32⟩
  | .hbm, ⟨10, _⟩ => ⟨S8192x96, .f32⟩
  | .hbm, ⟨11, _⟩ => ⟨S8192x2944, .f32⟩
  | .hbm, ⟨12, _⟩ => ⟨S8192x2944, .bf16⟩
  | .hbm, ⟨13, _⟩ => ⟨S1024x2048, .f32⟩
  | .hbm, ⟨14, _⟩ => ⟨S1024x768, .f32⟩
  | .hbm, ⟨15, _⟩ => ⟨S1024x32, .f32⟩
  | .hbm, ⟨16, _⟩ => ⟨S_, .f32⟩
  | .hbm, ⟨17, _⟩ => ⟨S1024x96, .f32⟩
  | .hbm, ⟨18, _⟩ => ⟨S1024x2944, .f32⟩
  | .hbm, ⟨19, _⟩ => ⟨S1024x2944, .bf16⟩
  | .hbm, ⟨20, _⟩ => ⟨S1x1024, .f32⟩
  | .hbm, ⟨21, _⟩ => ⟨S1x1024, .f32⟩
  | .hbm, ⟨22, _⟩ => ⟨S8192x1024, .f32⟩
  | .hbm, ⟨23, _⟩ => ⟨S128x1024, .f32⟩
  | .hbm, ⟨24, _⟩ => ⟨S128x1024, .f32⟩
  | .hbm, ⟨25, _⟩ => ⟨S16x8x1024, .f32⟩
  | .hbm, ⟨26, _⟩ => ⟨S16x1x1024, .f32⟩
  | .hbm, ⟨27, _⟩ => ⟨S16x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16x8x1024, .f32⟩
  | .hbm, ⟨32, _⟩ => ⟨S16x1x1024, .f32⟩
  | .hbm, ⟨33, _⟩ => ⟨S16x1024, .f32⟩
  | .hbm, ⟨34, _⟩ => ⟨S_, .f32⟩
  | .hbm, ⟨35, _⟩ => ⟨S1024, .f32⟩
  | .hbm, ⟨36, _⟩ => ⟨S1x1024, .f32⟩
  | .local _ .vmem, ⟨0, _⟩ => ⟨S512x2944, .bf16⟩
  | .local _ .vmem, ⟨1, _⟩ => ⟨S512x2944, .bf16⟩
  | .local _ .vmem, ⟨2, _⟩ => ⟨S1024x2944, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2944 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2944 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== Reference9Ideal.lean ====
abbrev S8192x1024 : Shape := ⟨2, ![8192, 1024]⟩
abbrev S1024 : Shape := ⟨1, ![1024]⟩
abbrev S1024x2848 : Shape := ⟨2, ![1024, 2848]⟩
abbrev S8192x2848 : Shape := ⟨2, ![8192, 2848]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2848, .f32⟩
  | .hbm, ⟨4, _⟩ => ⟨S8192x2848, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x2848, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x1024, .f32⟩
  | .hbm, ⟨86, _⟩ => ⟨S8192x1024, .f32⟩
  | .hbm, ⟨87, _⟩ => ⟨S1x1024, .f32⟩
  | .hbm, ⟨88, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_cst_13 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]
-- ==== Kernel10.lean ====
abbrev S8192x1024 : Shape := ⟨2, ![8192, 1024]⟩
abbrev S8192x4096 : Shape := ⟨2, ![8192, 4096]⟩
abbrev S4096x1024 : Shape := ⟨2, ![4096, 1024]⟩
abbrev S1024 : Shape := ⟨1, ![1024]⟩
abbrev S1x1024 : Shape := ⟨2, ![1, 1024]⟩
abbrev S128x1024 : Shape := ⟨2, ![128, 1024]⟩
abbrev S128x128 : Shape := ⟨2, ![128, 128]⟩
abbrev S512x4096 : Shape := ⟨2, ![512, 4096]⟩
abbrev S512x1024 : Shape := ⟨2, ![512, 1024]⟩
abbrev S8x1024 : Shape := ⟨2, ![8, 1024]⟩
abbrev S8x128 : Shape := ⟨2, ![8, 128]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S1x128 : Shape := ⟨2, ![1, 128]⟩
abbrev S16x8x1024 : Shape := ⟨3, ![16, 8, 1024]⟩
abbrev S16x1x1024 : Shape := ⟨3, ![16, 1, 1024]⟩
abbrev S16x1024 : Shape := ⟨2, ![16, 1024]⟩
abbrev S_ : Shape := ⟨0, ![]⟩
abbrev S16x8x128 : Shape := ⟨3, ![16, 8, 128]⟩
abbrev S16x1x128 : Shape := ⟨3, ![16, 1, 128]⟩
abbrev S16x128 : Shape := ⟨2, ![16, 128]⟩
abbrev S128 : Shape := ⟨1, ![128]⟩

abbrev nBuf : Space → Nat
  | .hbm => 33
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S8192x4096, .bf16⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S128x1024, .f32⟩
  | .hbm, ⟨12, _⟩ => ⟨S128x1024, .f32⟩
  | .hbm, ⟨13, _⟩ => ⟨S128x128, .f32⟩
  | .hbm, ⟨14, _⟩ => ⟨S16x8x1024, .f32⟩
  | .hbm, ⟨15, _⟩ => ⟨S16x1x1024, .f32⟩
  | .hbm, ⟨16, _⟩ => ⟨S16x1024, .f32⟩
  | .hbm, ⟨17, _⟩ => ⟨S_, .f32⟩
  | .hbm, ⟨18, _⟩ => ⟨S1024, .f32⟩
  | .hbm, ⟨19, _⟩ => ⟨S1x1024, .f32⟩
  | .hbm, ⟨20, _⟩ => ⟨S16x8x1024, .f32⟩
  | .hbm, ⟨21, _⟩ => ⟨S16x1x1024, .f32⟩
  | .hbm, ⟨22, _⟩ => ⟨S16x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S16x8x128, .f32⟩
  | .hbm, ⟨27, _⟩ => ⟨S16x1x128, .f32⟩
  | .hbm, ⟨28, _⟩ => ⟨S16x128, .f32⟩
  | .hbm, ⟨29, _⟩ => ⟨S_, .f32⟩
  | .hbm, ⟨30, _⟩ => ⟨S128, .f32⟩
  | .hbm, ⟨31, _⟩ => ⟨S1x128, .f32⟩
  | .hbm, ⟨32, _⟩ => ⟨S1x1, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S8x128, .f32⟩
  | .local _ .vmem, ⟨16, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== Reference10Ideal.lean ====
abbrev S8192x1024 : Shape := ⟨2, ![8192, 1024]⟩
abbrev S8192x4096 : Shape := ⟨2, ![8192, 4096]⟩
abbrev S4096x1024 : Shape := ⟨2, ![4096, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1 : Shape := ⟨2, ![1, 1]⟩

abbrev nBuf : Space → Nat
  | .hbm => 113
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S8192, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S1024, .f32⟩
  | .hbm, ⟨74, _⟩ => ⟨S8192x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S1024, .f32⟩
  | .hbm, ⟨82, _⟩ => ⟨S8192x1024, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S8192x1024, .f32⟩
  | .hbm, ⟨87, _⟩ => ⟨S8192x1024, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S_, .f32⟩
  | .hbm, ⟨93, _⟩ => ⟨S8192, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S_, .f32⟩
  | .hbm, ⟨101, _⟩ => ⟨S8192, .f32⟩
  | .hbm, ⟨102, _⟩ => ⟨S8192x1, .f32⟩
  | .hbm, ⟨103, _⟩ => ⟨S_, .f32⟩
  | .hbm, ⟨104, _⟩ => ⟨S8192x1, .f32⟩
  | .hbm, ⟨105, _⟩ => ⟨S8192x1, .f32⟩
  | .hbm, ⟨106, _⟩ => ⟨S_, .f32⟩
  | .hbm, ⟨107, _⟩ => ⟨S8192, .f32⟩
  | .hbm, ⟨108, _⟩ => ⟨S8192x1024, .f32⟩
  | .hbm, ⟨109, _⟩ => ⟨S8192x1024, .f32⟩
  | .hbm, ⟨110, _⟩ => ⟨S1x1024, .f32⟩
  | .hbm, ⟨111, _⟩ => ⟨S1x1024, .f32⟩
  | .hbm, ⟨112, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_cst_11 : Ref sig .tc := ⟨.hbm, 60, rfl⟩
abbrev main_cst_12 : Ref sig .tc := ⟨.hbm, 61, rfl⟩
abbrev main_v40 : Ref sig .tc := ⟨.hbm, 62, rfl⟩
abbrev main_v41 : Ref sig .tc := ⟨.hbm, 63, rfl⟩
abbrev main_cst_13 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_14 : Ref sig .tc := ⟨.hbm, 69, rfl⟩
abbrev main_v46 : Ref sig .tc := ⟨.hbm, 70, rfl⟩
abbrev main_v47 : Ref sig .tc := ⟨.hbm, 71, rfl⟩
abbrev main_cst_15 : Ref sig .tc := ⟨.hbm, 72, rfl⟩
abbrev main_v48 : Ref sig .tc := ⟨.hbm, 73, rfl⟩
abbrev main_v49 : Ref sig .tc := ⟨.hbm, 74, rfl⟩
abbrev main_cst_16 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_17 : Ref sig .tc := ⟨.hbm, 80, rfl⟩
abbrev main_v54 : Ref sig .tc := ⟨.hbm, 81, rfl⟩
abbrev main_v55 : Ref sig .tc := ⟨.hbm, 82, rfl⟩
abbrev main_cst_18 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_19 : Ref sig .tc := ⟨.hbm, 89, rfl⟩
abbrev main_v61 : Ref sig .tc := ⟨.hbm, 90, rfl⟩
abbrev main_v62 : Ref sig .tc := ⟨.hbm, 91, rfl⟩
abbrev main_cst_20 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_21 : Ref sig .tc := ⟨.hbm, 100, rfl⟩
abbrev main_v70 : Ref sig .tc := ⟨.hbm, 101, rfl⟩
abbrev main_v71 : Ref sig .tc := ⟨.hbm, 102, rfl⟩
abbrev main_cst_22 : Ref sig .tc := ⟨.hbm, 103, rfl⟩
abbrev main_v72 : Ref sig .tc := ⟨.hbm, 104, rfl⟩
abbrev main_v73 : Ref sig .tc := ⟨.hbm, 105, rfl⟩
abbrev main_cst_23 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩

abbrev nD : Nat := 1
abbrev τ : Topo := Topo.v7x

variable {F : FTy → Type} [FloatOps F]
-- ==== Kernel11.lean ====
abbrev S8192x2848 : Shape := ⟨2, ![8192, 2848]⟩
abbrev S8192x2048 : Shape := ⟨2, ![8192, 2048]⟩
abbrev S8192x1024 : Shape := ⟨2, ![8192, 1024]⟩
abbrev S1024x1024 : Shape := ⟨2, ![1024, 1024]⟩
abbrev S8192x768 : Shape := ⟨2, ![8192, 768]⟩
abbrev S8192x32 : Shape := ⟨2, ![8192, 32]⟩
abbrev S_ : Shape := ⟨0, ![]⟩
abbrev S8192x96 : Shape := ⟨2, ![8192, 96]⟩
abbrev S8192x2944 : Shape := ⟨2, ![8192, 2944]⟩
abbrev S512x1024 : Shape := ⟨2, ![512, 1024]⟩

abbrev nBuf : Space → Nat
  | .hbm => 20
  | .vmem => 23
  | .smem => 0
  | _ => 0

abbrev bufTy : (tb : Table) → Fin (tcTables nBuf tb) → BufTy
  | .hbm, ⟨0, _⟩ => ⟨S8192x2848, .f32⟩
  | .hbm, ⟨1, _⟩ => ⟨S8192x2048, .f32⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x2048, .f32⟩
  | .hbm, ⟨6, _⟩ => ⟨S8192x768, .f32⟩
  | .hbm, ⟨7, _⟩ => ⟨S8192x32, .f32⟩
  | .hbm, ⟨8, _⟩ => ⟨S_, .f32⟩
  | .hbm, ⟨9, _⟩ => ⟨S8192x96, .f32⟩
  | .hbm, ⟨10, _⟩ => ⟨S8192x2944, .f32⟩
  | .hbm, ⟨11, _⟩ => ⟨S8192x2944, .bf16⟩
  | .hbm, ⟨12, _⟩ => ⟨S8192x2048, .bf16⟩
  | .hbm, ⟨13, _⟩ => ⟨S1024x1024, .bf16⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | _, _ => ⟨S8192x2848, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== Reference11Ideal.lean ====
abbrev S8192x2848 : Shape := ⟨2, ![8192, 2848]⟩
abbrev S8192x2048 : Shape := ⟨2, ![8192, 2048]⟩
abbrev S8192x1024 : Shape := ⟨2, ![8192, 1024]⟩
abbrev S1024x1024 : Shape := ⟨2, ![1024, 1024]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S8192x2848, .f32⟩
  | .hbm, ⟨1, _⟩ => ⟨S8192x2048, .f32⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .bf16⟩
  | .hbm, ⟨61, _⟩ => ⟨S8192x1024, .bf16⟩
  | .hbm, ⟨62, _⟩ => ⟨S8192x1024, .bf16⟩
  | .hbm, ⟨63, _⟩ => ⟨S8192x1024, .bf16⟩
  | .hbm, ⟨64, _⟩ => ⟨S8192x1024, .bf16⟩
  | _, _ => ⟨S8192x2848, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Kernel12.lean ====
abbrev S8192x2848 : Shape := ⟨2, ![8192, 2848]⟩
abbrev S256 : Shape := ⟨1, ![256]⟩
abbrev S256x768 : Shape := ⟨2, ![256, 768]⟩
abbrev S8192x768 : Shape := ⟨2, ![8192, 768]⟩
abbrev S8192x8x96 : Shape := ⟨3, ![8192, 8, 96]⟩
abbrev S_ : Shape := ⟨0, ![]⟩
abbrev S8192x8x128 : Shape := ⟨3, ![8192, 8, 128]⟩
abbrev S8192x1024 : Shape := ⟨2, ![8192, 1024]⟩
abbrev S256x8x96 : Shape := ⟨3, ![256, 8, 96]⟩
abbrev S256x8x128 : Shape := ⟨3, ![256, 8, 128]⟩
abbrev S256x1024 : Shape := ⟨2, ![256, 1024]⟩
abbrev S8192x2048 : Shape := ⟨2, ![8192, 2048]⟩
abbrev S8192x32 : Shape := ⟨2, ![8192, 32]⟩
abbrev S8192x96 : Shape := ⟨2, ![8192, 96]⟩
abbrev S8192x2944 : Shape := ⟨2, ![8192, 2944]⟩
abbrev S1x256 : Shape := ⟨2, ![1, 256]⟩
abbrev S8192x256 : Shape := ⟨2, ![8192, 256]⟩
abbrev S64x256 : Shape := ⟨2, ![64, 256]⟩
abbrev S1024x1024 : Shape := ⟨2, ![1024, 1024]⟩
abbrev S1024x256 : Shape := ⟨2, ![1024, 256]⟩
abbrev S8x256 : Shape := ⟨2, ![8, 256]⟩
abbrev S1024 : Shape := ⟨1, ![1024]⟩
abbrev S1024x1 : Shape := ⟨2, ![1024, 1]⟩
abbrev S8x8x256 : Shape := ⟨3, ![8, 8, 256]⟩
abbrev S8x1x256 : Shape := ⟨3, ![8, 1, 256]⟩

abbrev nBuf : Space → Nat
  | .hbm => 32
  | .vmem => 10
  | .smem => 0
  | _ => 0

abbrev bufTy : (tb : Table) → Fin (tcTables nBuf tb) → BufTy
  | .hbm, ⟨0, _⟩ => ⟨S8192x2848, .f32⟩
  | .hbm, ⟨1, _⟩ => ⟨S256, .f32⟩
  | .hbm, ⟨2, _⟩ => ⟨S256x768, .f32⟩
  | .hbm, ⟨3, _⟩ => ⟨S8192x768, .f32⟩
  | .hbm, ⟨4, _⟩ => ⟨S8192x8x96, .f32⟩
  | .hbm, ⟨5, _⟩ => ⟨S_, .i32⟩
  | .hbm, ⟨6, _⟩ => ⟨S_, .f32⟩
  | .hbm, ⟨7, _⟩ => ⟨S8192x8x128, .f32⟩
  | .hbm, ⟨8, _⟩ => ⟨S8192x1024, .f32⟩
  | .hbm, ⟨9, _⟩ => ⟨S8192x1024, .bf16⟩
  | .hbm, ⟨10, _⟩ => ⟨S256x8x96, .f32⟩
  | .hbm, ⟨11, _⟩ => ⟨S_, .i32⟩
  | .hbm, ⟨12, _⟩ => ⟨S_, .f32⟩
  | .hbm, ⟨13, _⟩ => ⟨S256x8x128, .f32⟩
  | .hbm, ⟨14, _⟩ => ⟨S256x1024, .f32⟩
  | .hbm, ⟨15, _⟩ => ⟨S256x1024, .bf16⟩
  | .hbm, ⟨16, _⟩ => ⟨S8192x2048, .f32⟩
  | .hbm, ⟨17, _⟩ => ⟨S8192x768, .f32⟩
  | .hbm, ⟨18, _⟩ => ⟨S8192x32, .f32⟩
  | .hbm, ⟨19, _⟩ => ⟨S_, .f32⟩
  | .hbm, ⟨20, _⟩ => ⟨S8192x96, .f32⟩
  | .hbm, ⟨21, _⟩ => ⟨S8192x2944, .f32⟩
  | .hbm, ⟨22, _⟩ => ⟨S8192x2944, .bf16⟩
  | .hbm, ⟨23, _⟩ => ⟨S1x256, .f32⟩
  | .hbm, ⟨24, _⟩ => ⟨S8192x256, .bf16⟩
  | .hbm, ⟨25, _⟩ => ⟨S64x256, .f32⟩
  | .hbm, ⟨26, _⟩ => ⟨S8x8x256, .f32⟩
  | .hbm, ⟨27, _⟩ => ⟨S8x1x256, .f32⟩
  | .hbm, ⟨28, _⟩ => ⟨S8x256, .f32⟩
  | .hbm, ⟨29, _⟩ => ⟨S_, .f32⟩
  | .hbm, ⟨30, _⟩ => ⟨S256, .f32⟩
  | .hbm, ⟨31, _⟩ => ⟨S1x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .bf16⟩
  | .local _ .vmem, ⟨4, _⟩ => ⟨S1024x256, .bf16⟩
  | .local _ .vmem, ⟨5, _⟩ => ⟨S1x256, .f32⟩
  | .local _ .vmem, ⟨6, _⟩ => ⟨S1024x256, .bf16⟩
  | .local _ .vmem, ⟨7, _⟩ => ⟨S1024x256, .bf16⟩
  | .local _ .vmem, ⟨8, _⟩ => ⟨S8x256, .f32⟩
  | .local _ .vmem, ⟨9, _⟩ => ⟨S8x256, .f32⟩
  | _, _ => ⟨S8192x2848, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Reference12Ideal.lean ====
abbrev S8192x2848 : Shape := ⟨2, ![8192, 2848]⟩
abbrev S256 : Shape := ⟨1, ![256]⟩
abbrev S256x768 : Shape := ⟨2, ![256, 768]⟩
abbrev S8192x768 : Shape := ⟨2, ![8192, 768]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x256 : Shape := ⟨2, ![1, 256]⟩

abbrev nBuf : Space → Nat
  | .hbm => 54
  | .vmem => 0
  | .smem => 0
  | _ => 0

abbrev bufTy : (tb : Table) → Fin (tcTables nBuf tb) → BufTy
  | .hbm, ⟨0, _⟩ => ⟨S8192x2848, .f32⟩
  | .hbm, ⟨1, _⟩ => ⟨S256, .f32⟩
  | .hbm, ⟨2, _⟩ => ⟨S256x768, .f32⟩
  | .hbm, ⟨3, _⟩ => ⟨S8192x768, .f32⟩
  | .hbm, ⟨4, _⟩ => ⟨S8192x256, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x256, .f32⟩
  | .hbm, ⟨21, _⟩ => ⟨S8192x256, .f32⟩
  | .hbm, ⟨22, _⟩ => ⟨S1x256, .f32⟩
  | .hbm, ⟨23, _⟩ => ⟨S8192x256, .f32⟩
  | .hbm, ⟨24, _⟩ => ⟨S8192x256, .f32⟩
  | .hbm, ⟨25, _⟩ => ⟨S8192x768, .f32⟩
  | .hbm, ⟨26, _⟩ => ⟨S8192x256, .f32⟩
  | .hbm, ⟨27, _⟩ => ⟨S8192x256, .f32⟩
  | .hbm, ⟨28, _⟩ => ⟨S_, .f32⟩
  | .hbm, ⟨29, _⟩ => ⟨S256, .f32⟩
  | .hbm, ⟨30, _⟩ => ⟨S1x256, .f32⟩
  | .hbm, ⟨31, _⟩ => ⟨S8192x256, .f32⟩
  | .hbm, ⟨32, _⟩ => ⟨S8192x256, .f32⟩
  | .hbm, ⟨33, _⟩ => ⟨S_, .f32⟩
  | .hbm, ⟨34, _⟩ => ⟨S256, .f32⟩
  | .hbm, ⟨35, _⟩ => ⟨S8192x256, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x256, .f32⟩
  | .hbm, ⟨40, _⟩ => ⟨S8192x256, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x256, .f32⟩
  | .hbm, ⟨48, _⟩ => ⟨S8192x256, .f32⟩
  | .hbm, ⟨49, _⟩ => ⟨S8192x256, .f32⟩
  | .hbm, ⟨50, _⟩ => ⟨S8192x256, .f32⟩
  | .hbm, ⟨51, _⟩ => ⟨S8192x256, .f32⟩
  | .hbm, ⟨52, _⟩ => ⟨S8192x256, .bf16⟩
  | .hbm, ⟨53, _⟩ => ⟨S1x256, .f32⟩
  | _, _ => ⟨S8192x2848, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel13.lean ====
abbrev S8192x2848 : Shape := ⟨2, ![8192, 2848]⟩
abbrev S256 : Shape := ⟨1, ![256]⟩
abbrev S256x1024 : Shape := ⟨2, ![256, 1024]⟩
abbrev S8192x512 : Shape := ⟨2, ![8192, 512]⟩
abbrev S8192x256 : Shape := ⟨2, ![8192, 256]⟩
abbrev S256x8x128 : Shape := ⟨3, ![256, 8, 128]⟩
abbrev S256x8x64 : Shape := ⟨3, ![256, 8, 64]⟩
abbrev S256x512 : Shape := ⟨2, ![256, 512]⟩
abbrev S_ : Shape := ⟨0, ![]⟩
abbrev S8192x8x64 : Shape := ⟨3, ![8192, 8, 64]⟩
abbrev S8192x8x128 : Shape := ⟨3, ![8192, 8, 128]⟩
abbrev S8192x1024 : Shape := ⟨2, ![8192, 1024]⟩
abbrev S8192x2048 : Shape := ⟨2, ![8192, 2048]⟩
abbrev S8192x768 : Shape := ⟨2, ![8192, 768]⟩
abbrev S8192x32 : Shape := ⟨2, ![8192, 32]⟩
abbrev S8192x96 : Shape := ⟨2, ![8192, 96]⟩
abbrev S8192x2944 : Shape := ⟨2, ![8192, 2944]⟩
abbrev S1x256 : Shape := ⟨2, ![1, 256]⟩
abbrev S64x256 : Shape := ⟨2, ![64, 256]⟩
abbrev S1024x1024 : Shape := ⟨2, ![1024, 1024]⟩
abbrev S1024x256 : Shape := ⟨2, ![1024, 256]⟩
abbrev S8x256 : Shape := ⟨2, ![8, 256]⟩
abbrev S1024 : Shape := ⟨1, ![1024]⟩
abbrev S1024x1 : Shape := ⟨2, ![1024, 1]⟩
abbrev S8x8x256 : Shape := ⟨3, ![8, 8, 256]⟩
abbrev S8x1x256 : Shape := ⟨3, ![8, 1, 256]⟩

abbrev nBuf : Space → Nat
  | .hbm => 36
  | .vmem => 12
  | .smem => 0
  | _ => 0

abbrev bufTy : (tb : Table) → Fin (tcTables nBuf tb) → BufTy
  | .hbm, ⟨0, _⟩ => ⟨S8192x2848, .f32⟩
  | .hbm, ⟨1, _⟩ => ⟨S256, .f32⟩
  | .hbm, ⟨2, _⟩ => ⟨S256x1024, .f32⟩
  | .hbm, ⟨3, _⟩ => ⟨S8192x512, .f32⟩
  | .hbm, ⟨4, _⟩ => ⟨S8192x256, .f32⟩
  | .hbm, ⟨5, _⟩ => ⟨S256x8x128, .f32⟩
  | .hbm, ⟨6, _⟩ => ⟨S256x8x64, .f32⟩
  | .hbm, ⟨7, _⟩ => ⟨S256x512, .f32⟩
  | .hbm, ⟨8, _⟩ => ⟨S256x8x64, .f32⟩
  | .hbm, ⟨9, _⟩ => ⟨S_, .i32⟩
  | .hbm, ⟨10, _⟩ => ⟨S_, .f32⟩
  | .hbm, ⟨11, _⟩ => ⟨S256x8x128, .f32⟩
  | .hbm, ⟨12, _⟩ => ⟨S256x1024, .f32⟩
  | .hbm, ⟨13, _⟩ => ⟨S8192x8x64, .f32⟩
  | .hbm, ⟨14, _⟩ => ⟨S_, .i32⟩
  | .hbm, ⟨15, _⟩ => ⟨S_, .f32⟩
  | .hbm, ⟨16, _⟩ => ⟨S8192x8x128, .f32⟩
  | .hbm, ⟨17, _⟩ => ⟨S8192x1024, .f32⟩
  | .hbm, ⟨18, _⟩ => ⟨S8192x1024, .bf16⟩
  | .hbm, ⟨19, _⟩ => ⟨S256x1024, .bf16⟩
  | .hbm, ⟨20, _⟩ => ⟨S8192x2048, .f32⟩
  | .hbm, ⟨21, _⟩ => ⟨S8192x768, .f32⟩
  | .hbm, ⟨22, _⟩ => ⟨S8192x32, .f32⟩
  | .hbm, ⟨23, _⟩ => ⟨S_, .f32⟩
  | .hbm, ⟨24, _⟩ => ⟨S8192x96, .f32⟩
  | .hbm, ⟨25, _⟩ => ⟨S8192x2944, .f32⟩
  | .hbm, ⟨26, _⟩ => ⟨S8192x2944, .bf16⟩
  | .hbm, ⟨27, _⟩ => ⟨S1x256, .f32⟩
  | .hbm, ⟨28, _⟩ => ⟨S8192x256, .bf16⟩
  | .hbm, ⟨29, _⟩ => ⟨S64x256, .f32⟩
  | .hbm, ⟨30, _⟩ => ⟨S8x8x256, .f32⟩
  | .hbm, ⟨31, _⟩ => ⟨S8x1x256, .f32⟩
  | .hbm, ⟨32, _⟩ => ⟨S8x256, .f32⟩
  | .hbm, ⟨33, _⟩ => ⟨S_, .f32⟩
  | .hbm, ⟨34, _⟩ => ⟨S256, .f32⟩
  | .hbm, ⟨35, _⟩ => ⟨S1x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | .local _ .vmem, ⟨5, _⟩ => ⟨S1024x256, .bf16⟩
  | .local _ .vmem, ⟨6, _⟩ => ⟨S1024x256, .bf16⟩
  | .local _ .vmem, ⟨7, _⟩ => ⟨S1x256, .f32⟩
  | .local _ .vmem, ⟨8, _⟩ => ⟨S1024x256, .bf16⟩
  | .local _ .vmem, ⟨9, _⟩ => ⟨S1024x256, .bf16⟩
  | .local _ .vmem, ⟨10, _⟩ => ⟨S8x256, .f32⟩
  | .local _ .vmem, ⟨11, _⟩ => ⟨S8x256, .f32⟩
  | _, _ => ⟨S8192x2848, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== Reference13Ideal.lean ====
abbrev S8192x2848 : Shape := ⟨2, ![8192, 2848]⟩
abbrev S256 : Shape := ⟨1, ![256]⟩
abbrev S256x1024 : Shape := ⟨2, ![256, 1024]⟩
abbrev S8192x512 : Shape := ⟨2, ![8192, 512]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S8192x1024 : Shape := ⟨2, ![8192, 1024]⟩
abbrev S8192x8x128 : Shape := ⟨3, ![8192, 8, 128]⟩
abbrev S8192x8x64 : Shape := ⟨3, ![8192, 8, 64]⟩

abbrev nBuf : Space → Nat
  | .hbm => 63
  | .vmem => 0
  | .smem => 0
  | _ => 0

abbrev bufTy : (tb : Table) → Fin (tcTables nBuf tb) → BufTy
  | .hbm, ⟨0, _⟩ => ⟨S8192x2848, .f32⟩
  | .hbm, ⟨1, _⟩ => ⟨S256, .f32⟩
  | .hbm, ⟨2, _⟩ => ⟨S256x1024, .f32⟩
  | .hbm, ⟨3, _⟩ => ⟨S8192x512, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x256, .f32⟩
  | .hbm, ⟨22, _⟩ => ⟨S8192x256, .f32⟩
  | .hbm, ⟨23, _⟩ => ⟨S1x256, .f32⟩
  | .hbm, ⟨24, _⟩ => ⟨S8192x256, .f32⟩
  | .hbm, ⟨25, _⟩ => ⟨S8192x256, .f32⟩
  | .hbm, ⟨26, _⟩ => ⟨S8192x1024, .f32⟩
  | .hbm, ⟨27, _⟩ => ⟨S8192x8x128, .f32⟩
  | .hbm, ⟨28, _⟩ => ⟨S8192x8x64, .f32⟩
  | .hbm, ⟨29, _⟩ => ⟨S8192x512, .f32⟩
  | .hbm, ⟨30, _⟩ => ⟨S8192x8x64, .f32⟩
  | .hbm, ⟨31, _⟩ => ⟨S_, .f32⟩
  | .hbm, ⟨32, _⟩ => ⟨S8192x8x128, .f32⟩
  | .hbm, ⟨33, _⟩ => ⟨S8192x1024, .f32⟩
  | .hbm, ⟨34, _⟩ => ⟨S8192x256, .f32⟩
  | .hbm, ⟨35, _⟩ => ⟨S8192x256, .f32⟩
  | .hbm, ⟨36, _⟩ => ⟨S8192x256, .f32⟩
  | .hbm, ⟨37, _⟩ => ⟨S_, .f32⟩
  | .hbm, ⟨38, _⟩ => ⟨S256, .f32⟩
  | .hbm, ⟨39, _⟩ => ⟨S1x256, .f32⟩
  | .hbm, ⟨40, _⟩ => ⟨S8192x256, .f32⟩
  | .hbm, ⟨41, _⟩ => ⟨S8192x256, .f32⟩
  | .hbm, ⟨42, _⟩ => ⟨S_, .f32⟩
  | .hbm, ⟨43, _⟩ => ⟨S256, .f32⟩
  | .hbm, ⟨44, _⟩ => ⟨S8192x256, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x256, .f32⟩
  | .hbm, ⟨49, _⟩ => ⟨S8192x256, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x256, .f32⟩
  | .hbm, ⟨57, _⟩ => ⟨S8192x256, .f32⟩
  | .hbm, ⟨58, _⟩ => ⟨S8192x256, .f32⟩
  | .hbm, ⟨59, _⟩ => ⟨S8192x256, .f32⟩
  | .hbm, ⟨60, _⟩ => ⟨S8192x256, .f32⟩
  | .hbm, ⟨61, _⟩ => ⟨S8192x256, .bf16⟩
  | .hbm, ⟨62, _⟩ => ⟨S1x256, .f32⟩
  | _, _ => ⟨S8192x2848, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Kernel14.lean ====
abbrev S8192x1024 : Shape := ⟨2, ![8192, 1024]⟩
abbrev S256x1024 : Shape := ⟨2, ![256, 1024]⟩
abbrev S2048x1024 : Shape := ⟨2, ![2048, 1024]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S256x1024, .f32⟩
  | .hbm, ⟨3, _⟩ => ⟨S8192x1024, .bf16⟩
  | .hbm, ⟨4, _⟩ => ⟨S256x1024, .bf16⟩
  | .hbm, ⟨5, _⟩ => ⟨S256x1024, .bf16⟩
  | .hbm, ⟨6, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x1024, .bf16⟩
  | .local _ .vmem, ⟨5, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S8192x1024 : Shape := ⟨2, ![8192, 1024]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S256x1024, .f32⟩
  | .hbm, ⟨3, _⟩ => ⟨S8192x4x256, .f32⟩
  | .hbm, ⟨4, _⟩ => ⟨S256x4x256, .f32⟩
  | .hbm, ⟨5, _⟩ => ⟨S256x4x256, .f32⟩
  | .hbm, ⟨6, _⟩ => ⟨S4x8192x256, .f32⟩
  | .hbm, ⟨7, _⟩ => ⟨S_, .f32⟩
  | .hbm, ⟨8, _⟩ => ⟨S4x8192x256, .f32⟩
  | .hbm, ⟨9, _⟩ => ⟨S4x8192x256, .f32⟩
  | .hbm, ⟨10, _⟩ => ⟨S_, .f32⟩
  | .hbm, ⟨11, _⟩ => ⟨S4x8192, .f32⟩
  | .hbm, ⟨12, _⟩ => ⟨S_, .f32⟩
  | .hbm, ⟨13, _⟩ => ⟨S4x8192, .f32⟩
  | .hbm, ⟨14, _⟩ => ⟨S4x8192, .f32⟩
  | .hbm, ⟨15, _⟩ => ⟨S4x8192x1, .f32⟩
  | .hbm, ⟨16, _⟩ => ⟨S4x8192x256, .f32⟩
  | .hbm, ⟨17, _⟩ => ⟨S4x8192x256, .f32⟩
  | .hbm, ⟨18, _⟩ => ⟨S4x8192x256, .f32⟩
  | .hbm, ⟨19, _⟩ => ⟨S_, .f32⟩
  | .hbm, ⟨20, _⟩ => ⟨S4x8192, .f32⟩
  | .hbm, ⟨21, _⟩ => ⟨S4x8192x1, .f32⟩
  | .hbm, ⟨22, _⟩ => ⟨S4x8192x256, .f32⟩
  | .hbm, ⟨23, _⟩ => ⟨S4x8192x256, .f32⟩
  | .hbm, ⟨24, _⟩ => ⟨S4x256x8192, .f32⟩
  | .hbm, ⟨25, _⟩ => ⟨S8192x4x256, .f32⟩
  | .hbm, ⟨26, _⟩ => ⟨S8192x1024, .f32⟩
  | .hbm, ⟨27, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel15.lean ====
abbrev S8192x8x96 : Shape := ⟨3, ![8192, 8, 96]⟩
abbrev S8192x8x64 : Shape := ⟨3, ![8192, 8, 64]⟩
abbrev S36 : Shape := ⟨1, ![36]⟩
abbrev S_ : Shape := ⟨0, ![]⟩
abbrev S8192x8x128 : Shape := ⟨3, ![8192, 8, 128]⟩
abbrev S8192x1024 : Shape := ⟨2, ![8192, 1024]⟩
abbrev S8x1x8192 : Shape := ⟨3, ![8, 1, 8192]⟩
abbrev S1024x1024 : Shape := ⟨2, ![1024, 1024]⟩
abbrev S1 : Shape := ⟨1, ![1]⟩
abbrev S8x1x1024 : Shape := ⟨3, ![8, 1, 1024]⟩
abbrev S8x1024x128 : Shape := ⟨3, ![8, 1024, 128]⟩
abbrev S1024x128 : Shape := ⟨2, ![1024, 128]⟩
abbrev S1x1024x128 : Shape := ⟨3, ![1, 1024, 128]⟩
abbrev S1024 : Shape := ⟨1, ![1024]⟩
abbrev S1024x1 : Shape := ⟨2, ![1024, 1]⟩
abbrev S128x1024 : Shape := ⟨2, ![128, 1024]⟩
abbrev S1x1024 : Shape := ⟨2, ![1, 1024]⟩
abbrev S1x1x1024 : Shape := ⟨3, ![1, 1, 1024]⟩

abbrev nBuf : Space → Nat
  | .hbm => 24
  | .vmem => 13
  | .smem => 2
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S_, .f32⟩
  | .hbm, ⟨4, _⟩ => ⟨S8192x8x128, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .bf16⟩
  | .hbm, ⟨14, _⟩ => ⟨S_, .f32⟩
  | .hbm, ⟨15, _⟩ => ⟨S8192x8x128, .f32⟩
  | .hbm, ⟨16, _⟩ => ⟨S8192x1024, .f32⟩
  | .hbm, ⟨17, _⟩ => ⟨S8192x1024, .bf16⟩
  | .hbm, ⟨18, _⟩ => ⟨S_, .f32⟩
  | .hbm, ⟨19, _⟩ => ⟨S8192x8x128, .f32⟩
  | .hbm, ⟨20, _⟩ => ⟨S8192x1024, .f32⟩
  | .hbm, ⟨21, _⟩ => ⟨S8192x1024, .bf16⟩
  | .hbm, ⟨22, _⟩ => ⟨S8192x1024, .f32⟩
  | .hbm, ⟨23, _⟩ => ⟨S8x1x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S8x1x1024, .f32⟩
  | .local _ .vmem, ⟨9, _⟩ => ⟨S8x1x1024, .f32⟩
  | .local _ .vmem, ⟨10, _⟩ => ⟨S8x1024x128, .f32⟩
  | .local _ .vmem, ⟨11, _⟩ => ⟨S8x1024x128, .f32⟩
  | .local _ .vmem, ⟨12, _⟩ => ⟨S8x1024x128, .f32⟩
  | .local _ .smem, ⟨0, _⟩ => ⟨S36, .i32⟩
  | .local _ .smem, ⟨1, _⟩ => ⟨S36, .i32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel15Ideal.lean ====
variable {F : FTy → Type} [FloatOps F] [Named F]
def κ : String → Option EReal := fun
  | "ln2" => some ((Real.log 2 : ℝ) : EReal)
  | "log2e" => some (((Real.log 2)⁻¹ : ℝ) : EReal)
  | "mask" => some ⊥
  | _ => none
-- ==== Reference15Ideal.lean ====
abbrev S8192x8x96 : Shape := ⟨3, ![8192, 8, 96]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8192x8x128 : Shape := ⟨3, ![8192, 8, 128]⟩
abbrev S8192x1024 : Shape := ⟨2, ![8192, 1024]⟩
abbrev S8x1x8192 : Shape := ⟨3, ![8, 1, 8192]⟩

abbrev nBuf : Space → Nat
  | .hbm => 48
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8x8192x8192, .f32⟩
  | .hbm, ⟨4, _⟩ => ⟨S_, .f32⟩
  | .hbm, ⟨5, _⟩ => ⟨S8x8192x8192, .f32⟩
  | .hbm, ⟨6, _⟩ => ⟨S8x8192x8192, .f32⟩
  | .hbm, ⟨7, _⟩ => ⟨S8192, .i32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S_, .f32⟩
  | .hbm, ⟨14, _⟩ => ⟨S_, .f32⟩
  | .hbm, ⟨15, _⟩ => ⟨S8x8192x8192, .i1⟩
  | .hbm, ⟨16, _⟩ => ⟨S8x8192x8192, .f32⟩
  | .hbm, ⟨17, _⟩ => ⟨S8x8192x8192, .f32⟩
  | .hbm, ⟨18, _⟩ => ⟨S_, .f32⟩
  | .hbm, ⟨19, _⟩ => ⟨S8x8192, .f32⟩
  | .hbm, ⟨20, _⟩ => ⟨S_, .f32⟩
  | .hbm, ⟨21, _⟩ => ⟨S8x8192, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x8192, .f32⟩
  | .hbm, ⟨31, _⟩ => ⟨S8x8192x8192, .f32⟩
  | .hbm, ⟨32, _⟩ => ⟨S8x64x8192, .f32⟩
  | .hbm, ⟨33, _⟩ => ⟨S8192x8x64, .f32⟩
  | .hbm, ⟨34, _⟩ => ⟨S_, .f32⟩
  | .hbm, ⟨35, _⟩ => ⟨S8192x8x128, .f32⟩
  | .hbm, ⟨36, _⟩ => ⟨S8192x1024, .f32⟩
  | .hbm, ⟨37, _⟩ => ⟨S_, .f32⟩
  | .hbm, ⟨38, _⟩ => ⟨S8x8192, .f32⟩
  | .hbm, ⟨39, _⟩ => ⟨S8x8192x1, .f32⟩
  | .hbm, ⟨40, _⟩ => ⟨S8x8192x8192, .f32⟩
  | .hbm, ⟨41, _⟩ => ⟨S8x8192x8192, .f32⟩
  | .hbm, ⟨42, _⟩ => ⟨S8x8192x8192, .f32⟩
  | .hbm, ⟨43, _⟩ => ⟨S_, .f32⟩
  | .hbm, ⟨44, _⟩ => ⟨S8x8192, .f32⟩
  | .hbm, ⟨45, _⟩ => ⟨S8x8192, .f32⟩
  | .hbm, ⟨46, _⟩ => ⟨S8x8192, .f32⟩
  | .hbm, ⟨47, _⟩ => ⟨S8x1x8192, .f32⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S8192x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference16Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel17.lean ====
abbrev S8192x8x64 : Shape := ⟨3, ![8192, 8, 64]⟩
abbrev S512x1024 : Shape := ⟨2, ![512, 1024]⟩
abbrev S8192x2848 : Shape := ⟨2, ![8192, 2848]⟩
abbrev S8192x2048 : Shape := ⟨2, ![8192, 2048]⟩
abbrev S8x64x1024 : Shape := ⟨3, ![8, 64, 1024]⟩
abbrev S_ : Shape := ⟨0, ![]⟩
abbrev S8x128x1024 : Shape := ⟨3, ![8, 128, 1024]⟩
abbrev S1024x1024 : Shape := ⟨2, ![1024, 1024]⟩
abbrev S8192x768 : Shape := ⟨2, ![8192, 768]⟩
abbrev S8192x32 : Shape := ⟨2, ![8192, 32]⟩
abbrev S8192x96 : Shape := ⟨2, ![8192, 96]⟩
abbrev S8192x2944 : Shape := ⟨2, ![8192, 2944]⟩
abbrev S8192x8x128 : Shape := ⟨3, ![8192, 8, 128]⟩
abbrev S8192x1024 : Shape := ⟨2, ![8192, 1024]⟩

abbrev nBuf : Space → Nat
  | .hbm => 23
  | .vmem => 15
  | .smem => 0
  | _ => 0

abbrev bufTy : (tb : Table) → Fin (tcTables nBuf tb) → BufTy
  | .hbm, ⟨0, _⟩ => ⟨S8192x8x64, .f32⟩
  | .hbm, ⟨1, _⟩ => ⟨S512x1024, .f32⟩
  | .hbm, ⟨2, _⟩ => ⟨S8192x2848, .f32⟩
  | .hbm, ⟨3, _⟩ => ⟨S8192x2048, .f32⟩
  | .hbm, ⟨4, _⟩ => ⟨S8x64x1024, .f32⟩
  | .hbm, ⟨5, _⟩ => ⟨S_, .i32⟩
  | .hbm, ⟨6, _⟩ => ⟨S_, .f32⟩
  | .hbm, ⟨7, _⟩ => ⟨S8x128x1024, .f32⟩
  | .hbm, ⟨8, _⟩ => ⟨S1024x1024, .f32⟩
  | .hbm, ⟨9, _⟩ => ⟨S8192x2048, .f32⟩
  | .hbm, ⟨10, _⟩ => ⟨S8192x768, .f32⟩
  | .hbm, ⟨11, _⟩ => ⟨S8192x32, .f32⟩
  | .hbm, ⟨12, _⟩ => ⟨S_, .f32⟩
  | .hbm, ⟨13, _⟩ => ⟨S8192x96, .f32⟩
  | .hbm, ⟨14, _⟩ => ⟨S8192x2944, .f32⟩
  | .hbm, ⟨15, _⟩ => ⟨S8192x2944, .bf16⟩
  | .hbm, ⟨16, _⟩ => ⟨S8192x2048, .bf16⟩
  | .hbm, ⟨17, _⟩ => ⟨S_, .f32⟩
  | .hbm, ⟨18, _⟩ => ⟨S8192x8x128, .f32⟩
  | .hbm, ⟨19, _⟩ => ⟨S8192x1024, .f32⟩
  | .hbm, ⟨20, _⟩ => ⟨S1024x1024, .bf16⟩
  | .hbm, ⟨21, _⟩ => ⟨S8192x1024, .bf16⟩
  | .hbm, ⟨22, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference17Ideal.lean ====
abbrev S8192x8x64 : Shape := ⟨3, ![8192, 8, 64]⟩
abbrev S512x1024 : Shape := ⟨2, ![512, 1024]⟩
abbrev S8192x2848 : Shape := ⟨2, ![8192, 2848]⟩
abbrev S8192x2048 : Shape := ⟨2, ![8192, 2048]⟩
abbrev S8192x1024 : Shape := ⟨2, ![8192, 1024]⟩
abbrev S_ : Shape := ⟨0, ![]⟩
abbrev S8192x512 : Shape := ⟨2, ![8192, 512]⟩

abbrev nBuf : Space → Nat
  | .hbm => 40
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S512x1024, .f32⟩
  | .hbm, ⟨2, _⟩ => ⟨S8192x2848, .f32⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x512, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .bf16⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Proof.Relu.Value.lean ====
/- The gradient of the squared rectifier times the down projection: the array the call leaves. -/
module

public import proofs.«01_k».proof.Proof.Gen.KernelIdeal.Frame
public import proofs.«01_k».proof.Proof.Gen.ReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Relu

open Cert.KernelIdeal Cert.KernelIdeal.Gen

variable (m : (ℓ : Loc nD τ sig) → Buf (Elt Ideal) ℓ)

/-- The gradient, element by element: zero where the rectifier is flat, else the cotangent carried back through the
    projection times twice the rectified value. -/
def grad (a : FVec Ideal S8192x4096 .f32) (w : FVec Ideal S4096x1024 .f32) (ct : FVec Ideal S8192x1024 .f32) :
    FVec Ideal S8192x4096 .bf16 :=
  fun i => (∑ k : Fin 1024, ct (ix2 (i 0) k) * w (ix2 (i 1) k)) * (((2 : ℝ) : EReal) * max (a i) 0)

/-- Which blocks a grid point works on. -/
theorem idx : ∀ t : Fin cfg0.N, win0_0.index t = ![t.val / 2, 0] ∧ win0_1.index t = ![t.val % 2, 0]
    ∧ win0_2.index t = ![t.val / 2, t.val % 2] ∧ win0_3.index t = ![t.val / 2, t.val % 2] :=
  (by decide +kernel : ∀ t : Fin grid0.N, _)

/-- The constant two, at the format the kernel multiplies in and at the reference's. -/
theorem two_bf16 : Ideal.ofBits .bf16 0x4000#16 = ((2 : ℝ) : EReal) := by
  simp [Ideal.ofBits, Ideal.ieee, -EReal.coe_mul]; norm_num

theorem two_f32 : Ideal.ofBits .f32 0x40000000#32 = ((2 : ℝ) : EReal) := by
  simp [Ideal.ofBits, Ideal.ieee, -EReal.coe_mul]; norm_num

/-- What the body stores, at an index of its block. -/
theorem payload (x : FVec Ideal S1024x1024 .f32) (w : FVec Ideal S2048x1024 .bf16) (a : FVec Ideal S1024x2048 .bf16)
    (r : Fin 1024) (l : Fin 2048) : k0_pay1 (F := Ideal) x w a (ix2 r l)
      = (∑ k : Fin 1024, x (ix2 r k) * w (ix2 l k)) * (((2 : ℝ) : EReal) * max (a (ix2 r l)) 0) := by
  pointwise [k0_pay1, two_bf16]

theorem point (c : Dev nD) (t : Fin cfg0.N) (y) : k0_pay1 (iblk m c 0 t) (iblk m c 1 t) (iblk m c 2 t) y
    = grad (m ((c : Thread nD τ).loc main_arg0)) (m ((c : Thread nD τ).loc main_arg1))
        (m ((c : Thread nD τ).loc main_arg2)) (((cfg0.win 3).blk t).view.emb y) := by
  idx_vars y
  refine (payload _ _ _ _ _).trans ?_
  pointwise [grad]
  blk_point [iblk, V, idx t]

theorem final (c : Dev nD) : (dats m 0 c).arrAt 3 (cfgs 0).N
    = grad (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

end Cert.KernelIdeal.Relu

namespace Cert.ReferenceIdeal.Relu

open Cert.ReferenceIdeal

/-- The reference's derivative is the same array. -/
theorem reference (a : FVec Ideal S8192x4096 .f32) (w : FVec Ideal S4096x1024 .f32) (ct : FVec Ideal S8192x1024 .f32) :
    (truncf .bf16 (select (cmpf .ogt a (broadcastInDim S8192x4096 ![] Gen.bcast_S_S8192x4096 (constant S_ .f32 0x00000000#32)))
      (mulf (Host.dotGeneral dot_S8192x1024_S4096x1024_S8192x4096_1_1_0_0_n_n none ct w)
        (mulf (broadcastInDim S8192x4096 ![] Gen.bcast_S_S8192x4096 (constant S_ .f32 0x40000000#32))
          (maximumf a (broadcastInDim S8192x4096 ![] Gen.bcast_S_S8192x4096 (constant S_ .f32 0x00000000#32)))))
      (broadcastInDim S8192x4096 ![] Gen.bcast_S_S8192x4096 (constant S_ .f32 0x00000000#32))) Gen.bitsLt_bf16_f32
      : FVec Ideal S8192x4096 .bf16) = Cert.KernelIdeal.Relu.grad a w ct := by
  funext i
  idx_vars i
  pointwise [Cert.KernelIdeal.Relu.grad, Cert.KernelIdeal.Relu.two_f32]
  split_ifs with h
  · rfl
  · rw [max_eq_right (not_lt.mp h), mul_zero, mul_zero]

end Cert.ReferenceIdeal.Relu

end
-- ==== Proof.Attn.Sched.lean ====
/- The order in which the attention's backward kernel visits its blocks: at its `n`-th step the block of queries
   `row n` against the block of keys `col n`, read from the two tables of words the host code hands it. -/
module

public import proofs.«01_k».proof.Proof.Gen.Kernel2Ideal.Launch

@[expose] public section

set_option maxRecDepth 16384

noncomputable section

namespace Cert.Kernel2Ideal.Attn

open Cert.Kernel2Ideal Cert.Kernel2Ideal.Gen
open Idealize.ShloMosaic Idealize.ShloMosaic.TcCoe

variable {F : FTy → Type} [FloatOps F] [Named F]

/-- The block of queries of step `n`, -/
def row (n : Fin 136) : Fin 16 := ⟨(lit0 n).toNat % 16, Nat.mod_lt _ (by decide)⟩
/-- and its block of keys. -/
def col (n : Fin 136) : Fin 16 := ⟨(lit1 n).toNat % 16, Nat.mod_lt _ (by decide)⟩

theorem lit0_eq : ∀ n : Fin 136, lit0 n = BitVec.ofNat 32 (row n).val := by decide +kernel
theorem lit1_eq : ∀ n : Fin 136, lit1 n = BitVec.ofNat 32 (col n).val := by decide +kernel

/-- The two tables' contents. -/
def tables : pre0.Contents (Elt F) := fun
  | 0 => fun i => lit0 (S136.rowMajor i)
  | 1 => fun i => lit1 (S136.rowMajor i)
  | ⟨_ + 2, h⟩ => absurd h (by simp)

/-- A point of the grid as the number of its step. -/
def pt (i : grid0.Coords) : Fin 136 := ⟨(i 1).val, (i 1).isLt⟩

theorem rowMajor_S136 (i : S136.Idx) : S136.rowMajor i = ⟨(i 0).val, (i 0).isLt⟩ := by
  apply Fin.ext
  exact Shape.rowMajor_val_one i

/-- The place in a table that a point's load reads. -/
theorem rowMajor_off (i : grid0.Coords) (x : S136.Idx) (h : (x 0).val = k0_off1 i 0) : S136.rowMajor x = pt i := by
  rw [rowMajor_S136]
  apply Fin.ext
  refine h.trans ?_
  have hi : (i 1).val < 136 := (i 1).isLt
  show (BitVec.ofNat 32 (i 1).val).toNat = (i 1).val
  rw [BitVec.toNat_ofNat]
  omega

/-- The words a point reads from the two tables. -/
theorem tables_at0 (i : grid0.Coords) (h) : (tables (F := F)).at 0 (Rect.unit (s := S136) (k0_off1 i) S1.size (k0_off1_inb i)) h = BitVec.ofNat 32 (row (pt i)).val :=
  (congrArg lit0 (rowMajor_off i _ (Nat.add_zero _))).trans (lit0_eq _)
theorem tables_at1 (i : grid0.Coords) (h) : (tables (F := F)).at 1 (Rect.unit (s := S136) (k0_off1 i) S1.size (k0_off1_inb i)) h = BitVec.ofNat 32 (col (pt i)).val :=
  (congrArg lit1 (rowMajor_off i _ (Nat.add_zero _))).trans (lit1_eq _)
theorem tables_atD0 (i : grid0.Coords) : (tables (F := F)).atD 0 (k0_off1 i) = BitVec.ofNat 32 (row (pt i)).val := by
  unfold Pipeline.Prefetch.Contents.atD
  split
  · exact (congrArg lit0 (rowMajor_off i _ rfl)).trans (lit0_eq _)
  · next hn => exact absurd (fun a => by fin_cases a; exact k0_off1_inb i 0) hn
theorem tables_atD1 (i : grid0.Coords) : (tables (F := F)).atD 1 (k0_off1 i) = BitVec.ofNat 32 (col (pt i)).val := by
  unfold Pipeline.Prefetch.Contents.atD
  split
  · exact (congrArg lit1 (rowMajor_off i _ rfl)).trans (lit1_eq _)
  · next hn => exact absurd (fun a => by fin_cases a; exact k0_off1_inb i 0) hn

/-! ## The blocks the windows take at a point -/

theorem pt_axis0 (i : grid0.Coords) : (i 0).val = 0 := by
  have : (i 0).val < 1 := (i 0).isLt
  omega

theorem toNat_block (b : Fin 16) : (BitVec.ofNat 32 b.val).toNat = b.val := by
  rw [BitVec.toNat_ofNat]; have := b.isLt; omega

theorem ix_rows (i : grid0.Coords) (w : BitVec 32) (b : Fin 16) (e : w = BitVec.ofNat 32 b.val) :
    (![w.toNat, (BitVec.ofNat 32 (i 0).val).toNat] : Fin 2 → ℕ) = ![b.val, 0] := by
  rw [e, toNat_block, pt_axis0]; rfl
theorem ix_lanes (i : grid0.Coords) (w : BitVec 32) (b : Fin 16) (e : w = BitVec.ofNat 32 b.val) :
    (![(BitVec.ofNat 32 (i 0).val).toNat, (0#32).toNat, w.toNat] : Fin 3 → ℕ) = ![0, 0, b.val] := by
  rw [e, toNat_block, pt_axis0]; rfl

/-- The queries, the cotangent and their two rows of sums take block `row`, -/
theorem ix_0 (i : grid0.Coords) : cc0_transform_0 k0_off1_inb numel1_S1 (tables (F := F)) i = ![(row (pt i)).val, 0] := ix_rows i _ _ (tables_at0 i _)
theorem ix_3 (i : grid0.Coords) : cc0_transform_3 k0_off1_inb numel1_S1 (tables (F := F)) i = ![(row (pt i)).val, 0] := ix_rows i _ _ (tables_at0 i _)
theorem ix_4 (i : grid0.Coords) : cc0_transform_4 k0_off1_inb numel1_S1 (tables (F := F)) i = ![0, 0, (row (pt i)).val] := ix_lanes i _ _ (tables_at0 i _)
theorem ix_5 (i : grid0.Coords) : cc0_transform_5 k0_off1_inb numel1_S1 (tables (F := F)) i = ![0, 0, (row (pt i)).val] := ix_lanes i _ _ (tables_at0 i _)
/-- the keys, the values and their gradients block `col`. -/
theorem ix_1 (i : grid0.Coords) : cc0_transform_1 k0_off1_inb numel1_S1 (tables (F := F)) i = ![(col (pt i)).val, 0] := ix_rows i _ _ (tables_at1 i _)
theorem ix_2 (i : grid0.Coords) : cc0_transform_2 k0_off1_inb numel1_S1 (tables (F := F)) i = ![(col (pt i)).val, 0] := ix_rows i _ _ (tables_at1 i _)
theorem ix_7 (i : grid0.Coords) : cc0_transform_7 k0_off1_inb numel1_S1 (tables (F := F)) i = ![(col (pt i)).val, 0] := ix_rows i _ _ (tables_at1 i _)
theorem ix_8 (i : grid0.Coords) : cc0_transform_8 k0_off1_inb numel1_S1 (tables (F := F)) i = ![(col (pt i)).val, 0] := ix_rows i _ _ (tables_at1 i _)

theorem rows_in (ix : Fin 2 → ℕ) (b : Fin 16) (e : ix = ![b.val, 0]) : ∀ a, (ix a + 1) * S512x1024.size a ≤ S8192x1024.size a := by
  subst e; revert b; decide
theorem lanes_in (ix : Fin 3 → ℕ) (b : Fin 16) (e : ix = ![0, 0, b.val]) : ∀ a, (ix a + 1) * S8x1x512.size a ≤ S8x1x8192.size a := by
  subst e; revert b; decide
theorem rows_words (ix : Fin 2 → ℕ) (b : Fin 16) (e : ix = ![b.val, 0]) (h) :
    (Rect.block (s := S8192x1024) S512x1024.size ix h).WholeWords (EltTy.packing .bf16) := by
  subst e; revert b; decide

/-- At these tables every window's block lies in its array. -/
theorem tables_ok : ok0 (F := F) tables :=
  ⟨fun i => ⟨rows_in _ _ (ix_0 i), .inr (rows_words _ _ (ix_0 i) _)⟩, fun i => ⟨rows_in _ _ (ix_1 i), .inr (rows_words _ _ (ix_1 i) _)⟩,
    fun i => ⟨rows_in _ _ (ix_2 i), .inr (rows_words _ _ (ix_2 i) _)⟩, fun i => ⟨rows_in _ _ (ix_3 i), .inr (rows_words _ _ (ix_3 i) _)⟩,
    fun i => ⟨lanes_in _ _ (ix_4 i), .inl rfl⟩, fun i => ⟨lanes_in _ _ (ix_5 i), .inl rfl⟩,
    fun i => ⟨rows_in _ _ (ix_7 i), .inl rfl⟩, fun i => ⟨rows_in _ _ (ix_8 i), .inl rfl⟩⟩

/-- The tables as the pipeline takes them, -/
def adm : (pcfg0 (F := F)).Adm := ⟨tables, tables_ok⟩
/-- and the pipeline there. -/
abbrev cfgA : Pipeline.Cfg sig Λ₀ := cfg0 (F := F) adm

/-! ## The conditions the body tests at a point -/

/-- The words of block numbers. -/
abbrev wd (b : Fin 16) : BitVec 32 := BitVec.ofNat 32 b.val

theorem cond2_iff : ∀ a b : Fin 16, k0_cond2 (wd a) (wd b) = 1#1 ↔ a = b := by decide +kernel
theorem cond3_iff : ∀ a b : Fin 16, k0_cond3 (wd a) (wd b) = 1#1 ↔ b < a := by decide +kernel
theorem cond4_iff : ∀ a b : Fin 16, k0_cond4 (wd a) (wd b) = 1#1 ↔ a = b := by decide +kernel
theorem cond5_iff : ∀ a : Fin 16, k0_cond5 (wd a) = 1#1 ↔ a = 15 := by decide +kernel
theorem chk1_of : ∀ a b : Fin 16, k0_chk1 (wd a) (wd b) := by decide +kernel
theorem off_of : ∀ a : Fin 16, (Scalar.indexCast (Scalar.muli (wd a) 512#32)).toNat = 512 * a.val := by decide +kernel
theorem cond1_iff (i : grid0.Coords) : k0_cond1 i = 1#1 ↔ pt i = 0 := by
  have h : ∀ n : Fin 136, Scalar.cmpi .ne (Scalar.extui (Scalar.cmpi .eq (BitVec.ofNat 32 n.val) 0#32) : BitVec 32) 0#32 = 1#1 ↔ n = 0 := by decide +kernel
  exact h (pt i)
theorem cond6_iff (i : grid0.Coords) : k0_cond6 i = 1#1 ↔ pt i = 135 := by
  have h : ∀ n : Fin 136, Scalar.cmpi .ne (Scalar.extui (Scalar.cmpi .eq (BitVec.ofNat 32 n.val) 135#32) : BitVec 32) 0#32 = 1#1 ↔ n = 135 := by decide +kernel
  exact h (pt i)

/-! ## The order of the steps -/

theorem col_le_row : ∀ n : Fin 136, col n ≤ row n := by decide +kernel
theorem row_zero : row 0 = 0 ∧ col 0 = 0 := by decide +kernel
theorem row_last : ∀ n : Fin 136, n = 135 → row n = 15 ∧ col n = 15 := by decide +kernel
/-- The steps of one block of keys follow each other, from its diagonal on. -/
theorem step_succ : ∀ n : Fin 135, (row n.castSucc = 15 ∧ row n.succ = col n.succ ∧ col n.succ ≠ col n.castSucc)
    ∨ (row n.castSucc ≠ 15 ∧ row n.succ ≠ col n.succ ∧ col n.succ = col n.castSucc ∧ (row n.succ).val = (row n.castSucc).val + 1) := by decide +kernel

end Cert.Kernel2Ideal.Attn

end
-- ==== Proof.Attn.Step.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.WritesUnit
public import Idealize.ShloMosaic.Lib.Ring

/-!
# What one point of the attention's backward kernel computes

A point of the grid handles one block of 512 queries against one block of 512 keys, eight heads of 128 lanes each. This
module names, head by head, the tiles the body stores, and the three result blocks it leaves.
-/

@[expose] public section

set_option maxRecDepth 16384

noncomputable section

namespace Cert.Kernel2Ideal.Attn

open Cert.Kernel2Ideal Cert.Kernel2Ideal.Gen
open Idealize.ShloMosaic Idealize.ShloMosaic.TcCoe Idealize.ShloMosaic.Tactic

variable {F : FTy → Type}

/-! ## Tiles -/

theorem tile_inb (h : Fin 8) : ∀ a, (![0, 128 * h.val] : Fin 2 → ℕ) a + S512x128.size a ≤ S512x1024.size a := by
  revert h; decide +kernel

theorem rows_inb (o : Fin 16) (h : Fin 8) : ∀ a, (![512 * o.val, 128 * h.val] : Fin 2 → ℕ) a + S512x128.size a ≤ S8192x1024.size a := by
  revert o h; decide +kernel

theorem row_inb (h : Fin 8) : ∀ a, (![h.val, 0, 0] : Fin 3 → ℕ) a + S1x1x512.size a ≤ S8x1x512.size a := by
  revert h; decide +kernel

/-- Head `h`'s lanes of a block of 512 rows. -/
def hd {e : EltTy} (x : Vec F S512x1024 e) (h : Fin 8) : Vec F S512x128 e :=
  View.ld x (Rect.unit (s := S512x1024) ![0, 128 * h.val] S512x128.size (tile_inb h))

/-- Head `h`'s lanes of the 512 rows of block `o`. -/
def hdRows {e : EltTy} (x : Vec F S8192x1024 e) (o : Fin 16) (h : Fin 8) : Vec F S512x128 e :=
  View.ld x (Rect.unit (s := S8192x1024) ![512 * o.val, 128 * h.val] S512x128.size (rows_inb o h))

/-- Head `h`'s row of the statistics. -/
def hdRow {e : EltTy} (x : Vec F S8x1x512 e) (h : Fin 8) : Vec F S1x1x512 e :=
  View.ld x (Rect.unit (s := S8x1x512) ![h.val, 0, 0] S1x1x512.size (row_inb h))

/-- The head of a column. -/
def headOf (n : ℕ) (hn : n < 1024) : Fin 8 := ⟨n / 128, by omega⟩

/-- An index of a head's tile. -/
def ix2 (a : Fin 512) (b : Fin 128) : S512x128.Idx := fun i => match i with
  | 0 => a
  | 1 => b

/-- The tiles of the eight heads side by side. -/
def tiles {e : EltTy} (new : Fin 8 → Vec F S512x128 e) : Vec F S512x1024 e := fun y =>
  new (headOf (y 1).val (y 1).isLt) (ix2 ⟨(y 0).val, (y 0).isLt⟩ ⟨(y 1).val % 128, Nat.mod_lt _ (by decide)⟩)

/-- The tiles of the eight heads in the rows of block `o`, the rest of `old` kept. -/
def tileRows {e : EltTy} (o : Fin 16) (new : Fin 8 → Vec F S512x128 e) (old : Vec F S8192x1024 e) : Vec F S8192x1024 e := fun y =>
  if hr : 512 * o.val ≤ (y 0).val ∧ (y 0).val < 512 * o.val + 512 then
    new (headOf (y 1).val (y 1).isLt) (ix2 ⟨(y 0).val - 512 * o.val, by omega⟩ ⟨(y 1).val % 128, Nat.mod_lt _ (by decide)⟩)
  else old y

/-! ## One head -/

section Head

variable [FloatOps F] [Named F]

/-- The weights of a head, transposed (keys down, queries across): without the mask, or with it on the diagonal block. -/
def ptH (b : Bool) (q k : Vec F S512x128 .bf16) (l : Vec F S1x1x512 .f32) : FVec F S512x512 .f32 :=
  match b with
  | true => k0_pay84 q k l
  | false => k0_pay13 q k l

/-- The gradient of the scores of a head, transposed. -/
def dsH (b : Bool) (q k v g : Vec F S512x128 .bf16) (l d : Vec F S1x1x512 .f32) : FVec F S512x512 .bf16 :=
  match b with
  | true => k0_pay87 (k0_pay86 q k g l v d)
  | false => k0_pay15 q k g l v d

/-- A head's tile of the gradient of the values, one block of queries added. -/
def dvH (b : Bool) (q k g : Vec F S512x128 .bf16) (l : Vec F S1x1x512 .f32) (acc : Vec F S512x128 .f32) : Vec F S512x128 .f32 :=
  match b with
  | true => k0_pay85 q k g l acc
  | false => k0_pay14 q k g l acc

/-- A head's tile of the gradient of the keys, one block of queries added. -/
def dkH (b : Bool) (q k v g : Vec F S512x128 .bf16) (l d : Vec F S1x1x512 .f32) (acc : Vec F S512x128 .f32) : Vec F S512x128 .f32 :=
  k0_pay17 (k0_pay10 q) (dsH b q k v g l d) (k0_pay16 acc) (constant S512x128 .f32 0x00000000#32)

/-- A head's tile of the gradient of the queries, one block of keys added. -/
def dqH (b : Bool) (q k v g : Vec F S512x128 .bf16) (l d : Vec F S1x1x512 .f32) (acc : Vec F S512x128 .f32) : Vec F S512x128 .f32 :=
  k0_pay18 (k0_pay11 k) (dsH b q k v g l d) acc

/-! ## One point -/

variable (q k v g : Vec F S512x1024 .bf16) (l d : Vec F S8x1x512 .f32)

/-- The gradient of the values after a point: zeroed first on the diagonal block. -/
def dvStep (b : Bool) (acc : Vec F S512x1024 .f32) : Vec F S512x1024 .f32 :=
  tiles fun h => dvH b (hd q h) (hd k h) (hd g h) (hdRow l h) (hd acc h)

/-- The gradient of the keys after a point, before the last scale. -/
def dkStep (b : Bool) (acc : Vec F S512x1024 .f32) : Vec F S512x1024 .f32 :=
  tiles fun h => dkH b (hd q h) (hd k h) (hd v h) (hd g h) (hdRow l h) (hdRow d h) (hd acc h)

/-- The gradient of the queries after a point, before the last scale. -/
def dqStep (b : Bool) (o : Fin 16) (acc : Vec F S8192x1024 .f32) : Vec F S8192x1024 .f32 :=
  tileRows o (fun h => dqH b (hd q h) (hd k h) (hd v h) (hd g h) (hdRow l h) (hdRow d h) (hdRows acc o h)) acc

end Head

/-! ## Eight stores one after another -/

section Stack

variable {sig : RefSig} {κ : Kind} {sp : Space} {e : EltTy} {Val : EltTy → Type} {N : ℕ}

/-- The stores of the first `n` heads on top of `L₀`, newest first; each payload may read what is below it. -/
def stack {s : Shape} (R : Fin 8 → Rect s) (pl : (h : Fin 8) → List (View.Piece Val s e) → (R h).shape.Idx → Val e)
    (L₀ : List (View.Piece Val s e)) : (n : ℕ) → n ≤ 8 → List (View.Piece Val s e)
  | 0, _ => L₀
  | n + 1, hn => ⟨R ⟨n, hn⟩, pl ⟨n, hn⟩ (stack R pl L₀ n (Nat.le_of_succ_le hn))⟩ :: stack R pl L₀ n (Nat.le_of_succ_le hn)

/-- Reading back the eight stores, each at rows `[o, o + 512)` of its head's columns. -/
theorem read_stack (v : View sig κ sp (⟨2, ![N, 1024]⟩ : Shape) e) (off : Fin 8 → Fin 2 → ℕ) (o : ℕ)
    (inb : ∀ h a, off h a + S512x128.size a ≤ (⟨2, ![N, 1024]⟩ : Shape).size a) (heq : ∀ h, off h = ![o, 128 * h.val])
    (pl : (h : Fin 8) → List (View.Piece Val (⟨2, ![N, 1024]⟩ : Shape) e) → S512x128.Idx → Val e)
    (L₀ : List (View.Piece Val (⟨2, ![N, 1024]⟩ : Shape) e)) (fs : v.ty.Contents Val → Prop)
    (old : (⟨2, ![N, 1024]⟩ : Shape).Idx → Val e) (new : Fin 8 → S512x128.Idx → Val e)
    (h0 : ∀ f, fs f → ∀ y, v.read Val (v.writes Val f L₀) y = old y)
    (hpl : ∀ h L, (∀ f, fs f → ∀ y : (⟨2, ![N, 1024]⟩ : Shape).Idx, 128 * h.val ≤ (y 1).val → v.read Val (v.writes Val f L) y = old y) →
      pl h L = new h) :
    ∀ (n : ℕ) (hn : n ≤ 8) f, fs f → ∀ y : (⟨2, ![N, 1024]⟩ : Shape).Idx,
      v.read Val (v.writes Val f (stack (fun h => Rect.unit (s := ⟨2, ![N, 1024]⟩) (off h) S512x128.size (inb h)) pl L₀ n hn)) y
        = if hr : (o ≤ (y 0).val ∧ (y 0).val < o + 512) ∧ (y 1).val < 128 * n then
            new (headOf (y 1).val (y 1).isLt) (ix2 ⟨(y 0).val - o, by omega⟩ ⟨(y 1).val % 128, Nat.mod_lt _ (by decide)⟩)
          else old y := by
  intro n
  induction n with
  | zero => intro hn f hf y; rw [dif_neg (by omega)]; exact h0 f hf y
  | succ n ih =>
    intro hn f hf y
    have ih' := ih (Nat.le_of_succ_le hn)
    have hp : pl ⟨n, hn⟩ (stack (fun h => Rect.unit (s := ⟨2, ![N, 1024]⟩) (off h) S512x128.size (inb h)) pl L₀ n (Nat.le_of_succ_le hn)) = new ⟨n, hn⟩ :=
      hpl ⟨n, hn⟩ _ fun f hf y hy => (ih' f hf y).trans (dif_neg (by
        have : 128 * n ≤ (y 1).val := hy
        omega))
    by_cases hin : (o ≤ (y 0).val ∧ (y 0).val < o + 512) ∧ (128 * n ≤ (y 1).val ∧ (y 1).val < 128 * (n + 1))
    · rw [dif_pos ⟨hin.1, hin.2.2⟩]
      refine (View.read_writes_cons_unit_of_mem v f (inb ⟨n, hn⟩) _ _ y (ix2 ⟨(y 0).val - o, by omega⟩ ⟨(y 1).val % 128, Nat.mod_lt _ (by decide)⟩) (heq _) ?_).trans ?_
      · intro a
        match a with
        | 0 => show (y 0).val = o + ((y 0).val - o); omega
        | 1 => show (y 1).val = 128 * n + (y 1).val % 128; omega
      · rw [hp]
        have : headOf (y 1).val (y 1).isLt = ⟨n, hn⟩ := Fin.ext (by show (y 1).val / 128 = n; omega)
        rw [this]
    · have hstep : v.read Val (v.writes Val f (stack (fun h => Rect.unit (s := ⟨2, ![N, 1024]⟩) (off h) S512x128.size (inb h)) pl L₀ (n + 1) hn)) y
          = v.read Val (v.writes Val f (stack (fun h => Rect.unit (s := ⟨2, ![N, 1024]⟩) (off h) S512x128.size (inb h)) pl L₀ n (Nat.le_of_succ_le hn))) y := by
        by_cases hr : o ≤ (y 0).val ∧ (y 0).val < o + 512
        · exact View.read_writes_cons_unit_of_not_mem v f (inb ⟨n, hn⟩) _ _ y (heq _) 1 (by
            show (y 1).val < 128 * n ∨ 128 * n + 128 ≤ (y 1).val
            omega)
        · exact View.read_writes_cons_unit_of_not_mem v f (inb ⟨n, hn⟩) _ _ y (heq _) 0 (by
            show (y 0).val < o ∨ o + 512 ≤ (y 0).val
            omega)
      rw [hstep, ih' f hf y]
      by_cases hr : (o ≤ (y 0).val ∧ (y 0).val < o + 512) ∧ (y 1).val < 128 * n
      · rw [dif_pos hr, dif_pos ⟨hr.1, by omega⟩]
      · rw [dif_neg hr, dif_neg (by omega)]

/-- A load through a rectangle with these offsets. -/
theorem readAt_unit {s : Shape} (v : View sig κ sp s e) (f : v.ty.Contents Val) {off off' size : Fin s.rank → ℕ} (inb) (inb')
    (h : off = off') : v.readAt Val (Rect.unit off size inb).toLoadRect f = View.ld (v.read Val f) (Rect.unit off' size inb') := by
  subst h; rfl

/-- A load through a rectangle with these offsets, the contents known there. -/
theorem readAt_unit_of {s : Shape} (v : View sig κ sp s e) (f : v.ty.Contents Val) {off off' size : Fin s.rank → ℕ} (inb) (inb')
    (h : off = off') (x : s.Idx → Val e) (hx : ∀ z, v.read Val f ((Rect.unit off' size inb').idx z) = x ((Rect.unit off' size inb').idx z)) :
    v.readAt Val (Rect.unit off size inb).toLoadRect f = View.ld x (Rect.unit off' size inb') := by
  subst h; exact funext hx

end Stack

/-! ## The two ways a point starts: from what is there, or from a block just stored whole -/

section Read

variable {sig : RefSig} {κ : Kind} {sp : Space} {Val : EltTy → Type}

theorem cols_inb (h : Fin 8) : ∀ a, (![0, 128 * h.val] : Fin 2 → ℕ) a + S512x128.size a ≤ (⟨2, ![512, 1024]⟩ : Shape).size a := tile_inb h

/-- The rectangle of a head's columns. -/
abbrev cols (h : Fin 8) : Rect S512x1024 := Rect.unit (s := S512x1024) ![0, 128 * h.val] S512x128.size (tile_inb h)

theorem tiles_eq (new : Fin 8 → Vec F S512x128 .f32) (old : Vec F S512x1024 .f32) (y : S512x1024.Idx) :
    (if hr : (0 ≤ (y 0).val ∧ (y 0).val < 0 + 512) ∧ (y 1).val < 128 * 8 then
      new (headOf (y 1).val (y 1).isLt) (ix2 ⟨(y 0).val - 0, by omega⟩ ⟨(y 1).val % 128, Nat.mod_lt _ (by decide)⟩) else old y)
      = tiles new y := by
  rw [dif_pos ⟨⟨Nat.zero_le _, by have : (y 0).val < 512 := (y 0).isLt; omega⟩, (y 1).isLt⟩]
  rfl

/-- Eight tiles, each computed from what the block held there in `f`. -/
theorem read_tiles_keep (v : View sig κ sp S512x1024 .f32) (f f' : v.ty.Contents (Elt F)) (Z : Fin 8 → Vec F S512x128 .f32 → Vec F S512x128 .f32) :
    v.read (Elt F) (v.writes (Elt F) f' (stack cols (fun h _ => Z h (v.readAt (Elt F) (cols h).toLoadRect f)) [] 8 le_rfl))
      = tiles fun h => Z h (hd (v.read (Elt F) f) h) := by
  funext y
  refine (read_stack (N := 512) v (fun h => ![0, 128 * h.val]) 0 cols_inb (fun _ => rfl) _ [] (· = f') (v.read (Elt F) f')
    (fun h => Z h (hd (v.read (Elt F) f) h)) (fun f₁ hf y => by subst hf; rfl) (fun h L _ => rfl) 8 le_rfl f' rfl y).trans ?_
  exact tiles_eq (fun h => Z h (hd (v.read (Elt F) f) h)) (v.read (Elt F) f') y

/-- A block stored whole is read back whole. -/
theorem read_full {s : Shape} {e : EltTy} (v : View sig κ sp s e) (f : v.ty.Contents Val) {off : Fin s.rank → ℕ} (inb : ∀ a, off a + s.size a ≤ s.size a)
    (z : s.Idx → Val e) (L : List (View.Piece Val s e)) (y : s.Idx) :
    v.read Val (v.writes Val f ((⟨Rect.unit off s.size inb, z⟩ : View.Piece Val s e) :: L)) y = z y :=
  View.read_writes_cons_unit_of_mem v f inb z L y y (off' := fun _ => 0) (funext fun a => by have := inb a; omega) fun a => (Nat.zero_add _).symm

/-- A whole block loaded is its contents. -/
theorem readAt_full {s : Shape} {e : EltTy} (v : View sig κ sp s e) (f : v.ty.Contents Val) {off : Fin s.rank → ℕ} (inb : ∀ a, off a + s.size a ≤ s.size a) :
    v.readAt Val (Rect.unit off s.size inb).toLoadRect f = v.read Val f :=
  funext fun y => congrArg (v.read Val f) (funext fun a => Fin.ext (by
    have := inb a
    show off a + 1 * (y a).val = (y a).val
    omega))

/-- A block loaded whole, mapped, and stored whole. -/
theorem read_scaled {s : Shape} {e : EltTy} [∀ e, Nonempty (Val e)] (v : View sig κ sp s e) (f f' : v.ty.Contents Val) {off off' : Fin s.rank → ℕ} (inb : ∀ a, off a + s.size a ≤ s.size a)
    (inb' : ∀ a, off' a + s.size a ≤ s.size a) (L : List (View.Piece Val s e)) (Z : (s.Idx → Val e) → s.Idx → Val e) :
    v.read Val (v.writes Val f ((⟨Rect.unit off s.size inb, Z (v.readAt Val (Rect.unit off' s.size inb').toLoadRect f')⟩ : View.Piece Val s e) :: L))
      = Z (v.read Val f') :=
  (funext fun y => read_full v f inb _ L y).trans (congrArg Z (readAt_full v f' inb'))

/-- Eight tiles, each computed from a block just stored whole, whatever was there before. -/
theorem read_tiles_zero [FloatOps F] (v : View sig κ sp S512x1024 .f32) (f : v.ty.Contents (Elt F)) (Z : Fin 8 → Vec F S512x128 .f32 → Vec F S512x128 .f32)
    {off : Fin 2 → ℕ} (inb : ∀ a, off a + S512x1024.size a ≤ S512x1024.size a) (z : Vec F S512x1024 .f32) :
    v.read (Elt F) (v.writes (Elt F) f (stack cols (fun h L => Z h (v.readCov L (cols h).toLoadRect)) [⟨Rect.unit off S512x1024.size inb, z⟩] 8 le_rfl))
      = tiles fun h => Z h (hd z h) := by
  funext y
  refine (read_stack (N := 512) v (fun h => ![0, 128 * h.val]) 0 cols_inb (fun _ => rfl) _ _ (fun _ => True) z
    (fun h => Z h (hd z h)) (fun f' _ y => read_full v f' inb z [] y) (fun h L hL => ?_) 8 le_rfl f trivial y).trans ?_
  · refine congrArg (Z h) (readAt_unit_of v (v.writes (Elt F) v.junk L) (tile_inb h) (tile_inb h) rfl z fun x => hL v.junk trivial _ ?_)
    show 128 * h.val ≤ 128 * h.val + 1 * (x 1).val
    omega
  · exact tiles_eq (fun h => Z h (hd z h)) z y

variable (off : Fin 8 → Fin 2 → ℕ) (o : Fin 16) (heq : ∀ h, off h = ![512 * o.val, 128 * h.val])
  (inb : ∀ h a, off h a + S512x128.size a ≤ S8192x1024.size a)

/-- The rectangle of a head's columns in the rows at the given offsets. -/
abbrev rows (h : Fin 8) : Rect S8192x1024 := Rect.unit (s := S8192x1024) (off h) S512x128.size (inb h)

theorem tileRows_eq (new : Fin 8 → Vec F S512x128 .f32) (old : Vec F S8192x1024 .f32) (y : S8192x1024.Idx) :
    (if hr : (512 * o.val ≤ (y 0).val ∧ (y 0).val < 512 * o.val + 512) ∧ (y 1).val < 128 * 8 then
      new (headOf (y 1).val (y 1).isLt) (ix2 ⟨(y 0).val - 512 * o.val, by omega⟩ ⟨(y 1).val % 128, Nat.mod_lt _ (by decide)⟩) else old y)
      = tileRows o new old y := by
  by_cases h : 512 * o.val ≤ (y 0).val ∧ (y 0).val < 512 * o.val + 512
  · rw [dif_pos ⟨h, (y 1).isLt⟩, tileRows, dif_pos h]
  · rw [dif_neg fun h' => h h'.1, tileRows, dif_neg h]

include heq in
theorem read_rows_keep (v : View sig κ sp S8192x1024 .f32) (f : v.ty.Contents (Elt F)) (Z : Fin 8 → Vec F S512x128 .f32 → Vec F S512x128 .f32) :
    v.read (Elt F) (v.writes (Elt F) f (stack (rows off inb) (fun h _ => Z h (v.readAt (Elt F) (rows off inb h).toLoadRect f)) [] 8 le_rfl))
      = tileRows o (fun h => Z h (hdRows (v.read (Elt F) f) o h)) (v.read (Elt F) f) := by
  funext y
  refine (read_stack (N := 8192) v off (512 * o.val) inb heq _ [] (· = f) (v.read (Elt F) f)
    (fun h => Z h (hdRows (v.read (Elt F) f) o h)) (fun f' hf y => by subst hf; rfl)
    (fun h L _ => congrArg (Z h) (readAt_unit v f (inb h) (rows_inb o h) (heq h))) 8 le_rfl f rfl y).trans ?_
  exact tileRows_eq o (fun h => Z h (hdRows (v.read (Elt F) f) o h)) (v.read (Elt F) f) y

include heq in
theorem read_rows_zero [FloatOps F] (v : View sig κ sp S8192x1024 .f32) (f : v.ty.Contents (Elt F)) (Z : Fin 8 → Vec F S512x128 .f32 → Vec F S512x128 .f32)
    {off₀ : Fin 2 → ℕ} (inb₀ : ∀ a, off₀ a + S8192x1024.size a ≤ S8192x1024.size a) (z : Vec F S8192x1024 .f32) :
    v.read (Elt F) (v.writes (Elt F) f (stack (rows off inb) (fun h L => Z h (v.readAt (Elt F) (rows off inb h).toLoadRect (v.writes (Elt F) v.junk L)))
        [⟨Rect.unit off₀ S8192x1024.size inb₀, z⟩] 8 le_rfl))
      = tileRows o (fun h => Z h (hdRows z o h)) z := by
  funext y
  refine (read_stack (N := 8192) v off (512 * o.val) inb heq _ _ (fun _ => True) z
    (fun h => Z h (hdRows z o h)) (fun f' _ y => read_full v f' inb₀ z [] y) (fun h L hL => ?_) 8 le_rfl f trivial y).trans ?_
  · refine congrArg (Z h) (readAt_unit_of v _ (inb h) (rows_inb o h) (heq h) z fun x => hL v.junk trivial _ ?_)
    show 128 * h.val ≤ 128 * h.val + 1 * (x 1).val
    omega
  · exact tileRows_eq o (fun h => Z h (hdRows z o h)) z y

end Read

end Cert.Kernel2Ideal.Attn
-- ==== Proof.Attn.Body.lean ====
/- The attention's backward kernel: what its body holds at a point of the grid, and where it keeps each head's tile
   of the queries' gradient. -/
module

public import proofs.«01_k».proof.Proof.Attn.Step
public import Idealize.ShloMosaic.Lib.Claim
public import Idealize.ShloMosaic.Lib.WordCmp

@[expose] public section

set_option maxRecDepth 16384

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! Where the printed kernel's loads and stores of the queries' gradient lie: head `h`'s tile at lane `128 h`. -/

instance (w : BitVec 32) : ClosedOff (k0_off2 w) := ⟨![(Scalar.indexCast (Scalar.muli w 512#32)).toNat, 0], rfl⟩
instance (w : BitVec 32) : ClosedOff (k0_off3 w) := ⟨![(Scalar.indexCast (Scalar.muli w 512#32)).toNat, 128], rfl⟩
instance (w : BitVec 32) : ClosedOff (k0_off4 w) := ⟨![(Scalar.indexCast (Scalar.muli w 512#32)).toNat, 256], rfl⟩
instance (w : BitVec 32) : ClosedOff (k0_off5 w) := ⟨![(Scalar.indexCast (Scalar.muli w 512#32)).toNat, 384], rfl⟩
instance (w : BitVec 32) : ClosedOff (k0_off6 w) := ⟨![(Scalar.indexCast (Scalar.muli w 512#32)).toNat, 512], rfl⟩
instance (w : BitVec 32) : ClosedOff (k0_off7 w) := ⟨![(Scalar.indexCast (Scalar.muli w 512#32)).toNat, 640], rfl⟩
instance (w : BitVec 32) : ClosedOff (k0_off8 w) := ⟨![(Scalar.indexCast (Scalar.muli w 512#32)).toNat, 768], rfl⟩
instance (w : BitVec 32) : ClosedOff (k0_off9 w) := ⟨![(Scalar.indexCast (Scalar.muli w 512#32)).toNat, 896], rfl⟩
instance (w : BitVec 32) : ClosedOff (k0_off10 w) := ⟨![(Scalar.indexCast (Scalar.muli w 512#32)).toNat, 0], rfl⟩
instance (w : BitVec 32) : ClosedOff (k0_off11 w) := ⟨![(Scalar.indexCast (Scalar.muli w 512#32)).toNat, 128], rfl⟩
instance (w : BitVec 32) : ClosedOff (k0_off12 w) := ⟨![(Scalar.indexCast (Scalar.muli w 512#32)).toNat, 256], rfl⟩
instance (w : BitVec 32) : ClosedOff (k0_off13 w) := ⟨![(Scalar.indexCast (Scalar.muli w 512#32)).toNat, 384], rfl⟩
instance (w : BitVec 32) : ClosedOff (k0_off14 w) := ⟨![(Scalar.indexCast (Scalar.muli w 512#32)).toNat, 512], rfl⟩
instance (w : BitVec 32) : ClosedOff (k0_off15 w) := ⟨![(Scalar.indexCast (Scalar.muli w 512#32)).toNat, 640], rfl⟩
instance (w : BitVec 32) : ClosedOff (k0_off16 w) := ⟨![(Scalar.indexCast (Scalar.muli w 512#32)).toNat, 768], rfl⟩
instance (w : BitVec 32) : ClosedOff (k0_off17 w) := ⟨![(Scalar.indexCast (Scalar.muli w 512#32)).toNat, 896], rfl⟩
/-- Where the heads' tiles of the queries' gradient lie, off the diagonal; -/
def offA (w : BitVec 32) (h : Fin 8) : Fin 2 → ℕ :=
  ![k0_off2 w, k0_off3 w, k0_off4 w, k0_off5 w, k0_off6 w, k0_off7 w, k0_off8 w, k0_off9 w] h

/-- on the diagonal. -/
def offB (w : BitVec 32) (h : Fin 8) : Fin 2 → ℕ :=
  ![k0_off10 w, k0_off11 w, k0_off12 w, k0_off13 w, k0_off14 w, k0_off15 w, k0_off16 w, k0_off17 w] h

theorem offA_eq (w : BitVec 32) (o : Fin 16) (ho : (Scalar.indexCast (Scalar.muli w 512#32)).toNat = 512 * o.val) (h : Fin 8) :
    offA w h = ![512 * o.val, 128 * h.val] := by
  rw [← ho]
  match h with
  | 0 => rfl
  | 1 => rfl
  | 2 => rfl
  | 3 => rfl
  | 4 => rfl
  | 5 => rfl
  | 6 => rfl
  | 7 => rfl

theorem offB_eq (w : BitVec 32) (o : Fin 16) (ho : (Scalar.indexCast (Scalar.muli w 512#32)).toNat = 512 * o.val) (h : Fin 8) :
    offB w h = ![512 * o.val, 128 * h.val] := (show offB w h = offA w h from rfl).trans (offA_eq w o ho h)

/-- The table's word at a point. -/
abbrev rT (i : grid0.Coords) : Rect S136 := Rect.unit (s := S136) (k0_off1 i) S1.size (k0_off1_inb i)

theorem rT_pos (i : grid0.Coords) : 0 < (rT i).shape.numel := by show 0 < S1.numel; decide

section Body

variable (c : Dev nD) (i : grid0.Coords)
  (M4 : Memref sig .tc .vmem S512x1024 .bf16) (M5 : Memref sig .tc .vmem S512x1024 .bf16) (M6 : Memref sig .tc .vmem S512x1024 .bf16) (M7 : Memref sig .tc .vmem S512x1024 .bf16)
  (M8 : Memref sig .tc .vmem S8x1x512 .f32) (M9 : Memref sig .tc .vmem S8x1x512 .f32) (M10 : Memref sig .tc .vmem S8192x1024 .f32)
  (M11 : Memref sig .tc .vmem S512x1024 .f32) (M12 : Memref sig .tc .vmem S512x1024 .f32)
  (fa : Buf (Elt F) ((c : Thread nD τ).loc main_c)) (fb : Buf (Elt F) ((c : Thread nD τ).loc main_c_0))
  (x0 x1 x2 x3 : Vec F S512x1024 .bf16) (x4 x5 : Vec F S8x1x512 .f32)

/-- What a point's body holds: the two tables, the six input blocks, and the three result blocks. -/
def held (y6 : Vec F S8192x1024 .f32) (y7 y8 : Vec F S512x1024 .f32) : sProp 𝕄 :=
  iprop((((c : Thread nD τ).loc main_c) ↦{fullShare.right} fa) ∗ (((c : Thread nD τ).loc main_c_0) ↦{fullShare.right} fb)
    ∗ owns (c : Thread nD τ) M4 fullShare x0 ∗ owns (c : Thread nD τ) M5 fullShare x1 ∗ owns (c : Thread nD τ) M6 fullShare x2 ∗ owns (c : Thread nD τ) M7 fullShare x3
    ∗ owns (c : Thread nD τ) M8 fullShare x4 ∗ owns (c : Thread nD τ) M9 fullShare x5
    ∗ owns (c : Thread nD τ) M10 fullShare y6 ∗ owns (c : Thread nD τ) M11 fullShare y7 ∗ owns (c : Thread nD τ) M12 fullShare y8)

end Body

section Close

variable (c : Dev nD) {s : Shape} {e : EltTy} (M : Memref sig .tc .vmem s e) (f : Buf (Elt F) (M.view.loc (c : Thread nD τ)))

/-- A block the body only reads, handed back. -/
theorem owns_read : (M.view.loc (c : Thread nD τ) ↦[M.view.set]{fullShare} f : sProp 𝕄) ⊢ iprop(∃ g, ⌜M.view.read (Elt F) g = M.view.read (Elt F) f⌝ ∗ (M.view.loc (c : Thread nD τ) ↦[M.view.set]{fullShare} g)) := by
  iintro H
  iexists f
  isplitr
  · ipureintro; rfl
  · iexact H

end Close

end Cert.Kernel2Ideal.Attn

end
-- ==== Proof.Attn.On.lean ====
/- The body's run at a point on the diagonal. -/
module

public import proofs.«01_k».proof.Proof.Attn.Body

@[expose] public section

set_option maxRecDepth 16384

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Body

variable (c : Dev nD) (i : grid0.Coords)
  (M4 : Memref sig .tc .vmem S512x1024 .bf16) (M5 : Memref sig .tc .vmem S512x1024 .bf16) (M6 : Memref sig .tc .vmem S512x1024 .bf16) (M7 : Memref sig .tc .vmem S512x1024 .bf16)
  (M8 : Memref sig .tc .vmem S8x1x512 .f32) (M9 : Memref sig .tc .vmem S8x1x512 .f32) (M10 : Memref sig .tc .vmem S8192x1024 .f32)
  (M11 : Memref sig .tc .vmem S512x1024 .f32) (M12 : Memref sig .tc .vmem S512x1024 .f32)
  (fa : Buf (Elt F) ((c : Thread nD τ).loc main_c)) (fb : Buf (Elt F) ((c : Thread nD τ).loc main_c_0))
  (x0 x1 x2 x3 : Vec F S512x1024 .bf16) (x4 x5 : Vec F S8x1x512 .f32)

variable (hM4 : M4.IsWhole) (hM5 : M5.IsWhole) (hM6 : M6.IsWhole) (hM7 : M7.IsWhole) (hM8 : M8.IsWhole) (hM9 : M9.IsWhole) (hM10 : M10.IsWhole) (hM11 : M11.IsWhole) (hM12 : M12.IsWhole)
  (w1 w3 : BitVec 32)
  (hw1 : View.read (Elt F) ((Memref.whole main_c).access (rT i)) fa (Shape.Idx.first (rT_pos i)) = w1)
  (hw3 : View.read (Elt F) ((Memref.whole main_c_0).access (rT i)) fb (Shape.Idx.first (rT_pos i)) = w3)
  (o : Fin 16) (ho : (Scalar.indexCast (Scalar.muli w1 512#32)).toNat = 512 * o.val) (hk : k0_chk1 w1 w3) (y6 : Vec F S8192x1024 .f32) (y7 y8 : Vec F S512x1024 .f32)

include hw1 hw3 hk ho in
set_option maxHeartbeats 4000000 in
/-- The first point zeroes all three gradients, then adds to them under the mask. -/
theorem case_first (h1 : k0_cond1 i = 1#1) (h2 : k0_cond2 w1 w3 = 1#1) (h3 : ¬ k0_cond3 w1 w3 = 1#1) (h4 : k0_cond4 w1 w3 = 1#1) (h5 : ¬ k0_cond5 w1 = 1#1) (h6 : ¬ k0_cond6 i = 1#1) (E : Set ℕ) (K : PUnit → sProp 𝕄) :
    iprop(held c M4 M5 M6 M7 M8 M9 M10 M11 M12 fa fb x0 x1 x2 x3 x4 x5 y6 y7 y8 ∗ (held c M4 M5 M6 M7 M8 M9 M10 M11 M12 fa fb x0 x1 x2 x3 x4 x5 (dqStep x0 x1 x2 x3 x4 x5 true o k0_pay1) (dkStep x0 x1 x2 x3 x4 x5 true k0_pay2) (dvStep x0 x1 x3 x4 true k0_pay3) -∗ K ⟨⟩))
      ⊢ wp frame (wpE (defs₀ (F := F)) Variants.none c none) E (cc0_mla_attn_bwd i (Memref.whole main_c) (Memref.isWhole_whole _) (Memref.whole main_c_0) (Memref.isWhole_whole _) M4 hM4 M5 hM5 M6 hM6 M7 hM7 M8 hM8 M9 hM9 M10 hM10 M11 hM11 M12 hM12) K := by
  simp only [cc0_mla_attn_bwd_eq_skeleton]; unfold cc0_mla_attn_bwd_skel
  unfold held owns
  iintro ⟨⟨Ha, Hb, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  subst hf0 hf1 hf2 hf3 hf4 hf5 hf6 hf7 hf8
  unfold smemLoad smemLoadElt
  simp only [Prog.bind_op, Prog.bind_ret]
  iapply (wp_load_rect Variants.none (c : Thread nD τ) none E (m := Memref.whole main_c) (r := rT i) (Finset.subset_univ _)) $$ Ha
  iintro Ha
  iapply (wp_load_rect Variants.none (c : Thread nD τ) none E (m := Memref.whole main_c_0) (r := rT i) (Finset.subset_univ _)) $$ Hb
  iintro Hb
  generalize hx1 : View.read (Elt F) ((Memref.whole main_c).access (rT i)) fa (Shape.Idx.first _) = v1
  generalize hx3 : View.read (Elt F) ((Memref.whole main_c_0).access (rT i)) fb (Shape.Idx.first _) = v3
  obtain rfl : v1 = w1 := hx1.symm.trans hw1
  obtain rfl : v3 = w3 := hx3.symm.trans hw3
  sl_exec
  sl_step
  have heq := offB_eq v1 o ho
  iapply Hk
  isplitl [Ha]; · iexact Ha
  isplitl [Hb]; · iexact Hb
  isplitl [H0]; · iapply (owns_read c M4 f0) $$ H0
  isplitl [H1]; · iapply (owns_read c M5 f1) $$ H1
  isplitl [H2]; · iapply (owns_read c M6 f2) $$ H2
  isplitl [H3]; · iapply (owns_read c M7 f3) $$ H3
  isplitl [H4]; · iapply (owns_read c M8 f4) $$ H4
  isplitl [H5]; · iapply (owns_read c M9 f5) $$ H5
  isplitl [H6]
  · iexists _; isplitr
    rotate_left
    · iexact H6
    · ipureintro
      exact read_rows_zero _ o heq (fun h => by rw [heq h]; exact rows_inb o h) M10.view _ (fun h => dqH true (hd (M4.view.read (Elt F) f0) h) (hd (M5.view.read (Elt F) f1) h)  (hd (M6.view.read (Elt F) f2) h) (hd (M7.view.read (Elt F) f3) h) (hdRow (M8.view.read (Elt F) f4) h) (hdRow (M9.view.read (Elt F) f5) h)) inb_S8192x1024_S8192x1024_0_0 k0_pay1
  isplitl [H7]
  · iexists _; isplitr
    rotate_left
    · iexact H7
    · ipureintro
      exact read_tiles_zero M11.view _ (fun h => dkH true (hd (M4.view.read (Elt F) f0) h) (hd (M5.view.read (Elt F) f1) h)  (hd (M6.view.read (Elt F) f2) h) (hd (M7.view.read (Elt F) f3) h) (hdRow (M8.view.read (Elt F) f4) h) (hdRow (M9.view.read (Elt F) f5) h)) inb_S512x1024_S512x1024_0_0 k0_pay2
  · iexists _; isplitr
    rotate_left
    · iexact H8
    · ipureintro
      exact read_tiles_zero M12.view _ (fun h => dvH true (hd (M4.view.read (Elt F) f0) h) (hd (M5.view.read (Elt F) f1) h)  (hd (M7.view.read (Elt F) f3) h) (hdRow (M8.view.read (Elt F) f4) h)) inb_S512x1024_S512x1024_0_0 k0_pay3

include hw1 hw3 hk ho in
set_option maxHeartbeats 4000000 in
/-- At a later diagonal point the gradients of the keys and values begin. -/
theorem case_diagonal (h1 : ¬ k0_cond1 i = 1#1) (h2 : k0_cond2 w1 w3 = 1#1) (h3 : ¬ k0_cond3 w1 w3 = 1#1) (h4 : k0_cond4 w1 w3 = 1#1) (h5 : ¬ k0_cond5 w1 = 1#1) (h6 : ¬ k0_cond6 i = 1#1) (E : Set ℕ) (K : PUnit → sProp 𝕄) :
    iprop(held c M4 M5 M6 M7 M8 M9 M10 M11 M12 fa fb x0 x1 x2 x3 x4 x5 y6 y7 y8 ∗ (held c M4 M5 M6 M7 M8 M9 M10 M11 M12 fa fb x0 x1 x2 x3 x4 x5 (dqStep x0 x1 x2 x3 x4 x5 true o y6) (dkStep x0 x1 x2 x3 x4 x5 true k0_pay2) (dvStep x0 x1 x3 x4 true k0_pay3) -∗ K ⟨⟩))
      ⊢ wp frame (wpE (defs₀ (F := F)) Variants.none c none) E (cc0_mla_attn_bwd i (Memref.whole main_c) (Memref.isWhole_whole _) (Memref.whole main_c_0) (Memref.isWhole_whole _) M4 hM4 M5 hM5 M6 hM6 M7 hM7 M8 hM8 M9 hM9 M10 hM10 M11 hM11 M12 hM12) K := by
  simp only [cc0_mla_attn_bwd_eq_skeleton]; unfold cc0_mla_attn_bwd_skel
  unfold held owns
  iintro ⟨⟨Ha, Hb, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  subst hf0 hf1 hf2 hf3 hf4 hf5 hf6 hf7 hf8
  unfold smemLoad smemLoadElt
  simp only [Prog.bind_op, Prog.bind_ret]
  iapply (wp_load_rect Variants.none (c : Thread nD τ) none E (m := Memref.whole main_c) (r := rT i) (Finset.subset_univ _)) $$ Ha
  iintro Ha
  iapply (wp_load_rect Variants.none (c : Thread nD τ) none E (m := Memref.whole main_c_0) (r := rT i) (Finset.subset_univ _)) $$ Hb
  iintro Hb
  generalize hx1 : View.read (Elt F) ((Memref.whole main_c).access (rT i)) fa (Shape.Idx.first _) = v1
  generalize hx3 : View.read (Elt F) ((Memref.whole main_c_0).access (rT i)) fb (Shape.Idx.first _) = v3
  obtain rfl : v1 = w1 := hx1.symm.trans hw1
  obtain rfl : v3 = w3 := hx3.symm.trans hw3
  sl_exec
  sl_step
  have heq := offB_eq v1 o ho
  iapply Hk
  isplitl [Ha]; · iexact Ha
  isplitl [Hb]; · iexact Hb
  isplitl [H0]; · iapply (owns_read c M4 f0) $$ H0
  isplitl [H1]; · iapply (owns_read c M5 f1) $$ H1
  isplitl [H2]; · iapply (owns_read c M6 f2) $$ H2
  isplitl [H3]; · iapply (owns_read c M7 f3) $$ H3
  isplitl [H4]; · iapply (owns_read c M8 f4) $$ H4
  isplitl [H5]; · iapply (owns_read c M9 f5) $$ H5
  isplitl [H6]
  · iexists _; isplitr
    rotate_left
    · iexact H6
    · ipureintro
      exact read_rows_keep _ o heq (fun h => by rw [heq h]; exact rows_inb o h) M10.view _ (fun h => dqH true (hd (M4.view.read (Elt F) f0) h) (hd (M5.view.read (Elt F) f1) h)  (hd (M6.view.read (Elt F) f2) h) (hd (M7.view.read (Elt F) f3) h) (hdRow (M8.view.read (Elt F) f4) h) (hdRow (M9.view.read (Elt F) f5) h))
  isplitl [H7]
  · iexists _; isplitr
    rotate_left
    · iexact H7
    · ipureintro
      exact read_tiles_zero M11.view _ (fun h => dkH true (hd (M4.view.read (Elt F) f0) h) (hd (M5.view.read (Elt F) f1) h)  (hd (M6.view.read (Elt F) f2) h) (hd (M7.view.read (Elt F) f3) h) (hdRow (M8.view.read (Elt F) f4) h) (hdRow (M9.view.read (Elt F) f5) h)) inb_S512x1024_S512x1024_0_0 k0_pay2
  · iexists _; isplitr
    rotate_left
    · iexact H8
    · ipureintro
      exact read_tiles_zero M12.view _ (fun h => dvH true (hd (M4.view.read (Elt F) f0) h) (hd (M5.view.read (Elt F) f1) h)  (hd (M7.view.read (Elt F) f3) h) (hdRow (M8.view.read (Elt F) f4) h)) inb_S512x1024_S512x1024_0_0 k0_pay3

include hw1 hw3 hk ho in
set_option maxHeartbeats 4000000 in
/-- The last point scales the gradients of the keys and of the queries as well. -/
theorem case_last (h1 : ¬ k0_cond1 i = 1#1) (h2 : k0_cond2 w1 w3 = 1#1) (h3 : ¬ k0_cond3 w1 w3 = 1#1) (h4 : k0_cond4 w1 w3 = 1#1) (h5 : k0_cond5 w1 = 1#1) (h6 : k0_cond6 i = 1#1) (E : Set ℕ) (K : PUnit → sProp 𝕄) :
    iprop(held c M4 M5 M6 M7 M8 M9 M10 M11 M12 fa fb x0 x1 x2 x3 x4 x5 y6 y7 y8 ∗ (held c M4 M5 M6 M7 M8 M9 M10 M11 M12 fa fb x0 x1 x2 x3 x4 x5 (k0_pay9 (dqStep x0 x1 x2 x3 x4 x5 true o y6)) (k0_pay8 (dkStep x0 x1 x2 x3 x4 x5 true k0_pay2)) (dvStep x0 x1 x3 x4 true k0_pay3) -∗ K ⟨⟩))
      ⊢ wp frame (wpE (defs₀ (F := F)) Variants.none c none) E (cc0_mla_attn_bwd i (Memref.whole main_c) (Memref.isWhole_whole _) (Memref.whole main_c_0) (Memref.isWhole_whole _) M4 hM4 M5 hM5 M6 hM6 M7 hM7 M8 hM8 M9 hM9 M10 hM10 M11 hM11 M12 hM12) K := by
  simp only [cc0_mla_attn_bwd_eq_skeleton]; unfold cc0_mla_attn_bwd_skel
  unfold held owns
  iintro ⟨⟨Ha, Hb, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  subst hf0 hf1 hf2 hf3 hf4 hf5 hf6 hf7 hf8
  unfold smemLoad smemLoadElt
  simp only [Prog.bind_op, Prog.bind_ret]
  iapply (wp_load_rect Variants.none (c : Thread nD τ) none E (m := Memref.whole main_c) (r := rT i) (Finset.subset_univ _)) $$ Ha
  iintro Ha
  iapply (wp_load_rect Variants.none (c : Thread nD τ) none E (m := Memref.whole main_c_0) (r := rT i) (Finset.subset_univ _)) $$ Hb
  iintro Hb
  generalize hx1 : View.read (Elt F) ((Memref.whole main_c).access (rT i)) fa (Shape.Idx.first _) = v1
  generalize hx3 : View.read (Elt F) ((Memref.whole main_c_0).access (rT i)) fb (Shape.Idx.first _) = v3
  obtain rfl : v1 = w1 := hx1.symm.trans hw1
  obtain rfl : v3 = w3 := hx3.symm.trans hw3
  sl_exec
  sl_step
  have heq := offB_eq v1 o ho
  iapply Hk
  isplitl [Ha]; · iexact Ha
  isplitl [Hb]; · iexact Hb
  isplitl [H0]; · iapply (owns_read c M4 f0) $$ H0
  isplitl [H1]; · iapply (owns_read c M5 f1) $$ H1
  isplitl [H2]; · iapply (owns_read c M6 f2) $$ H2
  isplitl [H3]; · iapply (owns_read c M7 f3) $$ H3
  isplitl [H4]; · iapply (owns_read c M8 f4) $$ H4
  isplitl [H5]; · iapply (owns_read c M9 f5) $$ H5
  isplitl [H6]
  · iexists _; isplitr
    rotate_left
    · iexact H6
    · ipureintro
      exact (read_scaled M10.view _ _ inb_S8192x1024_S8192x1024_0_0 inb_S8192x1024_S8192x1024_0_0 _ k0_pay9).trans (congrArg k0_pay9 (read_rows_keep _ o heq (fun h => by rw [heq h]; exact rows_inb o h) M10.view _ (fun h => dqH true (hd (M4.view.read (Elt F) f0) h) (hd (M5.view.read (Elt F) f1) h)  (hd (M6.view.read (Elt F) f2) h) (hd (M7.view.read (Elt F) f3) h) (hdRow (M8.view.read (Elt F) f4) h) (hdRow (M9.view.read (Elt F) f5) h))))
  isplitl [H7]
  · iexists _; isplitr
    rotate_left
    · iexact H7
    · ipureintro
      exact (read_scaled M11.view _ _ inb_S512x1024_S512x1024_0_0 inb_S512x1024_S512x1024_0_0 _ k0_pay8).trans (congrArg k0_pay8 (read_tiles_zero M11.view _ (fun h => dkH true (hd (M4.view.read (Elt F) f0) h) (hd (M5.view.read (Elt F) f1) h)  (hd (M6.view.read (Elt F) f2) h) (hd (M7.view.read (Elt F) f3) h) (hdRow (M8.view.read (Elt F) f4) h) (hdRow (M9.view.read (Elt F) f5) h)) inb_S512x1024_S512x1024_0_0 k0_pay2))
  · iexists _; isplitr
    rotate_left
    · iexact H8
    · ipureintro
      exact read_tiles_zero M12.view _ (fun h => dvH true (hd (M4.view.read (Elt F) f0) h) (hd (M5.view.read (Elt F) f1) h)  (hd (M7.view.read (Elt F) f3) h) (hdRow (M8.view.read (Elt F) f4) h)) inb_S512x1024_S512x1024_0_0 k0_pay3

end Body

end Cert.Kernel2Ideal.Attn

end
-- ==== Proof.Attn.Off.lean ====
/- The body's run at a point below the diagonal. -/
module

public import proofs.«01_k».proof.Proof.Attn.Body

@[expose] public section

set_option maxRecDepth 16384

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Body

variable (c : Dev nD) (i : grid0.Coords)
  (M4 : Memref sig .tc .vmem S512x1024 .bf16) (M5 : Memref sig .tc .vmem S512x1024 .bf16) (M6 : Memref sig .tc .vmem S512x1024 .bf16) (M7 : Memref sig .tc .vmem S512x1024 .bf16)
  (M8 : Memref sig .tc .vmem S8x1x512 .f32) (M9 : Memref sig .tc .vmem S8x1x512 .f32) (M10 : Memref sig .tc .vmem S8192x1024 .f32)
  (M11 : Memref sig .tc .vmem S512x1024 .f32) (M12 : Memref sig .tc .vmem S512x1024 .f32)
  (fa : Buf (Elt F) ((c : Thread nD τ).loc main_c)) (fb : Buf (Elt F) ((c : Thread nD τ).loc main_c_0))
  (x0 x1 x2 x3 : Vec F S512x1024 .bf16) (x4 x5 : Vec F S8x1x512 .f32)

variable (hM4 : M4.IsWhole) (hM5 : M5.IsWhole) (hM6 : M6.IsWhole) (hM7 : M7.IsWhole) (hM8 : M8.IsWhole) (hM9 : M9.IsWhole) (hM10 : M10.IsWhole) (hM11 : M11.IsWhole) (hM12 : M12.IsWhole)
  (w1 w3 : BitVec 32)
  (hw1 : View.read (Elt F) ((Memref.whole main_c).access (rT i)) fa (Shape.Idx.first (rT_pos i)) = w1)
  (hw3 : View.read (Elt F) ((Memref.whole main_c_0).access (rT i)) fb (Shape.Idx.first (rT_pos i)) = w3)
  (o : Fin 16) (ho : (Scalar.indexCast (Scalar.muli w1 512#32)).toNat = 512 * o.val) (hk : k0_chk1 w1 w3) (y6 : Vec F S8192x1024 .f32) (y7 y8 : Vec F S512x1024 .f32)

include hw1 hw3 hk ho in
set_option maxHeartbeats 4000000 in
/-- Below the diagonal, short of the last block of queries: the point adds to all three gradients. -/
theorem case_below (h1 : ¬ k0_cond1 i = 1#1) (h2 : ¬ k0_cond2 w1 w3 = 1#1) (h3 : k0_cond3 w1 w3 = 1#1) (h4 : ¬ k0_cond4 w1 w3 = 1#1) (h5 : ¬ k0_cond5 w1 = 1#1) (h6 : ¬ k0_cond6 i = 1#1) (E : Set ℕ) (K : PUnit → sProp 𝕄) :
    iprop(held c M4 M5 M6 M7 M8 M9 M10 M11 M12 fa fb x0 x1 x2 x3 x4 x5 y6 y7 y8 ∗ (held c M4 M5 M6 M7 M8 M9 M10 M11 M12 fa fb x0 x1 x2 x3 x4 x5 (dqStep x0 x1 x2 x3 x4 x5 false o y6) (dkStep x0 x1 x2 x3 x4 x5 false y7) (dvStep x0 x1 x3 x4 false y8) -∗ K ⟨⟩))
      ⊢ wp frame (wpE (defs₀ (F := F)) Variants.none c none) E (cc0_mla_attn_bwd i (Memref.whole main_c) (Memref.isWhole_whole _) (Memref.whole main_c_0) (Memref.isWhole_whole _) M4 hM4 M5 hM5 M6 hM6 M7 hM7 M8 hM8 M9 hM9 M10 hM10 M11 hM11 M12 hM12) K := by
  simp only [cc0_mla_attn_bwd_eq_skeleton]; unfold cc0_mla_attn_bwd_skel
  unfold held owns
  iintro ⟨⟨Ha, Hb, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  subst hf0 hf1 hf2 hf3 hf4 hf5 hf6 hf7 hf8
  unfold smemLoad smemLoadElt
  simp only [Prog.bind_op, Prog.bind_ret]
  iapply (wp_load_rect Variants.none (c : Thread nD τ) none E (m := Memref.whole main_c) (r := rT i) (Finset.subset_univ _)) $$ Ha
  iintro Ha
  iapply (wp_load_rect Variants.none (c : Thread nD τ) none E (m := Memref.whole main_c_0) (r := rT i) (Finset.subset_univ _)) $$ Hb
  iintro Hb
  generalize hx1 : View.read (Elt F) ((Memref.whole main_c).access (rT i)) fa (Shape.Idx.first _) = v1
  generalize hx3 : View.read (Elt F) ((Memref.whole main_c_0).access (rT i)) fb (Shape.Idx.first _) = v3
  obtain rfl : v1 = w1 := hx1.symm.trans hw1
  obtain rfl : v3 = w3 := hx3.symm.trans hw3
  sl_exec
  sl_step
  have heq := offA_eq v1 o ho
  iapply Hk
  isplitl [Ha]; · iexact Ha
  isplitl [Hb]; · iexact Hb
  isplitl [H0]; · iapply (owns_read c M4 f0) $$ H0
  isplitl [H1]; · iapply (owns_read c M5 f1) $$ H1
  isplitl [H2]; · iapply (owns_read c M6 f2) $$ H2
  isplitl [H3]; · iapply (owns_read c M7 f3) $$ H3
  isplitl [H4]; · iapply (owns_read c M8 f4) $$ H4
  isplitl [H5]; · iapply (owns_read c M9 f5) $$ H5
  isplitl [H6]
  · iexists _; isplitr
    rotate_left
    · iexact H6
    · ipureintro
      exact read_rows_keep _ o heq (fun h => by rw [heq h]; exact rows_inb o h) M10.view _ (fun h => dqH false (hd (M4.view.read (Elt F) f0) h) (hd (M5.view.read (Elt F) f1) h)  (hd (M6.view.read (Elt F) f2) h) (hd (M7.view.read (Elt F) f3) h) (hdRow (M8.view.read (Elt F) f4) h) (hdRow (M9.view.read (Elt F) f5) h))
  isplitl [H7]
  · iexists _; isplitr
    rotate_left
    · iexact H7
    · ipureintro
      exact read_tiles_keep M11.view f7 _ (fun h => dkH false (hd (M4.view.read (Elt F) f0) h) (hd (M5.view.read (Elt F) f1) h)  (hd (M6.view.read (Elt F) f2) h) (hd (M7.view.read (Elt F) f3) h) (hdRow (M8.view.read (Elt F) f4) h) (hdRow (M9.view.read (Elt F) f5) h))
  · iexists _; isplitr
    rotate_left
    · iexact H8
    · ipureintro
      exact read_tiles_keep M12.view f8 _ (fun h => dvH false (hd (M4.view.read (Elt F) f0) h) (hd (M5.view.read (Elt F) f1) h)  (hd (M7.view.read (Elt F) f3) h) (hdRow (M8.view.read (Elt F) f4) h))

include hw1 hw3 hk ho in
set_option maxHeartbeats 4000000 in
/-- At the last block of queries: the keys' gradient is then scaled. -/
theorem case_bottom (h1 : ¬ k0_cond1 i = 1#1) (h2 : ¬ k0_cond2 w1 w3 = 1#1) (h3 : k0_cond3 w1 w3 = 1#1) (h4 : ¬ k0_cond4 w1 w3 = 1#1) (h5 : k0_cond5 w1 = 1#1) (h6 : ¬ k0_cond6 i = 1#1) (E : Set ℕ) (K : PUnit → sProp 𝕄) :
    iprop(held c M4 M5 M6 M7 M8 M9 M10 M11 M12 fa fb x0 x1 x2 x3 x4 x5 y6 y7 y8 ∗ (held c M4 M5 M6 M7 M8 M9 M10 M11 M12 fa fb x0 x1 x2 x3 x4 x5 (dqStep x0 x1 x2 x3 x4 x5 false o y6) (k0_pay8 (dkStep x0 x1 x2 x3 x4 x5 false y7)) (dvStep x0 x1 x3 x4 false y8) -∗ K ⟨⟩))
      ⊢ wp frame (wpE (defs₀ (F := F)) Variants.none c none) E (cc0_mla_attn_bwd i (Memref.whole main_c) (Memref.isWhole_whole _) (Memref.whole main_c_0) (Memref.isWhole_whole _) M4 hM4 M5 hM5 M6 hM6 M7 hM7 M8 hM8 M9 hM9 M10 hM10 M11 hM11 M12 hM12) K := by
  simp only [cc0_mla_attn_bwd_eq_skeleton]; unfold cc0_mla_attn_bwd_skel
  unfold held owns
  iintro ⟨⟨Ha, Hb, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  subst hf0 hf1 hf2 hf3 hf4 hf5 hf6 hf7 hf8
  unfold smemLoad smemLoadElt
  simp only [Prog.bind_op, Prog.bind_ret]
  iapply (wp_load_rect Variants.none (c : Thread nD τ) none E (m := Memref.whole main_c) (r := rT i) (Finset.subset_univ _)) $$ Ha
  iintro Ha
  iapply (wp_load_rect Variants.none (c : Thread nD τ) none E (m := Memref.whole main_c_0) (r := rT i) (Finset.subset_univ _)) $$ Hb
  iintro Hb
  generalize hx1 : View.read (Elt F) ((Memref.whole main_c).access (rT i)) fa (Shape.Idx.first _) = v1
  generalize hx3 : View.read (Elt F) ((Memref.whole main_c_0).access (rT i)) fb (Shape.Idx.first _) = v3
  obtain rfl : v1 = w1 := hx1.symm.trans hw1
  obtain rfl : v3 = w3 := hx3.symm.trans hw3
  sl_exec
  sl_step
  have heq := offA_eq v1 o ho
  iapply Hk
  isplitl [Ha]; · iexact Ha
  isplitl [Hb]; · iexact Hb
  isplitl [H0]; · iapply (owns_read c M4 f0) $$ H0
  isplitl [H1]; · iapply (owns_read c M5 f1) $$ H1
  isplitl [H2]; · iapply (owns_read c M6 f2) $$ H2
  isplitl [H3]; · iapply (owns_read c M7 f3) $$ H3
  isplitl [H4]; · iapply (owns_read c M8 f4) $$ H4
  isplitl [H5]; · iapply (owns_read c M9 f5) $$ H5
  isplitl [H6]
  · iexists _; isplitr
    rotate_left
    · iexact H6
    · ipureintro
      exact read_rows_keep _ o heq (fun h => by rw [heq h]; exact rows_inb o h) M10.view _ (fun h => dqH false (hd (M4.view.read (Elt F) f0) h) (hd (M5.view.read (Elt F) f1) h)  (hd (M6.view.read (Elt F) f2) h) (hd (M7.view.read (Elt F) f3) h) (hdRow (M8.view.read (Elt F) f4) h) (hdRow (M9.view.read (Elt F) f5) h))
  isplitl [H7]
  · iexists _; isplitr
    rotate_left
    · iexact H7
    · ipureintro
      exact (read_scaled M11.view _ _ inb_S512x1024_S512x1024_0_0 inb_S512x1024_S512x1024_0_0 _ k0_pay8).trans (congrArg k0_pay8 (read_tiles_keep M11.view f7 _ (fun h => dkH false (hd (M4.view.read (Elt F) f0) h) (hd (M5.view.read (Elt F) f1) h)  (hd (M6.view.read (Elt F) f2) h) (hd (M7.view.read (Elt F) f3) h) (hdRow (M8.view.read (Elt F) f4) h) (hdRow (M9.view.read (Elt F) f5) h))))
  · iexists _; isplitr
    rotate_left
    · iexact H8
    · ipureintro
      exact read_tiles_keep M12.view f8 _ (fun h => dvH false (hd (M4.view.read (Elt F) f0) h) (hd (M5.view.read (Elt F) f1) h)  (hd (M7.view.read (Elt F) f3) h) (hdRow (M8.view.read (Elt F) f4) h))

end Body

end Cert.Kernel2Ideal.Attn

end
-- ==== Proof.Attn.Point.lean ====
/- The body's run at any point of the grid, by the number of the step: which of the five runs of `On` and `Off` it is. -/
module

public import proofs.«01_k».proof.Proof.Attn.Sched
public import proofs.«01_k».proof.Proof.Attn.On
public import proofs.«01_k».proof.Proof.Attn.Off

@[expose] public section

set_option maxRecDepth 16384

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The queries' gradient after step `n`, from the step's blocks and what it was before; -/
def dqNext (n : Fin 136) (x0 x1 x2 x3 : Vec F S512x1024 .bf16) (x4 x5 : Vec F S8x1x512 .f32) (y : Vec F S8192x1024 .f32) : Vec F S8192x1024 .f32 :=
  if n = 135 then k0_pay9 (dqStep x0 x1 x2 x3 x4 x5 (decide (row n = col n)) (row n) (if n = 0 then k0_pay1 else y))
  else dqStep x0 x1 x2 x3 x4 x5 (decide (row n = col n)) (row n) (if n = 0 then k0_pay1 else y)

/-- the keys'; -/
def dkNext (n : Fin 136) (x0 x1 x2 x3 : Vec F S512x1024 .bf16) (x4 x5 : Vec F S8x1x512 .f32) (y : Vec F S512x1024 .f32) : Vec F S512x1024 .f32 :=
  if row n = 15 then k0_pay8 (dkStep x0 x1 x2 x3 x4 x5 (decide (row n = col n)) (if row n = col n then k0_pay2 else y))
  else dkStep x0 x1 x2 x3 x4 x5 (decide (row n = col n)) (if row n = col n then k0_pay2 else y)

/-- the values'. -/
def dvNext (n : Fin 136) (x0 x1 x3 : Vec F S512x1024 .bf16) (x4 : Vec F S8x1x512 .f32) (y : Vec F S512x1024 .f32) : Vec F S512x1024 .f32 :=
  dvStep x0 x1 x3 x4 (decide (row n = col n)) (if row n = col n then k0_pay3 else y)

/-- The tables' contents as the buffers hold them. -/
abbrev tab0 (c : Dev nD) : Buf (Elt F) ((c : Thread nD τ).loc main_c) := tables (F := F) 0
abbrev tab1 (c : Dev nD) : Buf (Elt F) ((c : Thread nD τ).loc main_c_0) := tables (F := F) 1

section Point

variable (c : Dev nD) (i : grid0.Coords)
  (M4 : Memref sig .tc .vmem S512x1024 .bf16) (M5 : Memref sig .tc .vmem S512x1024 .bf16) (M6 : Memref sig .tc .vmem S512x1024 .bf16) (M7 : Memref sig .tc .vmem S512x1024 .bf16)
  (M8 : Memref sig .tc .vmem S8x1x512 .f32) (M9 : Memref sig .tc .vmem S8x1x512 .f32) (M10 : Memref sig .tc .vmem S8192x1024 .f32)
  (M11 : Memref sig .tc .vmem S512x1024 .f32) (M12 : Memref sig .tc .vmem S512x1024 .f32)
  (hM4 : M4.IsWhole) (hM5 : M5.IsWhole) (hM6 : M6.IsWhole) (hM7 : M7.IsWhole) (hM8 : M8.IsWhole) (hM9 : M9.IsWhole) (hM10 : M10.IsWhole) (hM11 : M11.IsWhole) (hM12 : M12.IsWhole)
  (x0 x1 x2 x3 : Vec F S512x1024 .bf16) (x4 x5 : Vec F S8x1x512 .f32) (y6 : Vec F S8192x1024 .f32) (y7 y8 : Vec F S512x1024 .f32)

theorem sound_point (E : Set ℕ) (K : PUnit → sProp 𝕄) :
    iprop(held c M4 M5 M6 M7 M8 M9 M10 M11 M12 (tab0 c) (tab1 c) x0 x1 x2 x3 x4 x5 y6 y7 y8
        ∗ (held c M4 M5 M6 M7 M8 M9 M10 M11 M12 (tab0 c) (tab1 c) x0 x1 x2 x3 x4 x5 (dqNext (pt i) x0 x1 x2 x3 x4 x5 y6)
            (dkNext (pt i) x0 x1 x2 x3 x4 x5 y7) (dvNext (pt i) x0 x1 x3 x4 y8) -∗ K ⟨⟩))
      ⊢ wp frame (wpE (defs₀ (F := F)) Variants.none c none) E (cc0_mla_attn_bwd i (Memref.whole main_c) (Memref.isWhole_whole _) (Memref.whole main_c_0) (Memref.isWhole_whole _) M4 hM4 M5 hM5 M6 hM6 M7 hM7 M8 hM8 M9 hM9 M10 hM10 M11 hM11 M12 hM12) K := by
  have e0 := tables_at0 (F := F) i numel1_S1
  have e1 := tables_at1 (F := F) i numel1_S1
  by_cases hd : row (pt i) = col (pt i)
  · have c2 := (cond2_iff (row (pt i)) (col (pt i))).2 hd
    have c3 : ¬ k0_cond3 (wd (row (pt i))) (wd (col (pt i))) = 1#1 := fun h => absurd ((cond3_iff _ _).1 h) (by rw [hd]; exact lt_irrefl _)
    have c4 := (cond4_iff (row (pt i)) (col (pt i))).2 hd
    by_cases h0 : pt i = 0
    · have h6 : ¬ pt i = 135 := by rw [h0]; decide
      have h5 : ¬ row (pt i) = 15 := by rw [h0, row_zero.1]; decide
      have r := case_first c i M4 M5 M6 M7 M8 M9 M10 M11 M12 (tab0 c) (tab1 c) x0 x1 x2 x3 x4 x5 hM4 hM5 hM6 hM7 hM8 hM9 hM10 hM11 hM12 _ _ e0 e1
        (row (pt i)) (off_of _) (chk1_of _ _) y6 y7 y8 ((cond1_iff i).2 h0) c2 c3 c4 (fun h => h5 ((cond5_iff _).1 h)) (fun h => h6 ((cond6_iff i).1 h)) E K
      unfold dqNext dkNext dvNext
      rw [if_neg h6, if_neg h5, if_pos h0, if_pos hd, if_pos hd, decide_eq_true hd]
      exact r
    · have h5 : row (pt i) = 15 → pt i = 135 := by
        have h : ∀ n : Fin 136, row n = col n → row n = 15 → n = 135 := by decide +kernel
        exact h _ hd
      by_cases h6 : pt i = 135
      · have r := case_last c i M4 M5 M6 M7 M8 M9 M10 M11 M12 (tab0 c) (tab1 c) x0 x1 x2 x3 x4 x5 hM4 hM5 hM6 hM7 hM8 hM9 hM10 hM11 hM12 _ _ e0 e1
          (row (pt i)) (off_of _) (chk1_of _ _) y6 y7 y8 (fun h => h0 ((cond1_iff i).1 h)) c2 c3 c4 ((cond5_iff _).2 (row_last _ h6).1) ((cond6_iff i).2 h6) E K
        unfold dqNext dkNext dvNext
        rw [if_pos h6, if_pos (row_last _ h6).1, if_neg h0, if_pos hd, if_pos hd, decide_eq_true hd]
        exact r
      · have r := case_diagonal c i M4 M5 M6 M7 M8 M9 M10 M11 M12 (tab0 c) (tab1 c) x0 x1 x2 x3 x4 x5 hM4 hM5 hM6 hM7 hM8 hM9 hM10 hM11 hM12 _ _ e0 e1
          (row (pt i)) (off_of _) (chk1_of _ _) y6 y7 y8 (fun h => h0 ((cond1_iff i).1 h)) c2 c3 c4 (fun h => h6 (h5 ((cond5_iff _).1 h))) (fun h => h6 ((cond6_iff i).1 h)) E K
        unfold dqNext dkNext dvNext
        rw [if_neg h6, if_neg (fun h => h6 (h5 h)), if_neg h0, if_pos hd, if_pos hd, decide_eq_true hd]
        exact r
  · have h0 : ¬ pt i = 0 := fun h => hd (by rw [h, row_zero.1, row_zero.2])
    have h6 : ¬ pt i = 135 := fun h => hd ((row_last _ h).1.trans (row_last _ h).2.symm)
    have c2 : ¬ k0_cond2 (wd (row (pt i))) (wd (col (pt i))) = 1#1 := fun h => hd ((cond2_iff _ _).1 h)
    have c3 := (cond3_iff (row (pt i)) (col (pt i))).2 (lt_of_le_of_ne (col_le_row _) (Ne.symm hd))
    have c4 : ¬ k0_cond4 (wd (row (pt i))) (wd (col (pt i))) = 1#1 := fun h => hd ((cond4_iff _ _).1 h)
    by_cases h5 : row (pt i) = 15
    · have r := case_bottom c i M4 M5 M6 M7 M8 M9 M10 M11 M12 (tab0 c) (tab1 c) x0 x1 x2 x3 x4 x5 hM4 hM5 hM6 hM7 hM8 hM9 hM10 hM11 hM12 _ _ e0 e1
        (row (pt i)) (off_of _) (chk1_of _ _) y6 y7 y8 (fun h => h0 ((cond1_iff i).1 h)) c2 c3 c4 ((cond5_iff _).2 h5) (fun h => h6 ((cond6_iff i).1 h)) E K
      unfold dqNext dkNext dvNext
      rw [if_neg h6, if_pos h5, if_neg h0, if_neg hd, if_neg hd, decide_eq_false hd]
      exact r
    · have r := case_below c i M4 M5 M6 M7 M8 M9 M10 M11 M12 (tab0 c) (tab1 c) x0 x1 x2 x3 x4 x5 hM4 hM5 hM6 hM7 hM8 hM9 hM10 hM11 hM12 _ _ e0 e1
        (row (pt i)) (off_of _) (chk1_of _ _) y6 y7 y8 (fun h => h0 ((cond1_iff i).1 h)) c2 c3 c4 (fun h => h5 ((cond5_iff _).1 h)) (fun h => h6 ((cond6_iff i).1 h)) E K
      unfold dqNext dkNext dvNext
      rw [if_neg h6, if_neg h5, if_neg h0, if_neg hd, if_neg hd, decide_eq_false hd]
      exact r

end Point

end Cert.Kernel2Ideal.Attn

end
-- ==== Proof.Attn.Frame.lean ====
/- The attention's backward kernel from launch to end: what each window's buffer holds after each step, the body's
   obligation there, the launch, and the frame — at any values. -/
module

public import proofs.«01_k».proof.Proof.Attn.Point
public import Idealize.ShloMosaic.Lib.Pipeline.TableIdle

@[expose] public section

set_option maxRecDepth 16384

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

/-- The three stretches of host operations. -/
abbrev hostLists : List (List (HloOp τ sig (Elt F))) := [hostOps0, hostOps0_1, hostOps0_2]

/-- What a buffer holds when the region begins. -/
abbrev V (c : Dev nD) (b : Ref sig .tc) : Buf (Elt F) ((c : Thread nD τ).loc b) := StableHlo.after (hostLists (F := F)).flatten (fun b => m (c, b)) b

theorem hostLists_fresh : (hostLists : List (List (HloOp τ sig (Elt F)))).Forall fun ops => ops.Forall fun op => op.fresh = ∅ := by
  simp only [List.Forall]; repeat' constructor

theorem hostLists_sub : (hostLists : List (List (HloOp τ sig (Elt F)))).Forall fun ops => ops.Forall fun op => op.bufs ⊆ StableHlo.tcRefs τ sig :=
  ⟨hostOps0_sub, hostOps0_1_sub, hostOps0_2_sub⟩

set_option maxHeartbeats 800000 in
theorem hmain : Pipeline.HMainP (Ix := Unit) (Name := ℕ) (U := UR sig nD τ) (Lvl := ℕ) pcfgs 0 defs₀ Variants.none m (main (F := F)) (V m) :=
  Pipeline.hmainP_prefixes pcfgs 0 defs₀ Variants.none m main hostLists hostLists_sub hostLists_fresh main_chain

set_option maxHeartbeats 1600000 in
/-- No host operation writes an argument: the region finds each as launched. -/
theorem V_arg (c : Dev nD) (b : Ref sig .tc) (hb : b = main_arg0 ∨ b = main_arg1 ∨ b = main_arg2 ∨ b = main_arg3) :
    V m c b = m ((c : Thread nD τ).loc b) := by
  refine StableHlo.after_of_forall_not_mem (b := Proc.devRef .tc b) _ _ (List.forall_iff_forall_mem.mp ?_)
  rcases hb with rfl | rfl | rfl | rfl <;>
  · simp only [hostLists, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

end Cert.Kernel2Ideal.Attn

end
-- ==== Proof.Attn.Hold.lean ====
/- What each window's buffer of the attention's backward kernel holds after each step, and the body's obligation there. -/
module

public import proofs.«01_k».proof.Proof.Attn.Frame

@[expose] public section

set_option maxRecDepth 16384

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The tables, as the region finds them -/

set_option maxHeartbeats 1600000 in
theorem V_tab0 (c : Dev nD) : V m c main_c = tab0 c := by
  entry_read; rfl
set_option maxHeartbeats 1600000 in
theorem V_tab1 (c : Dev nD) : V m c main_c_0 = tab1 c := by
  entry_read; rfl

/-! ## What each window's buffer holds -/

/-- Window `w`'s block at point `t`, read off its array as the region finds it. -/
def iblk (c : Dev nD) (w : Fin (cfgA (F := F)).W) (t : Fin (cfgA (F := F)).N) : (((cfgA (F := F)).win w).xblock ((cfgA (F := F)).grid.coords t)).Idx → Elt F ((cfgA (F := F)).win w).elt :=
  (((cfgA (F := F)).win w).blk t).view.read (Elt F) (V m c (Pipeline.arrRef spec0 w))

/-- The number of a point's step. -/
abbrev nt (t : Fin (cfgA (F := F)).N) : Fin 136 := pt (grid0.coords t)

theorem nt_val (t : Fin (cfgA (F := F)).N) : (nt t).val = t.val := by
  have h : ∀ t : Fin grid0.N, (grid0.coords t 1).val = t.val := by decide +kernel
  exact h t

/-- The blocks of a step: the queries', the keys', the values', the cotangent's, the two rows'. -/
abbrev qB (c : Dev nD) (t : Fin (cfgA (F := F)).N) : Vec F S512x1024 .bf16 := iblk m c 0 t
abbrev kB (c : Dev nD) (t : Fin (cfgA (F := F)).N) : Vec F S512x1024 .bf16 := iblk m c 1 t
abbrev vB (c : Dev nD) (t : Fin (cfgA (F := F)).N) : Vec F S512x1024 .bf16 := iblk m c 2 t
abbrev gB (c : Dev nD) (t : Fin (cfgA (F := F)).N) : Vec F S512x1024 .bf16 := iblk m c 3 t
abbrev lB (c : Dev nD) (t : Fin (cfgA (F := F)).N) : Vec F S8x1x512 .f32 := iblk m c 4 t
abbrev dB (c : Dev nD) (t : Fin (cfgA (F := F)).N) : Vec F S8x1x512 .f32 := iblk m c 5 t

/-- What a sequence of steps leaves: step after step from `a`. -/
def steps {N : ℕ} {α : Type} (f : Fin N → α → α) (a : α) : (n : ℕ) → n < N → α
  | 0, h => f ⟨0, h⟩ a
  | n + 1, h => f ⟨n + 1, h⟩ (steps f a n (Nat.lt_of_succ_lt h))

theorem steps_succ {N : ℕ} {α : Type} (f : Fin N → α → α) (a : α) (t : Fin N) (h : t.val ≠ 0) (h' : t.val - 1 < N) :
    steps f a t.val t.isLt = f t (steps f a (t.val - 1) h') := by
  obtain ⟨_ | n, ht⟩ := t
  · exact absurd rfl h
  · rfl

/-- The gradients after point `t`. -/
def dqAt (c : Dev nD) (t : Fin (cfgA (F := F)).N) : Vec F S8192x1024 .f32 :=
  steps (fun t y => dqNext (nt t) (qB m c t) (kB m c t) (vB m c t) (gB m c t) (lB m c t) (dB m c t) y) k0_pay1 t.val t.isLt
def dkAt (c : Dev nD) (t : Fin (cfgA (F := F)).N) : Vec F S512x1024 .f32 :=
  steps (fun t y => dkNext (nt t) (qB m c t) (kB m c t) (vB m c t) (gB m c t) (lB m c t) (dB m c t) y) k0_pay2 t.val t.isLt
def dvAt (c : Dev nD) (t : Fin (cfgA (F := F)).N) : Vec F S512x1024 .f32 :=
  steps (fun t y => dvNext (nt t) (qB m c t) (kB m c t) (gB m c t) (lB m c t) y) k0_pay3 t.val t.isLt

/-- The pipeline's proof data: the arrays as the region finds them; after a point each input's buffer at its block and
    each gradient's at the steps so far; the tables kept as the region finds them. -/
def dats (_ : Fin 1) (c : Dev nD) : Dat τ (Elt F) Unit ℕ (UR sig nD τ) ℕ (Pipeline.pin (pcfgs (F := F)) (fun _ => adm) 0) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAt m c t
    | ⟨7, _⟩ => dkAt m c t
    | ⟨8, _⟩ => dvAt m c t
  Φ _ := iprop(Pipeline.ΦA spec0 c ∗ Pipeline.ΦT pre0 tables c)
  q _ := fullShare
  owed _ := 0

theorem A_eq (c : Dev nD) (w : Fin (cfgA (F := F)).W) : (dats m 0 c).A w = V m c (Pipeline.arrRef spec0 w) := by
  dsimp only [dats]

theorem after_0 (c : Dev nD) (t : Fin (cfgA (F := F)).N) : (dats m 0 c).after 0 t = iblk m c 0 t := rfl
theorem after_1 (c : Dev nD) (t : Fin (cfgA (F := F)).N) : (dats m 0 c).after 1 t = iblk m c 1 t := rfl
theorem after_2 (c : Dev nD) (t : Fin (cfgA (F := F)).N) : (dats m 0 c).after 2 t = iblk m c 2 t := rfl
theorem after_3 (c : Dev nD) (t : Fin (cfgA (F := F)).N) : (dats m 0 c).after 3 t = iblk m c 3 t := rfl
theorem after_4 (c : Dev nD) (t : Fin (cfgA (F := F)).N) : (dats m 0 c).after 4 t = iblk m c 4 t := rfl
theorem after_5 (c : Dev nD) (t : Fin (cfgA (F := F)).N) : (dats m 0 c).after 5 t = iblk m c 5 t := rfl
theorem after_6 (c : Dev nD) (t : Fin (cfgA (F := F)).N) : (dats m 0 c).after 6 t = dqAt m c t := rfl
theorem after_7 (c : Dev nD) (t : Fin (cfgA (F := F)).N) : (dats m 0 c).after 7 t = dkAt m c t := rfl
theorem after_8 (c : Dev nD) (t : Fin (cfgA (F := F)).N) : (dats m 0 c).after 8 t = dvAt m c t := rfl

/-- An input's buffer holds its block at every point. -/
theorem before_0 (c : Dev nD) (t : Fin (cfgA (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgA (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgA (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgA (F := F)).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfgA (F := F)).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin (cfgA (F := F)).N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-- Every step writes each gradient. -/
theorem live_6 (i : grid0.Coords) : (cfgA (F := F)).idle 6 i = false := by
  show idle0 (F := F) tables 6 i = false
  dsimp only [idle0]
  rw [tables_atD0, tables_atD1]
  rcases lt_or_eq_of_le (col_le_row (pt i)) with h | h
  · rw [(cond3_iff (row (pt i)) (col (pt i))).2 h]; simp
  · rw [(cond4_iff (row (pt i)) (col (pt i))).2 h.symm]; simp
theorem live_7 (i : grid0.Coords) : (cfgA (F := F)).idle 7 i = false := by
  show idle0 (F := F) tables 7 i = false
  dsimp only [idle0]
  rw [tables_atD0, tables_atD1]
  rcases lt_or_eq_of_le (col_le_row (pt i)) with h | h
  · rw [(cond3_iff (row (pt i)) (col (pt i))).2 h]; simp
  · rw [(cond4_iff (row (pt i)) (col (pt i))).2 h.symm]; simp
theorem live_8 (i : grid0.Coords) : (cfgA (F := F)).idle 8 i = false := by
  show idle0 (F := F) tables 8 i = false
  dsimp only [idle0]
  rw [tables_atD0, tables_atD1]
  rcases lt_or_eq_of_le (col_le_row (pt i)) with h | h
  · rw [(cond3_iff (row (pt i)) (col (pt i))).2 h]; simp
  · rw [(cond4_iff (row (pt i)) (col (pt i))).2 h.symm]; simp

theorem nt_zero (t : Fin (cfgA (F := F)).N) (h : t.val = 0) : nt t = 0 := Fin.ext ((nt_val t).trans h)
/-- The point before. -/
abbrev prev (t : Fin (cfgA (F := F)).N) : Fin (cfgA (F := F)).N := ⟨t.val - 1, Nat.lt_of_le_of_lt (Nat.sub_le _ _) t.isLt⟩

/-- Between a point and the one before it: a new column at its diagonal after the bottom row, or the same column one row down. -/
theorem nt_step (t : Fin (cfgA (F := F)).N) (h : t.val ≠ 0) :
    (row (nt (prev t)) = 15 ∧ row (nt t) = col (nt t) ∧ col (nt t) ≠ col (nt (prev t)))
      ∨ (row (nt (prev t)) ≠ 15 ∧ row (nt t) ≠ col (nt t) ∧ col (nt t) = col (nt (prev t)) ∧ (row (nt t)).val = (row (nt (prev t))).val + 1) := by
  have ht := nt_val t
  have hp := nt_val (prev t)
  have hl : (nt t).val < 136 := (nt t).isLt
  have e := step_succ ⟨t.val - 1, by omega⟩
  have e1 : (⟨t.val - 1, by omega⟩ : Fin 135).castSucc = nt (prev t) := Fin.ext (by rw [hp]; rfl)
  have e2 : (⟨t.val - 1, by omega⟩ : Fin 135).succ = nt t := Fin.ext (by rw [ht]; simp; omega)
  rw [e1, e2] at e
  exact e

/-- What the queries' gradient makes of what is there before the first step: nothing. -/
theorem dqNext_zero (x0 x1 x2 x3 : Vec F S512x1024 .bf16) (x4 x5 : Vec F S8x1x512 .f32) (y y' : Vec F S8192x1024 .f32) (n : Fin 136) (h : n = 0) :
    dqNext n x0 x1 x2 x3 x4 x5 y = dqNext n x0 x1 x2 x3 x4 x5 y' := by
  unfold dqNext; rw [if_pos h, if_pos h]
theorem dkNext_diag (x0 x1 x2 x3 : Vec F S512x1024 .bf16) (x4 x5 : Vec F S8x1x512 .f32) (y y' : Vec F S512x1024 .f32) (n : Fin 136) (h : row n = col n) :
    dkNext n x0 x1 x2 x3 x4 x5 y = dkNext n x0 x1 x2 x3 x4 x5 y' := by
  unfold dkNext; rw [if_pos h, if_pos h]
theorem dvNext_diag (x0 x1 x3 : Vec F S512x1024 .bf16) (x4 : Vec F S8x1x512 .f32) (y y' : Vec F S512x1024 .f32) (n : Fin 136) (h : row n = col n) :
    dvNext n x0 x1 x3 x4 y = dvNext n x0 x1 x3 x4 y' := by
  unfold dvNext; rw [if_pos h, if_pos h]

theorem index_6 (t : Fin (cfgA (F := F)).N) : ((cfgA (F := F)).win 6).index t = ![0, 0] := by
  show (![(0#32).toNat, (BitVec.ofNat 32 (grid0.coords t 0).val).toNat] : Fin 2 → ℕ) = _
  rw [pt_axis0]; rfl
theorem flush_6 (t : Fin (cfgA (F := F)).N) (h : t.val + 1 < (cfgA (F := F)).N) : ((cfgA (F := F)).win 6).flush t = false := by
  unfold Pipeline.Window.flush
  have e : ¬ t.val + 1 = (cfgA (F := F)).grid.N := Nat.ne_of_lt h
  have e2 : ¬ ∃ h : t.val + 1 < (cfgA (F := F)).grid.N, ((cfgA (F := F)).win 6).index ⟨t.val + 1, h⟩ ≠ ((cfgA (F := F)).win 6).index t := by
    rintro ⟨h', ha⟩; exact ha (by rw [index_6, index_6])
  rw [decide_eq_false e, decide_eq_false e2]; simp
theorem index_7 (t : Fin (cfgA (F := F)).N) : ((cfgA (F := F)).win 7).index t = ![(col (nt t)).val, 0] := ix_7 (F := F) (grid0.coords t)
theorem index_8 (t : Fin (cfgA (F := F)).N) : ((cfgA (F := F)).win 8).index t = ![(col (nt t)).val, 0] := ix_8 (F := F) (grid0.coords t)

theorem flush_7 (t : Fin (cfgA (F := F)).N) (h : t.val ≠ 0) (hr : row (nt t) ≠ col (nt t)) : ((cfgA (F := F)).win 7).flush (prev t) = false := by
  rcases nt_step t h with e | e
  · exact absurd e.2.1 hr
  have hl := t.isLt
  unfold Pipeline.Window.flush
  have e1 : ¬ (prev t).val + 1 = (cfgA (F := F)).grid.N := by
    have : (prev t).val + 1 = t.val := by show t.val - 1 + 1 = t.val; omega
    rw [this]; exact Nat.ne_of_lt hl
  have e2 : ¬ ∃ h : (prev t).val + 1 < (cfgA (F := F)).grid.N, ((cfgA (F := F)).win 7).index ⟨(prev t).val + 1, h⟩ ≠ ((cfgA (F := F)).win 7).index (prev t) := by
    rintro ⟨h', ha⟩
    have e3 : (⟨(prev t).val + 1, h'⟩ : Fin (cfgA (F := F)).N) = t := Fin.ext (by show t.val - 1 + 1 = t.val; omega)
    apply ha
    rw [index_7, index_7, e3, e.2.2.1]
  rw [decide_eq_false e1, decide_eq_false e2]; simp
theorem flush_8 (t : Fin (cfgA (F := F)).N) (h : t.val ≠ 0) (hr : row (nt t) ≠ col (nt t)) : ((cfgA (F := F)).win 8).flush (prev t) = false := by
  have e : ((cfgA (F := F)).win 8).flush (prev t) = ((cfgA (F := F)).win 7).flush (prev t) := rfl
  rw [e]; exact flush_7 t h hr

/-- What a step makes of what it finds is what the proof data says. -/
theorem next_6 (c : Dev nD) (t : Fin (cfgA (F := F)).N) (d) :
    dqNext (nt t) (qB m c t) (kB m c t) (vB m c t) (gB m c t) (lB m c t) (dB m c t) ((dats m 0 c).before 6 t d) = dqAt m c t := by
  by_cases h : t.val = 0
  · have e : dqAt m c t = dqNext (nt t) (qB m c t) (kB m c t) (vB m c t) (gB m c t) (lB m c t) (dB m c t) k0_pay1 := by
      obtain ⟨_ | n, ht⟩ := t
      · rfl
      · exact absurd h (Nat.succ_ne_zero n)
    rw [e]; exact dqNext_zero _ _ _ _ _ _ _ _ _ (nt_zero t h)
  · rw [(dats m 0 c).before_out_kept 6 rfl t h (flush_6 _ (by have := t.isLt; show t.val - 1 + 1 < _; omega)) live_6 (fun _ _ => rfl) d, after_6]
    exact (steps_succ _ _ t h _).symm
theorem next_7 (c : Dev nD) (t : Fin (cfgA (F := F)).N) (d) :
    dkNext (nt t) (qB m c t) (kB m c t) (vB m c t) (gB m c t) (lB m c t) (dB m c t) ((dats m 0 c).before 7 t d) = dkAt m c t := by
  by_cases h : t.val = 0
  · have e : dkAt m c t = dkNext (nt t) (qB m c t) (kB m c t) (vB m c t) (gB m c t) (lB m c t) (dB m c t) k0_pay2 := by
      obtain ⟨_ | n, ht⟩ := t
      · rfl
      · exact absurd h (Nat.succ_ne_zero n)
    rw [e]; exact dkNext_diag _ _ _ _ _ _ _ _ _ (by rw [nt_zero t h, row_zero.1, row_zero.2])
  · have e : dkAt m c t = dkNext (nt t) (qB m c t) (kB m c t) (vB m c t) (gB m c t) (lB m c t) (dB m c t) (dkAt m c (prev t)) := steps_succ _ _ t h _
    by_cases hr : row (nt t) = col (nt t)
    · rw [e]; exact dkNext_diag _ _ _ _ _ _ _ _ _ hr
    · rw [(dats m 0 c).before_out_kept 7 rfl t h (flush_7 t h hr) live_7 (fun _ _ => rfl) d, after_7]
      exact e.symm
theorem next_8 (c : Dev nD) (t : Fin (cfgA (F := F)).N) (d) :
    dvNext (nt t) (qB m c t) (kB m c t) (gB m c t) (lB m c t) ((dats m 0 c).before 8 t d) = dvAt m c t := by
  by_cases h : t.val = 0
  · have e : dvAt m c t = dvNext (nt t) (qB m c t) (kB m c t) (gB m c t) (lB m c t) k0_pay3 := by
      obtain ⟨_ | n, ht⟩ := t
      · rfl
      · exact absurd h (Nat.succ_ne_zero n)
    rw [e]; exact dvNext_diag _ _ _ _ _ _ _ (by rw [nt_zero t h, row_zero.1, row_zero.2])
  · have e : dvAt m c t = dvNext (nt t) (qB m c t) (kB m c t) (gB m c t) (lB m c t) (dvAt m c (prev t)) := steps_succ _ _ t h _
    by_cases hr : row (nt t) = col (nt t)
    · rw [e]; exact dvNext_diag _ _ _ _ _ _ _ hr
    · rw [(dats m 0 c).before_out_kept 8 rfl t h (flush_8 t h hr) live_8 (fun _ _ => rfl) d, after_8]
      exact e.symm

end Cert.Kernel2Ideal.Attn

end
-- ==== Proof.Attn.Math.lean ====
/- Causal attention and its gradients over the reals. -/
module

public import Idealize.ShloMosaic.Lib.Pointwise
public import Mathlib.Tactic.Ring
public import Mathlib.Tactic.FieldSimp

@[expose] public section

noncomputable section

namespace Cert.AttnMath

/-- The weights' base-two exponent is the natural one of the score less the log of the sum. -/
theorem rpow_two (s l : ℝ) : Real.rpow 2 (s / Real.log 2 - l * (Real.log 2)⁻¹) = Real.exp (s - l) := by
  have h : Real.log 2 ≠ 0 := ne_of_gt (Real.log_pos (by norm_num))
  show (2 : ℝ) ^ (s / Real.log 2 - l * (Real.log 2)⁻¹) = _
  rw [Real.rpow_def_of_pos (by norm_num)]
  congr 1
  field_simp

/-- A sum over the lanes of a head, the lanes from `n` on zero. -/
theorem sum_pad {M : Type*} [AddCommMonoid M] {n N : ℕ} (h : n ≤ N) (f : Fin n → M) :
    ∑ i : Fin N, (if hi : i.val < n then f ⟨i.val, hi⟩ else 0) = ∑ i : Fin n, f i := by
  obtain ⟨k, rfl⟩ := Nat.exists_eq_add_of_le h
  rw [Fin.sum_univ_add]
  simp

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many extended reals, none the top one and one of them real, is real. -/
theorem fold_max_coe {ι : Type*} [Fintype ι] (f : ι → EReal) (i : ι) (r : ℝ) (hi : f i = (r : EReal)) (h : ∀ j, f j ≠ ⊤) :
    ∃ M : ℝ, Finset.univ.fold max ⊥ f = (M : EReal) := by
  have e : Finset.univ.fold max ⊥ f = Finset.univ.sup f := rfl
  rw [e]
  have h1 : Finset.univ.sup f ≠ ⊤ := by
    have : Finset.univ.sup f < ⊤ := (Finset.sup_lt_iff (by exact bot_lt_top)).2 fun j _ => lt_top_iff_ne_top.2 (h j)
    exact this.ne
  have h2 : Finset.univ.sup f ≠ ⊥ := by
    intro hb
    have : f i ≤ Finset.univ.sup f := Finset.le_sup (Finset.mem_univ i)
    rw [hb, hi] at this
    exact absurd this (not_le.2 (EReal.bot_lt_coe r))
  exact ⟨_, (EReal.coe_toReal h1 h2).symm⟩

variable {T : ℕ} (q k : Fin T → Fin 8 → Fin 96 → ℝ) (v g : Fin T → Fin 8 → Fin 64 → ℝ) (c : ℝ) (M : Fin 8 → Fin T → ℝ)

/-- The score of key `j` for query `t` in head `h`; -/
def score (h : Fin 8) (t j : Fin T) : ℝ := (∑ d, q t h d * k j h d) * c
/-- its weight before the division, keys after the query left out; -/
def ex (h : Fin 8) (t j : Fin T) : ℝ := if j ≤ t then Real.exp (score q k c h t j - M h t) else 0
/-- the weights' sum; -/
def tot (h : Fin 8) (t : Fin T) : ℝ := ∑ j, ex q k c M h t j
/-- the weight; -/
def pr (h : Fin 8) (t j : Fin T) : ℝ := ex q k c M h t j / tot q k c M h t
/-- the weight's gradient; -/
def dp (h : Fin 8) (t j : Fin T) : ℝ := ∑ d, g t h d * v j h d
/-- its mean over the query's keys; -/
def del (h : Fin 8) (t : Fin T) : ℝ := ∑ j, pr q k c M h t j * dp v g h t j
/-- the score's gradient; -/
def ds (h : Fin 8) (t j : Fin T) : ℝ := pr q k c M h t j * (dp v g h t j - del q k v g c M h t)
/-- the logarithm the forward pass saves. -/
def lse (h : Fin 8) (t : Fin T) : ℝ := M h t + Real.log (tot q k c M h t)

theorem tot_pos (h : Fin 8) (t : Fin T) : 0 < tot q k c M h t := by
  unfold tot
  refine Finset.sum_pos' (fun j _ => ?_) ⟨t, Finset.mem_univ t, ?_⟩
  · unfold ex; split
    · exact (Real.exp_pos _).le
    · exact le_rfl
  · unfold ex; rw [if_pos le_rfl]; exact Real.exp_pos _

/-- From the saved logarithm the weight is one exponential. -/
theorem exp_lse (h : Fin 8) (t j : Fin T) (hj : j ≤ t) : Real.exp (score q k c h t j - lse q k c M h t) = pr q k c M h t j := by
  unfold lse pr
  rw [ex, if_pos hj, ← sub_sub, Real.exp_sub, Real.exp_log (tot_pos q k c M h t)]

theorem pr_after (h : Fin 8) (t j : Fin T) (hj : ¬ j ≤ t) : pr q k c M h t j = 0 := by
  unfold pr ex; rw [if_neg hj, zero_div]

theorem ds_after (h : Fin 8) (t j : Fin T) (hj : ¬ j ≤ t) : ds q k v g c M h t j = 0 := by
  unfold ds; rw [pr_after q k c M h t j hj, zero_mul]

/-- The mean of the weights' gradients is the cotangent against the output. -/
theorem del_eq (h : Fin 8) (t : Fin T) : ∑ d, g t h d * ∑ j, v j h d * pr q k c M h t j = del q k v g c M h t := by
  unfold del dp
  simp only [Finset.mul_sum]
  rw [Finset.sum_comm]
  exact Finset.sum_congr rfl fun j _ => Finset.sum_congr rfl fun d _ => by ring

/-- The score's gradient as the quotient's derivative has it. -/
theorem ds_eq (h : Fin 8) (t j : Fin T) :
    (dp v g h t j / tot q k c M h t + -∑ i, dp v g h t i * (1 / (tot q k c M h t * tot q k c M h t)) * ex q k c M h t i) * ex q k c M h t j
      = ds q k v g c M h t j := by
  have hp := (tot_pos q k c M h t).ne'
  unfold ds del pr
  have e : ∑ i, ex q k c M h t i / tot q k c M h t * dp v g h t i
      = tot q k c M h t * ∑ i, dp v g h t i * (1 / (tot q k c M h t * tot q k c M h t)) * ex q k c M h t i := by
    rw [Finset.mul_sum]
    refine Finset.sum_congr rfl fun i _ => ?_
    field_simp
  rw [e]
  field_simp
  ring

end Cert.AttnMath

end
-- ==== Proof.Attn.Soft.lean ====
/- The softmax of the causal scores as the host forms it, over arguments that are real. -/
module

public import proofs.«01_k».proof.Proof.Gen.Kernel2Ideal.Launch
public import proofs.«01_k».proof.Proof.Attn.Math
public import Idealize.ShloMosaic.Lib.WordCmp

@[expose] public section

set_option maxRecDepth 16384

noncomputable section

namespace Cert.Kernel2Ideal.AttnValue

open Cert.Kernel2Ideal Cert.Kernel2Ideal.Gen Cert.AttnMath
open Idealize.ShloMosaic Idealize.ShloMosaic.TcCoe

/-- An array of reals. -/
def lift3 {a b n : ℕ} {φ : FTy} (f : Fin a → Fin b → Fin n → ℝ) : FVec Ideal ⟨3, ![a, b, n]⟩ φ := fun i => ((f (i 0) (i 1) (i 2) : ℝ) : EReal)

/-- The scores' scale, a single-precision number. -/
def scale : ℝ := 13698540 / 134217728

theorem scale_word : Ideal.ofBits .f32 0x3DD105EC#32 = (scale : EReal) := by
  unfold scale
  simp [Ideal.ofBits, Ideal.ieee, -EReal.coe_mul]; norm_num

theorem bot_word : Ideal.ofBits .f32 0xFF800000#32 = ⊥ := by
  simp [Ideal.ofBits, Ideal.ieee]

theorem div_real (x y : ℝ) (h : y ≠ 0) : Ideal.div (x : EReal) (y : EReal) = ((x / y : ℝ) : EReal) := by
  rw [Ideal.div_coe h, ← EReal.coe_mul, mul_one_div]

section Stages

variable (a0 a1 : FVec Ideal S8192x8x96 .f32) (s e : FVec Ideal S8x8192x8192 .f32) (x : FVec Ideal S8x8192x1 .f32)

/-- Which keys a query sees. -/
def seen : IVec S8x8192x8192 1 :=
  broadcastInDim S8x8192x8192 ![1, 2] bcast_S8192x8192_S8x8192x8192_1_2
    (cmpi .sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

/-- The scores under the mask; -/
def scoresA : FVec Ideal S8x8192x8192 .f32 :=
  select seen (mulf (Host.dotGeneral dot_S8192x8x96_S8192x8x96_S8x8192x8192_2_2_0_0_1_1 none a0 a1)
      (broadcastInDim S8x8192x8192 ![] bcast_S_S8x8192x8192 (constant S_ .f32 0x3DD105EC#32)))
    (broadcastInDim S8x8192x8192 ![] bcast_S_S8x8192x8192 (constant S_ .f32 0xFF800000#32))
/-- each query's greatest; -/
def topA : FVec Ideal S8x8192 .f32 := Host.reduce FloatOps.maximumf s (constant S_ .f32 0xFF800000#32) reducesTo_S8x8192x8192_S8x8192_d2 h_S_
/-- the weights before the division; -/
def exA : FVec Ideal S8x8192x8192 .f32 := Host.exp (subf s (broadcastInDim S8x8192x8192 ![0, 1, 2] bcast_S8x8192x1_S8x8192x8192_0_1_2 x))
/-- their sums; -/
def totA : FVec Ideal S8x8192x1 .f32 := broadcastInDim S8x8192x1 ![0, 1] bcast_S8x8192_S8x8192x1_0_1
  (Host.reduceAdd e (constant S_ .f32 0x00000000#32) reducesTo_S8x8192x8192_S8x8192_d2 h_S_)
/-- the weights. -/
def prA : FVec Ideal S8x8192x8192 .f32 := Host.divf e (broadcastInDim S8x8192x8192 ![0, 1, 2] bcast_S8x8192x1_S8x8192x8192_0_1_2 x)

end Stages

variable (q k : Fin 8192 → Fin 8 → Fin 96 → ℝ)

theorem seen_at (h : Fin 8) (t j : Fin 8192) : seen (ix3 h t j) = if j ≤ t then 1#1 else 0#1 := by
  pointwise [seen]
  rw [WordCmp.cmpi_sle_ofNat (by omega) (by omega)]
  by_cases hj : j ≤ t
  · rw [if_pos hj, decide_eq_true (show j.val ≤ t.val from hj)]; rfl
  · rw [if_neg hj, decide_eq_false (show ¬ j.val ≤ t.val from hj)]; rfl

/-- The score under the mask. -/
def masked (h : Fin 8) (t j : Fin 8192) : EReal := if j ≤ t then ((score q k scale h t j : ℝ) : EReal) else ⊥

theorem scores_at (h : Fin 8) (t j : Fin 8192) : scoresA (lift3 q) (lift3 k) (ix3 h t j) = masked q k h t j := by
  pointwise [scoresA, seen_at, scale_word, bot_word, lift3, masked]
  by_cases hj : j ≤ t
  · rw [if_pos hj, if_pos hj, score, EReal.coe_mul, coe_sum]
    simp only [EReal.coe_mul]; rfl
  · rw [if_neg hj, if_neg hj]; rfl

/-- A query's greatest score. -/
def top (h : Fin 8) (t : Fin 8192) : ℝ := (Finset.univ.fold max ⊥ (masked q k h t)).toReal

theorem top_coe (h : Fin 8) (t : Fin 8192) : Finset.univ.fold max ⊥ (masked q k h t) = (top q k h t : EReal) := by
  obtain ⟨M, hM⟩ := fold_max_coe (masked q k h t) t (score q k scale h t t) (if_pos le_rfl) fun j => by
    unfold masked; split
    · exact EReal.coe_ne_top _
    · exact bot_ne_top
  unfold top; rw [hM]; rfl

theorem top_at (h : Fin 8) (t : Fin 8192) : topA (scoresA (lift3 q) (lift3 k)) (ix2 h t) = (top q k h t : EReal) := by
  pointwise [topA, bot_word, scores_at]
  exact top_coe q k h t

theorem ex_at (x : FVec Ideal S8x8192x1 .f32) (h : Fin 8) (t j : Fin 8192) (hx : x (ix3 h t 0) = (top q k h t : EReal)) :
    exA (scoresA (lift3 q) (lift3 k)) x (ix3 h t j) = (ex q k scale (top q k) h t j : EReal) := by
  pointwise [exA, scores_at, hx, masked, ex]
  by_cases hj : j ≤ t
  · rw [if_pos hj, if_pos hj, ← EReal.coe_sub, Ideal.exp_coe]
  · rw [if_neg hj, if_neg hj, EReal.bot_sub, Ideal.exp_bot, EReal.coe_zero]

theorem tot_at (e : FVec Ideal S8x8192x8192 .f32) (h : Fin 8) (t : Fin 8192) (he : ∀ j, e (ix3 h t j) = (ex q k scale (top q k) h t j : EReal)) :
    totA e (ix3 h t 0) = (tot q k scale (top q k) h t : EReal) := by
  pointwise [totA, he]
  rw [tot, coe_sum]

theorem pr_at (e : FVec Ideal S8x8192x8192 .f32) (x : FVec Ideal S8x8192x1 .f32) (h : Fin 8) (t j : Fin 8192)
    (he : e (ix3 h t j) = (ex q k scale (top q k) h t j : EReal)) (hx : x (ix3 h t 0) = (tot q k scale (top q k) h t : EReal)) :
    prA e x (ix3 h t j) = (pr q k scale (top q k) h t j : EReal) := by
  pointwise [prA, he, hx]
  rw [div_real _ _ (tot_pos q k scale (top q k) h t).ne', pr]

end Cert.Kernel2Ideal.AttnValue

end
-- ==== Proof.Attn.Args.lean ====
/- The arrays the attention's backward call takes, over arguments that are real. -/
module

public import proofs.«01_k».proof.Proof.Attn.Soft

@[expose] public section

set_option maxRecDepth 16384

noncomputable section

namespace Cert.Kernel2Ideal.AttnValue

open Cert.Kernel2Ideal Cert.Kernel2Ideal.Gen Cert.AttnMath
open Idealize.ShloMosaic Idealize.ShloMosaic.TcCoe

/-- Heads of `n` lanes, 128 apart, zero between. -/
def lanes {n : ℕ} (f : Fin 8192 → Fin 8 → Fin n → ℝ) (t : Fin 8192) (j : Fin 1024) : ℝ :=
  if h : j.val % 128 < n then f t ⟨j.val / 128, by omega⟩ ⟨j.val % 128, h⟩ else 0

/-- Eight heads of 64 lanes side by side. -/
def lift2 (g : Fin 8192 → Fin 8 → Fin 64 → ℝ) : FVec Ideal S8192x512 .f32 :=
  fun i => ((g (i 0) ⟨(i 1).val / 64, by have : (i 1).val < 512 := (i 1).isLt; omega⟩ ⟨(i 1).val % 64, Nat.mod_lt _ (by decide)⟩ : ℝ) : EReal)

theorem lift2_at (g : Fin 8192 → Fin 8 → Fin 64 → ℝ) (t : Fin 8192) (h : Fin 8) (d : Fin 64) (hx : h.val * 64 + d.val < 512) :
    lift2 g (ix2 t ⟨h.val * 64 + d.val, hx⟩) = (g t h d : EReal) := by
  have e1 : (h.val * 64 + d.val) / 64 = h.val := by omega
  have e2 : (h.val * 64 + d.val) % 64 = d.val := by omega
  show ((g t ⟨(h.val * 64 + d.val) / 64, _⟩ ⟨(h.val * 64 + d.val) % 64, _⟩ : ℝ) : EReal) = _
  congr 3

section Stages

variable (a0 a1 : FVec Ideal S8192x8x96 .f32) (a2 : FVec Ideal S8192x8x64 .f32) (a3 : FVec Ideal S8192x512 .f32)

def pad96 : FVec Ideal S8192x1024 .f32 :=
  shapeCast S8192x1024 (pad S8192x8x128 ![0, 0, 0] ![0, 0, 32] ![0, 0, 0] a0 (constant S_ .f32 0x00000000#32) pads_S8192x8x96_S8192x8x128_000_000_0320 h_S_)
    shapeCasts_S8192x8x128_S8192x1024
def pad64 : FVec Ideal S8192x1024 .f32 :=
  shapeCast S8192x1024 (pad S8192x8x128 ![0, 0, 0] ![0, 0, 64] ![0, 0, 0] a2 (constant S_ .f32 0x00000000#32) pads_S8192x8x64_S8192x8x128_000_000_0640 h_S_)
    shapeCasts_S8192x8x128_S8192x1024
def headsA : FVec Ideal S8192x8x64 .f32 := shapeCast S8192x8x64 a3 shapeCasts_S8192x512_S8192x8x64
/-- The queries, scaled into base two. -/
def qA : FVec Ideal S8192x1024 .bf16 :=
  truncf .bf16 (Host.divf (mulf (pad96 a0) (broadcastInDim S8192x1024 ![] bcast_S_S8192x1024 (constant S_ .f32 0x3DD105EC#32)))
    (broadcastInDim S8192x1024 ![] bcast_S_S8192x1024 (Host.log (constant S_ .f32 0x40000000#32)))) bitsLt_bf16_f32
def kA : FVec Ideal S8192x1024 .bf16 := truncf .bf16 (pad96 a1) bitsLt_bf16_f32
def vA : FVec Ideal S8192x1024 .bf16 := truncf .bf16 (pad64 a2) bitsLt_bf16_f32
def gA : FVec Ideal S8192x1024 .bf16 := truncf .bf16 (pad64 (headsA a3)) bitsLt_bf16_f32
/-- Each query's greatest score, its weights, and their sum. -/
def topB : FVec Ideal S8x8192x1 .f32 := broadcastInDim S8x8192x1 ![0, 1] bcast_S8x8192_S8x8192x1_0_1 (topA (scoresA a0 a1))
def exB : FVec Ideal S8x8192x8192 .f32 := exA (scoresA a0 a1) (topB a0 a1)
def totB : FVec Ideal S8x8192x1 .f32 := totA (exB a0 a1)
def prB : FVec Ideal S8x8192x8192 .f32 := prA (exB a0 a1) (totB a0 a1)
/-- The saved logarithms -/
def lA : FVec Ideal S8x1x8192 .f32 := shapeCast S8x1x8192 (addf (topB a0 a1) (Host.log (totB a0 a1))) shapeCasts_S8x8192x1_S8x1x8192
/-- and the cotangent against the output. -/
def dA : FVec Ideal S8x1x8192 .f32 :=
  shapeCast S8x1x8192 (transpose S8x8192 [1, 0] (Host.reduceAdd (mulf (headsA a3) (transpose S8192x8x64 [2, 0, 1]
    (Host.dotGeneral dot_S8192x8x64_S8x8192x8192_S8x64x8192_0_2_2_1_1_0 none a2 (prB a0 a1)) transposes_S8x64x8192_S8192x8x64_2_0_1))
    (constant S_ .f32 0x00000000#32) reducesTo_S8192x8x64_S8192x8_d2 h_S_) transposes_S8192x8_S8x8192_1_0) shapeCasts_S8x8192_S8x1x8192

end Stages

variable (q k : Fin 8192 → Fin 8 → Fin 96 → ℝ) (v g : Fin 8192 → Fin 8 → Fin 64 → ℝ)

theorem pad96_at (t : Fin 8192) (j : Fin 1024) : pad96 (lift3 q) (ix2 t j) = (lanes q t j : EReal) := by
  pointwise [pad96, lift3, lanes]
  by_cases h : j.val % 128 < 96
  · rw [dif_pos h, dif_pos ⟨by omega, h⟩]
  · rw [dif_neg h, dif_neg fun h' => h h'.2, EReal.coe_zero]

theorem pad64_at (a : FVec Ideal S8192x8x64 .f32) (ha : ∀ t h d, a (ix3 t h d) = (v t h d : EReal)) (t : Fin 8192) (j : Fin 1024) :
    pad64 a (ix2 t j) = (lanes v t j : EReal) := by
  pointwise [pad64, ha, lanes]
  by_cases h : j.val % 128 < 64
  · rw [dif_pos h, dif_pos ⟨by omega, h⟩]
  · rw [dif_neg h, dif_neg fun h' => h h'.2, EReal.coe_zero]

theorem heads_at (t : Fin 8192) (h : Fin 8) (d : Fin 64) : headsA (lift2 g) (ix3 t h d) = (g t h d : EReal) := by
  pointwise [headsA]
  exact lift2_at g t h d _

theorem two_word : Ideal.ofBits .f32 0x40000000#32 = ((2 : ℝ) : EReal) := by
  simp [Ideal.ofBits, Ideal.ieee, -EReal.coe_mul]; norm_num

theorem q_at (t : Fin 8192) (j : Fin 1024) : qA (lift3 q) (ix2 t j) = ((lanes q t j * scale / Real.log 2 : ℝ) : EReal) := by
  pointwise [qA, pad96_at, scale_word]
  rw [two_word, Ideal.log_coe, if_neg (by norm_num), ← EReal.coe_mul, div_real _ _ (ne_of_gt (Real.log_pos (by norm_num)))]

theorem k_at (t : Fin 8192) (j : Fin 1024) : kA (lift3 k) (ix2 t j) = (lanes k t j : EReal) := by
  pointwise [kA, pad96_at]

theorem v_at (t : Fin 8192) (j : Fin 1024) : vA (lift3 v) (ix2 t j) = (lanes v t j : EReal) := by
  pointwise [vA]
  exact pad64_at v _ (fun _ _ _ => rfl) t j

theorem g_at (t : Fin 8192) (j : Fin 1024) : gA (lift2 g) (ix2 t j) = (lanes g t j : EReal) := by
  pointwise [gA]
  exact pad64_at g _ (heads_at g) t j

theorem topB_at (h : Fin 8) (t : Fin 8192) : topB (lift3 q) (lift3 k) (ix3 h t 0) = (top q k h t : EReal) := by
  pointwise [topB, top_at]

theorem exB_at (h : Fin 8) (t j : Fin 8192) : exB (lift3 q) (lift3 k) (ix3 h t j) = (ex q k scale (top q k) h t j : EReal) :=
  ex_at q k _ h t j (topB_at q k h t)

theorem totB_at (h : Fin 8) (t : Fin 8192) : totB (lift3 q) (lift3 k) (ix3 h t 0) = (tot q k scale (top q k) h t : EReal) :=
  tot_at q k _ h t fun j => exB_at q k h t j

theorem prB_at (h : Fin 8) (t j : Fin 8192) : prB (lift3 q) (lift3 k) (ix3 h t j) = (pr q k scale (top q k) h t j : EReal) :=
  pr_at q k _ _ h t j (exB_at q k h t j) (totB_at q k h t)

/-- The last two axes exchanged, the last of them one long. -/
theorem turn_at (x : FVec Ideal S8x8192x1 .f32) (h : Fin 8) (t : Fin 8192) :
    shapeCast S8x1x8192 x shapeCasts_S8x8192x1_S8x1x8192 (ix3 h 0 t) = x (ix3 h t 0) := by
  refine shapeCast_apply x _ _ _ ?_
  rw [Shape.rowMajor_val_three, Shape.rowMajor_val_three]
  show (h.val * 8192 + t.val) * 1 + 0 = (h.val * 1 + 0) * 8192 + t.val
  omega

theorem log_real (y : ℝ) (h : 0 < y) : Ideal.log (y : EReal) = (Real.log y : EReal) := by
  rw [Ideal.log_coe, if_neg (not_le.2 h)]

theorem sum_log_at (x y : FVec Ideal S8x8192x1 .f32) (h : Fin 8) (t : Fin 8192) :
    addf x (Host.log y) (ix3 h t 0) = x (ix3 h t 0) + Ideal.log (y (ix3 h t 0)) := by
  pointwise []

theorem l_sum (h : Fin 8) (t : Fin 8192) : addf (topB (lift3 q) (lift3 k)) (Host.log (totB (lift3 q) (lift3 k))) (ix3 h t 0) = (lse q k scale (top q k) h t : EReal) := by
  rw [sum_log_at, topB_at, totB_at, log_real _ (tot_pos q k scale (top q k) h t), ← EReal.coe_add, lse]

theorem l_at (h : Fin 8) (t : Fin 8192) : lA (lift3 q) (lift3 k) (ix3 h 0 t) = (lse q k scale (top q k) h t : EReal) :=
  (turn_at _ h t).trans (l_sum q k h t)

theorem d_at (h : Fin 8) (t : Fin 8192) : dA (lift3 q) (lift3 k) (lift3 v) (lift2 g) (ix3 h 0 t) = (del q k v g scale (top q k) h t : EReal) := by
  pointwise [dA, prB_at, heads_at, lift3]
  rw [← del_eq, coe_sum]
  simp only [EReal.coe_mul, coe_sum]

end Cert.Kernel2Ideal.AttnValue

end
-- ==== Proof.Attn.Entry.lean ====
/- The arrays the attention's backward region finds are the host's, computed from the arguments. -/
module

public import proofs.«01_k».proof.Proof.Attn.Hold
public import proofs.«01_k».proof.Proof.Attn.Args

@[expose] public section

set_option maxRecDepth 16384
set_option maxHeartbeats 1600000

noncomputable section

namespace Cert.Kernel2Ideal.AttnValue

open Cert.Kernel2Ideal Cert.Kernel2Ideal.Gen
open Idealize.ShloMosaic Idealize.ShloMosaic.TcCoe Idealize.SL.Sem

variable (m : (ℓ : Loc nD τ sig) → Buf (Elt Ideal) ℓ) (c : Dev nD)

/-- The four arguments. -/
abbrev qArg : FVec Ideal S8192x8x96 .f32 := m ((c : Thread nD τ).loc main_arg0)
abbrev kArg : FVec Ideal S8192x8x96 .f32 := m ((c : Thread nD τ).loc main_arg1)
abbrev vArg : FVec Ideal S8192x8x64 .f32 := m ((c : Thread nD τ).loc main_arg2)
abbrev gArg : FVec Ideal S8192x512 .f32 := m ((c : Thread nD τ).loc main_arg3)

theorem V_q : Attn.V m c main_v33 = qA (qArg m c) := by entry_read; rfl
theorem V_k : Attn.V m c main_v36 = kA (kArg m c) := by entry_read; rfl
theorem V_v : Attn.V m c main_v39 = vA (vArg m c) := by entry_read; rfl
theorem V_g : Attn.V m c main_v42 = gA (gArg m c) := by entry_read; rfl
theorem V_l : Attn.V m c main_v43 = lA (qArg m c) (kArg m c) := by
  simp only [Attn.V, Attn.hostLists, hostOps0, hostOps0_1, hostOps0_2, List.flatten_cons, List.flatten_nil, List.cons_append, List.nil_append, List.append_nil,
    StableHlo.TRef.nullary, StableHlo.TRef.ternary, StableHlo.TRef.unary, StableHlo.TRef.toBuf, StableHlo.TRef.ofBuf, cast_eq]
  after_results_simp
  all_goals rfl
theorem V_d : Attn.V m c main_v45 = dA (qArg m c) (kArg m c) (vArg m c) (gArg m c) := by
  simp only [Attn.V, Attn.hostLists, hostOps0, hostOps0_1, hostOps0_2, List.flatten_cons, List.flatten_nil, List.cons_append, List.nil_append, List.append_nil,
    StableHlo.TRef.nullary, StableHlo.TRef.ternary, StableHlo.TRef.unary, StableHlo.TRef.toBuf, StableHlo.TRef.ofBuf, cast_eq]
  after_results_simp
  all_goals rfl

end Cert.Kernel2Ideal.AttnValue

end
-- ==== Proof.Attn.Blocks.lean ====
/- The attention's gradients as sums over blocks of 512 positions, over the reals. -/
module

public import proofs.«01_k».proof.Proof.Attn.Sched
public import proofs.«01_k».proof.Proof.Attn.Args

@[expose] public section

noncomputable section

namespace Cert.Kernel2Ideal.AttnValue

open Cert.AttnMath
open Cert.Kernel2Ideal.Attn (row col col_le_row)

/-- Position `r` of block `b`. -/
def pos (b : Fin 16) (r : Fin 512) : Fin 8192 := ⟨b.val * 512 + r.val, by omega⟩
/-- The head a lane lies in. -/
def head (j : Fin 1024) : Fin 8 := ⟨j.val / 128, by omega⟩

/-- The first `n` terms of a sum. -/
def part {N : ℕ} (f : Fin N → ℝ) (n : ℕ) : ℝ := ∑ b ∈ Finset.range n, if h : b < N then f ⟨b, h⟩ else 0

theorem part_succ {N : ℕ} (f : Fin N → ℝ) (n : Fin N) : part f (n.val + 1) = part f n.val + f n := by
  unfold part; rw [Finset.sum_range_succ, dif_pos n.isLt]

theorem part_all {N : ℕ} (f : Fin N → ℝ) : part f N = ∑ b, f b := by
  unfold part; rw [Finset.sum_range]
  exact Finset.sum_congr rfl fun b _ => dif_pos b.isLt

theorem part_zero {N : ℕ} (f : Fin N → ℝ) (n : ℕ) (h : ∀ b : Fin N, b.val < n → f b = 0) : part f n = 0 := by
  unfold part
  refine Finset.sum_eq_zero fun b hb => ?_
  split
  · exact h _ (Finset.mem_range.1 hb)
  · rfl

variable (q k : Fin 8192 → Fin 8 → Fin 96 → ℝ) (v g : Fin 8192 → Fin 8 → Fin 64 → ℝ)

/-- The weight and the score's gradient under the scores' own greatest. -/
abbrev P (h : Fin 8) (t j : Fin 8192) : ℝ := pr q k scale (top q k) h t j
abbrev D (h : Fin 8) (t j : Fin 8192) : ℝ := ds q k v g scale (top q k) h t j

/-- What the queries of block `b` give the values' gradient at row `r` of block `a`; -/
def cv (b a : Fin 16) (r : Fin 512) (j : Fin 1024) : ℝ := ∑ s, P q k (head j) (pos b s) (pos a r) * lanes g (pos b s) j
/-- the keys'; -/
def ck (b a : Fin 16) (r : Fin 512) (j : Fin 1024) : ℝ :=
  ∑ s, D q k v g (head j) (pos b s) (pos a r) * (lanes q (pos b s) j * scale / Real.log 2)
/-- what the keys of block `a` give the queries' gradient at row `s` of block `b`. -/
def cq (b a : Fin 16) (s : Fin 512) (j : Fin 1024) : ℝ := ∑ r, D q k v g (head j) (pos b s) (pos a r) * lanes k (pos a r) j

theorem pos_lt (b a : Fin 16) (h : b < a) (s r : Fin 512) : ¬ pos a r ≤ pos b s := by
  have : b.val < a.val := h
  intro hle
  have : a.val * 512 + r.val ≤ b.val * 512 + s.val := hle
  omega

theorem pos_le (b a : Fin 16) (h : a < b) (s r : Fin 512) : pos a r ≤ pos b s := by
  have : a.val < b.val := h
  show a.val * 512 + r.val ≤ b.val * 512 + s.val
  omega

theorem pos_diag (b : Fin 16) (s r : Fin 512) : pos b r ≤ pos b s ↔ r ≤ s := by
  show b.val * 512 + r.val ≤ b.val * 512 + s.val ↔ r.val ≤ s.val
  omega

theorem cv_zero (b a : Fin 16) (h : b < a) (r : Fin 512) (j : Fin 1024) : cv q k g b a r j = 0 :=
  Finset.sum_eq_zero fun s _ => by rw [P, pr_after _ _ _ _ _ _ _ (pos_lt b a h s r), zero_mul]
theorem ck_zero (b a : Fin 16) (h : b < a) (r : Fin 512) (j : Fin 1024) : ck q k v g b a r j = 0 :=
  Finset.sum_eq_zero fun s _ => by rw [D, ds_after _ _ _ _ _ _ _ _ _ (pos_lt b a h s r), zero_mul]
theorem cq_zero (b a : Fin 16) (h : b < a) (s : Fin 512) (j : Fin 1024) : cq q k v g b a s j = 0 :=
  Finset.sum_eq_zero fun r _ => by rw [D, ds_after _ _ _ _ _ _ _ _ _ (pos_lt b a h s r), zero_mul]

theorem sum_blocks (f : Fin 8192 → ℝ) : ∑ b, ∑ s, f (pos b s) = ∑ t, f t :=
  (Idealize.ShloMosaic.Fin.sum_univ_tiles 16 512 rfl f).symm

/-- The steps of one row are one for each block of keys up to the diagonal. -/
theorem step_inj : ∀ n n' : Fin 136, row n = row n' → col n = col n' → n = n' := by decide +kernel
theorem step_ex : ∀ b a : Fin 16, a ≤ b → ∃ n : Fin 136, row n = b ∧ col n = a := by decide +kernel

theorem sum_steps (f : Fin 16 → ℝ) (b : Fin 16) (h : ∀ a, b < a → f a = 0) :
    ∑ n : Fin 136, (if row n = b then f (col n) else 0) = ∑ a, f a := by
  rw [← Finset.sum_filter]
  have e : ∑ a, f a = ∑ a ∈ Finset.univ.filter (· ≤ b), f a := by
    rw [Finset.sum_filter]
    refine Finset.sum_congr rfl fun a _ => ?_
    split
    · rfl
    · exact h a (not_le.1 ‹_›)
  rw [e]
  refine Finset.sum_nbij col (fun n hn => ?_) (fun n hn n' hn' hc => ?_) (fun a ha => ?_) fun n _ => rfl
  · have hr := (Finset.mem_filter.1 hn).2
    exact Finset.mem_filter.2 ⟨Finset.mem_univ _, hr ▸ col_le_row n⟩
  · have h1 := (Finset.mem_filter.1 (Finset.mem_coe.1 hn)).2
    have h2 := (Finset.mem_filter.1 (Finset.mem_coe.1 hn')).2
    exact step_inj n n' (h1.trans h2.symm) hc
  · obtain ⟨n, h1, h2⟩ := step_ex b a (Finset.mem_filter.1 (Finset.mem_coe.1 ha)).2
    exact ⟨n, Finset.mem_coe.2 (Finset.mem_filter.2 ⟨Finset.mem_univ _, h1⟩), h2⟩

theorem lanes_sum {n : ℕ} {ι : Type} (s : Finset ι) (w : ι → Fin 8 → ℝ) (f : ι → Fin 8192 → Fin 8 → Fin n → ℝ) (F : Fin 8192 → Fin 8 → Fin n → ℝ) (u : ι → Fin 8192)
    (t : Fin 8192) (hF : ∀ h d, F t h d = ∑ i ∈ s, w i h * f i (u i) h d) (j : Fin 1024) :
    lanes F t j = ∑ i ∈ s, w i (head j) * lanes (f i) (u i) j := by
  by_cases h : j.val % 128 < n
  · simp only [lanes, dif_pos h]; exact hF _ _
  · simp only [lanes, dif_neg h, mul_zero, Finset.sum_const_zero]

end Cert.Kernel2Ideal.AttnValue

end
-- ==== Proof.Attn.Reads.lean ====
/- The blocks each step of the attention's backward kernel reads, over real inputs. -/
module

public import proofs.«01_k».proof.Proof.Attn.Entry
public import proofs.«01_k».proof.Proof.Attn.Blocks

@[expose] public section

set_option maxRecDepth 16384

noncomputable section

namespace Cert.Kernel2Ideal.AttnValue

open Cert.Kernel2Ideal Cert.Kernel2Ideal.Gen Cert.AttnMath
open Cert.Kernel2Ideal.Attn hiding ix2
open Idealize.ShloMosaic Idealize.ShloMosaic.TcCoe

variable (m : (ℓ : Loc nD τ sig) → Buf (Elt Ideal) ℓ) (c : Dev nD) (t : Fin (cfgA (F := Ideal)).N)

/-- A block of 512 rows at a row of blocks, at an index. -/
theorem block_index (ix : Fin 2 → ℕ) (b : Fin 16) (e : ix = ![b.val, 0]) (s : Fin 512) (j : Fin 1024) (y : S8192x1024.Idx)
    (h0 : (y 0).val = ix 0 * 512 + s.val) (h1 : (y 1).val = ix 1 * 1024 + j.val) : y = ix2 (pos b s) j := by
  subst e
  funext a
  match a with
  | 0 => exact Fin.ext h0
  | 1 => exact Fin.ext (h1.trans (by show 0 * 1024 + j.val = j.val; omega))

theorem block_row_index (ix : Fin 3 → ℕ) (b : Fin 16) (e : ix = ![0, 0, b.val]) (h : Fin 8) (s : Fin 512) (y : S8x1x8192.Idx)
    (h0 : (y 0).val = ix 0 * 8 + h.val) (h2 : (y 2).val = ix 2 * 512 + s.val) : y = ix3 h 0 (pos b s) := by
  subst e
  funext a
  match a with
  | 0 => exact Fin.ext (h0.trans (by show 0 * 8 + h.val = h.val; omega))
  | 1 => exact Subsingleton.elim (α := Fin 1) _ _
  | 2 => exact Fin.ext h2

theorem q_blk (s : Fin 512) (j : Fin 1024) : qB m c t (ix2 s j) = Attn.V m c main_v33 (ix2 (pos (row (nt t)) s) j) :=
  congrArg (Attn.V m c main_v33) (block_index _ _ (ix_0 (F := Ideal) (grid0.coords t)) s j _ (((cfgA (F := Ideal)).win 0).rect_emb_val t (ix2 s j) 0 rfl)
    (((cfgA (F := Ideal)).win 0).rect_emb_val t (ix2 s j) 1 rfl))
theorem k_blk (s : Fin 512) (j : Fin 1024) : kB m c t (ix2 s j) = Attn.V m c main_v36 (ix2 (pos (col (nt t)) s) j) :=
  congrArg (Attn.V m c main_v36) (block_index _ _ (ix_1 (F := Ideal) (grid0.coords t)) s j _ (((cfgA (F := Ideal)).win 1).rect_emb_val t (ix2 s j) 0 rfl)
    (((cfgA (F := Ideal)).win 1).rect_emb_val t (ix2 s j) 1 rfl))
theorem v_blk (s : Fin 512) (j : Fin 1024) : vB m c t (ix2 s j) = Attn.V m c main_v39 (ix2 (pos (col (nt t)) s) j) :=
  congrArg (Attn.V m c main_v39) (block_index _ _ (ix_2 (F := Ideal) (grid0.coords t)) s j _ (((cfgA (F := Ideal)).win 2).rect_emb_val t (ix2 s j) 0 rfl)
    (((cfgA (F := Ideal)).win 2).rect_emb_val t (ix2 s j) 1 rfl))
theorem g_blk (s : Fin 512) (j : Fin 1024) : gB m c t (ix2 s j) = Attn.V m c main_v42 (ix2 (pos (row (nt t)) s) j) :=
  congrArg (Attn.V m c main_v42) (block_index _ _ (ix_3 (F := Ideal) (grid0.coords t)) s j _ (((cfgA (F := Ideal)).win 3).rect_emb_val t (ix2 s j) 0 rfl)
    (((cfgA (F := Ideal)).win 3).rect_emb_val t (ix2 s j) 1 rfl))
theorem index_4 : ((cfgA (F := Ideal)).win 4).index t = ![0, 0, (row (nt t)).val] := ix_4 (F := Ideal) (grid0.coords t)
theorem index_5 : ((cfgA (F := Ideal)).win 5).index t = ![0, 0, (row (nt t)).val] := ix_5 (F := Ideal) (grid0.coords t)
theorem at_4 (h : Fin 8) (s : Fin 512) : (((cfgA (F := Ideal)).win 4).rect t).emb (ix3 h 0 s) = ix3 h 0 (pos (row (nt t)) s) :=
  block_row_index _ _ (index_4 t) h s _ (((cfgA (F := Ideal)).win 4).rect_emb_val t (ix3 h 0 s) 0 rfl)
    (((cfgA (F := Ideal)).win 4).rect_emb_val t (ix3 h 0 s) 2 rfl)
theorem at_5 (h : Fin 8) (s : Fin 512) : (((cfgA (F := Ideal)).win 5).rect t).emb (ix3 h 0 s) = ix3 h 0 (pos (row (nt t)) s) :=
  block_row_index _ _ (index_5 t) h s _ (((cfgA (F := Ideal)).win 5).rect_emb_val t (ix3 h 0 s) 0 rfl)
    (((cfgA (F := Ideal)).win 5).rect_emb_val t (ix3 h 0 s) 2 rfl)
theorem read_4 (A : Vec Ideal S8x1x8192 .f32) (h : Fin 8) (s : Fin 512) :
    (((cfgA (F := Ideal)).win 4).blk t).view.read (Elt Ideal) A (ix3 h 0 s) = A (ix3 h 0 (pos (row (nt t)) s)) :=
  congrArg A (at_4 t h s)
theorem read_5 (A : Vec Ideal S8x1x8192 .f32) (h : Fin 8) (s : Fin 512) :
    (((cfgA (F := Ideal)).win 5).blk t).view.read (Elt Ideal) A (ix3 h 0 s) = A (ix3 h 0 (pos (row (nt t)) s)) :=
  congrArg A (at_5 t h s)
theorem l_blk (h : Fin 8) (s : Fin 512) : lB m c t (ix3 h 0 s) = Attn.V m c main_v43 (ix3 h 0 (pos (row (nt t)) s)) :=
  read_4 t (Attn.V m c main_v43) h s
theorem d_blk (h : Fin 8) (s : Fin 512) : dB m c t (ix3 h 0 s) = Attn.V m c main_v45 (ix3 h 0 (pos (row (nt t)) s)) :=
  read_5 t (Attn.V m c main_v45) h s

variable (q k : Fin 8192 → Fin 8 → Fin 96 → ℝ) (v g : Fin 8192 → Fin 8 → Fin 64 → ℝ)
  (hq : qArg m c = lift3 q) (hk : kArg m c = lift3 k) (hv : vArg m c = lift3 v) (hg : gArg m c = lift2 g)

include hq in
theorem q_real (s : Fin 512) (j : Fin 1024) : qB m c t (ix2 s j) = ((lanes q (pos (row (nt t)) s) j * scale / Real.log 2 : ℝ) : EReal) := by
  rw [q_blk, V_q, hq]; exact q_at q _ _
include hk in
theorem k_real (s : Fin 512) (j : Fin 1024) : kB m c t (ix2 s j) = (lanes k (pos (col (nt t)) s) j : EReal) := by
  rw [k_blk, V_k, hk]; exact k_at k _ _
include hv in
theorem v_real (s : Fin 512) (j : Fin 1024) : vB m c t (ix2 s j) = (lanes v (pos (col (nt t)) s) j : EReal) := by
  rw [v_blk, V_v, hv]; exact v_at v _ _
include hg in
theorem g_real (s : Fin 512) (j : Fin 1024) : gB m c t (ix2 s j) = (lanes g (pos (row (nt t)) s) j : EReal) := by
  rw [g_blk, V_g, hg]; exact g_at g _ _
include hq hk in
theorem l_real (h : Fin 8) (s : Fin 512) : lB m c t (ix3 h 0 s) = (lse q k scale (top q k) h (pos (row (nt t)) s) : EReal) := by
  rw [l_blk, V_l, hq, hk]; exact l_at q k _ _
include hq hk hv hg in
theorem d_real (h : Fin 8) (s : Fin 512) : dB m c t (ix3 h 0 s) = (del q k v g scale (top q k) h (pos (row (nt t)) s) : EReal) := by
  rw [d_blk, V_d, hq, hk, hv, hg]; exact d_at q k v g _ _

end Cert.Kernel2Ideal.AttnValue

end
-- ==== Proof.Attn.Tile.lean ====
/- One head of one point of the attention's backward kernel, over the extended reals: its tiles element by element. -/
module

public import proofs.«01_k».proof.Proof.Attn.Step
public import Idealize.ShloMosaic.Lib.Pointwise
public import Idealize.ShloMosaic.Lib.WordCmp

@[expose] public section

set_option maxRecDepth 16384

noncomputable section

namespace Cert.Kernel2Ideal.AttnValue

open Cert.Kernel2Ideal Cert.Kernel2Ideal.Gen Cert.Kernel2Ideal.Attn
open Idealize.ShloMosaic hiding ix2
open Idealize.ShloMosaic.TcCoe

/-- An index of a matrix. -/
abbrev at2 {a b : ℕ} (x : Fin a) (y : Fin b) : (⟨2, ![a, b]⟩ : Shape).Idx := Idealize.ShloMosaic.ix2 x y

variable (q k v g : FVec Ideal S512x128 .bf16) (l d : FVec Ideal S1x1x512 .f32) (acc : FVec Ideal S512x128 .f32)

/-- The weight of key `r` for query `s`, before the mask. -/
def wt (r s : Fin 512) : EReal :=
  Ideal.exp2 ((∑ e : Fin 128, k (at2 r e) * q (at2 s e)) - l (ix3 0 0 s) * (((Real.log 2)⁻¹ : ℝ) : EReal))

theorem pt_off (r s : Fin 512) : ptH (F := Ideal) false q k l (at2 r s) = wt q k l r s := by
  pointwise [ptH, k0_pay13, k0_pay11, k0_pay10, wt]
  rfl

theorem pt_on (r s : Fin 512) : ptH (F := Ideal) true q k l (at2 r s) = if r ≤ s then wt q k l r s else 0 := by
  pointwise [ptH, k0_pay84, k0_pay82, k0_pay81, wt]
  rw [WordCmp.cmpi_sle_ofNat (by omega) (by omega)]
  by_cases h : r ≤ s
  · rw [if_pos h, decide_eq_true (show r.val ≤ s.val from h)]; rfl
  · rw [if_neg h, decide_eq_false (show ¬ r.val ≤ s.val from h)]; rfl

theorem ds_eq (b : Bool) (r s : Fin 512) : dsH (F := Ideal) b q k v g l d (at2 r s)
    = ptH (F := Ideal) b q k l (at2 r s) * ((∑ e : Fin 128, v (at2 r e) * g (at2 s e)) - d (ix3 0 0 s)) := by
  cases b
  · pointwise [dsH, ptH, k0_pay15, k0_pay12]
  · pointwise [dsH, ptH, k0_pay86, k0_pay87, k0_pay83]

theorem dv_eq (b : Bool) (r : Fin 512) (e : Fin 128) : dvH (F := Ideal) b q k g l acc (at2 r e)
    = acc (at2 r e) + ∑ s : Fin 512, ptH (F := Ideal) b q k l (at2 r s) * g (at2 s e) := by
  cases b
  · pointwise [dvH, ptH, k0_pay14, k0_pay12]
  · pointwise [dvH, ptH, k0_pay85, k0_pay83]

theorem dk_eq (b : Bool) (r : Fin 512) (e : Fin 128) : dkH (F := Ideal) b q k v g l d acc (at2 r e)
    = acc (at2 r e) + ∑ s : Fin 512, dsH (F := Ideal) b q k v g l d (at2 r s) * q (at2 s e) := by
  pointwise [dkH, k0_pay17, k0_pay10, k0_pay16]

theorem dq_eq (b : Bool) (s : Fin 512) (e : Fin 128) : dqH (F := Ideal) b q k v g l d acc (at2 s e)
    = acc (at2 s e) + ∑ r : Fin 512, dsH (F := Ideal) b q k v g l d (at2 r s) * k (at2 r e) := by
  pointwise [dqH, k0_pay18, k0_pay11]

end Cert.Kernel2Ideal.AttnValue

end
-- ==== Proof.Attn.Steps.lean ====
/- One point of the attention's backward kernel over blocks that are real: what it adds to each gradient. -/
module

public import proofs.«01_k».proof.Proof.Attn.Point
public import proofs.«01_k».proof.Proof.Attn.Tile
public import proofs.«01_k».proof.Proof.Attn.Blocks

@[expose] public section

set_option maxRecDepth 16384

noncomputable section

namespace Cert.Kernel2Ideal.AttnValue

open Cert.Kernel2Ideal Cert.Kernel2Ideal.Gen Cert.AttnMath
open Cert.Kernel2Ideal.Attn hiding ix2
open Idealize.ShloMosaic Idealize.ShloMosaic.TcCoe

/-- Lane `e` of head `h`. -/
def lane (h : Fin 8) (e : Fin 128) : Fin 1024 := ⟨128 * h.val + e.val, by omega⟩

theorem hd_at {e : EltTy} (x : Vec Ideal S512x1024 e) (h : Fin 8) (s : Fin 512) (l : Fin 128) : hd x h (ix2 s l) = x (ix2 s (lane h l)) := by
  refine congrArg x (funext fun a => Fin.ext ?_)
  match a with
  | 0 => show 0 + 1 * s.val = s.val; omega
  | 1 => show 128 * h.val + 1 * l.val = 128 * h.val + l.val; omega

theorem hdRow_at {e : EltTy} (x : Vec Ideal S8x1x512 e) (h : Fin 8) (s : Fin 512) : hdRow x h (ix3 0 0 s) = x (ix3 h 0 s) := by
  refine congrArg x (funext fun a => Fin.ext ?_)
  match a with
  | 0 => show h.val + 1 * 0 = h.val; omega
  | 1 => show 0 + 1 * 0 = 0; omega
  | 2 => show 0 + 1 * s.val = s.val; omega

theorem hdRows_at {e : EltTy} (x : Vec Ideal S8192x1024 e) (o : Fin 16) (h : Fin 8) (s : Fin 512) (l : Fin 128) :
    hdRows x o h (ix2 s l) = x (ix2 (pos o s) (lane h l)) := by
  refine congrArg x (funext fun a => Fin.ext ?_)
  match a with
  | 0 => show 512 * o.val + 1 * s.val = o.val * 512 + s.val; omega
  | 1 => show 128 * h.val + 1 * l.val = 128 * h.val + l.val; omega

theorem lane_head (j : Fin 1024) : lane (head j) ⟨j.val % 128, Nat.mod_lt _ (by decide)⟩ = j := by
  apply Fin.ext
  show 128 * (j.val / 128) + j.val % 128 = j.val
  omega

theorem tiles_at (new : Fin 8 → FVec Ideal S512x128 .f32) (s : Fin 512) (j : Fin 1024) :
    tiles (F := Ideal) (e := .f32) new (ix2 s j) = new (head j) (ix2 s ⟨j.val % 128, Nat.mod_lt _ (by decide)⟩) := by
  refine congrArg (new (head j)) (funext fun a => ?_)
  match a with
  | 0 => rfl
  | 1 => rfl

theorem tileRows_at (o : Fin 16) (new : Fin 8 → FVec Ideal S512x128 .f32) (old : FVec Ideal S8192x1024 .f32) (b : Fin 16) (s : Fin 512) (j : Fin 1024) :
    tileRows (F := Ideal) (e := .f32) o new old (ix2 (pos b s) j)
      = if o = b then new (head j) (ix2 s ⟨j.val % 128, Nat.mod_lt _ (by decide)⟩) else old (ix2 (pos b s) j) := by
  unfold tileRows
  by_cases h : o = b
  · subst h
    rw [if_pos rfl, dif_pos (by
      show 512 * o.val ≤ o.val * 512 + s.val ∧ o.val * 512 + s.val < 512 * o.val + 512
      omega)]
    refine congrArg (new (head j)) (funext fun a => Fin.ext ?_)
    match a with
    | 0 => show o.val * 512 + s.val - 512 * o.val = s.val; omega
    | 1 => rfl
  · rw [if_neg h, dif_neg]
    have hv : o.val ≠ b.val := fun e => h (Fin.ext e)
    show ¬ (512 * o.val ≤ b.val * 512 + s.val ∧ b.val * 512 + s.val < 512 * o.val + 512)
    omega

variable (q k : Fin 8192 → Fin 8 → Fin 96 → ℝ) (v g : Fin 8192 → Fin 8 → Fin 64 → ℝ)

theorem lanes_lane {n : ℕ} (f : Fin 8192 → Fin 8 → Fin n → ℝ) (t : Fin 8192) (h : Fin 8) (e : Fin 128) :
    lanes f t (lane h e) = if he : e.val < n then f t h ⟨e.val, he⟩ else 0 := by
  have e1 : (lane h e).val % 128 = e.val := by show (128 * h.val + e.val) % 128 = e.val; omega
  have e2 : (⟨(lane h e).val / 128, by have := (lane h e).isLt; omega⟩ : Fin 8) = h := Fin.ext (by show (128 * h.val + e.val) / 128 = h.val; omega)
  unfold lanes
  by_cases he : e.val < n
  · rw [dif_pos he, dif_pos (e1 ▸ he), e2]
    exact congrArg (f t h) (Fin.ext e1)
  · rw [dif_neg he, dif_neg (e1.symm ▸ he)]

theorem dot_lanes {n : ℕ} (hn : n ≤ 128) (f f' : Fin 8192 → Fin 8 → Fin n → ℝ) (t t' : Fin 8192) (h : Fin 8) (w : ℝ) :
    ∑ e : Fin 128, lanes f t (lane h e) * (lanes f' t' (lane h e) * w) = (∑ d : Fin n, f t h d * f' t' h d) * w := by
  rw [Finset.sum_mul, ← sum_pad hn]
  refine Finset.sum_congr rfl fun e _ => ?_
  rw [lanes_lane, lanes_lane]
  split
  · ring
  · ring

section Point

variable (a b : Fin 16) (hab : a ≤ b) (x0 x1 x2 x3 : FVec Ideal S512x1024 .bf16) (x4 x5 : FVec Ideal S8x1x512 .f32)
  (h0 : ∀ s j, x0 (ix2 s j) = ((lanes q (pos b s) j * scale / Real.log 2 : ℝ) : EReal))
  (h1 : ∀ r j, x1 (ix2 r j) = (lanes k (pos a r) j : EReal))
  (h2 : ∀ r j, x2 (ix2 r j) = (lanes v (pos a r) j : EReal))
  (h3 : ∀ s j, x3 (ix2 s j) = (lanes g (pos b s) j : EReal))
  (h4 : ∀ h s, x4 (ix3 h 0 s) = (lse q k scale (top q k) h (pos b s) : EReal))
  (h5 : ∀ h s, x5 (ix3 h 0 s) = (del q k v g scale (top q k) h (pos b s) : EReal))

include h0 h1 h4 in
theorem wt_at (h : Fin 8) (r s : Fin 512) (hle : pos a r ≤ pos b s) :
    wt (hd (F := Ideal) (e := .bf16) x0 h) (hd (F := Ideal) (e := .bf16) x1 h) (hdRow (F := Ideal) (e := .f32) x4 h) r s = (P q k h (pos b s) (pos a r) : EReal) := by
  unfold wt
  simp only [at2, hd_at, hdRow_at, h0, h1, h4, ← EReal.coe_mul, ← coe_sum]
  have e : ∑ e : Fin 128, lanes k (pos a r) (lane h e) * (lanes q (pos b s) (lane h e) * scale / Real.log 2)
      = score q k scale h (pos b s) (pos a r) / Real.log 2 := by
    simp only [mul_div_assoc]
    rw [dot_lanes (by decide) k q, score, mul_div_assoc]
    simp only [mul_comm (k _ _ _)]
  rw [e, ← EReal.coe_sub, Ideal.exp2_coe, rpow_two, exp_lse _ _ _ _ _ _ _ hle]

include hab h0 h1 h4 in
theorem pt_at (h : Fin 8) (r s : Fin 512) :
    ptH (F := Ideal) (decide (b = a)) (hd (F := Ideal) (e := .bf16) x0 h) (hd (F := Ideal) (e := .bf16) x1 h) (hdRow (F := Ideal) (e := .f32) x4 h) (ix2 r s) = (P q k h (pos b s) (pos a r) : EReal) := by
  by_cases e : b = a
  · subst e
    rw [decide_eq_true rfl, pt_on]
    by_cases hle : r ≤ s
    · rw [if_pos hle]; exact wt_at q k b b x0 x1 x4 h0 h1 h4 h r s ((pos_diag b s r).2 hle)
    · rw [if_neg hle, P, pr_after _ _ _ _ _ _ _ (fun h' => hle ((pos_diag b s r).1 h')), EReal.coe_zero]
  · rw [decide_eq_false e, pt_off]
    exact wt_at q k a b x0 x1 x4 h0 h1 h4 h r s (pos_le b a (lt_of_le_of_ne hab (Ne.symm e)) s r)

include hab h0 h1 h2 h3 h4 h5 in
theorem ds_at (h : Fin 8) (r s : Fin 512) :
    dsH (F := Ideal) (decide (b = a)) (hd (F := Ideal) (e := .bf16) x0 h) (hd (F := Ideal) (e := .bf16) x1 h) (hd (F := Ideal) (e := .bf16) x2 h) (hd (F := Ideal) (e := .bf16) x3 h) (hdRow (F := Ideal) (e := .f32) x4 h) (hdRow (F := Ideal) (e := .f32) x5 h) (ix2 r s) = (D q k v g h (pos b s) (pos a r) : EReal) := by
  rw [AttnValue.ds_eq, pt_at q k a b hab x0 x1 x4 h0 h1 h4]
  simp only [at2, hd_at, hdRow_at, h2, h3, h5, ← EReal.coe_mul, ← coe_sum]
  have e : ∑ e : Fin 128, lanes v (pos a r) (lane h e) * lanes g (pos b s) (lane h e) = dp v g h (pos b s) (pos a r) := by
    have := dot_lanes (by decide) v g (pos a r) (pos b s) h 1
    simp only [mul_one] at this
    rw [this, dp]
    simp only [mul_comm (v _ _ _)]
  rw [e, ← EReal.coe_sub, ← EReal.coe_mul, D, ds]

include hab h0 h1 h3 h4 in
theorem dvStep_at (acc : FVec Ideal S512x1024 .f32) (r : Fin 512) (j : Fin 1024) (y : ℝ) (hy : acc (ix2 r j) = (y : EReal)) :
    dvStep (F := Ideal) x0 x1 x3 x4 (decide (b = a)) acc (ix2 r j) = ((y + cv q k g b a r j : ℝ) : EReal) := by
  unfold dvStep
  rw [tiles_at]
  refine (dv_eq _ _ _ _ _ _ _ _).trans ?_
  simp only [at2, pt_at q k a b hab x0 x1 x4 h0 h1 h4, hd_at, lane_head, hy, h3, ← EReal.coe_mul, ← coe_sum, ← EReal.coe_add]
  rfl

include hab h0 h1 h2 h3 h4 h5 in
theorem dkStep_at (acc : FVec Ideal S512x1024 .f32) (r : Fin 512) (j : Fin 1024) (y : ℝ) (hy : acc (ix2 r j) = (y : EReal)) :
    dkStep (F := Ideal) x0 x1 x2 x3 x4 x5 (decide (b = a)) acc (ix2 r j) = ((y + ck q k v g b a r j : ℝ) : EReal) := by
  unfold dkStep
  rw [tiles_at]
  refine (dk_eq _ _ _ _ _ _ _ _ _ _).trans ?_
  simp only [at2, ds_at q k v g a b hab x0 x1 x2 x3 x4 x5 h0 h1 h2 h3 h4 h5, hd_at, lane_head, hy, h0, ← EReal.coe_mul, ← coe_sum, ← EReal.coe_add]
  rfl

include hab h0 h1 h2 h3 h4 h5 in
theorem dqStep_at (acc : FVec Ideal S8192x1024 .f32) (o : Fin 16) (s : Fin 512) (j : Fin 1024) (y : ℝ) (hy : acc (ix2 (pos o s) j) = (y : EReal)) :
    dqStep (F := Ideal) x0 x1 x2 x3 x4 x5 (decide (b = a)) b acc (ix2 (pos o s) j)
      = ((y + if b = o then cq q k v g b a s j else 0 : ℝ) : EReal) := by
  unfold dqStep
  rw [tileRows_at]
  by_cases e : b = o
  · subst e
    rw [if_pos rfl, if_pos rfl]
    refine (dq_eq _ _ _ _ _ _ _ _ _ _).trans ?_
    simp only [at2, ds_at q k v g a b hab x0 x1 x2 x3 x4 x5 h0 h1 h2 h3 h4 h5, hdRows_at, hd_at, lane_head, hy, h1, ← EReal.coe_mul, ← coe_sum, ← EReal.coe_add]
    rfl
  · rw [if_neg e, if_neg e, hy, add_zero]

end Point

end Cert.Kernel2Ideal.AttnValue

end
-- ==== Proof.Attn.Accum.lean ====
/- What each step of the attention's backward kernel leaves in the three gradients, over real inputs. -/
module

public import proofs.«01_k».proof.Proof.Attn.Reads
public import proofs.«01_k».proof.Proof.Attn.Steps

@[expose] public section

set_option maxRecDepth 16384

noncomputable section

namespace Cert.Kernel2Ideal.AttnValue

open Cert.Kernel2Ideal Cert.Kernel2Ideal.Gen Cert.AttnMath
open Cert.Kernel2Ideal.Attn hiding ix2
open Idealize.ShloMosaic Idealize.ShloMosaic.TcCoe

theorem pay1_at (y : S8192x1024.Idx) : k0_pay1 (F := Ideal) y = ((0 : ℝ) : EReal) := by
  unfold k0_pay1; exact (Ideal.ofBits_zero .f32).trans EReal.coe_zero.symm
theorem pay2_at (y : S512x1024.Idx) : k0_pay2 (F := Ideal) y = ((0 : ℝ) : EReal) := by
  unfold k0_pay2; exact (Ideal.ofBits_zero .f32).trans EReal.coe_zero.symm
theorem pay3_at (y : S512x1024.Idx) : k0_pay3 (F := Ideal) y = ((0 : ℝ) : EReal) := by
  unfold k0_pay3; exact (Ideal.ofBits_zero .f32).trans EReal.coe_zero.symm
theorem pay8_at (x : FVec Ideal S512x1024 .f32) (r : Fin 512) (j : Fin 1024) :
    k0_pay8 (F := Ideal) x (ix2 r j) = x (ix2 r j) * ((Real.log 2 : ℝ) : EReal) := by
  pointwise [k0_pay8]
  rfl
theorem pay9_at (x : FVec Ideal S8192x1024 .f32) (r : Fin 8192) (j : Fin 1024) :
    k0_pay9 (F := Ideal) x (ix2 r j) = x (ix2 r j) * (scale : EReal) := by
  pointwise [k0_pay9]
  rw [scale_word]

variable (m : (ℓ : Loc nD τ sig) → Buf (Elt Ideal) ℓ) (c : Dev nD)
  (q k : Fin 8192 → Fin 8 → Fin 96 → ℝ) (v g : Fin 8192 → Fin 8 → Fin 64 → ℝ)
  (hq : qArg m c = lift3 q) (hk : kArg m c = lift3 k) (hv : vArg m c = lift3 v) (hg : gArg m c = lift2 g)

include hq hk hg in
theorem dv_next (t : Fin (cfgA (F := Ideal)).N) (acc : FVec Ideal S512x1024 .f32) (r : Fin 512) (j : Fin 1024) (y : ℝ)
    (hy : row (nt t) ≠ col (nt t) → acc (ix2 r j) = (y : EReal)) :
    dvNext (nt t) (qB m c t) (kB m c t) (gB m c t) (lB m c t) acc (ix2 r j)
      = (((if row (nt t) = col (nt t) then 0 else y) + cv q k g (row (nt t)) (col (nt t)) r j : ℝ) : EReal) := by
  unfold dvNext
  refine dvStep_at q k g (col (nt t)) (row (nt t)) (col_le_row _) _ _ _ _ (q_real m c t q hq) (k_real m c t k hk) (g_real m c t g hg) (l_real m c t q k hq hk) _ r j _ ?_
  by_cases h : row (nt t) = col (nt t)
  · rw [if_pos h, if_pos h]; exact pay3_at _
  · rw [if_neg h, if_neg h]; exact hy h

include hq hk hv hg in
theorem dk_next (t : Fin (cfgA (F := Ideal)).N) (acc : FVec Ideal S512x1024 .f32) (r : Fin 512) (j : Fin 1024) (y : ℝ)
    (hy : row (nt t) ≠ col (nt t) → acc (ix2 r j) = (y : EReal)) :
    dkNext (nt t) (qB m c t) (kB m c t) (vB m c t) (gB m c t) (lB m c t) (dB m c t) acc (ix2 r j)
      = ((((if row (nt t) = col (nt t) then 0 else y) + ck q k v g (row (nt t)) (col (nt t)) r j) * (if row (nt t) = 15 then Real.log 2 else 1) : ℝ) : EReal) := by
  have e : dkStep (F := Ideal) (qB m c t) (kB m c t) (vB m c t) (gB m c t) (lB m c t) (dB m c t) (decide (row (nt t) = col (nt t))) (if row (nt t) = col (nt t) then k0_pay2 (F := Ideal) else acc) (ix2 r j)
      = (((if row (nt t) = col (nt t) then 0 else y) + ck q k v g (row (nt t)) (col (nt t)) r j : ℝ) : EReal) := by
    refine dkStep_at q k v g (col (nt t)) (row (nt t)) (col_le_row _) _ _ _ _ _ _ (q_real m c t q hq) (k_real m c t k hk) (v_real m c t v hv) (g_real m c t g hg)
      (l_real m c t q k hq hk) (d_real m c t q k v g hq hk hv hg) _ r j _ ?_
    by_cases h : row (nt t) = col (nt t)
    · rw [if_pos h, if_pos h]; exact pay2_at _
    · rw [if_neg h, if_neg h]; exact hy h
  unfold dkNext
  by_cases h : row (nt t) = 15
  · rw [if_pos h, if_pos h, pay8_at, e, ← EReal.coe_mul]
  · rw [if_neg h, if_neg h, e, mul_one]

include hq hk hv hg in
theorem dq_next (t : Fin (cfgA (F := Ideal)).N) (acc : FVec Ideal S8192x1024 .f32) (o : Fin 16) (s : Fin 512) (j : Fin 1024) (y : ℝ)
    (hy : nt t ≠ 0 → acc (ix2 (pos o s) j) = (y : EReal)) :
    dqNext (nt t) (qB m c t) (kB m c t) (vB m c t) (gB m c t) (lB m c t) (dB m c t) acc (ix2 (pos o s) j)
      = ((((if nt t = 0 then 0 else y) + (if row (nt t) = o then cq q k v g (row (nt t)) (col (nt t)) s j else 0)) * (if nt t = 135 then scale else 1) : ℝ) : EReal) := by
  have e : dqStep (F := Ideal) (qB m c t) (kB m c t) (vB m c t) (gB m c t) (lB m c t) (dB m c t) (decide (row (nt t) = col (nt t))) (row (nt t)) (if nt t = 0 then k0_pay1 (F := Ideal) else acc) (ix2 (pos o s) j)
      = (((if nt t = 0 then 0 else y) + (if row (nt t) = o then cq q k v g (row (nt t)) (col (nt t)) s j else 0) : ℝ) : EReal) := by
    refine dqStep_at q k v g (col (nt t)) (row (nt t)) (col_le_row _) _ _ _ _ _ _ (q_real m c t q hq) (k_real m c t k hk) (v_real m c t v hv) (g_real m c t g hg)
      (l_real m c t q k hq hk) (d_real m c t q k v g hq hk hv hg) _ o s j _ ?_
    by_cases h : nt t = 0
    · rw [if_pos h, if_pos h]; exact pay1_at _
    · rw [if_neg h, if_neg h]; exact hy h
  unfold dqNext
  by_cases h : nt t = 135
  · rw [if_pos h, if_pos h, pay9_at, e, ← EReal.coe_mul]
  · rw [if_neg h, if_neg h, e, mul_one]

/-! ## The gradients after each step -/

theorem row_col_zero (t : Fin (cfgA (F := Ideal)).N) (h : t.val = 0) : row (nt t) = col (nt t) := by
  rw [nt_zero t h, row_zero.1, row_zero.2]

theorem start (f : Fin 16 → ℝ) (b : Fin 16) (h : ∀ a, a < b → f a = 0) : part f b.val = 0 :=
  part_zero f _ fun a ha => h a ha

/-- The blocks of queries so far, under one block of keys: the first step's; -/
theorem part_first (f : Fin 16 → Fin 16 → ℝ) (hf : ∀ b a, b < a → f b a = 0) (y : ℝ) (t : Fin (cfgA (F := Ideal)).N) (h : t.val = 0) :
    (if row (nt t) = col (nt t) then 0 else y) + f (row (nt t)) (col (nt t)) = part (fun b => f b (col (nt t))) ((row (nt t)).val + 1) := by
  have h0 := row_col_zero t h
  rw [if_pos h0, part_succ, start _ _ fun a ha => hf a _ (h0 ▸ ha)]

/-- a later step's. -/
theorem part_next (f : Fin 16 → Fin 16 → ℝ) (hf : ∀ b a, b < a → f b a = 0) (t : Fin (cfgA (F := Ideal)).N) (h : t.val ≠ 0) :
    (if row (nt t) = col (nt t) then 0 else part (fun b => f b (col (nt (prev t)))) ((row (nt (prev t))).val + 1)) + f (row (nt t)) (col (nt t))
      = part (fun b => f b (col (nt t))) ((row (nt t)).val + 1) := by
  rw [part_succ (fun b => f b (col (nt t))) (row (nt t))]
  by_cases hd : row (nt t) = col (nt t)
  · rw [if_pos hd, start _ _ fun a ha => hf a _ (hd ▸ ha)]
  · rw [if_neg hd]
    rcases nt_step t h with e | e
    · exact absurd e.2.1 hd
    · rw [← e.2.2.1, ← e.2.2.2]

include hq hk hg in
theorem dv_at (r : Fin 512) (j : Fin 1024) : ∀ t : Fin (cfgA (F := Ideal)).N,
    dvAt m c t (ix2 r j) = (part (fun b => cv q k g b (col (nt t)) r j) ((row (nt t)).val + 1) : EReal) := by
  rintro ⟨n, hn⟩
  induction n with
  | zero =>
    refine (dv_next m c q k g hq hk hg ⟨0, hn⟩ _ r j 0 fun h => absurd (row_col_zero ⟨0, hn⟩ rfl) h).trans ?_
    rw [part_first (fun b a => cv q k g b a r j) (fun b a h => cv_zero q k g b a h r j) 0 ⟨0, hn⟩ rfl]
  | succ n ih =>
    refine (dv_next m c q k g hq hk hg ⟨n + 1, hn⟩ _ r j _ fun _ => ih (Nat.lt_of_succ_lt hn)).trans ?_
    exact congrArg Real.toEReal (part_next (fun b a => cv q k g b a r j) (fun b a h => cv_zero q k g b a h r j) ⟨n + 1, hn⟩ (Nat.succ_ne_zero n))

include hq hk hv hg in
theorem dk_at (r : Fin 512) (j : Fin 1024) : ∀ t : Fin (cfgA (F := Ideal)).N,
    dkAt m c t (ix2 r j) = ((part (fun b => ck q k v g b (col (nt t)) r j) ((row (nt t)).val + 1) * (if row (nt t) = 15 then Real.log 2 else 1) : ℝ) : EReal) := by
  rintro ⟨n, hn⟩
  induction n with
  | zero =>
    refine (dk_next m c q k v g hq hk hv hg ⟨0, hn⟩ _ r j 0 fun h => absurd (row_col_zero ⟨0, hn⟩ rfl) h).trans ?_
    rw [part_first (fun b a => ck q k v g b a r j) (fun b a h => ck_zero q k v g b a h r j) 0 ⟨0, hn⟩ rfl]
  | succ n ih =>
    have hs : row (nt ⟨n + 1, hn⟩) ≠ col (nt ⟨n + 1, hn⟩) → dkAt m c (prev ⟨n + 1, hn⟩) (ix2 r j)
        = (part (fun b => ck q k v g b (col (nt (prev ⟨n + 1, hn⟩))) r j) ((row (nt (prev ⟨n + 1, hn⟩))).val + 1) : EReal) := by
      intro hd
      rcases nt_step ⟨n + 1, hn⟩ (Nat.succ_ne_zero n) with e | e
      · exact absurd e.2.1 hd
      · refine (ih (Nat.lt_of_succ_lt hn)).trans ?_
        rw [if_neg (show ¬ row (nt ⟨n, Nat.lt_of_succ_lt hn⟩) = 15 from e.1), mul_one]
        rfl
    refine (dk_next m c q k v g hq hk hv hg ⟨n + 1, hn⟩ _ r j _ hs).trans ?_
    rw [part_next (fun b a => ck q k v g b a r j) (fun b a h => ck_zero q k v g b a h r j) ⟨n + 1, hn⟩ (Nat.succ_ne_zero n)]

/-- What step `n` gives the queries' gradient at row `s` of block `o`. -/
def cqStep (o : Fin 16) (s : Fin 512) (j : Fin 1024) (n : Fin 136) : ℝ := if row n = o then cq q k v g (row n) (col n) s j else 0

include hq hk hv hg in
theorem dq_at (o : Fin 16) (s : Fin 512) (j : Fin 1024) : ∀ t : Fin (cfgA (F := Ideal)).N,
    dqAt m c t (ix2 (pos o s) j) = ((part (cqStep q k v g o s j) ((nt t).val + 1) * (if nt t = 135 then scale else 1) : ℝ) : EReal) := by
  rintro ⟨n, hn⟩
  induction n with
  | zero =>
    have h0 := nt_zero ⟨0, hn⟩ rfl
    refine (dq_next m c q k v g hq hk hv hg ⟨0, hn⟩ _ o s j 0 fun h => absurd h0 h).trans ?_
    rw [if_pos h0, part_succ, part_zero _ _ fun a ha => absurd ha (by rw [h0]; exact Nat.not_lt_zero _)]; rfl
  | succ n ih =>
    have hp := ih (Nat.lt_of_succ_lt hn)
    have e1 := nt_val (⟨n + 1, hn⟩ : Fin (cfgA (F := Ideal)).N)
    have e0 := nt_val (⟨n, Nat.lt_of_succ_lt hn⟩ : Fin (cfgA (F := Ideal)).N)
    have hl : (nt (⟨n + 1, hn⟩ : Fin (cfgA (F := Ideal)).N)).val < 136 := Fin.isLt _
    have h0 : ¬ nt (⟨n + 1, hn⟩ : Fin (cfgA (F := Ideal)).N) = 0 := fun h => by rw [h] at e1; exact absurd e1 (Nat.succ_ne_zero n).symm
    have h135 : ¬ nt (⟨n, Nat.lt_of_succ_lt hn⟩ : Fin (cfgA (F := Ideal)).N) = 135 := fun h => by
      rw [h] at e0; rw [e1] at hl
      have : (135 : ℕ) = n := e0
      have : n + 1 < 136 := hl
      omega
    rw [if_neg h135, mul_one] at hp
    refine (dq_next m c q k v g hq hk hv hg ⟨n + 1, hn⟩ _ o s j _ fun _ => hp).trans ?_
    rw [if_neg h0, part_succ (cqStep q k v g o s j) (nt ⟨n + 1, hn⟩), e0, e1]
    rfl

end Cert.Kernel2Ideal.AttnValue

end
-- ==== Proof.Attn.Run.lean ====
/- The attention's backward kernel run: the body's obligation at every point, the launch, and the frame — at any values. -/
module

public import proofs.«01_k».proof.Proof.Attn.Hold

@[expose] public section

set_option maxRecDepth 16384

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body as the table of bodies spells it at point `t`. -/
abbrev bodyAt (t : Fin (cfgA (F := F)).N) : Prog (TpuEff nD τ sig (Elt F) Λ₀ .tc) PUnit :=
  defs₀ (F := F) .tc (cfgA (F := F)).body ((cfgA (F := F)).bodyArgs t ((cfgA (F := F)).slots t))

/-- The two tables the launch hands the body, apart. -/
theorem tables_pair (c : Dev nD) : (Pipeline.ΦT pre0 (tables (F := F)) c : sProp 𝕄)
    = iprop((((c : Thread nD τ).loc main_c) ↦{fullShare.right} (tab0 c)) ∗ (((c : Thread nD τ).loc main_c_0) ↦{fullShare.right} (tab1 c))) := by
  unfold Pipeline.ΦT Pipeline.prefHeld
  rw [show (Finset.univ : Finset (Fin 2)) = insert 0 {1} from by decide, bigSep_insert (by decide), bigSep_singleton]
  rfl

/-- What the body is called with at point `t`, the windows one by one, -/
def bodyPre (c : Dev nD) (t : Fin (cfgA (F := F)).N) : sProp 𝕄 :=
  iprop((dats m 0 c).Φ t.castSucc ∗ (dats m 0 c).owesAt () t.castSucc
    ∗ (∃ d, owns (c : Thread nD τ) (((cfgA (F := F)).win 0).stage ((cfgA (F := F)).slots t 0)) fullShare ((dats m 0 c).before 0 t d))
    ∗ (∃ d, owns (c : Thread nD τ) (((cfgA (F := F)).win 1).stage ((cfgA (F := F)).slots t 1)) fullShare ((dats m 0 c).before 1 t d))
    ∗ (∃ d, owns (c : Thread nD τ) (((cfgA (F := F)).win 2).stage ((cfgA (F := F)).slots t 2)) fullShare ((dats m 0 c).before 2 t d))
    ∗ (∃ d, owns (c : Thread nD τ) (((cfgA (F := F)).win 3).stage ((cfgA (F := F)).slots t 3)) fullShare ((dats m 0 c).before 3 t d))
    ∗ (∃ d, owns (c : Thread nD τ) (((cfgA (F := F)).win 4).stage ((cfgA (F := F)).slots t 4)) fullShare ((dats m 0 c).before 4 t d))
    ∗ (∃ d, owns (c : Thread nD τ) (((cfgA (F := F)).win 5).stage ((cfgA (F := F)).slots t 5)) fullShare ((dats m 0 c).before 5 t d))
    ∗ (∃ d, owns (c : Thread nD τ) (((cfgA (F := F)).win 6).stage ((cfgA (F := F)).slots t 6)) fullShare ((dats m 0 c).before 6 t d))
    ∗ (∃ d, owns (c : Thread nD τ) (((cfgA (F := F)).win 7).stage ((cfgA (F := F)).slots t 7)) fullShare ((dats m 0 c).before 7 t d))
    ∗ (∃ d, owns (c : Thread nD τ) (((cfgA (F := F)).win 8).stage ((cfgA (F := F)).slots t 8)) fullShare ((dats m 0 c).before 8 t d)))

/-- and what it returns. -/
def bodyPost (c : Dev nD) (t : Fin (cfgA (F := F)).N) : sProp 𝕄 :=
  iprop((dats m 0 c).Φ t.succ ∗ (dats m 0 c).owesAt () t.succ
    ∗ owns (c : Thread nD τ) (((cfgA (F := F)).win 0).stage ((cfgA (F := F)).slots t 0)) fullShare ((dats m 0 c).after 0 t)
    ∗ owns (c : Thread nD τ) (((cfgA (F := F)).win 1).stage ((cfgA (F := F)).slots t 1)) fullShare ((dats m 0 c).after 1 t)
    ∗ owns (c : Thread nD τ) (((cfgA (F := F)).win 2).stage ((cfgA (F := F)).slots t 2)) fullShare ((dats m 0 c).after 2 t)
    ∗ owns (c : Thread nD τ) (((cfgA (F := F)).win 3).stage ((cfgA (F := F)).slots t 3)) fullShare ((dats m 0 c).after 3 t)
    ∗ owns (c : Thread nD τ) (((cfgA (F := F)).win 4).stage ((cfgA (F := F)).slots t 4)) fullShare ((dats m 0 c).after 4 t)
    ∗ owns (c : Thread nD τ) (((cfgA (F := F)).win 5).stage ((cfgA (F := F)).slots t 5)) fullShare ((dats m 0 c).after 5 t)
    ∗ owns (c : Thread nD τ) (((cfgA (F := F)).win 6).stage ((cfgA (F := F)).slots t 6)) fullShare ((dats m 0 c).after 6 t)
    ∗ owns (c : Thread nD τ) (((cfgA (F := F)).win 7).stage ((cfgA (F := F)).slots t 7)) fullShare ((dats m 0 c).after 7 t)
    ∗ owns (c : Thread nD τ) (((cfgA (F := F)).win 8).stage ((cfgA (F := F)).slots t 8)) fullShare ((dats m 0 c).after 8 t))

theorem sound_body (c : Dev nD) (t : Fin (cfgA (F := F)).N) :
    bodyPre m c t ⊢ wp frame (wpE (defs₀ (F := F)) Variants.none c none) Set.univ (bodyAt t) (fun _ => bodyPost m c t) := by
  unfold bodyPre bodyPost bodyAt
  simp only [before_0, before_1, before_2, before_3, before_4, before_5]
  rw [show (dats m 0 c).Φ t.succ = iprop(Pipeline.ΦA spec0 c ∗ Pipeline.ΦT pre0 tables c) from rfl,
    show (dats m 0 c).Φ t.castSucc = iprop(Pipeline.ΦA spec0 c ∗ Pipeline.ΦT pre0 tables c) from rfl,
    show (dats m 0 c).owesAt () t.succ = (dats m 0 c).owesAt () t.castSucc from rfl,
    after_0, after_1, after_2, after_3, after_4, after_5, after_6, after_7, after_8, tables_pair]
  unfold defs₀; rw [Defs.onTc_tc]
  iintro ⟨⟨HΦ, HA, HB⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_point c (grid0.coords t) _ _ _ _ _ _ _ _ _ _ _ _ _ _ _ _ _ _ (qB m c t) (kB m c t) (vB m c t) (gB m c t) (lB m c t) (dB m c t)
    ((dats m 0 c).before 6 t d6) ((dats m 0 c).before 7 t d7) ((dats m 0 c).before 8 t d8) Set.univ _)
  rw [next_6 m c t d6, next_7 m c t d7, next_8 m c t d8]
  unfold held
  isplitl [HA HB H0 H1 H2 H3 H4 H5 H6 H7 H8]
  · isplitl [HA]; · iexact HA
    isplitl [HB]; · iexact HB
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro ⟨HA, HB, H0, H1, H2, H3, H4, H5, H6, H7, H8⟩
  isplitl [HΦ HA HB]
  · isplitl [HΦ]; · iexact HΦ
    isplitl [HA]; · iexact HA
    iexact HB
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  have l6 : idle0 (F := F) adm.1 6 (((pcfgs (F := F) 0).gridAt adm.1).coords t) = false := live_6 _
  have l7 : idle0 (F := F) adm.1 7 (((pcfgs (F := F) 0).gridAt adm.1).coords t) = false := live_7 _
  have l8 : idle0 (F := F) adm.1 8 (((pcfgs (F := F) 0).gridAt adm.1).coords t) = false := live_8 _
  refine triple_restated (sound_body m c t) rfl .rfl fun _ => ?_
  unfold bodyPost
  dsimp only
  rw [l6, l7, l8]
  iintro H; iexact H

/-! ## The run and the frame -/

set_option backward.isDefEq.respectTransparency.types false in
set_option maxHeartbeats 800000 in
/-- The launch: every window's array at what the proof data says at the end, every other buffer as the region found it,
    every semaphore at zero. -/
theorem run_main : θ_run defs (onTc (τ := τ) (main (F := F))) (s₀ m ρ)
    (fun r => Pipeline.FramePost (Pipeline.pin pcfgs (fun _ => adm)) (dats m) 0 (V m) r ∧ r.2.sem = fun _ => 0) :=
  Pipeline.θ_run_frameP (Q' := _) pcfgs (fun _ => adm) (dats m) (0 : Fin 1) launch0 defs₀ Variants.none m ρ main
    (hbody := fun c => (body_obligation m c).loose) (hshare := fun c => (dats m 0 c).share_full fun _ => rfl)
    (howed := fun _ _ => rfl) (V := V m) (hmain := hmain m) (hA := A_eq m)
    (hpf := fun c k => by fin_cases k; exacts [V_tab0 m c, V_tab1 m c]) (hΦ := fun _ _ => rfl)

/-- No window's array is an argument. -/
theorem args_rest : main_arg0 ∈ Pipeline.restRefs sig spec0 ∧ main_arg1 ∈ Pipeline.restRefs sig spec0
    ∧ main_arg2 ∈ Pipeline.restRefs sig spec0 ∧ main_arg3 ∈ Pipeline.restRefs sig spec0 :=
  ⟨Pipeline.mem_restRefs_of main_arg0 (by decide) (by decide), Pipeline.mem_restRefs_of main_arg1 (by decide) (by decide),
    Pipeline.mem_restRefs_of main_arg2 (by decide) (by decide), Pipeline.mem_restRefs_of main_arg3 (by decide) (by decide)⟩

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      ((h.1 c).2 main_arg0 args_rest.1).trans (V_arg m c _ (.inl rfl)),
      ((h.1 c).2 main_arg1 args_rest.2.1).trans (V_arg m c _ (.inr (.inl rfl))),
      ((h.1 c).2 main_arg2 args_rest.2.2.1).trans (V_arg m c _ (.inr (.inr (.inl rfl)))),
      ((h.1 c).2 main_arg3 args_rest.2.2.2).trans (V_arg m c _ (.inr (.inr (.inr rfl))))⟩, h.2⟩) (run_main m ρ)

end Cert.Kernel2Ideal.Attn

end
-- ==== Proof.Attn.Ref.lean ====
/- The reference's gradients of the attention, over arguments that are real. -/
module

public import proofs.«01_k».proof.Proof.Gen.Reference2Ideal.Run
public import proofs.«01_k».proof.Proof.Attn.Args

@[expose] public section

set_option maxRecDepth 16384
set_option maxHeartbeats 1600000

noncomputable section

namespace Cert.Reference2Ideal.AttnValue

open Cert.Reference2Ideal Cert.Reference2Ideal.Gen Cert.AttnMath
open Cert.Kernel2Ideal.AttnValue (lift3 lift2 lanes scale scale_word bot_word seen seen_at scoresA scores_at topA topA top_at top exA ex_at totA tot_at prA pr_at pad96 pad96_at pad64 pad64_at headsA heads_at div_real masked)
open Idealize.ShloMosaic Idealize.ShloMosaic.TcCoe Idealize.SL.Sem

section Stages

variable (a0 a1 : FVec Ideal S8192x8x96 .f32) (a2 : FVec Ideal S8192x8x64 .f32) (a3 : FVec Ideal S8192x512 .f32)
  (e p w z : FVec Ideal S8x8192x8192 .f32) (x : FVec Ideal S8x8192x1 .f32)

def colR (y : FVec Ideal S8x8192 .f32) : FVec Ideal S8x8192x1 .f32 := broadcastInDim S8x8192x1 ![0, 1] bcast_S8x8192_S8x8192x1_0_1
  (maximumf (broadcastInDim S8x8192 ![] bcast_S_S8x8192 (constant S_ .f32 0xFF800000#32)) y)
def topR : FVec Ideal S8x8192x1 .f32 := colR (topA (scoresA a0 a1))
def exR : FVec Ideal S8x8192x8192 .f32 := exA (scoresA a0 a1) (topR a0 a1)
def totR : FVec Ideal S8x8192x1 .f32 := totA (exR a0 a1)
def prR : FVec Ideal S8x8192x8192 .f32 := prA (exR a0 a1) (totR a0 a1)
/-- The cotangent, head by head; -/
def ctR : FVec Ideal S8x64x8192 .f32 := transpose S8x64x8192 [1, 2, 0] (headsA a3) transposes_S8192x8x64_S8x64x8192_1_2_0
/-- the weights' gradients; -/
def dpR : FVec Ideal S8x8192x8192 .f32 := Host.dotGeneral dot_S8x64x8192_S8192x8x64_S8x8192x8192_1_2_2_0_0_1 none (ctR a3) a2
/-- the quotient's part through its denominator; -/
def meanR : FVec Ideal S8x8192 .f32 :=
  Host.reduceAdd (Host.negf (shapeCast S8x8192x1 (Host.reduceAdd (mulf (mulf w (broadcastInDim S8x8192x8192 ![0, 1, 2] bcast_S8x8192x1_S8x8192x8192_0_1_2
      (Host.divf (broadcastInDim S8x8192x1 ![] bcast_S_S8x8192x1 (constant S_ .f32 0x3F800000#32)) (mulf x x)))) e)
      (constant S_ .f32 0x00000000#32) reducesTo_S8x8192x8192_S8x8192_d2 h_S_) shapeCasts_S8x8192_S8x8192x1))
    (constant S_ .f32 0x00000000#32) reducesTo_S8x8192x1_S8x8192_d2 h_S_
/-- the scores' gradients; -/
def dsR (y : FVec Ideal S8x8192 .f32) : FVec Ideal S8x8192x8192 .f32 :=
  mulf (select seen (mulf (addf (Host.divf w (broadcastInDim S8x8192x8192 ![0, 1, 2] bcast_S8x8192x1_S8x8192x8192_0_1_2 x))
      (broadcastInDim S8x8192x8192 ![0, 1] bcast_S8x8192_S8x8192x8192_0_1 y)) e)
    (broadcastInDim S8x8192x8192 ![] bcast_S_S8x8192x8192 (constant S_ .f32 0x00000000#32)))
    (broadcastInDim S8x8192x8192 ![] bcast_S_S8x8192x8192 (constant S_ .f32 0x3DD105EC#32))
def dsF : FVec Ideal S8x8192x8192 .f32 :=
  dsR (exR a0 a1) (dpR a2 a3) (totR a0 a1) (meanR (exR a0 a1) (dpR a2 a3) (totR a0 a1))
/-- the queries', -/
def dqR : FVec Ideal S8192x1024 .f32 := pad96 (transpose S8192x8x96 [1, 0, 2]
  (Host.dotGeneral dot_S8x8192x8192_S8192x8x96_S8x8192x96_2_0_1_2_0_1 none z a1) transposes_S8x8192x96_S8192x8x96_1_0_2)
/-- the keys' -/
def dkR : FVec Ideal S8192x1024 .f32 := pad96 (transpose S8192x8x96 [1, 0, 2]
  (Host.dotGeneral dot_S8x8192x8192_S8192x8x96_S8x8192x96_1_0_2_2_0_1 none z a0) transposes_S8x8192x96_S8192x8x96_1_0_2)
/-- and the values'. -/
def dvR : FVec Ideal S8192x1024 .f32 := pad64 (transpose S8192x8x64 [2, 0, 1]
  (Host.dotGeneral dot_S8x64x8192_S8x8192x8192_S8x64x8192_2_1_1_2_0_0 none (ctR a3) p) transposes_S8x64x8192_S8192x8x64_2_0_1)

end Stages

section Run

variable (m : (ℓ : Loc nD τ sig) → Buf (Elt Ideal) ℓ) (c : Dev nD)

abbrev qArg : FVec Ideal S8192x8x96 .f32 := m ((c.tc : Thread nD τ).loc main_arg0)
abbrev kArg : FVec Ideal S8192x8x96 .f32 := m ((c.tc : Thread nD τ).loc main_arg1)
abbrev vArg : FVec Ideal S8192x8x64 .f32 := m ((c.tc : Thread nD τ).loc main_arg2)
abbrev gArg : FVec Ideal S8192x512 .f32 := m ((c.tc : Thread nD τ).loc main_arg3)

theorem res_dq : Value.res_out0 m c = dqR (kArg m c) (dsF (qArg m c) (kArg m c) (vArg m c) (gArg m c)) := rfl
theorem res_dk : Value.res_out1 m c = dkR (qArg m c) (dsF (qArg m c) (kArg m c) (vArg m c) (gArg m c)) := rfl
theorem res_dv : Value.res_out2 m c = dvR (gArg m c) (prR (qArg m c) (kArg m c)) := rfl

end Run

variable (q k : Fin 8192 → Fin 8 → Fin 96 → ℝ) (v g : Fin 8192 → Fin 8 → Fin 64 → ℝ)

theorem colR_at (y : FVec Ideal S8x8192 .f32) (h : Fin 8) (t : Fin 8192) : colR y (ix3 h t 0) = max ⊥ (y (ix2 h t)) := by
  pointwise [colR, bot_word]

theorem topR_at (h : Fin 8) (t : Fin 8192) : topR (lift3 q) (lift3 k) (ix3 h t 0) = (top q k h t : EReal) := by
  rw [topR, colR_at, top_at]
  exact max_eq_right bot_le

theorem exR_at (h : Fin 8) (t j : Fin 8192) : exR (lift3 q) (lift3 k) (ix3 h t j) = (ex q k scale (top q k) h t j : EReal) :=
  ex_at q k _ h t j (topR_at q k h t)

theorem totR_at (h : Fin 8) (t : Fin 8192) : totR (lift3 q) (lift3 k) (ix3 h t 0) = (tot q k scale (top q k) h t : EReal) :=
  tot_at q k _ h t fun j => exR_at q k h t j

theorem prR_at (h : Fin 8) (t j : Fin 8192) : prR (lift3 q) (lift3 k) (ix3 h t j) = (pr q k scale (top q k) h t j : EReal) :=
  pr_at q k _ _ h t j (exR_at q k h t j) (totR_at q k h t)

theorem ctR_at (h : Fin 8) (d : Fin 64) (t : Fin 8192) : ctR (lift2 g) (ix3 h d t) = (g t h d : EReal) := by
  pointwise [ctR, heads_at]

theorem dpR_at (h : Fin 8) (t j : Fin 8192) : dpR (lift3 v) (lift2 g) (ix3 h t j) = (dp v g h t j : EReal) := by
  pointwise [dpR, ctR_at, lift3]
  rw [dp, coe_sum]
  simp only [EReal.coe_mul]

theorem meanR_at (e w : FVec Ideal S8x8192x8192 .f32) (x : FVec Ideal S8x8192x1 .f32) (h : Fin 8) (t : Fin 8192)
    (he : ∀ j, e (ix3 h t j) = (ex q k scale (top q k) h t j : EReal)) (hw : ∀ j, w (ix3 h t j) = (dp v g h t j : EReal))
    (hx : x (ix3 h t 0) = (tot q k scale (top q k) h t : EReal)) :
    meanR e w x (ix2 h t) = ((-∑ i, dp v g h t i * (1 / (tot q k scale (top q k) h t * tot q k scale (top q k) h t)) * ex q k scale (top q k) h t i : ℝ) : EReal) := by
  pointwise [meanR, he, hw, hx]
  rw [Fin.sum_univ_one, EReal.coe_neg, coe_sum]
  refine congrArg _ (Finset.sum_congr rfl fun i _ => ?_)
  have h0 := (tot_pos q k scale (top q k) h t).ne'
  rw [← EReal.coe_mul, ← EReal.coe_one, div_real _ _ (mul_ne_zero h0 h0), ← EReal.coe_mul, ← EReal.coe_mul]

theorem dsF_at (h : Fin 8) (t j : Fin 8192) :
    dsF (lift3 q) (lift3 k) (lift3 v) (lift2 g) (ix3 h t j) = ((ds q k v g scale (top q k) h t j * scale : ℝ) : EReal) := by
  have hm := meanR_at q k v g _ _ _ h t (exR_at q k h t) (dpR_at v g h t) (totR_at q k h t)
  pointwise [dsF, dsR, hm, seen_at, exR_at, dpR_at, totR_at, scale_word]
  by_cases hj : j ≤ t
  · rw [if_pos hj, div_real _ _ (tot_pos q k scale (top q k) h t).ne', ← EReal.coe_add, ← EReal.coe_mul, ← EReal.coe_mul, ds_eq]; rfl
  · rw [if_neg hj, ds_after q k v g scale (top q k) h t j hj, zero_mul, EReal.coe_zero]; rfl

/-- The gradients, heads 128 lanes apart. -/
def gradQ (t : Fin 8192) (h : Fin 8) (d : Fin 96) : ℝ := ∑ j, ds q k v g scale (top q k) h t j * scale * k j h d
def gradK (t : Fin 8192) (h : Fin 8) (d : Fin 96) : ℝ := ∑ i, ds q k v g scale (top q k) h i t * scale * q i h d
def gradV (t : Fin 8192) (h : Fin 8) (d : Fin 64) : ℝ := ∑ i, pr q k scale (top q k) h i t * g i h d

theorem dqR_at (z : FVec Ideal S8x8192x8192 .f32)
    (hz : ∀ h t j, z (ix3 h t j) = ((ds q k v g scale (top q k) h t j * scale : ℝ) : EReal)) (t : Fin 8192) (j : Fin 1024) :
    dqR (lift3 k) z (ix2 t j) = (lanes (gradQ q k v g) t j : EReal) := by
  have e : dqR (lift3 k) z = pad96 (lift3 (gradQ q k v g)) := by
    unfold dqR; refine congrArg pad96 (funext fun i => ?_)
    idx_vars i
    pointwise [hz, lift3]
    rw [gradQ, coe_sum]
    simp only [EReal.coe_mul]
  rw [e, pad96_at]

theorem dkR_at (z : FVec Ideal S8x8192x8192 .f32)
    (hz : ∀ h t j, z (ix3 h t j) = ((ds q k v g scale (top q k) h t j * scale : ℝ) : EReal)) (t : Fin 8192) (j : Fin 1024) :
    dkR (lift3 q) z (ix2 t j) = (lanes (gradK q k v g) t j : EReal) := by
  have e : dkR (lift3 q) z = pad96 (lift3 (gradK q k v g)) := by
    unfold dkR; refine congrArg pad96 (funext fun i => ?_)
    idx_vars i
    pointwise [hz, lift3]
    rw [gradK, coe_sum]
    simp only [EReal.coe_mul]
  rw [e, pad96_at]

theorem dvR_at (p : FVec Ideal S8x8192x8192 .f32) (hp : ∀ h t j, p (ix3 h t j) = (pr q k scale (top q k) h t j : EReal)) (t : Fin 8192) (j : Fin 1024) :
    dvR (lift2 g) p (ix2 t j) = (lanes (gradV q k g) t j : EReal) := by
  unfold dvR
  refine pad64_at (gradV q k g) _ (fun t h d => ?_) t j
  pointwise [hp, ctR_at]
  rw [gradV, coe_sum]
  refine Finset.sum_congr rfl fun i _ => ?_
  rw [EReal.coe_mul, mul_comm]

end Cert.Reference2Ideal.AttnValue

end
-- ==== Proof.Attn.Final.lean ====
/- The arrays the attention's backward call leaves, over real inputs: the three gradients. -/
module

public import proofs.«01_k».proof.Proof.Attn.Accum
public import proofs.«01_k».proof.Proof.Attn.Run
public import proofs.«01_k».proof.Proof.Attn.Ref
public import Idealize.ShloMosaic.Lib.Pipeline.ValueKit

@[expose] public section

set_option maxRecDepth 16384

noncomputable section

namespace Cert.Kernel2Ideal.AttnValue

open Cert.Kernel2Ideal Cert.Kernel2Ideal.Gen Cert.AttnMath
open Cert.Kernel2Ideal.Attn hiding ix2
open Cert.Reference2Ideal.AttnValue (gradQ gradK gradV)
open Idealize.ShloMosaic Idealize.ShloMosaic.TcCoe

/-! ## The sums over the blocks are the gradients -/

section Sums

variable (q k : Fin 8192 → Fin 8 → Fin 96 → ℝ) (v g : Fin 8192 → Fin 8 → Fin 64 → ℝ)

theorem sum_cv (a : Fin 16) (r : Fin 512) (j : Fin 1024) : ∑ b, cv q k g b a r j = lanes (gradV q k g) (pos a r) j := by
  unfold cv
  rw [sum_blocks (fun t => P q k (head j) t (pos a r) * lanes g t j)]
  exact (lanes_sum Finset.univ (fun i h => P q k h i (pos a r)) (fun _ => g) _ id _ (fun _ _ => rfl) j).symm

theorem sum_ck (a : Fin 16) (r : Fin 512) (j : Fin 1024) : (∑ b, ck q k v g b a r j) * Real.log 2 = lanes (gradK q k v g) (pos a r) j := by
  unfold ck
  rw [sum_blocks (fun t => D q k v g (head j) t (pos a r) * (lanes q t j * scale / Real.log 2)), Finset.sum_mul]
  refine Eq.trans ?_ (lanes_sum Finset.univ (fun i h => D q k v g h i (pos a r) * scale) (fun _ => q) _ id _ (fun _ _ => rfl) j).symm
  refine Finset.sum_congr rfl fun t _ => ?_
  have h2 : Real.log 2 ≠ 0 := (Real.log_pos (by norm_num)).ne'
  rw [id, mul_assoc, div_mul_cancel₀ _ h2]; ring

theorem sum_cq (b : Fin 16) (s : Fin 512) (j : Fin 1024) : (∑ n, cqStep q k v g b s j n) * scale = lanes (gradQ q k v g) (pos b s) j := by
  have e : ∑ n, cqStep q k v g b s j n = ∑ a, cq q k v g b a s j := by
    rw [← sum_steps (fun a => cq q k v g b a s j) b (fun a h => cq_zero q k v g b a h s j)]
    refine Finset.sum_congr rfl fun n _ => ?_
    unfold cqStep
    by_cases h : row n = b
    · rw [if_pos h, if_pos h, h]
    · rw [if_neg h, if_neg h]
  rw [e]
  unfold cq
  rw [sum_blocks (fun t => D q k v g (head j) (pos b s) t * lanes k t j), Finset.sum_mul]
  refine Eq.trans ?_ (lanes_sum Finset.univ (fun i h => D q k v g h (pos b s) i * scale) (fun _ => k) _ id _ (fun _ _ => rfl) j).symm
  refine Finset.sum_congr rfl fun t _ => ?_
  rw [id]; ring

end Sums

variable (m : (ℓ : Loc nD τ sig) → Buf (Elt Ideal) ℓ) (c : Dev nD)
  (q k : Fin 8192 → Fin 8 → Fin 96 → ℝ) (v g : Fin 8192 → Fin 8 → Fin 64 → ℝ)
  (hq : qArg m c = lift3 q) (hk : kArg m c = lift3 k) (hv : vArg m c = lift3 v) (hg : gArg m c = lift2 g)

/-- Heads of `n` lanes, 128 apart, as an array. -/
def spread {n : ℕ} (f : Fin 8192 → Fin 8 → Fin n → ℝ) : FVec Ideal S8192x1024 .f32 := fun i => ((lanes f (i 0) (i 1) : ℝ) : EReal)

theorem spread_at {n : ℕ} (f : Fin 8192 → Fin 8 → Fin n → ℝ) (t : Fin 8192) (j : Fin 1024) : spread f (ix2 t j) = (lanes f t j : EReal) := rfl

/-- A block of keys is written back after the bottom row of queries. -/
theorem flush_row (t : Fin (cfgA (F := Ideal)).N) (hf : ((cfgA (F := Ideal)).win 7).flush t = true) : row (nt t) = 15 := by
  by_contra h
  have ht := nt_val t
  have hl : (nt t).val < 136 := (nt t).isLt
  have h135 : (nt t).val ≠ 135 := fun e => h (row_last _ (Fin.ext e)).1
  have hn : t.val + 1 < (cfgA (F := Ideal)).N := by
    show t.val + 1 < 136
    omega
  have st := nt_step ⟨t.val + 1, hn⟩ (Nat.succ_ne_zero _)
  have hp : prev ⟨t.val + 1, hn⟩ = t := rfl
  rcases st with e | e
  · exact h e.1
  · have := flush_7 ⟨t.val + 1, hn⟩ (Nat.succ_ne_zero _) e.2.1
    rw [hp, hf] at this
    exact absurd this (by decide)

theorem covers_7 : ((cfgA (F := Ideal)).win 7).Covers := by decide +kernel
theorem covers_8 : ((cfgA (F := Ideal)).win 8).Covers := by decide +kernel
theorem whole_6 : ((cfgA (F := Ideal)).win 6).WholeAt ⟨135, by decide⟩ := by decide +kernel

theorem at_7 (t : Fin (cfgA (F := Ideal)).N) (r : Fin 512) (j : Fin 1024) : (((cfgA (F := Ideal)).win 7).rect t).emb (ix2 r j) = ix2 (pos (col (nt t)) r) j :=
  block_index _ _ (index_7 t) r j _ (((cfgA (F := Ideal)).win 7).rect_emb_val t (ix2 r j) 0 rfl) (((cfgA (F := Ideal)).win 7).rect_emb_val t (ix2 r j) 1 rfl)
theorem at_8 (t : Fin (cfgA (F := Ideal)).N) (r : Fin 512) (j : Fin 1024) : (((cfgA (F := Ideal)).win 8).rect t).emb (ix2 r j) = ix2 (pos (col (nt t)) r) j :=
  block_index _ _ (index_8 t) r j _ (((cfgA (F := Ideal)).win 8).rect_emb_val t (ix2 r j) 0 rfl) (((cfgA (F := Ideal)).win 8).rect_emb_val t (ix2 r j) 1 rfl)

include hq hk hg in
theorem dv_last (t : Fin (cfgA (F := Ideal)).N) (h : row (nt t) = 15) (r : Fin 512) (j : Fin 1024) :
    dvAt m c t (ix2 r j) = spread (gradV q k g) (ix2 (pos (col (nt t)) r) j) := by
  have e : (row (nt t)).val + 1 = 16 := by rw [h]; rfl
  rw [dv_at m c q k g hq hk hg r j t, spread_at, e, part_all, sum_cv]

include hq hk hv hg in
theorem dk_last (t : Fin (cfgA (F := Ideal)).N) (h : row (nt t) = 15) (r : Fin 512) (j : Fin 1024) :
    dkAt m c t (ix2 r j) = spread (gradK q k v g) (ix2 (pos (col (nt t)) r) j) := by
  have e : (row (nt t)).val + 1 = 16 := by rw [h]; rfl
  rw [dk_at m c q k v g hq hk hv hg r j t, spread_at, e, part_all, if_pos h, sum_ck]

include hq hk hv hg in
theorem dq_last (t : Fin (cfgA (F := Ideal)).N) (h : nt t = 135) (i : Fin 8192) (j : Fin 1024) :
    dqAt m c t (ix2 i j) = spread (gradQ q k v g) (ix2 i j) := by
  have ei : i = pos ⟨i.val / 512, by omega⟩ ⟨i.val % 512, Nat.mod_lt _ (by decide)⟩ := Fin.ext (by
    show i.val = i.val / 512 * 512 + i.val % 512
    omega)
  have e : (nt t).val + 1 = 136 := by rw [h]; rfl
  rw [ei, dq_at m c q k v g hq hk hv hg _ _ j t, spread_at, e, part_all, if_pos h, sum_cq]

include hq hk hg in
theorem final_dv : (dats m 0 c).arrAt 8 (cfgA (F := Ideal)).N = spread (gradV q k g) := by
  refine (dats m 0 c).arrAt_eq_of_covers 8 _ covers_8 fun t hf y => ?_
  have hr := flush_row t hf
  obtain ⟨r, j, rfl⟩ : ∃ (r : Fin 512) (j : Fin 1024), y = ix2 r j := ⟨y 0, y 1, funext fun a => match a with | 0 => rfl | 1 => rfl⟩
  refine (dv_last m c q k g hq hk hg t hr r j).trans ?_
  exact congrArg (spread (gradV q k g)) (at_8 t r j).symm

include hq hk hv hg in
theorem final_dk : (dats m 0 c).arrAt 7 (cfgA (F := Ideal)).N = spread (gradK q k v g) := by
  refine (dats m 0 c).arrAt_eq_of_covers 7 _ covers_7 fun t hf y => ?_
  have hr := flush_row t hf
  obtain ⟨r, j, rfl⟩ : ∃ (r : Fin 512) (j : Fin 1024), y = ix2 r j := ⟨y 0, y 1, funext fun a => match a with | 0 => rfl | 1 => rfl⟩
  refine (dk_last m c q k v g hq hk hv hg t hr r j).trans ?_
  exact congrArg (spread (gradK q k v g)) (at_7 t r j).symm

include hq hk hv hg in
theorem final_dq : (dats m 0 c).arrAt 6 (cfgA (F := Ideal)).N = spread (gradQ q k v g) := by
  refine (dats m 0 c).arrAt_eq_of_after_last 6 ⟨135, by decide⟩ whole_6 _ fun y => ?_
  obtain ⟨r, j, rfl⟩ : ∃ (r : Fin 8192) (j : Fin 1024), y = ix2 r j := ⟨y 0, y 1, funext fun a => match a with | 0 => rfl | 1 => rfl⟩
  exact dq_last m c q k v g hq hk hv hg ⟨135, by decide⟩ (Fin.ext (nt_val _)) r j

end Cert.Kernel2Ideal.AttnValue

end
-- ==== Proof.Attn.Finite.lean ====
/- What the precondition says: every argument is an array of reals. -/
module

public import proofs.«01_k».proof.Defs
public import proofs.«01_k».proof.Proof.Gen.Pre_finite
public import proofs.«01_k».proof.Proof.Attn.Args
public import Idealize.ShloMosaic.Lib.ReduceAll

@[expose] public section

noncomputable section

namespace Cert.Finite

open Idealize.ShloMosaic

theorem top_word : Ideal.ofBits .f32 0x7F800000#32 = (⊤ : EReal) := by simp [Ideal.ofBits, Ideal.ieee]

theorem real_of_abs (x : EReal) (h : max x (-x) < ⊤) : ((x.toReal : ℝ) : EReal) = x := by
  refine EReal.coe_toReal (fun e => ?_) (fun e => ?_)
  · rw [e] at h; simp at h
  · rw [e] at h; simp at h

/-- An array whose elements all have an absolute value below infinity is real. -/
theorem real_of_all {s t u : Shape} [Subsingleton t.Idx] (x : FVec Ideal s .f32) (top : FVec Ideal s .f32) (htop : ∀ i, top i = (⊤ : EReal))
    (init : u.Idx → BitVec 1) {axes : List (Fin s.rank)} (h : s.ReducesTo axes t) (hu : 0 < u.numel) (j : t.Idx)
    (e : Host.reduce IntOp.andi (cmpf .olt (Host.absf x) top) init h hu j = 1#1) (i : s.Idx) : ((EReal.toReal (x i) : ℝ) : EReal) = x i := by
  have h1 := Host.reduce_andi_all _ _ _ _ _ e i
  refine real_of_abs _ ?_
  rw [← htop i]
  have h2 : BitVec.ofBool (decide (max (x i) (-(x i)) < top i)) = 1#1 := h1
  by_contra hc
  rw [decide_eq_false hc] at h2
  exact absurd h2 (by decide)

end Cert.Finite

end
-- ==== Proof.Attn.Words.lean ====
/- The frame of the attention's backward kernel as written, off the one run of `Run`: its text is the idealized
   program's with each named constant read as its own word. -/
module
public import proofs.«01_k».proof.Proof.Attn.Run
public import proofs.«01_k».proof.Proof.Gen.Kernel2
public import proofs.«01_k».proof.Defs
@[expose] public section

set_option maxRecDepth 16384

noncomputable section

namespace Cert.Kernel2Ideal.Attn

open Idealize.ShloMosaic Idealize.ShloMosaic.Tactic
/-- A named constant read as its own word. -/
abbrev words : Named Bits where
  named _ _ {φ} bits := FloatOps.ofBits φ bits

/-- The frame's statement of that reading. -/
def quiet : Prop :=
  ∀ (m : (ℓ : Loc nD τ sig) → Buf (Elt Bits) ℓ) (ρ : Dev nD → PrngReg), True → θ_run (@defs Bits _ words _) (onTc (τ := τ) (@main Bits _ words _)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem quiet_eq : quiet = Cert.quiescent_Kernel2 (hKernel2 := Cert.Kernel2.Gen.facts) := by sl_kernel_rfl

theorem frame_kernel : Cert.quiescent_Kernel2 (hKernel2 := Cert.Kernel2.Gen.facts) :=
  quiet_eq ▸ fun m ρ _ => @frame Bits _ words m ρ

end Cert.Kernel2Ideal.Attn

end
-- ==== Proof.Attn.Equal.lean ====
/- The attention's backward call and the derivative of the attention leave the same three arrays, where every argument is finite. -/
module

public import proofs.«01_k».proof.Proof.Attn.Final
public import proofs.«01_k».proof.Proof.Attn.Finite
public import proofs.«01_k».proof.Proof.Attn.Words

@[expose] public section

noncomputable section

namespace Cert.AttnEqual

open Cert.Kernel2Ideal.AttnValue Cert.Kernel2Ideal.Attn
open Cert.Reference2Ideal.AttnValue (gradQ gradK gradV)
open Idealize.ShloMosaic Idealize.ShloMosaic.TcCoe Idealize.SL.Sem

/-- The reals an array holds. -/
def reals {a b n : ℕ} (x : FVec Ideal ⟨3, ![a, b, n]⟩ .f32) : Fin a → Fin b → Fin n → ℝ := fun i j l => EReal.toReal (x (ix3 i j l))
def headReals (x : FVec Ideal Cert.Kernel2Ideal.S8192x512 .f32) : Fin 8192 → Fin 8 → Fin 64 → ℝ :=
  fun t h d => EReal.toReal (x (Idealize.ShloMosaic.ix2 t ⟨64 * h.val + d.val, by omega⟩))

theorem lift_reals {a b n : ℕ} (x : FVec Ideal ⟨3, ![a, b, n]⟩ .f32) (hx : ∀ i, ((EReal.toReal (x i) : ℝ) : EReal) = x i) : x = lift3 (reals x) := by
  funext i
  have e : ix3 (i 0) (i 1) (i 2) = i := funext fun z => match z with | 0 => rfl | 1 => rfl | 2 => rfl
  unfold lift3 reals
  exact ((congrArg (fun z => ((EReal.toReal (x z) : ℝ) : EReal)) e).trans (hx i)).symm

theorem lift_headReals (x : FVec Ideal Cert.Kernel2Ideal.S8192x512 .f32) (hx : ∀ i, ((EReal.toReal (x i) : ℝ) : EReal) = x i) : x = lift2 (headReals x) := by
  funext i
  have hl : (i 1).val < 512 := (i 1).isLt
  have e : Idealize.ShloMosaic.ix2 (i 0) ⟨64 * ((i 1).val / 64) + (i 1).val % 64, by omega⟩ = i := funext fun z => match z with
    | 0 => rfl
    | 1 => Fin.ext (by show 64 * ((i 1).val / 64) + (i 1).val % 64 = (i 1).val; omega)
  unfold lift2 headReals
  exact ((congrArg (fun z => ((EReal.toReal (x z) : ℝ) : EReal)) e).trans (hx i)).symm

instance : Subsingleton Cert.Pre_finite.S_.Idx := ⟨fun a b => funext fun i => i.elim0⟩

theorem args_real (a0 a1 : FVec Ideal Cert.Pre_finite.S8192x8x96 .f32) (a2 : FVec Ideal Cert.Pre_finite.S8192x8x64 .f32) (a3 : FVec Ideal Cert.Pre_finite.S8192x512 .f32)
    (h : Cert.Pre_finite.fn (F := Ideal) a0 a1 a2 a3 = fun _ => 1#1) :
    (∀ i, ((EReal.toReal (a0 i) : ℝ) : EReal) = a0 i) ∧ (∀ i, ((EReal.toReal (a1 i) : ℝ) : EReal) = a1 i)
      ∧ (∀ i, ((EReal.toReal (a2 i) : ℝ) : EReal) = a2 i) ∧ (∀ i, ((EReal.toReal (a3 i) : ℝ) : EReal) = a3 i) := by
  have h0 := congrFun h (Shape.Idx.first Cert.Pre_finite.Facts.h_S_)
  obtain ⟨h0, e3⟩ := IntOp.andi_eq_one.1 h0
  obtain ⟨h0, e2⟩ := IntOp.andi_eq_one.1 h0
  obtain ⟨e0, e1⟩ := IntOp.andi_eq_one.1 h0
  exact ⟨Cert.Finite.real_of_all a0 _ (fun _ => Cert.Finite.top_word) _ _ _ _ e0, Cert.Finite.real_of_all a1 _ (fun _ => Cert.Finite.top_word) _ _ _ _ e1,
    Cert.Finite.real_of_all a2 _ (fun _ => Cert.Finite.top_word) _ _ _ _ e2, Cert.Finite.real_of_all a3 _ (fun _ => Cert.Finite.top_word) _ _ _ _ e3⟩

/-- The reference leaves its arguments as they were; it has no semaphore. -/
theorem frame_reference : Cert.quiescent_Reference2Ideal := fun m ρ _ =>
  (θ_run Cert.Reference2Ideal.defs _ _).mono
    (fun r h => ⟨fun c => (h c).2.2.2, sem_eq_zero_of_no_sems (by decide) r.2⟩) (Cert.Reference2Ideal.Value.run m ρ)

theorem preserves : Cert.preserves_Kernel2_Kernel2Ideal := by
  exact ⟨⟨rfl, fun _ => rfl, rfl⟩, rfl, fun _ => rfl, rfl⟩

theorem reference_dq (q k : Fin 8192 → Fin 8 → Fin 96 → ℝ) (v g : Fin 8192 → Fin 8 → Fin 64 → ℝ) :
    Cert.Reference2Ideal.AttnValue.dqR (lift3 k) (Cert.Reference2Ideal.AttnValue.dsF (lift3 q) (lift3 k) (lift3 v) (lift2 g)) = spread (gradQ q k v g) := by
  funext i
  idx_vars i
  exact Cert.Reference2Ideal.AttnValue.dqR_at q k v g _ (Cert.Reference2Ideal.AttnValue.dsF_at q k v g) _ _

theorem reference_dk (q k : Fin 8192 → Fin 8 → Fin 96 → ℝ) (v g : Fin 8192 → Fin 8 → Fin 64 → ℝ) :
    Cert.Reference2Ideal.AttnValue.dkR (lift3 q) (Cert.Reference2Ideal.AttnValue.dsF (lift3 q) (lift3 k) (lift3 v) (lift2 g)) = spread (gradK q k v g) := by
  funext i
  idx_vars i
  exact Cert.Reference2Ideal.AttnValue.dkR_at q k v g _ (Cert.Reference2Ideal.AttnValue.dsF_at q k v g) _ _

theorem reference_dv (q k : Fin 8192 → Fin 8 → Fin 96 → ℝ) (g : Fin 8192 → Fin 8 → Fin 64 → ℝ) :
    Cert.Reference2Ideal.AttnValue.dvR (lift2 g) (Cert.Reference2Ideal.AttnValue.prR (lift3 q) (lift3 k)) = spread (gradV q k g) := by
  funext i
  idx_vars i
  exact Cert.Reference2Ideal.AttnValue.dvR_at q k g _ (Cert.Reference2Ideal.AttnValue.prR_at q k) _ _

end Cert.AttnEqual

end
-- ==== Proof.Attn.Claims.lean ====
/- The claims about the attention's backward call: what each program ends with, and that the two end alike. -/
module

public import proofs.«01_k».proof.Proof.Attn.Equal

@[expose] public section

noncomputable section

namespace Cert.AttnEqual

open Cert.Kernel2Ideal.AttnValue Cert.Kernel2Ideal.Attn
open Cert.Reference2Ideal.AttnValue (gradQ gradK gradV)
open Idealize.ShloMosaic Idealize.ShloMosaic.TcCoe Idealize.SL.Sem

theorem kernel_ends (m : (ℓ : Loc Cert.Kernel2Ideal.nD Cert.Kernel2Ideal.τ Cert.Kernel2Ideal.sig) → Buf (Elt Ideal) ℓ) (g : Dev Cert.Kernel2Ideal.nD → PrngReg)
    (hpre : Cert.Pre_Kernel2Ideal_finite m) :
    θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
      r.2.mem ((c.tc : Thread Cert.Kernel2Ideal.nD Cert.Kernel2Ideal.τ).loc Cert.Kernel2Ideal.main_v46_0)
          = spread (gradQ (reals (qArg m c)) (reals (kArg m c)) (reals (vArg m c)) (headReals (gArg m c)))
      ∧ r.2.mem ((c.tc : Thread Cert.Kernel2Ideal.nD Cert.Kernel2Ideal.τ).loc Cert.Kernel2Ideal.main_v46_1)
          = spread (gradK (reals (qArg m c)) (reals (kArg m c)) (reals (vArg m c)) (headReals (gArg m c)))
      ∧ r.2.mem ((c.tc : Thread Cert.Kernel2Ideal.nD Cert.Kernel2Ideal.τ).loc Cert.Kernel2Ideal.main_v46_2)
          = spread (gradV (reals (qArg m c)) (reals (kArg m c)) (headReals (gArg m c)))
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)) := by
  refine (θ_run _ _ _).mono (fun r h c => ?_) (run_main (F := Ideal) m g)
  obtain ⟨r0, r1, r2, r3⟩ := args_real _ _ _ _ (hpre c)
  have hq := lift_reals (qArg m c) r0
  have hk := lift_reals (kArg m c) r1
  have hv := lift_reals (vArg m c) r2
  have hg := lift_headReals (gArg m c) r3
  exact ⟨((h.1 c).1 6).trans (final_dq m c _ _ _ _ hq hk hv hg), ((h.1 c).1 7).trans (final_dk m c _ _ _ _ hq hk hv hg),
    ((h.1 c).1 8).trans (final_dv m c _ _ _ hq hk hg),
    ((h.1 c).2 Cert.Kernel2Ideal.main_arg0 args_rest.1).trans (V_arg m c _ (.inl rfl)),
    ((h.1 c).2 Cert.Kernel2Ideal.main_arg1 args_rest.2.1).trans (V_arg m c _ (.inr (.inl rfl))),
    ((h.1 c).2 Cert.Kernel2Ideal.main_arg2 args_rest.2.2.1).trans (V_arg m c _ (.inr (.inr (.inl rfl)))),
    ((h.1 c).2 Cert.Kernel2Ideal.main_arg3 args_rest.2.2.2).trans (V_arg m c _ (.inr (.inr (.inr rfl))))⟩

theorem algebraic : Cert.algebraic_Kernel2Ideal_Reference2Ideal_pre_finite := by
  intro m g m' g' hpre hag
  refine ⟨_, _, _, kernel_ends m g hpre, (θ_run _ _ _).mono (fun r h c => ?_) (Cert.Reference2Ideal.Value.run m' g')⟩
  obtain ⟨h0, h1, h2, hr⟩ := h c
  obtain ⟨a0, a1, a2, a3⟩ := hag c
  obtain ⟨r0, r1, r2, r3⟩ := args_real _ _ _ _ (hpre c)
  have hq : Cert.Reference2Ideal.AttnValue.qArg m' c = lift3 (reals (qArg m c)) := a0.trans (lift_reals (qArg m c) r0)
  have hk : Cert.Reference2Ideal.AttnValue.kArg m' c = lift3 (reals (kArg m c)) := a1.trans (lift_reals (kArg m c) r1)
  have hv : Cert.Reference2Ideal.AttnValue.vArg m' c = lift3 (reals (vArg m c)) := a2.trans (lift_reals (vArg m c) r2)
  have hg : Cert.Reference2Ideal.AttnValue.gArg m' c = lift2 (headReals (gArg m c)) := a3.trans (lift_headReals (gArg m c) r3)
  refine ⟨h0.trans ?_, h1.trans ?_, h2.trans ?_, hr⟩
  · refine (Cert.Reference2Ideal.AttnValue.res_dq m' c).trans ?_
    rw [hq, hk, hv, hg]; exact reference_dq _ _ _ _
  · refine (Cert.Reference2Ideal.AttnValue.res_dk m' c).trans ?_
    rw [hq, hk, hv, hg]; exact reference_dk _ _ _ _
  · refine (Cert.Reference2Ideal.AttnValue.res_dv m' c).trans ?_
    rw [hq, hk, hg]; exact reference_dv _ _ _

end Cert.AttnEqual

end
-- ==== Proof.Flash.Step.lean ====
/- One point of the attention's forward kernel: what it makes, head by head, of the running maximum, the running sum
   and the running weighted sum, and what the diagonal point writes from them; with the reading back of eight stores,
   one for each head. -/
module

public import proofs.«01_k».proof.Proof.Gen.Kernel15Ideal.Skeleton
public import proofs.«01_k».proof.Proof.Attn.Step

@[expose] public section

set_option maxRecDepth 16384

noncomputable section

namespace Cert.Kernel15Ideal.Flash

open Cert.Kernel15Ideal Cert.Kernel15Ideal.Gen
open Idealize.ShloMosaic Idealize.ShloMosaic.TcCoe Idealize.ShloMosaic.Tactic
open Cert.Kernel2Ideal.Attn (stack read_full readAt_full readAt_unit_of)

variable {F : FTy → Type}

/-! ## The heads' parts of a block -/

theorem tile_inb (h : Fin 8) : ∀ a, (![0, 128 * h.val] : Fin 2 → ℕ) a + S1024x128.size a ≤ S1024x1024.size a := by
  revert h; decide +kernel
theorem slab_inb (h : Fin 8) : ∀ a, (![h.val, 0, 0] : Fin 3 → ℕ) a + S1x1024x128.size a ≤ S8x1024x128.size a := by
  revert h; decide +kernel
theorem line_inb (h : Fin 8) : ∀ a, (![h.val, 0, 0] : Fin 3 → ℕ) a + S1x1x1024.size a ≤ S8x1x1024.size a := by
  revert h; decide +kernel

/-- The places of head `h`: its lanes of a block of 1024 rows, -/
abbrev tileR (h : Fin 8) : Rect S1024x1024 := Rect.unit (s := S1024x1024) ![0, 128 * h.val] S1024x128.size (tile_inb h)
/-- its slab of a running quantity, -/
abbrev slabR (h : Fin 8) : Rect S8x1024x128 := Rect.unit (s := S8x1024x128) ![h.val, 0, 0] S1x1024x128.size (slab_inb h)
/-- and its row of the log-sum-exps. -/
abbrev lineR (h : Fin 8) : Rect S8x1x1024 := Rect.unit (s := S8x1x1024) ![h.val, 0, 0] S1x1x1024.size (line_inb h)

/-- What is there. -/
def tile {e : EltTy} (x : Vec F S1024x1024 e) (h : Fin 8) : Vec F S1024x128 e := View.ld x (tileR h)
def slab {e : EltTy} (x : Vec F S8x1024x128 e) (h : Fin 8) : Vec F S1x1024x128 e := View.ld x (slabR h)

/-- The index of an entry in its head's part. -/
def tilePos (y : S1024x1024.Idx) : S1024x128.Idx := fun a => match a with
  | 0 => ⟨(y 0).val, (y 0).isLt⟩
  | 1 => ⟨(y 1).val % 128, Nat.mod_lt _ (by decide)⟩
def slabPos (y : S8x1024x128.Idx) : S1x1024x128.Idx := fun a => match a with
  | 0 => ⟨0, by decide⟩
  | 1 => ⟨(y 1).val, (y 1).isLt⟩
  | 2 => ⟨(y 2).val, (y 2).isLt⟩
def linePos (y : S8x1x1024.Idx) : S1x1x1024.Idx := fun a => match a with
  | 0 => ⟨0, by decide⟩
  | 1 => ⟨(y 1).val, (y 1).isLt⟩
  | 2 => ⟨(y 2).val, (y 2).isLt⟩

/-- The head an entry belongs to. -/
def tileOwn (y : S1024x1024.Idx) : Fin 8 := ⟨(y 1).val / 128, by have : (y 1).val < 1024 := (y 1).isLt; omega⟩
def slabOwn (y : S8x1024x128.Idx) : Fin 8 := ⟨(y 0).val, (y 0).isLt⟩
def lineOwn (y : S8x1x1024.Idx) : Fin 8 := ⟨(y 0).val, (y 0).isLt⟩

/-- Eight heads' parts put together. -/
def tiles {e : EltTy} (new : Fin 8 → Vec F S1024x128 e) : Vec F S1024x1024 e := fun y => new (tileOwn y) (tilePos y)
def slabs {e : EltTy} (new : Fin 8 → Vec F S1x1024x128 e) : Vec F S8x1024x128 e := fun y => new (slabOwn y) (slabPos y)
def lines {e : EltTy} (new : Fin 8 → Vec F S1x1x1024 e) : Vec F S8x1x1024 e := fun y => new (lineOwn y) (linePos y)

/-! ## One head at one point -/

section Head

variable [FloatOps F] [Named F]

/-- The running maximum of a head after a point (without the mask, or with it on the diagonal block); -/
def mH (b : Bool) (q k : Vec F S1024x128 .bf16) (m : Vec F S1x1024x128 .f32) : Vec F S1x1024x128 .f32 :=
  match b with
  | true => k0_pay86 (k0_pay78 q k m)
  | false => k0_pay15 (k0_pay9 q k m)

/-- the running sum of its weights; -/
def lH (b : Bool) (q k : Vec F S1024x128 .bf16) (m l : Vec F S1x1024x128 .f32) : Vec F S1x1024x128 .f32 :=
  match b with
  | true => k0_pay81 q k m l
  | false => k0_pay12 q k m l

/-- the running weighted sum of the values. -/
def aH (b : Bool) (q k v : Vec F S1024x128 .bf16) (m acc : Vec F S1x1024x128 .f32) : Vec F S1x1024x128 .f32 :=
  match b with
  | true => k0_pay85 (k0_pay82 q k m acc) (k0_pay83 q k m) (k0_pay84 v)
  | false => k0_pay14 (k0_pay13 q k m acc v)

variable (q k v : Vec F S1024x1024 .bf16) (m l acc : Vec F S8x1024x128 .f32)

/-- The three running quantities after a point, from what they were before. -/
def mStep (b : Bool) : Vec F S8x1024x128 .f32 := slabs fun h => mH b (tile q h) (tile k h) (slab m h)
def lStep (b : Bool) : Vec F S8x1024x128 .f32 := slabs fun h => lH b (tile q h) (tile k h) (slab m h) (slab l h)
def aStep (b : Bool) : Vec F S8x1024x128 .f32 := slabs fun h => aH b (tile q h) (tile k h) (tile v h) (slab m h) (slab acc h)

/-- What the diagonal point writes from them: the weighted mean, and the log-sum-exp. -/
def oOut (l acc : Vec F S8x1024x128 .f32) : Vec F S1024x1024 .f32 := tiles fun h => k0_pay149 (slab acc h) (slab l h)
def eOut (m l : Vec F S8x1024x128 .f32) : Vec F S8x1x1024 .f32 := lines fun h => k0_pay150 (slab m h) (slab l h)

end Head

/-! ## Eight stores one after another, read back -/

section Read

variable {sig : RefSig} {κ : Kind} {sp : Space} {e : EltTy} {Val : EltTy → Type}

/-- Reading back the stores of the first `n` heads, each entry lying in the part of one head. -/
theorem read_heads {s : Shape} (v : View sig κ sp s e) (off : Fin 8 → Fin s.rank → ℕ) (size : Fin s.rank → ℕ) (inb : ∀ h a, off h a + size a ≤ s.size a)
    (own : s.Idx → Fin 8) (pos : (y : s.Idx) → (⟨s.rank, size⟩ : Shape).Idx)
    (hpos : ∀ y a, (y a).val = off (own y) a + (pos y a).val) (ax : Fin s.rank)
    (hax : ∀ y h, h ≠ own y → (y ax).val < off h ax ∨ off h ax + size ax ≤ (y ax).val)
    (pl : (h : Fin 8) → List (View.Piece Val s e) → (⟨s.rank, size⟩ : Shape).Idx → Val e)
    (L₀ : List (View.Piece Val s e)) (fs : v.ty.Contents Val → Prop) (old : s.Idx → Val e) (new : Fin 8 → (⟨s.rank, size⟩ : Shape).Idx → Val e)
    (h0 : ∀ f, fs f → ∀ y, v.read Val (v.writes Val f L₀) y = old y)
    (hpl : ∀ h L, (∀ f, fs f → ∀ y : s.Idx, h ≤ own y → v.read Val (v.writes Val f L) y = old y) → pl h L = new h) :
    ∀ (n : ℕ) (hn : n ≤ 8) f, fs f → ∀ y : s.Idx,
      v.read Val (v.writes Val f (stack (fun h => Rect.unit (s := s) (off h) size (inb h)) pl L₀ n hn)) y
        = if (own y).val < n then new (own y) (pos y) else old y := by
  intro n
  induction n with
  | zero => intro hn f hf y; rw [if_neg (Nat.not_lt_zero _)]; exact h0 f hf y
  | succ n ih =>
    intro hn f hf y
    have ih' := ih (Nat.le_of_succ_le hn)
    have hp : pl ⟨n, hn⟩ (stack (fun h => Rect.unit (s := s) (off h) size (inb h)) pl L₀ n (Nat.le_of_succ_le hn)) = new ⟨n, hn⟩ :=
      hpl ⟨n, hn⟩ _ fun f hf y hy => (ih' f hf y).trans (if_neg (Nat.not_lt.2 hy))
    by_cases ho : own y = ⟨n, hn⟩
    · have hv : (own y).val = n := congrArg Fin.val ho
      rw [if_pos (by omega)]
      refine (View.read_writes_cons_unit_of_mem v f (inb ⟨n, hn⟩) _ _ y (pos y) (off' := off ⟨n, hn⟩) rfl fun a => ?_).trans ?_
      · rw [← ho]; exact hpos y a
      · rw [hp, ho]
    · refine (View.read_writes_cons_unit_of_not_mem v f (inb ⟨n, hn⟩) _ _ y (off' := off ⟨n, hn⟩) rfl ax (hax y _ (Ne.symm ho))).trans ?_
      rw [ih' f hf y]
      have hv : (own y).val ≠ n := fun h => ho (Fin.ext h)
      by_cases hl : (own y).val < n
      · rw [if_pos hl, if_pos (by omega)]
      · rw [if_neg hl, if_neg (by omega)]

theorem slab_pos (y : S8x1024x128.Idx) (a : Fin 3) : (y a).val = (![(slabOwn y).val, 0, 0] : Fin 3 → ℕ) a + (slabPos y a).val := by
  match a with
  | 0 => exact (Nat.add_zero _).symm
  | 1 => exact (Nat.zero_add _).symm
  | 2 => exact (Nat.zero_add _).symm
theorem slab_ax (y : S8x1024x128.Idx) (h : Fin 8) (hh : h ≠ slabOwn y) : (y 0).val < h.val ∨ h.val + 1 ≤ (y 0).val := by
  have : (y 0).val ≠ h.val := fun e => hh (Fin.ext e.symm)
  omega
theorem line_pos (y : S8x1x1024.Idx) (a : Fin 3) : (y a).val = (![(lineOwn y).val, 0, 0] : Fin 3 → ℕ) a + (linePos y a).val := by
  match a with
  | 0 => exact (Nat.add_zero _).symm
  | 1 => exact (Nat.zero_add _).symm
  | 2 => exact (Nat.zero_add _).symm
theorem line_ax (y : S8x1x1024.Idx) (h : Fin 8) (hh : h ≠ lineOwn y) : (y 0).val < h.val ∨ h.val + 1 ≤ (y 0).val := by
  have : (y 0).val ≠ h.val := fun e => hh (Fin.ext e.symm)
  omega
theorem tile_pos (y : S1024x1024.Idx) (a : Fin 2) : (y a).val = (![0, 128 * (tileOwn y).val] : Fin 2 → ℕ) a + (tilePos y a).val := by
  match a with
  | 0 => exact (Nat.zero_add _).symm
  | 1 => exact (Nat.div_add_mod _ _).symm
theorem tile_ax (y : S1024x1024.Idx) (h : Fin 8) (hh : h ≠ tileOwn y) : (y 1).val < 128 * h.val ∨ 128 * h.val + 128 ≤ (y 1).val := by
  have : (y 1).val / 128 ≠ h.val := fun e => hh (Fin.ext e.symm)
  omega

/-- Eight slabs, each computed from what was there before the point. -/
theorem read_slabs_keep (v : View sig κ sp S8x1024x128 .f32) (f f' : v.ty.Contents (Elt F)) (Z : Fin 8 → Vec F S1x1024x128 .f32 → Vec F S1x1024x128 .f32) :
    v.read (Elt F) (v.writes (Elt F) f' (stack slabR (fun h _ => Z h (v.readAt (Elt F) (slabR h).toLoadRect f)) [] 8 le_rfl))
      = slabs fun h => Z h (slab (v.read (Elt F) f) h) := by
  funext y
  refine (read_heads v (fun h => ![h.val, 0, 0]) S1x1024x128.size slab_inb slabOwn slabPos slab_pos 0 slab_ax _ [] (· = f') (v.read (Elt F) f')
    (fun h => Z h (slab (v.read (Elt F) f) h)) (fun f₁ hf y => by subst hf; rfl) (fun h L _ => rfl) 8 le_rfl f' rfl y).trans ?_
  exact if_pos (slabOwn y).isLt

/-- Stores of the first `n` heads over a block stored whole, each computed from what is there by then. -/
abbrev fill [FloatOps F] (v : View sig κ sp S8x1024x128 .f32) (z : Vec F S8x1024x128 .f32) {off : Fin 3 → ℕ} (inb : ∀ a, off a + S8x1024x128.size a ≤ S8x1024x128.size a)
    (Z : Fin 8 → Vec F S1x1024x128 .f32 → Vec F S1x1024x128 .f32) (n : ℕ) (hn : n ≤ 8) : List (View.Piece (Elt F) S8x1024x128 .f32) :=
  stack slabR (fun h L => Z h (v.readCov L (slabR h).toLoadRect)) [⟨Rect.unit off S8x1024x128.size inb, z⟩] n hn

/-- A slab read where the stores before it are known. -/
theorem cov_slab [FloatOps F] (v : View sig κ sp S8x1024x128 .f32) (L : List (View.Piece (Elt F) S8x1024x128 .f32)) (X : Vec F S8x1024x128 .f32) (h : Fin 8)
    (hL : ∀ f y, h ≤ slabOwn y → v.read (Elt F) (v.writes (Elt F) f L) y = X y) : v.readCov L (slabR h).toLoadRect = slab X h := by
  refine readAt_unit_of v (v.writes (Elt F) v.junk L) (slab_inb h) (slab_inb h) rfl X fun x => hL v.junk _ ?_
  show h.val ≤ h.val + 1 * (x 0).val
  omega

theorem read_fill [FloatOps F] (v : View sig κ sp S8x1024x128 .f32) (z : Vec F S8x1024x128 .f32) {off : Fin 3 → ℕ} (inb : ∀ a, off a + S8x1024x128.size a ≤ S8x1024x128.size a)
    (Z : Fin 8 → Vec F S1x1024x128 .f32 → Vec F S1x1024x128 .f32) (n : ℕ) (hn : n ≤ 8) (f : v.ty.Contents (Elt F)) (y : S8x1024x128.Idx) :
    v.read (Elt F) (v.writes (Elt F) f (fill v z inb Z n hn)) y = if (slabOwn y).val < n then Z (slabOwn y) (slab z (slabOwn y)) (slabPos y) else z y :=
  read_heads v (fun h => ![h.val, 0, 0]) S1x1024x128.size slab_inb slabOwn slabPos slab_pos 0 slab_ax _ _ (fun _ => True) z
    (fun h => Z h (slab z h)) (fun f' _ y => read_full v f' inb z [] y) (fun h L hL => congrArg (Z h) (cov_slab v L z h fun f y => hL f trivial y)) n hn f trivial y

/-- Eight slabs, each computed from a block just stored whole; -/
theorem read_slabs_fill [FloatOps F] (v : View sig κ sp S8x1024x128 .f32) (f : v.ty.Contents (Elt F)) (z : Vec F S8x1024x128 .f32) {off : Fin 3 → ℕ} (inb : ∀ a, off a + S8x1024x128.size a ≤ S8x1024x128.size a)
    (Z : Fin 8 → Vec F S1x1024x128 .f32 → Vec F S1x1024x128 .f32) : v.read (Elt F) (v.writes (Elt F) f (fill v z inb Z 8 le_rfl)) = slabs fun h => Z h (slab z h) := by
  funext y
  exact (read_fill v z inb Z 8 le_rfl f y).trans (if_pos (slabOwn y).isLt)

/-- a slab of that block not yet stored to; -/
theorem cov_before [FloatOps F] (v : View sig κ sp S8x1024x128 .f32) (z : Vec F S8x1024x128 .f32) {off : Fin 3 → ℕ} (inb : ∀ a, off a + S8x1024x128.size a ≤ S8x1024x128.size a)
    (Z : Fin 8 → Vec F S1x1024x128 .f32 → Vec F S1x1024x128 .f32) (h : Fin 8) : v.readCov (fill v z inb Z h.val h.isLt.le) (slabR h).toLoadRect = slab z h :=
  cov_slab v _ z h fun f y hy => (read_fill v z inb Z h.val h.isLt.le f y).trans (if_neg (Nat.not_lt.2 hy))

/-- a slab of it after all eight; -/
theorem cov_fill [FloatOps F] (v : View sig κ sp S8x1024x128 .f32) (z : Vec F S8x1024x128 .f32) {off : Fin 3 → ℕ} (inb : ∀ a, off a + S8x1024x128.size a ≤ S8x1024x128.size a)
    (Z : Fin 8 → Vec F S1x1024x128 .f32 → Vec F S1x1024x128 .f32) (h : Fin 8) : v.readCov (fill v z inb Z 8 le_rfl) (slabR h).toLoadRect = slab (slabs fun h => Z h (slab z h)) h :=
  cov_slab v _ _ h fun f y _ => congrFun (read_slabs_fill v f z inb Z) y

/-- and a slab after eight stores over what was there before. -/
theorem cov_keep [FloatOps F] (v : View sig κ sp S8x1024x128 .f32) (f : v.ty.Contents (Elt F)) (Z : Fin 8 → Vec F S1x1024x128 .f32 → Vec F S1x1024x128 .f32) (h : Fin 8) :
    v.readCov (stack slabR (fun h _ => Z h (v.readAt (Elt F) (slabR h).toLoadRect f)) [] 8 le_rfl) (slabR h).toLoadRect = slab (slabs fun h => Z h (slab (v.read (Elt F) f) h)) h :=
  cov_slab v _ _ h fun f' y _ => congrFun (read_slabs_keep v f f' Z) y

/-- Eight tiles stored, whatever was there before. -/
theorem read_tiles (v : View sig κ sp S1024x1024 .f32) (f : v.ty.Contents (Elt F)) (Z : Fin 8 → Vec F S1024x128 .f32) :
    v.read (Elt F) (v.writes (Elt F) f (stack tileR (fun h _ => Z h) [] 8 le_rfl)) = tiles Z := by
  funext y
  refine (read_heads v (fun h => ![0, 128 * h.val]) S1024x128.size tile_inb tileOwn tilePos tile_pos 1 tile_ax _ [] (· = f) (v.read (Elt F) f)
    Z (fun f₁ hf y => by subst hf; rfl) (fun h L _ => rfl) 8 le_rfl f rfl y).trans ?_
  exact if_pos (tileOwn y).isLt

/-- Eight rows stored. -/
theorem read_lines (v : View sig κ sp S8x1x1024 .f32) (f : v.ty.Contents (Elt F)) (Z : Fin 8 → Vec F S1x1x1024 .f32) :
    v.read (Elt F) (v.writes (Elt F) f (stack lineR (fun h _ => Z h) [] 8 le_rfl)) = lines Z := by
  funext y
  refine (read_heads v (fun h => ![h.val, 0, 0]) S1x1x1024.size line_inb lineOwn linePos line_pos 0 line_ax _ [] (· = f) (v.read (Elt F) f)
    Z (fun f₁ hf y => by subst hf; rfl) (fun h L _ => rfl) 8 le_rfl f rfl y).trans ?_
  exact if_pos (lineOwn y).isLt

end Read

end Cert.Kernel15Ideal.Flash

end
-- ==== Proof.Flash.Tile.lean ====
/- One head of one point of the attention's forward kernel, over the extended reals: its tiles element by element. -/
module

public import proofs.«01_k».proof.Proof.Flash.Step
public import Idealize.ShloMosaic.Lib.Pointwise
public import Idealize.ShloMosaic.Lib.WordCmp

@[expose] public section

set_option maxRecDepth 16384

noncomputable section

namespace Cert.Kernel15Ideal.Flash

open Cert.Kernel15Ideal Cert.Kernel15Ideal.Gen
open Idealize.ShloMosaic Idealize.ShloMosaic.TcCoe

variable (q k v : FVec Ideal S1024x128 .bf16) (m l acc : FVec Ideal S1x1024x128 .f32)

theorem low_word : Ideal.ofBits .f32 0xFF800000#32 = ⊥ := by
  simp [Ideal.ofBits, Ideal.ieee]

/-- The score of key `s` for query `r`, under the mask on the diagonal. -/
def sc (b : Bool) (r s : Fin 1024) : EReal :=
  match b with
  | true => if s ≤ r then ∑ e : Fin 128, q (ix2 r e) * k (ix2 s e) else ⊥
  | false => ∑ e : Fin 128, q (ix2 r e) * k (ix2 s e)

/-- The lane of the running maximum a key's score is compared with. -/
def ln (s : Fin 1024) : Fin 128 := ⟨s.val % 128, Nat.mod_lt _ (by decide)⟩

theorem off_sc (r s : Fin 1024) : k0_pay7 (F := Ideal) q k (ix2 r s) = sc q k false r s := by
  pointwise [k0_pay7, sc]

theorem on_sc (r s : Fin 1024) : k0_pay76 (F := Ideal) q k (ix2 r s) = sc q k true r s := by
  pointwise [k0_pay76, sc]
  rw [WordCmp.cmpi_sle_ofNat (by omega) (by omega)]
  by_cases h : s ≤ r
  · rw [if_pos h, decide_eq_true (show s.val ≤ r.val from h)]; rfl
  · rw [if_neg h, decide_eq_false (show ¬ s.val ≤ r.val from h)]; rfl

/-- The running maximum after a point. -/
def mx (b : Bool) (r : Fin 1024) (e : Fin 128) : EReal := max (m (ix3 0 r e)) (Finset.univ.fold max ⊥ fun s => sc q k b r s)

theorem off_mx (r : Fin 1024) (e : Fin 128) : k0_pay9 (F := Ideal) q k m (ix2 r e) = mx q k m false r e := by
  pointwise [k0_pay9, k0_pay8, off_sc, low_word, mx]

theorem on_mx (r : Fin 1024) (e : Fin 128) : k0_pay78 (F := Ideal) q k m (ix2 r e) = mx q k m true r e := by
  pointwise [k0_pay78, k0_pay77, on_sc, low_word, mx]

theorem m_eq (b : Bool) (r : Fin 1024) (e : Fin 128) : mH (F := Ideal) b q k m (ix3 0 r e) = mx q k m b r e := by
  cases b
  · pointwise [mH, k0_pay15, off_mx]
  · pointwise [mH, k0_pay86, on_mx]

/-- What a point takes of the running sums; -/
def al (b : Bool) (r : Fin 1024) (e : Fin 128) : EReal := Ideal.exp2 (m (ix3 0 r e) - mx q k m b r e)
/-- the weight of a key. -/
def pw (b : Bool) (r s : Fin 1024) : EReal := Ideal.exp2 (sc q k b r s - mx q k m b r (ln s))

theorem off_al (r : Fin 1024) (e : Fin 128) : k0_pay10 (F := Ideal) q k m (ix2 r e) = al q k m false r e := by
  pointwise [k0_pay10, k0_pay8, off_mx, al]
  rfl

theorem on_al (r : Fin 1024) (e : Fin 128) : k0_pay79 (F := Ideal) q k m (ix2 r e) = al q k m true r e := by
  pointwise [k0_pay79, k0_pay77, on_mx, al]
  rfl

theorem off_pw (r s : Fin 1024) : k0_pay11 (F := Ideal) q k m (ix2 r s) = pw q k m false r s := by
  pointwise [k0_pay11, off_mx, off_sc, pw]
  refine congrArg (fun z => Ideal.exp2 (sc q k false r s - z)) ?_
  unfold ln
  split_ifs <;> exact congrArg (mx q k m false r) (Fin.ext (by dsimp only; omega))

theorem on_pw (r s : Fin 1024) : k0_pay80 (F := Ideal) q k m (ix2 r s) = pw q k m true r s := by
  pointwise [k0_pay80, on_mx, on_sc, pw]
  refine congrArg (fun z => Ideal.exp2 (sc q k true r s - z)) ?_
  unfold ln
  split_ifs <;> exact congrArg (mx q k m true r) (Fin.ext (by dsimp only; omega))

theorem l_eq (b : Bool) (r : Fin 1024) (e : Fin 128) : lH (F := Ideal) b q k m l (ix3 0 r e)
    = al q k m b r e * l (ix3 0 r e) + ∑ s : Fin 1024, pw q k m b r s := by
  cases b
  · pointwise [lH, k0_pay12, off_al, off_pw]
  · pointwise [lH, k0_pay81, on_al, on_pw]

theorem a_eq (b : Bool) (r : Fin 1024) (e : Fin 128) : aH (F := Ideal) b q k v m acc (ix3 0 r e)
    = al q k m b r e * acc (ix3 0 r e) + ∑ s : Fin 1024, pw q k m b r s * v (ix2 s e) := by
  cases b
  · pointwise [aH, k0_pay14, k0_pay13, off_al, off_pw]
  · pointwise [aH, k0_pay85, k0_pay82, k0_pay83, k0_pay84, on_al, on_pw]

theorem o_eq (r : Fin 1024) (e : Fin 128) : k0_pay149 (F := Ideal) acc l (ix2 r e) = Ideal.div (acc (ix3 0 r e)) (l (ix3 0 r e)) := by
  pointwise [k0_pay149]

theorem e_eq (r : Fin 1024) : k0_pay150 (F := Ideal) m l (ix3 0 0 r)
    = (m (ix3 0 r 0) + Ideal.log (l (ix3 0 r 0)) * (((Real.log 2)⁻¹ : ℝ) : EReal)) * ((Real.log 2 : ℝ) : EReal) := by
  pointwise [k0_pay150]
  rfl

theorem m_start (h : Fin 8) (r : Fin 1024) (e : Fin 128) : k0_pay1 (F := Ideal) (ix3 h r e) = ⊥ := by
  pointwise [k0_pay1]
  rfl
theorem l_start (h : Fin 8) (r : Fin 1024) (e : Fin 128) : k0_pay2 (F := Ideal) (ix3 h r e) = 0 := by
  pointwise [k0_pay2]
theorem a_start (h : Fin 8) (r : Fin 1024) (e : Fin 128) : k0_pay3 (F := Ideal) (ix3 h r e) = 0 := by
  pointwise [k0_pay3]

end Cert.Kernel15Ideal.Flash

end
-- ==== Proof.Flash.Body.lean ====
/- The attention's forward kernel: what its body holds at a point of the grid. -/
module

public import proofs.«01_k».proof.Proof.Gen.Kernel15Ideal.Launch
public import proofs.«01_k».proof.Proof.Flash.Step
public import Idealize.ShloMosaic.Lib.Claim
public import Idealize.ShloMosaic.Lib.WordCmp

@[expose] public section

set_option maxRecDepth 16384

noncomputable section

namespace Cert.Kernel15Ideal.Flash

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The table's word at a point. -/
abbrev rT (i : grid0.Coords) : Rect S36 := Rect.unit (s := S36) (k0_off1 i) S1.size (k0_off1_inb i)

theorem rT_pos (i : grid0.Coords) : 0 < (rT i).shape.numel := by show 0 < S1.numel; decide

section Body

variable (c : Dev nD) (i : grid0.Coords)
  (M4 : Memref sig .tc .vmem S1024x1024 .bf16) (M5 : Memref sig .tc .vmem S1024x1024 .bf16) (M6 : Memref sig .tc .vmem S1024x1024 .bf16)
  (M7 : Memref sig .tc .vmem S1024x1024 .f32) (M8 : Memref sig .tc .vmem S8x1x1024 .f32)
  (M9 : Memref sig .tc .vmem S8x1024x128 .f32) (M10 : Memref sig .tc .vmem S8x1024x128 .f32) (M11 : Memref sig .tc .vmem S8x1024x128 .f32)
  (fa : Buf (Elt F) ((c : Thread nD τ).loc main_c)) (fb : Buf (Elt F) ((c : Thread nD τ).loc main_c_0))
  (q k v : Vec F S1024x1024 .bf16)

/-- What a point's body holds: the two tables, the three input blocks, the two result blocks and the three running quantities. -/
def held (o : Vec F S1024x1024 .f32) (e : Vec F S8x1x1024 .f32) (m l acc : Vec F S8x1024x128 .f32) : sProp 𝕄 :=
  iprop((((c : Thread nD τ).loc main_c) ↦{fullShare.right} fa) ∗ (((c : Thread nD τ).loc main_c_0) ↦{fullShare.right} fb)
    ∗ owns (c : Thread nD τ) M4 fullShare q ∗ owns (c : Thread nD τ) M5 fullShare k ∗ owns (c : Thread nD τ) M6 fullShare v
    ∗ owns (c : Thread nD τ) M7 fullShare o ∗ owns (c : Thread nD τ) M8 fullShare e
    ∗ owns (c : Thread nD τ) M9 fullShare m ∗ owns (c : Thread nD τ) M10 fullShare l ∗ owns (c : Thread nD τ) M11 fullShare acc)

end Body

/-- A block the body only reads, handed back. -/
theorem owns_read (c : Dev nD) {s : Shape} {e : EltTy} (M : Memref sig .tc .vmem s e) (f : Buf (Elt F) (M.view.loc (c : Thread nD τ))) :
    (M.view.loc (c : Thread nD τ) ↦[M.view.set]{fullShare} f : sProp 𝕄) ⊢ iprop(∃ g, ⌜M.view.read (Elt F) g = M.view.read (Elt F) f⌝ ∗ (M.view.loc (c : Thread nD τ) ↦[M.view.set]{fullShare} g)) := by
  iintro H
  iexists f
  isplitr
  · ipureintro; rfl
  · iexact H

end Cert.Kernel15Ideal.Flash

end
-- ==== Proof.Flash.Frame.lean ====
/- The attention's forward kernel up to its pipelined region: what the host code leaves in each buffer. -/
module

public import proofs.«01_k».proof.Proof.Flash.Body
public import Idealize.ShloMosaic.Lib.Pipeline.TableIdle

@[expose] public section

set_option maxRecDepth 16384

noncomputable section

namespace Cert.Kernel15Ideal.Flash

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

/-- The one stretch of host operations. -/
abbrev hostLists : List (List (HloOp τ sig (Elt F))) := [hostOps0]

/-- What a buffer holds when the region begins. -/
abbrev V (c : Dev nD) (b : Ref sig .tc) : Buf (Elt F) ((c : Thread nD τ).loc b) := StableHlo.after (hostLists (F := F)).flatten (fun b => m (c, b)) b

theorem hostLists_fresh : (hostLists : List (List (HloOp τ sig (Elt F)))).Forall fun ops => ops.Forall fun op => op.fresh = ∅ := by
  simp only [List.Forall]; repeat' constructor

theorem hostLists_sub : (hostLists : List (List (HloOp τ sig (Elt F)))).Forall fun ops => ops.Forall fun op => op.bufs ⊆ StableHlo.tcRefs τ sig :=
  hostOps0_sub

set_option maxHeartbeats 800000 in
theorem hmain : Pipeline.HMainP (Ix := Unit) (Name := ℕ) (U := UR sig nD τ) (Lvl := ℕ) pcfgs 0 defs₀ Variants.none m (main (F := F)) (V m) :=
  Pipeline.hmainP_prefixes pcfgs 0 defs₀ Variants.none m main hostLists hostLists_sub hostLists_fresh main_chain

set_option maxHeartbeats 1600000 in
/-- No host operation writes an argument: the region finds each as launched. -/
theorem V_arg (c : Dev nD) (b : Ref sig .tc) (hb : b = main_arg0 ∨ b = main_arg1 ∨ b = main_arg2) :
    V m c b = m ((c : Thread nD τ).loc b) := by
  refine StableHlo.after_of_forall_not_mem (b := Proc.devRef .tc b) _ _ (List.forall_iff_forall_mem.mp ?_)
  rcases hb with rfl | rfl | rfl <;>
  · simp only [hostLists, hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

end Cert.Kernel15Ideal.Flash

end
-- ==== Proof.Flash.Sched.lean ====
/- The order in which the attention's forward kernel visits its blocks: at its `n`-th step the block of queries
   `row n` against the block of keys `col n`, read from the two tables of words the host code hands it. -/
module

public import proofs.«01_k».proof.Proof.Gen.Kernel15Ideal.Launch

@[expose] public section

set_option maxRecDepth 16384

noncomputable section

namespace Cert.Kernel15Ideal.Flash

open Cert.Kernel15Ideal Cert.Kernel15Ideal.Gen
open Idealize.ShloMosaic Idealize.ShloMosaic.TcCoe

variable {F : FTy → Type} [FloatOps F] [Named F]

/-- The block of queries of step `n`, -/
def row (n : Fin 36) : Fin 8 := ⟨(lit0 n).toNat % 8, Nat.mod_lt _ (by decide)⟩
/-- and its block of keys. -/
def col (n : Fin 36) : Fin 8 := ⟨(lit1 n).toNat % 8, Nat.mod_lt _ (by decide)⟩

theorem lit0_eq : ∀ n : Fin 36, lit0 n = BitVec.ofNat 32 (row n).val := by decide +kernel
theorem lit1_eq : ∀ n : Fin 36, lit1 n = BitVec.ofNat 32 (col n).val := by decide +kernel

/-- The two tables' contents. -/
def tables : pre0.Contents (Elt F) := fun
  | 0 => fun i => lit0 (S36.rowMajor i)
  | 1 => fun i => lit1 (S36.rowMajor i)
  | ⟨_ + 2, h⟩ => absurd h (by simp)

/-- A point of the grid as the number of its step. -/
def pt (i : grid0.Coords) : Fin 36 := ⟨(i 1).val, (i 1).isLt⟩

theorem rowMajor_S36 (i : S36.Idx) : S36.rowMajor i = ⟨(i 0).val, (i 0).isLt⟩ := by
  apply Fin.ext
  exact Shape.rowMajor_val_one i

/-- The place in a table that a point's load reads. -/
theorem rowMajor_off (i : grid0.Coords) (x : S36.Idx) (h : (x 0).val = k0_off1 i 0) : S36.rowMajor x = pt i := by
  rw [rowMajor_S36]
  apply Fin.ext
  refine h.trans ?_
  have hi : (i 1).val < 36 := (i 1).isLt
  show (BitVec.ofNat 32 (i 1).val).toNat = (i 1).val
  rw [BitVec.toNat_ofNat]
  omega

/-- The words a point reads from the two tables. -/
theorem tables_at0 (i : grid0.Coords) (h) : (tables (F := F)).at 0 (Rect.unit (s := S36) (k0_off1 i) S1.size (k0_off1_inb i)) h = BitVec.ofNat 32 (row (pt i)).val :=
  (congrArg lit0 (rowMajor_off i _ (Nat.add_zero _))).trans (lit0_eq _)
theorem tables_at1 (i : grid0.Coords) (h) : (tables (F := F)).at 1 (Rect.unit (s := S36) (k0_off1 i) S1.size (k0_off1_inb i)) h = BitVec.ofNat 32 (col (pt i)).val :=
  (congrArg lit1 (rowMajor_off i _ (Nat.add_zero _))).trans (lit1_eq _)
theorem tables_atD0 (i : grid0.Coords) : (tables (F := F)).atD 0 (k0_off1 i) = BitVec.ofNat 32 (row (pt i)).val := by
  unfold Pipeline.Prefetch.Contents.atD
  split
  · exact (congrArg lit0 (rowMajor_off i _ rfl)).trans (lit0_eq _)
  · next hn => exact absurd (fun a => by fin_cases a; exact k0_off1_inb i 0) hn
theorem tables_atD1 (i : grid0.Coords) : (tables (F := F)).atD 1 (k0_off1 i) = BitVec.ofNat 32 (col (pt i)).val := by
  unfold Pipeline.Prefetch.Contents.atD
  split
  · exact (congrArg lit1 (rowMajor_off i _ rfl)).trans (lit1_eq _)
  · next hn => exact absurd (fun a => by fin_cases a; exact k0_off1_inb i 0) hn

/-! ## The blocks the windows take at a point -/

theorem pt_axis0 (i : grid0.Coords) : (i 0).val = 0 := by
  have : (i 0).val < 1 := (i 0).isLt
  omega

theorem toNat_block (b : Fin 8) : (BitVec.ofNat 32 b.val).toNat = b.val := by
  rw [BitVec.toNat_ofNat]; have := b.isLt; omega

theorem ix_rows (i : grid0.Coords) (w : BitVec 32) (b : Fin 8) (e : w = BitVec.ofNat 32 b.val) :
    (![w.toNat, (BitVec.ofNat 32 (i 0).val).toNat] : Fin 2 → ℕ) = ![b.val, 0] := by
  rw [e, toNat_block, pt_axis0]; rfl
theorem ix_lanes (i : grid0.Coords) (w : BitVec 32) (b : Fin 8) (e : w = BitVec.ofNat 32 b.val) :
    (![(BitVec.ofNat 32 (i 0).val).toNat, (0#32).toNat, w.toNat] : Fin 3 → ℕ) = ![0, 0, b.val] := by
  rw [e, toNat_block, pt_axis0]; rfl

/-- The queries and the two results take block `row`, -/
theorem ix_0 (i : grid0.Coords) : cc0_transform_0 k0_off1_inb numel1_S1 (tables (F := F)) i = ![(row (pt i)).val, 0] := ix_rows i _ _ (tables_at0 i _)
theorem ix_3 (i : grid0.Coords) : cc0_transform_3 k0_off1_inb numel1_S1 (tables (F := F)) i = ![(row (pt i)).val, 0] := ix_rows i _ _ (tables_at0 i _)
theorem ix_4 (i : grid0.Coords) : cc0_transform_4 k0_off1_inb numel1_S1 (tables (F := F)) i = ![0, 0, (row (pt i)).val] := ix_lanes i _ _ (tables_at0 i _)
/-- the keys and the values block `col`. -/
theorem ix_1 (i : grid0.Coords) : cc0_transform_1 k0_off1_inb numel1_S1 (tables (F := F)) i = ![(col (pt i)).val, 0] := ix_rows i _ _ (tables_at1 i _)
theorem ix_2 (i : grid0.Coords) : cc0_transform_2 k0_off1_inb numel1_S1 (tables (F := F)) i = ![(col (pt i)).val, 0] := ix_rows i _ _ (tables_at1 i _)

theorem rows_in (ix : Fin 2 → ℕ) (b : Fin 8) (e : ix = ![b.val, 0]) : ∀ a, (ix a + 1) * S1024x1024.size a ≤ S8192x1024.size a := by
  subst e; revert b; decide
theorem lanes_in (ix : Fin 3 → ℕ) (b : Fin 8) (e : ix = ![0, 0, b.val]) : ∀ a, (ix a + 1) * S8x1x1024.size a ≤ S8x1x8192.size a := by
  subst e; revert b; decide
theorem rows_words (ix : Fin 2 → ℕ) (b : Fin 8) (e : ix = ![b.val, 0]) (h) :
    (Rect.block (s := S8192x1024) S1024x1024.size ix h).WholeWords (EltTy.packing .bf16) := by
  subst e; revert b; decide

/-- At these tables every window's block lies in its array. -/
theorem tables_ok : ok0 (F := F) tables :=
  ⟨fun i => ⟨rows_in _ _ (ix_0 i), .inr (rows_words _ _ (ix_0 i) _)⟩, fun i => ⟨rows_in _ _ (ix_1 i), .inr (rows_words _ _ (ix_1 i) _)⟩,
    fun i => ⟨rows_in _ _ (ix_2 i), .inr (rows_words _ _ (ix_2 i) _)⟩, fun i => ⟨rows_in _ _ (ix_3 i), .inl rfl⟩, fun i => ⟨lanes_in _ _ (ix_4 i), .inl rfl⟩⟩

/-- The tables as the pipeline takes them, -/
def adm : (pcfg0 (F := F)).Adm := ⟨tables, tables_ok⟩
/-- and the pipeline there. -/
abbrev cfgA : Pipeline.Cfg sig Λ₀ := cfg0 (F := F) adm

/-! ## The conditions the body tests at a point -/

/-- The words of block numbers. -/
abbrev wd (b : Fin 8) : BitVec 32 := BitVec.ofNat 32 b.val

/-- The first block of keys; -/
abbrev isFirst (w : BitVec 32) : Prop := Scalar.cmpi .ne (Scalar.extui (Scalar.cmpi .eq w 0#32) : BitVec 32) 0#32 = 1#1
/-- a block of keys before the queries'. -/
abbrev isBelow (w1 w3 : BitVec 32) : Prop := Scalar.cmpi .ne (Scalar.extui (Scalar.cmpi .slt w3 w1) : BitVec 32) 0#32 = 1#1

theorem first_iff : ∀ b : Fin 8, isFirst (wd b) ↔ b = 0 := by decide +kernel
theorem below_iff : ∀ a b : Fin 8, isBelow (wd a) (wd b) ↔ b < a := by decide +kernel
theorem cond3_iff : ∀ a b : Fin 8, k0_cond3 (wd a) (wd b) = 1#1 ↔ a = b := by decide +kernel

/-! ## The order of the steps -/

theorem col_le_row : ∀ n : Fin 36, col n ≤ row n := by decide +kernel
theorem row_zero : row 0 = 0 ∧ col 0 = 0 := by decide +kernel
/-- The steps of one block of queries follow each other, up to its diagonal. -/
theorem step_succ : ∀ n : Fin 35, (row n.castSucc = col n.castSucc ∧ col n.succ = 0 ∧ row n.succ ≠ row n.castSucc)
    ∨ (row n.castSucc ≠ col n.castSucc ∧ row n.succ = row n.castSucc ∧ (col n.succ).val = (col n.castSucc).val + 1) := by decide +kernel

end Cert.Kernel15Ideal.Flash

end
-- ==== Proof.Flash.Off.lean ====
/- The body's run at a point off the diagonal. -/
module

public import proofs.«01_k».proof.Proof.Flash.Body

@[expose] public section

set_option maxRecDepth 16384

noncomputable section

namespace Cert.Kernel15Ideal.Flash

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Body

variable (c : Dev nD) (i : grid0.Coords)
  (M4 : Memref sig .tc .vmem S1024x1024 .bf16) (M5 : Memref sig .tc .vmem S1024x1024 .bf16) (M6 : Memref sig .tc .vmem S1024x1024 .bf16)
  (M7 : Memref sig .tc .vmem S1024x1024 .f32) (M8 : Memref sig .tc .vmem S8x1x1024 .f32)
  (M9 : Memref sig .tc .vmem S8x1024x128 .f32) (M10 : Memref sig .tc .vmem S8x1024x128 .f32) (M11 : Memref sig .tc .vmem S8x1024x128 .f32)
  (fa : Buf (Elt F) ((c : Thread nD τ).loc main_c)) (fb : Buf (Elt F) ((c : Thread nD τ).loc main_c_0))
  (q k v : Vec F S1024x1024 .bf16)

variable (hM4 : M4.IsWhole) (hM5 : M5.IsWhole) (hM6 : M6.IsWhole) (hM7 : M7.IsWhole) (hM8 : M8.IsWhole) (hM9 : M9.IsWhole) (hM10 : M10.IsWhole) (hM11 : M11.IsWhole)
  (w1 w3 : BitVec 32)
  (hw1 : View.read (Elt F) ((Memref.whole main_c).access (rT i)) fa (Shape.Idx.first (rT_pos i)) = w1)
  (hw3 : View.read (Elt F) ((Memref.whole main_c_0).access (rT i)) fb (Shape.Idx.first (rT_pos i)) = w3)
  (o : Vec F S1024x1024 .f32) (e : Vec F S8x1x1024 .f32) (m l acc : Vec F S8x1024x128 .f32)

include hw1 hw3 in
set_option maxHeartbeats 4000000 in
/-- Past the first block of keys: the point goes on from what is there. -/
theorem case_below (h1 : ¬ Scalar.cmpi .ne (Scalar.extui (Scalar.cmpi .eq w3 0#32) : BitVec 32) 0#32 = 1#1) (h2 : Scalar.cmpi .ne (Scalar.extui (Scalar.cmpi .slt w3 w1) : BitVec 32) 0#32 = 1#1) (h3 : ¬ k0_cond3 w1 w3 = 1#1) (E : Set ℕ) (K : PUnit → sProp 𝕄) :
    iprop(held c M4 M5 M6 M7 M8 M9 M10 M11 fa fb q k v o e m l acc ∗ (held c M4 M5 M6 M7 M8 M9 M10 M11 fa fb q k v o e (mStep q k m false) (lStep q k m l false) (aStep q k v m acc false) -∗ K ⟨⟩))
      ⊢ wp frame (wpE (defs₀ (F := F)) Variants.none c none) E (cc0_mla_attn_fwd i (Memref.whole main_c) (Memref.isWhole_whole _) (Memref.whole main_c_0) (Memref.isWhole_whole _) M4 hM4 M5 hM5 M6 hM6 M7 hM7 M8 hM8 M9 hM9 M10 hM10 M11 hM11) K := by
  simp only [cc0_mla_attn_fwd_eq_skeleton]; unfold cc0_mla_attn_fwd_skel
  unfold held owns
  iintro ⟨⟨Ha, Hb, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
  subst hf0 hf1 hf2 hf3 hf4 hf5 hf6 hf7
  unfold smemLoad smemLoadElt
  simp only [Prog.bind_op, Prog.bind_ret]
  iapply (wp_load_rect Variants.none (c : Thread nD τ) none E (m := Memref.whole main_c) (r := rT i) (Finset.subset_univ _)) $$ Ha
  iintro Ha
  iapply (wp_load_rect Variants.none (c : Thread nD τ) none E (m := Memref.whole main_c_0) (r := rT i) (Finset.subset_univ _)) $$ Hb
  iintro Hb
  generalize hx1 : View.read (Elt F) ((Memref.whole main_c).access (rT i)) fa (Shape.Idx.first _) = v1
  generalize hx3 : View.read (Elt F) ((Memref.whole main_c_0).access (rT i)) fb (Shape.Idx.first _) = v3
  obtain rfl : v1 = w1 := hx1.symm.trans hw1
  obtain rfl : v3 = w3 := hx3.symm.trans hw3
  sl_exec
  sl_step
  iapply Hk
  isplitl [Ha]; · iexact Ha
  isplitl [Hb]; · iexact Hb
  isplitl [H0]; · iapply (owns_read c M4 f0) $$ H0
  isplitl [H1]; · iapply (owns_read c M5 f1) $$ H1
  isplitl [H2]; · iapply (owns_read c M6 f2) $$ H2
  isplitl [H3]; · iapply (owns_read c M7 f3) $$ H3
  isplitl [H4]; · iapply (owns_read c M8 f4) $$ H4
  isplitl [H5]
  · iexists _; isplitr
    rotate_left
    · iexact H5
    · ipureintro
      exact read_slabs_keep M9.view f5 _ (fun h => mH false (tile (M4.view.read (Elt F) f0) h) (tile (M5.view.read (Elt F) f1) h))
  isplitl [H6]
  · iexists _; isplitr
    rotate_left
    · iexact H6
    · ipureintro
      exact read_slabs_keep M10.view f6 _ (fun h => lH false (tile (M4.view.read (Elt F) f0) h) (tile (M5.view.read (Elt F) f1) h) (slab (M9.view.read (Elt F) f5) h))
  · iexists _; isplitr
    rotate_left
    · iexact H7
    · ipureintro
      exact read_slabs_keep M11.view f7 _ (fun h => aH false (tile (M4.view.read (Elt F) f0) h) (tile (M5.view.read (Elt F) f1) h) (tile (M6.view.read (Elt F) f2) h) (slab (M9.view.read (Elt F) f5) h))

include hw1 hw3 in
set_option maxHeartbeats 4000000 in
/-- At the first block of keys: the point starts anew. -/
theorem case_start (h1 : Scalar.cmpi .ne (Scalar.extui (Scalar.cmpi .eq w3 0#32) : BitVec 32) 0#32 = 1#1) (h2 : Scalar.cmpi .ne (Scalar.extui (Scalar.cmpi .slt w3 w1) : BitVec 32) 0#32 = 1#1) (h3 : ¬ k0_cond3 w1 w3 = 1#1) (E : Set ℕ) (K : PUnit → sProp 𝕄) :
    iprop(held c M4 M5 M6 M7 M8 M9 M10 M11 fa fb q k v o e m l acc ∗ (held c M4 M5 M6 M7 M8 M9 M10 M11 fa fb q k v o e (mStep q k k0_pay1 false) (lStep q k k0_pay1 k0_pay2 false) (aStep q k v k0_pay1 k0_pay3 false) -∗ K ⟨⟩))
      ⊢ wp frame (wpE (defs₀ (F := F)) Variants.none c none) E (cc0_mla_attn_fwd i (Memref.whole main_c) (Memref.isWhole_whole _) (Memref.whole main_c_0) (Memref.isWhole_whole _) M4 hM4 M5 hM5 M6 hM6 M7 hM7 M8 hM8 M9 hM9 M10 hM10 M11 hM11) K := by
  simp only [cc0_mla_attn_fwd_eq_skeleton]; unfold cc0_mla_attn_fwd_skel
  unfold held owns
  iintro ⟨⟨Ha, Hb, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
  subst hf0 hf1 hf2 hf3 hf4 hf5 hf6 hf7
  unfold smemLoad smemLoadElt
  simp only [Prog.bind_op, Prog.bind_ret]
  iapply (wp_load_rect Variants.none (c : Thread nD τ) none E (m := Memref.whole main_c) (r := rT i) (Finset.subset_univ _)) $$ Ha
  iintro Ha
  iapply (wp_load_rect Variants.none (c : Thread nD τ) none E (m := Memref.whole main_c_0) (r := rT i) (Finset.subset_univ _)) $$ Hb
  iintro Hb
  generalize hx1 : View.read (Elt F) ((Memref.whole main_c).access (rT i)) fa (Shape.Idx.first _) = v1
  generalize hx3 : View.read (Elt F) ((Memref.whole main_c_0).access (rT i)) fb (Shape.Idx.first _) = v3
  obtain rfl : v1 = w1 := hx1.symm.trans hw1
  obtain rfl : v3 = w3 := hx3.symm.trans hw3
  sl_exec
  sl_step

  iapply Hk
  isplitl [Ha]; · iexact Ha
  isplitl [Hb]; · iexact Hb
  isplitl [H0]; · iapply (owns_read c M4 f0) $$ H0
  isplitl [H1]; · iapply (owns_read c M5 f1) $$ H1
  isplitl [H2]; · iapply (owns_read c M6 f2) $$ H2
  isplitl [H3]; · iapply (owns_read c M7 f3) $$ H3
  isplitl [H4]; · iapply (owns_read c M8 f4) $$ H4
  isplitl [H5]
  · iexists _; isplitr
    rotate_left
    · iexact H5
    · ipureintro
      exact read_slabs_fill M9.view f5 k0_pay1 inb_S8x1024x128_S8x1024x128_0_0_0 (fun h => mH false (tile (M4.view.read (Elt F) f0) h) (tile (M5.view.read (Elt F) f1) h))
  isplitl [H6]
  · iexists _; isplitr
    rotate_left
    · iexact H6
    · ipureintro
      refine (read_slabs_fill M10.view f6 k0_pay2 inb_S8x1024x128_S8x1024x128_0_0_0 (fun h => lH false (tile (M4.view.read (Elt F) f0) h) (tile (M5.view.read (Elt F) f1) h) (M9.view.readCov (fill M9.view k0_pay1 inb_S8x1024x128_S8x1024x128_0_0_0 (fun h => mH false (tile (M4.view.read (Elt F) f0) h) (tile (M5.view.read (Elt F) f1) h)) h.val h.isLt.le) (slabR h).toLoadRect))).trans (congrArg slabs (funext fun h => ?_))
      rw [cov_before]
  · iexists _; isplitr
    rotate_left
    · iexact H7
    · ipureintro
      refine (read_slabs_fill M11.view f7 k0_pay3 inb_S8x1024x128_S8x1024x128_0_0_0 (fun h => aH false (tile (M4.view.read (Elt F) f0) h) (tile (M5.view.read (Elt F) f1) h) (tile (M6.view.read (Elt F) f2) h) (M9.view.readCov (fill M9.view k0_pay1 inb_S8x1024x128_S8x1024x128_0_0_0 (fun h => mH false (tile (M4.view.read (Elt F) f0) h) (tile (M5.view.read (Elt F) f1) h)) h.val h.isLt.le) (slabR h).toLoadRect))).trans (congrArg slabs (funext fun h => ?_))
      rw [cov_before]

end Body

end Cert.Kernel15Ideal.Flash

end
-- ==== Proof.Flash.On.lean ====
/- The body's run at a point on the diagonal. -/
module

public import proofs.«01_k».proof.Proof.Flash.Body

@[expose] public section

set_option maxRecDepth 16384

noncomputable section

namespace Cert.Kernel15Ideal.Flash

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.Kernel2Ideal.Attn (stack)

section Body

variable (c : Dev nD) (i : grid0.Coords)
  (M4 : Memref sig .tc .vmem S1024x1024 .bf16) (M5 : Memref sig .tc .vmem S1024x1024 .bf16) (M6 : Memref sig .tc .vmem S1024x1024 .bf16)
  (M7 : Memref sig .tc .vmem S1024x1024 .f32) (M8 : Memref sig .tc .vmem S8x1x1024 .f32)
  (M9 : Memref sig .tc .vmem S8x1024x128 .f32) (M10 : Memref sig .tc .vmem S8x1024x128 .f32) (M11 : Memref sig .tc .vmem S8x1024x128 .f32)
  (fa : Buf (Elt F) ((c : Thread nD τ).loc main_c)) (fb : Buf (Elt F) ((c : Thread nD τ).loc main_c_0))
  (q k v : Vec F S1024x1024 .bf16)

variable (hM4 : M4.IsWhole) (hM5 : M5.IsWhole) (hM6 : M6.IsWhole) (hM7 : M7.IsWhole) (hM8 : M8.IsWhole) (hM9 : M9.IsWhole) (hM10 : M10.IsWhole) (hM11 : M11.IsWhole)
  (w1 w3 : BitVec 32)
  (hw1 : View.read (Elt F) ((Memref.whole main_c).access (rT i)) fa (Shape.Idx.first (rT_pos i)) = w1)
  (hw3 : View.read (Elt F) ((Memref.whole main_c_0).access (rT i)) fb (Shape.Idx.first (rT_pos i)) = w3)
  (o : Vec F S1024x1024 .f32) (e : Vec F S8x1x1024 .f32) (m l acc : Vec F S8x1024x128 .f32)

include hw1 hw3 in
set_option maxHeartbeats 4000000 in
/-- Past the first block of keys: the point goes on, and writes the results. -/
theorem case_diag (h1 : ¬ Scalar.cmpi .ne (Scalar.extui (Scalar.cmpi .eq w3 0#32) : BitVec 32) 0#32 = 1#1) (h2 : ¬ Scalar.cmpi .ne (Scalar.extui (Scalar.cmpi .slt w3 w1) : BitVec 32) 0#32 = 1#1) (h3 : k0_cond3 w1 w3 = 1#1) (E : Set ℕ) (K : PUnit → sProp 𝕄) :
    iprop(held c M4 M5 M6 M7 M8 M9 M10 M11 fa fb q k v o e m l acc ∗ (held c M4 M5 M6 M7 M8 M9 M10 M11 fa fb q k v (oOut (lStep q k m l true) (aStep q k v m acc true)) (eOut (mStep q k m true) (lStep q k m l true)) (mStep q k m true) (lStep q k m l true) (aStep q k v m acc true) -∗ K ⟨⟩))
      ⊢ wp frame (wpE (defs₀ (F := F)) Variants.none c none) E (cc0_mla_attn_fwd i (Memref.whole main_c) (Memref.isWhole_whole _) (Memref.whole main_c_0) (Memref.isWhole_whole _) M4 hM4 M5 hM5 M6 hM6 M7 hM7 M8 hM8 M9 hM9 M10 hM10 M11 hM11) K := by
  simp only [cc0_mla_attn_fwd_eq_skeleton]; unfold cc0_mla_attn_fwd_skel
  unfold held owns
  iintro ⟨⟨Ha, Hb, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
  subst hf0 hf1 hf2 hf3 hf4 hf5 hf6 hf7
  unfold smemLoad smemLoadElt
  simp only [Prog.bind_op, Prog.bind_ret]
  iapply (wp_load_rect Variants.none (c : Thread nD τ) none E (m := Memref.whole main_c) (r := rT i) (Finset.subset_univ _)) $$ Ha
  iintro Ha
  iapply (wp_load_rect Variants.none (c : Thread nD τ) none E (m := Memref.whole main_c_0) (r := rT i) (Finset.subset_univ _)) $$ Hb
  iintro Hb
  generalize hx1 : View.read (Elt F) ((Memref.whole main_c).access (rT i)) fa (Shape.Idx.first _) = v1
  generalize hx3 : View.read (Elt F) ((Memref.whole main_c_0).access (rT i)) fb (Shape.Idx.first _) = v3
  obtain rfl : v1 = w1 := hx1.symm.trans hw1
  obtain rfl : v3 = w3 := hx3.symm.trans hw3
  sl_exec
  sl_step

  iapply Hk
  isplitl [Ha]; · iexact Ha
  isplitl [Hb]; · iexact Hb
  isplitl [H0]; · iapply (owns_read c M4 f0) $$ H0
  isplitl [H1]; · iapply (owns_read c M5 f1) $$ H1
  isplitl [H2]; · iapply (owns_read c M6 f2) $$ H2
  isplitl [H3]
  · iexists _; isplitr
    rotate_left
    · iexact H3
    · ipureintro
      refine (read_tiles M7.view f3 (fun h => k0_pay149 (M11.view.readCov (stack slabR (fun h _ => (fun h => aH true (tile (M4.view.read (Elt F) f0) h) (tile (M5.view.read (Elt F) f1) h) (tile (M6.view.read (Elt F) f2) h) (slab (M9.view.read (Elt F) f5) h)) h (M11.view.readAt (Elt F) (slabR h).toLoadRect f7)) [] 8 le_rfl) (slabR h).toLoadRect) (M10.view.readCov (stack slabR (fun h _ => (fun h => lH true (tile (M4.view.read (Elt F) f0) h) (tile (M5.view.read (Elt F) f1) h) (slab (M9.view.read (Elt F) f5) h)) h (M10.view.readAt (Elt F) (slabR h).toLoadRect f6)) [] 8 le_rfl) (slabR h).toLoadRect))).trans (congrArg tiles (funext fun h => ?_))
      rw [cov_keep, cov_keep]; rfl
  isplitl [H4]
  · iexists _; isplitr
    rotate_left
    · iexact H4
    · ipureintro
      refine (read_lines M8.view f4 (fun h => k0_pay150 (M9.view.readCov (stack slabR (fun h _ => (fun h => mH true (tile (M4.view.read (Elt F) f0) h) (tile (M5.view.read (Elt F) f1) h)) h (M9.view.readAt (Elt F) (slabR h).toLoadRect f5)) [] 8 le_rfl) (slabR h).toLoadRect) (M10.view.readCov (stack slabR (fun h _ => (fun h => lH true (tile (M4.view.read (Elt F) f0) h) (tile (M5.view.read (Elt F) f1) h) (slab (M9.view.read (Elt F) f5) h)) h (M10.view.readAt (Elt F) (slabR h).toLoadRect f6)) [] 8 le_rfl) (slabR h).toLoadRect))).trans (congrArg lines (funext fun h => ?_))
      rw [cov_keep, cov_keep]; rfl
  isplitl [H5]
  · iexists _; isplitr
    rotate_left
    · iexact H5
    · ipureintro
      exact read_slabs_keep M9.view f5 _ (fun h => mH true (tile (M4.view.read (Elt F) f0) h) (tile (M5.view.read (Elt F) f1) h))
  isplitl [H6]
  · iexists _; isplitr
    rotate_left
    · iexact H6
    · ipureintro
      exact read_slabs_keep M10.view f6 _ (fun h => lH true (tile (M4.view.read (Elt F) f0) h) (tile (M5.view.read (Elt F) f1) h) (slab (M9.view.read (Elt F) f5) h))
  · iexists _; isplitr
    rotate_left
    · iexact H7
    · ipureintro
      exact read_slabs_keep M11.view f7 _ (fun h => aH true (tile (M4.view.read (Elt F) f0) h) (tile (M5.view.read (Elt F) f1) h) (tile (M6.view.read (Elt F) f2) h) (slab (M9.view.read (Elt F) f5) h))

end Body

end Cert.Kernel15Ideal.Flash

end
-- ==== Proof.Flash.OnF.lean ====
/- The body's run at a point on the diagonal of the first block of keys. -/
module

public import proofs.«01_k».proof.Proof.Flash.Body

@[expose] public section

set_option maxRecDepth 16384

noncomputable section

namespace Cert.Kernel15Ideal.Flash

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.Kernel2Ideal.Attn (stack)

section Body

variable (c : Dev nD) (i : grid0.Coords)
  (M4 : Memref sig .tc .vmem S1024x1024 .bf16) (M5 : Memref sig .tc .vmem S1024x1024 .bf16) (M6 : Memref sig .tc .vmem S1024x1024 .bf16)
  (M7 : Memref sig .tc .vmem S1024x1024 .f32) (M8 : Memref sig .tc .vmem S8x1x1024 .f32)
  (M9 : Memref sig .tc .vmem S8x1024x128 .f32) (M10 : Memref sig .tc .vmem S8x1024x128 .f32) (M11 : Memref sig .tc .vmem S8x1024x128 .f32)
  (fa : Buf (Elt F) ((c : Thread nD τ).loc main_c)) (fb : Buf (Elt F) ((c : Thread nD τ).loc main_c_0))
  (q k v : Vec F S1024x1024 .bf16)

variable (hM4 : M4.IsWhole) (hM5 : M5.IsWhole) (hM6 : M6.IsWhole) (hM7 : M7.IsWhole) (hM8 : M8.IsWhole) (hM9 : M9.IsWhole) (hM10 : M10.IsWhole) (hM11 : M11.IsWhole)
  (w1 w3 : BitVec 32)
  (hw1 : View.read (Elt F) ((Memref.whole main_c).access (rT i)) fa (Shape.Idx.first (rT_pos i)) = w1)
  (hw3 : View.read (Elt F) ((Memref.whole main_c_0).access (rT i)) fb (Shape.Idx.first (rT_pos i)) = w3)
  (o : Vec F S1024x1024 .f32) (e : Vec F S8x1x1024 .f32) (m l acc : Vec F S8x1024x128 .f32)

include hw1 hw3 in
set_option maxHeartbeats 4000000 in
/-- At the first block of keys: the point starts anew, and writes the results. -/
theorem case_first (h1 : Scalar.cmpi .ne (Scalar.extui (Scalar.cmpi .eq w3 0#32) : BitVec 32) 0#32 = 1#1) (h2 : ¬ Scalar.cmpi .ne (Scalar.extui (Scalar.cmpi .slt w3 w1) : BitVec 32) 0#32 = 1#1) (h3 : k0_cond3 w1 w3 = 1#1) (E : Set ℕ) (K : PUnit → sProp 𝕄) :
    iprop(held c M4 M5 M6 M7 M8 M9 M10 M11 fa fb q k v o e m l acc ∗ (held c M4 M5 M6 M7 M8 M9 M10 M11 fa fb q k v (oOut (lStep q k k0_pay1 k0_pay2 true) (aStep q k v k0_pay1 k0_pay3 true)) (eOut (mStep q k k0_pay1 true) (lStep q k k0_pay1 k0_pay2 true)) (mStep q k k0_pay1 true) (lStep q k k0_pay1 k0_pay2 true) (aStep q k v k0_pay1 k0_pay3 true) -∗ K ⟨⟩))
      ⊢ wp frame (wpE (defs₀ (F := F)) Variants.none c none) E (cc0_mla_attn_fwd i (Memref.whole main_c) (Memref.isWhole_whole _) (Memref.whole main_c_0) (Memref.isWhole_whole _) M4 hM4 M5 hM5 M6 hM6 M7 hM7 M8 hM8 M9 hM9 M10 hM10 M11 hM11) K := by
  simp only [cc0_mla_attn_fwd_eq_skeleton]; unfold cc0_mla_attn_fwd_skel
  unfold held owns
  iintro ⟨⟨Ha, Hb, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
  subst hf0 hf1 hf2 hf3 hf4 hf5 hf6 hf7
  unfold smemLoad smemLoadElt
  simp only [Prog.bind_op, Prog.bind_ret]
  iapply (wp_load_rect Variants.none (c : Thread nD τ) none E (m := Memref.whole main_c) (r := rT i) (Finset.subset_univ _)) $$ Ha
  iintro Ha
  iapply (wp_load_rect Variants.none (c : Thread nD τ) none E (m := Memref.whole main_c_0) (r := rT i) (Finset.subset_univ _)) $$ Hb
  iintro Hb
  generalize hx1 : View.read (Elt F) ((Memref.whole main_c).access (rT i)) fa (Shape.Idx.first _) = v1
  generalize hx3 : View.read (Elt F) ((Memref.whole main_c_0).access (rT i)) fb (Shape.Idx.first _) = v3
  obtain rfl : v1 = w1 := hx1.symm.trans hw1
  obtain rfl : v3 = w3 := hx3.symm.trans hw3
  sl_exec
  sl_step

  iapply Hk
  isplitl [Ha]; · iexact Ha
  isplitl [Hb]; · iexact Hb
  isplitl [H0]; · iapply (owns_read c M4 f0) $$ H0
  isplitl [H1]; · iapply (owns_read c M5 f1) $$ H1
  isplitl [H2]; · iapply (owns_read c M6 f2) $$ H2
  isplitl [H3]
  · iexists _; isplitr
    rotate_left
    · iexact H3
    · ipureintro
      refine (read_tiles M7.view f3 (fun h => k0_pay149 (M11.view.readCov (fill M11.view k0_pay3 inb_S8x1024x128_S8x1024x128_0_0_0 (fun h => aH true (tile (M4.view.read (Elt F) f0) h) (tile (M5.view.read (Elt F) f1) h) (tile (M6.view.read (Elt F) f2) h) (M9.view.readCov (fill M9.view k0_pay1 inb_S8x1024x128_S8x1024x128_0_0_0 (fun h => mH true (tile (M4.view.read (Elt F) f0) h) (tile (M5.view.read (Elt F) f1) h)) h.val h.isLt.le) (slabR h).toLoadRect)) 8 le_rfl) (slabR h).toLoadRect) (M10.view.readCov (fill M10.view k0_pay2 inb_S8x1024x128_S8x1024x128_0_0_0 (fun h => lH true (tile (M4.view.read (Elt F) f0) h) (tile (M5.view.read (Elt F) f1) h) (M9.view.readCov (fill M9.view k0_pay1 inb_S8x1024x128_S8x1024x128_0_0_0 (fun h => mH true (tile (M4.view.read (Elt F) f0) h) (tile (M5.view.read (Elt F) f1) h)) h.val h.isLt.le) (slabR h).toLoadRect)) 8 le_rfl) (slabR h).toLoadRect))).trans (congrArg tiles (funext fun h => ?_))
      rw [cov_fill, cov_fill]; simp only [cov_before]; rfl
  isplitl [H4]
  · iexists _; isplitr
    rotate_left
    · iexact H4
    · ipureintro
      refine (read_lines M8.view f4 (fun h => k0_pay150 (M9.view.readCov (fill M9.view k0_pay1 inb_S8x1024x128_S8x1024x128_0_0_0 (fun h => mH true (tile (M4.view.read (Elt F) f0) h) (tile (M5.view.read (Elt F) f1) h)) 8 le_rfl) (slabR h).toLoadRect) (M10.view.readCov (fill M10.view k0_pay2 inb_S8x1024x128_S8x1024x128_0_0_0 (fun h => lH true (tile (M4.view.read (Elt F) f0) h) (tile (M5.view.read (Elt F) f1) h) (M9.view.readCov (fill M9.view k0_pay1 inb_S8x1024x128_S8x1024x128_0_0_0 (fun h => mH true (tile (M4.view.read (Elt F) f0) h) (tile (M5.view.read (Elt F) f1) h)) h.val h.isLt.le) (slabR h).toLoadRect)) 8 le_rfl) (slabR h).toLoadRect))).trans (congrArg lines (funext fun h => ?_))
      rw [cov_fill, cov_fill]; simp only [cov_before]; rfl
  isplitl [H5]
  · iexists _; isplitr
    rotate_left
    · iexact H5
    · ipureintro
      exact read_slabs_fill M9.view f5 k0_pay1 inb_S8x1024x128_S8x1024x128_0_0_0 (fun h => mH true (tile (M4.view.read (Elt F) f0) h) (tile (M5.view.read (Elt F) f1) h))
  isplitl [H6]
  · iexists _; isplitr
    rotate_left
    · iexact H6
    · ipureintro
      refine (read_slabs_fill M10.view f6 k0_pay2 inb_S8x1024x128_S8x1024x128_0_0_0 (fun h => lH true (tile (M4.view.read (Elt F) f0) h) (tile (M5.view.read (Elt F) f1) h) (M9.view.readCov (fill M9.view k0_pay1 inb_S8x1024x128_S8x1024x128_0_0_0 (fun h => mH true (tile (M4.view.read (Elt F) f0) h) (tile (M5.view.read (Elt F) f1) h)) h.val h.isLt.le) (slabR h).toLoadRect))).trans (congrArg slabs (funext fun h => ?_))
      rw [cov_before]
  · iexists _; isplitr
    rotate_left
    · iexact H7
    · ipureintro
      refine (read_slabs_fill M11.view f7 k0_pay3 inb_S8x1024x128_S8x1024x128_0_0_0 (fun h => aH true (tile (M4.view.read (Elt F) f0) h) (tile (M5.view.read (Elt F) f1) h) (tile (M6.view.read (Elt F) f2) h) (M9.view.readCov (fill M9.view k0_pay1 inb_S8x1024x128_S8x1024x128_0_0_0 (fun h => mH true (tile (M4.view.read (Elt F) f0) h) (tile (M5.view.read (Elt F) f1) h)) h.val h.isLt.le) (slabR h).toLoadRect))).trans (congrArg slabs (funext fun h => ?_))
      rw [cov_before]

end Body

end Cert.Kernel15Ideal.Flash

end
-- ==== Proof.Flash.Point.lean ====
/- The body's run at any point of the grid, by the number of the step: which of the four runs of `Off`, `On` and `OnF` it is. -/
module

public import proofs.«01_k».proof.Proof.Flash.Sched
public import proofs.«01_k».proof.Proof.Flash.Off
public import proofs.«01_k».proof.Proof.Flash.On
public import proofs.«01_k».proof.Proof.Flash.OnF

@[expose] public section

set_option maxRecDepth 16384

noncomputable section

namespace Cert.Kernel15Ideal.Flash

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What a step finds in the running quantities once a new block of queries has been started. -/
def found (n : Fin 36) (z y : Vec F S8x1024x128 .f32) : Vec F S8x1024x128 .f32 := if col n = 0 then z else y

/-- The three running quantities after step `n`, from the step's blocks and what they were before. -/
def mNext (n : Fin 36) (q k : Vec F S1024x1024 .bf16) (m : Vec F S8x1024x128 .f32) : Vec F S8x1024x128 .f32 :=
  mStep q k (found n k0_pay1 m) (decide (row n = col n))
def lNext (n : Fin 36) (q k : Vec F S1024x1024 .bf16) (m l : Vec F S8x1024x128 .f32) : Vec F S8x1024x128 .f32 :=
  lStep q k (found n k0_pay1 m) (found n k0_pay2 l) (decide (row n = col n))
def aNext (n : Fin 36) (q k v : Vec F S1024x1024 .bf16) (m acc : Vec F S8x1024x128 .f32) : Vec F S8x1024x128 .f32 :=
  aStep q k v (found n k0_pay1 m) (found n k0_pay3 acc) (decide (row n = col n))

/-- The tables' contents as the buffers hold them. -/
abbrev tab0 (c : Dev nD) : Buf (Elt F) ((c : Thread nD τ).loc main_c) := tables (F := F) 0
abbrev tab1 (c : Dev nD) : Buf (Elt F) ((c : Thread nD τ).loc main_c_0) := tables (F := F) 1

section Point

variable (c : Dev nD) (i : grid0.Coords)
  (M4 : Memref sig .tc .vmem S1024x1024 .bf16) (M5 : Memref sig .tc .vmem S1024x1024 .bf16) (M6 : Memref sig .tc .vmem S1024x1024 .bf16)
  (M7 : Memref sig .tc .vmem S1024x1024 .f32) (M8 : Memref sig .tc .vmem S8x1x1024 .f32)
  (M9 : Memref sig .tc .vmem S8x1024x128 .f32) (M10 : Memref sig .tc .vmem S8x1024x128 .f32) (M11 : Memref sig .tc .vmem S8x1024x128 .f32)
  (q k v : Vec F S1024x1024 .bf16)

variable (hM4 : M4.IsWhole) (hM5 : M5.IsWhole) (hM6 : M6.IsWhole) (hM7 : M7.IsWhole) (hM8 : M8.IsWhole) (hM9 : M9.IsWhole) (hM10 : M10.IsWhole) (hM11 : M11.IsWhole)
  (o : Vec F S1024x1024 .f32) (e : Vec F S8x1x1024 .f32) (m l acc : Vec F S8x1024x128 .f32)

theorem sound_point (E : Set ℕ) (K : PUnit → sProp 𝕄) :
    iprop(held c M4 M5 M6 M7 M8 M9 M10 M11 (tab0 c) (tab1 c) q k v o e m l acc
        ∗ (held c M4 M5 M6 M7 M8 M9 M10 M11 (tab0 c) (tab1 c) q k v
            (if row (pt i) = col (pt i) then oOut (lNext (pt i) q k m l) (aNext (pt i) q k v m acc) else o)
            (if row (pt i) = col (pt i) then eOut (mNext (pt i) q k m) (lNext (pt i) q k m l) else e)
            (mNext (pt i) q k m) (lNext (pt i) q k m l) (aNext (pt i) q k v m acc) -∗ K ⟨⟩))
      ⊢ wp frame (wpE (defs₀ (F := F)) Variants.none c none) E (cc0_mla_attn_fwd i (Memref.whole main_c) (Memref.isWhole_whole _) (Memref.whole main_c_0) (Memref.isWhole_whole _) M4 hM4 M5 hM5 M6 hM6 M7 hM7 M8 hM8 M9 hM9 M10 hM10 M11 hM11) K := by
  have e0 := tables_at0 (F := F) i numel1_S1
  have e1 := tables_at1 (F := F) i numel1_S1
  unfold mNext lNext aNext found
  by_cases hd : row (pt i) = col (pt i)
  · have c2 : ¬ isBelow (wd (row (pt i))) (wd (col (pt i))) := fun h => absurd ((below_iff _ _).1 h) (by rw [hd]; exact lt_irrefl _)
    have c3 := (cond3_iff (row (pt i)) (col (pt i))).2 hd
    by_cases h0 : col (pt i) = 0
    · have r := case_first c i M4 M5 M6 M7 M8 M9 M10 M11 (tab0 c) (tab1 c) q k v hM4 hM5 hM6 hM7 hM8 hM9 hM10 hM11 _ _ e0 e1 o e m l acc ((first_iff _).2 h0) c2 c3 E K
      simp only [if_pos h0, if_pos hd, decide_eq_true hd]
      exact r
    · have r := case_diag c i M4 M5 M6 M7 M8 M9 M10 M11 (tab0 c) (tab1 c) q k v hM4 hM5 hM6 hM7 hM8 hM9 hM10 hM11 _ _ e0 e1 o e m l acc (fun h => h0 ((first_iff _).1 h)) c2 c3 E K
      simp only [if_neg h0, if_pos hd, decide_eq_true hd]
      exact r
  · have c2 := (below_iff (row (pt i)) (col (pt i))).2 (lt_of_le_of_ne (col_le_row _) (Ne.symm hd))
    have c3 : ¬ k0_cond3 (wd (row (pt i))) (wd (col (pt i))) = 1#1 := fun h => hd ((cond3_iff _ _).1 h)
    by_cases h0 : col (pt i) = 0
    · have r := case_start c i M4 M5 M6 M7 M8 M9 M10 M11 (tab0 c) (tab1 c) q k v hM4 hM5 hM6 hM7 hM8 hM9 hM10 hM11 _ _ e0 e1 o e m l acc ((first_iff _).2 h0) c2 c3 E K
      simp only [if_pos h0, if_neg hd, decide_eq_false hd]
      exact r
    · have r := case_below c i M4 M5 M6 M7 M8 M9 M10 M11 (tab0 c) (tab1 c) q k v hM4 hM5 hM6 hM7 hM8 hM9 hM10 hM11 _ _ e0 e1 o e m l acc (fun h => h0 ((first_iff _).1 h)) c2 c3 E K
      simp only [if_neg h0, if_neg hd, decide_eq_false hd]
      exact r

theorem sound_point_diag (hd : row (pt i) = col (pt i)) (E : Set ℕ) (K : PUnit → sProp 𝕄) :
    iprop(held c M4 M5 M6 M7 M8 M9 M10 M11 (tab0 c) (tab1 c) q k v o e m l acc
        ∗ (held c M4 M5 M6 M7 M8 M9 M10 M11 (tab0 c) (tab1 c) q k v
            (oOut (lNext (pt i) q k m l) (aNext (pt i) q k v m acc)) (eOut (mNext (pt i) q k m) (lNext (pt i) q k m l))
            (mNext (pt i) q k m) (lNext (pt i) q k m l) (aNext (pt i) q k v m acc) -∗ K ⟨⟩))
      ⊢ wp frame (wpE (defs₀ (F := F)) Variants.none c none) E (cc0_mla_attn_fwd i (Memref.whole main_c) (Memref.isWhole_whole _) (Memref.whole main_c_0) (Memref.isWhole_whole _) M4 hM4 M5 hM5 M6 hM6 M7 hM7 M8 hM8 M9 hM9 M10 hM10 M11 hM11) K := by
  have r := sound_point c i M4 M5 M6 M7 M8 M9 M10 M11 q k v hM4 hM5 hM6 hM7 hM8 hM9 hM10 hM11 o e m l acc E K
  rw [if_pos hd, if_pos hd] at r
  exact r

theorem sound_point_off (hd : ¬ row (pt i) = col (pt i)) (E : Set ℕ) (K : PUnit → sProp 𝕄) :
    iprop(held c M4 M5 M6 M7 M8 M9 M10 M11 (tab0 c) (tab1 c) q k v o e m l acc
        ∗ (held c M4 M5 M6 M7 M8 M9 M10 M11 (tab0 c) (tab1 c) q k v
            o e
            (mNext (pt i) q k m) (lNext (pt i) q k m l) (aNext (pt i) q k v m acc) -∗ K ⟨⟩))
      ⊢ wp frame (wpE (defs₀ (F := F)) Variants.none c none) E (cc0_mla_attn_fwd i (Memref.whole main_c) (Memref.isWhole_whole _) (Memref.whole main_c_0) (Memref.isWhole_whole _) M4 hM4 M5 hM5 M6 hM6 M7 hM7 M8 hM8 M9 hM9 M10 hM10 M11 hM11) K := by
  have r := sound_point c i M4 M5 M6 M7 M8 M9 M10 M11 q k v hM4 hM5 hM6 hM7 hM8 hM9 hM10 hM11 o e m l acc E K
  rw [if_neg hd, if_neg hd] at r
  exact r

end Point

end Cert.Kernel15Ideal.Flash

end
-- ==== Proof.Flash.Hold.lean ====
/- What each window's buffer of the attention's forward kernel holds after each step, and what the running quantities are. -/
module

public import proofs.«01_k».proof.Proof.Flash.Frame
public import proofs.«01_k».proof.Proof.Flash.Point
public import proofs.«01_k».proof.Proof.Attn.Hold

@[expose] public section

set_option maxRecDepth 16384

noncomputable section

namespace Cert.Kernel15Ideal.Flash

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.Kernel2Ideal.Attn (steps steps_succ)

variable (m : (ℓ : Loc nD τ sig) → Buf (Elt F) ℓ) (ρ : Dev nD → PrngReg)

/-! ## The tables, as the region finds them -/

set_option maxHeartbeats 1600000 in
theorem V_tab0 (c : Dev nD) : V m c main_c = tab0 c := by
  entry_read; rfl
set_option maxHeartbeats 1600000 in
theorem V_tab1 (c : Dev nD) : V m c main_c_0 = tab1 c := by
  entry_read; rfl

/-! ## What each window's buffer holds -/

/-- Window `w`'s block at point `t`, read off its array as the region finds it. -/
def iblk (c : Dev nD) (w : Fin (cfgA (F := F)).W) (t : Fin (cfgA (F := F)).N) : (((cfgA (F := F)).win w).xblock ((cfgA (F := F)).grid.coords t)).Idx → Elt F ((cfgA (F := F)).win w).elt :=
  (((cfgA (F := F)).win w).blk t).view.read (Elt F) (V m c (Pipeline.arrRef spec0 w))

/-- The number of a point's step. -/
abbrev nt (t : Fin (cfgA (F := F)).N) : Fin 36 := pt (grid0.coords t)

theorem nt_val (t : Fin (cfgA (F := F)).N) : (nt t).val = t.val := by
  have h : ∀ t : Fin grid0.N, (grid0.coords t 1).val = t.val := by decide +kernel
  exact h t

/-- The blocks of a step: the queries', the keys', the values'. -/
abbrev qB (c : Dev nD) (t : Fin (cfgA (F := F)).N) : Vec F S1024x1024 .bf16 := iblk m c 0 t
abbrev kB (c : Dev nD) (t : Fin (cfgA (F := F)).N) : Vec F S1024x1024 .bf16 := iblk m c 1 t
abbrev vB (c : Dev nD) (t : Fin (cfgA (F := F)).N) : Vec F S1024x1024 .bf16 := iblk m c 2 t

/-- The running maximum, sum and weighted sum, together. -/
structure Run (F : FTy → Type) where
  m : Vec F S8x1024x128 .f32
  l : Vec F S8x1024x128 .f32
  acc : Vec F S8x1024x128 .f32

/-- What step `t` makes of them, -/
def next (c : Dev nD) (t : Fin (cfgA (F := F)).N) (y : Run F) : Run F :=
  ⟨mNext (nt t) (qB m c t) (kB m c t) y.m, lNext (nt t) (qB m c t) (kB m c t) y.m y.l, aNext (nt t) (qB m c t) (kB m c t) (vB m c t) y.m y.acc⟩

/-- and what they are after it. -/
def runAt (c : Dev nD) (t : Fin (cfgA (F := F)).N) : Run F := steps (next m c) ⟨k0_pay1, k0_pay2, k0_pay3⟩ t.val t.isLt

/-- What they are between points: before the first, anything. -/
def Known (c : Dev nD) (n : ℕ) (y : Run F) : Prop := ∀ t : Fin (cfgA (F := F)).N, n = t.val + 1 → y = runAt m c t

/-- The running quantities' buffers at given contents. -/
def scratch (c : Dev nD) (y : Run F) : sProp 𝕄 :=
  iprop(owns (c : Thread nD τ) (Memref.whole cc0_scratch0) fullShare y.m ∗ owns (c : Thread nD τ) (Memref.whole cc0_scratch1) fullShare y.l
    ∗ owns (c : Thread nD τ) (Memref.whole cc0_scratch2) fullShare y.acc)

/-- What is carried from point to point. -/
def carried (c : Dev nD) (n : ℕ) : sProp 𝕄 :=
  iprop((∃ y, ⌜Known m c n y⌝ ∗ scratch c y) ∗ (∃ r, prngReg c r) ∗ Pipeline.ΦT pre0 tables c)

/-- The pipeline's proof data: the arrays as the region finds them; after a point each input's buffer at its block and
    each result's at what the running quantities give. -/
def dats (_ : Fin 1) (c : Dev nD) : Dat τ (Elt F) Unit ℕ (UR sig nD τ) ℕ (Pipeline.pin (pcfgs (F := F)) (fun _ => adm) 0) c where
  A w := V m c (Pipeline.arrRef spec0 w)
  after w t := match w with
    | ⟨0, _⟩ => iblk m c 0 t
    | ⟨1, _⟩ => iblk m c 1 t
    | ⟨2, _⟩ => iblk m c 2 t
    | ⟨3, _⟩ => oOut (runAt m c t).l (runAt m c t).acc
    | ⟨4, _⟩ => eOut (runAt m c t).m (runAt m c t).l
  Φ t := carried m c t.val
  q _ := fullShare
  owed _ := 0

theorem A_eq (c : Dev nD) (w : Fin (cfgA (F := F)).W) : (dats m 0 c).A w = V m c (Pipeline.arrRef spec0 w) := by
  dsimp only [dats]

theorem after_0 (c : Dev nD) (t : Fin (cfgA (F := F)).N) : (dats m 0 c).after 0 t = iblk m c 0 t := rfl
theorem after_1 (c : Dev nD) (t : Fin (cfgA (F := F)).N) : (dats m 0 c).after 1 t = iblk m c 1 t := rfl
theorem after_2 (c : Dev nD) (t : Fin (cfgA (F := F)).N) : (dats m 0 c).after 2 t = iblk m c 2 t := rfl
theorem after_3 (c : Dev nD) (t : Fin (cfgA (F := F)).N) : (dats m 0 c).after 3 t = oOut (runAt m c t).l (runAt m c t).acc := rfl
theorem after_4 (c : Dev nD) (t : Fin (cfgA (F := F)).N) : (dats m 0 c).after 4 t = eOut (runAt m c t).m (runAt m c t).l := rfl

/-- An input's buffer holds its block at every point. -/
theorem before_0 (c : Dev nD) (t : Fin (cfgA (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgA (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgA (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- The results are written on the diagonal, -/
theorem live_3 (t : Fin (cfgA (F := F)).N) (h : row (nt t) = col (nt t)) : (cfgA (F := F)).idle 3 (grid0.coords t) = false := by
  show idle0 (F := F) tables 3 (grid0.coords t) = false
  dsimp only [idle0]
  rw [tables_atD0, tables_atD1, (cond3_iff (row (nt t)) (col (nt t))).2 h]; simp
theorem live_4 (t : Fin (cfgA (F := F)).N) (h : row (nt t) = col (nt t)) : (cfgA (F := F)).idle 4 (grid0.coords t) = false := by
  show idle0 (F := F) tables 4 (grid0.coords t) = false
  dsimp only [idle0]
  rw [tables_atD0, tables_atD1, (cond3_iff (row (nt t)) (col (nt t))).2 h]; simp
/-- and nowhere else. -/
theorem idle_3 (t : Fin (cfgA (F := F)).N) (h : row (nt t) ≠ col (nt t)) : (cfgA (F := F)).idle 3 (grid0.coords t) = true := by
  show idle0 (F := F) tables 3 (grid0.coords t) = true
  dsimp only [idle0]
  rw [tables_atD0, tables_atD1, beq_eq_false_iff_ne.mpr fun e => h ((cond3_iff (row (nt t)) (col (nt t))).1 e)]; rfl
theorem idle_4 (t : Fin (cfgA (F := F)).N) (h : row (nt t) ≠ col (nt t)) : (cfgA (F := F)).idle 4 (grid0.coords t) = true := by
  show idle0 (F := F) tables 4 (grid0.coords t) = true
  dsimp only [idle0]
  rw [tables_atD0, tables_atD1, beq_eq_false_iff_ne.mpr fun e => h ((cond3_iff (row (nt t)) (col (nt t))).1 e)]; rfl

theorem nt_zero (t : Fin (cfgA (F := F)).N) (h : t.val = 0) : nt t = 0 := Fin.ext ((nt_val t).trans h)
/-- The point before. -/
abbrev prev (t : Fin (cfgA (F := F)).N) : Fin (cfgA (F := F)).N := ⟨t.val - 1, Nat.lt_of_le_of_lt (Nat.sub_le _ _) t.isLt⟩

/-- Between a point and the next: a new block of queries after the diagonal, or the same block and the next block of keys. -/
theorem nt_next (t : Fin (cfgA (F := F)).N) (h : t.val + 1 < (cfgA (F := F)).N) :
    (row (nt t) = col (nt t) ∧ col (nt ⟨t.val + 1, h⟩) = 0 ∧ row (nt ⟨t.val + 1, h⟩) ≠ row (nt t))
      ∨ (row (nt t) ≠ col (nt t) ∧ row (nt ⟨t.val + 1, h⟩) = row (nt t) ∧ (col (nt ⟨t.val + 1, h⟩)).val = (col (nt t)).val + 1) := by
  have ht := nt_val t
  have hs := nt_val (F := F) ⟨t.val + 1, h⟩
  have hl : (nt (F := F) ⟨t.val + 1, h⟩).val < 36 := (nt (F := F) ⟨t.val + 1, h⟩).isLt
  simp only at hs
  have e := step_succ ⟨t.val, by omega⟩
  have e1 : (⟨t.val, by omega⟩ : Fin 35).castSucc = nt t := Fin.ext (by rw [ht]; rfl)
  have e2 : (⟨t.val, by omega⟩ : Fin 35).succ = nt (F := F) ⟨t.val + 1, h⟩ := Fin.ext (by rw [hs]; rfl)
  rw [e1, e2] at e
  exact e

theorem row_last : ∀ n : Fin 36, n.val + 1 = 36 → row n = col n := by decide +kernel

theorem index_3 (t : Fin (cfgA (F := F)).N) : ((cfgA (F := F)).win 3).index t = ![(row (nt t)).val, 0] := ix_3 (F := F) (grid0.coords t)
theorem index_4 (t : Fin (cfgA (F := F)).N) : ((cfgA (F := F)).win 4).index t = ![0, 0, (row (nt t)).val] := ix_4 (F := F) (grid0.coords t)

/-- Short of the diagonal no result leaves its buffer. -/
theorem flush_3 (t : Fin (cfgA (F := F)).N) (hr : row (nt t) ≠ col (nt t)) : ((cfgA (F := F)).win 3).flush t = false := by
  unfold Pipeline.Window.flush
  have e1 : ¬ t.val + 1 = (cfgA (F := F)).grid.N := fun h => hr (row_last _ (by rw [nt_val]; exact h.trans N_0))
  have e2 : ¬ ∃ h : t.val + 1 < (cfgA (F := F)).grid.N, ((cfgA (F := F)).win 3).index ⟨t.val + 1, h⟩ ≠ ((cfgA (F := F)).win 3).index t := by
    rintro ⟨h, ha⟩
    rcases nt_next t h with e | e
    · exact hr e.1
    · exact ha (by rw [index_3, index_3, e.2.1])
  rw [decide_eq_false e1, decide_eq_false e2]; simp
theorem flush_4 (t : Fin (cfgA (F := F)).N) (hr : row (nt t) ≠ col (nt t)) : ((cfgA (F := F)).win 4).flush t = false := by
  unfold Pipeline.Window.flush
  have e1 : ¬ t.val + 1 = (cfgA (F := F)).grid.N := fun h => hr (row_last _ (by rw [nt_val]; exact h.trans N_0))
  have e2 : ¬ ∃ h : t.val + 1 < (cfgA (F := F)).grid.N, ((cfgA (F := F)).win 4).index ⟨t.val + 1, h⟩ ≠ ((cfgA (F := F)).win 4).index t := by
    rintro ⟨h, ha⟩
    rcases nt_next t h with e | e
    · exact hr e.1
    · exact ha (by rw [index_4, index_4, e.2.1])
  rw [decide_eq_false e1, decide_eq_false e2]; simp

/-- At the first block of keys a step forgets what it finds. -/
theorem next_first (c : Dev nD) (t : Fin (cfgA (F := F)).N) (h : col (nt t) = 0) (y y' : Run F) : next m c t y = next m c t y' := by
  unfold next mNext lNext aNext found
  simp only [if_pos h]

theorem runAt_first (c : Dev nD) (t : Fin (cfgA (F := F)).N) (h : col (nt t) = 0) (y : Run F) : runAt m c t = next m c t y := by
  by_cases h0 : t.val = 0
  · have e : runAt m c t = next m c t ⟨k0_pay1, k0_pay2, k0_pay3⟩ := by
      obtain ⟨_ | n, ht⟩ := t
      · rfl
      · exact absurd h0 (Nat.succ_ne_zero n)
    rw [e]; exact next_first m c t h _ _
  · exact (steps_succ _ _ t h0 (prev t).isLt).trans (next_first m c t h _ _)

theorem runAt_succ (c : Dev nD) (t : Fin (cfgA (F := F)).N) (h : t.val ≠ 0) : runAt m c t = next m c t (runAt m c (prev t)) :=
  steps_succ _ _ t h _

/-- A step makes of what is carried to it what is carried on. -/
theorem next_known (c : Dev nD) (t : Fin (cfgA (F := F)).N) (y : Run F) (h : Known m c t.val y) : next m c t y = runAt m c t := by
  by_cases h0 : t.val = 0
  · exact (runAt_first m c t (by rw [nt_zero t h0]; exact row_zero.2) y).symm
  · rw [runAt_succ m c t h0, h (prev t) (by show t.val = t.val - 1 + 1; omega)]

theorem next_m (c : Dev nD) (t : Fin (cfgA (F := F)).N) (y : Run F) (h : Known m c t.val y) :
    mNext (nt t) (qB m c t) (kB m c t) y.m = (runAt m c t).m := by rw [← next_known m c t y h]; rfl
theorem next_l (c : Dev nD) (t : Fin (cfgA (F := F)).N) (y : Run F) (h : Known m c t.val y) :
    lNext (nt t) (qB m c t) (kB m c t) y.m y.l = (runAt m c t).l := by rw [← next_known m c t y h]; rfl
theorem next_a (c : Dev nD) (t : Fin (cfgA (F := F)).N) (y : Run F) (h : Known m c t.val y) :
    aNext (nt t) (qB m c t) (kB m c t) (vB m c t) y.m y.acc = (runAt m c t).acc := by rw [← next_known m c t y h]; rfl

theorem known_succ (c : Dev nD) (t : Fin (cfgA (F := F)).N) : Known m c (t.val + 1) (runAt m c t) := by
  intro t' h
  rw [show t' = t from Fin.ext (by omega)]

end Cert.Kernel15Ideal.Flash

end
-- ==== Proof.Flash.Part.lean ====
/- A softmax taken over the keys block by block: the running maximum, sum and weighted sum over the keys seen so far. -/
module

public import proofs.«01_k».proof.Proof.Attn.Blocks

@[expose] public section

set_option maxRecDepth 16384

noncomputable section

namespace Cert.FlashMath

open Cert.AttnMath Cert.Kernel2Ideal.AttnValue
open Idealize.ShloMosaic

/-- Row `r` of block `b` of 1024 rows. -/
def at8 (b : Fin 8) (r : Fin 1024) : Fin 8192 := ⟨b.val * 1024 + r.val, by omega⟩

theorem at8_diag (b : Fin 8) (r s : Fin 1024) : at8 b s ≤ at8 b r ↔ s ≤ r := by
  show b.val * 1024 + s.val ≤ b.val * 1024 + r.val ↔ s.val ≤ r.val
  omega
theorem at8_below (b a : Fin 8) (h : a < b) (r s : Fin 1024) : at8 a s ≤ at8 b r := by
  have : a.val < b.val := h
  show a.val * 1024 + s.val ≤ b.val * 1024 + r.val
  omega
theorem at8_above (b a : Fin 8) (h : b < a) (r s : Fin 1024) : ¬ at8 a s ≤ at8 b r := by
  have : b.val < a.val := h
  show ¬ a.val * 1024 + s.val ≤ b.val * 1024 + r.val
  omega

theorem sum_eight (f : Fin 8192 → ℝ) : ∑ b, ∑ s, f (at8 b s) = ∑ t, f t :=
  (Idealize.ShloMosaic.Fin.sum_univ_tiles 8 1024 rfl f).symm

/-- What the keys of block `b` that query `t` sees give to a sum; -/
def blkSum (t : Fin 8192) (g : Fin 8192 → ℝ) (b : Fin 8) : ℝ := ∑ i : Fin 1024, if at8 b i ≤ t then g (at8 b i) else 0
/-- those of the first `c` blocks. -/
def upTo (t : Fin 8192) (c : ℕ) (g : Fin 8192 → ℝ) : ℝ := part (blkSum t g) c

theorem upTo_zero (t : Fin 8192) (g : Fin 8192 → ℝ) : upTo t 0 g = 0 := part_zero _ 0 fun b hb => absurd hb (Nat.not_lt_zero _)

theorem upTo_succ (t : Fin 8192) (c : Fin 8) (g : Fin 8192 → ℝ) : upTo t (c.val + 1) g = upTo t c.val g + blkSum t g c := part_succ _ _

theorem upTo_mul (t : Fin 8192) (c : ℕ) (w : ℝ) (g : Fin 8192 → ℝ) : w * upTo t c g = upTo t c fun j => w * g j := by
  unfold upTo part blkSum
  rw [Finset.mul_sum]
  refine Finset.sum_congr rfl fun b _ => ?_
  split
  · rw [Finset.mul_sum]
    refine Finset.sum_congr rfl fun i _ => ?_
    split
    · rfl
    · exact mul_zero w
  · exact mul_zero w

theorem upTo_all (b : Fin 8) (r : Fin 1024) (g : Fin 8192 → ℝ) :
    upTo (at8 b r) (b.val + 1) g = ∑ j, if j ≤ at8 b r then g j else 0 := by
  rw [← sum_eight fun j => if j ≤ at8 b r then g j else 0, ← part_all]
  show part (blkSum (at8 b r) g) (b.val + 1) = part (blkSum (at8 b r) g) 8
  unfold part
  refine Finset.sum_subset (Finset.range_mono (by omega)) fun a ha hb => ?_
  have h8 := Finset.mem_range.1 ha
  have hbb : ¬ a < b.val + 1 := fun h => hb (Finset.mem_range.2 h)
  rw [dif_pos h8]
  exact Finset.sum_eq_zero fun i _ => if_neg (at8_above b ⟨a, h8⟩ (show b.val < a by omega) r i)

/-- The powers of two a softmax adds, under a maximum. -/
def two (M : ℝ) (s : Fin 8192 → ℝ) (j : Fin 8192) : ℝ := Real.rpow 2 (s j - M)

theorem two_mul (M N : ℝ) (s : Fin 8192 → ℝ) (j : Fin 8192) : Real.rpow 2 (M - N) * two M s j = two N s j := by
  unfold two
  show (2 : ℝ) ^ (M - N) * (2 : ℝ) ^ (s j - M) = (2 : ℝ) ^ (s j - N)
  rw [← Real.rpow_add (by norm_num)]
  congr 1; ring

/-- What the three running arrays hold for query `t` after `c` blocks of keys: nothing before the first, and then the sums
under some maximum. -/
def Holds (t : Fin 8192) (c : ℕ) (s : Fin 8192 → ℝ) (v : Fin 8192 → Fin 128 → ℝ) (m l a : Fin 128 → EReal) : Prop :=
  (c = 0 ∧ ∀ e, m e = ⊥ ∧ l e = 0 ∧ a e = 0)
    ∨ ∃ M : ℝ, ∀ e, m e = (M : EReal) ∧ l e = (upTo t c (two M s) : EReal) ∧ a e = (upTo t c (fun j => two M s j * v j e) : EReal)

variable (t : Fin 8192) (c : Fin 8) (s : Fin 8192 → ℝ) (v : Fin 8192 → Fin 128 → ℝ) (m l a : Fin 128 → EReal)
  (f : Fin 1024 → EReal) (hf : ∀ i, f i = if at8 c i ≤ t then (s (at8 c i) : EReal) else ⊥) (h0 : at8 c 0 ≤ t)

include hf in
theorem sum_pow (N : ℝ) : ∑ i, Ideal.exp2 (f i - (N : EReal)) = (blkSum t (two N s) c : EReal) := by
  unfold blkSum
  rw [coe_sum]
  refine Finset.sum_congr rfl fun i _ => ?_
  rw [hf]
  split
  · rw [← EReal.coe_sub, Ideal.exp2_coe]; rfl
  · rw [EReal.bot_sub, Ideal.exp2_bot]; rfl

include hf in
theorem sum_pow_mul (N : ℝ) (e : Fin 128) : ∑ i, Ideal.exp2 (f i - (N : EReal)) * (v (at8 c i) e : EReal)
    = (blkSum t (fun j => two N s j * v j e) c : EReal) := by
  unfold blkSum
  rw [coe_sum]
  refine Finset.sum_congr rfl fun i _ => ?_
  rw [hf]
  split
  · rw [← EReal.coe_sub, Ideal.exp2_coe, ← EReal.coe_mul]; rfl
  · rw [EReal.bot_sub, Ideal.exp2_bot, zero_mul]; rfl

include hf h0 in
theorem block_max : ∃ M : ℝ, Finset.univ.fold max ⊥ f = (M : EReal) :=
  fold_max_coe f 0 (s (at8 c 0)) ((hf 0).trans (if_pos h0)) fun j => by
    rw [hf]; split
    · exact EReal.coe_ne_top _
    · exact bot_ne_top

include hf h0 in
/-- One more block of keys. -/
theorem holds_step (h : Holds t c.val s v m l a) (m' l' a' : Fin 128 → EReal) (lane : Fin 1024 → Fin 128)
    (hm : ∀ e, m' e = max (m e) (Finset.univ.fold max ⊥ f))
    (hl : ∀ e, l' e = Ideal.exp2 (m e - m' e) * l e + ∑ i, Ideal.exp2 (f i - m' (lane i)))
    (ha : ∀ e, a' e = Ideal.exp2 (m e - m' e) * a e + ∑ i, Ideal.exp2 (f i - m' (lane i)) * (v (at8 c i) e : EReal)) :
    Holds t (c.val + 1) s v m' l' a' := by
  obtain ⟨B, hB⟩ := block_max t c s f hf h0
  right
  rcases h with ⟨hc, h⟩ | ⟨M, h⟩
  · have hm' : ∀ e, m' e = (B : EReal) := fun e => by rw [hm, (h e).1, hB]; exact max_eq_right bot_le
    refine ⟨B, fun e => ⟨hm' e, ?_, ?_⟩⟩
    · rw [hl, upTo_succ, hc, upTo_zero, zero_add, (h e).2.1, mul_zero, zero_add]
      simp only [hm']
      exact sum_pow t c s f hf B
    · rw [ha, upTo_succ, hc, upTo_zero, zero_add, (h e).2.2, mul_zero, zero_add]
      simp only [hm']
      exact sum_pow_mul t c s v f hf B e
  · have hm' : ∀ e, m' e = ((max M B : ℝ) : EReal) := fun e => by
      rw [hm, (h e).1, hB]
      exact (EReal.coe_strictMono.monotone.map_max).symm
    refine ⟨max M B, fun e => ⟨hm' e, ?_, ?_⟩⟩
    · rw [hl, upTo_succ, (h e).1, (h e).2.1]
      simp only [hm']
      rw [sum_pow t c s f hf, ← EReal.coe_sub, Ideal.exp2_coe, ← EReal.coe_mul, ← EReal.coe_add, upTo_mul]
      simp only [two_mul]
    · rw [ha, upTo_succ, (h e).1, (h e).2.2]
      simp only [hm']
      rw [sum_pow_mul t c s v f hf, ← EReal.coe_sub, Ideal.exp2_coe, ← EReal.coe_mul, ← EReal.coe_add, upTo_mul]
      simp only [← mul_assoc, two_mul]

end Cert.FlashMath

end
-- ==== Proof.Flash.Reads.lean ====
/- The blocks each step of the attention's forward kernel reads, over real inputs. -/
module

public import proofs.«01_k».proof.Proof.Flash.Hold
public import proofs.«01_k».proof.Proof.Flash.Part

@[expose] public section

set_option maxRecDepth 16384

noncomputable section

namespace Cert.Kernel15Ideal.Flash

open Cert.Kernel15Ideal Cert.Kernel15Ideal.Gen Cert.FlashMath
open Cert.Kernel2Ideal.AttnValue (lanes lift3 scale qA kA vA q_at k_at v_at)
open Idealize.ShloMosaic Idealize.ShloMosaic.TcCoe

variable (m : (ℓ : Loc nD τ sig) → Buf (Elt Ideal) ℓ) (c : Dev nD) (t : Fin (cfgA (F := Ideal)).N)

/-- The three arguments. -/
abbrev qArg : FVec Ideal S8192x8x96 .f32 := m ((c : Thread nD τ).loc main_arg0)
abbrev kArg : FVec Ideal S8192x8x96 .f32 := m ((c : Thread nD τ).loc main_arg1)
abbrev vArg : FVec Ideal S8192x8x64 .f32 := m ((c : Thread nD τ).loc main_arg2)

theorem V_q : V m c main_v7 = qA (qArg m c) := by entry_read; rfl
theorem V_k : V m c main_v10 = kA (kArg m c) := by entry_read; rfl
theorem V_v : V m c main_v13 = vA (vArg m c) := by entry_read; rfl

/-- A block of 1024 rows at a row of blocks, at an index. -/
theorem block_index (ix : Fin 2 → ℕ) (b : Fin 8) (e : ix = ![b.val, 0]) (s : Fin 1024) (j : Fin 1024) (y : S8192x1024.Idx)
    (h0 : (y 0).val = ix 0 * 1024 + s.val) (h1 : (y 1).val = ix 1 * 1024 + j.val) : y = ix2 (at8 b s) j := by
  subst e
  funext a
  match a with
  | 0 => exact Fin.ext h0
  | 1 => exact Fin.ext (h1.trans (by show 0 * 1024 + j.val = j.val; omega))

theorem block_row_index (ix : Fin 3 → ℕ) (b : Fin 8) (e : ix = ![0, 0, b.val]) (h : Fin 8) (s : Fin 1024) (y : S8x1x8192.Idx)
    (h0 : (y 0).val = ix 0 * 8 + h.val) (h2 : (y 2).val = ix 2 * 1024 + s.val) : y = ix3 h 0 (at8 b s) := by
  subst e
  funext a
  match a with
  | 0 => exact Fin.ext (h0.trans (by show 0 * 8 + h.val = h.val; omega))
  | 1 => exact Subsingleton.elim (α := Fin 1) _ _
  | 2 => exact Fin.ext h2

theorem q_blk (s j : Fin 1024) : qB m c t (ix2 s j) = V m c main_v7 (ix2 (at8 (row (nt t)) s) j) :=
  congrArg (V m c main_v7) (block_index _ _ (ix_0 (F := Ideal) (grid0.coords t)) s j _ (((cfgA (F := Ideal)).win 0).rect_emb_val t (ix2 s j) 0 rfl)
    (((cfgA (F := Ideal)).win 0).rect_emb_val t (ix2 s j) 1 rfl))
theorem k_blk (s j : Fin 1024) : kB m c t (ix2 s j) = V m c main_v10 (ix2 (at8 (col (nt t)) s) j) :=
  congrArg (V m c main_v10) (block_index _ _ (ix_1 (F := Ideal) (grid0.coords t)) s j _ (((cfgA (F := Ideal)).win 1).rect_emb_val t (ix2 s j) 0 rfl)
    (((cfgA (F := Ideal)).win 1).rect_emb_val t (ix2 s j) 1 rfl))
theorem v_blk (s j : Fin 1024) : vB m c t (ix2 s j) = V m c main_v13 (ix2 (at8 (col (nt t)) s) j) :=
  congrArg (V m c main_v13) (block_index _ _ (ix_2 (F := Ideal) (grid0.coords t)) s j _ (((cfgA (F := Ideal)).win 2).rect_emb_val t (ix2 s j) 0 rfl)
    (((cfgA (F := Ideal)).win 2).rect_emb_val t (ix2 s j) 1 rfl))

/-- The entries of a block of the output and of the saved logarithms in their arrays. -/
theorem at_3 (r j : Fin 1024) : (((cfgA (F := Ideal)).win 3).rect t).emb (ix2 r j) = ix2 (at8 (row (nt t)) r) j :=
  block_index _ _ (ix_3 (F := Ideal) (grid0.coords t)) r j _ (((cfgA (F := Ideal)).win 3).rect_emb_val t (ix2 r j) 0 rfl)
    (((cfgA (F := Ideal)).win 3).rect_emb_val t (ix2 r j) 1 rfl)
theorem at_4 (h : Fin 8) (r : Fin 1024) : (((cfgA (F := Ideal)).win 4).rect t).emb (ix3 h 0 r) = ix3 h 0 (at8 (row (nt t)) r) :=
  block_row_index _ _ (ix_4 (F := Ideal) (grid0.coords t)) h r _ (((cfgA (F := Ideal)).win 4).rect_emb_val t (ix3 h 0 r) 0 rfl)
    (((cfgA (F := Ideal)).win 4).rect_emb_val t (ix3 h 0 r) 2 rfl)

variable (q k : Fin 8192 → Fin 8 → Fin 96 → ℝ) (v : Fin 8192 → Fin 8 → Fin 64 → ℝ)
  (hq : qArg m c = lift3 q) (hk : kArg m c = lift3 k) (hv : vArg m c = lift3 v)

include hq in
theorem q_real (s j : Fin 1024) : qB m c t (ix2 s j) = ((lanes q (at8 (row (nt t)) s) j * scale / Real.log 2 : ℝ) : EReal) := by
  rw [q_blk, V_q, hq]; exact q_at q _ _
include hk in
theorem k_real (s j : Fin 1024) : kB m c t (ix2 s j) = (lanes k (at8 (col (nt t)) s) j : EReal) := by
  rw [k_blk, V_k, hk]; exact k_at k _ _
include hv in
theorem v_real (s j : Fin 1024) : vB m c t (ix2 s j) = (lanes v (at8 (col (nt t)) s) j : EReal) := by
  rw [v_blk, V_v, hv]; exact v_at v _ _

end Cert.Kernel15Ideal.Flash

end
-- ==== Proof.Flash.Mean.lean ====
/- The softmax taken block by block, once every key is seen: the weighted mean and the log-sum-exp of the scores. -/
module

public import proofs.«01_k».proof.Proof.Flash.Part
public import proofs.«01_k».proof.Proof.Attn.Steps

@[expose] public section

set_option maxRecDepth 16384

noncomputable section

namespace Cert.FlashMath

open Cert.AttnMath
open Cert.Kernel2Ideal.AttnValue (lanes scale top head lanes_sum log_real div_real lane lanes_lane)
open Idealize.ShloMosaic

variable (q k : Fin 8192 → Fin 8 → Fin 96 → ℝ) (v : Fin 8192 → Fin 8 → Fin 64 → ℝ)

/-- A query's scores in base two; -/
def base2 (h : Fin 8) (t j : Fin 8192) : ℝ := score q k scale h t j / Real.log 2
/-- a head's lane of the values; -/
def valLane (h : Fin 8) (j : Fin 8192) (e : Fin 128) : ℝ := lanes v j (lane h e)
/-- the values' mean under the softmax. -/
def mean (t : Fin 8192) (h : Fin 8) (d : Fin 64) : ℝ := ∑ j, pr q k scale (top q k) h t j * v j h d

theorem log_two_ne : Real.log 2 ≠ 0 := (Real.log_pos (by norm_num)).ne'

/-- The power of two under one maximum is the exponential under another, up to a factor that no key changes. -/
theorem two_eq (h : Fin 8) (t j : Fin 8192) (M T : ℝ) :
    two M (base2 q k h t) j = Real.exp (T - M * Real.log 2) * Real.exp (score q k scale h t j - T) := by
  unfold two base2
  rw [← Real.exp_add]
  show (2 : ℝ) ^ (score q k scale h t j / Real.log 2 - M) = _
  rw [Real.rpow_def_of_pos (by norm_num)]
  congr 1
  have := log_two_ne
  field_simp
  ring

theorem sum_two (b : Fin 8) (r : Fin 1024) (h : Fin 8) (M : ℝ) (w : Fin 8192 → ℝ) :
    upTo (at8 b r) (b.val + 1) (fun j => two M (base2 q k h (at8 b r)) j * w j)
      = Real.exp (top q k h (at8 b r) - M * Real.log 2) * ∑ j, ex q k scale (top q k) h (at8 b r) j * w j := by
  rw [upTo_all, Finset.mul_sum]
  refine Finset.sum_congr rfl fun j _ => ?_
  unfold ex
  split
  · rw [two_eq q k h _ j M (top q k h (at8 b r)), mul_assoc]
  · rw [zero_mul, mul_zero]

theorem sum_two_one (b : Fin 8) (r : Fin 1024) (h : Fin 8) (M : ℝ) :
    upTo (at8 b r) (b.val + 1) (two M (base2 q k h (at8 b r)))
      = Real.exp (top q k h (at8 b r) - M * Real.log 2) * tot q k scale (top q k) h (at8 b r) := by
  have e := sum_two q k b r h M fun _ => 1
  simp only [mul_one] at e
  exact e

/-- The weighted sum over the sum is the mean. -/
theorem mean_eq (b : Fin 8) (r : Fin 1024) (h : Fin 8) (M : ℝ) (e : Fin 128) :
    upTo (at8 b r) (b.val + 1) (fun j => two M (base2 q k h (at8 b r)) j * valLane v h j e) / upTo (at8 b r) (b.val + 1) (two M (base2 q k h (at8 b r)))
      = lanes (mean q k v) (at8 b r) (lane h e) := by
  rw [sum_two, sum_two_one, mul_div_mul_left _ _ (Real.exp_ne_zero _)]
  have eh : head (lane h e) = h := Fin.ext (by show (128 * h.val + e.val) / 128 = h.val; omega)
  refine Eq.trans ?_ (lanes_sum Finset.univ (fun j h' => pr q k scale (top q k) h' (at8 b r) j) (fun _ => v) (mean q k v) id (at8 b r) (fun _ _ => rfl) (lane h e)).symm
  rw [eh, Finset.sum_div]
  refine Finset.sum_congr rfl fun j _ => ?_
  unfold pr valLane
  rw [id, div_mul_eq_mul_div]

/-- The maximum and the logarithm of the sum make the log-sum-exp. -/
theorem lse_eq (b : Fin 8) (r : Fin 1024) (h : Fin 8) (M : ℝ) :
    (M + Real.log (upTo (at8 b r) (b.val + 1) (two M (base2 q k h (at8 b r)))) * (Real.log 2)⁻¹) * Real.log 2 = lse q k scale (top q k) h (at8 b r) := by
  rw [sum_two_one, Real.log_mul (Real.exp_ne_zero _) (tot_pos q k scale (top q k) h (at8 b r)).ne', Real.log_exp, lse, add_mul,
    mul_assoc, inv_mul_cancel₀ log_two_ne, mul_one]
  ring

theorem sum_two_pos (b : Fin 8) (r : Fin 1024) (h : Fin 8) (M : ℝ) : 0 < upTo (at8 b r) (b.val + 1) (two M (base2 q k h (at8 b r))) := by
  rw [sum_two_one]; exact mul_pos (Real.exp_pos _) (tot_pos q k scale (top q k) h (at8 b r))

variable (b : Fin 8) (r : Fin 1024) (h : Fin 8) (m l a : Fin 128 → EReal)
  (H : Holds (at8 b r) (b.val + 1) (base2 q k h (at8 b r)) (valLane v h) m l a)

include H in
theorem holds_mean (e : Fin 128) : Ideal.div (a e) (l e) = (lanes (mean q k v) (at8 b r) (lane h e) : EReal) := by
  rcases H with ⟨hc, _⟩ | ⟨M, H⟩
  · exact absurd hc (Nat.succ_ne_zero _)
  · rw [(H e).2.1, (H e).2.2, div_real _ _ (sum_two_pos q k b r h M).ne', mean_eq]

include H in
theorem holds_lse (e : Fin 128) : (m e + Ideal.log (l e) * (((Real.log 2)⁻¹ : ℝ) : EReal)) * ((Real.log 2 : ℝ) : EReal)
    = (lse q k scale (top q k) h (at8 b r) : EReal) := by
  rcases H with ⟨hc, _⟩ | ⟨M, H⟩
  · exact absurd hc (Nat.succ_ne_zero _)
  · rw [(H e).1, (H e).2.1, log_real _ (sum_two_pos q k b r h M), ← EReal.coe_mul, ← EReal.coe_add, ← EReal.coe_mul, lse_eq]

end Cert.FlashMath

end
-- ==== Proof.Flash.Steps.lean ====
/- One point of the attention's forward kernel over blocks that are real: the three running arrays hold one more block of
   keys; and what the diagonal point writes. -/
module

public import proofs.«01_k».proof.Proof.Flash.Tile
public import proofs.«01_k».proof.Proof.Flash.Reads
public import proofs.«01_k».proof.Proof.Flash.Mean

@[expose] public section

set_option maxRecDepth 16384

noncomputable section

namespace Cert.Kernel15Ideal.Flash

open Cert.Kernel15Ideal Cert.Kernel15Ideal.Gen Cert.AttnMath Cert.FlashMath
open Cert.Kernel2Ideal.AttnValue (lanes lift3 scale top lane head lane_head dot_lanes)
open Idealize.ShloMosaic Idealize.ShloMosaic.TcCoe

theorem tile_at {e : EltTy} (x : Vec Ideal S1024x1024 e) (h : Fin 8) (s : Fin 1024) (l : Fin 128) : tile x h (ix2 s l) = x (ix2 s (lane h l)) := by
  refine congrArg x (funext fun a => Fin.ext ?_)
  match a with
  | 0 => show 0 + 1 * s.val = s.val; omega
  | 1 => show 128 * h.val + 1 * l.val = 128 * h.val + l.val; omega

theorem slab_at {e : EltTy} (x : Vec Ideal S8x1024x128 e) (h : Fin 8) (s : Fin 1024) (l : Fin 128) : slab x h (ix3 0 s l) = x (ix3 h s l) := by
  refine congrArg x (funext fun a => Fin.ext ?_)
  match a with
  | 0 => show h.val + 1 * 0 = h.val; omega
  | 1 => show 0 + 1 * s.val = s.val; omega
  | 2 => show 0 + 1 * l.val = l.val; omega

theorem slabs_at (new : Fin 8 → FVec Ideal S1x1024x128 .f32) (h : Fin 8) (s : Fin 1024) (l : Fin 128) :
    slabs (F := Ideal) (e := .f32) new (ix3 h s l) = new h (ix3 0 s l) := by
  refine congrArg (new h) (funext fun a => ?_)
  match a with
  | 0 => rfl
  | 1 => rfl
  | 2 => rfl

theorem tiles_at (new : Fin 8 → FVec Ideal S1024x128 .f32) (s : Fin 1024) (h : Fin 8) (l : Fin 128) :
    tiles (F := Ideal) (e := .f32) new (ix2 s (lane h l)) = new h (ix2 s l) := by
  have e1 : tileOwn (ix2 s (lane h l)) = h := Fin.ext (by show (128 * h.val + l.val) / 128 = h.val; omega)
  have e2 : tilePos (ix2 s (lane h l)) = ix2 s l := funext fun a => Fin.ext (by
    match a with
    | 0 => rfl
    | 1 => show (128 * h.val + l.val) % 128 = l.val; omega)
  unfold tiles
  rw [e1, e2]

theorem lines_at (new : Fin 8 → FVec Ideal S1x1x1024 .f32) (h : Fin 8) (s : Fin 1024) :
    lines (F := Ideal) (e := .f32) new (ix3 h 0 s) = new h (ix3 0 0 s) := by
  refine congrArg (new h) (funext fun a => ?_)
  match a with
  | 0 => rfl
  | 1 => rfl
  | 2 => rfl

variable (q k : Fin 8192 → Fin 8 → Fin 96 → ℝ) (v : Fin 8192 → Fin 8 → Fin 64 → ℝ)

/-- What the running arrays hold of a head and a row of queries of block `b` after `c` blocks of keys. -/
def HeadHolds (b : Fin 8) (c : ℕ) (h : Fin 8) (r : Fin 1024) (m l a : FVec Ideal S8x1024x128 .f32) : Prop :=
  Holds (at8 b r) c (base2 q k h (at8 b r)) (valLane v h) (fun e => m (ix3 h r e)) (fun e => l (ix3 h r e)) (fun e => a (ix3 h r e))

theorem starts (b : Fin 8) (h : Fin 8) (r : Fin 1024) : HeadHolds q k v b 0 h r (k0_pay1 (F := Ideal)) (k0_pay2 (F := Ideal)) (k0_pay3 (F := Ideal)) :=
  .inl ⟨rfl, fun e => ⟨m_start h r e, l_start h r e, a_start h r e⟩⟩

section Point

variable (a b : Fin 8) (hab : a ≤ b) (x0 x1 x2 : FVec Ideal S1024x1024 .bf16)
  (h0 : ∀ s j, x0 (ix2 s j) = ((lanes q (at8 b s) j * scale / Real.log 2 : ℝ) : EReal))
  (h1 : ∀ r j, x1 (ix2 r j) = (lanes k (at8 a r) j : EReal))
  (h2 : ∀ r j, x2 (ix2 r j) = (lanes v (at8 a r) j : EReal))

include h0 h1 in
theorem dot_at (h : Fin 8) (r s : Fin 1024) :
    ∑ e : Fin 128, tile (F := Ideal) (e := .bf16) x0 h (ix2 r e) * tile (F := Ideal) (e := .bf16) x1 h (ix2 s e) = (base2 q k h (at8 b r) (at8 a s) : EReal) := by
  simp only [tile_at, h0, h1, ← EReal.coe_mul, ← coe_sum]
  congr 1
  simp only [mul_comm _ (lanes k _ _), mul_div_assoc]
  rw [dot_lanes (by decide) k q, base2, score, mul_div_assoc]
  simp only [mul_comm (k _ _ _)]

include hab h0 h1 in
theorem sc_at (h : Fin 8) (r s : Fin 1024) :
    sc (tile (F := Ideal) (e := .bf16) x0 h) (tile (F := Ideal) (e := .bf16) x1 h) (decide (b = a)) r s
      = if at8 a s ≤ at8 b r then (base2 q k h (at8 b r) (at8 a s) : EReal) else ⊥ := by
  by_cases e : b = a
  · subst e
    rw [decide_eq_true rfl]
    unfold sc
    by_cases hle : s ≤ r
    · rw [if_pos ((at8_diag b r s).2 hle)]
      exact (if_pos hle).trans (dot_at q k b b x0 x1 h0 h1 h r s)
    · rw [if_neg fun h' => hle ((at8_diag b r s).1 h')]
      exact if_neg hle
  · rw [decide_eq_false e, if_pos (at8_below b a (lt_of_le_of_ne hab (Ne.symm e)) r s)]
    exact dot_at q k a b x0 x1 h0 h1 h r s

theorem first_seen (a b : Fin 8) (hab : a ≤ b) (r : Fin 1024) : at8 a 0 ≤ at8 b r := by
  have : a.val ≤ b.val := hab
  show a.val * 1024 + 0 ≤ b.val * 1024 + r.val
  omega

include hab h0 h1 h2 in
theorem point_holds (h : Fin 8) (r : Fin 1024) (m l acc : FVec Ideal S8x1024x128 .f32) (H : HeadHolds q k v b a.val h r m l acc) :
    HeadHolds q k v b (a.val + 1) h r (mStep (F := Ideal) x0 x1 m (decide (b = a))) (lStep (F := Ideal) x0 x1 m l (decide (b = a)))
      (aStep (F := Ideal) x0 x1 x2 m acc (decide (b = a))) := by
  have em : ∀ e, mx (tile (F := Ideal) (e := .bf16) x0 h) (tile (F := Ideal) (e := .bf16) x1 h) (slab (F := Ideal) (e := .f32) m h) (decide (b = a)) r e
      = mStep (F := Ideal) x0 x1 m (decide (b = a)) (ix3 h r e) := fun e =>
    ((slabs_at _ h r e).trans (m_eq _ _ _ _ r e)).symm
  refine holds_step (at8 b r) a (base2 q k h (at8 b r)) (valLane v h) _ _ _
    (fun s => sc (tile (F := Ideal) (e := .bf16) x0 h) (tile (F := Ideal) (e := .bf16) x1 h) (decide (b = a)) r s)
    (sc_at q k a b hab x0 x1 h0 h1 h r) (first_seen a b hab r) H _ _ _ ln (fun e => ?_) (fun e => ?_) fun e => ?_
  · refine (em e).symm.trans ?_
    unfold mx
    rw [slab_at]
  · refine (slabs_at _ h r e).trans ((l_eq _ _ _ _ _ r e).trans ?_)
    unfold al pw
    simp only [em, slab_at]
  · refine (slabs_at _ h r e).trans ((a_eq _ _ _ _ _ _ r e).trans ?_)
    unfold al pw
    simp only [em, slab_at, tile_at, h2]
    rfl

end Point

/-- What the diagonal point writes, once the arrays hold every key a query sees. -/
theorem o_out (b : Fin 8) (h : Fin 8) (r : Fin 1024) (m l a : FVec Ideal S8x1024x128 .f32) (H : HeadHolds q k v b (b.val + 1) h r m l a) (e : Fin 128) :
    oOut (F := Ideal) l a (ix2 r (lane h e)) = (lanes (mean q k v) (at8 b r) (lane h e) : EReal) := by
  refine (tiles_at _ r h e).trans ((o_eq _ _ r e).trans ?_)
  rw [slab_at, slab_at]
  exact holds_mean q k v b r h _ _ _ H e

theorem e_out (b : Fin 8) (h : Fin 8) (r : Fin 1024) (m l a : FVec Ideal S8x1024x128 .f32) (H : HeadHolds q k v b (b.val + 1) h r m l a) :
    eOut (F := Ideal) m l (ix3 h 0 r) = (lse q k scale (top q k) h (at8 b r) : EReal) := by
  refine (lines_at _ h r).trans ((e_eq _ _ r).trans ?_)
  rw [slab_at, slab_at]
  exact holds_lse q k v b r h _ _ _ H 0

end Cert.Kernel15Ideal.Flash

end
-- ==== Proof.Flash.Final.lean ====
/- The arrays the attention's forward call leaves, over real inputs: the means and the log-sum-exps. -/
module

public import proofs.«01_k».proof.Proof.Flash.Steps
public import proofs.«01_k».proof.Proof.Attn.Final

@[expose] public section

set_option maxRecDepth 16384

noncomputable section

namespace Cert.Kernel15Ideal.Flash

open Cert.Kernel15Ideal Cert.Kernel15Ideal.Gen Cert.AttnMath Cert.FlashMath
open Cert.Kernel2Ideal.AttnValue (lanes lift3 scale top lane head lane_head spread spread_at)
open Idealize.ShloMosaic Idealize.ShloMosaic.TcCoe

variable (m : (ℓ : Loc nD τ sig) → Buf (Elt Ideal) ℓ) (c : Dev nD)
  (q k : Fin 8192 → Fin 8 → Fin 96 → ℝ) (v : Fin 8192 → Fin 8 → Fin 64 → ℝ)
  (hq : qArg m c = lift3 q) (hk : kArg m c = lift3 k) (hv : vArg m c = lift3 v)

include hq hk hv in
/-- A step over arrays that hold the blocks before it. -/
theorem next_holds (t : Fin (cfgA (F := Ideal)).N) (h : Fin 8) (r : Fin 1024) (y : Run Ideal)
    (H : HeadHolds q k v (row (nt t)) (col (nt t)).val h r (found (nt t) k0_pay1 y.m) (found (nt t) k0_pay2 y.l) (found (nt t) k0_pay3 y.acc)) :
    HeadHolds q k v (row (nt t)) ((col (nt t)).val + 1) h r (next m c t y).m (next m c t y).l (next m c t y).acc :=
  point_holds q k v (col (nt t)) (row (nt t)) (col_le_row (nt t)) _ _ _ (q_real m c t q hq) (k_real m c t k hk) (v_real m c t v hv) h r _ _ _ H

include hq hk hv in
/-- After every step the arrays hold the blocks of keys up to its own. -/
theorem run_holds (h : Fin 8) (r : Fin 1024) (n : ℕ) : ∀ t : Fin (cfgA (F := Ideal)).N, t.val = n →
    HeadHolds q k v (row (nt t)) ((col (nt t)).val + 1) h r (runAt m c t).m (runAt m c t).l (runAt m c t).acc := by
  induction n with
  | zero =>
    intro t ht
    have h0 : col (nt t) = 0 := by rw [nt_zero t ht]; exact row_zero.2
    rw [runAt_first m c t h0 ⟨k0_pay1 (F := Ideal), k0_pay2 (F := Ideal), k0_pay3 (F := Ideal)⟩]
    refine next_holds m c q k v hq hk hv t h r _ ?_
    unfold found
    rw [if_pos h0, if_pos h0, if_pos h0, h0]
    exact starts q k v _ h r
  | succ n ih =>
    intro t ht
    by_cases h0 : col (nt t) = 0
    · rw [runAt_first m c t h0 ⟨k0_pay1 (F := Ideal), k0_pay2 (F := Ideal), k0_pay3 (F := Ideal)⟩]
      refine next_holds m c q k v hq hk hv t h r _ ?_
      unfold found
      rw [if_pos h0, if_pos h0, if_pos h0, h0]
      exact starts q k v _ h r
    · have hn : t.val ≠ 0 := by rw [ht]; exact Nat.succ_ne_zero n
      rw [runAt_succ m c t hn]
      refine next_holds m c q k v hq hk hv t h r _ ?_
      have hp : (prev t).val = n := by show t.val - 1 = n; omega
      have I := ih (prev t) hp
      have ht1 : (prev t).val + 1 < (cfgA (F := Ideal)).N := by rw [hp, ← ht]; exact t.isLt
      have et : (⟨(prev t).val + 1, ht1⟩ : Fin (cfgA (F := Ideal)).N) = t := Fin.ext (by show (prev t).val + 1 = t.val; rw [hp, ht])
      have st := nt_next (prev t) ht1
      rw [et] at st
      rcases st with ⟨_, e, _⟩ | ⟨_, e1, e2⟩
      · exact absurd e h0
      · unfold found
        rw [if_neg h0, if_neg h0, if_neg h0, e1, e2]
        exact I

/-- The log-sum-exps, as an array. -/
def lines8 (f : Fin 8 → Fin 8192 → ℝ) : FVec Ideal S8x1x8192 .f32 := fun i => ((f (i 0) (i 2) : ℝ) : EReal)

theorem covers_3 : ((cfgA (F := Ideal)).win 3).Covers := by decide +kernel
theorem covers_4 : ((cfgA (F := Ideal)).win 4).Covers := by decide +kernel

theorem diag_3 (t : Fin (cfgA (F := Ideal)).N) (hf : ((cfgA (F := Ideal)).win 3).flush t = true) : row (nt t) = col (nt t) := by
  by_contra h
  rw [flush_3 t h] at hf
  exact absurd hf (by decide)
theorem diag_4 (t : Fin (cfgA (F := Ideal)).N) (hf : ((cfgA (F := Ideal)).win 4).flush t = true) : row (nt t) = col (nt t) := by
  by_contra h
  rw [flush_4 t h] at hf
  exact absurd hf (by decide)

include hq hk hv in
theorem o_last (t : Fin (cfgA (F := Ideal)).N) (h : row (nt t) = col (nt t)) (r j : Fin 1024) :
    oOut (runAt m c t).l (runAt m c t).acc (ix2 r j) = spread (mean q k v) (ix2 (at8 (row (nt t)) r) j) := by
  have H := run_holds m c q k v hq hk hv (head j) r t.val t rfl
  rw [← h] at H
  have e := o_out q k v (row (nt t)) (head j) r _ _ _ H ⟨j.val % 128, Nat.mod_lt _ (by decide)⟩
  rw [lane_head] at e
  exact e

include hq hk hv in
theorem e_last (t : Fin (cfgA (F := Ideal)).N) (hd : row (nt t) = col (nt t)) (h : Fin 8) (r : Fin 1024) :
    eOut (runAt m c t).m (runAt m c t).l (ix3 h 0 r) = lines8 (lse q k scale (top q k)) (ix3 h 0 (at8 (row (nt t)) r)) := by
  have H := run_holds m c q k v hq hk hv h r t.val t rfl
  rw [← hd] at H
  exact e_out q k v (row (nt t)) h r _ _ _ H

include hq hk hv in
theorem final_o : (dats m 0 c).arrAt 3 (cfgA (F := Ideal)).N = spread (mean q k v) := by
  refine (dats m 0 c).arrAt_eq_of_covers 3 _ covers_3 fun t hf y => ?_
  have hr := diag_3 t hf
  obtain ⟨r, j, rfl⟩ : ∃ (r : Fin 1024) (j : Fin 1024), y = ix2 r j := ⟨y 0, y 1, funext fun a => match a with | 0 => rfl | 1 => rfl⟩
  refine (o_last m c q k v hq hk hv t hr r j).trans ?_
  exact congrArg (spread (mean q k v)) (at_3 t r j).symm

include hq hk hv in
theorem final_e : (dats m 0 c).arrAt 4 (cfgA (F := Ideal)).N = lines8 (lse q k scale (top q k)) := by
  refine (dats m 0 c).arrAt_eq_of_covers 4 _ covers_4 fun t hf y => ?_
  have hr := diag_4 t hf
  obtain ⟨h, r, rfl⟩ : ∃ (h : Fin 8) (r : Fin 1024), y = ix3 h 0 r := ⟨y 0, y 2, funext fun a => match a with
    | 0 => rfl
    | 1 => Subsingleton.elim (α := Fin 1) _ _
    | 2 => rfl⟩
  refine (e_last m c q k v hq hk hv t hr h r).trans ?_
  exact congrArg (lines8 (lse q k scale (top q k))) (at_4 t h r).symm

end Cert.Kernel15Ideal.Flash

end
-- ==== Proof.Flash.Ref.lean ====
/- The attention's reference, over real inputs: the mean of the values under the softmax, and the log-sum-exp. -/
module

public import proofs.«01_k».proof.Proof.Gen.Reference15Ideal.Run
public import proofs.«01_k».proof.Proof.Attn.Final
public import proofs.«01_k».proof.Proof.Flash.Mean

@[expose] public section

set_option maxRecDepth 16384

noncomputable section

namespace Cert.Reference15Ideal.Flash

open Cert.Reference15Ideal Cert.Reference15Ideal.Gen Cert.AttnMath Cert.FlashMath
open Cert.Kernel2Ideal.AttnValue (lift3 scale scoresA scores_at topA top_at top exA ex_at pad64 pad64_at log_real spread spread_at tot_at totA)
open Cert.Reference2Ideal.AttnValue (prR prR_at)
open Idealize.ShloMosaic Idealize.ShloMosaic.TcCoe Idealize.SL.Sem

section Stages

variable (a0 a1 : FVec Ideal S8192x8x96 .f32) (a2 : FVec Ideal S8192x8x64 .f32) (p : FVec Ideal S8x8192x8192 .f32) (s e : FVec Ideal S8x8192x8192 .f32)

/-- The means, head by head; -/
def headsR : FVec Ideal S8192x8x64 .f32 := transpose S8192x8x64 [2, 0, 1]
  (Host.dotGeneral dot_S8192x8x64_S8x8192x8192_S8x64x8192_0_2_2_1_1_0 none a2 p) transposes_S8x64x8192_S8192x8x64_2_0_1
/-- the same 128 lanes apart; -/
def meanR : FVec Ideal S8192x1024 .f32 := pad64 (headsR a2 p)
/-- each query's greatest score, as a column; -/
def colB (y : FVec Ideal S8x8192 .f32) : FVec Ideal S8x8192x1 .f32 := broadcastInDim S8x8192x1 ![0, 1] bcast_S8x8192_S8x8192x1_0_1 y
/-- the logarithm of the sum of the exponentials; -/
def logR : FVec Ideal S8x8192 .f32 := addf (topA s) (Host.log (Host.reduceAdd (exA s (colB (topA s))) (constant S_ .f32 0x00000000#32) reducesTo_S8x8192x8192_S8x8192_d2 h_S_))
/-- the same with an axis between. -/
def lseR : FVec Ideal S8x1x8192 .f32 := shapeCast S8x1x8192 (logR s) shapeCasts_S8x8192_S8x1x8192

end Stages

section Run

variable (m : (ℓ : Loc nD τ sig) → Buf (Elt Ideal) ℓ) (c : Dev nD)

abbrev qArg : FVec Ideal S8192x8x96 .f32 := m ((c.tc : Thread nD τ).loc main_arg0)
abbrev kArg : FVec Ideal S8192x8x96 .f32 := m ((c.tc : Thread nD τ).loc main_arg1)
abbrev vArg : FVec Ideal S8192x8x64 .f32 := m ((c.tc : Thread nD τ).loc main_arg2)

theorem res_mean : Value.res_out0 m c = meanR (vArg m c) (prR (qArg m c) (kArg m c)) := by
  unfold Value.res_out0 Value.res_main_v24 meanR pad64 headsR
  refine congrArg (fun x => shapeCast S8192x1024 x _) ?_
  refine congrArg (fun x => pad S8192x8x128 _ _ _ x _ _ _) ?_
  refine congrArg (fun x => transpose S8192x8x64 _ x _) ?_
  refine congrArg (fun x => Host.dotGeneral _ none _ x) ?_
  rfl

theorem ends (ρ : Dev nD → PrngReg) :
    θ_run defs (onTc (τ := τ) (main (F := Ideal))) ⟨m, fun _ => 0, ρ⟩ fun r => ∀ c : Dev nD,
      r.2.mem ((c.tc : Thread nD τ).loc main_v24) = meanR (vArg m c) (prR (qArg m c) (kArg m c))
      ∧ r.2.mem ((c.tc : Thread nD τ).loc main_v33) = lseR (scoresA (qArg m c) (kArg m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (res_mean m c), (h c).2.1.trans (by
    unfold lseR logR
    refine congrArg (fun x => shapeCast S8x1x8192 x _) ?_
    refine congrArg₂ addf ?_ (congrArg Host.log (congrArg (fun x => Host.reduceAdd x _ _ _) ?_))
    · rfl
    · rfl), (h c).2.2⟩) (Value.run m ρ)

end Run

variable (q k : Fin 8192 → Fin 8 → Fin 96 → ℝ) (v : Fin 8192 → Fin 8 → Fin 64 → ℝ)

theorem heads_at (t : Fin 8192) (h : Fin 8) (d : Fin 64) : headsR (lift3 v) (prR (lift3 q) (lift3 k)) (ix3 t h d) = (mean q k v t h d : EReal) := by
  pointwise [headsR, prR_at, lift3]
  rw [mean, coe_sum]
  refine Finset.sum_congr rfl fun i _ => ?_
  rw [EReal.coe_mul, mul_comm]

theorem mean_at (t : Fin 8192) (j : Fin 1024) : meanR (lift3 v) (prR (lift3 q) (lift3 k)) (ix2 t j) = spread (mean q k v) (ix2 t j) := by
  rw [spread_at]
  unfold meanR
  exact pad64_at (mean q k v) (headsR (lift3 v) (prR (lift3 q) (lift3 k))) (heads_at q k v) t j

theorem colB_at (y : FVec Ideal S8x8192 .f32) (h : Fin 8) (t : Fin 8192) : colB y (ix3 h t 0) = y (ix2 h t) := by
  pointwise [colB]

theorem sum_log_at (x : FVec Ideal S8x8192 .f32) (e : FVec Ideal S8x8192x8192 .f32) (h : Fin 8) (t : Fin 8192) :
    addf x (Host.log (Host.reduceAdd e (constant S_ .f32 0x00000000#32) reducesTo_S8x8192x8192_S8x8192_d2 h_S_)) (ix2 h t)
      = x (ix2 h t) + Ideal.log (∑ j, e (ix3 h t j)) := by
  pointwise []

theorem log_at (h : Fin 8) (t : Fin 8192) : logR (scoresA (lift3 q) (lift3 k)) (ix2 h t) = (lse q k scale (top q k) h t : EReal) := by
  have he : ∀ j, exA (scoresA (lift3 q) (lift3 k)) (colB (topA (scoresA (lift3 q) (lift3 k)))) (ix3 h t j) = (ex q k scale (top q k) h t j : EReal) :=
    fun j => ex_at q k _ h t j ((colB_at _ h t).trans (top_at q k h t))
  have et : ∑ j, exA (scoresA (lift3 q) (lift3 k)) (colB (topA (scoresA (lift3 q) (lift3 k)))) (ix3 h t j) = (tot q k scale (top q k) h t : EReal) := by
    rw [tot, coe_sum]
    exact Finset.sum_congr rfl fun j _ => he j
  unfold logR
  rw [sum_log_at, top_at, et, log_real _ (tot_pos q k scale (top q k) h t), ← EReal.coe_add, lse]

theorem turn_at (x : FVec Ideal S8x8192 .f32) (h : Fin 8) (t : Fin 8192) : shapeCast S8x1x8192 x shapeCasts_S8x8192_S8x1x8192 (ix3 h 0 t) = x (ix2 h t) := by
  pointwise []

theorem lse_at (h : Fin 8) (t : Fin 8192) : lseR (scoresA (lift3 q) (lift3 k)) (ix3 h 0 t) = (lse q k scale (top q k) h t : EReal) := by
  unfold lseR
  exact (turn_at _ h t).trans (log_at q k h t)

end Cert.Reference15Ideal.Flash

end
-- ==== Proof.Flash.Run.lean ====
/- The attention's forward kernel run: the body's obligation at every point, the launch, and the frame — at any values. -/
module

public import proofs.«01_k».proof.Proof.Flash.Hold

@[expose] public section

set_option maxRecDepth 16384

noncomputable section

namespace Cert.Kernel15Ideal.Flash

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body as the table of bodies spells it at point `t`. -/
abbrev bodyAt (t : Fin (cfgA (F := F)).N) : Prog (TpuEff nD τ sig (Elt F) Λ₀ .tc) PUnit :=
  defs₀ (F := F) .tc (cfgA (F := F)).body ((cfgA (F := F)).bodyArgs t ((cfgA (F := F)).slots t))

/-- The two tables the launch hands the body, apart. -/
theorem tables_pair (c : Dev nD) : (Pipeline.ΦT pre0 (tables (F := F)) c : sProp 𝕄)
    = iprop((((c : Thread nD τ).loc main_c) ↦{fullShare.right} (tab0 c)) ∗ (((c : Thread nD τ).loc main_c_0) ↦{fullShare.right} (tab1 c))) := by
  unfold Pipeline.ΦT Pipeline.prefHeld
  rw [show (Finset.univ : Finset (Fin 2)) = insert 0 {1} from by decide, bigSep_insert (by decide), bigSep_singleton]
  rfl

/-- What the body is called with at point `t`, the windows one by one, -/
def bodyPre (c : Dev nD) (t : Fin (cfgA (F := F)).N) : sProp 𝕄 :=
  iprop((dats m 0 c).Φ t.castSucc ∗ (dats m 0 c).owesAt () t.castSucc
    ∗ (∃ d, owns (c : Thread nD τ) (((cfgA (F := F)).win 0).stage ((cfgA (F := F)).slots t 0)) fullShare ((dats m 0 c).before 0 t d))
    ∗ (∃ d, owns (c : Thread nD τ) (((cfgA (F := F)).win 1).stage ((cfgA (F := F)).slots t 1)) fullShare ((dats m 0 c).before 1 t d))
    ∗ (∃ d, owns (c : Thread nD τ) (((cfgA (F := F)).win 2).stage ((cfgA (F := F)).slots t 2)) fullShare ((dats m 0 c).before 2 t d))
    ∗ (∃ d, owns (c : Thread nD τ) (((cfgA (F := F)).win 3).stage ((cfgA (F := F)).slots t 3)) fullShare ((dats m 0 c).before 3 t d))
    ∗ (∃ d, owns (c : Thread nD τ) (((cfgA (F := F)).win 4).stage ((cfgA (F := F)).slots t 4)) fullShare ((dats m 0 c).before 4 t d)))

/-- what it returns on the diagonal, -/
def bodyPostD (c : Dev nD) (t : Fin (cfgA (F := F)).N) : sProp 𝕄 :=
  iprop((dats m 0 c).Φ t.succ ∗ (dats m 0 c).owesAt () t.succ
    ∗ owns (c : Thread nD τ) (((cfgA (F := F)).win 0).stage ((cfgA (F := F)).slots t 0)) fullShare ((dats m 0 c).after 0 t)
    ∗ owns (c : Thread nD τ) (((cfgA (F := F)).win 1).stage ((cfgA (F := F)).slots t 1)) fullShare ((dats m 0 c).after 1 t)
    ∗ owns (c : Thread nD τ) (((cfgA (F := F)).win 2).stage ((cfgA (F := F)).slots t 2)) fullShare ((dats m 0 c).after 2 t)
    ∗ owns (c : Thread nD τ) (((cfgA (F := F)).win 3).stage ((cfgA (F := F)).slots t 3)) fullShare ((dats m 0 c).after 3 t)
    ∗ owns (c : Thread nD τ) (((cfgA (F := F)).win 4).stage ((cfgA (F := F)).slots t 4)) fullShare ((dats m 0 c).after 4 t))

/-- and off it. -/
def bodyPostO (c : Dev nD) (t : Fin (cfgA (F := F)).N) : sProp 𝕄 :=
  iprop((dats m 0 c).Φ t.succ ∗ (dats m 0 c).owesAt () t.succ
    ∗ owns (c : Thread nD τ) (((cfgA (F := F)).win 0).stage ((cfgA (F := F)).slots t 0)) fullShare ((dats m 0 c).after 0 t)
    ∗ owns (c : Thread nD τ) (((cfgA (F := F)).win 1).stage ((cfgA (F := F)).slots t 1)) fullShare ((dats m 0 c).after 1 t)
    ∗ owns (c : Thread nD τ) (((cfgA (F := F)).win 2).stage ((cfgA (F := F)).slots t 2)) fullShare ((dats m 0 c).after 2 t)
    ∗ (∃ d, owns (c : Thread nD τ) (((cfgA (F := F)).win 3).stage ((cfgA (F := F)).slots t 3)) fullShare ((dats m 0 c).before 3 t d))
    ∗ (∃ d, owns (c : Thread nD τ) (((cfgA (F := F)).win 4).stage ((cfgA (F := F)).slots t 4)) fullShare ((dats m 0 c).before 4 t d)))

theorem Φ_eq (c : Dev nD) (t : Fin ((cfgA (F := F)).N + 1)) : (dats m 0 c).Φ t = carried m c t.val := rfl

set_option maxHeartbeats 1000000 in
theorem sound_diag (c : Dev nD) (t : Fin (cfgA (F := F)).N) (hd : row (nt t) = col (nt t)) :
    bodyPre m c t ⊢ wp frame (wpE (defs₀ (F := F)) Variants.none c none) Set.univ (bodyAt t) (fun _ => bodyPostD m c t) := by
  unfold bodyPre bodyPostD bodyAt
  simp only [before_0, before_1, before_2]
  rw [show (dats m 0 c).Φ t.succ = carried m c (t.val + 1) from rfl,
    Φ_eq, Fin.val_castSucc,
    show (dats m 0 c).owesAt () t.succ = (dats m 0 c).owesAt () t.castSucc from rfl,
    after_0, after_1, after_2, after_3, after_4]
  unfold carried scratch
  rw [tables_pair]
  unfold defs₀; rw [Defs.onTc_tc]
  iintro ⟨⟨⟨%y, %hy, S0, S1, S2⟩, Hr, HA, HB⟩, Ho, ⟨%d0, H0⟩, ⟨%d1, H1⟩, ⟨%d2, H2⟩, ⟨%d3, H3⟩, ⟨%d4, H4⟩⟩
  iapply (sound_point_diag c (grid0.coords t) _ _ _ _ _ _ _ _ (qB m c t) (kB m c t) (vB m c t) _ _ _ _ _ _ _ _
    ((dats m 0 c).before 3 t d3) ((dats m 0 c).before 4 t d4) y.m y.l y.acc hd Set.univ _)
  rw [next_m m c t y hy, next_l m c t y hy, next_a m c t y hy]
  unfold held
  isplitl [HA HB H0 H1 H2 H3 H4 S0 S1 S2]
  · isplitl [HA]; · iexact HA
    isplitl [HB]; · iexact HB
    isplitl [H0]; · iexact H0
    isplitl [H1]; · iexact H1
    isplitl [H2]; · iexact H2
    isplitl [H3]; · iexact H3
    isplitl [H4]; · iexact H4
    isplitl [S0]; · iexact S0
    isplitl [S1]; · iexact S1
    iexact S2
  iintro ⟨HA, HB, H0, H1, H2, H3, H4, S0, S1, S2⟩
  isplitl [Hr HA HB S0 S1 S2]
  · isplitl [S0 S1 S2]
    · iexists (runAt m c t)
      isplitr
      · ipureintro; exact known_succ m c t
      isplitl [S0]; · iexact S0
      isplitl [S1]; · iexact S1
      iexact S2
    isplitl [Hr]; · iexact Hr
    isplitl [HA]; · iexact HA
    iexact HB
  isplitl [Ho]; · iexact Ho
  isplitl [H0]; · iexact H0
  isplitl [H1]; · iexact H1
  isplitl [H2]; · iexact H2
  isplitl [H3]; · iexact H3
  iexact H4

set_option maxHeartbeats 1000000 in
theorem sound_off (c : Dev nD) (t : Fin (cfgA (F := F)).N) (hd : ¬ row (nt t) = col (nt t)) :
    bodyPre m c t ⊢ wp frame (wpE (defs₀ (F := F)) Variants.none c none) Set.univ (bodyAt t) (fun _ => bodyPostO m c t) := by
  unfold bodyPre bodyPostO bodyAt
  simp only [before_0, before_1, before_2]
  rw [show (dats m 0 c).Φ t.succ = carried m c (t.val + 1) from rfl,
    Φ_eq, Fin.val_castSucc,
    show (dats m 0 c).owesAt () t.succ = (dats m 0 c).owesAt () t.castSucc from rfl,
    after_0, after_1, after_2]
  unfold carried scratch
  rw [tables_pair]
  unfold defs₀; rw [Defs.onTc_tc]
  iintro ⟨⟨⟨%y, %hy, S0, S1, S2⟩, Hr, HA, HB⟩, Ho, ⟨%d0, H0⟩, ⟨%d1, H1⟩, ⟨%d2, H2⟩, ⟨%d3, H3⟩, ⟨%d4, H4⟩⟩
  iapply (sound_point_off c (grid0.coords t) _ _ _ _ _ _ _ _ (qB m c t) (kB m c t) (vB m c t) _ _ _ _ _ _ _ _
    ((dats m 0 c).before 3 t d3) ((dats m 0 c).before 4 t d4) y.m y.l y.acc hd Set.univ _)
  rw [next_m m c t y hy, next_l m c t y hy, next_a m c t y hy]
  unfold held
  isplitl [HA HB H0 H1 H2 H3 H4 S0 S1 S2]
  · isplitl [HA]; · iexact HA
    isplitl [HB]; · iexact HB
    isplitl [H0]; · iexact H0
    isplitl [H1]; · iexact H1
    isplitl [H2]; · iexact H2
    isplitl [H3]; · iexact H3
    isplitl [H4]; · iexact H4
    isplitl [S0]; · iexact S0
    isplitl [S1]; · iexact S1
    iexact S2
  iintro ⟨HA, HB, H0, H1, H2, H3, H4, S0, S1, S2⟩
  isplitl [Hr HA HB S0 S1 S2]
  · isplitl [S0 S1 S2]
    · iexists (runAt m c t)
      isplitr
      · ipureintro; exact known_succ m c t
      isplitl [S0]; · iexact S0
      isplitl [S1]; · iexact S1
      iexact S2
    isplitl [Hr]; · iexact Hr
    isplitl [HA]; · iexact HA
    iexact HB
  isplitl [Ho]; · iexact Ho
  isplitl [H0]; · iexact H0
  isplitl [H1]; · iexact H1
  isplitl [H2]; · iexact H2
  isplitl [H3]
  · iexists d3; iexact H3
  iexists d4; iexact H4

theorem body_obligation (c : Dev nD) : BodyObligation (dats (F := F) m 0 c) (defs₀ (F := F)) Variants.none () Set.univ := fun t => by
  rw [bigSep_W0, bigSep_W0]
  by_cases hd : row (nt t) = col (nt t)
  · have l3 : idle0 (F := F) adm.1 3 (((pcfgs (F := F) 0).gridAt adm.1).coords t) = false := live_3 t hd
    have l4 : idle0 (F := F) adm.1 4 (((pcfgs (F := F) 0).gridAt adm.1).coords t) = false := live_4 t hd
    refine triple_restated (sound_diag m c t hd) rfl .rfl fun _ => ?_
    unfold bodyPostD
    dsimp only
    rw [l3]
    iintro H; iexact H
  · have l3 : idle0 (F := F) adm.1 3 (((pcfgs (F := F) 0).gridAt adm.1).coords t) = true := idle_3 t hd
    have l4 : idle0 (F := F) adm.1 4 (((pcfgs (F := F) 0).gridAt adm.1).coords t) = true := idle_4 t hd
    have f3 : ((pcfgs (F := F) 0).win adm 3).flush t = false := flush_3 t hd
    have f4 : ((pcfgs (F := F) 0).win adm 4).flush t = false := flush_4 t hd
    refine triple_restated (sound_off m c t hd) rfl .rfl fun _ => ?_
    unfold bodyPostO
    dsimp only
    rw [l3]
    erw [f3, f4]
    iintro H; iexact H

/-! ## The run and the frame -/

/-- What is carried to the first point, -/
theorem carried_in (c : Dev nD) : iprop(Pipeline.ΦA spec0 c ∗ Pipeline.ΦT pre0 (tables (F := F)) c) ⊢ carried m c 0 := by
  unfold carried scratch Pipeline.ΦA; rw [scopedRest0_eq]
  simp only [← owns_whole]
  iintro ⟨⟨⟨⟨%f0, S0⟩, ⟨%f1, S1⟩, ⟨%f2, S2⟩⟩, Hr⟩, HT⟩
  isplitl [S0 S1 S2]
  · iexists (⟨f0, f1, f2⟩ : Run F)
    isplitr
    · ipureintro; exact fun t h => absurd h (by omega)
    isplitl [S0]; · iexact S0
    isplitl [S1]; · iexact S1
    iexact S2
  isplitl [Hr]; · iexact Hr
  iexact HT

/-- and what is left after the last. -/
theorem carried_out (c : Dev nD) (n : ℕ) : carried m c n ⊢ Pipeline.ΦA spec0 c := by
  unfold carried scratch Pipeline.ΦA; rw [scopedRest0_eq]
  simp only [← owns_whole]
  iintro ⟨⟨%y, %hy, S0, S1, S2⟩, Hr, HT⟩
  iclear HT
  isplitl [S0 S1 S2]
  · isplitl [S0]; · iexists y.m; iexact S0
    isplitl [S1]; · iexists y.l; iexact S1
    iexists y.acc; iexact S2
  iexact Hr

set_option backward.isDefEq.respectTransparency.types false in
set_option maxHeartbeats 800000 in
/-- The launch: every window's array at what the proof data says at the end, every other buffer as the region found it,
    every semaphore at zero. -/
theorem run_main : θ_run defs (onTc (τ := τ) (main (F := F))) (s₀ m ρ)
    (fun r => Pipeline.FramePost (Pipeline.pin pcfgs (fun _ => adm)) (dats m) 0 (V m) r ∧ r.2.sem = fun _ => 0) :=
  Pipeline.θ_run_frameP_track (Q' := _) pcfgs (fun _ => adm) (dats m) (0 : Fin 1) launch0 defs₀ Variants.none m ρ main
    (hbody := fun c => (body_obligation m c).loose) (hshare := fun c => (dats m 0 c).share_full fun _ => rfl)
    (howed := fun _ _ => rfl) (V := V m) (hmain := hmain m) (hA := A_eq m)
    (hpf := fun c k => by fin_cases k; exacts [V_tab0 m c, V_tab1 m c]) (hin := fun c => carried_in m c) (hout := fun c => carried_out m c _)

/-- No window's array is an argument. -/
theorem args_rest : main_arg0 ∈ Pipeline.restRefs sig spec0 ∧ main_arg1 ∈ Pipeline.restRefs sig spec0 ∧ main_arg2 ∈ Pipeline.restRefs sig spec0 :=
  ⟨Pipeline.mem_restRefs_of main_arg0 (by decide) (by decide), Pipeline.mem_restRefs_of main_arg1 (by decide) (by decide),
    Pipeline.mem_restRefs_of main_arg2 (by decide) (by decide)⟩

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨
      ((h.1 c).2 main_arg0 args_rest.1).trans (V_arg m c _ (.inl rfl)),
      ((h.1 c).2 main_arg1 args_rest.2.1).trans (V_arg m c _ (.inr (.inl rfl))),
      ((h.1 c).2 main_arg2 args_rest.2.2).trans (V_arg m c _ (.inr (.inr rfl)))⟩, h.2⟩) (run_main m ρ)

end Cert.Kernel15Ideal.Flash

end
-- ==== Proof.Flash.Words.lean ====
/- The frame of the attention's forward kernel as written, off the one run of `Run`: its text is the idealized
   program's with each named constant read as its own word. -/
module
public import proofs.«01_k».proof.Proof.Flash.Run
public import proofs.«01_k».proof.Proof.Gen.Kernel15
public import proofs.«01_k».proof.Defs
@[expose] public section

set_option maxRecDepth 16384

noncomputable section

namespace Cert.Kernel15Ideal.Flash

open Idealize.ShloMosaic Idealize.ShloMosaic.Tactic
/-- A named constant read as its own word. -/
abbrev words : Named Bits where
  named _ _ {φ} bits := FloatOps.ofBits φ bits

/-- The frame's statement of that reading. -/
def quiet : Prop :=
  ∀ (m : (ℓ : Loc nD τ sig) → Buf (Elt Bits) ℓ) (ρ : Dev nD → PrngReg), True → θ_run (@defs Bits _ words _) (onTc (τ := τ) (@main Bits _ words _)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem quiet_eq : quiet = Cert.quiescent_Kernel15 (hKernel15 := Cert.Kernel15.Gen.facts) := by sl_kernel_rfl

theorem frame_kernel : Cert.quiescent_Kernel15 (hKernel15 := Cert.Kernel15.Gen.facts) :=
  quiet_eq ▸ fun m ρ _ => @frame Bits _ words m ρ

end Cert.Kernel15Ideal.Flash

end
-- ==== Proof.Flash.Claims.lean ====
/- The claims about the attention's forward call: what each program ends with, and that the two end alike where every
   argument is finite. -/
module

public import proofs.«01_k».proof.Proof.Flash.Final
public import proofs.«01_k».proof.Proof.Flash.Ref
public import proofs.«01_k».proof.Proof.Flash.Words
public import proofs.«01_k».proof.Proof.Attn.Equal
public import proofs.«01_k».proof.Proof.Gen.Pre_finite15

@[expose] public section

set_option maxRecDepth 16384

noncomputable section

namespace Cert.FlashEqual

open Cert.Kernel15Ideal.Flash Cert.FlashMath Cert.AttnMath
open Cert.Kernel2Ideal.AttnValue (lift3 spread scale top)
open Cert.AttnEqual (reals lift_reals)
open Idealize.ShloMosaic Idealize.ShloMosaic.TcCoe Idealize.SL.Sem

instance : Subsingleton Cert.Pre_finite15.S_.Idx := ⟨fun a b => funext fun i => i.elim0⟩

theorem args_real (a0 a1 : FVec Ideal Cert.Pre_finite15.S8192x8x96 .f32) (a2 : FVec Ideal Cert.Pre_finite15.S8192x8x64 .f32)
    (h : Cert.Pre_finite15.fn (F := Ideal) a0 a1 a2 = fun _ => 1#1) :
    (∀ i, ((EReal.toReal (a0 i) : ℝ) : EReal) = a0 i) ∧ (∀ i, ((EReal.toReal (a1 i) : ℝ) : EReal) = a1 i)
      ∧ (∀ i, ((EReal.toReal (a2 i) : ℝ) : EReal) = a2 i) := by
  have h0 := congrFun h (Shape.Idx.first Cert.Pre_finite15.Facts.h_S_)
  obtain ⟨h0, e2⟩ := IntOp.andi_eq_one.1 h0
  obtain ⟨e0, e1⟩ := IntOp.andi_eq_one.1 h0
  exact ⟨Cert.Finite.real_of_all a0 _ (fun _ => Cert.Finite.top_word) _ _ _ _ e0, Cert.Finite.real_of_all a1 _ (fun _ => Cert.Finite.top_word) _ _ _ _ e1,
    Cert.Finite.real_of_all a2 _ (fun _ => Cert.Finite.top_word) _ _ _ _ e2⟩

/-- The reference leaves its arguments as they were; it has no semaphore. -/
theorem frame_reference : Cert.quiescent_Reference15Ideal := fun m ρ _ =>
  (θ_run Cert.Reference15Ideal.defs _ _).mono
    (fun r h => ⟨fun c => (h c).2.2, sem_eq_zero_of_no_sems (by decide) r.2⟩) (Cert.Reference15Ideal.Value.run m ρ)

/-- The three named constants are the words the kernel holds. -/
theorem preserves : Cert.preserves_Kernel15_Kernel15Ideal := by
  exact ⟨⟨rfl, fun _ => rfl, rfl⟩, ⟨rfl, fun _ => rfl, rfl⟩, rfl, fun _ => rfl, rfl⟩

theorem kernel_ends (m : (ℓ : Loc Cert.Kernel15Ideal.nD Cert.Kernel15Ideal.τ Cert.Kernel15Ideal.sig) → Buf (Elt Ideal) ℓ) (g : Dev Cert.Kernel15Ideal.nD → PrngReg)
    (hpre : Cert.Pre_Kernel15Ideal_finite15 m) :
    θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
      r.2.mem ((c.tc : Thread Cert.Kernel15Ideal.nD Cert.Kernel15Ideal.τ).loc Cert.Kernel15Ideal.main_v14_0)
          = spread (mean (reals (qArg m c)) (reals (kArg m c)) (reals (vArg m c)))
      ∧ r.2.mem ((c.tc : Thread Cert.Kernel15Ideal.nD Cert.Kernel15Ideal.τ).loc Cert.Kernel15Ideal.main_v14_1)
          = lines8 (lse (reals (qArg m c)) (reals (kArg m c)) scale (top (reals (qArg m c)) (reals (kArg m c))))
      ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)) := by
  refine (θ_run _ _ _).mono (fun r h c => ?_) (run_main (F := Ideal) m g)
  obtain ⟨r0, r1, r2⟩ := args_real _ _ _ (hpre c)
  have hq := lift_reals (qArg m c) r0
  have hk := lift_reals (kArg m c) r1
  have hv := lift_reals (vArg m c) r2
  exact ⟨((h.1 c).1 3).trans (final_o m c _ _ _ hq hk hv), ((h.1 c).1 4).trans (final_e m c _ _ _ hq hk hv),
    ((h.1 c).2 Cert.Kernel15Ideal.main_arg0 args_rest.1).trans (V_arg m c _ (.inl rfl)),
    ((h.1 c).2 Cert.Kernel15Ideal.main_arg1 args_rest.2.1).trans (V_arg m c _ (.inr (.inl rfl))),
    ((h.1 c).2 Cert.Kernel15Ideal.main_arg2 args_rest.2.2).trans (V_arg m c _ (.inr (.inr rfl)))⟩

theorem reference_o (q k : Fin 8192 → Fin 8 → Fin 96 → ℝ) (v : Fin 8192 → Fin 8 → Fin 64 → ℝ) :
    Cert.Reference15Ideal.Flash.meanR (lift3 v) (Cert.Reference2Ideal.AttnValue.prR (lift3 q) (lift3 k)) = spread (mean q k v) := by
  funext i
  idx_vars i
  exact Cert.Reference15Ideal.Flash.mean_at q k v _ _

theorem reference_e (q k : Fin 8192 → Fin 8 → Fin 96 → ℝ) :
    Cert.Reference15Ideal.Flash.lseR (Cert.Kernel2Ideal.AttnValue.scoresA (lift3 q) (lift3 k)) = lines8 (lse q k scale (top q k)) := by
  funext i
  obtain ⟨h, t, rfl⟩ : ∃ (h : Fin 8) (t : Fin 8192), i = ix3 h 0 t := ⟨i 0, i 2, funext fun a => match a with
    | 0 => rfl
    | 1 => Subsingleton.elim (α := Fin 1) _ _
    | 2 => rfl⟩
  exact Cert.Reference15Ideal.Flash.lse_at q k h t

theorem algebraic : Cert.algebraic_Kernel15Ideal_Reference15Ideal_pre_finite15 := by
  intro m g m' g' hpre hag
  refine ⟨_, _, kernel_ends m g hpre, (θ_run _ _ _).mono (fun r h c => ?_) (Cert.Reference15Ideal.Flash.ends m' g')⟩
  obtain ⟨h0, h1, hr⟩ := h c
  obtain ⟨a0, a1, a2⟩ := hag c
  obtain ⟨r0, r1, r2⟩ := args_real _ _ _ (hpre c)
  have hq : Cert.Reference15Ideal.Flash.qArg m' c = lift3 (reals (qArg m c)) := a0.trans (lift_reals (qArg m c) r0)
  have hk : Cert.Reference15Ideal.Flash.kArg m' c = lift3 (reals (kArg m c)) := a1.trans (lift_reals (kArg m c) r1)
  have hv : Cert.Reference15Ideal.Flash.vArg m' c = lift3 (reals (vArg m c)) := a2.trans (lift_reals (vArg m c) r2)
  refine ⟨h0.trans ?_, h1.trans ?_, hr⟩
  · rw [hq, hk, hv]; exact reference_o _ _ _
  · rw [hq, hk]; exact reference_e _ _

end Cert.FlashEqual

end
-- ==== Proof.Xattn.Math.lean ====
/- One query's attention over a set of keys, and its gradients, over the reals. -/
module

public import proofs.«01_k».proof.Proof.Attn.Math

@[expose] public section

noncomputable section

namespace Cert.XattnMath

open Cert.AttnMath (coe_sum fold_max_coe)

variable {n : ℕ} (a : Fin n → ℝ) (k : Fin 256 → Fin n → ℝ) (b : Fin n → ℝ) (v : Fin 256 → Fin n → ℝ)

/-- The scores' scale. -/
def scale : ℝ := 1 / 16
/-- The query's score of key `j`; -/
def sc (j : Fin 256) : ℝ := (∑ d, a d * k j d) * scale
/-- the greatest score; -/
def top : ℝ := (Finset.univ.fold max ⊥ fun j => ((sc a k j : ℝ) : EReal)).toReal
/-- the key's weight before the division; -/
def ex (j : Fin 256) : ℝ := Real.exp (sc a k j - top a k)
/-- the weights' sum; -/
def tot : ℝ := ∑ j, ex a k j
/-- the weight; -/
def pr (j : Fin 256) : ℝ := ex a k j / tot a k
/-- the weight's gradient; -/
def dp (j : Fin 256) : ℝ := ∑ d, b d * v j d
/-- the score's gradient. -/
def ds (j : Fin 256) : ℝ := pr a k j * (dp b v j - ∑ i, dp b v i * pr a k i) * scale

theorem top_coe : Finset.univ.fold max ⊥ (fun j => ((sc a k j : ℝ) : EReal)) = (top a k : EReal) := by
  obtain ⟨M, hM⟩ := fold_max_coe (fun j => ((sc a k j : ℝ) : EReal)) 0 (sc a k 0) rfl fun j => EReal.coe_ne_top _
  unfold top; rw [hM]; rfl

theorem tot_pos : 0 < tot a k := Finset.sum_pos (fun j _ => Real.exp_pos _) ⟨0, Finset.mem_univ _⟩

/-- The score's gradient as the quotient's derivative has it. -/
theorem ds_eq (j : Fin 256) :
    (dp b v j / tot a k + -∑ i, dp b v i * (1 / (tot a k * tot a k)) * ex a k i) * ex a k j * scale = ds a k b v j := by
  have hp := (tot_pos a k).ne'
  unfold ds pr
  have e : ∑ i, dp b v i * (ex a k i / tot a k) = tot a k * ∑ i, dp b v i * (1 / (tot a k * tot a k)) * ex a k i := by
    rw [Finset.mul_sum]
    refine Finset.sum_congr rfl fun i _ => ?_
    field_simp
  rw [e]
  field_simp
  ring

variable {T : ℕ} (q g : Fin T → Fin 4 → Fin 256 → ℝ) (kk vv : Fin 256 → Fin 4 → Fin 256 → ℝ)

/-- Head `h` of the keys or values. -/
def hd (x : Fin 256 → Fin 4 → Fin 256 → ℝ) (h : Fin 4) : Fin 256 → Fin 256 → ℝ := fun j d => x j h d
/-- The gradients: of a query, -/
def gradQ (t : Fin T) (h : Fin 4) (d : Fin 256) : ℝ := ∑ j, ds (q t h) (hd kk h) (g t h) (hd vv h) j * kk j h d
/-- of a key, -/
def gradK (j : Fin 256) (h : Fin 4) (d : Fin 256) : ℝ := ∑ t, ds (q t h) (hd kk h) (g t h) (hd vv h) j * q t h d
/-- of a value. -/
def gradV (j : Fin 256) (h : Fin 4) (d : Fin 256) : ℝ := ∑ t, pr (q t h) (hd kk h) j * g t h d

end Cert.XattnMath

end
-- ==== Proof.Xattn.Block.lean ====
/- What the cross attention's backward body computes from blocks that are real. -/
module

public import proofs.«01_k».proof.Proof.Gen.Kernel3Ideal.Frame
public import proofs.«01_k».proof.Proof.Xattn.Math
public import proofs.«01_k».proof.Proof.Attn.Soft
public import Idealize.ShloMosaic.Lib.Pipeline.ValueKit

@[expose] public section

set_option maxRecDepth 16384

noncomputable section

namespace Cert.Kernel3Ideal.Xattn

open Cert.Kernel3Ideal Cert.Kernel3Ideal.Gen Cert.XattnMath
open Cert.AttnMath (coe_sum)
open Cert.Kernel2Ideal.AttnValue (div_real bot_word)
open Idealize.ShloMosaic Idealize.ShloMosaic.TcCoe

theorem scale_word : Ideal.ofBits .f32 0x3D800000#32 = (scale : EReal) := by
  unfold scale
  simp [Ideal.ofBits, Ideal.ieee, -EReal.coe_mul]; norm_num

/-- Four heads of 256 lanes side by side. -/
def lift {n : ℕ} {φ : FTy} (x : Fin n → Fin 4 → Fin 256 → ℝ) : FVec Ideal ⟨2, ![n, 1024]⟩ φ :=
  fun i => ((x (i 0) ⟨(i 1).val / 256, by have : (i 1).val < 1024 := (i 1).isLt; omega⟩ ⟨(i 1).val % 256, Nat.mod_lt _ (by decide)⟩ : ℝ) : EReal)

theorem lift_at {n : ℕ} {φ : FTy} (x : Fin n → Fin 4 → Fin 256 → ℝ) (t : Fin n) (h : Fin 4) (d : Fin 256) (l : Fin 1024) (hl : l.val = 256 * h.val + d.val) :
    lift (φ := φ) x (ix2 t l) = (x t h d : EReal) := by
  have e1 : (⟨l.val / 256, by omega⟩ : Fin 4) = h := Fin.ext (by show l.val / 256 = h.val; omega)
  have e2 : (⟨l.val % 256, Nat.mod_lt _ (by decide)⟩ : Fin 256) = d := Fin.ext (by show l.val % 256 = d.val; omega)
  exact congrArg₂ (fun u w => ((x t u w : ℝ) : EReal)) e1 e2

/-- The lanes of a head. -/
theorem slice_at {n : ℕ} {φ : FTy} (x : Fin n → Fin 4 → Fin 256 → ℝ) (o : ℕ) (hs : Shape.Slices ⟨2, ![n, 1024]⟩ ![0, o] ⟨2, ![n, 256]⟩)
    (h : Fin 4) (ho : o = 256 * h.val) (t : Fin n) (d : Fin 256) :
    extractStridedSlice ⟨2, ![n, 256]⟩ ![0, o] (lift (φ := φ) x) hs (ix2 t d) = (x t h d : EReal) := by
  subst ho
  have e : extractStridedSlice ⟨2, ![n, 256]⟩ ![0, 256 * h.val] (lift (φ := φ) x) hs (ix2 t d) = lift (φ := φ) x (ix2 t ⟨256 * h.val + d.val, by omega⟩) := by
    refine congrArg (lift (φ := φ) x) (funext fun a => ?_)
    match a with
    | 0 => exact Fin.ext (Nat.zero_add _)
    | 1 => exact Fin.ext rfl
  exact e.trans (lift_at x t h d _ rfl)

section Stages

variable (x k : FVec Ideal S2048x1024 .bf16) (y z : FVec Ideal S256x1024 .bf16) (a : FVec Ideal S2048x256 .bf16) (b : FVec Ideal S256x256 .bf16)

/-- A product along the lanes, one row of the result per query; -/
def along : FVec Ideal S2048x256 .f32 := matmul dot_S2048x256_S256x256_S2048x256_1_1_0_0_n_n none a b (constant S2048x256 .f32 0x00000000#32)
/-- a head's scores; -/
def scores : FVec Ideal S2048x256 .f32 := mulf (along a b) (broadcast S2048x256 (Scalar.ofBits .f32 0x3D800000#32))
/-- a product along the keys, -/
def overKeys : FVec Ideal S2048x256 .f32 := matmul dot_S2048x256_S256x256_S2048x256_1_0_0_1_n_n none a b (constant S2048x256 .f32 0x00000000#32)
/-- and one along the queries. -/
def overQueries (w : FVec Ideal S2048x256 .bf16) : FVec Ideal S256x256 .f32 :=
  matmul dot_S2048x256_S2048x256_S256x256_0_0_1_1_n_n none a w (constant S256x256 .f32 0x00000000#32)

/-- The lanes of a head of the queries, and of the keys. -/
def qs (o : ℕ) (hs : Shape.Slices S2048x1024 ![0, o] S2048x256) : FVec Ideal S2048x256 .bf16 :=
  extractStridedSlice S2048x256 ![0, o] (shapeCast S2048x1024 x shapeCasts_S2048x1024_S2048x1024) hs
def ks (o : ℕ) (hs : Shape.Slices S256x1024 ![0, o] S256x256) : FVec Ideal S256x256 .bf16 :=
  extractStridedSlice S256x256 ![0, o] (shapeCast S256x1024 y shapeCasts_S256x1024_S256x1024) hs

end Stages

section At

variable (t : Fin 2048) (x : Fin 256 → ℝ) (k : Fin 256 → Fin 256 → ℝ) (g : Fin 256 → ℝ) (v : Fin 256 → Fin 256 → ℝ)
  (a : FVec Ideal S2048x256 .bf16) (b : FVec Ideal S256x256 .bf16)

theorem along_at (ha : ∀ d, a (ix2 t d) = (x d : EReal)) (hb : ∀ j d, b (ix2 j d) = (k j d : EReal)) (j : Fin 256) :
    along a b (ix2 t j) = ((∑ d, x d * k j d : ℝ) : EReal) := by
  pointwise [along, ha, hb]
  rw [coe_sum]
  simp only [EReal.coe_mul]

theorem scores_at (ha : ∀ d, a (ix2 t d) = (x d : EReal)) (hb : ∀ j d, b (ix2 j d) = (k j d : EReal)) (j : Fin 256) :
    scores a b (ix2 t j) = (sc x k j : EReal) := by
  pointwise [scores, along_at t x k a b ha hb, scale_word]
  rw [sc, EReal.coe_mul]

theorem weights_at (s : FVec Ideal S2048x256 .f32) (hs : ∀ j, s (ix2 t j) = (sc x k j : EReal)) (j : Fin 256) :
    k0_pay13 s (ix2 t j) = (pr x k j : EReal) := by
  pointwise [k0_pay13, hs, bot_word, top_coe]
  simp only [← EReal.coe_sub, Ideal.exp_coe, ← coe_sum]
  exact div_real _ _ (tot_pos x k).ne'

theorem ds_at (p w : FVec Ideal S2048x256 .f32) (hp : ∀ j, p (ix2 t j) = (pr x k j : EReal)) (hw : ∀ j, w (ix2 t j) = (dp g v j : EReal)) (j : Fin 256) :
    k0_pay23 p w (ix2 t j) = (ds x k g v j : EReal) := by
  pointwise [k0_pay23, hp, hw, scale_word]
  simp only [← EReal.coe_mul, ← coe_sum, ← EReal.coe_sub]
  rfl

theorem overKeys_at (ha : ∀ j, a (ix2 t j) = (x j : EReal)) (hb : ∀ j d, b (ix2 j d) = (k j d : EReal)) (d : Fin 256) :
    overKeys a b (ix2 t d) = ((∑ j, x j * k j d : ℝ) : EReal) := by
  pointwise [overKeys, ha, hb]
  rw [coe_sum]
  simp only [EReal.coe_mul]

theorem overQueries_at (w : FVec Ideal S2048x256 .bf16) (f h : Fin 2048 → Fin 256 → ℝ) (ha : ∀ t j, a (ix2 t j) = (f t j : EReal))
    (hw : ∀ t d, w (ix2 t d) = (h t d : EReal)) (j d : Fin 256) :
    overQueries a w (ix2 j d) = ((∑ t, f t j * h t d : ℝ) : EReal) := by
  pointwise [overQueries, ha, hw]
  rw [coe_sum]
  simp only [EReal.coe_mul]

end At

/-- Four heads side by side. -/
theorem joined_rows (f0 f1 f2 f3 : FVec Ideal S2048x256 .f32) (x : Fin 2048 → Fin 4 → Fin 256 → ℝ)
    (h0 : ∀ t d, f0 (ix2 t d) = (x t 0 d : EReal)) (h1 : ∀ t d, f1 (ix2 t d) = (x t 1 d : EReal))
    (h2 : ∀ t d, f2 (ix2 t d) = (x t 2 d : EReal)) (h3 : ∀ t d, f3 (ix2 t d) = (x t 3 d : EReal)) :
    concatenate S2048x1024 1 [⟨S2048x256, f0⟩, ⟨S2048x256, f1⟩, ⟨S2048x256, f2⟩, ⟨S2048x256, f3⟩] concatenates_S2048x256_S2048x256_S2048x256_S2048x256_S2048x1024_d1
      = lift (φ := .f32) x := by
  funext i
  idx_vars i
  pointwise [h0, h1, h2, h3]
  split_ifs
  all_goals exact (lift_at x _ _ _ _ (by simp <;> omega)).symm

theorem joined_keys (f0 f1 f2 f3 : FVec Ideal S256x256 .f32) (x : Fin 256 → Fin 4 → Fin 256 → ℝ)
    (h0 : ∀ t d, f0 (ix2 t d) = (x t 0 d : EReal)) (h1 : ∀ t d, f1 (ix2 t d) = (x t 1 d : EReal))
    (h2 : ∀ t d, f2 (ix2 t d) = (x t 2 d : EReal)) (h3 : ∀ t d, f3 (ix2 t d) = (x t 3 d : EReal)) :
    concatenate S256x1024 1 [⟨S256x256, f0⟩, ⟨S256x256, f1⟩, ⟨S256x256, f2⟩, ⟨S256x256, f3⟩] concatenates_S256x256_S256x256_S256x256_S256x256_S256x1024_d1
      = lift (φ := .f32) x := by
  funext i
  idx_vars i
  pointwise [h0, h1, h2, h3]
  split_ifs
  all_goals exact (lift_at x _ _ _ _ (by simp <;> omega)).symm

end Cert.Kernel3Ideal.Xattn

end
-- ==== Proof.Xattn.Body.lean ====
/- What the cross attention's backward body stores, over blocks that are real. -/
module

public import proofs.«01_k».proof.Proof.Xattn.Block

@[expose] public section

set_option maxRecDepth 16384

noncomputable section

namespace Cert.Kernel3Ideal.Xattn

open Cert.Kernel3Ideal Cert.Kernel3Ideal.Gen Cert.XattnMath
open Idealize.ShloMosaic Idealize.ShloMosaic.TcCoe

section Stored

variable (x0 x1 : FVec Ideal S2048x1024 .bf16) (x2 x3 : FVec Ideal S256x1024 .bf16) (acc : FVec Ideal S256x1024 .f32)

/-- The block of the queries' gradients the body stores, from the queries, the cotangent, the keys and the values; -/
def dqOut : FVec Ideal S2048x1024 .bf16 :=
  k0_pay1 (k0_pay18 (k0_pay7 x1) (k0_pay8 x2) (k0_pay9 x3) (k0_pay10 x0 x2))
    (k0_pay24 (k0_pay8 x2) (k0_pay11 x0 x2) (k0_pay22 (k0_pay7 x1) (k0_pay9 x3)))
    (k0_pay29 (k0_pay7 x1) (k0_pay8 x2) (k0_pay9 x3) (k0_pay13 (k0_pay12 x0 x2)))
    (k0_pay33 (k0_pay7 x1) (k0_pay9 x3) (k0_pay14 (k0_pay6 x0) (k0_pay8 x2))) (k0_pay34 (k0_pay8 x2))
/-- the keys' gradients so far; -/
def dkOut : FVec Ideal S256x1024 .f32 :=
  k0_pay4 (k0_pay6 x0) (k0_pay19 (k0_pay6 x0) (k0_pay7 x1) (k0_pay9 x3) (k0_pay10 x0 x2))
    (k0_pay25 (k0_pay6 x0) (k0_pay11 x0 x2) (k0_pay22 (k0_pay7 x1) (k0_pay9 x3)))
    (k0_pay30 (k0_pay6 x0) (k0_pay7 x1) (k0_pay9 x3) (k0_pay13 (k0_pay12 x0 x2)))
    (k0_pay33 (k0_pay7 x1) (k0_pay9 x3) (k0_pay14 (k0_pay6 x0) (k0_pay8 x2))) acc
/-- the values'. -/
def dvOut : FVec Ideal S256x1024 .f32 :=
  k0_pay5 (k0_pay16 (k0_pay7 x1) (k0_pay10 x0 x2)) (k0_pay21 (k0_pay7 x1) (k0_pay11 x0 x2)) (k0_pay27 (k0_pay7 x1) (k0_pay13 (k0_pay12 x0 x2)))
    (k0_pay32 (k0_pay7 x1) (k0_pay14 (k0_pay6 x0) (k0_pay8 x2))) acc

/-- A head's weights and its scores' gradients. -/
def pw (o : ℕ) (hq : Shape.Slices S2048x1024 ![0, o] S2048x256) (hk : Shape.Slices S256x1024 ![0, o] S256x256) : FVec Ideal S2048x256 .f32 :=
  k0_pay13 (scores (qs x0 o hq) (ks x2 o hk))
def dw (o : ℕ) (hq : Shape.Slices S2048x1024 ![0, o] S2048x256) (hk : Shape.Slices S256x1024 ![0, o] S256x256) : FVec Ideal S2048x256 .bf16 :=
  k0_pay23 (pw x0 x2 o hq hk) (along (qs x1 o hq) (ks x3 o hk))

def dqHead (o : ℕ) (hq : Shape.Slices S2048x1024 ![0, o] S2048x256) (hk : Shape.Slices S256x1024 ![0, o] S256x256) : FVec Ideal S2048x256 .f32 :=
  overKeys (dw x0 x1 x2 x3 o hq hk) (ks x2 o hk)
def dkHead (o : ℕ) (hq : Shape.Slices S2048x1024 ![0, o] S2048x256) (hk : Shape.Slices S256x1024 ![0, o] S256x256) : FVec Ideal S256x256 .f32 :=
  overQueries (dw x0 x1 x2 x3 o hq hk) (qs x0 o hq)
def dvHead (o : ℕ) (hq : Shape.Slices S2048x1024 ![0, o] S2048x256) (hk : Shape.Slices S256x1024 ![0, o] S256x256) : FVec Ideal S256x256 .f32 :=
  overQueries (truncf .bf16 (pw x0 x2 o hq hk) bitsLt_bf16_f32) (qs x1 o hq)

abbrev q0 := slices_S2048x1024_o0_0_S2048x256
abbrev q1 := slices_S2048x1024_o0_256_S2048x256
abbrev q2 := slices_S2048x1024_o0_512_S2048x256
abbrev q3 := slices_S2048x1024_o0_768_S2048x256
abbrev k0 := slices_S256x1024_o0_0_S256x256
abbrev k1 := slices_S256x1024_o0_256_S256x256
abbrev k2 := slices_S256x1024_o0_512_S256x256
abbrev k3 := slices_S256x1024_o0_768_S256x256

theorem dqOut_eq : dqOut x0 x1 x2 x3 = truncf .bf16 (concatenate S2048x1024 1 [⟨S2048x256, dqHead x0 x1 x2 x3 0 q0 k0⟩, ⟨S2048x256, dqHead x0 x1 x2 x3 256 q1 k1⟩,
    ⟨S2048x256, dqHead x0 x1 x2 x3 512 q2 k2⟩, ⟨S2048x256, dqHead x0 x1 x2 x3 768 q3 k3⟩] concatenates_S2048x256_S2048x256_S2048x256_S2048x256_S2048x1024_d1) bitsLt_bf16_f32 := rfl

theorem dkOut_eq : dkOut x0 x1 x2 x3 acc = addf (shapeCast S256x1024 acc shapeCasts_S256x1024_S256x1024) (concatenate S256x1024 1 [⟨S256x256, dkHead x0 x1 x2 x3 0 q0 k0⟩, ⟨S256x256, dkHead x0 x1 x2 x3 256 q1 k1⟩,
    ⟨S256x256, dkHead x0 x1 x2 x3 512 q2 k2⟩, ⟨S256x256, dkHead x0 x1 x2 x3 768 q3 k3⟩] concatenates_S256x256_S256x256_S256x256_S256x256_S256x1024_d1) := rfl

theorem dvOut_eq : dvOut x0 x1 x2 acc = addf (shapeCast S256x1024 acc shapeCasts_S256x1024_S256x1024) (concatenate S256x1024 1 [⟨S256x256, dvHead x0 x1 x2 0 q0 k0⟩, ⟨S256x256, dvHead x0 x1 x2 256 q1 k1⟩,
    ⟨S256x256, dvHead x0 x1 x2 512 q2 k2⟩, ⟨S256x256, dvHead x0 x1 x2 768 q3 k3⟩] concatenates_S256x256_S256x256_S256x256_S256x256_S256x1024_d1) := rfl

end Stored

section Real

variable (q g : Fin 2048 → Fin 4 → Fin 256 → ℝ) (k v : Fin 256 → Fin 4 → Fin 256 → ℝ) (o : ℕ)
  (hq : Shape.Slices S2048x1024 ![0, o] S2048x256) (hk : Shape.Slices S256x1024 ![0, o] S256x256) (h : Fin 4)

theorem qs_at (ho : o = 256 * h.val) (t : Fin 2048) (d : Fin 256) : qs (lift q) o hq (ix2 t d) = (q t h d : EReal) := by
  refine Eq.trans ?_ (slice_at (φ := .bf16) q o hq h ho t d)
  unfold qs
  rw [shapeCast_self]

theorem ks_at (ho : o = 256 * h.val) (j d : Fin 256) : ks (lift k) o hk (ix2 j d) = (k j h d : EReal) := by
  refine Eq.trans ?_ (slice_at (φ := .bf16) k o hk h ho j d)
  unfold ks
  rw [shapeCast_self]

theorem pw_at (ho : o = 256 * h.val) (t : Fin 2048) (j : Fin 256) : pw (lift q) (lift k) o hq hk (ix2 t j) = (pr (q t h) (hd k h) j : EReal) :=
  weights_at t (q t h) (hd k h) _ (scores_at t (q t h) (hd k h) _ _ (qs_at q o hq h ho t) (ks_at k o hk h ho)) j

theorem dw_at (ho : o = 256 * h.val) (t : Fin 2048) (j : Fin 256) :
    dw (lift q) (lift g) (lift k) (lift v) o hq hk (ix2 t j) = (ds (q t h) (hd k h) (g t h) (hd v h) j : EReal) :=
  ds_at t (q t h) (hd k h) (g t h) (hd v h) _ _ (pw_at q k o hq hk h ho t) (along_at t (g t h) (hd v h) _ _ (qs_at g o hq h ho t) (ks_at v o hk h ho)) j

theorem dqHead_at (ho : o = 256 * h.val) (t : Fin 2048) (d : Fin 256) :
    dqHead (lift q) (lift g) (lift k) (lift v) o hq hk (ix2 t d) = (gradQ q g k v t h d : EReal) :=
  overKeys_at t _ _ _ _ (dw_at q g k v o hq hk h ho t) (ks_at k o hk h ho) d

theorem dkHead_at (ho : o = 256 * h.val) (j d : Fin 256) :
    dkHead (lift q) (lift g) (lift k) (lift v) o hq hk (ix2 j d) = (gradK q g k v j h d : EReal) :=
  overQueries_at _ _ _ _ (dw_at q g k v o hq hk h ho) (qs_at q o hq h ho) j d

theorem dvHead_at (ho : o = 256 * h.val) (j d : Fin 256) :
    dvHead (lift q) (lift g) (lift k) o hq hk (ix2 j d) = (gradV q g k j h d : EReal) :=
  overQueries_at _ _ _ _ (pw_at q k o hq hk h ho) (qs_at g o hq h ho) j d

theorem dqOut_real : dqOut (lift q) (lift g) (lift k) (lift v) = lift (φ := .bf16) (gradQ q g k v) := by
  rw [dqOut_eq, joined_rows _ _ _ _ (gradQ q g k v) (dqHead_at q g k v 0 q0 k0 0 rfl) (dqHead_at q g k v 256 q1 k1 1 rfl)
    (dqHead_at q g k v 512 q2 k2 2 rfl) (dqHead_at q g k v 768 q3 k3 3 rfl)]
  rfl

theorem dkOut_real (acc : FVec Ideal S256x1024 .f32) (i) :
    dkOut (lift q) (lift g) (lift k) (lift v) acc i = acc i + lift (φ := .f32) (gradK q g k v) i := by
  rw [dkOut_eq, joined_keys _ _ _ _ (gradK q g k v) (dkHead_at q g k v 0 q0 k0 0 rfl) (dkHead_at q g k v 256 q1 k1 1 rfl)
    (dkHead_at q g k v 512 q2 k2 2 rfl) (dkHead_at q g k v 768 q3 k3 3 rfl), shapeCast_self]
  rfl

theorem dvOut_real (acc : FVec Ideal S256x1024 .f32) (i) :
    dvOut (lift q) (lift g) (lift k) acc i = acc i + lift (φ := .f32) (gradV q g k) i := by
  rw [dvOut_eq, joined_keys _ _ _ _ (gradV q g k) (dvHead_at q g k 0 q0 k0 0 rfl) (dvHead_at q g k 256 q1 k1 1 rfl)
    (dvHead_at q g k 512 q2 k2 2 rfl) (dvHead_at q g k 768 q3 k3 3 rfl), shapeCast_self]
  rfl

end Real

end Cert.Kernel3Ideal.Xattn

end
-- ==== Proof.Xattn.Final.lean ====
/- What the cross attention's backward call leaves, over arguments that are real. -/
module

public import proofs.«01_k».proof.Proof.Xattn.Body
public import proofs.«01_k».proof.Proof.Gen.Kernel3Ideal.Value

@[expose] public section

set_option maxRecDepth 16384

noncomputable section

namespace Cert.Kernel3Ideal.Xattn

open Cert.Kernel3Ideal Cert.Kernel3Ideal.Gen Cert.XattnMath
open Cert.AttnMath (coe_sum)
open Idealize.ShloMosaic Idealize.ShloMosaic.TcCoe
open Idealize.ShloMosaic.Pipeline (Dat)

variable (m : (ℓ : Loc nD τ sig) → Buf (Elt Ideal) ℓ) (c : Dev nD)

abbrev qArg : FVec Ideal S8192x1024 .f32 := m ((c.tc : Thread nD τ).loc main_arg0)
abbrev kArg : FVec Ideal S256x1024 .f32 := m ((c.tc : Thread nD τ).loc main_arg1)
abbrev vArg : FVec Ideal S256x1024 .f32 := m ((c.tc : Thread nD τ).loc main_arg2)
abbrev gArg : FVec Ideal S8192x1024 .f32 := m ((c.tc : Thread nD τ).loc main_arg3)

/-- The rows a grid point works on. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] :=
  (by decide +kernel : ∀ t : Fin grid0.N, _)

def rowsOf (x : Fin 8192 → Fin 4 → Fin 256 → ℝ) (t : Fin 4) : Fin 2048 → Fin 4 → Fin 256 → ℝ := fun r => x ⟨2048 * t.val + r.val, by omega⟩

abbrev pt (t : Fin cfg0.N) : Fin 4 := ⟨t.val, lt_of_lt_of_eq t.isLt N_0⟩

/-- The arrays the call reads: its arguments, cast. -/
theorem V_q : V m c main_v0 = (truncf .bf16 (qArg m c) bitsLt_bf16_f32 : FVec Ideal S8192x1024 .bf16) := by entry_read; rfl
theorem V_g : V m c main_v1 = (truncf .bf16 (gArg m c) bitsLt_bf16_f32 : FVec Ideal S8192x1024 .bf16) := by entry_read; rfl
theorem V_k : V m c main_v2 = (truncf .bf16 (kArg m c) bitsLt_bf16_f32 : FVec Ideal S256x1024 .bf16) := by entry_read; rfl
theorem V_v : V m c main_v3 = (truncf .bf16 (vArg m c) bitsLt_bf16_f32 : FVec Ideal S256x1024 .bf16) := by entry_read; rfl

theorem rows_lift {φ : FTy} (x : Fin 8192 → Fin 4 → Fin 256 → ℝ) (t : Fin 4) (r : Fin 2048) (l : Fin 1024) (i : Shape.Idx S8192x1024)
    (h0 : (i 0).val = 2048 * t.val + r.val) (h1 : (i 1).val = l.val) : lift (φ := φ) x i = lift (φ := φ) (rowsOf x t) (ix2 r l) := by
  have e : i = ix2 ⟨2048 * t.val + r.val, by omega⟩ l := funext fun a => match a with
    | 0 => Fin.ext h0
    | 1 => Fin.ext h1
  rw [e]; rfl

theorem q_blk (t : Fin cfg0.N) (q : Fin 8192 → Fin 4 → Fin 256 → ℝ) (hq : qArg m c = lift q) : iblk m c 0 t = lift (φ := .bf16) (rowsOf q (pt t)) := by
  funext y
  idx_vars y
  show V m c main_v0 (((cfg0.win 0).blk t).view.emb (ix2 y0 y1)) = _
  rw [V_q, hq]
  refine rows_lift (φ := .bf16) q (pt t) y0 y1 _ ?_ ?_
  · blk_simp [idx t]; exact (by omega : t.val * 2048 + y0.val = 2048 * t.val + y0.val)
  · blk_simp [idx t]

theorem g_blk (t : Fin cfg0.N) (q : Fin 8192 → Fin 4 → Fin 256 → ℝ) (hq : gArg m c = lift q) : iblk m c 1 t = lift (φ := .bf16) (rowsOf q (pt t)) := by
  funext y
  idx_vars y
  show V m c main_v1 (((cfg0.win 1).blk t).view.emb (ix2 y0 y1)) = _
  rw [V_g, hq]
  refine rows_lift (φ := .bf16) q (pt t) y0 y1 _ ?_ ?_
  · blk_simp [idx t]; exact (by omega : t.val * 2048 + y0.val = 2048 * t.val + y0.val)
  · blk_simp [idx t]

theorem k_blk (t : Fin cfg0.N) (k : Fin 256 → Fin 4 → Fin 256 → ℝ) (hk : kArg m c = lift k) : iblk m c 2 t = lift (φ := .bf16) k := by
  funext y
  idx_vars y
  show V m c main_v2 (((cfg0.win 2).blk t).view.emb (ix2 y0 y1)) = _
  rw [V_k, hk]
  blk_ext [idx t]

theorem v_blk (t : Fin cfg0.N) (k : Fin 256 → Fin 4 → Fin 256 → ℝ) (hk : vArg m c = lift k) : iblk m c 3 t = lift (φ := .bf16) k := by
  funext y
  idx_vars y
  show V m c main_v3 (((cfg0.win 3).blk t).view.emb (ix2 y0 y1)) = _
  rw [V_v, hk]
  blk_ext [idx t]

/-- A sum over the rows, block by block. -/
theorem sum_rows (f : Fin 8192 → ℝ) : ∑ p : Fin cfg0.N, ((∑ r : Fin 2048, f ⟨2048 * (pt p).val + r.val, by omega⟩ : ℝ) : EReal) = ((∑ t, f t : ℝ) : EReal) := by
  have e : ∑ p : Fin cfg0.N, ((∑ r : Fin 2048, f ⟨2048 * (pt p).val + r.val, by omega⟩ : ℝ) : EReal)
      = ∑ p : Fin 4, ((∑ r : Fin 2048, f ⟨2048 * p.val + r.val, by omega⟩ : ℝ) : EReal) :=
    Fintype.sum_equiv (finCongr N_0) _ _ fun p => rfl
  rw [e, ← coe_sum, Fin.sum_univ_tiles 4 2048 rfl f]
  refine congrArg _ (Finset.sum_congr rfl fun p _ => Finset.sum_congr rfl fun r _ => congrArg f (Fin.ext ?_))
  simp; try omega

variable (q g : Fin 8192 → Fin 4 → Fin 256 → ℝ) (k v : Fin 256 → Fin 4 → Fin 256 → ℝ)
  (hq : qArg m c = lift q) (hk : kArg m c = lift k) (hv : vArg m c = lift v) (hg : gArg m c = lift g)

/-- What a grid point leaves in the three blocks. -/
theorem outs_dq (t : Fin cfg0.N) : (outsAt0 m c t.val t.isLt).1 = dqOut (iblk m c 0 t) (iblk m c 1 t) (iblk m c 2 t) (iblk m c 3 t) := by
  funext y
  by_cases h : t.val % 4 = 0
  · rw [outsAt0_A m c t h]; frame_out; rfl
  · rw [outsAt0_B m c t h]; frame_out; rfl

theorem zeros (i) : k0_pay2 (F := Ideal) i = 0 := by pointwise [k0_pay2]
theorem zeros' (i) : k0_pay3 (F := Ideal) i = 0 := by pointwise [k0_pay3]

include hq hk hv hg

theorem final_dq : (dats m 0 c).arrAt 4 (cfgs 0).N = lift (φ := .bf16) (gradQ q g k v) := by
  refine (dats m 0 c).arrAt_eq_of_covers 4 _ (by decide +kernel) fun t _ y => ?_
  blk_simp
  rw [after0_4, outs_dq, q_blk m c t q hq, g_blk m c t g hg, k_blk m c t k hk, v_blk m c t v hv, dqOut_real]
  idx_vars y
  refine (rows_lift (φ := .bf16) (gradQ q g k v) (pt t) y0 y1 _ ?_ ?_).symm
  · blk_simp [idx t]; exact (by omega : t.val * 2048 + y0.val = 2048 * t.val + y0.val)
  · blk_simp [idx t]

theorem final_dk : (dats m 0 c).arrAt 5 (cfgs 0).N = lift (φ := .f32) (gradK q g k v) := by
  refine (dats m 0 c).arrAt_eq_of_after_last 5 t0_3 (by decide +kernel) _ fun j => ?_
  blk_simp
  rw [after0_5, Pipeline.eq_sum_fin_of_reset_step_apply_last (fun n h => (outsAt0 m c n h).2.1) 4 (fun _ => 0)
    (fun p i => lift (φ := .f32) (gradK (rowsOf q (pt p)) (rowsOf g (pt p)) k v) i)
    (fun t h j => by
      rw [outsAt0_A m c t h]; frame_out
      refine Eq.trans (b := dkOut (iblk m c 0 t) (iblk m c 1 t) (iblk m c 2 t) (iblk m c 3 t) k0_pay2 j) rfl ?_
      rw [q_blk m c t q hq, g_blk m c t g hg, k_blk m c t k hk, v_blk m c t v hv, dkOut_real, zeros])
    (fun t h j => by
      rw [outsAt0_B m c t h]; frame_out
      refine Eq.trans (b := dkOut (iblk m c 0 t) (iblk m c 1 t) (iblk m c 2 t) (iblk m c 3 t) (outsAt0 m c (t.val - 1) (Nat.lt_of_le_of_lt (Nat.sub_le _ _) t.isLt)).2.1 j) rfl ?_
      rw [q_blk m c t q hq, g_blk m c t g hg, k_blk m c t k hk, v_blk m c t v hv, dkOut_real])
    (le_of_eq N_0) t0_3 rfl j, zero_add]
  exact sum_rows fun t => ds (q t _) (hd k _) (g t _) (hd v _) _ * q t _ _

omit hv in
theorem final_dv : (dats m 0 c).arrAt 6 (cfgs 0).N = lift (φ := .f32) (gradV q g k) := by
  refine (dats m 0 c).arrAt_eq_of_after_last 6 t0_3 (by decide +kernel) _ fun j => ?_
  blk_simp
  rw [after0_6, Pipeline.eq_sum_fin_of_reset_step_apply_last (fun n h => (outsAt0 m c n h).2.2) 4 (fun _ => 0)
    (fun p i => lift (φ := .f32) (gradV (rowsOf q (pt p)) (rowsOf g (pt p)) k) i)
    (fun t h j => by
      rw [outsAt0_A m c t h]; frame_out
      refine Eq.trans (b := dvOut (iblk m c 0 t) (iblk m c 1 t) (iblk m c 2 t) k0_pay3 j) rfl ?_
      rw [q_blk m c t q hq, g_blk m c t g hg, k_blk m c t k hk, dvOut_real, zeros'])
    (fun t h j => by
      rw [outsAt0_B m c t h]; frame_out
      refine Eq.trans (b := dvOut (iblk m c 0 t) (iblk m c 1 t) (iblk m c 2 t) (outsAt0 m c (t.val - 1) (Nat.lt_of_le_of_lt (Nat.sub_le _ _) t.isLt)).2.2 j) rfl ?_
      rw [q_blk m c t q hq, g_blk m c t g hg, k_blk m c t k hk, dvOut_real])
    (le_of_eq N_0) t0_3 rfl j, zero_add]
  exact sum_rows fun t => pr (q t _) (hd k _) _ * g t _ _

end Cert.Kernel3Ideal.Xattn

end
-- ==== Proof.Xattn.Ref.lean ====
/- The reference's gradients of the cross attention, over arguments that are real. -/
module

public import proofs.«01_k».proof.Proof.Gen.Reference3Ideal.Run
public import proofs.«01_k».proof.Proof.Xattn.Block

@[expose] public section

set_option maxRecDepth 16384
set_option maxHeartbeats 1600000

noncomputable section

namespace Cert.Reference3Ideal.Xattn

open Cert.Reference3Ideal Cert.Reference3Ideal.Gen Cert.XattnMath
open Cert.AttnMath (coe_sum)
open Cert.Kernel2Ideal.AttnValue (div_real bot_word)
open Cert.Kernel3Ideal.Xattn (lift lift_at scale_word)
open Idealize.ShloMosaic Idealize.ShloMosaic.TcCoe

section Stages

variable (a0 a3 : FVec Ideal S8192x1024 .f32) (a1 a2 : FVec Ideal S256x1024 .f32) (s e w z p : FVec Ideal S4x8192x256 .f32) (x : FVec Ideal S4x8192x1 .f32) (y : FVec Ideal S4x8192 .f32)

/-- The queries and the keys, head by head; -/
def rowsR : FVec Ideal S8192x4x256 .f32 := shapeCast S8192x4x256 a0 shapeCasts_S8192x1024_S8192x4x256
def keysR : FVec Ideal S256x4x256 .f32 := shapeCast S256x4x256 a1 shapeCasts_S256x1024_S256x4x256
/-- the scores; -/
def scoresR : FVec Ideal S4x8192x256 .f32 := mulf (Host.dotGeneral dot_S8192x4x256_S256x4x256_S4x8192x256_2_2_0_0_1_1 none (rowsR a0) (keysR a1))
  (broadcastInDim S4x8192x256 ![] bcast_S_S4x8192x256 (constant S_ .f32 0x3D800000#32))
/-- each query's greatest; -/
def maxR : FVec Ideal S4x8192 .f32 := Host.reduce FloatOps.maximumf s (constant S_ .f32 0xFF800000#32) reducesTo_S4x8192x256_S4x8192_d2 h_S_
/-- never below minus infinity, one to a row; -/
def columnR : FVec Ideal S4x8192x1 .f32 := broadcastInDim S4x8192x1 ![0, 1] bcast_S4x8192_S4x8192x1_0_1
  (maximumf (broadcastInDim S4x8192 ![] bcast_S_S4x8192 (constant S_ .f32 0xFF800000#32)) y)
def topR : FVec Ideal S4x8192x1 .f32 := columnR (maxR s)
/-- the weights before the division; -/
def exR : FVec Ideal S4x8192x256 .f32 := Host.exp (subf s (broadcastInDim S4x8192x256 ![0, 1, 2] bcast_S4x8192x1_S4x8192x256_0_1_2 x))
/-- their sums; -/
def totR : FVec Ideal S4x8192x1 .f32 := broadcastInDim S4x8192x1 ![0, 1] bcast_S4x8192_S4x8192x1_0_1
  (Host.reduceAdd e (constant S_ .f32 0x00000000#32) reducesTo_S4x8192x256_S4x8192_d2 h_S_)
/-- the weights; -/
def prR : FVec Ideal S4x8192x256 .f32 := Host.divf e (broadcastInDim S4x8192x256 ![0, 1, 2] bcast_S4x8192x1_S4x8192x256_0_1_2 x)
/-- the cotangent, head by head; -/
def ctR : FVec Ideal S4x256x8192 .f32 := transpose S4x256x8192 [1, 2, 0] (rowsR a3) transposes_S8192x4x256_S4x256x8192_1_2_0
/-- the weights' gradients; -/
def dpR : FVec Ideal S4x8192x256 .f32 := Host.dotGeneral dot_S4x256x8192_S256x4x256_S4x8192x256_1_2_2_0_0_1 none (ctR a3) (keysR a2)
/-- the quotient's part through its denominator; -/
def meanR : FVec Ideal S4x8192 .f32 :=
  Host.reduceAdd (Host.negf (shapeCast S4x8192x1 (Host.reduceAdd (mulf (mulf w (broadcastInDim S4x8192x256 ![0, 1, 2] bcast_S4x8192x1_S4x8192x256_0_1_2
      (Host.divf (broadcastInDim S4x8192x1 ![] bcast_S_S4x8192x1 (constant S_ .f32 0x3F800000#32)) (mulf x x)))) e)
      (constant S_ .f32 0x00000000#32) reducesTo_S4x8192x256_S4x8192_d2 h_S_) shapeCasts_S4x8192_S4x8192x1))
    (constant S_ .f32 0x00000000#32) reducesTo_S4x8192x1_S4x8192_d2 h_S_
/-- the scores' gradients; -/
def dsR : FVec Ideal S4x8192x256 .f32 :=
  mulf (mulf (addf (Host.divf w (broadcastInDim S4x8192x256 ![0, 1, 2] bcast_S4x8192x1_S4x8192x256_0_1_2 x))
      (broadcastInDim S4x8192x256 ![0, 1] bcast_S4x8192_S4x8192x256_0_1 y)) e)
    (broadcastInDim S4x8192x256 ![] bcast_S_S4x8192x256 (constant S_ .f32 0x3D800000#32))
def exF : FVec Ideal S4x8192x256 .f32 := exR (scoresR a0 a1) (topR (scoresR a0 a1))
def prF : FVec Ideal S4x8192x256 .f32 := prR (exF a0 a1) (totR (exF a0 a1))
def dsF : FVec Ideal S4x8192x256 .f32 := dsR (exF a0 a1) (dpR a3 a2) (totR (exF a0 a1)) (meanR (exF a0 a1) (dpR a3 a2) (totR (exF a0 a1)))
/-- the queries', -/
def dqR : FVec Ideal S8192x1024 .bf16 := truncf .bf16 (shapeCast S8192x1024 (transpose S8192x4x256 [1, 0, 2]
  (Host.dotGeneral dot_S4x8192x256_S256x4x256_S4x8192x256_2_0_1_2_0_1 none z (keysR a1)) transposes_S4x8192x256_S8192x4x256_1_0_2) shapeCasts_S8192x4x256_S8192x1024) bitsLt_bf16_f32
/-- the keys' -/
def dkR : FVec Ideal S256x1024 .f32 := shapeCast S256x1024 (transpose S256x4x256 [1, 0, 2]
  (Host.dotGeneral dot_S4x8192x256_S8192x4x256_S4x256x256_1_0_2_2_0_1 none z (rowsR a0)) transposes_S4x256x256_S256x4x256_1_0_2) shapeCasts_S256x4x256_S256x1024
/-- and the values'. -/
def dvR : FVec Ideal S256x1024 .f32 := shapeCast S256x1024 (transpose S256x4x256 [2, 0, 1]
  (Host.dotGeneral dot_S4x256x8192_S4x8192x256_S4x256x256_2_1_1_2_0_0 none (ctR a3) p) transposes_S4x256x256_S256x4x256_2_0_1) shapeCasts_S256x4x256_S256x1024

end Stages

section Run

variable (m : (ℓ : Loc nD τ sig) → Buf (Elt Ideal) ℓ) (c : Dev nD)

abbrev qArg : FVec Ideal S8192x1024 .f32 := m ((c.tc : Thread nD τ).loc main_arg0)
abbrev kArg : FVec Ideal S256x1024 .f32 := m ((c.tc : Thread nD τ).loc main_arg1)
abbrev vArg : FVec Ideal S256x1024 .f32 := m ((c.tc : Thread nD τ).loc main_arg2)
abbrev gArg : FVec Ideal S8192x1024 .f32 := m ((c.tc : Thread nD τ).loc main_arg3)

theorem res_dq : Value.res_out0 m c = dqR (kArg m c) (dsF (qArg m c) (gArg m c) (kArg m c) (vArg m c)) := rfl
theorem res_dk : Value.res_out1 m c = dkR (qArg m c) (dsF (qArg m c) (gArg m c) (kArg m c) (vArg m c)) := rfl

end Run

variable (q g : Fin 8192 → Fin 4 → Fin 256 → ℝ) (k v : Fin 256 → Fin 4 → Fin 256 → ℝ)

/-- A lane's place among the heads. -/
def lane (h : Fin 4) (d : Fin 256) : Fin 1024 := ⟨256 * h.val + d.val, by omega⟩

theorem rowsR_apply (x : FVec Ideal S8192x1024 .f32) (t : Fin 8192) (h : Fin 4) (d : Fin 256) : rowsR x (ix3 t h d) = x (ix2 t (lane h d)) := by
  refine shapeCast_apply x _ _ _ ?_
  rw [Shape.rowMajor_val_two, Shape.rowMajor_val_three]
  show t.val * 1024 + (256 * h.val + d.val) = (t.val * 4 + h.val) * 256 + d.val
  omega

theorem keysR_apply (x : FVec Ideal S256x1024 .f32) (t : Fin 256) (h : Fin 4) (d : Fin 256) : keysR x (ix3 t h d) = x (ix2 t (lane h d)) := by
  refine shapeCast_apply x _ _ _ ?_
  rw [Shape.rowMajor_val_two, Shape.rowMajor_val_three]
  show t.val * 1024 + (256 * h.val + d.val) = (t.val * 4 + h.val) * 256 + d.val
  omega

theorem rowsR_at (t : Fin 8192) (h : Fin 4) (d : Fin 256) : rowsR (lift q) (ix3 t h d) = (q t h d : EReal) := by
  rw [rowsR_apply]
  exact lift_at q t h d (lane h d) rfl

theorem keysR_at (t : Fin 256) (h : Fin 4) (d : Fin 256) : keysR (lift k) (ix3 t h d) = (k t h d : EReal) := by
  rw [keysR_apply]
  exact lift_at k t h d (lane h d) rfl

theorem scoresR_at (h : Fin 4) (t : Fin 8192) (j : Fin 256) : scoresR (lift q) (lift k) (ix3 h t j) = (sc (q t h) (hd k h) j : EReal) := by
  pointwise [scoresR, rowsR_at, keysR_at, scale_word]
  rw [sc, EReal.coe_mul, coe_sum]
  simp only [EReal.coe_mul]; rfl

theorem columnR_at (y : FVec Ideal S4x8192 .f32) (h : Fin 4) (t : Fin 8192) : columnR y (ix3 h t 0) = max ⊥ (y (ix2 h t)) := by
  pointwise [columnR, bot_word]

theorem maxR_at (s : FVec Ideal S4x8192x256 .f32) (h : Fin 4) (t : Fin 8192) (hs : ∀ j, s (ix3 h t j) = (sc (q t h) (hd k h) j : EReal)) :
    maxR s (ix2 h t) = (top (q t h) (hd k h) : EReal) := by
  pointwise [maxR, bot_word, hs]
  exact top_coe _ _

theorem greatest_at (s : FVec Ideal S4x8192x256 .f32) (h : Fin 4) (t : Fin 8192) (hs : ∀ j, s (ix3 h t j) = (sc (q t h) (hd k h) j : EReal)) :
    topR s (ix3 h t 0) = (top (q t h) (hd k h) : EReal) := by
  rw [topR, columnR_at, maxR_at q k s h t hs]
  exact max_eq_right bot_le

theorem topR_at (h : Fin 4) (t : Fin 8192) : topR (scoresR (lift q) (lift k)) (ix3 h t 0) = (top (q t h) (hd k h) : EReal) :=
  greatest_at q k _ h t (scoresR_at q k h t)

theorem exR_at (s : FVec Ideal S4x8192x256 .f32) (x : FVec Ideal S4x8192x1 .f32) (h : Fin 4) (t : Fin 8192) (j : Fin 256)
    (hs : s (ix3 h t j) = (sc (q t h) (hd k h) j : EReal)) (hx : x (ix3 h t 0) = (top (q t h) (hd k h) : EReal)) :
    exR s x (ix3 h t j) = (ex (q t h) (hd k h) j : EReal) := by
  pointwise [exR, hs, hx]
  rw [← EReal.coe_sub, Ideal.exp_coe, ex]

theorem exF_at (h : Fin 4) (t : Fin 8192) (j : Fin 256) : exF (lift q) (lift k) (ix3 h t j) = (ex (q t h) (hd k h) j : EReal) :=
  exR_at q k _ _ h t j (scoresR_at q k h t j) (topR_at q k h t)

theorem sum_at (e : FVec Ideal S4x8192x256 .f32) (h : Fin 4) (t : Fin 8192) (he : ∀ j, e (ix3 h t j) = (ex (q t h) (hd k h) j : EReal)) :
    totR e (ix3 h t 0) = (tot (q t h) (hd k h) : EReal) := by
  pointwise [totR, he]
  rw [tot, coe_sum]

theorem totR_at (h : Fin 4) (t : Fin 8192) : totR (exF (lift q) (lift k)) (ix3 h t 0) = (tot (q t h) (hd k h) : EReal) :=
  sum_at q k _ h t (exF_at q k h t)

theorem prR_at (e : FVec Ideal S4x8192x256 .f32) (x : FVec Ideal S4x8192x1 .f32) (h : Fin 4) (t : Fin 8192) (j : Fin 256)
    (he : e (ix3 h t j) = (ex (q t h) (hd k h) j : EReal)) (hx : x (ix3 h t 0) = (tot (q t h) (hd k h) : EReal)) :
    prR e x (ix3 h t j) = (pr (q t h) (hd k h) j : EReal) := by
  pointwise [prR, he, hx]
  exact div_real _ _ (tot_pos _ _).ne'

theorem prF_at (h : Fin 4) (t : Fin 8192) (j : Fin 256) : prF (lift q) (lift k) (ix3 h t j) = (pr (q t h) (hd k h) j : EReal) :=
  prR_at q k _ _ h t j (exF_at q k h t j) (totR_at q k h t)

theorem ctR_at (h : Fin 4) (d : Fin 256) (t : Fin 8192) : ctR (lift g) (ix3 h d t) = (g t h d : EReal) := by
  pointwise [ctR, rowsR_at]

theorem dpR_at (h : Fin 4) (t : Fin 8192) (j : Fin 256) : dpR (lift g) (lift v) (ix3 h t j) = (dp (g t h) (hd v h) j : EReal) := by
  pointwise [dpR, ctR_at, keysR_at]
  rw [dp, coe_sum]
  simp only [EReal.coe_mul]; rfl

theorem meanR_at (e w : FVec Ideal S4x8192x256 .f32) (x : FVec Ideal S4x8192x1 .f32) (h : Fin 4) (t : Fin 8192)
    (he : ∀ j, e (ix3 h t j) = (ex (q t h) (hd k h) j : EReal)) (hw : ∀ j, w (ix3 h t j) = (dp (g t h) (hd v h) j : EReal))
    (hx : x (ix3 h t 0) = (tot (q t h) (hd k h) : EReal)) :
    meanR e w x (ix2 h t) = ((-∑ i, dp (g t h) (hd v h) i * (1 / (tot (q t h) (hd k h) * tot (q t h) (hd k h))) * ex (q t h) (hd k h) i : ℝ) : EReal) := by
  pointwise [meanR, he, hw, hx]
  rw [Fin.sum_univ_one, EReal.coe_neg, coe_sum]
  refine congrArg _ (Finset.sum_congr rfl fun i _ => ?_)
  have h0 := (tot_pos (q t h) (hd k h)).ne'
  rw [← EReal.coe_mul, ← EReal.coe_one, div_real _ _ (mul_ne_zero h0 h0), ← EReal.coe_mul, ← EReal.coe_mul]

theorem dsR_at (e w : FVec Ideal S4x8192x256 .f32) (x : FVec Ideal S4x8192x1 .f32) (h : Fin 4) (t : Fin 8192) (j : Fin 256)
    (he : ∀ j, e (ix3 h t j) = (ex (q t h) (hd k h) j : EReal)) (hw : ∀ j, w (ix3 h t j) = (dp (g t h) (hd v h) j : EReal))
    (hx : x (ix3 h t 0) = (tot (q t h) (hd k h) : EReal)) :
    dsR e w x (meanR e w x) (ix3 h t j) = (ds (q t h) (hd k h) (g t h) (hd v h) j : EReal) := by
  have hm := meanR_at q g k v e w x h t he hw hx
  generalize meanR e w x = y at hm ⊢
  pointwise [dsR, hm, he, hw, hx, scale_word]
  rw [div_real _ _ (tot_pos _ _).ne', ← EReal.coe_add, ← EReal.coe_mul, ← EReal.coe_mul, ds_eq]

theorem dsF_at (h : Fin 4) (t : Fin 8192) (j : Fin 256) :
    dsF (lift q) (lift g) (lift k) (lift v) (ix3 h t j) = (ds (q t h) (hd k h) (g t h) (hd v h) j : EReal) :=
  dsR_at q g k v _ _ _ h t j (exF_at q k h t) (dpR_at g v h t) (totR_at q k h t)

theorem dqR_eq : dqR (lift k) (dsF (lift q) (lift g) (lift k) (lift v)) = lift (φ := .bf16) (gradQ q g k v) := by
  funext i
  idx_vars i
  pointwise [dqR, dsF_at, keysR_at]
  refine Eq.trans ?_ (lift_at (φ := .bf16) (gradQ q g k v) i0 ⟨i1.val / 256, by omega⟩ ⟨i1.val % 256, by omega⟩ i1 (by show i1.val = 256 * (i1.val / 256) + i1.val % 256; omega)).symm
  rw [gradQ, coe_sum]
  simp only [EReal.coe_mul]

theorem dkR_eq : dkR (lift q) (dsF (lift q) (lift g) (lift k) (lift v)) = lift (φ := .f32) (gradK q g k v) := by
  funext i
  idx_vars i
  pointwise [dkR, dsF_at, rowsR_at]
  refine Eq.trans ?_ (lift_at (φ := .f32) (gradK q g k v) i0 ⟨i1.val / 256, by omega⟩ ⟨i1.val % 256, by omega⟩ i1 (by show i1.val = 256 * (i1.val / 256) + i1.val % 256; omega)).symm
  rw [gradK, coe_sum]
  simp only [EReal.coe_mul]

theorem dvR_eq : dvR (lift g) (prF (lift q) (lift k)) = lift (φ := .f32) (gradV q g k) := by
  funext i
  idx_vars i
  pointwise [dvR, prF_at, ctR_at]
  refine Eq.trans ?_ (lift_at (φ := .f32) (gradV q g k) i0 ⟨i1.val / 256, by omega⟩ ⟨i1.val % 256, by omega⟩ i1 (by show i1.val = 256 * (i1.val / 256) + i1.val % 256; omega)).symm
  rw [gradV, coe_sum]
  exact Finset.sum_congr rfl fun t _ => by rw [EReal.coe_mul, mul_comm]

end Cert.Reference3Ideal.Xattn

end
-- ==== Proof.Xattn.Claims.lean ====
/- The claims about the cross attention's backward call. -/
module

public import proofs.«01_k».proof.Proof.Gen.Kernel3.Frame
public import proofs.«01_k».proof.Proof.Gen.Pre_finite3
public import proofs.«01_k».proof.Proof.Attn.Finite
public import proofs.«01_k».proof.Proof.Xattn.Final
public import proofs.«01_k».proof.Proof.Xattn.Ref

@[expose] public section

noncomputable section

namespace Cert.XattnEqual

open Cert.Kernel3Ideal.Xattn Cert.XattnMath
open Idealize.ShloMosaic Idealize.ShloMosaic.TcCoe Idealize.SL.Sem

instance : Subsingleton Cert.Pre_finite3.S_.Idx := ⟨fun a b => funext fun i => i.elim0⟩

theorem args_real (a0 a3 : FVec Ideal Cert.Pre_finite3.S8192x1024 .f32) (a1 a2 : FVec Ideal Cert.Pre_finite3.S256x1024 .f32)
    (h : Cert.Pre_finite3.fn (F := Ideal) a0 a1 a2 a3 = fun _ => 1#1) :
    (∀ i, ((EReal.toReal (a0 i) : ℝ) : EReal) = a0 i) ∧ (∀ i, ((EReal.toReal (a1 i) : ℝ) : EReal) = a1 i)
      ∧ (∀ i, ((EReal.toReal (a2 i) : ℝ) : EReal) = a2 i) ∧ (∀ i, ((EReal.toReal (a3 i) : ℝ) : EReal) = a3 i) := by
  obtain ⟨h012, e3⟩ := IntOp.andi_eq_one.1 (congrFun h (Shape.Idx.first Cert.Pre_finite3.Facts.h_S_))
  obtain ⟨h01, e2⟩ := IntOp.andi_eq_one.1 h012
  obtain ⟨e0, e1⟩ := IntOp.andi_eq_one.1 h01
  exact ⟨Cert.Finite.real_of_all a0 _ (fun _ => Cert.Finite.top_word) _ _ _ _ e0, Cert.Finite.real_of_all a1 _ (fun _ => Cert.Finite.top_word) _ _ _ _ e1,
    Cert.Finite.real_of_all a2 _ (fun _ => Cert.Finite.top_word) _ _ _ _ e2, Cert.Finite.real_of_all a3 _ (fun _ => Cert.Finite.top_word) _ _ _ _ e3⟩

/-- The reals of an array of rows of four heads. -/
def heads {n : ℕ} (x : FVec Ideal ⟨2, ![n, 1024]⟩ .f32) (t : Fin n) (h : Fin 4) (d : Fin 256) : ℝ :=
  EReal.toReal (x (ix2 t ⟨256 * h.val + d.val, by omega⟩))

theorem lift_heads {n : ℕ} (x : FVec Ideal ⟨2, ![n, 1024]⟩ .f32) (hx : ∀ i, ((EReal.toReal (x i) : ℝ) : EReal) = x i) : x = lift (heads x) := by
  funext i
  have h1 : (i 1).val < 1024 := (i 1).isLt
  refine ((hx i).symm.trans (congrArg (fun z => ((EReal.toReal (x z) : ℝ) : EReal)) ((eq_ix2 i).trans ?_)))
  exact congrArg (ix2 (i 0)) (Fin.ext (Nat.div_add_mod (i 1).val 256).symm)

theorem kernel_ends (m : (ℓ : Loc Cert.Kernel3Ideal.nD Cert.Kernel3Ideal.τ Cert.Kernel3Ideal.sig) → Buf (Elt Ideal) ℓ) (g : Dev Cert.Kernel3Ideal.nD → PrngReg)
    (hpre : Cert.Pre_Kernel3Ideal_finite3 m) :
    θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
      r.2.mem ((c.tc : Thread Cert.Kernel3Ideal.nD Cert.Kernel3Ideal.τ).loc Cert.Kernel3Ideal.main_v4_0)
          = lift (φ := .bf16) (gradQ (heads (qArg m c)) (heads (gArg m c)) (heads (kArg m c)) (heads (vArg m c)))
      ∧ r.2.mem ((c.tc : Thread Cert.Kernel3Ideal.nD Cert.Kernel3Ideal.τ).loc Cert.Kernel3Ideal.main_v4_1)
          = lift (φ := .f32) (gradK (heads (qArg m c)) (heads (gArg m c)) (heads (kArg m c)) (heads (vArg m c)))
      ∧ r.2.mem ((c.tc : Thread Cert.Kernel3Ideal.nD Cert.Kernel3Ideal.τ).loc Cert.Kernel3Ideal.main_v4_2)
          = lift (φ := .f32) (gradV (heads (qArg m c)) (heads (gArg m c)) (heads (kArg m c)))
      ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)) := by
  refine (θ_run _ _ _).mono (fun r h c => ?_) (Cert.Kernel3Ideal.Value.run_blocks (F := Ideal) m g)
  obtain ⟨h0, h1, h2, hr⟩ := h c
  obtain ⟨r0, r1, r2, r3⟩ := args_real _ _ _ _ (hpre c)
  have hq := lift_heads (qArg m c) r0
  have hk := lift_heads (kArg m c) r1
  have hv := lift_heads (vArg m c) r2
  have hg := lift_heads (gArg m c) r3
  exact ⟨h0.trans (final_dq m c _ _ _ _ hq hk hv hg), h1.trans (final_dk m c _ _ _ _ hq hk hv hg), h2.trans (final_dv m c _ _ _ hq hk hg), hr⟩

/-- The reference leaves its arguments as they were; it has no semaphore. -/
theorem frame_reference : Cert.quiescent_Reference3Ideal := fun m ρ _ =>
  (θ_run Cert.Reference3Ideal.defs _ _).mono
    (fun r h => ⟨fun c => (h c).2.2.2, sem_eq_zero_of_no_sems (by decide) r.2⟩) (Cert.Reference3Ideal.Value.run m ρ)

theorem algebraic : Cert.algebraic_Kernel3Ideal_Reference3Ideal_pre_finite3 := by
  intro m g m' g' hpre hag
  refine ⟨_, _, _, kernel_ends m g hpre, (θ_run _ _ _).mono (fun r h c => ?_) (Cert.Reference3Ideal.Value.run m' g')⟩
  obtain ⟨h0, h1, h2, hr⟩ := h c
  obtain ⟨a0, a1, a2, a3⟩ := hag c
  obtain ⟨r0, r1, r2, r3⟩ := args_real _ _ _ _ (hpre c)
  have hq : Cert.Reference3Ideal.Xattn.qArg m' c = lift (heads (qArg m c)) := a0.trans (lift_heads (qArg m c) r0)
  have hk : Cert.Reference3Ideal.Xattn.kArg m' c = lift (heads (kArg m c)) := a1.trans (lift_heads (kArg m c) r1)
  have hv : Cert.Reference3Ideal.Xattn.vArg m' c = lift (heads (vArg m c)) := a2.trans (lift_heads (vArg m c) r2)
  have hg : Cert.Reference3Ideal.Xattn.gArg m' c = lift (heads (gArg m c)) := a3.trans (lift_heads (gArg m c) r3)
  refine ⟨h0.trans ?_, h1.trans ?_, h2.trans ?_, hr⟩
  · refine (Cert.Reference3Ideal.Xattn.res_dq m' c).trans ?_
    rw [hq, hk, hv, hg]; exact Cert.Reference3Ideal.Xattn.dqR_eq _ _ _ _
  · refine (Cert.Reference3Ideal.Xattn.res_dk m' c).trans ?_
    rw [hq, hk, hv, hg]; exact Cert.Reference3Ideal.Xattn.dkR_eq _ _ _ _
  · refine Eq.trans (b := Cert.Reference3Ideal.Xattn.dvR (Cert.Reference3Ideal.Xattn.gArg m' c)
      (Cert.Reference3Ideal.Xattn.prF (Cert.Reference3Ideal.Xattn.qArg m' c) (Cert.Reference3Ideal.Xattn.kArg m' c))) rfl ?_
    rw [hq, hk, hg]; exact Cert.Reference3Ideal.Xattn.dvR_eq _ _ _

end Cert.XattnEqual

end
-- ==== Proof.Delta.Value.lean ====
/- The attention output's cotangent carried back through the output projection, and its product with the output
   summed head by head: the arrays the call leaves. -/
module

public import proofs.«01_k».proof.Proof.Gen.Kernel5Ideal.Value
public import proofs.«01_k».proof.Proof.Gen.Kernel5.Frame
public import proofs.«01_k».proof.Proof.Gen.Reference5Ideal.Run
public import Idealize.ShloMosaic.Lib.Pipeline.ValueKit

@[expose] public section

set_option maxRecDepth 16384

noncomputable section

namespace Cert.Kernel5Ideal.Delta

open Cert.Kernel5Ideal Cert.Kernel5Ideal.Gen
open Idealize.ShloMosaic Idealize.ShloMosaic.TcCoe
open Idealize.ShloMosaic.Pipeline (Dat)

/-- A lane among the eight heads' 128. -/
def lane (h : Fin 8) (d : Fin 128) : Fin 1024 := ⟨h.val * 128 + d.val, by omega⟩

/-- The rows of a head of the projection, 128 apart, zero between; -/
def spreadW (w : FVec Ideal S512x1024 .f32) (l : Fin 1024) (j : Fin 1024) : EReal :=
  if h : l.val % 128 < 64 then w (ix2 ⟨l.val / 128 * 64 + l.val % 128, by omega⟩ j) else 0
/-- and the lanes of a head of the output. -/
def spreadO (o : FVec Ideal S8192x8x64 .f32) (t : Fin 8192) (l : Fin 1024) : EReal :=
  if h : l.val % 128 < 64 then o (ix3 t ⟨l.val / 128, by omega⟩ ⟨l.val % 128, h⟩) else 0

/-- The cotangent of the output, -/
def back (ct : FVec Ideal S8192x1024 .f32) (w : FVec Ideal S512x1024 .f32) (t : Fin 8192) (l : Fin 1024) : EReal :=
  ∑ j : Fin 1024, ct (ix2 t j) * spreadW w l j
def backs (ct : FVec Ideal S8192x1024 .f32) (w : FVec Ideal S512x1024 .f32) : FVec Ideal S8192x1024 .bf16 := fun i => back ct w (i 0) (i 1)
/-- and its product with the output, summed over each head. -/
def sums (ct : FVec Ideal S8192x1024 .f32) (w : FVec Ideal S512x1024 .f32) (o : FVec Ideal S8192x8x64 .f32) : FVec Ideal S8192x8 .f32 :=
  fun i => ∑ d : Fin 128, back ct w (i 0) (lane (i 1) d) * spreadO o (i 0) (lane (i 1) d)

section Stages

variable (w : FVec Ideal S512x1024 .f32) (o : FVec Ideal S8192x8x64 .f32)

def wideW : FVec Ideal S1024x1024 .f32 :=
  shapeCast S1024x1024 (pad S8x128x1024 ![0, 0, 0] ![0, 64, 0] ![0, 0, 0] (shapeCast S8x64x1024 w shapeCasts_S512x1024_S8x64x1024) (sitofp .f32 (constantI S_ 32 0#32))
    pads_S8x64x1024_S8x128x1024_000_0640_000 h_S_) shapeCasts_S8x128x1024_S1024x1024
def wideO : FVec Ideal S8192x1024 .f32 :=
  shapeCast S8192x1024 (pad S8192x8x128 ![0, 0, 0] ![0, 0, 64] ![0, 0, 0] o (constant S_ .f32 0x00000000#32) pads_S8192x8x64_S8192x8x128_000_000_0640 h_S_)
    shapeCasts_S8192x8x128_S8192x1024

theorem wideW_at (l j : Fin 1024) : wideW w (ix2 l j) = spreadW w l j := by
  pointwise [wideW, spreadW]
  by_cases h : l.val % 128 < 64
  · rw [dif_pos h, dif_pos ⟨by omega, h⟩]
  · rw [dif_neg h, dif_neg fun h' => h h'.2]
    show (((0#32).toInt : ℝ) : EReal) = 0
    simp

theorem wideO_at (t : Fin 8192) (l : Fin 1024) : wideO o (ix2 t l) = spreadO o t l := by
  pointwise [wideO, spreadO]
  by_cases h : l.val % 128 < 64
  · rw [dif_pos h, dif_pos ⟨by omega, h⟩]
  · rw [dif_neg h, dif_neg fun h' => h h'.2]

end Stages

section Body

variable (x : FVec Ideal S512x1024 .bf16) (y : FVec Ideal S1024x1024 .bf16) (z : FVec Ideal S512x1024 .f32)

theorem product (r : Fin 512) (l : Fin 1024) : k0_pay1 (F := Ideal) x y (ix2 r l) = ∑ j : Fin 1024, x (ix2 r j) * y (ix2 l j) := by
  pointwise [k0_pay1]

theorem stored (r : Fin 512) (l : Fin 1024) : k0_pay3 (F := Ideal) x y (ix2 r l) = ∑ j : Fin 1024, x (ix2 r j) * y (ix2 l j) := by
  pointwise [k0_pay3, product]

theorem summed (r : Fin 512) (h : Fin 8) : k0_pay2 (F := Ideal) x y z (ix2 r h) = ∑ d : Fin 128, (∑ j : Fin 1024, x (ix2 r j) * y (ix2 (lane h d) j)) * z (ix2 r (lane h d)) := by
  pointwise [k0_pay2, product]
  split_ifs
  all_goals exact Finset.sum_congr rfl fun d _ => congrArg (fun l : Fin 1024 => (∑ j : Fin 1024, x (ix2 r j) * y (ix2 l j)) * z (ix2 r l)) (Fin.ext (by simp only [lane]; omega))

end Body

variable (m : (ℓ : Loc nD τ sig) → Buf (Elt Ideal) ℓ) (c : Dev nD)

abbrev qArg : FVec Ideal S8192x8x96 .f32 := m ((c.tc : Thread nD τ).loc main_arg0)
abbrev kArg : FVec Ideal S8192x8x96 .f32 := m ((c.tc : Thread nD τ).loc main_arg1)
abbrev vArg : FVec Ideal S8192x8x64 .f32 := m ((c.tc : Thread nD τ).loc main_arg2)
abbrev wArg : FVec Ideal S512x1024 .f32 := m ((c.tc : Thread nD τ).loc main_arg3)
abbrev gArg : FVec Ideal S8192x1024 .f32 := m ((c.tc : Thread nD τ).loc main_arg4)

theorem idx : ∀ t : Fin cfg0.N, win0_0.index t = ![t.val, 0] ∧ win0_1.index t = ![0, 0] ∧ win0_2.index t = ![t.val, 0] ∧ win0_3.index t = ![t.val, 0]
    ∧ win0_4.index t = ![t.val, 0] :=
  (by decide +kernel : ∀ t : Fin grid0.N, _)

theorem V_g : V m c main_v3 = (truncf .bf16 (gArg m c) bitsLt_bf16_f32 : FVec Ideal S8192x1024 .bf16) := by entry_read; rfl
theorem V_w : V m c main_v4 = (truncf .bf16 (wideW (wArg m c)) bitsLt_bf16_f32 : FVec Ideal S1024x1024 .bf16) := by entry_read; rfl

/-- The attention's output, by the reference's lines. -/
def seenA : IVec S8x8192x8192 1 := broadcastInDim S8x8192x8192 ![1, 2] bcast_S8192x8192_S8x8192x8192_1_2
  (cmpi .sle (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0))))
def scoresA (a0 a1 : FVec Ideal S8192x8x96 .f32) : FVec Ideal S8x8192x8192 .f32 :=
  select seenA (mulf (Host.dotGeneral dot_S8192x8x96_S8192x8x96_S8x8192x8192_2_2_0_0_1_1 none a0 a1) (broadcastInDim S8x8192x8192 ![] bcast_S_S8x8192x8192 (constant S_ .f32 0x3DD105EC#32)))
    (broadcastInDim S8x8192x8192 ![] bcast_S_S8x8192x8192 (id (constant S_ .f32 0xFF800000#32)))
def expsA (s : FVec Ideal S8x8192x8192 .f32) : FVec Ideal S8x8192x8192 .f32 :=
  Host.exp (subf s (broadcastInDim S8x8192x8192 ![0, 1, 2] bcast_S8x8192x1_S8x8192x8192_0_1_2 (broadcastInDim S8x8192x1 ![0, 1] bcast_S8x8192_S8x8192x1_0_1
    (maximumf (broadcastInDim S8x8192 ![] bcast_S_S8x8192 (constant S_ .f32 0xFF800000#32)) (Host.reduce FloatOps.maximumf s (constant S_ .f32 0xFF800000#32) reducesTo_S8x8192x8192_S8x8192_d2 h_S_)))))
def weightsA (e : FVec Ideal S8x8192x8192 .f32) : FVec Ideal S8x8192x8192 .f32 :=
  Host.divf e (broadcastInDim S8x8192x8192 ![0, 1, 2] bcast_S8x8192x1_S8x8192x8192_0_1_2 (broadcastInDim S8x8192x1 ![0, 1] bcast_S8x8192_S8x8192x1_0_1
    (Host.reduceAdd e (constant S_ .f32 0x00000000#32) reducesTo_S8x8192x8192_S8x8192_d2 h_S_)))
def outA (a0 a1 : FVec Ideal S8192x8x96 .f32) (a2 : FVec Ideal S8192x8x64 .f32) : FVec Ideal S8192x8x64 .f32 :=
  transpose S8192x8x64 [2, 0, 1] (Host.dotGeneral dot_S8192x8x64_S8x8192x8192_S8x64x8192_0_2_2_1_1_0 none a2 (weightsA (expsA (scoresA a0 a1)))) transposes_S8x64x8192_S8192x8x64_2_0_1

theorem V_o : V m c main_v29 = wideO (outA (qArg m c) (kArg m c) (vArg m c)) := by
  simp only [V, hostOps0, hostOps0_1, hostOps0_2, hostOps0_3, hostOps0_4, List.flatten_cons, List.flatten_nil, List.cons_append, List.nil_append, List.append_nil,
    StableHlo.TRef.nullary, StableHlo.TRef.binary, StableHlo.TRef.ternary, StableHlo.TRef.unary, StableHlo.TRef.toBuf, StableHlo.TRef.ofBuf, cast_eq]
  after_results_simp
  all_goals rfl

theorem g_blk (t : Fin cfg0.N) (r : Fin 512) (j : Fin 1024) (ht : 512 * t.val + r.val < 8192) :
    (iblk m c 0 t : FVec Ideal S512x1024 .bf16) (ix2 r j) = gArg m c (ix2 ⟨512 * t.val + r.val, ht⟩ j) := by
  show V m c main_v3 (((cfg0.win 0).blk t).view.emb (ix2 r j)) = _
  rw [V_g]
  blk_ext [idx t]

theorem w_blk (t : Fin cfg0.N) (l j : Fin 1024) : (iblk m c 1 t : FVec Ideal S1024x1024 .bf16) (ix2 l j) = spreadW (wArg m c) l j := by
  rw [← wideW_at]
  show V m c main_v4 (((cfg0.win 1).blk t).view.emb (ix2 l j)) = _
  rw [V_w]
  blk_ext [idx t]

theorem o_blk (t : Fin cfg0.N) (r : Fin 512) (l : Fin 1024) (ht : 512 * t.val + r.val < 8192) :
    (iblk m c 2 t : FVec Ideal S512x1024 .f32) (ix2 r l) = spreadO (outA (qArg m c) (kArg m c) (vArg m c)) ⟨512 * t.val + r.val, ht⟩ l := by
  rw [← wideO_at]
  show V m c main_v29 (((cfg0.win 2).blk t).view.emb (ix2 r l)) = _
  rw [V_o]
  generalize outA (qArg m c) (kArg m c) (vArg m c) = o
  blk_ext [idx t]

theorem backs_pt (t : Fin cfg0.N) (y) : k0_pay3 (iblk m c 0 t) (iblk m c 1 t) y = backs (gArg m c) (wArg m c) (((cfg0.win 3).blk t).view.emb y) := by
  idx_vars y
  have ht : 512 * t.val + y0.val < 8192 := by have := lt_of_lt_of_eq t.isLt N_0; omega
  refine (stored _ _ _ _).trans ?_
  refine (Finset.sum_congr rfl fun j _ => congrArg₂ (fun a b : EReal => a * b) (g_blk m c t y0 j ht) (w_blk m c t y1 j)).trans ?_
  refine congrArg₂ (back (gArg m c) (wArg m c)) (Fin.ext ?_) (Fin.ext ?_)
  · blk_simp [idx t]; exact (by omega : 512 * t.val + y0.val = t.val * 512 + y0.val)
  · blk_simp [idx t]

theorem final_backs : (dats m 0 c).arrAt 3 (cfgs 0).N = backs (gArg m c) (wArg m c) := by
  refine (dats m 0 c).arrAt_eq_of_covers 3 _ (by decide +kernel) fun t _ y => ?_
  blk_simp
  rw [after0_3]; frame_out
  exact backs_pt m c t y

theorem sums_pt (t : Fin cfg0.N) (y) : k0_pay2 (iblk m c 0 t) (iblk m c 1 t) (iblk m c 2 t) y
    = sums (gArg m c) (wArg m c) (outA (qArg m c) (kArg m c) (vArg m c)) (((cfg0.win 4).blk t).view.emb y) := by
  idx_vars y
  have ht : 512 * t.val + y0.val < 8192 := by have := lt_of_lt_of_eq t.isLt N_0; omega
  refine (summed _ _ _ _ _).trans ?_
  refine (Finset.sum_congr rfl fun d _ => congrArg₂ (fun a b : EReal => a * b)
    (Finset.sum_congr rfl fun j _ => congrArg₂ (fun a b : EReal => a * b) (g_blk m c t y0 j ht) (w_blk m c t (lane y1 d) j)) (o_blk m c t y0 (lane y1 d) ht)).trans ?_
  generalize outA (qArg m c) (kArg m c) (vArg m c) = o
  refine congrArg₂ (fun (u : Fin 8192) (h : Fin 8) => ∑ d : Fin 128, back (gArg m c) (wArg m c) u (lane h d) * spreadO o u (lane h d)) (Fin.ext ?_) (Fin.ext ?_)
  · blk_simp [idx t]; exact (by omega : 512 * t.val + y0.val = t.val * 512 + y0.val)
  · blk_simp [idx t]

theorem final_sums : (dats m 0 c).arrAt 4 (cfgs 0).N = sums (gArg m c) (wArg m c) (outA (qArg m c) (kArg m c) (vArg m c)) := by
  refine (dats m 0 c).arrAt_eq_of_covers 4 _ (by decide +kernel) fun t _ y => ?_
  blk_simp
  rw [after0_4]; frame_out
  exact sums_pt m c t y

end Cert.Kernel5Ideal.Delta

namespace Cert.Reference5Ideal.Delta

open Cert.Reference5Ideal Cert.Reference5Ideal.Gen
open Cert.Kernel5Ideal.Delta (lane spreadW spreadO back backs sums outA)
open Idealize.ShloMosaic Idealize.ShloMosaic.TcCoe

def headsR (w : FVec Ideal S512x1024 .f32) (ct : FVec Ideal S8192x1024 .f32) : FVec Ideal S8192x8x64 .f32 :=
  shapeCast S8192x8x64 (Host.dotGeneral dot_S8192x1024_S512x1024_S8192x512_1_1_0_0_n_n none ct w) shapeCasts_S8192x512_S8192x8x64
def backR (g : FVec Ideal S8192x8x64 .f32) : FVec Ideal S8192x1024 .bf16 :=
  truncf .bf16 (shapeCast S8192x1024 (pad S8192x8x128 ![0, 0, 0] ![0, 0, 64] ![0, 0, 0] g (constant S_ .f32 0x00000000#32) pads_S8192x8x64_S8192x8x128_000_000_0640 h_S_)
    shapeCasts_S8192x8x128_S8192x1024) bitsLt_bf16_f32
def sumR (g o : FVec Ideal S8192x8x64 .f32) : FVec Ideal S8192x8 .f32 :=
  Host.reduceAdd (mulf g o) (constant S_ .f32 0x00000000#32) reducesTo_S8192x8x64_S8192x8_d2 h_S_

variable (w : FVec Ideal S512x1024 .f32) (ct : FVec Ideal S8192x1024 .f32) (o : FVec Ideal S8192x8x64 .f32)

theorem headsR_at (t : Fin 8192) (h : Fin 8) (d : Fin 64) : headsR w ct (ix3 t h d) = ∑ j : Fin 1024, ct (ix2 t j) * w (ix2 ⟨h.val * 64 + d.val, by omega⟩ j) := by
  pointwise [headsR]

/-- A lane within a head carries the head's cotangent; one past it, nothing. -/
theorem back_in (t : Fin 8192) (l : Fin 1024) (h : l.val % 128 < 64) : back ct w t l = headsR w ct (ix3 t ⟨l.val / 128, by omega⟩ ⟨l.val % 128, h⟩) := by
  rw [headsR_at]
  exact Finset.sum_congr rfl fun j _ => by rw [spreadW, dif_pos h]

theorem back_out (t : Fin 8192) (l : Fin 1024) (h : ¬ l.val % 128 < 64) : back ct w t l = 0 :=
  Finset.sum_eq_zero fun j _ => by rw [spreadW, dif_neg h, mul_zero]

theorem backR_eq : backR (headsR w ct) = backs ct w := by
  funext i
  idx_vars i
  show _ = back ct w i0 i1
  by_cases h : i1.val % 128 < 64
  · rw [back_in w ct i0 i1 h]
    generalize headsR w ct = g
    pointwise [backR]
    rw [dif_pos ⟨by omega, h⟩]
  · rw [back_out w ct i0 i1 h]
    generalize headsR w ct = g
    pointwise [backR]
    rw [dif_neg fun h' => h h'.2]

theorem sumR_eq : sumR (headsR w ct) o = sums ct w o := by
  funext i
  idx_vars i
  show _ = ∑ d : Fin 128, back ct w i0 (lane i1 d) * spreadO o i0 (lane i1 d)
  rw [Fin.sum_univ_tiles 2 64 rfl (fun d : Fin 128 => back ct w i0 (lane i1 d) * spreadO o i0 (lane i1 d)), Fin.sum_univ_two]
  have e : ∀ d : Fin 64, back ct w i0 (lane i1 ⟨(1 : Fin 2).val * 64 + d.val, by simp; omega⟩) * spreadO o i0 (lane i1 ⟨(1 : Fin 2).val * 64 + d.val, by simp; omega⟩) = 0 := fun d => by
    rw [back_out w ct _ _ (by simp only [lane]; simp; omega), zero_mul]
  refine Eq.trans ?_ (congrArg₂ (· + ·) rfl (Finset.sum_eq_zero fun d _ => e d)).symm
  rw [add_zero]
  generalize hg : headsR w ct = g
  pointwise [sumR]
  refine Finset.sum_congr rfl fun d _ => ?_
  have hd : (lane i1 ⟨d.val, by omega⟩).val % 128 < 64 := by simp only [lane]; omega
  have ed : (ix3 i0 ⟨(lane i1 ⟨d.val, by omega⟩).val / 128, by omega⟩ ⟨(lane i1 ⟨d.val, by omega⟩).val % 128, hd⟩ : S8192x8x64.Idx) = ix3 i0 i1 d :=
    congrArg₂ (fun (a : Fin 8) (b : Fin 64) => (ix3 i0 a b : S8192x8x64.Idx)) (Fin.ext (by simp only [lane]; omega)) (Fin.ext (by simp only [lane]; omega))
  rw [back_in w ct _ _ hd, spreadO, dif_pos hd, hg, ed]

end Cert.Reference5Ideal.Delta

end
-- ==== Proof.Delta.Claims.lean ====
/- The claims about the attention output's cotangent. -/
module

public import proofs.«01_k».proof.Defs
public import proofs.«01_k».proof.Proof.Delta.Value

@[expose] public section

noncomputable section

namespace Cert.DeltaEqual

open Cert.Kernel5Ideal.Delta
open Idealize.ShloMosaic Idealize.ShloMosaic.TcCoe Idealize.SL.Sem

/-- The reference leaves its arguments as they were; it has no semaphore. -/
theorem frame_reference : Cert.quiescent_Reference5Ideal := fun m ρ _ =>
  (θ_run Cert.Reference5Ideal.defs _ _).mono
    (fun r h => ⟨fun c => (h c).2.2, sem_eq_zero_of_no_sems (by decide) r.2⟩) (Cert.Reference5Ideal.Value.run m ρ)

section Reference

open Cert.Reference5Ideal

variable (m : (ℓ : Loc nD τ sig) → Buf (Elt Ideal) ℓ) (c : Dev nD)

theorem res_sums : Cert.Reference5Ideal.Value.res_out1 m c
    = Cert.Reference5Ideal.Delta.sumR (Cert.Reference5Ideal.Delta.headsR (m ((c.tc : Thread nD τ).loc main_arg3)) (m ((c.tc : Thread nD τ).loc main_arg4)))
        (outA (m ((c.tc : Thread nD τ).loc main_arg0)) (m ((c.tc : Thread nD τ).loc main_arg1)) (m ((c.tc : Thread nD τ).loc main_arg2))) := rfl

end Reference

theorem algebraic : Cert.algebraic_Kernel5Ideal_Reference5Ideal := by
  intro m g m' g' hpre hag
  refine ⟨fun c => backs (gArg m c) (wArg m c), fun c => sums (gArg m c) (wArg m c) (outA (qArg m c) (kArg m c) (vArg m c)),
    (θ_run _ _ _).mono (fun r h c => ?_) (Cert.Kernel5Ideal.Value.run_blocks (F := Ideal) m g), (θ_run _ _ _).mono (fun r h c => ?_) (Cert.Reference5Ideal.Value.run m' g')⟩
  · exact ⟨(h c).1.trans (final_backs m c), (h c).2.1.trans (final_sums m c), (h c).2.2⟩
  · obtain ⟨a0, a1, a2, a3, a4⟩ := hag c
    refine ⟨(h c).1.trans ?_, (h c).2.1.trans ((res_sums m' c).trans ?_), (h c).2.2⟩
    · rw [a3, a4]; exact Cert.Reference5Ideal.Delta.backR_eq _ _
    · rw [a0, a1, a2, a3, a4]; exact Cert.Reference5Ideal.Delta.sumR_eq _ _ _

end Cert.DeltaEqual

end
-- ==== Proof.Rope.Table.lean ====
/- The rotary embedding turned back, lane by lane: the arrays of cosines and sines the host prepares, and the
   cotangents laid out in head lanes. -/
module

public import proofs.«01_k».proof.Proof.Gen.Kernel4Ideal.Value
public import Idealize.ShloMosaic.Lib.Pipeline.ValueKit

@[expose] public section

set_option maxRecDepth 16384

noncomputable section

namespace Cert.Kernel4Ideal.Rope

open Cert.Kernel4Ideal Cert.Kernel4Ideal.Gen
open Idealize.ShloMosaic Idealize.ShloMosaic.TcCoe

section Stages

variable (pos : IVec S8192 32) (f : FVec Ideal S16 .f32) (x : FVec Ideal S8192x8x96 .f32)

/-- The sixteen frequencies. -/
def freqs : FVec Ideal S16 .f32 :=
  Host.powf (broadcastInDim S16 ![] bcast_S_S16 (constant S_ .f32 0x461C4000#32)) (Host.divf (Host.negf (addf (broadcastInDim S16 ![] bcast_S_S16 (constant S_ .f32 0x00000000#32))
    (mulf (broadcastInDim S16 ![] bcast_S_S16 (constant S_ .f32 0x40000000#32)) (sitofp .f32 (iotaInDim S16 32 0))))) (broadcastInDim S16 ![] bcast_S_S16 (constant S_ .f32 0x42000000#32)))

/-- The lanes between two numbers. -/
def between (a b : BitVec 32) : IVec S128 1 :=
  andi (cmpi .sge (iotaInDim S128 32 0) (broadcastInDim S128 ![] bcast_S_S128 (constantI S_ 32 a))) (cmpi .slt (iotaInDim S128 32 0) (broadcastInDim S128 ![] bcast_S_S128 (constantI S_ 32 b)))

/-- The divisor and the remainder, nonnegative. -/
def divisor : IVec S_ 32 := select (cmpi .eq (id (constantI S_ 32 16#32)) (constantI S_ 32 0#32)) (constantI S_ 32 1#32) (id (constantI S_ 32 16#32))
def bcD (x : IVec S_ 32) : IVec S128 32 := broadcastInDim S128 ![] bcast_S_S128 x
def remA (y : IVec S128 32) : IVec S128 32 :=
  select (andi (cmpi .ne (cmpi .slt (Host.remsi y (bcD divisor)) (bcD (constantI S_ 32 0#32))) (broadcastInDim S128 ![] bcast_S_S128 (cmpi .slt divisor (constantI S_ 32 0#32))))
    (cmpi .ne (Host.remsi y (bcD divisor)) (bcD (constantI S_ 32 0#32)))) (addi (Host.remsi y (bcD divisor)) (bcD divisor)) (Host.remsi y (bcD divisor))
def places : IVec S128 32 :=
  select (cmpi .slt (remA (subi (iotaInDim S128 32 0) (bcD (constantI S_ 32 64#32)))) (bcD (constantI S_ 32 0#32)))
    (addi (remA (subi (iotaInDim S128 32 0) (bcD (constantI S_ 32 64#32)))) (bcD (constantI S_ 32 16#32))) (remA (subi (iotaInDim S128 32 0) (bcD (constantI S_ 32 64#32))))
def spread : FVec Ideal S128 .f32 :=
  select (ori (between 64#32 80#32) (between 80#32 96#32)) (Host.gather gather_S16_S128x1_S128_n_0_n_n_0_1_1 f (broadcastInDim S128x1 ![0] bcast_S128_S128x1_0 places))
    (broadcastInDim S128 ![] bcast_S_S128 (id (constant S_ .f32 0x00000000#32)))
def angles : FVec Ideal S8192x128 .f32 :=
  mulf (broadcastInDim S8192x128 ![0, 1] bcast_S8192x1_S8192x128_0_1 (broadcastInDim S8192x1 ![0] bcast_S8192_S8192x1_0 (sitofp .f32 pos)))
    (broadcastInDim S8192x128 ![0, 1] bcast_S1x128_S8192x128_0_1 (broadcastInDim S1x128 ![1] bcast_S128_S1x128_1 (spread f)))
def only (b : IVec S128 1) (y : FVec Ideal S8192x128 .f32) : FVec Ideal S8192x128 .f32 :=
  select (broadcastInDim S8192x128 ![1] bcast_S128_S8192x128_1 b) y (broadcastInDim S8192x128 ![] bcast_S_S8192x128 (id (constant S_ .f32 0x00000000#32)))
def cosT : FVec Ideal S8192x128 .f32 := Host.cos (angles pos f)
def upT : FVec Ideal S8192x128 .f32 := only (between 80#32 96#32) (Host.sin (angles pos f))
def downT : FVec Ideal S8192x128 .f32 := only (between 64#32 80#32) (Host.negf (Host.sin (angles pos f)))
def wide : FVec Ideal S8192x1024 .f32 :=
  shapeCast S8192x1024 (pad S8192x8x128 ![0, 0, 0] ![0, 0, 32] ![0, 0, 0] x (constant S_ .f32 0x00000000#32) pads_S8192x8x96_S8192x8x128_000_000_0320 h_S_)
    shapeCasts_S8192x8x128_S8192x1024

/-- The lanes of a head, zero past the 96th. -/
def lanes (t : Fin 8192) (l : Fin 1024) : EReal := if h : l.val % 128 < 96 then x (ix3 t ⟨l.val / 128, by omega⟩ ⟨l.val % 128, h⟩) else 0

theorem wide_at (t : Fin 8192) (l : Fin 1024) : wide x (ix2 t l) = lanes x t l := by
  pointwise [wide, lanes]
  by_cases h : l.val % 128 < 96
  · rw [dif_pos h, dif_pos ⟨by omega, h⟩]
  · rw [dif_neg h, dif_neg fun h' => h h'.2]

/-- A position's angle at a frequency. -/
def angle (t : Fin 8192) (j : Fin 16) : EReal := (((pos (ix1 t)).toInt : ℝ) : EReal) * f (ix1 j)

theorem between_low : ∀ p : Fin 128, between 64#32 80#32 (ix1 p) = if 64 ≤ p.val ∧ p.val < 80 then 1#1 else 0#1 := by decide +kernel
theorem between_high : ∀ p : Fin 128, between 80#32 96#32 (ix1 p) = if 80 ≤ p.val ∧ p.val < 96 then 1#1 else 0#1 := by decide +kernel
theorem between_both : ∀ p : Fin 128, ori (between 64#32 80#32) (between 80#32 96#32) (ix1 p) = if 64 ≤ p.val ∧ p.val < 96 then 1#1 else 0#1 := by decide +kernel
theorem places_at : ∀ p : Fin 128, 64 ≤ p.val → p.val < 96 → min (places (ix1 p)).toInt.toNat 15 = (p.val - 64) % 16 := by decide +kernel

/-- Reading the frequencies at a place. -/
theorem gather_at (i : IVec S128x1 32) (p : Fin 128) : Host.gather gather_S16_S128x1_S128_n_0_n_n_0_1_1 f i (ix1 p) = f (ix1 ⟨min (i (ix2 p 0)).toInt.toNat 15, by omega⟩) := by
  unfold Host.gather
  refine congrArg f (funext fun a => ?_)
  obtain rfl : a = 0 := Subsingleton.elim _ _
  refine Fin.ext ?_
  show GatherDims.start gather_S16_S128x1_S128_n_0_n_n_0_1_1 (ix1 p) i 0 + GatherDims.batchCoord gather_S16_S128x1_S128_n_0_n_n_0_1_1 (ix1 p) 0
    + GatherDims.offCoord gather_S16_S128x1_S128_n_0_n_n_0_1_1 (ix1 p) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ gather_S16_S128x1_S128_n_0_n_n_0_1_1.startIndexMap from List.mem_singleton.mpr rfl)]
  refine congrArg (fun k : S128x1.Idx => min (i k).toInt.toNat 15) (funext fun b => Fin.ext ?_)
  match b with
  | ⟨0, _⟩ => rfl
  | ⟨1, _⟩ => rfl

theorem spread_in (p : Fin 128) (h : 64 ≤ p.val) (h' : p.val < 96) : spread f (ix1 p) = f (ix1 ⟨(p.val - 64) % 16, by omega⟩) := by
  show Scalar.select (ori (between 64#32 80#32) (between 80#32 96#32) (ix1 p)) (Host.gather gather_S16_S128x1_S128_n_0_n_n_0_1_1 f (broadcastInDim S128x1 ![0] bcast_S128_S128x1_0 places) (ix1 p)) _ = _
  rw [between_both, if_pos ⟨h, h'⟩, gather_at]
  refine congrArg (fun k : Fin 16 => f (ix1 k)) (Fin.ext ?_)
  exact places_at p h h'

theorem spread_out (p : Fin 128) (h : ¬ (64 ≤ p.val ∧ p.val < 96)) : spread f (ix1 p) = 0 := by
  show Scalar.select (ori (between 64#32 80#32) (between 80#32 96#32) (ix1 p)) _ (Ideal.ofBits .f32 0x00000000#32) = _
  rw [between_both, if_neg h]
  pointwise []

theorem angles_at (t : Fin 8192) (p : Fin 128) : angles pos f (ix2 t p) = (((pos (ix1 t)).toInt : ℝ) : EReal) * spread f (ix1 p) := by
  generalize hs : spread f = s
  pointwise [angles, hs]
  rfl

/-- The cosines and sines, lane by lane. -/
theorem cosT_at (t : Fin 8192) (p : Fin 128) : cosT pos f (ix2 t p) = Ideal.cos (angles pos f (ix2 t p)) := rfl
theorem cosT_low (t : Fin 8192) (p : Fin 128) (h : p.val < 64) : cosT pos f (ix2 t p) = 1 := by
  rw [cosT_at, angles_at, spread_out f p (by omega), mul_zero, ← EReal.coe_zero, Ideal.cos_coe, Real.cos_zero, EReal.coe_one]
theorem cosT_in (t : Fin 8192) (p : Fin 128) (j : Fin 16) (h : 64 ≤ p.val) (h' : p.val < 96) (hj : j.val = (p.val - 64) % 16) :
    cosT pos f (ix2 t p) = Ideal.cos (angle pos f t j) := by
  have ej : (⟨(p.val - 64) % 16, by omega⟩ : Fin 16) = j := Fin.ext hj.symm
  rw [cosT_at, angles_at, spread_in f p h h', angle, ej]
theorem only_at (b : IVec S128 1) (y : FVec Ideal S8192x128 .f32) (t : Fin 8192) (p : Fin 128) : only b y (ix2 t p) = if b (ix1 p) = 1#1 then y (ix2 t p) else 0 := by
  pointwise [only]
  show Scalar.select (b (ix1 p)) (y (ix2 t p)) (Ideal.ofBits .f32 0x00000000#32) = _
  pointwise []
  rfl
theorem upT_in (t : Fin 8192) (p : Fin 128) (j : Fin 16) (h : 80 ≤ p.val) (h' : p.val < 96) (hj : j.val = p.val - 80) :
    upT pos f (ix2 t p) = Ideal.sin (angle pos f t j) := by
  have ej : (⟨(p.val - 64) % 16, by omega⟩ : Fin 16) = j := Fin.ext (by simp only; omega)
  rw [upT, only_at, if_pos ((between_high p).trans (if_pos ⟨h, h'⟩))]
  show Ideal.sin (angles pos f (ix2 t p)) = _
  rw [angles_at, spread_in f p (by omega) h', angle, ej]
theorem upT_out (t : Fin 8192) (p : Fin 128) (h : ¬ (80 ≤ p.val ∧ p.val < 96)) : upT pos f (ix2 t p) = 0 := by
  rw [upT, only_at, between_high, if_neg h, if_neg (by decide)]
theorem downT_in (t : Fin 8192) (p : Fin 128) (j : Fin 16) (h : 64 ≤ p.val) (h' : p.val < 80) (hj : j.val = p.val - 64) :
    downT pos f (ix2 t p) = -Ideal.sin (angle pos f t j) := by
  have ej : (⟨(p.val - 64) % 16, by omega⟩ : Fin 16) = j := Fin.ext (by simp only; omega)
  rw [downT, only_at, if_pos ((between_low p).trans (if_pos ⟨h, h'⟩))]
  show -Ideal.sin (angles pos f (ix2 t p)) = _
  rw [angles_at, spread_in f p h (by omega), angle, ej]
theorem downT_out (t : Fin 8192) (p : Fin 128) (h : ¬ (64 ≤ p.val ∧ p.val < 80)) : downT pos f (ix2 t p) = 0 := by
  rw [downT, only_at, between_low, if_neg h, if_neg (by decide)]

theorem lanes_in (t : Fin 8192) (l : Fin 1024) (h : Fin 8) (d : Fin 96) (hl : l.val = h.val * 128 + d.val) : lanes x t l = x (ix3 t h d) := by
  rw [lanes, dif_pos (by omega)]
  exact congrArg₂ (fun (a : Fin 8) (b : Fin 96) => x (ix3 t a b)) (Fin.ext (by simp only; omega)) (Fin.ext (by simp only; omega))

/-- A pair of lanes turned back by an angle. -/
def turn (c s : Fin 16 → EReal) (y : Fin 32 → EReal) (d : Fin 32) : EReal :=
  if h : d.val < 16 then y d * c ⟨d.val, h⟩ + y ⟨d.val + 16, by omega⟩ * s ⟨d.val, h⟩
  else y d * c ⟨d.val - 16, by omega⟩ + -y ⟨d.val - 16, by omega⟩ * s ⟨d.val - 16, by omega⟩
def turnAt (t : Fin 8192) (y : Fin 32 → EReal) (d : Fin 32) : EReal :=
  turn (fun j => Ideal.cos (angle pos f t j)) (fun j => Ideal.sin (angle pos f t j)) y d

/-- The rotary lanes of a head, and their sum over the heads. -/
def rotary (t : Fin 8192) (h : Fin 8) (d : Fin 32) : EReal := x (ix3 t h ⟨64 + d.val, by omega⟩)
def rotarySum (t : Fin 8192) (d : Fin 32) : EReal := ∑ h : Fin 8, rotary x t h d

/-- The queries' cotangent before the embedding, in head lanes; -/
def backQ (t : Fin 8192) (l : Fin 1024) : EReal :=
  if h : l.val % 128 < 64 then x (ix3 t ⟨l.val / 128, by omega⟩ ⟨l.val % 128, by omega⟩)
  else if h' : l.val % 128 < 96 then turnAt pos f t (rotary x t ⟨l.val / 128, by omega⟩) ⟨l.val % 128 - 64, by omega⟩ else 0
def backQs : FVec Ideal S8192x1024 .bf16 := fun i => backQ pos f x (i 0) (i 1)
/-- and the shared key lanes'. -/
def backK (t : Fin 8192) (l : Fin 128) : EReal := if h : l.val < 32 then turnAt pos f t (rotarySum x t) ⟨l.val, h⟩ else 0
def backKs : FVec Ideal S8192x128 .bf16 := fun i => backK pos f x (i 0) (i 1)

end Stages

end Cert.Kernel4Ideal.Rope

end
-- ==== Proof.Rope.Body.lean ====
/- The rotary embedding turned back: what a point computes from its blocks. -/
module

public import proofs.«01_k».proof.Proof.Rope.Table

@[expose] public section

set_option maxRecDepth 16384

noncomputable section

namespace Cert.Kernel4Ideal.Rope

open Cert.Kernel4Ideal Cert.Kernel4Ideal.Gen
open Idealize.ShloMosaic Idealize.ShloMosaic.TcCoe

section Wide

variable (x : FVec Ideal S512x1024 .f32) (a b d : FVec Ideal S512x128 .f32)

def tile : FVec Ideal S512x1024 .f32 :=
  concatenate S512x1024 1 [⟨S512x128, a⟩, ⟨S512x128, a⟩, ⟨S512x128, a⟩, ⟨S512x128, a⟩, ⟨S512x128, a⟩, ⟨S512x128, a⟩, ⟨S512x128, a⟩, ⟨S512x128, a⟩]
    concatenates_S512x128_S512x128_S512x128_S512x128_S512x128_S512x128_S512x128_S512x128_S512x1024_d1

theorem tile_at (r : Fin 512) (l : Fin 1024) : tile a (ix2 r l) = a (ix2 r ⟨l.val % 128, by omega⟩) := by
  pointwise [tile]
  split_ifs
  all_goals exact congrArg (fun k : Fin 128 => a (ix2 r k)) (Fin.ext (by simp only; omega))

/-- Eight heads side by side, turned. -/
def turnW : FVec Ideal S512x1024 .f32 :=
  addf (addf (mulf x (tile a)) (dynamicRotate 1 1008#32 none (mulf x (tile b)) rotates_S512x1024_d1)) (dynamicRotate 1 16#32 none (mulf x (tile d)) rotates_S512x1024_d1)

theorem cast_same (y : FVec Ideal S512x1024 .f32) : shapeCast S512x1024 y shapeCasts_S512x1024_S512x1024 = y := by
  funext i
  idx_vars i
  pointwise []
theorem cast_same' (y : FVec Ideal S512x128 .f32) : shapeCast S512x128 y shapeCasts_S512x128_S512x128 = y := by
  funext i
  idx_vars i
  pointwise []

theorem pay6_eq : k0_pay6 (F := Ideal) x a b d = turnW x a b d := by
  show turnW (shapeCast S512x1024 x shapeCasts_S512x1024_S512x1024) (shapeCast S512x128 a shapeCasts_S512x128_S512x128) (shapeCast S512x128 b shapeCasts_S512x128_S512x128)
    (shapeCast S512x128 d shapeCasts_S512x128_S512x128) = _
  rw [cast_same, cast_same', cast_same', cast_same']

theorem turnW_at (r : Fin 512) (l : Fin 1024) : turnW x a b d (ix2 r l) = x (ix2 r l) * a (ix2 r ⟨l.val % 128, by omega⟩)
    + x (ix2 r ⟨(l.val + 16) % 1024, by omega⟩) * b (ix2 r ⟨(l.val + 16) % 128, by omega⟩)
    + x (ix2 r ⟨(l.val + 1008) % 1024, by omega⟩) * d (ix2 r ⟨(l.val + 1008) % 128, by omega⟩) := by
  pointwise [turnW, tile_at]
  have e : (⟨(l.val + 1024 - 1008) % 1024, by omega⟩ : Fin 1024) = ⟨(l.val + 16) % 1024, by omega⟩ := Fin.ext (by simp only; omega)
  have e' : (⟨(l.val + 1024 - 16) % 1024, by omega⟩ : Fin 1024) = ⟨(l.val + 1008) % 1024, by omega⟩ := Fin.ext (by simp only; omega)
  have u : (⟨(l.val + 1024 - 1008) % 1024 % 128, by omega⟩ : Fin 128) = ⟨(l.val + 16) % 128, by omega⟩ := Fin.ext (by simp only; omega)
  have u' : (⟨(l.val + 1024 - 16) % 1024 % 128, by omega⟩ : Fin 128) = ⟨(l.val + 1008) % 128, by omega⟩ := Fin.ext (by simp only; omega)
  rw [u, u', e, e']

end Wide

section Narrow

variable (a b d s : FVec Ideal S512x128 .f32) (x : FVec Ideal S512x1024 .f32)

/-- The heads' lanes summed. -/
theorem summed (r : Fin 512) (p : Fin 128) : k0_pay7 (F := Ideal) x (ix2 r p) = ∑ h : Fin 8, x (ix2 r ⟨h.val * 128 + p.val, by omega⟩) := by
  rw [Fin.sum_univ_eight]
  show k0_pay7 (F := Ideal) x (ix2 r p) = x (ix2 r ⟨0 * 128 + p.val, _⟩) + x (ix2 r ⟨1 * 128 + p.val, _⟩) + x (ix2 r ⟨2 * 128 + p.val, _⟩) + x (ix2 r ⟨3 * 128 + p.val, _⟩)
    + x (ix2 r ⟨4 * 128 + p.val, _⟩) + x (ix2 r ⟨5 * 128 + p.val, _⟩) + x (ix2 r ⟨6 * 128 + p.val, _⟩) + x (ix2 r ⟨7 * 128 + p.val, _⟩)
  simp only [Nat.zero_mul, Nat.one_mul, Nat.reduceMul, Nat.zero_add]
  pointwise [k0_pay7]

/-- The rotary lanes. -/
def rotaryM : IVec S512x128 1 :=
  have v37 : BitVec 32 := Scalar.select (Scalar.cmpi .eq 128#32 0#32) 1#32 128#32
  have v51 : IVec S512x128 32 := select (andi (xori (cmpi .slt k0_pay8 (broadcast S512x128 0#32)) (broadcastTo S512x128 (broadcast S512x128 (Scalar.cmpi .slt v37 0#32)) broadcasts_S512x128_S512x128)) k0_pay9)
    (addi k0_pay8 (broadcast S512x128 v37)) k0_pay8
  andi (cmpi .sge v51 (broadcast S512x128 64#32)) (cmpi .slt v51 (broadcast S512x128 96#32))

theorem rotaryM_at (r : Fin 512) (p : Fin 128) : rotaryM (ix2 r p) = if 64 ≤ p.val ∧ p.val < 96 then 1#1 else 0#1 :=
  (rfl : rotaryM (ix2 r p) = rotaryM (ix2 0 p)).trans ((by decide +kernel : ∀ p : Fin 128, rotaryM (ix2 0 p) = if 64 ≤ p.val ∧ p.val < 96 then 1#1 else 0#1) p)

def keep : FVec Ideal S512x128 .f32 := select rotaryM s (broadcast S512x128 (Scalar.ofBits .f32 0x00000000#32))
def turnN : FVec Ideal S512x128 .f32 :=
  addf (addf (mulf s a) (dynamicRotate 1 112#32 none (mulf s b) rotates_S512x128_d1)) (dynamicRotate 1 16#32 none (mulf s d) rotates_S512x128_d1)
def firstM : IVec S512x128 1 := cmpi .slt (iota .tc S512x128 32 [1] iota_S512x128_d1_w32) (broadcast S512x128 32#32)
def first (y : FVec Ideal S512x128 .f32) : FVec Ideal S512x128 .bf16 :=
  truncf .bf16 (select firstM (dynamicRotate 1 64#32 none y rotates_S512x128_d1) (broadcast S512x128 (Scalar.ofBits .f32 0x00000000#32))) bitsLt_bf16_f32

theorem firstM_at (r : Fin 512) (p : Fin 128) : firstM (ix2 r p) = if p.val < 32 then 1#1 else 0#1 :=
  (rfl : firstM (ix2 r p) = firstM (ix2 0 p)).trans ((by decide +kernel : ∀ p : Fin 128, firstM (ix2 0 p) = if p.val < 32 then 1#1 else 0#1) p)

theorem pay2_eq : k0_pay2 (F := Ideal) (k0_pay3 a) (k0_pay4 b) (k0_pay5 d) s (Scalar.select (Scalar.cmpi .eq 128#32 0#32) 1#32 128#32) k0_pay8 k0_pay9 0#32
    = first (turnN a b d (keep s)) := by
  show first (turnN (shapeCast S512x128 a shapeCasts_S512x128_S512x128) (shapeCast S512x128 b shapeCasts_S512x128_S512x128) (shapeCast S512x128 d shapeCasts_S512x128_S512x128) (keep s)) = _
  rw [cast_same', cast_same', cast_same']

theorem keep_at (r : Fin 512) (p : Fin 128) : keep s (ix2 r p) = if 64 ≤ p.val ∧ p.val < 96 then s (ix2 r p) else 0 := by
  show Scalar.select (rotaryM (ix2 r p)) (s (ix2 r p)) (Ideal.ofBits .f32 0x00000000#32) = _
  rw [rotaryM_at]
  split_ifs
  · rfl
  · pointwise []

theorem turnN_at (r : Fin 512) (p : Fin 128) : turnN a b d s (ix2 r p) = s (ix2 r p) * a (ix2 r p)
    + s (ix2 r ⟨(p.val + 16) % 128, by omega⟩) * b (ix2 r ⟨(p.val + 16) % 128, by omega⟩)
    + s (ix2 r ⟨(p.val + 112) % 128, by omega⟩) * d (ix2 r ⟨(p.val + 112) % 128, by omega⟩) := by
  pointwise [turnN]
  have e : (⟨(p.val + 128 - 112) % 128, by omega⟩ : Fin 128) = ⟨(p.val + 16) % 128, by omega⟩ := Fin.ext (by simp only; omega)
  have e' : (⟨(p.val + 128 - 16) % 128, by omega⟩ : Fin 128) = ⟨(p.val + 112) % 128, by omega⟩ := Fin.ext (by simp only; omega)
  rw [e, e']

theorem first_at (y : FVec Ideal S512x128 .f32) (r : Fin 512) (l : Fin 128) : first y (ix2 r l) = if h : l.val < 32 then y (ix2 r ⟨l.val + 64, by omega⟩) else 0 := by
  show Scalar.select (firstM (ix2 r l)) _ (Ideal.ofBits .f32 0x00000000#32) = _
  rw [firstM_at]
  split_ifs
  · pointwise []
    exact congrArg (fun k : Fin 128 => y (ix2 r k)) (Fin.ext (by simp only; omega))
  · pointwise []

end Narrow

end Cert.Kernel4Ideal.Rope

end
-- ==== Proof.Rope.Value.lean ====
/- The rotary embedding turned back: the arrays the call leaves. -/
module

public import proofs.«01_k».proof.Proof.Rope.Body

@[expose] public section

set_option maxRecDepth 16384

noncomputable section

namespace Cert.Kernel4Ideal.Rope

open Cert.Kernel4Ideal Cert.Kernel4Ideal.Gen
open Idealize.ShloMosaic Idealize.ShloMosaic.TcCoe
open Idealize.ShloMosaic.Pipeline (Dat)

section Turn

variable (pos : IVec S8192 32) (f : FVec Ideal S16 .f32) (x : FVec Ideal S8192x8x96 .f32)

theorem lanes_rotary (t : Fin 8192) (l : Fin 1024) (h : Fin 8) (d : Fin 32) (hl : l.val = h.val * 128 + 64 + d.val) : lanes x t l = rotary x t h d :=
  lanes_in x t l h ⟨64 + d.val, by omega⟩ (by simp only; omega)

/-- The three terms of a lane among the eight heads. -/
theorem backQ_eq (t : Fin 8192) (l : Fin 1024) : lanes x t l * cosT pos f (ix2 t ⟨l.val % 128, by omega⟩)
    + lanes x t ⟨(l.val + 16) % 1024, by omega⟩ * upT pos f (ix2 t ⟨(l.val + 16) % 128, by omega⟩)
    + lanes x t ⟨(l.val + 1008) % 1024, by omega⟩ * downT pos f (ix2 t ⟨(l.val + 1008) % 128, by omega⟩) = backQ pos f x t l := by
  rw [backQ]
  by_cases h0 : l.val % 128 < 64
  · rw [dif_pos h0, cosT_low _ _ _ _ h0, upT_out _ _ _ _ (by simp only; omega), downT_out _ _ _ _ (by simp only; omega), mul_zero, mul_zero, mul_one, add_zero, add_zero,
      lanes, dif_pos (by omega)]
  · rw [dif_neg h0]
    by_cases h1 : l.val % 128 < 96
    · rw [dif_pos h1, lanes_rotary x t l ⟨l.val / 128, by omega⟩ ⟨l.val % 128 - 64, by omega⟩ (by simp only; omega), turnAt, turn]
      by_cases h2 : l.val % 128 < 80
      · rw [dif_pos (by simp only; omega), cosT_in pos f t _ ⟨l.val % 128 - 64, by omega⟩ (by simp only; omega) (by simp only; omega) (by simp only; omega),
          upT_in pos f t _ ⟨l.val % 128 - 64, by omega⟩ (by simp only; omega) (by simp only; omega) (by simp only; omega),
          downT_out _ _ _ _ (by simp only; omega), mul_zero, add_zero,
          lanes_rotary x t ⟨(l.val + 16) % 1024, by omega⟩ ⟨l.val / 128, by omega⟩ ⟨l.val % 128 - 64 + 16, by omega⟩ (by simp only; omega)]
      · rw [dif_neg (by simp only; omega), cosT_in pos f t _ ⟨l.val % 128 - 64 - 16, by omega⟩ (by simp only; omega) (by simp only; omega) (by simp only; omega),
          upT_out _ _ _ _ (by simp only; omega), downT_in pos f t _ ⟨l.val % 128 - 64 - 16, by omega⟩ (by simp only; omega) (by simp only; omega) (by simp only; omega),
          mul_zero, add_zero, mul_neg, ← neg_mul,
          lanes_rotary x t ⟨(l.val + 1008) % 1024, by omega⟩ ⟨l.val / 128, by omega⟩ ⟨l.val % 128 - 64 - 16, by omega⟩ (by simp only; omega)]
    · rw [dif_neg h1, upT_out _ _ _ _ (by simp only; omega), downT_out _ _ _ _ (by simp only; omega), mul_zero, mul_zero, add_zero, add_zero, lanes, dif_neg h1, zero_mul]

/-- The heads' lanes summed, the rotary ones kept. -/
def kept (t : Fin 8192) (p : Fin 128) : EReal := if 64 ≤ p.val ∧ p.val < 96 then ∑ h : Fin 8, lanes x t ⟨h.val * 128 + p.val, by omega⟩ else 0

theorem kept_rotary (t : Fin 8192) (p : Fin 128) (d : Fin 32) (hp : p.val = 64 + d.val) : kept x t p = rotarySum x t d := by
  rw [kept, if_pos (by omega), rotarySum]
  exact Finset.sum_congr rfl fun h _ => lanes_rotary x t _ h d (by simp only; omega)

theorem backK_eq (t : Fin 8192) (l : Fin 128) : (if h : l.val < 32 then kept x t ⟨l.val + 64, by omega⟩ * cosT pos f (ix2 t ⟨l.val + 64, by omega⟩)
    + kept x t ⟨(l.val + 64 + 16) % 128, by omega⟩ * upT pos f (ix2 t ⟨(l.val + 64 + 16) % 128, by omega⟩)
    + kept x t ⟨(l.val + 64 + 112) % 128, by omega⟩ * downT pos f (ix2 t ⟨(l.val + 64 + 112) % 128, by omega⟩) else 0) = backK pos f x t l := by
  rw [backK]
  by_cases h0 : l.val < 32
  · rw [dif_pos h0, dif_pos h0, turnAt, turn, kept_rotary x t ⟨l.val + 64, by omega⟩ ⟨l.val, h0⟩ (by simp only; omega)]
    by_cases h2 : l.val < 16
    · rw [dif_pos h2, cosT_in pos f t _ ⟨l.val, h2⟩ (by simp only; omega) (by simp only; omega) (by simp only; omega),
        upT_in pos f t _ ⟨l.val, h2⟩ (by simp only; omega) (by simp only; omega) (by simp only; omega),
        downT_out _ _ _ _ (by simp only; omega), mul_zero, add_zero, kept_rotary x t ⟨(l.val + 64 + 16) % 128, by omega⟩ ⟨l.val + 16, by omega⟩ (by simp only; omega)]
    · rw [dif_neg h2, cosT_in pos f t _ ⟨l.val - 16, by omega⟩ (by simp only; omega) (by simp only; omega) (by simp only; omega),
        upT_out _ _ _ _ (by simp only; omega), downT_in pos f t _ ⟨l.val - 16, by omega⟩ (by simp only; omega) (by simp only; omega) (by simp only; omega),
        mul_zero, add_zero, mul_neg, ← neg_mul, kept_rotary x t ⟨(l.val + 64 + 112) % 128, by omega⟩ ⟨l.val - 16, by omega⟩ (by simp only; omega)]
  · rw [dif_neg h0, dif_neg h0]

end Turn

variable (m : (ℓ : Loc nD τ sig) → Buf (Elt Ideal) ℓ) (c : Dev nD)

abbrev posArg : IVec S8192 32 := m ((c.tc : Thread nD τ).loc main_arg2)
abbrev qArg : FVec Ideal S8192x8x96 .f32 := m ((c.tc : Thread nD τ).loc main_arg3)
abbrev kArg : FVec Ideal S8192x8x96 .f32 := m ((c.tc : Thread nD τ).loc main_arg4)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

theorem V_q : V m c main_v45 = wide (qArg m c) := by
  simp only [V, hostOps0, hostOps0_1, hostOps0_2, hostOps0_3, hostOps0_4, hostOps0_5, hostOps0_6, hostOps0_7, hostOps0_8, List.flatten_cons, List.flatten_nil, List.cons_append,
    List.nil_append, List.append_nil, StableHlo.TRef.nullary, StableHlo.TRef.binary, StableHlo.TRef.ternary, StableHlo.TRef.unary, StableHlo.TRef.toBuf, StableHlo.TRef.ofBuf, cast_eq]
  after_results_simp
  all_goals rfl
theorem V_k : V m c main_v47 = wide (kArg m c) := by
  simp only [V, hostOps0, hostOps0_1, hostOps0_2, hostOps0_3, hostOps0_4, hostOps0_5, hostOps0_6, hostOps0_7, hostOps0_8, List.flatten_cons, List.flatten_nil, List.cons_append,
    List.nil_append, List.append_nil, StableHlo.TRef.nullary, StableHlo.TRef.binary, StableHlo.TRef.ternary, StableHlo.TRef.unary, StableHlo.TRef.toBuf, StableHlo.TRef.ofBuf, cast_eq]
  after_results_simp
  all_goals rfl
theorem V_cos : V m c main_v40 = cosT (posArg m c) freqs := by
  simp only [V, hostOps0, hostOps0_1, hostOps0_2, hostOps0_3, hostOps0_4, hostOps0_5, hostOps0_6, hostOps0_7, hostOps0_8, List.flatten_cons, List.flatten_nil, List.cons_append,
    List.nil_append, List.append_nil, StableHlo.TRef.nullary, StableHlo.TRef.binary, StableHlo.TRef.ternary, StableHlo.TRef.unary, StableHlo.TRef.toBuf, StableHlo.TRef.ofBuf, cast_eq]
  after_results_simp
  all_goals rfl
theorem V_up : V m c main_v41 = upT (posArg m c) freqs := by
  simp only [V, hostOps0, hostOps0_1, hostOps0_2, hostOps0_3, hostOps0_4, hostOps0_5, hostOps0_6, hostOps0_7, hostOps0_8, List.flatten_cons, List.flatten_nil, List.cons_append,
    List.nil_append, List.append_nil, StableHlo.TRef.nullary, StableHlo.TRef.binary, StableHlo.TRef.ternary, StableHlo.TRef.unary, StableHlo.TRef.toBuf, StableHlo.TRef.ofBuf, cast_eq]
  after_results_simp
  all_goals rfl
theorem V_down : V m c main_v43 = downT (posArg m c) freqs := by
  simp only [V, hostOps0, hostOps0_1, hostOps0_2, hostOps0_3, hostOps0_4, hostOps0_5, hostOps0_6, hostOps0_7, hostOps0_8, List.flatten_cons, List.flatten_nil, List.cons_append,
    List.nil_append, List.append_nil, StableHlo.TRef.nullary, StableHlo.TRef.binary, StableHlo.TRef.ternary, StableHlo.TRef.unary, StableHlo.TRef.toBuf, StableHlo.TRef.ofBuf, cast_eq]
  after_results_simp
  all_goals rfl

theorem q_blk (t : Fin cfg0.N) (r : Fin 512) (l : Fin 1024) (ht : 512 * t.val + r.val < 8192) :
    (iblk m c 0 t : FVec Ideal S512x1024 .f32) (ix2 r l) = lanes (qArg m c) ⟨512 * t.val + r.val, ht⟩ l := by
  rw [← wide_at]
  show V m c main_v45 (((cfg0.win 0).blk t).view.emb (ix2 r l)) = _
  rw [V_q]
  generalize wide (qArg m c) = o
  blk_ext [idx t]
theorem k_blk (t : Fin cfg0.N) (r : Fin 512) (l : Fin 1024) (ht : 512 * t.val + r.val < 8192) :
    (iblk m c 1 t : FVec Ideal S512x1024 .f32) (ix2 r l) = lanes (kArg m c) ⟨512 * t.val + r.val, ht⟩ l := by
  rw [← wide_at]
  show V m c main_v47 (((cfg0.win 1).blk t).view.emb (ix2 r l)) = _
  rw [V_k]
  generalize wide (kArg m c) = o
  blk_ext [idx t]
theorem cos_blk (t : Fin cfg0.N) (r : Fin 512) (p : Fin 128) (ht : 512 * t.val + r.val < 8192) :
    (iblk m c 2 t : FVec Ideal S512x128 .f32) (ix2 r p) = cosT (posArg m c) freqs (ix2 ⟨512 * t.val + r.val, ht⟩ p) := by
  show V m c main_v40 (((cfg0.win 2).blk t).view.emb (ix2 r p)) = _
  rw [V_cos]
  generalize cosT (posArg m c) freqs = o
  blk_ext [idx t]
theorem up_blk (t : Fin cfg0.N) (r : Fin 512) (p : Fin 128) (ht : 512 * t.val + r.val < 8192) :
    (iblk m c 3 t : FVec Ideal S512x128 .f32) (ix2 r p) = upT (posArg m c) freqs (ix2 ⟨512 * t.val + r.val, ht⟩ p) := by
  show V m c main_v41 (((cfg0.win 3).blk t).view.emb (ix2 r p)) = _
  rw [V_up]
  generalize upT (posArg m c) freqs = o
  blk_ext [idx t]
theorem down_blk (t : Fin cfg0.N) (r : Fin 512) (p : Fin 128) (ht : 512 * t.val + r.val < 8192) :
    (iblk m c 4 t : FVec Ideal S512x128 .f32) (ix2 r p) = downT (posArg m c) freqs (ix2 ⟨512 * t.val + r.val, ht⟩ p) := by
  show V m c main_v43 (((cfg0.win 4).blk t).view.emb (ix2 r p)) = _
  rw [V_down]
  generalize downT (posArg m c) freqs = o
  blk_ext [idx t]

theorem q_pt (t : Fin cfg0.N) (y) : k0_pay1 (k0_pay6 (iblk m c 0 t) (iblk m c 2 t) (iblk m c 3 t) (iblk m c 4 t)) y
    = backQs (posArg m c) freqs (qArg m c) (((cfg0.win 5).blk t).view.emb y) := by
  idx_vars y
  have ht : 512 * t.val + y0.val < 8192 := by have := lt_of_lt_of_eq t.isLt N_0; omega
  rw [pay6_eq]
  show turnW (iblk m c 0 t) (iblk m c 2 t) (iblk m c 3 t) (iblk m c 4 t) (ix2 y0 y1) = _
  refine (turnW_at _ _ _ _ _ _).trans ?_
  rw [q_blk m c t y0 _ ht, q_blk m c t y0 _ ht, q_blk m c t y0 _ ht, cos_blk m c t y0 _ ht, up_blk m c t y0 _ ht, down_blk m c t y0 _ ht, backQ_eq]
  generalize freqs = f
  refine congrArg₂ (backQ (posArg m c) f (qArg m c)) (Fin.ext ?_) (Fin.ext ?_)
  · blk_simp [idx t]; exact (by omega : 512 * t.val + y0.val = t.val * 512 + y0.val)
  · blk_simp [idx t]

theorem final_q : (dats m 0 c).arrAt 5 (cfgs 0).N = backQs (posArg m c) freqs (qArg m c) := by
  refine (dats m 0 c).arrAt_eq_of_covers 5 _ (by decide +kernel) fun t _ y => ?_
  blk_simp
  rw [after0_5]; frame_out
  exact q_pt m c t y

theorem kept_blk (t : Fin cfg0.N) (r : Fin 512) (p : Fin 128) (ht : 512 * t.val + r.val < 8192) :
    keep (k0_pay7 (iblk m c 1 t)) (ix2 r p) = kept (kArg m c) ⟨512 * t.val + r.val, ht⟩ p := by
  rw [keep_at, summed, kept]
  split_ifs
  · exact Finset.sum_congr rfl fun h _ => k_blk m c t r _ ht
  · rfl

theorem k_pt (t : Fin cfg0.N) (y) : k0_pay2 (k0_pay3 (iblk m c 2 t)) (k0_pay4 (iblk m c 3 t)) (k0_pay5 (iblk m c 4 t)) (k0_pay7 (iblk m c 1 t))
    (Scalar.select (Scalar.cmpi .eq 128#32 0#32) 1#32 128#32) k0_pay8 k0_pay9 0#32 y = backKs (posArg m c) freqs (kArg m c) (((cfg0.win 6).blk t).view.emb y) := by
  idx_vars y
  have ht : 512 * t.val + y0.val < 8192 := by have := lt_of_lt_of_eq t.isLt N_0; omega
  rw [pay2_eq]
  refine (first_at _ _ _).trans ?_
  refine Eq.trans ?_ ((backK_eq (posArg m c) freqs (kArg m c) ⟨512 * t.val + y0.val, ht⟩ y1).trans ?_)
  · refine dite_congr rfl (fun h => ?_) fun _ => rfl
    refine (turnN_at _ _ _ _ _ _).trans ?_
    rw [kept_blk m c t y0 _ ht, kept_blk m c t y0 _ ht, kept_blk m c t y0 _ ht, cos_blk m c t y0 _ ht, up_blk m c t y0 _ ht, down_blk m c t y0 _ ht]
  · generalize freqs = f
    refine congrArg₂ (backK (posArg m c) f (kArg m c)) (Fin.ext ?_) (Fin.ext ?_)
    · blk_simp [idx t]; exact (by omega : 512 * t.val + y0.val = t.val * 512 + y0.val)
    · blk_simp [idx t]

theorem final_k : (dats m 0 c).arrAt 6 (cfgs 0).N = backKs (posArg m c) freqs (kArg m c) := by
  refine (dats m 0 c).arrAt_eq_of_covers 6 _ (by decide +kernel) fun t _ y => ?_
  blk_simp
  rw [after0_6]; frame_out
  exact k_pt m c t y

end Cert.Kernel4Ideal.Rope

end
-- ==== Proof.Rope.Ref.lean ====
/- The rotary embedding turned back, as the reference computes it. -/
module

public import proofs.«01_k».proof.Proof.Rope.Table
public import proofs.«01_k».proof.Proof.Gen.Reference4Ideal.Run

@[expose] public section

set_option maxRecDepth 16384

noncomputable section

namespace Cert.Reference4Ideal.Rope

open Cert.Reference4Ideal Cert.Reference4Ideal.Gen
open Cert.Kernel4Ideal.Rope (freqs angle turn turnAt rotary rotarySum backQ backQs backK backKs)
open Idealize.ShloMosaic Idealize.ShloMosaic.TcCoe

section Stages

variable (pos : IVec S8192 32) (f : FVec Ideal S16 .f32) (x : FVec Ideal S8192x8x96 .f32)

def anglesR : FVec Ideal S8192x16 .f32 :=
  mulf (broadcastInDim S8192x16 ![0, 1] bcast_S8192x1_S8192x16_0_1 (broadcastInDim S8192x1 ![0] bcast_S8192_S8192x1_0 (sitofp .f32 pos)))
    (broadcastInDim S8192x16 ![0, 1] bcast_S1x16_S8192x16_0_1 (broadcastInDim S1x16 ![1] bcast_S16_S1x16_1 f))
def rowR (a : FVec Ideal S8192x16 .f32) : FVec Ideal S8192x1x16 .f32 := broadcastInDim S8192x1x16 ![0, 2] bcast_S8192x16_S8192x1x16_0_2 a
def rowsR (a : FVec Ideal S8192x1x16 .f32) : FVec Ideal S8192x8x16 .f32 := broadcastInDim S8192x8x16 ![0, 1, 2] bcast_S8192x1x16_S8192x8x16_0_1_2 a

/-- The rotary lanes of the queries' cotangent, and their halves turned. -/
def rotaryR : FVec Ideal S8192x8x32 .f32 := extractStridedSlice S8192x8x32 ![0, 0, 64] x slices_S8192x8x96_S8192x8x32_0_0_64
def turnQ (y : FVec Ideal S8192x8x32 .f32) (c s : FVec Ideal S8192x8x16 .f32) : FVec Ideal S8192x8x32 .f32 :=
  concatenate S8192x8x32 2 [⟨S8192x8x16, addf (mulf (extractStridedSlice S8192x8x16 ![0, 0, 16] y slices_S8192x8x32_S8192x8x16_0_0_16) s)
      (mulf (extractStridedSlice S8192x8x16 ![0, 0, 0] y slices_S8192x8x32_S8192x8x16_0_0_0) c)⟩,
    ⟨S8192x8x16, addf (mulf (extractStridedSlice S8192x8x16 ![0, 0, 16] y slices_S8192x8x32_S8192x8x16_0_0_16) c)
      (mulf (Host.negf (extractStridedSlice S8192x8x16 ![0, 0, 0] y slices_S8192x8x32_S8192x8x16_0_0_0)) s)⟩] concatenates_S8192x8x16_S8192x8x16_S8192x8x32_d2
def joinQ (y : FVec Ideal S8192x8x32 .f32) : FVec Ideal S8192x8x96 .f32 :=
  addf (pad S8192x8x96 ![0, 0, 64] ![0, 0, 0] ![0, 0, 0] y (constant S_ .f32 0x00000000#32) pads_S8192x8x32_S8192x8x96_000_000_6400 h_S_)
    (pad S8192x8x96 ![0, 0, 0] ![0, 0, 32] ![0, 0, 0] (extractStridedSlice S8192x8x64 ![0, 0, 0] x slices_S8192x8x96_S8192x8x64_0_0_0) (constant S_ .f32 0x00000000#32)
      pads_S8192x8x64_S8192x8x96_000_000_0320 h_S_)
def outQ (y : FVec Ideal S8192x8x96 .f32) : FVec Ideal S8192x1024 .bf16 :=
  truncf .bf16 (shapeCast S8192x1024 (pad S8192x8x128 ![0, 0, 0] ![0, 0, 32] ![0, 0, 0] y (constant S_ .f32 0x00000000#32) pads_S8192x8x96_S8192x8x128_000_000_0320 h_S_)
    shapeCasts_S8192x8x128_S8192x1024) bitsLt_bf16_f32
/-- The same for the shared lanes. -/
def sumK (y : FVec Ideal S8192x8x32 .f32) : FVec Ideal S8192x32 .f32 := Host.reduceAdd y (constant S_ .f32 0x00000000#32) reducesTo_S8192x8x32_S8192x32_d1 h_S_
def rowK (y : FVec Ideal S8192x32 .f32) : FVec Ideal S8192x1x32 .f32 := broadcastInDim S8192x1x32 ![0, 2] bcast_S8192x32_S8192x1x32_0_2 y
def turnK (y : FVec Ideal S8192x1x32 .f32) (c s : FVec Ideal S8192x1x16 .f32) : FVec Ideal S8192x1x32 .f32 :=
  concatenate S8192x1x32 2 [⟨S8192x1x16, addf (mulf (extractStridedSlice S8192x1x16 ![0, 0, 16] y slices_S8192x1x32_S8192x1x16_0_0_16) s)
      (mulf (extractStridedSlice S8192x1x16 ![0, 0, 0] y slices_S8192x1x32_S8192x1x16_0_0_0) c)⟩,
    ⟨S8192x1x16, addf (mulf (extractStridedSlice S8192x1x16 ![0, 0, 16] y slices_S8192x1x32_S8192x1x16_0_0_16) c)
      (mulf (Host.negf (extractStridedSlice S8192x1x16 ![0, 0, 0] y slices_S8192x1x32_S8192x1x16_0_0_0)) s)⟩] concatenates_S8192x1x16_S8192x1x16_S8192x1x32_d2
def flatK (y : FVec Ideal S8192x1x32 .f32) : FVec Ideal S8192x32 .f32 := Host.reduceAdd y (constant S_ .f32 0x00000000#32) reducesTo_S8192x1x32_S8192x32_d1 h_S_
def outK (y : FVec Ideal S8192x32 .f32) : FVec Ideal S8192x128 .bf16 :=
  truncf .bf16 (pad S8192x128 ![0, 0] ![0, 96] ![0, 0] y (sitofp .f32 (constantI S_ 32 0#32)) pads_S8192x32_S8192x128_000_0960 h_S_) bitsLt_bf16_f32

theorem anglesR_at (t : Fin 8192) (j : Fin 16) : anglesR pos f (ix2 t j) = angle pos f t j := by
  pointwise [anglesR, angle]
  rfl
theorem rowR_at (a : FVec Ideal S8192x16 .f32) (t : Fin 8192) (j : Fin 16) : rowR a (ix3 t 0 j) = a (ix2 t j) := by
  pointwise [rowR]
theorem rowsR_at (a : FVec Ideal S8192x1x16 .f32) (t : Fin 8192) (h : Fin 8) (j : Fin 16) : rowsR a (ix3 t h j) = a (ix3 t 0 j) := by
  pointwise [rowsR]
theorem rotaryR_at (t : Fin 8192) (h : Fin 8) (d : Fin 32) : rotaryR x (ix3 t h d) = rotary x t h d := by
  pointwise [rotaryR, rotary]
theorem turnQ_at (y : FVec Ideal S8192x8x32 .f32) (c s : FVec Ideal S8192x8x16 .f32) (t : Fin 8192) (h : Fin 8) (d : Fin 32) :
    turnQ y c s (ix3 t h d) = turn (fun j => c (ix3 t h j)) (fun j => s (ix3 t h j)) (fun d => y (ix3 t h d)) d := by
  pointwise [turnQ, turn]
  split_ifs
  · rw [add_comm]
    exact congrArg (fun k : Fin 32 => y (ix3 t h d) * c (ix3 t h ⟨d.val, by omega⟩) + y (ix3 t h k) * s (ix3 t h ⟨d.val, by omega⟩)) (Fin.ext (by simp only; omega))
  all_goals
    exact congrArg (fun k : Fin 32 => y (ix3 t h k) * c (ix3 t h ⟨d.val - 16, by omega⟩) + -y (ix3 t h ⟨d.val - 16, by omega⟩) * s (ix3 t h ⟨d.val - 16, by omega⟩))
      (Fin.ext (by simp only; omega))
theorem turnK_at (y : FVec Ideal S8192x1x32 .f32) (c s : FVec Ideal S8192x1x16 .f32) (t : Fin 8192) (d : Fin 32) :
    turnK y c s (ix3 t 0 d) = turn (fun j => c (ix3 t 0 j)) (fun j => s (ix3 t 0 j)) (fun d => y (ix3 t 0 d)) d := by
  pointwise [turnK, turn]
  split_ifs
  · rw [add_comm]
    exact congrArg (fun k : Fin 32 => y (ix3 t 0 d) * c (ix3 t 0 ⟨d.val, by omega⟩) + y (ix3 t 0 k) * s (ix3 t 0 ⟨d.val, by omega⟩)) (Fin.ext (by simp only; omega))
  all_goals
    exact congrArg (fun k : Fin 32 => y (ix3 t 0 k) * c (ix3 t 0 ⟨d.val - 16, by omega⟩) + -y (ix3 t 0 ⟨d.val - 16, by omega⟩) * s (ix3 t 0 ⟨d.val - 16, by omega⟩))
      (Fin.ext (by simp only; omega))
theorem joinQ_low (y : FVec Ideal S8192x8x32 .f32) (t : Fin 8192) (h : Fin 8) (p : Fin 96) (hp : p.val < 64) : joinQ x y (ix3 t h p) = x (ix3 t h p) := by
  pointwise [joinQ]
  rw [dif_neg (by omega), dif_pos hp, zero_add]
theorem joinQ_high (y : FVec Ideal S8192x8x32 .f32) (t : Fin 8192) (h : Fin 8) (p : Fin 96) (hp : ¬ p.val < 64) : joinQ x y (ix3 t h p) = y (ix3 t h ⟨p.val - 64, by omega⟩) := by
  pointwise [joinQ]
  rw [dif_pos (by omega), dif_neg hp, add_zero]
theorem outQ_at (y : FVec Ideal S8192x8x96 .f32) (t : Fin 8192) (l : Fin 1024) :
    outQ y (ix2 t l) = if h : l.val % 128 < 96 then y (ix3 t ⟨l.val / 128, by omega⟩ ⟨l.val % 128, h⟩) else 0 := by
  pointwise [outQ]
  by_cases h : l.val % 128 < 96
  · rw [dif_pos h, dif_pos ⟨by omega, h⟩]
  · rw [dif_neg h, dif_neg fun h' => h h'.2]
theorem sumK_at (y : FVec Ideal S8192x8x32 .f32) (t : Fin 8192) (d : Fin 32) : sumK y (ix2 t d) = ∑ h : Fin 8, y (ix3 t h d) := by
  pointwise [sumK]
theorem rowK_at (y : FVec Ideal S8192x32 .f32) (t : Fin 8192) (d : Fin 32) : rowK y (ix3 t 0 d) = y (ix2 t d) := by
  pointwise [rowK]
theorem flatK_at (y : FVec Ideal S8192x1x32 .f32) (t : Fin 8192) (d : Fin 32) : flatK y (ix2 t d) = y (ix3 t 0 d) := by
  pointwise [flatK]
  simp
theorem outK_at (y : FVec Ideal S8192x32 .f32) (t : Fin 8192) (l : Fin 128) : outK y (ix2 t l) = if h : l.val < 32 then y (ix2 t ⟨l.val, h⟩) else 0 := by
  pointwise [outK]
  refine dite_congr rfl (fun _ => rfl) fun _ => ?_
  show (((0#32).toInt : ℝ) : EReal) = 0
  simp

theorem resQ : outQ (joinQ x (turnQ (rotaryR x) (rowsR (rowR (Host.cos (anglesR pos f)))) (rowsR (rowR (Host.sin (anglesR pos f)))))) = backQs pos f x := by
  funext i
  idx_vars i
  refine (outQ_at _ _ _).trans ?_
  show _ = backQ pos f x i0 i1
  rw [backQ]
  by_cases h0 : i1.val % 128 < 64
  · rw [dif_pos h0, dif_pos (by omega), joinQ_low _ _ _ _ _ h0]
  · rw [dif_neg h0]
    refine dite_congr rfl (fun h => ?_) fun _ => rfl
    rw [joinQ_high _ _ _ _ _ h0, turnQ_at, turnAt]
    have ec : ∀ j, rowsR (rowR (Host.cos (anglesR pos f))) (ix3 i0 ⟨i1.val / 128, by omega⟩ j) = Ideal.cos (angle pos f i0 j) := fun j => by
      rw [rowsR_at, rowR_at, ← anglesR_at]; rfl
    have es : ∀ j, rowsR (rowR (Host.sin (anglesR pos f))) (ix3 i0 ⟨i1.val / 128, by omega⟩ j) = Ideal.sin (angle pos f i0 j) := fun j => by
      rw [rowsR_at, rowR_at, ← anglesR_at]; rfl
    rw [funext ec, funext es, funext fun d => rotaryR_at x i0 _ d]

theorem resK : outK (flatK (turnK (rowK (sumK (rotaryR x))) (rowR (Host.cos (anglesR pos f))) (rowR (Host.sin (anglesR pos f))))) = backKs pos f x := by
  funext i
  idx_vars i
  refine (outK_at _ _ _).trans ?_
  show _ = backK pos f x i0 i1
  rw [backK]
  refine dite_congr rfl (fun h => ?_) fun _ => rfl
  rw [flatK_at, turnK_at, turnAt]
  have ec : ∀ j, rowR (Host.cos (anglesR pos f)) (ix3 i0 0 j) = Ideal.cos (angle pos f i0 j) := fun j => by rw [rowR_at, ← anglesR_at]; rfl
  have es : ∀ j, rowR (Host.sin (anglesR pos f)) (ix3 i0 0 j) = Ideal.sin (angle pos f i0 j) := fun j => by rw [rowR_at, ← anglesR_at]; rfl
  have ey : ∀ d, rowK (sumK (rotaryR x)) (ix3 i0 0 d) = rotarySum x i0 d := fun d => by
    rw [rowK_at, sumK_at, rotarySum]
    exact Finset.sum_congr rfl fun h _ => rotaryR_at x i0 h d
  rw [funext ec, funext es, funext ey]

end Stages

end Cert.Reference4Ideal.Rope

end
-- ==== Proof.Rope.Claims.lean ====
/- The claims about the rotary embedding turned back. -/
module

public import proofs.«01_k».proof.Defs
public import proofs.«01_k».proof.Proof.Rope.Value
public import proofs.«01_k».proof.Proof.Rope.Ref
public import proofs.«01_k».proof.Proof.Gen.Kernel4.Frame

@[expose] public section

noncomputable section

namespace Cert.RopeEqual

open Cert.Kernel4Ideal.Rope
open Idealize.ShloMosaic Idealize.ShloMosaic.TcCoe Idealize.SL.Sem

/-- The reference leaves its arguments as they were; it has no semaphore. -/
theorem frame_reference : Cert.quiescent_Reference4Ideal := fun m ρ _ =>
  (θ_run Cert.Reference4Ideal.defs _ _).mono
    (fun r h => ⟨fun c => (h c).2.2, sem_eq_zero_of_no_sems (by decide) r.2⟩) (Cert.Reference4Ideal.Value.run m ρ)

section Reference

open Cert.Reference4Ideal Cert.Reference4Ideal.Rope

variable (m : (ℓ : Loc nD τ sig) → Buf (Elt Ideal) ℓ) (c : Dev nD)

theorem res_q : Cert.Reference4Ideal.Value.res_out0 m c
    = backQs (m ((c.tc : Thread nD τ).loc main_arg2)) freqs (m ((c.tc : Thread nD τ).loc main_arg3)) :=
  (rfl : _ = outQ (joinQ (m ((c.tc : Thread nD τ).loc main_arg3)) (turnQ (rotaryR (m ((c.tc : Thread nD τ).loc main_arg3)))
    (rowsR (rowR (Host.cos (anglesR (m ((c.tc : Thread nD τ).loc main_arg2)) freqs)))) (rowsR (rowR (Host.sin (anglesR (m ((c.tc : Thread nD τ).loc main_arg2)) freqs))))))).trans (resQ _ _ _)
theorem res_k : Cert.Reference4Ideal.Value.res_out1 m c
    = backKs (m ((c.tc : Thread nD τ).loc main_arg2)) freqs (m ((c.tc : Thread nD τ).loc main_arg4)) :=
  (rfl : _ = outK (flatK (turnK (rowK (sumK (rotaryR (m ((c.tc : Thread nD τ).loc main_arg4)))))
    (rowR (Host.cos (anglesR (m ((c.tc : Thread nD τ).loc main_arg2)) freqs))) (rowR (Host.sin (anglesR (m ((c.tc : Thread nD τ).loc main_arg2)) freqs)))))).trans (resK _ _ _)

end Reference

theorem algebraic : Cert.algebraic_Kernel4Ideal_Reference4Ideal := by
  intro m g m' g' hpre hag
  refine ⟨fun c => backQs (posArg m c) freqs (qArg m c), fun c => backKs (posArg m c) freqs (kArg m c),
    (θ_run _ _ _).mono (fun r h c => ?_) (Cert.Kernel4Ideal.Value.run_blocks (F := Ideal) m g), (θ_run _ _ _).mono (fun r h c => ?_) (Cert.Reference4Ideal.Value.run m' g')⟩
  · exact ⟨(h c).1.trans (final_q m c), (h c).2.1.trans (final_k m c), (h c).2.2⟩
  · obtain ⟨a0, a1, a2, a3, a4⟩ := hag c
    refine ⟨(h c).1.trans ((res_q m' c).trans ?_), (h c).2.1.trans ((res_k m' c).trans ?_), (h c).2.2⟩
    · rw [a2, a3]
    · rw [a2, a4]

end Cert.RopeEqual

end
-- ==== Proof.S5.Body.lean ====
/- One point of the S5 scan's backward kernel: its body runs from the nine input blocks at any contents, the five result
   blocks and the two scratch buffers at anything, and leaves the inputs as they were — at any values. -/
module

public import proofs.«01_k».proof.Proof.Gen.Kernel7Ideal.Loops
public import Idealize.ShloMosaic.Lib.Pipeline.FrameBody
public import Idealize.ShloMosaic.Lib.Ring
public import Idealize.ShloMosaic.Lib.WordCmp

@[expose] public section

set_option maxRecDepth 16384

noncomputable section

namespace Cert.Kernel7Ideal.S5

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Body

variable (c : Dev nD) (i : grid0.Coords)
  (M1 : Memref sig .tc .vmem S1024x256 .f32) (hM1 : M1.IsWhole)
  (M2 : Memref sig .tc .vmem S1024x256 .f32) (hM2 : M2.IsWhole)
  (M3 : Memref sig .tc .vmem S1024x256 .bf16) (hM3 : M3.IsWhole)
  (M4 : Memref sig .tc .vmem S1024x2048 .f32) (hM4 : M4.IsWhole)
  (M5 : Memref sig .tc .vmem S8x2048 .f32) (hM5 : M5.IsWhole)
  (M6 : Memref sig .tc .vmem S256x2048 .bf16) (hM6 : M6.IsWhole)
  (M7 : Memref sig .tc .vmem S2048x256 .bf16) (hM7 : M7.IsWhole)
  (M8 : Memref sig .tc .vmem S1x256 .f32) (hM8 : M8.IsWhole)
  (M9 : Memref sig .tc .vmem S32x2048 .f32) (hM9 : M9.IsWhole)
  (M10 : Memref sig .tc .vmem S1024x256 .bf16) (hM10 : M10.IsWhole)
  (M11 : Memref sig .tc .vmem S1x2048 .f32) (hM11 : M11.IsWhole)
  (M12 : Memref sig .tc .vmem S256x2048 .f32) (hM12 : M12.IsWhole)
  (M13 : Memref sig .tc .vmem S256x2048 .f32) (hM13 : M13.IsWhole)
  (M14 : Memref sig .tc .vmem S1x256 .f32) (hM14 : M14.IsWhole)
  (M15 : Memref sig .tc .vmem S8x2048 .f32) (hM15 : M15.IsWhole)
  (M16 : Memref sig .tc .vmem S1024x2048 .f32) (hM16 : M16.IsWhole)
  (x1 : Vec F S1024x256 .f32)
  (x2 : Vec F S1024x256 .f32)
  (x3 : Vec F S1024x256 .bf16)
  (x4 : Vec F S1024x2048 .f32)
  (x5 : Vec F S8x2048 .f32)
  (x6 : Vec F S256x2048 .bf16)
  (x7 : Vec F S2048x256 .bf16)
  (x8 : Vec F S1x256 .f32)
  (x9 : Vec F S32x2048 .f32)

/-- The nine input blocks at their contents. -/
def inputs : sProp 𝕄 :=
  iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9)

/-- The five result blocks and the two scratch buffers, at some contents each. -/
def written : sProp 𝕄 :=
  iprop((∃ y, owns (c : Thread nD τ) M10 fullShare y) ∗ (∃ y, owns (c : Thread nD τ) M11 fullShare y) ∗ (∃ y, owns (c : Thread nD τ) M12 fullShare y) ∗ (∃ y, owns (c : Thread nD τ) M13 fullShare y) ∗ (∃ y, owns (c : Thread nD τ) M14 fullShare y) ∗ (∃ y, owns (c : Thread nD τ) M15 fullShare y) ∗ (∃ y, owns (c : Thread nD τ) M16 fullShare y))

/-- A block the body only reads, handed back. -/
theorem owns_back {s : Shape} {e : EltTy} (M : Memref sig .tc .vmem s e) (f : Buf (Elt F) (M.view.loc (c : Thread nD τ))) :
    (M.view.loc (c : Thread nD τ) ↦[M.view.set]{fullShare} f : sProp 𝕄)
      ⊢ iprop(∃ g, ⌜M.view.read (Elt F) g = M.view.read (Elt F) f⌝ ∗ (M.view.loc (c : Thread nD τ) ↦[M.view.set]{fullShare} g)) := by
  iintro H
  iexists f
  isplitr
  · ipureintro; rfl
  · iexact H

/-- A block the body writes, handed back at what it holds. -/
theorem owns_some {s : Shape} {e : EltTy} (M : Memref sig .tc .vmem s e) (f : Buf (Elt F) (M.view.loc (c : Thread nD τ))) :
    (M.view.loc (c : Thread nD τ) ↦[M.view.set]{fullShare} f : sProp 𝕄)
      ⊢ iprop(∃ y, ∃ g, ⌜M.view.read (Elt F) g = y⌝ ∗ (M.view.loc (c : Thread nD τ) ↦[M.view.set]{fullShare} g)) := by
  iintro H
  iexists _
  iapply (owns_back c M f) $$ H

set_option maxHeartbeats 4000000 in
theorem body_runs (E : Set ℕ) (K : PUnit → sProp 𝕄) :
    iprop(inputs c M1 M2 M3 M4 M5 M6 M7 M8 M9 x1 x2 x3 x4 x5 x6 x7 x8 x9 ∗ written c M10 M11 M12 M13 M14 M15 M16
        ∗ (inputs c M1 M2 M3 M4 M5 M6 M7 M8 M9 x1 x2 x3 x4 x5 x6 x7 x8 x9 ∗ written c M10 M11 M12 M13 M14 M15 M16 -∗ K ⟨⟩))
      ⊢ wp frame (wpE (defs₀ (F := F)) Variants.none c none) E (cc0_s5_bwd i M1 hM1 M2 hM2 M3 hM3 M4 hM4 M5 hM5 M6 hM6 M7 hM7 M8 hM8 M9 hM9 M10 hM10 M11 hM11 M12 hM12 M13 hM13 M14 hM14 M15 hM15 M16 hM16) K := by
  simp only [cc0_s5_bwd_eq_skeleton]; unfold cc0_s5_bwd_skel
  simp only [k0_part3_eq_skeleton, k0_part4_eq_skeleton, k0_part5_eq_skeleton]
  unfold inputs written owns
  by_cases h : Scalar.cmpi .ne (Scalar.extui (Scalar.cmpi .eq (BitVec.ofNat 32 (i 0).val) 0#32) : BitVec 32) 0#32 = 1#1
  all_goals
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨⟨%y10, %f10, -, H10⟩, ⟨%y11, %f11, -, H11⟩, ⟨%y12, %f12, -, H12⟩, ⟨%y13, %f13, -, H13⟩, ⟨%y14, %f14, -, H14⟩, ⟨%y15, %f15, -, H15⟩, ⟨%y16, %f16, -, H16⟩⟩, Hk⟩
    subst hf1 hf2 hf3 hf4 hf5 hf6 hf7 hf8 hf9
    sl_exec (disch := first | sl_exact h)
    sl_step
    iapply Hk
    isplitl [H1 H2 H3 H4 H5 H6 H7 H8 H9]
    · isplitl [H1]; · iapply (owns_back c M1 f1) $$ H1
      isplitl [H2]; · iapply (owns_back c M2 f2) $$ H2
      isplitl [H3]; · iapply (owns_back c M3 f3) $$ H3
      isplitl [H4]; · iapply (owns_back c M4 f4) $$ H4
      isplitl [H5]; · iapply (owns_back c M5 f5) $$ H5
      isplitl [H6]; · iapply (owns_back c M6 f6) $$ H6
      isplitl [H7]; · iapply (owns_back c M7 f7) $$ H7
      isplitl [H8]; · iapply (owns_back c M8 f8) $$ H8
      iapply (owns_back c M9 f9) $$ H9
    isplitl [H10]; · iapply (owns_some c M10 _) $$ H10
    isplitl [H11]; · iapply (owns_some c M11 _) $$ H11
    isplitl [H12]; · iapply (owns_some c M12 _) $$ H12
    isplitl [H13]; · iapply (owns_some c M13 _) $$ H13
    isplitl [H14]; · iapply (owns_some c M14 _) $$ H14
    isplitl [H15]; · iapply (owns_some c M15 _) $$ H15
    iapply (owns_some c M16 _) $$ H16

end Body

end Cert.Kernel7Ideal.S5

end
-- ==== Proof.S5.Run.lean ====
/- The S5 scan's backward kernel run: the body's obligation at every point, the five results at contents not named, the
   launch, and the frame — at any values. -/
module

public import proofs.«01_k».proof.Proof.S5.Body
public import proofs.«01_k».proof.Proof.Gen.Kernel7Ideal.Frame

@[expose] public section

set_option maxRecDepth 16384

noncomputable section

namespace Cert.Kernel7Ideal.S5

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them, each input block left in place, the results' contents not named. -/
def dats (p : Fin 1) (c : Dev nD) : Dat τ (Elt F) Unit ℕ (UR sig nD τ) ℕ (cfgs p) c :=
  match p with
  | ⟨0, _⟩ =>
    { A := fun w => V m c (Pipeline.arrRef spec0 w)
      after := fun w t => match w with
        | ⟨0, _⟩ => iblk m c 0 t
        | ⟨1, _⟩ => iblk m c 1 t
        | ⟨2, _⟩ => X0_2 m c t
        | ⟨3, _⟩ => iblk m c 3 t
        | ⟨4, _⟩ => iblk m c 4 t
        | ⟨5, _⟩ => iblk m c 5 t
        | ⟨6, _⟩ => iblk m c 6 t
        | ⟨7, _⟩ => iblk m c 7 t
        | ⟨8, _⟩ => iblk m c 8 t
        | ⟨9, _⟩ => Dat.unnamed (cfg := cfg0) 9 t
        | ⟨10, _⟩ => Dat.unnamed (cfg := cfg0) 10 t
        | ⟨11, _⟩ => Dat.unnamed (cfg := cfg0) 11 t
        | ⟨12, _⟩ => Dat.unnamed (cfg := cfg0) 12 t
        | ⟨_ + 13, _⟩ => Dat.unnamed (cfg := cfg0) _ t
      Φ := fun _ => Pipeline.ΦA spec0 c
      q := fun w => Pipeline.shareOf spec0 w
      owed := fun _ => 0 }

/-- The windows whose contents are not named: the five results. -/
def fgt (w : Fin cfg0.W) : Bool := decide (9 ≤ w.val)

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = X0_2 m c t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d
theorem before_6 (c : Dev nD) (t : Fin cfg0.N) (d) : (dats m 0 c).before 6 t d = iblk m c 6 t :=
  before0_6_of m (dats m 0 c) (A_eq m c 6) (fun _ => rfl) t d
theorem before_7 (c : Dev nD) (t : Fin cfg0.N) (d) : (dats m 0 c).before 7 t d = iblk m c 7 t :=
  before0_7_of m (dats m 0 c) (A_eq m c 7) (fun _ => rfl) t d
theorem before_8 (c : Dev nD) (t : Fin cfg0.N) (d) : (dats m 0 c).before 8 t d = iblk m c 8 t :=
  before0_8_of m (dats m 0 c) (A_eq m c 8) (fun _ => rfl) t d

/-- What the body is called with at point `t`, the windows one by one, -/
def bodyPre (c : Dev nD) (t : Fin cfg0.N) : sProp 𝕄 :=
  iprop(Pipeline.ΦA spec0 c ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ X, owns (c : Thread nD τ) (st0_9 t) fullShare X)
    ∗ (∃ X, owns (c : Thread nD τ) (st0_10 t) fullShare X)
    ∗ (∃ X, owns (c : Thread nD τ) (st0_11 t) fullShare X)
    ∗ (∃ X, owns (c : Thread nD τ) (st0_12 t) fullShare X)
    ∗ (∃ X, owns (c : Thread nD τ) (st0_13 t) fullShare X))

/-- and what it returns. -/
def bodyPost (c : Dev nD) (t : Fin cfg0.N) : sProp 𝕄 :=
  iprop(Pipeline.ΦA spec0 c ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (X0_2 m c t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ (∃ X, owns (c : Thread nD τ) (st0_9 t) fullShare X)
    ∗ (∃ X, owns (c : Thread nD τ) (st0_10 t) fullShare X)
    ∗ (∃ X, owns (c : Thread nD τ) (st0_11 t) fullShare X)
    ∗ (∃ X, owns (c : Thread nD τ) (st0_12 t) fullShare X)
    ∗ (∃ X, owns (c : Thread nD τ) (st0_13 t) fullShare X))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8]
  unfold Pipeline.ΦA; rw [scopedRest0_eq]; simp only [← owns_whole]
  iintro ⟨⟨⟨S0, S1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12, H13⟩
  iapply (body_runs c (grid0.coords t) _ _ _ _ _ _ _ _ _ _ _ _ _ _ _ _ _ _ _ _ _ _ _ _ _ _ _ _ _ _ _ _
    (iblk m c 0 t) (iblk m c 1 t) (X0_2 m c t) (iblk m c 3 t) (iblk m c 4 t) (iblk m c 5 t) (iblk m c 6 t) (iblk m c 7 t) (iblk m c 8 t) Set.univ _)
  unfold inputs written
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9 H10 H11 H12 H13 S0 S1]
  · isplitl [H9]; · iexact H9
    isplitl [H10]; · iexact H10
    isplitl [H11]; · iexact H11
    isplitl [H12]; · iexact H12
    isplitl [H13]; · iexact H13
    isplitl [S0]; · iexact S0
    iexact S1
  iintro ⟨⟨H0, H1, H2, H3, H4, H5, H6, H7, H8⟩, H9, H10, H11, H12, H13, S0, S1⟩
  isplitl [S0 S1 Hr]
  · isplitl [S0 S1]
    · isplitl [S0]; · iexact S0
      iexact S1
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: the input arrays as the region found them, every other buffer too, every semaphore at zero. -/
theorem run_main : θ_run defs (onTc (τ := τ) (main (F := F))) (s₀ m ρ)
    (fun r => RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := A_eq m) (hΦ := fun _ _ => rfl)

set_option maxHeartbeats 1000000 in
/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => ⟨
      (h.1.arr_in c 0 rfl).trans (V_main_arg0 m c),
      (h.1.arr_in c 1 rfl).trans (V_main_arg1 m c),
      (h.1.arr_in c 2 rfl).trans (V_main_arg2 m c),
      (h.1.arr_in c 3 rfl).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c)⟩, h.2⟩)
    (run_main m ρ)

end Cert.Kernel7Ideal.S5

end
-- ==== Proof.S5.Words.lean ====
/- The frame of the S5 scan's backward kernel as written, off the one run of `Run`: the two programs' texts are the same. -/
module

public import proofs.«01_k».proof.Proof.S5.Run
public import proofs.«01_k».proof.Proof.Gen.Kernel7
public import proofs.«01_k».proof.Defs

@[expose] public section

set_option maxRecDepth 16384

noncomputable section

namespace Cert.Kernel7Ideal.S5

open Idealize.ShloMosaic Idealize.ShloMosaic.Tactic

/-- The frame's statement of the idealized text, at the words. -/
def quiet : Prop :=
  ∀ (m : (ℓ : Loc nD τ sig) → Buf (Elt Bits) ℓ) (ρ : Dev nD → PrngReg), True → θ_run (@defs Bits _ _) (onTc (τ := τ) (@main Bits _ _)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0)

theorem quiet_eq : quiet = Cert.quiescent_Kernel7 (hKernel7 := Cert.Kernel7.Gen.facts) := by sl_kernel_rfl

theorem frame_kernel : Cert.quiescent_Kernel7 (hKernel7 := Cert.Kernel7.Gen.facts) :=
  quiet_eq ▸ fun m ρ _ => @frame Bits _ m ρ

end Cert.Kernel7Ideal.S5

end
-- ==== Proof.Norm.Block.lean ====
/- The layer norm's backward pass along one row, and what the kernel's block computes of it. -/
module

public import proofs.«01_k».proof.Proof.Gen.Kernel6Ideal.Skeleton
public import Idealize.ShloMosaic.Lib.Pointwise

@[expose] public section

set_option maxRecDepth 16384

noncomputable section

open Idealize.ShloMosaic Idealize.ShloMosaic.TcCoe

namespace Cert.LnMath

/-- The number of lanes, 1024, and the norm's small constant. -/
abbrev lanesW : EReal := Ideal.ofBits .f32 0x44800000#32
abbrev epsW : EReal := Ideal.ofBits .f32 0x3727C5AC#32
/-- Minus one half, and the residual's weight. -/
abbrev halfW : EReal := Ideal.ofBits .f32 0xBF000000#32
abbrev alphaW : EReal := Ideal.ofBits .f32 0x3F9837F0#32

variable (s g ct : Fin 1024 → EReal)

/-- The row less its mean. -/
def xc (j : Fin 1024) : EReal := s j - Ideal.div (∑ k, s k) lanesW

/-- The variance plus the small constant, and its inverse root. -/
def vr : EReal := Ideal.div (∑ k, xc s k * xc s k) lanesW + epsW
def rs : EReal := Ideal.rsqrt (vr s)

/-- The derivative of the inverse root. -/
def drs : EReal := halfW * Ideal.div (rs s) (vr s)

/-- What the variance's cotangent gives every lane. -/
def corr : EReal := Ideal.div ((∑ k, xc s k * (ct k * g k)) * drs s) lanesW

/-- The cotangent of the centred row. -/
def dxc (j : Fin 1024) : EReal := ct j * g j * rs s + xc s j * corr s g ct + corr s g ct * xc s j

/-- The cotangent of the row. -/
def dx (j : Fin 1024) : EReal := dxc s g ct j + Ideal.div (∑ k, -dxc s g ct k) lanesW

/-- The row's part of the scale's gradient. -/
def dg (j : Fin 1024) : EReal := xc s j * rs s * ct j

end Cert.LnMath

namespace Cert.Kernel6Ideal.Norm

open Cert.Kernel6Ideal Cert.Kernel6Ideal.Gen Cert.LnMath

variable (x : FVec Ideal S512x1024 .f32) (r : Fin 512) (j : Fin 1024)

/-- A row of a block. -/
abbrev row (r : Fin 512) : Fin 1024 → EReal := fun k => x (ix2 r k)

theorem centred : k0_pay5 (F := Ideal) x (ix2 r j) = xc (row x r) j := by
  pointwise [k0_pay5, xc]

theorem variance : k0_pay6 (F := Ideal) x (ix2 r 0) = vr (row x r) := by
  unfold k0_pay6
  pointwise [centred, vr]

theorem root : k0_pay7 (F := Ideal) x (ix2 r 0) = rs (row x r) := by
  unfold k0_pay7
  pointwise [variance, rs]

theorem droot : k0_pay8 (F := Ideal) x (ix2 r 0) = drs (row x r) := by
  unfold k0_pay8
  pointwise [variance, root, drs]

/-- The cotangent the norm receives: the product carried back and the residual's. -/
theorem cotangent (a : FVec Ideal S512x4096 .bf16) (w : FVec Ideal S1024x4096 .bf16) (e : FVec Ideal S512x1024 .f32) :
    k0_pay9 (F := Ideal) a w e (ix2 r j) = (∑ k : Fin 4096, a (ix2 r k) * w (ix2 j k)) + alphaW * e (ix2 r j) := by
  pointwise [k0_pay9]

theorem sum_bias (a : FVec Ideal S512x4096 .bf16) (w : FVec Ideal S1024x4096 .bf16) (e : FVec Ideal S512x1024 .f32) :
    k0_pay10 (F := Ideal) a w e (ix2 0 j) = ∑ r : Fin 512, k0_pay9 (F := Ideal) a w e (ix2 r j) := by
  unfold k0_pay10
  generalize k0_pay9 (F := Ideal) a w e = o
  pointwise []

theorem sum_scale (a : FVec Ideal S512x4096 .bf16) (w : FVec Ideal S1024x4096 .bf16) (e : FVec Ideal S512x1024 .f32) :
    k0_pay11 (F := Ideal) a w e x (ix2 0 j) = ∑ r : Fin 512, dg (row x r) (row (k0_pay9 (F := Ideal) a w e) r) j := by
  unfold k0_pay11
  generalize k0_pay9 (F := Ideal) a w e = o
  pointwise [root, centred, dg]

theorem spread (v : FVec Ideal S1x1024 .f32) (i : Fin 8) : k0_pay2 (F := Ideal) v (ix2 i j) = v (ix2 0 j) := by
  pointwise [k0_pay2]

theorem row_grad (g : FVec Ideal S1x1024 .f32) (o : FVec Ideal S512x1024 .f32) :
    k0_pay1 (F := Ideal) (k0_pay4 (F := Ideal) g) (k0_pay5 (F := Ideal) x) (k0_pay7 (F := Ideal) x) (k0_pay8 (F := Ideal) x) o (ix2 r j)
      = dx (row x r) (fun k => g (ix2 0 k)) (row o r) j := by
  unfold k0_pay1 k0_pay4
  pointwise [centred, root, dx, dxc, corr]
  simp only [Fin.sum_univ_one, droot, zero_sub]

end Cert.Kernel6Ideal.Norm

end
-- ==== Proof.Norm.Rows.lean ====
/- A layer norm's backward over sixteen tiles of 512 rows: the arrays it leaves, as functions of the rows of its argument and of
   its cotangent, and what a tile's blocks are of them. -/
module

public import proofs.«01_k».proof.Proof.Norm.Block

@[expose] public section

set_option maxRecDepth 16384

noncomputable section

open Idealize.ShloMosaic Idealize.ShloMosaic.TcCoe Idealize.SL.Sem

namespace Cert.LnMath

/-- Eight thousand rows, tile by tile. -/
theorem sum_tiles (f : Fin 8192 → EReal) :
    ∑ r : Fin 8192, f r = ∑ i : Fin 16, ∑ r : Fin 512, f ⟨512 * i.val + r.val, by omega⟩ := by
  rw [← Fintype.sum_prod_type' (fun (i : Fin 16) (r : Fin 512) => f ⟨512 * i.val + r.val, by omega⟩)]
  refine (Fintype.sum_equiv (finProdFinEquiv (m := 16) (n := 512)) _ _ fun p => congrArg f (Fin.ext ?_)).symm
  simp only [finProdFinEquiv_apply_val]; omega

end Cert.LnMath

namespace Cert.Kernel6Ideal.Norm

open Cert.Kernel6Ideal Cert.Kernel6Ideal.Gen Cert.LnMath

variable (s ct : Fin 8192 → Fin 1024 → EReal) (G : Fin 1024 → EReal)

/-! ## The arrays -/

def gradArr : FVec Ideal S8192x1024 .f32 := fun i => dx (s (i 0)) G (ct (i 0)) (i 1)

/-- The gradient of the scale, and of the shift, over all rows. -/
def scaleArr : FVec Ideal S1x1024 .f32 := fun i => ∑ r : Fin 8192, dg (s r) (ct r) (i 1)
def shiftArr : FVec Ideal S1x1024 .f32 := fun i => ∑ r : Fin 8192, ct r (i 1)

/-- Tile `i / 8`'s sum, eight times over. -/
def tileSum (f : Fin 8192 → Fin 1024 → EReal) (i : Fin 128) (j : Fin 1024) : EReal :=
  ∑ r : Fin 512, f ⟨512 * (i.val / 8) + r.val, by omega⟩ j

def tilesArr (f : Fin 8192 → Fin 1024 → EReal) : FVec Ideal S128x1024 .f32 := fun i => tileSum f (i 0) (i 1)

def scaleTiles : FVec Ideal S128x1024 .f32 := tilesArr fun r j => dg (s r) (ct r) j
def shiftTiles : FVec Ideal S128x1024 .f32 := tilesArr ct

/-- The sum over the tiles, one row of each. -/
def tail (x : FVec Ideal S128x1024 .f32) : FVec Ideal S1x1024 .f32 :=
  broadcastInDim S1x1024 ![1] bcast_S1024_S1x1024_1 (Host.reduceAdd (shapeCast S16x1024
    (extractStridedSlice S16x1x1024 ![0, 0, 0] (shapeCast S16x8x1024 x shapeCasts_S128x1024_S16x8x1024) slices_S16x8x1024_S16x1x1024_0_0_0)
      shapeCasts_S16x1x1024_S16x1024)
    (constant S_ .f32 0x00000000#32) reducesTo_S16x1024_S1024_d0 h_S_)

theorem tail_at (x : FVec Ideal S128x1024 .f32) (j : Fin 1024) :
    tail x (ix2 0 j) = ∑ i : Fin 16, x (ix2 ⟨8 * i.val, by omega⟩ j) := by
  pointwise [tail]
  all_goals exact Finset.sum_congr rfl fun i _ => congrArg (fun k : Fin 128 => x (ix2 k j)) (Fin.ext (by simp only; omega))

theorem tail_tiles (f : Fin 8192 → Fin 1024 → EReal) (j : Fin 1024) : tail (tilesArr f) (ix2 0 j) = ∑ r : Fin 8192, f r j := by
  rw [tail_at, sum_tiles]
  refine Finset.sum_congr rfl fun i _ => ?_
  show ∑ r : Fin 512, f ⟨512 * (8 * i.val / 8) + r.val, _⟩ j = _
  refine Finset.sum_congr rfl fun r _ => congrArg (fun k : Fin 8192 => f k j) (Fin.ext ?_)
  show 512 * (8 * i.val / 8) + r.val = 512 * i.val + r.val
  omega

theorem tail_scale : tail (scaleTiles s ct) = scaleArr s ct := funext fun i => by
  idx_vars i
  obtain rfl : i0 = 0 := Subsingleton.elim _ _
  exact tail_tiles _ i1

theorem tail_shift : tail (shiftTiles ct) = shiftArr ct := funext fun i => by
  idx_vars i
  obtain rfl : i0 = 0 := Subsingleton.elim _ _
  exact tail_tiles _ i1

/-! ## A tile -/

variable {s ct G} {x o : FVec Ideal S512x1024 .f32} {g : FVec Ideal S1x1024 .f32} {t : ℕ} (ht : ∀ r : Fin 512, 512 * t + r.val < 8192)
  (hs : ∀ r : Fin 512, row x r = s ⟨512 * t + r.val, ht r⟩) (hct : ∀ r : Fin 512, row o r = ct ⟨512 * t + r.val, ht r⟩)
  (hg : (fun k => g (ix2 0 k)) = G)

include hs hct hg in
theorem grad_block (y : S512x1024.Idx) (i : S8192x1024.Idx) (h0 : (i 0).val = t * 512 + (y 0).val) (h1 : (i 1).val = (y 1).val) :
    k0_pay1 (F := Ideal) (k0_pay4 (F := Ideal) g) (k0_pay5 (F := Ideal) x) (k0_pay7 (F := Ideal) x) (k0_pay8 (F := Ideal) x) o y
      = gradArr s ct G i := by
  idx_vars y
  refine (row_grad _ _ _ _ _).trans ?_
  rw [hs y0, hct y0, hg]
  have e : (⟨512 * t + y0.val, ht y0⟩ : Fin 8192) = i 0 := Fin.ext (by rw [h0]; exact (by omega : 512 * t + y0.val = t * 512 + y0.val))
  rw [e]
  exact congrArg (dx _ _ _) (Fin.ext h1.symm)

theorem tile_eq (f : Fin 8192 → Fin 1024 → EReal) (k : Fin 128) (y0 : Fin 8) (hk : k.val = t * 8 + y0.val) (j l : Fin 1024) (hl : l.val = j.val) :
    ∑ r : Fin 512, f ⟨512 * t + r.val, ht r⟩ j = tileSum f k l := by
  rw [show l = j from Fin.ext hl]
  refine Finset.sum_congr rfl fun r _ => congrArg (fun q : Fin 8192 => f q j) (Fin.ext ?_)
  show 512 * t + r.val = 512 * (k.val / 8) + r.val
  omega

include hs hct in
theorem scale_block (v : FVec Ideal S1x1024 .f32) (hv : ∀ j, v (ix2 0 j) = ∑ r : Fin 512, dg (row x r) (row o r) j)
    (y : S8x1024.Idx) (i : S128x1024.Idx) (h0 : (i 0).val = t * 8 + (y 0).val) (h1 : (i 1).val = (y 1).val) :
    k0_pay2 (F := Ideal) v y = scaleTiles s ct i := by
  idx_vars y
  refine (spread _ _ _).trans ((hv _).trans ?_)
  refine (Finset.sum_congr rfl fun r _ => by rw [hs r, hct r]).trans ?_
  exact tile_eq ht (fun r j => dg (s r) (ct r) j) (i 0) y0 h0 y1 (i 1) h1

include hct in
theorem shift_block (v : FVec Ideal S1x1024 .f32) (hv : ∀ j, v (ix2 0 j) = ∑ r : Fin 512, o (ix2 r j))
    (y : S8x1024.Idx) (i : S128x1024.Idx) (h0 : (i 0).val = t * 8 + (y 0).val) (h1 : (i 1).val = (y 1).val) :
    k0_pay2 (F := Ideal) v y = shiftTiles ct i := by
  idx_vars y
  refine (spread _ _ _).trans ((hv _).trans ?_)
  refine (Finset.sum_congr rfl fun r _ => congrFun (hct r) y1).trans ?_
  exact tile_eq ht ct (i 0) y0 h0 y1 (i 1) h1

end Cert.Kernel6Ideal.Norm

end
-- ==== Proof.Norm.Value.lean ====
/- What the layer norm's backward call leaves: the cotangent of the residual branch, and the gradients of scale and shift,
   summed tile by tile and then over the sixteen tiles. -/
module

public import proofs.«01_k».proof.Proof.Norm.Rows
public import proofs.«01_k».proof.Proof.Gen.Kernel6Ideal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel6Ideal.Norm

open Cert.Kernel6Ideal Cert.Kernel6Ideal.Gen Cert.LnMath

/-- A row of the norm's argument, and of its cotangent. -/
def normed (h xa : FVec Ideal S8192x1024 .f32) (r : Fin 8192) (k : Fin 1024) : EReal := alphaW * h (ix2 r k) + xa (ix2 r k)
def cot (w : FVec Ideal S1024x4096 .f32) (da : FVec Ideal S8192x4096 .f32) (e : FVec Ideal S8192x1024 .f32) (r : Fin 8192) (k : Fin 1024) : EReal :=
  (∑ l : Fin 4096, da (ix2 r l) * w (ix2 k l)) + alphaW * e (ix2 r k)
abbrev scale (g : FVec Ideal S1024 .f32) : Fin 1024 → EReal := fun k => g (ix1 k)

/-! ## The blocks -/

variable (m : (ℓ : Loc nD τ sig) → Buf (Elt Ideal) ℓ) (c : Dev nD)

abbrev hArg : FVec Ideal S8192x1024 .f32 := m ((c.tc : Thread nD τ).loc main_arg0)
abbrev xArg : FVec Ideal S8192x1024 .f32 := m ((c.tc : Thread nD τ).loc main_arg1)
abbrev gArg : FVec Ideal S1024 .f32 := m ((c.tc : Thread nD τ).loc main_arg2)
abbrev wArg : FVec Ideal S1024x4096 .f32 := m ((c.tc : Thread nD τ).loc main_arg4)
abbrev dArg : FVec Ideal S8192x4096 .f32 := m ((c.tc : Thread nD τ).loc main_arg5)
abbrev eArg : FVec Ideal S8192x1024 .f32 := m ((c.tc : Thread nD τ).loc main_arg6)

theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0] ∧ win0_8.index t = ![t.val, 0] :=
  (by decide +kernel : ∀ t : Fin grid0.N, _)

theorem V_d : V m c main_v0 = (truncf .bf16 (dArg m c) bitsLt_bf16_f32 : FVec Ideal S8192x4096 .bf16) := by entry_read; rfl
theorem V_w : V m c main_v1 = (truncf .bf16 (wArg m c) bitsLt_bf16_f32 : FVec Ideal S1024x4096 .bf16) := by entry_read; rfl
theorem V_s : V m c main_v4 = (addf (mulf (broadcastInDim S8192x1024 ![] bcast_S_S8192x1024 (constant S_ .f32 0x3F9837F0#32)) (hArg m c)) (xArg m c) :
    FVec Ideal S8192x1024 .f32) := by entry_read; rfl
theorem V_g : V m c main_v5 = (shapeCast S1x1024 (gArg m c) shapeCasts_S1024_S1x1024 : FVec Ideal S1x1024 .f32) := by entry_read; rfl

variable (t : Fin cfg0.N) (r : Fin 512) (ht : 512 * t.val + r.val < 8192)

theorem d_blk (l : Fin 4096) : (iblk m c 0 t : FVec Ideal S512x4096 .bf16) (ix2 r l) = dArg m c (ix2 ⟨512 * t.val + r.val, ht⟩ l) := by
  show V m c main_v0 (((cfg0.win 0).blk t).view.emb (ix2 r l)) = _
  rw [V_d]
  blk_ext [idx t]

theorem w_blk (j : Fin 1024) (l : Fin 4096) : (iblk m c 1 t : FVec Ideal S1024x4096 .bf16) (ix2 j l) = wArg m c (ix2 j l) := by
  show V m c main_v1 (((cfg0.win 1).blk t).view.emb (ix2 j l)) = _
  rw [V_w]
  blk_ext [idx t]

theorem e_blk (j : Fin 1024) : (iblk m c 2 t : FVec Ideal S512x1024 .f32) (ix2 r j) = eArg m c (ix2 ⟨512 * t.val + r.val, ht⟩ j) := by
  show V m c main_arg6 (((cfg0.win 2).blk t).view.emb (ix2 r j)) = _
  rw [V_main_arg6]
  blk_ext [idx t]

theorem s_at (h x : FVec Ideal S8192x1024 .f32) (q : Fin 8192) (j : Fin 1024) :
    addf (mulf (broadcastInDim S8192x1024 ![] bcast_S_S8192x1024 (constant S_ .f32 0x3F9837F0#32)) h) x (ix2 q j) = normed h x q j := by
  pointwise [normed]

theorem s_blk (j : Fin 1024) : (iblk m c 3 t : FVec Ideal S512x1024 .f32) (ix2 r j) = normed (hArg m c) (xArg m c) ⟨512 * t.val + r.val, ht⟩ j := by
  rw [← s_at]
  show V m c main_v4 (((cfg0.win 3).blk t).view.emb (ix2 r j)) = _
  rw [V_s]
  generalize addf (mulf (broadcastInDim S8192x1024 ![] bcast_S_S8192x1024 (constant S_ .f32 0x3F9837F0#32)) (hArg m c)) (xArg m c) = o
  blk_ext [idx t]

theorem g_blk (j : Fin 1024) : (iblk m c 4 t : FVec Ideal S1x1024 .f32) (ix2 0 j) = gArg m c (ix1 j) := by
  have hs : shapeCast S1x1024 (gArg m c) shapeCasts_S1024_S1x1024 (ix2 0 j) = gArg m c (ix1 j) := by pointwise []
  rw [← hs]
  show V m c main_v5 (((cfg0.win 4).blk t).view.emb (ix2 0 j)) = _
  rw [V_g]
  generalize shapeCast S1x1024 (gArg m c) shapeCasts_S1024_S1x1024 = o
  blk_ext [idx t]

/-- The rows of the point's blocks. -/
theorem g_row : (fun k => (iblk m c 4 t : FVec Ideal S1x1024 .f32) (ix2 0 k)) = scale (gArg m c) := funext fun k => g_blk m c t k

theorem s_row : row (iblk m c 3 t : FVec Ideal S512x1024 .f32) r = normed (hArg m c) (xArg m c) ⟨512 * t.val + r.val, ht⟩ :=
  funext fun j => s_blk m c t r ht j

theorem ct_at (j : Fin 1024) : k0_pay9 (F := Ideal) (iblk m c 0 t) (iblk m c 1 t) (iblk m c 2 t) (ix2 r j)
    = cot (wArg m c) (dArg m c) (eArg m c) ⟨512 * t.val + r.val, ht⟩ j := by
  refine (cotangent _ _ _ _ _).trans ?_
  refine congrArg₂ (fun a b : EReal => a + alphaW * b) (Finset.sum_congr rfl fun l _ => ?_) (e_blk m c t r ht j)
  exact congrArg₂ (fun a b : EReal => a * b) (d_blk m c t r ht l) (w_blk m c t j l)

theorem ct_row : row (k0_pay9 (F := Ideal) (iblk m c 0 t) (iblk m c 1 t) (iblk m c 2 t)) r
    = cot (wArg m c) (dArg m c) (eArg m c) ⟨512 * t.val + r.val, ht⟩ :=
  funext fun j => ct_at m c t r ht j

theorem rows_in (r : Fin 512) : 512 * t.val + r.val < 8192 := by have := lt_of_lt_of_eq t.isLt N_0; omega

abbrev S : Fin 8192 → Fin 1024 → EReal := normed (hArg m c) (xArg m c)
abbrev C : Fin 8192 → Fin 1024 → EReal := cot (wArg m c) (dArg m c) (eArg m c)

theorem final_x : (dats m 0 c).arrAt 6 (cfgs 0).N = gradArr (S m c) (C m c) (scale (gArg m c)) := by
  refine (dats m 0 c).arrAt_eq_of_covers 6 _ (by decide +kernel) fun t _ y => ?_
  blk_simp
  rw [after0_6]; frame_out
  exact grad_block (rows_in t) (fun r => s_row m c t r (rows_in t r)) (fun r => ct_row m c t r (rows_in t r)) (g_row m c t) y _
    (by blk_simp [idx t]) (by blk_simp [idx t])

theorem final_scale : (dats m 0 c).arrAt 7 (cfgs 0).N = scaleTiles (S m c) (C m c) := by
  refine (dats m 0 c).arrAt_eq_of_covers 7 _ (by decide +kernel) fun t _ y => ?_
  blk_simp
  rw [after0_7]; frame_out
  exact scale_block (rows_in t) (fun r => s_row m c t r (rows_in t r)) (fun r => ct_row m c t r (rows_in t r)) _
    (fun j => sum_scale _ _ _ _ _) y _ (by blk_simp [idx t]) (by blk_simp [idx t])

theorem final_shift : (dats m 0 c).arrAt 8 (cfgs 0).N = shiftTiles (C m c) := by
  refine (dats m 0 c).arrAt_eq_of_covers 8 _ (by decide +kernel) fun t _ y => ?_
  blk_simp
  rw [after0_8]; frame_out
  exact shift_block (rows_in t) (fun r => ct_row m c t r (rows_in t r)) _
    (fun j => sum_bias _ _ _ _) y _ (by blk_simp [idx t]) (by blk_simp [idx t])

/-! ## After the sums over the tiles -/

theorem after_scale : Pipeline.afterTail₀ cfgs (dats m) 0 (V0 m) [hostOps1] c main_v12 = scaleArr (S m c) (C m c) := by
  rw [← tail_scale, ← final_scale m c]
  unfold Pipeline.afterTail₀
  rw [← Pipeline.withArrays_arr (cfgs 0).spec launch0.win.arr_inj c (V0 m c) (fun w => (dats m 0 c).arrAt w (cfgs 0).N) 7]
  generalize Pipeline.withArrays (cfgs 0).spec c (V0 m c) (fun w => (dats m 0 c).arrAt w (cfgs 0).N) = X
  simp only [hostOps1, List.flatten_cons, List.flatten_nil, List.append_nil]
  after_results_simp
  all_goals rfl

theorem after_shift : Pipeline.afterTail₀ cfgs (dats m) 0 (V0 m) [hostOps1] c main_v17 = shiftArr (C m c) := by
  rw [← tail_shift, ← final_shift m c]
  unfold Pipeline.afterTail₀
  rw [← Pipeline.withArrays_arr (cfgs 0).spec launch0.win.arr_inj c (V0 m c) (fun w => (dats m 0 c).arrAt w (cfgs 0).N) 8]
  generalize Pipeline.withArrays (cfgs 0).spec c (V0 m c) (fun w => (dats m 0 c).arrAt w (cfgs 0).N) = X
  simp only [hostOps1, List.flatten_cons, List.flatten_nil, List.append_nil]
  after_results_simp
  all_goals rfl

/-- The call's three results. -/
theorem run (ρ : Dev nD → PrngReg) : θ_run defs (onTc (τ := τ) (main (F := Ideal))) ⟨m, fun _ => 0, ρ⟩ (fun r => ∀ c : Dev nD,
    r.2.mem ((c.tc : Thread nD τ).loc main_v7_0) = gradArr (S m c) (C m c) (scale (gArg m c))
      ∧ r.2.mem ((c.tc : Thread nD τ).loc main_v12) = scaleArr (S m c) (C m c)
      ∧ r.2.mem ((c.tc : Thread nD τ).loc main_v17) = shiftArr (C m c)) :=
  (θ_run _ _ _).mono (fun r h c =>
    ⟨((h c).1 6).trans (final_x m c), ((h c).2 main_v12 (Pipeline.mem_restRefs_of main_v12 (by decide) (by decide))).trans (after_scale m c),
      ((h c).2 main_v17 (Pipeline.mem_restRefs_of main_v17 (by decide) (by decide))).trans (after_shift m c)⟩) (Gen.run_main m ρ)

end Cert.Kernel6Ideal.Norm

end
-- ==== Proof.Norm.Ref.lean ====
/- The reference's derivative of the layer norm, array by array, read along a row. -/
module

public import proofs.«01_k».proof.Proof.Norm.Rows
public import proofs.«01_k».proof.Proof.Gen.Reference6Ideal.Run

@[expose] public section

set_option maxRecDepth 16384

noncomputable section

open Idealize.ShloMosaic Idealize.ShloMosaic.TcCoe Idealize.SL.Sem

namespace Cert.Reference6Ideal.Norm

open Cert.Reference6Ideal Cert.Reference6Ideal.Gen Cert.LnMath

variable (s ct : FVec Ideal S8192x1024 .f32) (g : FVec Ideal S1024 .f32)

/-- A number over every lane count. -/
abbrev lanes : FVec Ideal S8192x1 .f32 := broadcastInDim S8192x1 ![] bcast_S_S8192x1 (constant S_ .f32 0x44800000#32)

abbrev wide (x : FVec Ideal S8192x1 .f32) : FVec Ideal S8192x1024 .f32 :=
  broadcastInDim S8192x1024 ![0, 1] bcast_S8192x1_S8192x1024_0_1 x

abbrev rowSum (x : FVec Ideal S8192x1024 .f32) : FVec Ideal S8192 .f32 :=
  Host.reduceAdd x (constant S_ .f32 0x00000000#32) reducesTo_S8192x1024_S8192_d1 h_S_

def centredR : FVec Ideal S8192x1024 .f32 :=
  subf s (wide (Host.divf (broadcastInDim S8192x1 ![0] bcast_S8192_S8192x1_0 (rowSum s)) lanes))

def varR : FVec Ideal S8192x1 .f32 :=
  addf (Host.divf (broadcastInDim S8192x1 ![0] bcast_S8192_S8192x1_0 (rowSum (mulf (centredR s) (centredR s)))) lanes)
    (broadcastInDim S8192x1 ![] bcast_S_S8192x1 (constant S_ .f32 0x3727C5AC#32))

def rootR : FVec Ideal S8192x1 .f32 := Host.rsqrt (varR s)

def drootR : FVec Ideal S8192x1 .f32 :=
  mulf (broadcastInDim S8192x1 ![] bcast_S_S8192x1 (constant S_ .f32 0xBF000000#32)) (Host.divf (rootR s) (varR s))

def weighted : FVec Ideal S8192x1024 .f32 :=
  mulf ct (broadcastInDim S8192x1024 ![0, 1] bcast_S1x1024_S8192x1024_0_1 (broadcastInDim S1x1024 ![1] bcast_S1024_S1x1024_1 g))

abbrev shared (x : FVec Ideal S8192x1 .f32) : FVec Ideal S8192x1024 .f32 :=
  broadcastInDim S8192x1024 ![0] bcast_S8192_S8192x1024_0
    (Host.reduceAdd (Host.divf x lanes) (constant S_ .f32 0x00000000#32) reducesTo_S8192x1_S8192_d1 h_S_)

def corrR : FVec Ideal S8192x1024 .f32 :=
  shared (mulf (shapeCast S8192x1 (rowSum (mulf (centredR s) (weighted ct g))) shapeCasts_S8192_S8192x1) (drootR s))

def dcentredR : FVec Ideal S8192x1024 .f32 :=
  addf (addf (mulf (weighted ct g) (wide (rootR s))) (mulf (centredR s) (corrR s ct g))) (mulf (corrR s ct g) (centredR s))

def rowR : FVec Ideal S8192x1024 .f32 :=
  addf (dcentredR s ct g) (shared (shapeCast S8192x1 (rowSum (Host.negf (dcentredR s ct g))) shapeCasts_S8192_S8192x1))

/-- A gradient summed over every row, laid out as one row. -/
def summed (x : FVec Ideal S8192x1024 .f32) : FVec Ideal S1x1024 .f32 :=
  broadcastInDim S1x1024 ![1] bcast_S1024_S1x1024_1 (Host.reduceAdd (shapeCast S1x1024
    (Host.reduceAdd x (constant S_ .f32 0x00000000#32) reducesTo_S8192x1024_S1024_d0 h_S_) shapeCasts_S1024_S1x1024)
    (constant S_ .f32 0x00000000#32) reducesTo_S1x1024_S1024_d0 h_S_)

def scaleR : FVec Ideal S8192x1024 .f32 := mulf (mulf (centredR s) (wide (rootR s))) ct

/-- A row of an array. -/
abbrev row (x : FVec Ideal S8192x1024 .f32) (r : Fin 8192) : Fin 1024 → EReal := fun k => x (ix2 r k)

variable (r : Fin 8192) (j : Fin 1024)

theorem centred_at : centredR s (ix2 r j) = xc (row s r) j := by
  unfold centredR; pointwise [xc]

theorem var_at : varR s (ix2 r 0) = vr (row s r) := by
  unfold varR; pointwise [centred_at, vr]

theorem root_at : rootR s (ix2 r 0) = rs (row s r) := by
  unfold rootR; pointwise [var_at, rs]

theorem droot_at : drootR s (ix2 r 0) = drs (row s r) := by
  unfold drootR; pointwise [var_at, root_at, drs]

theorem weighted_at : weighted ct g (ix2 r j) = ct (ix2 r j) * g (ix1 j) := by
  unfold weighted; pointwise []

theorem corr_at : corrR s ct g (ix2 r j) = corr (row s r) (fun k => g (ix1 k)) (row ct r) := by
  unfold corrR
  pointwise [centred_at, weighted_at, corr]
  simp only [Fin.sum_univ_one, droot_at]

theorem dcentred_at : dcentredR s ct g (ix2 r j) = dxc (row s r) (fun k => g (ix1 k)) (row ct r) j := by
  unfold dcentredR
  pointwise [centred_at, weighted_at, corr_at, root_at, dxc]

theorem row_at : rowR s ct g (ix2 r j) = dx (row s r) (fun k => g (ix1 k)) (row ct r) j := by
  unfold rowR
  pointwise [dcentred_at, dx]
  simp only [Fin.sum_univ_one]

theorem scale_at : scaleR s ct (ix2 r j) = dg (row s r) (row ct r) j := by
  unfold scaleR; pointwise [centred_at, root_at, dg]

theorem summed_at (x : FVec Ideal S8192x1024 .f32) : summed x (ix2 0 j) = ∑ r : Fin 8192, x (ix2 r j) := by
  unfold summed
  pointwise []
  simp only [Fin.sum_univ_one]

/-! ## The three gradients, from the rows -/

open Cert.Kernel6Ideal.Norm (gradArr scaleArr shiftArr)

variable {s ct g} {sr cr : Fin 8192 → Fin 1024 → EReal} (hs : ∀ r, row s r = sr r) (hct : ∀ r, row ct r = cr r)

include hs hct in
theorem grad_rows : rowR s ct g = gradArr sr cr (fun k => g (ix1 k)) := funext fun i => by
  idx_vars i
  rw [row_at, hs, hct]; rfl

include hs hct in
theorem scale_rows : summed (scaleR s ct) = scaleArr sr cr := funext fun i => by
  idx_vars i
  obtain rfl : i0 = 0 := Subsingleton.elim _ _
  rw [summed_at]
  exact Finset.sum_congr rfl fun r _ => by rw [scale_at, hs, hct]; rfl

include hct in
theorem shift_rows : summed ct = shiftArr cr := funext fun i => by
  idx_vars i
  obtain rfl : i0 = 0 := Subsingleton.elim _ _
  rw [summed_at]
  exact Finset.sum_congr rfl fun r _ => congrFun (hct r) i1

end Cert.Reference6Ideal.Norm

end
-- ==== Proof.Norm.Claims.lean ====
/- The claims about the backward call of the layer norm in front of the MLP. -/
module

public import proofs.«01_k».proof.Defs
public import proofs.«01_k».proof.Proof.Norm.Value
public import proofs.«01_k».proof.Proof.Norm.Ref
public import proofs.«01_k».proof.Proof.Gen.Kernel6.Frame

@[expose] public section

noncomputable section

namespace Cert.NormEqual

open Cert.LnMath Cert.Kernel6Ideal.Norm
open Cert.Reference6Ideal.Norm (grad_rows scale_rows shift_rows)
open Idealize.ShloMosaic Idealize.ShloMosaic.TcCoe Idealize.SL.Sem

/-- The reference leaves its arguments as they were; it has no semaphore. -/
theorem frame_reference : Cert.quiescent_Reference6Ideal := fun m ρ _ =>
  (θ_run Cert.Reference6Ideal.defs _ _).mono
    (fun r h => ⟨fun c => (h c).2.2.2, sem_eq_zero_of_no_sems (by decide) r.2⟩) (Cert.Reference6Ideal.Value.run m ρ)

section Reference

open Cert.Reference6Ideal Cert.Reference6Ideal.Gen Cert.Reference6Ideal.Norm

variable (h xa : FVec Ideal S8192x1024 .f32) (w : FVec Ideal S1024x4096 .f32)
  (da : FVec Ideal S8192x4096 .f32) (e : FVec Ideal S8192x1024 .f32)

/-- The norm's argument and its cotangent, as the reference forms them. -/
def sArr : FVec Ideal S8192x1024 .f32 := addf (mulf (broadcastInDim S8192x1024 ![] bcast_S_S8192x1024 (constant S_ .f32 0x3F9837F0#32)) h) xa
def ctArr : FVec Ideal S8192x1024 .f32 := addf (mulf (broadcastInDim S8192x1024 ![] bcast_S_S8192x1024 (constant S_ .f32 0x3F9837F0#32)) e)
  (Host.dotGeneral dot_S8192x4096_S1024x4096_S8192x1024_1_1_0_0_n_n none da w)

theorem sArr_row (r : Fin 8192) : row (sArr h xa) r = normed h xa r := funext fun j => by
  show sArr h xa (ix2 r j) = _
  pointwise [sArr, normed]

theorem ctArr_row (r : Fin 8192) : row (ctArr w da e) r = cot w da e r := funext fun j => by
  show ctArr w da e (ix2 r j) = _
  pointwise [ctArr, cot]
  exact add_comm _ _

end Reference

theorem algebraic : Cert.algebraic_Kernel6Ideal_Reference6Ideal := by
  intro m g m' g' hpre hag
  refine ⟨fun c => gradArr (S m c) (C m c) (scale (gArg m c)),
    fun c => scaleArr (S m c) (C m c), fun c => shiftArr (C m c),
    (θ_run _ _ _).mono (fun r h c => ?_) (θ_run_and (Cert.Kernel6Ideal.Norm.run m g) (Cert.Kernel6Ideal.Gen.unchanged m g)),
    (θ_run _ _ _).mono (fun r h c => ?_) (Cert.Reference6Ideal.Value.run m' g')⟩
  · exact ⟨(h.1 c).1, (h.1 c).2.1, (h.1 c).2.2, h.2 c⟩
  · obtain ⟨a0, a1, a2, a3, a4, a5, a6⟩ := hag c
    refine ⟨(h c).1.trans ?_, (h c).2.1.trans ?_, (h c).2.2.1.trans ?_, (h c).2.2.2⟩
    · refine (show Cert.Reference6Ideal.Value.res_out0 m' c = Cert.Reference6Ideal.Norm.rowR (sArr _ _) (ctArr _ _ _) _ from rfl).trans ?_
      rw [a0, a1, a2, a4, a5, a6]; exact grad_rows (sArr_row _ _) (ctArr_row _ _ _)
    · refine (show _ = Cert.Reference6Ideal.Norm.summed (Cert.Reference6Ideal.Norm.scaleR (sArr _ _) (ctArr _ _ _)) from rfl).trans ?_
      rw [a0, a1, a4, a5, a6]; exact scale_rows (sArr_row _ _) (ctArr_row _ _ _)
    · refine (show _ = Cert.Reference6Ideal.Norm.summed (ctArr _ _ _) from rfl).trans ?_
      rw [a4, a5, a6]; exact shift_rows (ctArr_row _ _ _)

end Cert.NormEqual

end
-- ==== Proof.Norm.First.lean ====
/- The backward call of the layer norm in front of the cross attention: what it leaves, and the claims about it. -/
module

public import proofs.«01_k».proof.Proof.Norm.Claims
public import proofs.«01_k».proof.Proof.Gen.Kernel8.Frame
public import proofs.«01_k».proof.Proof.Gen.Kernel8Ideal.Frame
public import proofs.«01_k».proof.Proof.Gen.Reference8Ideal.Run

@[expose] public section

set_option maxRecDepth 16384

noncomputable section

open Idealize.ShloMosaic Idealize.ShloMosaic.TcCoe Idealize.SL.Sem
open Idealize.ShloMosaic.Pipeline (Dat)

namespace Cert.Kernel8Ideal.Norm

open Cert.Kernel8Ideal Cert.Kernel8Ideal.Gen Cert.LnMath
open Cert.Kernel6Ideal.Norm (row normed scale gradArr scaleArr shiftArr scaleTiles shiftTiles tail tail_scale tail_shift grad_block scale_block shift_block s_at centred root)

/-- A row of the norm's cotangent. -/
def cot (w : FVec Ideal S1024x1024 .f32) (dq : FVec Ideal S8192x1024 .f32) (e : FVec Ideal S8192x1024 .f32) (r : Fin 8192) (k : Fin 1024) : EReal :=
  (∑ l : Fin 1024, dq (ix2 r l) * w (ix2 k l)) + alphaW * e (ix2 r k)

/-! ## The body -/

section

variable (a : FVec Ideal S512x1024 .bf16) (w : FVec Ideal S1024x1024 .bf16) (e x : FVec Ideal S512x1024 .f32) (j : Fin 1024)

theorem cotangent (r : Fin 512) : k0_pay9 (F := Ideal) a w e (ix2 r j) = (∑ k : Fin 1024, a (ix2 r k) * w (ix2 j k)) + alphaW * e (ix2 r j) := by
  pointwise [k0_pay9]

theorem sum_bias : k0_pay10 (F := Ideal) a w e (ix2 0 j) = ∑ r : Fin 512, k0_pay9 (F := Ideal) a w e (ix2 r j) := by
  unfold k0_pay10
  generalize k0_pay9 (F := Ideal) a w e = o
  pointwise []

theorem sum_scale : k0_pay11 (F := Ideal) a w e x (ix2 0 j) = ∑ r : Fin 512, dg (row x r) (row (k0_pay9 (F := Ideal) a w e) r) j := by
  unfold k0_pay11
  generalize k0_pay9 (F := Ideal) a w e = o
  rw [show k0_pay5 (F := Ideal) x = Cert.Kernel6Ideal.Gen.k0_pay5 x from rfl, show k0_pay7 (F := Ideal) x = Cert.Kernel6Ideal.Gen.k0_pay7 x from rfl]
  pointwise [root, centred, dg]

end

/-! ## The blocks -/

variable (m : (ℓ : Loc nD τ sig) → Buf (Elt Ideal) ℓ) (c : Dev nD)

abbrev hArg : FVec Ideal S8192x1024 .f32 := m ((c.tc : Thread nD τ).loc main_arg0)
abbrev xArg : FVec Ideal S8192x1024 .f32 := m ((c.tc : Thread nD τ).loc main_arg1)
abbrev gArg : FVec Ideal S1024 .f32 := m ((c.tc : Thread nD τ).loc main_arg2)
abbrev wArg : FVec Ideal S1024x1024 .f32 := m ((c.tc : Thread nD τ).loc main_arg4)
abbrev dArg : FVec Ideal S8192x1024 .f32 := m ((c.tc : Thread nD τ).loc main_arg5)
abbrev eArg : FVec Ideal S8192x1024 .f32 := m ((c.tc : Thread nD τ).loc main_arg6)

theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0] ∧ win0_8.index t = ![t.val, 0] :=
  (by decide +kernel : ∀ t : Fin grid0.N, _)

theorem V_d : V m c main_v0 = (truncf .bf16 (dArg m c) bitsLt_bf16_f32 : FVec Ideal S8192x1024 .bf16) := by entry_read; rfl
theorem V_w : V m c main_v1 = (truncf .bf16 (wArg m c) bitsLt_bf16_f32 : FVec Ideal S1024x1024 .bf16) := by entry_read; rfl
theorem V_s : V m c main_v4 = (addf (mulf (broadcastInDim S8192x1024 ![] bcast_S_S8192x1024 (constant S_ .f32 0x3F9837F0#32)) (hArg m c)) (xArg m c) :
    FVec Ideal S8192x1024 .f32) := by entry_read; rfl
theorem V_g : V m c main_v5 = (shapeCast S1x1024 (gArg m c) shapeCasts_S1024_S1x1024 : FVec Ideal S1x1024 .f32) := by entry_read; rfl

variable (t : Fin cfg0.N) (r : Fin 512) (ht : 512 * t.val + r.val < 8192)

theorem d_blk (l : Fin 1024) : (iblk m c 0 t : FVec Ideal S512x1024 .bf16) (ix2 r l) = dArg m c (ix2 ⟨512 * t.val + r.val, ht⟩ l) := by
  show V m c main_v0 (((cfg0.win 0).blk t).view.emb (ix2 r l)) = _
  rw [V_d]
  blk_ext [idx t]

theorem w_blk (j : Fin 1024) (l : Fin 1024) : (iblk m c 1 t : FVec Ideal S1024x1024 .bf16) (ix2 j l) = wArg m c (ix2 j l) := by
  show V m c main_v1 (((cfg0.win 1).blk t).view.emb (ix2 j l)) = _
  rw [V_w]
  blk_ext [idx t]

theorem e_blk (j : Fin 1024) : (iblk m c 2 t : FVec Ideal S512x1024 .f32) (ix2 r j) = eArg m c (ix2 ⟨512 * t.val + r.val, ht⟩ j) := by
  show V m c main_arg6 (((cfg0.win 2).blk t).view.emb (ix2 r j)) = _
  rw [V_main_arg6]
  blk_ext [idx t]

theorem s_blk (j : Fin 1024) : (iblk m c 3 t : FVec Ideal S512x1024 .f32) (ix2 r j) = normed (hArg m c) (xArg m c) ⟨512 * t.val + r.val, ht⟩ j := by
  rw [← s_at]
  show V m c main_v4 (((cfg0.win 3).blk t).view.emb (ix2 r j)) = _
  rw [V_s]
  generalize addf (mulf (broadcastInDim S8192x1024 ![] bcast_S_S8192x1024 (constant S_ .f32 0x3F9837F0#32)) (hArg m c)) (xArg m c) = o
  blk_ext [idx t]

theorem g_blk (j : Fin 1024) : (iblk m c 4 t : FVec Ideal S1x1024 .f32) (ix2 0 j) = gArg m c (ix1 j) := by
  have hs : shapeCast S1x1024 (gArg m c) shapeCasts_S1024_S1x1024 (ix2 0 j) = gArg m c (ix1 j) := by pointwise []
  rw [← hs]
  show V m c main_v5 (((cfg0.win 4).blk t).view.emb (ix2 0 j)) = _
  rw [V_g]
  generalize shapeCast S1x1024 (gArg m c) shapeCasts_S1024_S1x1024 = o
  blk_ext [idx t]

/-- The rows of the point's blocks. -/
theorem g_row : (fun k => (iblk m c 4 t : FVec Ideal S1x1024 .f32) (ix2 0 k)) = scale (gArg m c) := funext fun k => g_blk m c t k

theorem s_row : row (iblk m c 3 t : FVec Ideal S512x1024 .f32) r = normed (hArg m c) (xArg m c) ⟨512 * t.val + r.val, ht⟩ :=
  funext fun j => s_blk m c t r ht j

theorem ct_at (j : Fin 1024) : k0_pay9 (F := Ideal) (iblk m c 0 t) (iblk m c 1 t) (iblk m c 2 t) (ix2 r j)
    = cot (wArg m c) (dArg m c) (eArg m c) ⟨512 * t.val + r.val, ht⟩ j := by
  refine (cotangent _ _ _ _ _).trans ?_
  refine congrArg₂ (fun a b : EReal => a + alphaW * b) (Finset.sum_congr rfl fun l _ => ?_) (e_blk m c t r ht j)
  exact congrArg₂ (fun a b : EReal => a * b) (d_blk m c t r ht l) (w_blk m c t j l)

theorem ct_row : row (k0_pay9 (F := Ideal) (iblk m c 0 t) (iblk m c 1 t) (iblk m c 2 t)) r
    = cot (wArg m c) (dArg m c) (eArg m c) ⟨512 * t.val + r.val, ht⟩ :=
  funext fun j => ct_at m c t r ht j

theorem rows_in (r : Fin 512) : 512 * t.val + r.val < 8192 := by have := lt_of_lt_of_eq t.isLt N_0; omega

abbrev S : Fin 8192 → Fin 1024 → EReal := normed (hArg m c) (xArg m c)
abbrev C : Fin 8192 → Fin 1024 → EReal := cot (wArg m c) (dArg m c) (eArg m c)

theorem final_x : (dats m 0 c).arrAt 6 (cfgs 0).N = gradArr (S m c) (C m c) (scale (gArg m c)) := by
  refine (dats m 0 c).arrAt_eq_of_covers 6 _ (by decide +kernel) fun t _ y => ?_
  blk_simp
  rw [after0_6]; frame_out
  exact grad_block (rows_in t) (fun r => s_row m c t r (rows_in t r)) (fun r => ct_row m c t r (rows_in t r)) (g_row m c t) y _
    (by blk_simp [idx t]) (by blk_simp [idx t])

theorem final_scale : (dats m 0 c).arrAt 7 (cfgs 0).N = scaleTiles (S m c) (C m c) := by
  refine (dats m 0 c).arrAt_eq_of_covers 7 _ (by decide +kernel) fun t _ y => ?_
  blk_simp
  rw [after0_7]; frame_out
  exact scale_block (rows_in t) (fun r => s_row m c t r (rows_in t r)) (fun r => ct_row m c t r (rows_in t r)) _
    (fun j => sum_scale _ _ _ _ _) y _ (by blk_simp [idx t]) (by blk_simp [idx t])

theorem final_shift : (dats m 0 c).arrAt 8 (cfgs 0).N = shiftTiles (C m c) := by
  refine (dats m 0 c).arrAt_eq_of_covers 8 _ (by decide +kernel) fun t _ y => ?_
  blk_simp
  rw [after0_8]; frame_out
  exact shift_block (rows_in t) (fun r => ct_row m c t r (rows_in t r)) _
    (fun j => sum_bias _ _ _ _) y _ (by blk_simp [idx t]) (by blk_simp [idx t])

/-! ## After the sums over the tiles -/

theorem after_scale : Pipeline.afterTail₀ cfgs (dats m) 0 (V0 m) [hostOps1] c main_v12 = scaleArr (S m c) (C m c) := by
  rw [← tail_scale, ← final_scale m c]
  unfold Pipeline.afterTail₀
  rw [← Pipeline.withArrays_arr (cfgs 0).spec launch0.win.arr_inj c (V0 m c) (fun w => (dats m 0 c).arrAt w (cfgs 0).N) 7]
  generalize Pipeline.withArrays (cfgs 0).spec c (V0 m c) (fun w => (dats m 0 c).arrAt w (cfgs 0).N) = X
  simp only [hostOps1, List.flatten_cons, List.flatten_nil, List.append_nil]
  after_results_simp
  all_goals rfl

theorem after_shift : Pipeline.afterTail₀ cfgs (dats m) 0 (V0 m) [hostOps1] c main_v17 = shiftArr (C m c) := by
  rw [← tail_shift, ← final_shift m c]
  unfold Pipeline.afterTail₀
  rw [← Pipeline.withArrays_arr (cfgs 0).spec launch0.win.arr_inj c (V0 m c) (fun w => (dats m 0 c).arrAt w (cfgs 0).N) 8]
  generalize Pipeline.withArrays (cfgs 0).spec c (V0 m c) (fun w => (dats m 0 c).arrAt w (cfgs 0).N) = X
  simp only [hostOps1, List.flatten_cons, List.flatten_nil, List.append_nil]
  after_results_simp
  all_goals rfl

/-- The call's three results. -/
theorem run (ρ : Dev nD → PrngReg) : θ_run defs (onTc (τ := τ) (main (F := Ideal))) ⟨m, fun _ => 0, ρ⟩ (fun r => ∀ c : Dev nD,
    r.2.mem ((c.tc : Thread nD τ).loc main_v7_0) = gradArr (S m c) (C m c) (scale (gArg m c))
      ∧ r.2.mem ((c.tc : Thread nD τ).loc main_v12) = scaleArr (S m c) (C m c)
      ∧ r.2.mem ((c.tc : Thread nD τ).loc main_v17) = shiftArr (C m c)) :=
  (θ_run _ _ _).mono (fun r h c =>
    ⟨((h c).1 6).trans (final_x m c), ((h c).2 main_v12 (Pipeline.mem_restRefs_of main_v12 (by decide) (by decide))).trans (after_scale m c),
      ((h c).2 main_v17 (Pipeline.mem_restRefs_of main_v17 (by decide) (by decide))).trans (after_shift m c)⟩) (Gen.run_main m ρ)

end Cert.Kernel8Ideal.Norm

namespace Cert.FirstEqual

open Cert.LnMath Cert.Kernel8Ideal.Norm
open Cert.Kernel6Ideal.Norm (normed scale gradArr scaleArr shiftArr)
open Cert.Reference6Ideal.Norm (rowR summed scaleR grad_rows scale_rows shift_rows)
open Cert.NormEqual (sArr sArr_row)

/-- The reference leaves its arguments as they were; it has no semaphore. -/
theorem frame_reference : Cert.quiescent_Reference8Ideal := fun m ρ _ =>
  (θ_run Cert.Reference8Ideal.defs _ _).mono
    (fun r h => ⟨fun c => (h c).2.2.2, sem_eq_zero_of_no_sems (by decide) r.2⟩) (Cert.Reference8Ideal.Value.run m ρ)

section Reference

open Cert.Reference8Ideal Cert.Reference8Ideal.Gen

variable (w : FVec Ideal S1024x1024 .f32) (dq e : FVec Ideal S8192x1024 .f32)

/-- The norm's cotangent, as the reference forms it. -/
def ctArr : FVec Ideal S8192x1024 .f32 := addf (mulf (broadcastInDim S8192x1024 ![] bcast_S_S8192x1024 (constant S_ .f32 0x3F9837F0#32)) e)
  (Host.dotGeneral dot_S8192x1024_S1024x1024_S8192x1024_1_1_0_0_n_n none dq w)

theorem ctArr_row (r : Fin 8192) : Cert.Reference6Ideal.Norm.row (ctArr w dq e) r = cot w dq e r := funext fun j => by
  show ctArr w dq e (ix2 r j) = _
  pointwise [ctArr, cot]
  exact add_comm _ _

end Reference

theorem algebraic : Cert.algebraic_Kernel8Ideal_Reference8Ideal := by
  intro m g m' g' hpre hag
  refine ⟨fun c => gradArr (S m c) (C m c) (scale (gArg m c)), fun c => scaleArr (S m c) (C m c), fun c => shiftArr (C m c),
    (θ_run _ _ _).mono (fun r h c => ?_) (θ_run_and (Cert.Kernel8Ideal.Norm.run m g) (Cert.Kernel8Ideal.Gen.unchanged m g)),
    (θ_run _ _ _).mono (fun r h c => ?_) (Cert.Reference8Ideal.Value.run m' g')⟩
  · exact ⟨(h.1 c).1, (h.1 c).2.1, (h.1 c).2.2, h.2 c⟩
  · obtain ⟨a0, a1, a2, a3, a4, a5, a6⟩ := hag c
    refine ⟨(h c).1.trans ?_, (h c).2.1.trans ?_, (h c).2.2.1.trans ?_, (h c).2.2.2⟩
    · refine (show Cert.Reference8Ideal.Value.res_out0 m' c = rowR (sArr _ _) (ctArr _ _ _) _ from rfl).trans ?_
      rw [a0, a1, a2, a4, a5, a6]; exact grad_rows (sArr_row _ _) (ctArr_row _ _ _)
    · refine (show _ = summed (scaleR (sArr _ _) (ctArr _ _ _)) from rfl).trans ?_
      rw [a0, a1, a4, a5, a6]; exact scale_rows (sArr_row _ _) (ctArr_row _ _ _)
    · refine (show _ = summed (ctArr _ _ _) from rfl).trans ?_
      rw [a4, a5, a6]; exact shift_rows (ctArr_row _ _ _)

end Cert.FirstEqual

end
-- ==== Proof.Norm.Lanes.lean ====
/- The column order of the input projection in the kernel: the two gates first, then the scan's input and the two latents,
   then the rotary key, padded to a multiple of 128 lanes with zeros. -/
module

public import Idealize.ShloMosaic.Lib.Pointwise
public import proofs.«01_k».proof.Proof.Gen.Kernel9Ideal

@[expose] public section

noncomputable section

open Idealize.ShloMosaic Idealize.ShloMosaic.TcCoe Idealize.SL.Sem

namespace Cert.ZLanes

/-- A row in the kernel's column order. -/
def zlane (f : Fin 2848 → EReal) (l : Fin 2944) : EReal :=
  if h : l.val < 2048 then f ⟨800 + l.val, by omega⟩ else if h : l.val < 2848 then f ⟨l.val - 2048, by omega⟩ else 0

theorem sum_zlane (f g : Fin 2848 → EReal) : ∑ l : Fin 2944, zlane f l * zlane g l = ∑ l : Fin 2848, f l * g l := by
  have hl := Fin.sum_univ_add (a := 2048) (b := 896) (fun l : Fin 2944 => zlane f l * zlane g l)
  have hm := Fin.sum_univ_add (a := 800) (b := 96) (fun l : Fin 896 => zlane f (Fin.natAdd 2048 l) * zlane g (Fin.natAdd 2048 l))
  have hr := Fin.sum_univ_add (a := 800) (b := 2048) (fun l : Fin 2848 => f l * g l)
  refine hl.trans ((congrArg (_ + ·) hm).trans (Eq.trans ?_ hr.symm))
  have z : ∀ l : Fin 96, zlane f (Fin.natAdd 2048 (Fin.natAdd 800 l)) * zlane g (Fin.natAdd 2048 (Fin.natAdd 800 l)) = 0 := fun l => by
    unfold zlane
    rw [dif_neg (by simp only [Fin.val_natAdd]; omega), dif_neg (by simp only [Fin.val_natAdd]; omega), zero_mul]
  rw [Finset.sum_congr rfl fun l _ => z l, Finset.sum_const_zero, add_zero, add_comm]
  refine congrArg₂ (fun a b : EReal => a + b) (Finset.sum_congr rfl fun l _ => ?_) (Finset.sum_congr rfl fun l _ => ?_)
  · have e : ∀ k : Fin 2848 → EReal, zlane k (Fin.natAdd 2048 (Fin.castAdd 96 l)) = k (Fin.castAdd 2048 l) := fun k => by
      unfold zlane
      rw [dif_neg (by simp only [Fin.val_natAdd]; omega), dif_pos (by simp only [Fin.val_natAdd, Fin.val_castAdd]; omega)]
      exact congrArg k (Fin.ext (by simp only [Fin.val_natAdd, Fin.val_castAdd]; omega))
    rw [e, e]
  · have e : ∀ k : Fin 2848 → EReal, zlane k (Fin.castAdd 896 l) = k (Fin.natAdd 800 l) := fun k => by
      unfold zlane
      rw [dif_pos (by simp only [Fin.val_castAdd]; omega)]
      exact congrArg k (Fin.ext (by simp only [Fin.val_natAdd, Fin.val_castAdd]))
    rw [e, e]

/-- The lanes a concatenation of the four pieces reads. -/
theorem pieces (f : Fin 2848 → EReal) (l : Fin 2944) :
    (if h : l.val < 2048 then f ⟨800 + l.val, by omega⟩
    else if h : l.val - 2048 < 768 then f ⟨l.val - 2048, by omega⟩
    else if h : l.val - 2048 - 768 < 32 then f ⟨768 + (l.val - 2048 - 768), by omega⟩ else 0) = zlane f l := by
  unfold zlane
  split_ifs <;> first | (exfalso; omega) | exact Eq.refl (0 : EReal) | exact congrArg f (Fin.ext (by first | omega | (simp only; omega)))

open Cert.Kernel9Ideal Cert.Kernel9Ideal.Gen

def rowsZ (a : FVec Ideal S8192x2848 .f32) : FVec Ideal S8192x2944 .f32 :=
  concatenate S8192x2944 1 [⟨S8192x2048, extractStridedSlice S8192x2048 ![0, 800] a slices_S8192x2848_S8192x2048_0_800⟩,
    ⟨S8192x768, extractStridedSlice S8192x768 ![0, 0] a slices_S8192x2848_S8192x768_0_0⟩,
    ⟨S8192x32, extractStridedSlice S8192x32 ![0, 768] a slices_S8192x2848_S8192x32_0_768⟩,
    ⟨S8192x96, broadcastInDim S8192x96 ![] bcast_S_S8192x96 (constant S_ .f32 0x00000000#32)⟩] concatenates_S8192x2048_S8192x768_S8192x32_S8192x96_S8192x2944_d1

theorem rowsZ_at (a : FVec Ideal S8192x2848 .f32) (r : Fin 8192) (l : Fin 2944) : rowsZ a (ix2 r l) = zlane (fun k => a (ix2 r k)) l := by
  pointwise [rowsZ]
  exact pieces (fun k => a (ix2 r k)) l

def colsZ (a : FVec Ideal S1024x2848 .f32) : FVec Ideal S1024x2944 .f32 :=
  concatenate S1024x2944 1 [⟨S1024x2048, extractStridedSlice S1024x2048 ![0, 800] a slices_S1024x2848_S1024x2048_0_800⟩,
    ⟨S1024x768, extractStridedSlice S1024x768 ![0, 0] a slices_S1024x2848_S1024x768_0_0⟩,
    ⟨S1024x32, extractStridedSlice S1024x32 ![0, 768] a slices_S1024x2848_S1024x32_0_768⟩,
    ⟨S1024x96, broadcastInDim S1024x96 ![] bcast_S_S1024x96 (constant S_ .f32 0x00000000#32)⟩] concatenates_S1024x2048_S1024x768_S1024x32_S1024x96_S1024x2944_d1

theorem colsZ_at (a : FVec Ideal S1024x2848 .f32) (r : Fin 1024) (l : Fin 2944) : colsZ a (ix2 r l) = zlane (fun k => a (ix2 r k)) l := by
  pointwise [colsZ]
  exact pieces (fun k => a (ix2 r k)) l

end Cert.ZLanes

end
-- ==== Proof.Norm.Entry.lean ====
/- The backward call of the input layer norm: what it leaves, and the claims about it. -/
module

public import proofs.«01_k».proof.Proof.Norm.Claims
public import proofs.«01_k».proof.Proof.Norm.Lanes
public import proofs.«01_k».proof.Proof.Gen.Kernel9.Frame
public import proofs.«01_k».proof.Proof.Gen.Kernel9Ideal.Frame
public import proofs.«01_k».proof.Proof.Gen.Reference9Ideal.Run

@[expose] public section

set_option maxRecDepth 16384

noncomputable section

open Idealize.ShloMosaic Idealize.ShloMosaic.TcCoe Idealize.SL.Sem
open Idealize.ShloMosaic.Pipeline (Dat)

namespace Cert.Kernel9Ideal.Norm

open Cert.Kernel9Ideal Cert.Kernel9Ideal.Gen Cert.LnMath
open Cert.Kernel6Ideal.Norm (row scale gradArr scaleArr shiftArr scaleTiles shiftTiles tail tail_scale tail_shift grad_block scale_block shift_block centred root)

/-- A row of the norm's argument, and of its cotangent. -/
abbrev normed (x : FVec Ideal S8192x1024 .f32) (r : Fin 8192) (k : Fin 1024) : EReal := x (ix2 r k)

def cot (w : FVec Ideal S1024x2848 .f32) (dz : FVec Ideal S8192x2848 .f32) (e : FVec Ideal S8192x1024 .f32) (r : Fin 8192) (k : Fin 1024) : EReal :=
  (∑ l : Fin 2848, dz (ix2 r l) * w (ix2 k l)) + alphaW * e (ix2 r k)

/-! ## The body -/

section

variable (a : FVec Ideal S512x2944 .bf16) (w : FVec Ideal S1024x2944 .bf16) (e x : FVec Ideal S512x1024 .f32) (j : Fin 1024)

theorem cotangent (r : Fin 512) : k0_pay8 (F := Ideal) a w e (ix2 r j) = (∑ k : Fin 2944, a (ix2 r k) * w (ix2 j k)) + alphaW * e (ix2 r j) := by
  pointwise [k0_pay8]

theorem sum_bias : k0_pay9 (F := Ideal) a w e (ix2 0 j) = ∑ r : Fin 512, k0_pay8 (F := Ideal) a w e (ix2 r j) := by
  unfold k0_pay9
  generalize k0_pay8 (F := Ideal) a w e = o
  pointwise []

/-- The body's norm is the other calls', its argument read as it is. -/
theorem centred_eq : k0_pay4 (F := Ideal) x = Cert.Kernel6Ideal.Gen.k0_pay5 x := by
  unfold Cert.Kernel6Ideal.Gen.k0_pay5
  simp only [shapeCast_id]
  rfl

theorem variance_eq : k0_pay5 (F := Ideal) x = Cert.Kernel6Ideal.Gen.k0_pay6 x := by
  unfold k0_pay5
  rw [centred_eq]; rfl

theorem root_eq : k0_pay6 (F := Ideal) x = Cert.Kernel6Ideal.Gen.k0_pay7 x := by
  unfold k0_pay6
  rw [variance_eq]; rfl

theorem droot_eq : k0_pay7 (F := Ideal) x = Cert.Kernel6Ideal.Gen.k0_pay8 x := by
  unfold k0_pay7
  rw [variance_eq, root_eq]; rfl

theorem grad_eq (g : FVec Ideal S1x1024 .f32) (o : FVec Ideal S512x1024 .f32) :
    k0_pay1 (F := Ideal) (k0_pay4 (F := Ideal) x) (k0_pay6 (F := Ideal) x) (k0_pay7 (F := Ideal) x) o (k0_pay11 (F := Ideal) g)
      = Cert.Kernel6Ideal.Gen.k0_pay1 (Cert.Kernel6Ideal.Gen.k0_pay4 g) (Cert.Kernel6Ideal.Gen.k0_pay5 x) (Cert.Kernel6Ideal.Gen.k0_pay7 x)
          (Cert.Kernel6Ideal.Gen.k0_pay8 x) o := by
  rw [centred_eq, root_eq, droot_eq]; rfl

theorem sum_scale : k0_pay10 (F := Ideal) a w e x (ix2 0 j) = ∑ r : Fin 512, dg (row x r) (row (k0_pay8 (F := Ideal) a w e) r) j := by
  unfold k0_pay10
  generalize k0_pay8 (F := Ideal) a w e = o
  rw [centred_eq, root_eq]
  pointwise [root, centred, dg]

end

/-! ## The blocks -/

variable (m : (ℓ : Loc nD τ sig) → Buf (Elt Ideal) ℓ) (c : Dev nD)

abbrev xArg : FVec Ideal S8192x1024 .f32 := m ((c.tc : Thread nD τ).loc main_arg0)
abbrev gArg : FVec Ideal S1024 .f32 := m ((c.tc : Thread nD τ).loc main_arg1)
abbrev wArg : FVec Ideal S1024x2848 .f32 := m ((c.tc : Thread nD τ).loc main_arg3)
abbrev dArg : FVec Ideal S8192x2848 .f32 := m ((c.tc : Thread nD τ).loc main_arg4)
abbrev eArg : FVec Ideal S8192x1024 .f32 := m ((c.tc : Thread nD τ).loc main_arg5)

theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0] ∧ win0_8.index t = ![t.val, 0] :=
  (by decide +kernel : ∀ t : Fin grid0.N, _)

theorem V_d : V m c main_v5 = (truncf .bf16 (Cert.ZLanes.rowsZ (dArg m c)) bitsLt_bf16_f32 : FVec Ideal S8192x2944 .bf16) := by entry_read; rfl
theorem V_w : V m c main_v11 = (truncf .bf16 (Cert.ZLanes.colsZ (wArg m c)) bitsLt_bf16_f32 : FVec Ideal S1024x2944 .bf16) := by entry_read; rfl
theorem V_g : V m c main_v12 = (shapeCast S1x1024 (gArg m c) shapeCasts_S1024_S1x1024 : FVec Ideal S1x1024 .f32) := by entry_read; rfl

variable (t : Fin cfg0.N) (r : Fin 512) (ht : 512 * t.val + r.val < 8192)

theorem d_blk (l : Fin 2944) : (iblk m c 0 t : FVec Ideal S512x2944 .bf16) (ix2 r l)
    = Cert.ZLanes.zlane (fun k => dArg m c (ix2 ⟨512 * t.val + r.val, ht⟩ k)) l := by
  rw [← Cert.ZLanes.rowsZ_at]
  show V m c main_v5 (((cfg0.win 0).blk t).view.emb (ix2 r l)) = _
  rw [V_d]
  generalize Cert.ZLanes.rowsZ (dArg m c) = o
  blk_ext [idx t]

theorem w_blk (j : Fin 1024) (l : Fin 2944) : (iblk m c 1 t : FVec Ideal S1024x2944 .bf16) (ix2 j l)
    = Cert.ZLanes.zlane (fun k => wArg m c (ix2 j k)) l := by
  rw [← Cert.ZLanes.colsZ_at]
  show V m c main_v11 (((cfg0.win 1).blk t).view.emb (ix2 j l)) = _
  rw [V_w]
  generalize Cert.ZLanes.colsZ (wArg m c) = o
  blk_ext [idx t]

theorem e_blk (j : Fin 1024) : (iblk m c 2 t : FVec Ideal S512x1024 .f32) (ix2 r j) = eArg m c (ix2 ⟨512 * t.val + r.val, ht⟩ j) := by
  show V m c main_arg5 (((cfg0.win 2).blk t).view.emb (ix2 r j)) = _
  rw [V_main_arg5]
  blk_ext [idx t]

theorem s_blk (j : Fin 1024) : (iblk m c 3 t : FVec Ideal S512x1024 .f32) (ix2 r j) = xArg m c (ix2 ⟨512 * t.val + r.val, ht⟩ j) := by
  show V m c main_arg0 (((cfg0.win 3).blk t).view.emb (ix2 r j)) = _
  rw [V_main_arg0]
  blk_ext [idx t]

theorem g_blk (j : Fin 1024) : (iblk m c 4 t : FVec Ideal S1x1024 .f32) (ix2 0 j) = gArg m c (ix1 j) := by
  have hs : shapeCast S1x1024 (gArg m c) shapeCasts_S1024_S1x1024 (ix2 0 j) = gArg m c (ix1 j) := by pointwise []
  rw [← hs]
  show V m c main_v12 (((cfg0.win 4).blk t).view.emb (ix2 0 j)) = _
  rw [V_g]
  generalize shapeCast S1x1024 (gArg m c) shapeCasts_S1024_S1x1024 = o
  blk_ext [idx t]

/-- The rows of the point's blocks. -/
theorem g_row : (fun k => (iblk m c 4 t : FVec Ideal S1x1024 .f32) (ix2 0 k)) = scale (gArg m c) := funext fun k => g_blk m c t k

theorem s_row : row (iblk m c 3 t : FVec Ideal S512x1024 .f32) r = normed (xArg m c) ⟨512 * t.val + r.val, ht⟩ :=
  funext fun j => s_blk m c t r ht j

theorem ct_at (j : Fin 1024) : k0_pay8 (F := Ideal) (iblk m c 0 t) (iblk m c 1 t) (iblk m c 2 t) (ix2 r j)
    = cot (wArg m c) (dArg m c) (eArg m c) ⟨512 * t.val + r.val, ht⟩ j := by
  refine (cotangent _ _ _ _ _).trans ?_
  refine congrArg₂ (fun a b : EReal => a + alphaW * b) (Eq.trans (Finset.sum_congr rfl fun l _ => ?_)
    (Cert.ZLanes.sum_zlane (fun k => dArg m c (ix2 ⟨512 * t.val + r.val, ht⟩ k)) (fun k => wArg m c (ix2 j k)))) (e_blk m c t r ht j)
  exact congrArg₂ (fun a b : EReal => a * b) (d_blk m c t r ht l) (w_blk m c t j l)

theorem ct_row : row (k0_pay8 (F := Ideal) (iblk m c 0 t) (iblk m c 1 t) (iblk m c 2 t)) r
    = cot (wArg m c) (dArg m c) (eArg m c) ⟨512 * t.val + r.val, ht⟩ :=
  funext fun j => ct_at m c t r ht j

theorem rows_in (r : Fin 512) : 512 * t.val + r.val < 8192 := by have := lt_of_lt_of_eq t.isLt N_0; omega

abbrev S : Fin 8192 → Fin 1024 → EReal := normed (xArg m c)
abbrev C : Fin 8192 → Fin 1024 → EReal := cot (wArg m c) (dArg m c) (eArg m c)

theorem final_x : (dats m 0 c).arrAt 6 (cfgs 0).N = gradArr (S m c) (C m c) (scale (gArg m c)) := by
  refine (dats m 0 c).arrAt_eq_of_covers 6 _ (by decide +kernel) fun t _ y => ?_
  blk_simp
  rw [after0_6]; frame_out
  rw [grad_eq]
  exact grad_block (rows_in t) (fun r => s_row m c t r (rows_in t r)) (fun r => ct_row m c t r (rows_in t r)) (g_row m c t) y _
    (by blk_simp [idx t]) (by blk_simp [idx t])

theorem final_scale : (dats m 0 c).arrAt 7 (cfgs 0).N = scaleTiles (S m c) (C m c) := by
  refine (dats m 0 c).arrAt_eq_of_covers 7 _ (by decide +kernel) fun t _ y => ?_
  blk_simp
  rw [after0_7]; frame_out
  exact scale_block (rows_in t) (fun r => s_row m c t r (rows_in t r)) (fun r => ct_row m c t r (rows_in t r)) _
    (fun j => sum_scale _ _ _ _ _) y _ (by blk_simp [idx t]) (by blk_simp [idx t])

theorem final_shift : (dats m 0 c).arrAt 8 (cfgs 0).N = shiftTiles (C m c) := by
  refine (dats m 0 c).arrAt_eq_of_covers 8 _ (by decide +kernel) fun t _ y => ?_
  blk_simp
  rw [after0_8]; frame_out
  exact shift_block (rows_in t) (fun r => ct_row m c t r (rows_in t r)) _
    (fun j => sum_bias _ _ _ _) y _ (by blk_simp [idx t]) (by blk_simp [idx t])

/-! ## After the sums over the tiles -/

theorem after_scale : Pipeline.afterTail₀ cfgs (dats m) 0 (V0 m) [hostOps1] c main_v19 = scaleArr (S m c) (C m c) := by
  rw [← tail_scale, ← final_scale m c]
  unfold Pipeline.afterTail₀
  rw [← Pipeline.withArrays_arr (cfgs 0).spec launch0.win.arr_inj c (V0 m c) (fun w => (dats m 0 c).arrAt w (cfgs 0).N) 7]
  generalize Pipeline.withArrays (cfgs 0).spec c (V0 m c) (fun w => (dats m 0 c).arrAt w (cfgs 0).N) = X
  simp only [hostOps1, List.flatten_cons, List.flatten_nil, List.append_nil]
  after_results_simp
  all_goals rfl

theorem after_shift : Pipeline.afterTail₀ cfgs (dats m) 0 (V0 m) [hostOps1] c main_v24 = shiftArr (C m c) := by
  rw [← tail_shift, ← final_shift m c]
  unfold Pipeline.afterTail₀
  rw [← Pipeline.withArrays_arr (cfgs 0).spec launch0.win.arr_inj c (V0 m c) (fun w => (dats m 0 c).arrAt w (cfgs 0).N) 8]
  generalize Pipeline.withArrays (cfgs 0).spec c (V0 m c) (fun w => (dats m 0 c).arrAt w (cfgs 0).N) = X
  simp only [hostOps1, List.flatten_cons, List.flatten_nil, List.append_nil]
  after_results_simp
  all_goals rfl

/-- The call's three results. -/
theorem run (ρ : Dev nD → PrngReg) : θ_run defs (onTc (τ := τ) (main (F := Ideal))) ⟨m, fun _ => 0, ρ⟩ (fun r => ∀ c : Dev nD,
    r.2.mem ((c.tc : Thread nD τ).loc main_v14_0) = gradArr (S m c) (C m c) (scale (gArg m c))
      ∧ r.2.mem ((c.tc : Thread nD τ).loc main_v19) = scaleArr (S m c) (C m c)
      ∧ r.2.mem ((c.tc : Thread nD τ).loc main_v24) = shiftArr (C m c)) :=
  (θ_run _ _ _).mono (fun r h c =>
    ⟨((h c).1 6).trans (final_x m c), ((h c).2 main_v19 (Pipeline.mem_restRefs_of main_v19 (by decide) (by decide))).trans (after_scale m c),
      ((h c).2 main_v24 (Pipeline.mem_restRefs_of main_v24 (by decide) (by decide))).trans (after_shift m c)⟩) (Gen.run_main m ρ)

end Cert.Kernel9Ideal.Norm

namespace Cert.EntryEqual

open Cert.LnMath Cert.Kernel9Ideal.Norm
open Cert.Kernel6Ideal.Norm (scale gradArr scaleArr shiftArr)
open Cert.Reference6Ideal.Norm (rowR summed scaleR grad_rows scale_rows shift_rows)

/-- The reference leaves its arguments as they were; it has no semaphore. -/
theorem frame_reference : Cert.quiescent_Reference9Ideal := fun m ρ _ =>
  (θ_run Cert.Reference9Ideal.defs _ _).mono
    (fun r h => ⟨fun c => (h c).2.2.2, sem_eq_zero_of_no_sems (by decide) r.2⟩) (Cert.Reference9Ideal.Value.run m ρ)

section Reference

open Cert.Reference9Ideal Cert.Reference9Ideal.Gen

variable (w : FVec Ideal S1024x2848 .f32) (dz : FVec Ideal S8192x2848 .f32) (e : FVec Ideal S8192x1024 .f32)

/-- The norm's cotangent, as the reference forms it. -/
def ctArr : FVec Ideal S8192x1024 .f32 := addf (mulf (broadcastInDim S8192x1024 ![] bcast_S_S8192x1024 (constant S_ .f32 0x3F9837F0#32)) e)
  (Host.dotGeneral dot_S8192x2848_S1024x2848_S8192x1024_1_1_0_0_n_n none dz w)

theorem ctArr_row (r : Fin 8192) : Cert.Reference6Ideal.Norm.row (ctArr w dz e) r = cot w dz e r := funext fun j => by
  show ctArr w dz e (ix2 r j) = _
  pointwise [ctArr, cot]
  exact add_comm _ _

end Reference

theorem algebraic : Cert.algebraic_Kernel9Ideal_Reference9Ideal := by
  intro m g m' g' hpre hag
  refine ⟨fun c => gradArr (S m c) (C m c) (scale (gArg m c)), fun c => scaleArr (S m c) (C m c), fun c => shiftArr (C m c),
    (θ_run _ _ _).mono (fun r h c => ?_) (θ_run_and (Cert.Kernel9Ideal.Norm.run m g) (Cert.Kernel9Ideal.Gen.unchanged m g)),
    (θ_run _ _ _).mono (fun r h c => ?_) (Cert.Reference9Ideal.Value.run m' g')⟩
  · exact ⟨(h.1 c).1, (h.1 c).2.1, (h.1 c).2.2, h.2 c⟩
  · obtain ⟨a0, a1, a2, a3, a4, a5⟩ := hag c
    refine ⟨(h c).1.trans ?_, (h c).2.1.trans ?_, (h c).2.2.1.trans ?_, (h c).2.2.2⟩
    · refine (show Cert.Reference9Ideal.Value.res_out0 m' c = rowR _ (ctArr _ _ _) _ from rfl).trans ?_
      rw [a0, a1, a3, a4, a5]; exact grad_rows (fun _ => rfl) (ctArr_row _ _ _)
    · refine (show _ = summed (scaleR _ (ctArr _ _ _)) from rfl).trans ?_
      rw [a0, a3, a4, a5]; exact scale_rows (fun _ => rfl) (ctArr_row _ _ _)
    · refine (show _ = summed (ctArr _ _ _) from rfl).trans ?_
      rw [a3, a4, a5]; exact shift_rows (ctArr_row _ _ _)

end Cert.EntryEqual

end
-- ==== Proof.Norm.Forward.lean ====
/- The forward call of the first layer norm: the output projection, the residual branch and its norm, and the claims about it. -/
module

public import proofs.«01_k».proof.Defs
public import proofs.«01_k».proof.Proof.Norm.Ref
public import proofs.«01_k».proof.Proof.Gen.Kernel16.Frame
public import proofs.«01_k».proof.Proof.Gen.Kernel16Ideal.Frame
public import proofs.«01_k».proof.Proof.Gen.Reference16Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ForwardEqual

open Cert.LnMath

section Kernel

open Cert.Kernel16Ideal Cert.Kernel16Ideal.Gen

/-- A row of the norm's argument. -/
def branch (h x : FVec Ideal S8192x1024 .f32) (w : FVec Ideal S1024x1024 .f32) (r : Fin 8192) (j : Fin 1024) : EReal :=
  alphaW * h (ix2 r j) + ∑ k : Fin 1024, x (ix2 r k) * w (ix2 k j)

def branchArr (h x : FVec Ideal S8192x1024 .f32) (w : FVec Ideal S1024x1024 .f32) : FVec Ideal S8192x1024 .f32 := fun i => branch h x w (i 0) (i 1)

/-- A row's norm, scaled and shifted. -/
def norm (s : Fin 1024 → EReal) (g b : EReal) (j : Fin 1024) : EReal := xc s j * rs s * g + b

def normArr (h x : FVec Ideal S8192x1024 .f32) (w : FVec Ideal S1024x1024 .f32) (g b : FVec Ideal S1024 .f32) : FVec Ideal S8192x1024 .f32 :=
  fun i => norm (branch h x w (i 0)) (g (ix1 (i 1))) (b (ix1 (i 1))) (i 1)

section

variable (x : FVec Ideal S512x1024 .bf16) (w : FVec Ideal S1024x1024 .bf16) (h : FVec Ideal S512x1024 .f32) (g b : FVec Ideal S1x1024 .f32)
  (r : Fin 512) (j : Fin 1024)

theorem sum_body : k0_pay1 (F := Ideal) x w h (ix2 r j) = alphaW * h (ix2 r j) + ∑ k : Fin 1024, x (ix2 r k) * w (ix2 k j) := by
  pointwise [k0_pay1]

theorem norm_body : k0_pay2 (F := Ideal) x w h g b (ix2 r j)
    = norm (fun k => k0_pay1 (F := Ideal) x w h (ix2 r k)) (g (ix2 0 j)) (b (ix2 0 j)) j := by
  unfold k0_pay2
  generalize k0_pay1 (F := Ideal) x w h = o
  pointwise [norm, xc, rs, vr]

end

variable (m : (ℓ : Loc nD τ sig) → Buf (Elt Ideal) ℓ) (c : Dev nD)

abbrev hArg : FVec Ideal S8192x1024 .f32 := m ((c.tc : Thread nD τ).loc main_arg0)
abbrev xArg : FVec Ideal S8192x1024 .f32 := m ((c.tc : Thread nD τ).loc main_arg1)
abbrev wArg : FVec Ideal S1024x1024 .f32 := m ((c.tc : Thread nD τ).loc main_arg2)
abbrev gArg : FVec Ideal S1024 .f32 := m ((c.tc : Thread nD τ).loc main_arg3)
abbrev bArg : FVec Ideal S1024 .f32 := m ((c.tc : Thread nD τ).loc main_arg4)

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

theorem V_x : V m c main_v0 = (truncf .bf16 (xArg m c) bitsLt_bf16_f32 : FVec Ideal S8192x1024 .bf16) := by entry_read; rfl
theorem V_w : V m c main_v1 = (truncf .bf16 (wArg m c) bitsLt_bf16_f32 : FVec Ideal S1024x1024 .bf16) := by entry_read; rfl
theorem V_g : V m c main_v2 = (shapeCast S1x1024 (gArg m c) shapeCasts_S1024_S1x1024 : FVec Ideal S1x1024 .f32) := by entry_read; rfl
theorem V_b : V m c main_v3 = (shapeCast S1x1024 (bArg m c) shapeCasts_S1024_S1x1024 : FVec Ideal S1x1024 .f32) := by entry_read; rfl

theorem laid (g : FVec Ideal S1024 .f32) (j : Fin 1024) : shapeCast S1x1024 g shapeCasts_S1024_S1x1024 (ix2 0 j) = g (ix1 j) := by pointwise []

variable (t : Fin cfg0.N) (r : Fin 512) (j : Fin 1024)

theorem rows_in : 512 * t.val + r.val < 8192 := by have := lt_of_lt_of_eq t.isLt N_0; omega

theorem x_blk : (iblk m c 0 t : FVec Ideal S512x1024 .bf16) (ix2 r j) = xArg m c (ix2 ⟨512 * t.val + r.val, rows_in t r⟩ j) := by
  show V m c main_v0 (((cfg0.win 0).blk t).view.emb (ix2 r j)) = _
  rw [V_x]; blk_ext [idx t]

theorem w_blk (k : Fin 1024) : (iblk m c 1 t : FVec Ideal S1024x1024 .bf16) (ix2 k j) = wArg m c (ix2 k j) := by
  show V m c main_v1 (((cfg0.win 1).blk t).view.emb (ix2 k j)) = _
  rw [V_w]; blk_ext [idx t]

theorem h_blk : (iblk m c 2 t : FVec Ideal S512x1024 .f32) (ix2 r j) = hArg m c (ix2 ⟨512 * t.val + r.val, rows_in t r⟩ j) := by
  show V m c main_arg0 (((cfg0.win 2).blk t).view.emb (ix2 r j)) = _
  rw [V_main_arg0]; blk_ext [idx t]

theorem g_blk : (iblk m c 3 t : FVec Ideal S1x1024 .f32) (ix2 0 j) = gArg m c (ix1 j) := by
  rw [← laid (gArg m c)]
  show V m c main_v2 (((cfg0.win 3).blk t).view.emb (ix2 0 j)) = _
  rw [V_g]
  generalize shapeCast S1x1024 (gArg m c) shapeCasts_S1024_S1x1024 = o
  blk_ext [idx t]

theorem b_blk : (iblk m c 4 t : FVec Ideal S1x1024 .f32) (ix2 0 j) = bArg m c (ix1 j) := by
  rw [← laid (bArg m c)]
  show V m c main_v3 (((cfg0.win 4).blk t).view.emb (ix2 0 j)) = _
  rw [V_b]
  generalize shapeCast S1x1024 (bArg m c) shapeCasts_S1024_S1x1024 = o
  blk_ext [idx t]

theorem sum_point : k0_pay1 (F := Ideal) (iblk m c 0 t) (iblk m c 1 t) (iblk m c 2 t) (ix2 r j)
    = branch (hArg m c) (xArg m c) (wArg m c) ⟨512 * t.val + r.val, rows_in t r⟩ j :=
  (sum_body _ _ _ _ _).trans (congrArg₂ (fun a b : EReal => alphaW * a + b) (h_blk m c t r j)
    (Finset.sum_congr rfl fun k _ => congrArg₂ (fun a b : EReal => a * b) (x_blk m c t r k) (w_blk m c t j k)))

theorem norm_point : k0_pay2 (F := Ideal) (iblk m c 0 t) (iblk m c 1 t) (iblk m c 2 t) (iblk m c 3 t) (iblk m c 4 t) (ix2 r j)
    = norm (branch (hArg m c) (xArg m c) (wArg m c) ⟨512 * t.val + r.val, rows_in t r⟩) (gArg m c (ix1 j)) (bArg m c (ix1 j)) j := by
  refine (norm_body _ _ _ _ _ _ _).trans ?_
  rw [funext fun k => sum_point m c t r k, g_blk, b_blk]

theorem final_sum : (dats m 0 c).arrAt 5 (cfgs 0).N = branchArr (hArg m c) (xArg m c) (wArg m c) := by
  refine (dats m 0 c).arrAt_eq_of_covers 5 _ (by decide +kernel) fun t _ y => ?_
  blk_simp
  rw [after0_5]; frame_out
  idx_vars y
  refine (sum_point m c t y0 y1).trans ?_
  exact congrArg₂ (branch (hArg m c) (xArg m c) (wArg m c)) (Fin.ext (by blk_simp [idx t]; exact (by omega : 512 * t.val + y0.val = t.val * 512 + y0.val))) (Fin.ext (by blk_simp [idx t]))

theorem final_norm : (dats m 0 c).arrAt 6 (cfgs 0).N = normArr (hArg m c) (xArg m c) (wArg m c) (gArg m c) (bArg m c) := by
  refine (dats m 0 c).arrAt_eq_of_covers 6 _ (by decide +kernel) fun t _ y => ?_
  blk_simp
  rw [after0_6]; frame_out
  idx_vars y
  refine (norm_point m c t y0 y1).trans ?_
  exact congrArg₂ (fun p q => norm (branch (hArg m c) (xArg m c) (wArg m c) p) (gArg m c (ix1 q)) (bArg m c (ix1 q)) q)
    (Fin.ext (by blk_simp [idx t]; exact (by omega : 512 * t.val + y0.val = t.val * 512 + y0.val))) (Fin.ext (by blk_simp [idx t]))

end Kernel

section Reference

open Cert.Reference16Ideal Cert.Reference16Ideal.Gen Cert.Reference6Ideal.Norm

variable (h x : FVec Ideal S8192x1024 .f32) (w : FVec Ideal S1024x1024 .f32) (g b : FVec Ideal S1024 .f32)

abbrev spread (g : FVec Ideal S1024 .f32) : FVec Ideal S8192x1024 .f32 :=
  broadcastInDim S8192x1024 ![0, 1] bcast_S1x1024_S8192x1024_0_1 (broadcastInDim S1x1024 ![1] bcast_S1024_S1x1024_1 g)

theorem sum_ref : (addf (mulf (broadcastInDim S8192x1024 ![] bcast_S_S8192x1024 (constant S_ .f32 0x3F9837F0#32)) h)
    (Host.dotGeneral dot_S8192x1024_S1024x1024_S8192x1024_1_0_0_1_n_n none x w) : FVec Ideal S8192x1024 .f32) = branchArr h x w := by
  funext i
  idx_vars i
  pointwise [branchArr, branch]

theorem norm_ref : addf (mulf (mulf (centredR (branchArr h x w)) (wide (rootR (branchArr h x w)))) (spread g)) (spread b) = normArr h x w g b := by
  funext i
  idx_vars i
  pointwise [centred_at, root_at, normArr, norm]
  rfl

end Reference

/-- The reference's frame. -/
theorem frame_reference : Cert.quiescent_Reference16Ideal := fun m ρ _ =>
  (θ_run Cert.Reference16Ideal.defs _ _).mono
    (fun r h => ⟨fun c => (h c).2.2, sem_eq_zero_of_no_sems (by decide) r.2⟩) (Cert.Reference16Ideal.Value.run m ρ)

theorem algebraic : Cert.algebraic_Kernel16Ideal_Reference16Ideal := by
  intro m g m' g' hpre hag
  refine ⟨fun c => branchArr (hArg m c) (xArg m c) (wArg m c), fun c => normArr (hArg m c) (xArg m c) (wArg m c) (gArg m c) (bArg m c),
    (θ_run _ _ _).mono (fun r h c => ?_) (θ_run_and (Cert.Kernel16Ideal.Gen.run_main m g) (Cert.Kernel16Ideal.Gen.unchanged m g)),
    (θ_run _ _ _).mono (fun r h c => ?_) (Cert.Reference16Ideal.Value.run m' g')⟩
  · exact ⟨((h.1 c).1 5).trans (final_sum m c), ((h.1 c).1 6).trans (final_norm m c), h.2 c⟩
  · obtain ⟨a0, a1, a2, a3, a4⟩ := hag c
    refine ⟨(h c).1.trans ?_, (h c).2.1.trans ?_, (h c).2.2⟩
    · rw [a0, a1, a2]; exact sum_ref _ _ _
    · rw [a0, a1, a2, a3, a4, sum_ref]; exact Eq.trans rfl (norm_ref _ _ _ _ _)

end Cert.ForwardEqual

end
-- ==== Proof.Loss.Value.lean ====
/- The last layer norm with the loss: its body's cotangent, its loss, and the norm's gradients, at one row. -/
module

public import proofs.«01_k».proof.Defs
public import proofs.«01_k».proof.Proof.Norm.Rows
public import proofs.«01_k».proof.Proof.Gen.Kernel10.Frame
public import proofs.«01_k».proof.Proof.Gen.Kernel10Ideal.Frame

@[expose] public section

set_option maxRecDepth 16384

noncomputable section

open Idealize.ShloMosaic Idealize.ShloMosaic.TcCoe Idealize.SL.Sem
open Idealize.ShloMosaic.Pipeline (Dat)

namespace Cert.LossMath

open Cert.LnMath

/-- One half, and the weight of one lane's error. -/
abbrev fracW : EReal := Ideal.ofBits .f32 0x3F000000#32
abbrev weight : EReal := Ideal.div fracW lanesW

theorem half_f32 : fracW = ((1 / 2 : ℝ) : EReal) := by
  simp [Ideal.ofBits, Ideal.ieee, -EReal.coe_mul]; norm_num

theorem weight_eq : weight = ((1 / 2048 : ℝ) : EReal) := by
  have h2 : lanesW = ((1024 : ℝ) : EReal) := by simp [Ideal.ofBits, Ideal.ieee, -EReal.coe_mul]; norm_num
  rw [weight, half_f32, h2]
  unfold Ideal.div
  rw [if_neg (by norm_num), ← EReal.coe_inv, ← EReal.coe_mul]
  norm_num

variable (s g b u : Fin 1024 → EReal)

/-- The error of a row's lane, the lane's part of the cotangent, and the row's mean square. -/
def err (j : Fin 1024) : EReal := xc s j * rs s * g j + b j - u j

def ct (j : Fin 1024) : EReal := err s g b u j * weight + weight * err s g b u j

def meanSq : EReal := Ideal.div (∑ k, err s g b u k * err s g b u k) lanesW

/-- A half of a sum is the sum of the halves. -/
theorem half_sum {n : ℕ} (f : Fin n → EReal) : fracW * ∑ i, f i = ∑ i, fracW * f i := by
  rw [half_f32]
  induction n with
  | zero => simp
  | succ n ih => rw [Fin.sum_univ_succ, Fin.sum_univ_succ, EReal.left_distrib_of_nonneg_of_ne_top (EReal.coe_nonneg.mpr (by norm_num)) (EReal.coe_ne_top _), ih]

/-- Twice the error, weighted. -/
theorem twice (x : EReal) : weight * (((2 : ℝ) : EReal) * x) = x * weight + weight * x := by
  have h2 : ((2 : ℝ) : EReal) * x = x + x := by
    rw [show ((2 : ℝ) : EReal) = 1 + 1 by norm_cast, EReal.right_distrib_of_nonneg zero_le_one zero_le_one, one_mul]
  rw [h2, weight_eq, EReal.left_distrib_of_nonneg_of_ne_top (EReal.coe_nonneg.mpr (by norm_num)) (EReal.coe_ne_top _), mul_comm x]

end Cert.LossMath

namespace Cert.Kernel10Ideal.Loss

open Cert.Kernel10Ideal Cert.Kernel10Ideal.Gen Cert.LnMath
open Cert.LossMath (err ct meanSq fracW weight)
open Cert.Kernel6Ideal.Norm (row centred root droot)

variable (a : FVec Ideal S512x4096 .bf16) (w : FVec Ideal S4096x1024 .bf16) (h u : FVec Ideal S512x1024 .f32) (g b : FVec Ideal S1x1024 .f32)

/-- The norm's argument in a block: the residual and the second product of the feed-forward part. -/
def argument : FVec Ideal S512x1024 .f32 :=
  addf (mulf (broadcast S512x1024 (Scalar.ofBits .f32 0x3F9837F0#32)) h)
    (matmul dot_S512x4096_S4096x1024_S512x1024_1_0_0_1_n_n none
      (truncf .bf16 (mulf (maximumf (extf .f32 a bitsLt_bf16_f32) (broadcast S512x4096 (Scalar.ofBits .f32 0x00000000#32)))
        (maximumf (extf .f32 a bitsLt_bf16_f32) (broadcast S512x4096 (Scalar.ofBits .f32 0x00000000#32)))) bitsLt_bf16_f32)
      w (constant S512x1024 .f32 0x00000000#32))

theorem argument_at (r : Fin 512) (j : Fin 1024) : argument a w h (ix2 r j)
    = alphaW * h (ix2 r j) + ∑ l : Fin 4096, (max (a (ix2 r l)) 0 * max (a (ix2 r l)) 0) * w (ix2 l j) := by
  pointwise [argument]

/-- The body's norm is the other calls', at this argument. -/
theorem centred_eq : k0_pay7 (F := Ideal) a w h = Cert.Kernel6Ideal.Gen.k0_pay5 (argument a w h) := by
  unfold k0_pay7 Cert.Kernel6Ideal.Gen.k0_pay5
  simp only [shapeCast_id]
  rfl

theorem root_eq : k0_pay9 (F := Ideal) a w h = Cert.Kernel6Ideal.Gen.k0_pay7 (argument a w h) := by
  unfold k0_pay9 k0_pay8
  rw [centred_eq]; rfl

theorem droot_eq : k0_pay10 (F := Ideal) a w h = Cert.Kernel6Ideal.Gen.k0_pay8 (argument a w h) := by
  unfold k0_pay10 k0_pay9 k0_pay8
  rw [centred_eq]; rfl

variable (x : FVec Ideal S512x1024 .f32)

/-- The error and the cotangent over a norm's argument `x`. -/
abbrev errB : FVec Ideal S512x1024 .f32 :=
  k0_pay12 (F := Ideal) u (k0_pay5 (F := Ideal) g) (k0_pay6 (F := Ideal) b) (Cert.Kernel6Ideal.Gen.k0_pay5 x) (Cert.Kernel6Ideal.Gen.k0_pay7 x)

abbrev ctB : FVec Ideal S512x1024 .f32 :=
  k0_pay14 (F := Ideal) u (k0_pay5 (F := Ideal) g) (k0_pay6 (F := Ideal) b) (Cert.Kernel6Ideal.Gen.k0_pay5 x) (Cert.Kernel6Ideal.Gen.k0_pay7 x)

/-- The row of a block of one row. -/
abbrev row1 (v : FVec Ideal S1x1024 .f32) : Fin 1024 → EReal := fun k => v (ix2 0 k)

theorem error (r : Fin 512) (j : Fin 1024) : errB u g b x (ix2 r j) = err (row x r) (row1 g) (row1 b) (row u r) j := by
  unfold errB k0_pay12 k0_pay11 k0_pay5 k0_pay6
  pointwise [centred, root, err]

theorem cotangent (r : Fin 512) (j : Fin 1024) : ctB u g b x (ix2 r j) = ct (row x r) (row1 g) (row1 b) (row u r) j := by
  unfold ctB k0_pay14
  pointwise [error, ct]

theorem sum_bias (j : Fin 1024) :
    k0_pay15 (F := Ideal) u (k0_pay5 (F := Ideal) g) (k0_pay6 (F := Ideal) b) (Cert.Kernel6Ideal.Gen.k0_pay5 x) (Cert.Kernel6Ideal.Gen.k0_pay7 x) (ix2 0 j)
      = ∑ r : Fin 512, ctB u g b x (ix2 r j) := by
  unfold k0_pay15
  pointwise []

theorem sum_scale (j : Fin 1024) :
    k0_pay16 (F := Ideal) u (k0_pay5 (F := Ideal) g) (k0_pay6 (F := Ideal) b) (Cert.Kernel6Ideal.Gen.k0_pay5 x) (Cert.Kernel6Ideal.Gen.k0_pay7 x) (ix2 0 j)
      = ∑ r : Fin 512, dg (row x r) (row (ctB u g b x) r) j := by
  unfold k0_pay16 k0_pay11
  pointwise [root, centred, dg]

theorem grad_eq : k0_pay1 (F := Ideal) (k0_pay17 (F := Ideal) u (k0_pay5 (F := Ideal) g) (k0_pay6 (F := Ideal) b) (Cert.Kernel6Ideal.Gen.k0_pay5 x)
      (Cert.Kernel6Ideal.Gen.k0_pay7 x) (Cert.Kernel6Ideal.Gen.k0_pay8 x)) (Scalar.ofBits .f32 0x00000000#32)
    = Cert.Kernel6Ideal.Gen.k0_pay1 (Cert.Kernel6Ideal.Gen.k0_pay4 g) (Cert.Kernel6Ideal.Gen.k0_pay5 x) (Cert.Kernel6Ideal.Gen.k0_pay7 x)
        (Cert.Kernel6Ideal.Gen.k0_pay8 x) (ctB u g b x) := rfl

/-- A tile's loss. -/
theorem loss_at (i : Fin 8) (j : Fin 128) :
    k0_pay4 (F := Ideal) (k0_pay13 (F := Ideal) u (k0_pay5 (F := Ideal) g) (k0_pay6 (F := Ideal) b) (Cert.Kernel6Ideal.Gen.k0_pay5 x)
        (Cert.Kernel6Ideal.Gen.k0_pay7 x)) (ix2 i j)
      = fracW * ∑ r : Fin 512, meanSq (row x r) (row1 g) (row1 b) (row u r) := by
  unfold k0_pay4 k0_pay13
  pointwise [error, meanSq]

end Cert.Kernel10Ideal.Loss

end
-- ==== Proof.Loss.Claims.lean ====
/- The last layer norm with the loss: the arrays the call and the reference leave, and the claims about them. -/
module

public import proofs.«01_k».proof.Proof.Loss.Value
public import proofs.«01_k».proof.Proof.Norm.Claims
public import proofs.«01_k».proof.Proof.Gen.Reference10Ideal.Run

@[expose] public section

set_option maxRecDepth 16384

noncomputable section

open Idealize.ShloMosaic Idealize.ShloMosaic.TcCoe Idealize.SL.Sem
open Idealize.ShloMosaic.Pipeline (Dat)

namespace Cert.Kernel10Ideal.Loss

open Cert.Kernel10Ideal Cert.Kernel10Ideal.Gen Cert.LnMath
open Cert.LossMath (err ct meanSq fracW weight half_sum)
open Cert.Kernel6Ideal.Norm (row scale gradArr scaleArr shiftArr scaleTiles shiftTiles tail tail_scale tail_shift grad_block scale_block shift_block)

/-! ## The rows of the whole arrays -/

/-- The norm's argument, its cotangent and its mean square, row by row. -/
def normed (h : FVec Ideal S8192x1024 .f32) (a : FVec Ideal S8192x4096 .f32) (w : FVec Ideal S4096x1024 .f32) (r : Fin 8192) (j : Fin 1024) : EReal :=
  alphaW * h (ix2 r j) + ∑ l : Fin 4096, (max (a (ix2 r l)) 0 * max (a (ix2 r l)) 0) * w (ix2 l j)

variable (s : Fin 8192 → Fin 1024 → EReal) (u : FVec Ideal S8192x1024 .f32) (g b : FVec Ideal S1024 .f32)

def cot (r : Fin 8192) : Fin 1024 → EReal := ct (s r) (scale g) (scale b) fun k => u (ix2 r k)

def part (r : Fin 8192) : EReal := meanSq (s r) (scale g) (scale b) fun k => u (ix2 r k)

/-- The loss, and what a tile leaves of it. -/
def lossArr : FVec Ideal S1x1 .f32 := fun _ => fracW * ∑ r : Fin 8192, part s u g b r

def lossTiles : FVec Ideal S128x128 .f32 := fun i => fracW * ∑ r : Fin 512, part s u g b ⟨512 * ((i 0).val / 8) + r.val, by
  have := (i 0).isLt; have h : (i 0).val < 128 := this; omega⟩

/-- The sum of the tiles, one number of each. -/
def lossTail (x : FVec Ideal S128x128 .f32) : FVec Ideal S1x1 .f32 :=
  extractStridedSlice S1x1 ![0, 0] (broadcastInDim S1x128 ![1] bcast_S128_S1x128_1 (Host.reduceAdd (shapeCast S16x128
    (extractStridedSlice S16x1x128 ![0, 0, 0] (shapeCast S16x8x128 x shapeCasts_S128x128_S16x8x128) slices_S16x8x128_S16x1x128_0_0_0)
      shapeCasts_S16x1x128_S16x128)
    (constant S_ .f32 0x00000000#32) reducesTo_S16x128_S128_d0 h_S_)) slices_S1x128_S1x1_0_0

theorem lossTail_at (x : FVec Ideal S128x128 .f32) : lossTail x (ix2 0 0) = ∑ i : Fin 16, x (ix2 ⟨8 * i.val, by omega⟩ 0) := by
  pointwise [lossTail]
  all_goals exact Finset.sum_congr rfl fun i _ => congrArg (fun k : Fin 128 => x (ix2 k 0)) (Fin.ext (by simp only; omega))

theorem tail_loss : lossTail (lossTiles s u g b) = lossArr s u g b := funext fun i => by
  idx_vars i
  obtain rfl : i0 = 0 := Subsingleton.elim _ _
  obtain rfl : i1 = 0 := Subsingleton.elim _ _
  rw [lossTail_at]
  refine Eq.trans ?_ (congrArg (fun x : EReal => fracW * x) (sum_tiles (part s u g b)).symm)
  rw [half_sum]
  refine Finset.sum_congr rfl fun i _ => congrArg (fun x : EReal => fracW * x) (Finset.sum_congr rfl fun r _ => congrArg (part s u g b) (Fin.ext ?_))
  show 512 * (8 * i.val / 8) + r.val = 512 * i.val + r.val
  omega

/-! ## The blocks -/

variable (m : (ℓ : Loc nD τ sig) → Buf (Elt Ideal) ℓ) (c : Dev nD)

abbrev hArg : FVec Ideal S8192x1024 .f32 := m ((c.tc : Thread nD τ).loc main_arg0)
abbrev aArg : FVec Ideal S8192x4096 .f32 := m ((c.tc : Thread nD τ).loc main_arg1)
abbrev wArg : FVec Ideal S4096x1024 .f32 := m ((c.tc : Thread nD τ).loc main_arg2)
abbrev uArg : FVec Ideal S8192x1024 .f32 := m ((c.tc : Thread nD τ).loc main_arg3)
abbrev gArg : FVec Ideal S1024 .f32 := m ((c.tc : Thread nD τ).loc main_arg4)
abbrev bArg : FVec Ideal S1024 .f32 := m ((c.tc : Thread nD τ).loc main_arg5)

theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0] ∧ win0_8.index t = ![t.val, 0]
    ∧ win0_9.index t = ![t.val, 0] :=
  (by decide +kernel : ∀ t : Fin grid0.N, _)

theorem V_a : V m c main_v0 = (truncf .bf16 (aArg m c) bitsLt_bf16_f32 : FVec Ideal S8192x4096 .bf16) := by entry_read; rfl
theorem V_w : V m c main_v1 = (truncf .bf16 (wArg m c) bitsLt_bf16_f32 : FVec Ideal S4096x1024 .bf16) := by entry_read; rfl
theorem V_g : V m c main_v2 = (shapeCast S1x1024 (gArg m c) shapeCasts_S1024_S1x1024 : FVec Ideal S1x1024 .f32) := by entry_read; rfl
theorem V_b : V m c main_v3 = (shapeCast S1x1024 (bArg m c) shapeCasts_S1024_S1x1024 : FVec Ideal S1x1024 .f32) := by entry_read; rfl

variable (t : Fin cfg0.N) (r : Fin 512) (ht : 512 * t.val + r.val < 8192)

theorem a_blk (l : Fin 4096) : (iblk m c 0 t : FVec Ideal S512x4096 .bf16) (ix2 r l) = aArg m c (ix2 ⟨512 * t.val + r.val, ht⟩ l) := by
  show V m c main_v0 (((cfg0.win 0).blk t).view.emb (ix2 r l)) = _
  rw [V_a]
  blk_ext [idx t]

theorem w_blk (l : Fin 4096) (j : Fin 1024) : (iblk m c 1 t : FVec Ideal S4096x1024 .bf16) (ix2 l j) = wArg m c (ix2 l j) := by
  show V m c main_v1 (((cfg0.win 1).blk t).view.emb (ix2 l j)) = _
  rw [V_w]
  blk_ext [idx t]

theorem h_blk (j : Fin 1024) : (iblk m c 2 t : FVec Ideal S512x1024 .f32) (ix2 r j) = hArg m c (ix2 ⟨512 * t.val + r.val, ht⟩ j) := by
  show V m c main_arg0 (((cfg0.win 2).blk t).view.emb (ix2 r j)) = _
  rw [V_main_arg0]
  blk_ext [idx t]

theorem u_blk (j : Fin 1024) : (iblk m c 3 t : FVec Ideal S512x1024 .f32) (ix2 r j) = uArg m c (ix2 ⟨512 * t.val + r.val, ht⟩ j) := by
  show V m c main_arg3 (((cfg0.win 3).blk t).view.emb (ix2 r j)) = _
  rw [V_main_arg3]
  blk_ext [idx t]

/-- One row of 1024 numbers, read as a block. -/
theorem flat (v : FVec Ideal S1024 .f32) (j : Fin 1024) : shapeCast S1x1024 v shapeCasts_S1024_S1x1024 (ix2 0 j) = v (ix1 j) := by pointwise []

theorem g_row : row1 (iblk m c 4 t : FVec Ideal S1x1024 .f32) = scale (gArg m c) := funext fun j => by
  show _ = gArg m c (ix1 j)
  rw [← flat (gArg m c) j]
  show V m c main_v2 (((cfg0.win 4).blk t).view.emb (ix2 0 j)) = _
  rw [V_g]
  generalize shapeCast S1x1024 (gArg m c) shapeCasts_S1024_S1x1024 = o
  blk_ext [idx t]

theorem b_row : row1 (iblk m c 5 t : FVec Ideal S1x1024 .f32) = scale (bArg m c) := funext fun j => by
  show _ = bArg m c (ix1 j)
  rw [← flat (bArg m c) j]
  show V m c main_v3 (((cfg0.win 5).blk t).view.emb (ix2 0 j)) = _
  rw [V_b]
  generalize shapeCast S1x1024 (bArg m c) shapeCasts_S1024_S1x1024 = o
  blk_ext [idx t]

/-- The norm's argument in a point's block. -/
abbrev xB : FVec Ideal S512x1024 .f32 := argument (iblk m c 0 t) (iblk m c 1 t) (iblk m c 2 t)

theorem x_row : row (xB m c t) r = normed (hArg m c) (aArg m c) (wArg m c) ⟨512 * t.val + r.val, ht⟩ := funext fun j => by
  refine (argument_at _ _ _ r j).trans ?_
  refine congrArg₂ (fun x y : EReal => alphaW * x + y) (h_blk m c t r ht j) (Finset.sum_congr rfl fun l _ => ?_)
  exact congrArg₂ (fun x y : EReal => max x 0 * max x 0 * y) (a_blk m c t r ht l) (w_blk m c t l j)

theorem u_row : row (iblk m c 3 t : FVec Ideal S512x1024 .f32) r = fun k => uArg m c (ix2 ⟨512 * t.val + r.val, ht⟩ k) :=
  funext fun j => u_blk m c t r ht j

abbrev S : Fin 8192 → Fin 1024 → EReal := normed (hArg m c) (aArg m c) (wArg m c)
abbrev C : Fin 8192 → Fin 1024 → EReal := cot (S m c) (uArg m c) (gArg m c) (bArg m c)

/-- The norm's cotangent in a point's block. -/
abbrev cB : FVec Ideal S512x1024 .f32 := ctB (iblk m c 3 t) (iblk m c 4 t) (iblk m c 5 t) (xB m c t)

theorem c_row : row (cB m c t) r = C m c ⟨512 * t.val + r.val, ht⟩ := funext fun j => by
  refine (cotangent _ _ _ _ r j).trans ?_
  rw [x_row m c t r ht, u_row m c t r ht, g_row, b_row]; rfl

theorem rows_in (r : Fin 512) : 512 * t.val + r.val < 8192 := by have := lt_of_lt_of_eq t.isLt N_0; omega

theorem final_x : (dats m 0 c).arrAt 6 (cfgs 0).N = gradArr (S m c) (C m c) (scale (gArg m c)) := by
  refine (dats m 0 c).arrAt_eq_of_covers 6 _ (by decide +kernel) fun t _ y => ?_
  blk_simp
  rw [after0_6]; unfold_out out0_6; frame_out
  rw [centred_eq, root_eq, droot_eq, grad_eq]
  exact grad_block (rows_in t) (fun r => x_row m c t r (rows_in t r)) (fun r => c_row m c t r (rows_in t r)) (g_row m c t) y _
    (by blk_simp [idx t]) (by blk_simp [idx t])

theorem final_scale : (dats m 0 c).arrAt 7 (cfgs 0).N = scaleTiles (S m c) (C m c) := by
  refine (dats m 0 c).arrAt_eq_of_covers 7 _ (by decide +kernel) fun t _ y => ?_
  blk_simp
  rw [after0_7]; unfold_out out0_7; frame_out
  rw [centred_eq, root_eq]
  exact scale_block (rows_in t) (fun r => x_row m c t r (rows_in t r)) (fun r => c_row m c t r (rows_in t r)) _
    (fun j => sum_scale _ _ _ _ _) y _ (by blk_simp [idx t]) (by blk_simp [idx t])

theorem final_shift : (dats m 0 c).arrAt 8 (cfgs 0).N = shiftTiles (C m c) := by
  refine (dats m 0 c).arrAt_eq_of_covers 8 _ (by decide +kernel) fun t _ y => ?_
  blk_simp
  rw [after0_8]; unfold_out out0_8; frame_out
  rw [centred_eq, root_eq]
  exact shift_block (rows_in t) (fun r => c_row m c t r (rows_in t r)) _
    (fun j => sum_bias _ _ _ _ _) y _ (by blk_simp [idx t]) (by blk_simp [idx t])

theorem loss_block (y : S8x128.Idx) (i : S128x128.Idx) (h0 : (i 0).val = t.val * 8 + (y 0).val) :
    k0_pay4 (F := Ideal) (k0_pay13 (F := Ideal) (iblk m c 3 t) (k0_pay5 (F := Ideal) (iblk m c 4 t)) (k0_pay6 (F := Ideal) (iblk m c 5 t))
        (Cert.Kernel6Ideal.Gen.k0_pay5 (xB m c t)) (Cert.Kernel6Ideal.Gen.k0_pay7 (xB m c t))) y
      = lossTiles (S m c) (uArg m c) (gArg m c) (bArg m c) i := by
  idx_vars y
  refine (loss_at _ _ _ _ y0 y1).trans (congrArg (fun x : EReal => fracW * x) (Finset.sum_congr rfl fun r _ => ?_))
  rw [x_row m c t r (rows_in t r), u_row m c t r (rows_in t r), g_row, b_row]
  refine congrArg (part (S m c) (uArg m c) (gArg m c) (bArg m c)) (Fin.ext ?_)
  show 512 * t.val + r.val = 512 * ((i 0).val / 8) + r.val
  have h : (i 0).val = t.val * 8 + y0.val := h0
  have h8 : y0.val < 8 := y0.isLt
  omega

theorem final_loss : (dats m 0 c).arrAt 9 (cfgs 0).N = lossTiles (S m c) (uArg m c) (gArg m c) (bArg m c) := by
  refine (dats m 0 c).arrAt_eq_of_covers 9 _ (by decide +kernel) fun t _ y => ?_
  blk_simp
  rw [after0_9]; unfold_out out0_9; frame_out
  rw [centred_eq, root_eq]
  exact loss_block m c t y _ (by blk_simp [idx t])

/-! ## After the sums over the tiles -/

theorem after_scale : Pipeline.afterTail₀ cfgs (dats m) 0 (V0 m) [hostOps1] c main_v9 = scaleArr (S m c) (C m c) := by
  rw [← tail_scale, ← final_scale m c]
  unfold Pipeline.afterTail₀
  rw [← Pipeline.withArrays_arr (cfgs 0).spec launch0.win.arr_inj c (V0 m c) (fun w => (dats m 0 c).arrAt w (cfgs 0).N) 7]
  generalize Pipeline.withArrays (cfgs 0).spec c (V0 m c) (fun w => (dats m 0 c).arrAt w (cfgs 0).N) = X
  simp only [hostOps1, List.flatten_cons, List.flatten_nil, List.append_nil]
  after_results_simp
  all_goals rfl

theorem after_shift : Pipeline.afterTail₀ cfgs (dats m) 0 (V0 m) [hostOps1] c main_v14 = shiftArr (C m c) := by
  rw [← tail_shift, ← final_shift m c]
  unfold Pipeline.afterTail₀
  rw [← Pipeline.withArrays_arr (cfgs 0).spec launch0.win.arr_inj c (V0 m c) (fun w => (dats m 0 c).arrAt w (cfgs 0).N) 8]
  generalize Pipeline.withArrays (cfgs 0).spec c (V0 m c) (fun w => (dats m 0 c).arrAt w (cfgs 0).N) = X
  simp only [hostOps1, List.flatten_cons, List.flatten_nil, List.append_nil]
  after_results_simp
  all_goals rfl

theorem after_loss : Pipeline.afterTail₀ cfgs (dats m) 0 (V0 m) [hostOps1] c main_v20 = lossArr (S m c) (uArg m c) (gArg m c) (bArg m c) := by
  rw [← tail_loss, ← final_loss m c]
  unfold Pipeline.afterTail₀
  rw [← Pipeline.withArrays_arr (cfgs 0).spec launch0.win.arr_inj c (V0 m c) (fun w => (dats m 0 c).arrAt w (cfgs 0).N) 9]
  generalize Pipeline.withArrays (cfgs 0).spec c (V0 m c) (fun w => (dats m 0 c).arrAt w (cfgs 0).N) = X
  simp only [hostOps1, List.flatten_cons, List.flatten_nil, List.append_nil]
  after_results_simp
  all_goals rfl

/-- The call's four results. -/
theorem run (ρ : Dev nD → PrngReg) : θ_run defs (onTc (τ := τ) (main (F := Ideal))) ⟨m, fun _ => 0, ρ⟩ (fun r => ∀ c : Dev nD,
    r.2.mem ((c.tc : Thread nD τ).loc main_v4_0) = gradArr (S m c) (C m c) (scale (gArg m c))
      ∧ r.2.mem ((c.tc : Thread nD τ).loc main_v9) = scaleArr (S m c) (C m c)
      ∧ r.2.mem ((c.tc : Thread nD τ).loc main_v14) = shiftArr (C m c)
      ∧ r.2.mem ((c.tc : Thread nD τ).loc main_v20) = lossArr (S m c) (uArg m c) (gArg m c) (bArg m c)) :=
  (θ_run _ _ _).mono (fun r h c =>
    ⟨((h c).1 6).trans (final_x m c), ((h c).2 main_v9 (Pipeline.mem_restRefs_of main_v9 (by decide) (by decide))).trans (after_scale m c),
      ((h c).2 main_v14 (Pipeline.mem_restRefs_of main_v14 (by decide) (by decide))).trans (after_shift m c),
      ((h c).2 main_v20 (Pipeline.mem_restRefs_of main_v20 (by decide) (by decide))).trans (after_loss m c)⟩) (Gen.run_main m ρ)

end Cert.Kernel10Ideal.Loss

namespace Cert.LossEqual

open Cert.LnMath Cert.Kernel10Ideal.Loss
open Cert.LossMath (err ct meanSq fracW weight twice)
open Cert.Kernel6Ideal.Norm (scale gradArr scaleArr shiftArr)
open Cert.Reference6Ideal.Norm (rowR summed scaleR grad_rows scale_rows shift_rows centredR rootR wide rowSum centred_at root_at)

/-- The reference leaves its arguments as they were; it has no semaphore. -/
theorem frame_reference : Cert.quiescent_Reference10Ideal := fun m ρ _ =>
  (θ_run Cert.Reference10Ideal.defs _ _).mono
    (fun r h => ⟨fun c => (h c).2.2.2.2, sem_eq_zero_of_no_sems (by decide) r.2⟩) (Cert.Reference10Ideal.Value.run m ρ)

section Reference

open Cert.Reference10Ideal Cert.Reference10Ideal.Gen

variable (h : FVec Ideal S8192x1024 .f32) (a : FVec Ideal S8192x4096 .f32) (w : FVec Ideal S4096x1024 .f32)

/-- The norm's argument, as the reference forms it. -/
def sArr : FVec Ideal S8192x1024 .f32 :=
  addf (mulf (broadcastInDim S8192x1024 ![] bcast_S_S8192x1024 (constant S_ .f32 0x3F9837F0#32)) h)
    (Host.dotGeneral dot_S8192x4096_S4096x1024_S8192x1024_1_0_0_1_n_n none
      (mulf (maximumf a (broadcastInDim S8192x4096 ![] bcast_S_S8192x4096 (constant S_ .f32 0x00000000#32)))
        (maximumf a (broadcastInDim S8192x4096 ![] bcast_S_S8192x4096 (constant S_ .f32 0x00000000#32)))) w)

theorem sArr_row (r : Fin 8192) : Cert.Reference6Ideal.Norm.row (sArr h a w) r = normed h a w r := funext fun j => by
  show sArr h a w (ix2 r j) = _
  pointwise [sArr, normed]

variable (s u : FVec Ideal S8192x1024 .f32) (g b : FVec Ideal S1024 .f32)

/-- The error, the cotangent and the loss over a norm's argument. -/
def errR : FVec Ideal S8192x1024 .f32 :=
  subf (addf (mulf (mulf (centredR s) (wide (rootR s)))
      (broadcastInDim S8192x1024 ![0, 1] bcast_S1x1024_S8192x1024_0_1 (broadcastInDim S1x1024 ![1] bcast_S1024_S1x1024_1 g)))
    (broadcastInDim S8192x1024 ![0, 1] bcast_S1x1024_S8192x1024_0_1 (broadcastInDim S1x1024 ![1] bcast_S1024_S1x1024_1 b))) u

def ctR : FVec Ideal S8192x1024 .f32 :=
  mulf (broadcastInDim S8192x1024 ![0] bcast_S8192_S8192x1024_0 (Host.divf
      (broadcastInDim S8192 ![] bcast_S_S8192 (mulf (constant S_ .f32 0x3F000000#32) (constant S_ .f32 0x3F800000#32)))
      (broadcastInDim S8192 ![] bcast_S_S8192 (constant S_ .f32 0x44800000#32))))
    (mulf (broadcastInDim S8192x1024 ![] bcast_S_S8192x1024 (constant S_ .f32 0x40000000#32)) (errR s u g b))

def lossR : FVec Ideal S1x1 .f32 :=
  shapeCast S1x1 (mulf (constant S_ .f32 0x3F000000#32) (Host.reduceAdd (Host.divf (rowSum (mulf (errR s u g b) (errR s u g b)))
    (broadcastInDim S8192 ![] bcast_S_S8192 (constant S_ .f32 0x44800000#32))) (constant S_ .f32 0x00000000#32) reducesTo_S8192_S_d0 h_S_))
    shapeCasts_S_S1x1

theorem errR_at (r : Fin 8192) (j : Fin 1024) : errR s u g b (ix2 r j)
    = err (Cert.Reference6Ideal.Norm.row s r) (scale g) (scale b) (fun k => u (ix2 r k)) j := by
  unfold errR
  pointwise [centred_at, root_at, err]

theorem two_f32 : Ideal.ofBits .f32 0x40000000#32 = ((2 : ℝ) : EReal) := by
  simp [Ideal.ofBits, Ideal.ieee, -EReal.coe_mul]; norm_num

variable {s} {sr : Fin 8192 → Fin 1024 → EReal} (hs : ∀ r, Cert.Reference6Ideal.Norm.row s r = sr r)

include hs in
theorem ctR_row (r : Fin 8192) : Cert.Reference6Ideal.Norm.row (ctR s u g b) r = cot sr u g b r := funext fun j => by
  show ctR s u g b (ix2 r j) = _
  pointwise [ctR, errR_at, cot, ct, two_f32]
  rw [hs r]
  exact twice _

include hs in
theorem lossR_eq : lossR s u g b = lossArr sr u g b := funext fun i => by
  idx_vars i
  obtain rfl : i0 = 0 := Subsingleton.elim _ _
  obtain rfl : i1 = 0 := Subsingleton.elim _ _
  pointwise [lossR, errR_at, lossArr, part, meanSq]
  simp only [hs]

end Reference

theorem algebraic : Cert.algebraic_Kernel10Ideal_Reference10Ideal := by
  intro m g m' g' hpre hag
  refine ⟨fun c => gradArr (S m c) (C m c) (scale (gArg m c)), fun c => scaleArr (S m c) (C m c), fun c => shiftArr (C m c),
    fun c => lossArr (S m c) (uArg m c) (gArg m c) (bArg m c),
    (θ_run _ _ _).mono (fun r h c => ?_) (θ_run_and (Cert.Kernel10Ideal.Loss.run m g) (Cert.Kernel10Ideal.Gen.unchanged m g)),
    (θ_run _ _ _).mono (fun r h c => ?_) (Cert.Reference10Ideal.Value.run m' g')⟩
  · exact ⟨(h.1 c).1, (h.1 c).2.1, (h.1 c).2.2.1, (h.1 c).2.2.2, h.2 c⟩
  · obtain ⟨a0, a1, a2, a3, a4, a5⟩ := hag c
    have hs := sArr_row (hArg m c) (aArg m c) (wArg m c)
    refine ⟨(h c).1.trans ?_, (h c).2.1.trans ?_, (h c).2.2.1.trans ?_, (h c).2.2.2.1.trans ?_, (h c).2.2.2.2⟩
    · refine (show _ = rowR (sArr _ _ _) (ctR (sArr _ _ _) _ _ _) _ from rfl).trans ?_
      rw [a0, a1, a2, a3, a4, a5]; exact grad_rows hs (ctR_row _ _ _ hs)
    · refine (show _ = summed (scaleR (sArr _ _ _) (ctR (sArr _ _ _) _ _ _)) from rfl).trans ?_
      rw [a0, a1, a2, a3, a4, a5]; exact scale_rows hs (ctR_row _ _ _ hs)
    · refine (show _ = summed (ctR (sArr _ _ _) _ _ _) from rfl).trans ?_
      rw [a0, a1, a2, a3, a4, a5]; exact shift_rows (ctR_row _ _ _ hs)
    · refine (show _ = lossR (sArr _ _ _) _ _ _ from rfl).trans ?_
      rw [a0, a1, a2, a3, a4, a5]; exact lossR_eq _ _ _ hs

end Cert.LossEqual

end
-- ==== Proof.Gate.Value.lean ====
/- The two gates and the gated linear unit, differentiated: the five cotangents the call and the reference leave, and the claims
   about them. -/
module

public import proofs.«01_k».proof.Proof.Norm.Claims
public import proofs.«01_k».proof.Proof.Norm.Lanes
public import proofs.«01_k».proof.Proof.Gen.Kernel11.Frame
public import proofs.«01_k».proof.Proof.Gen.Kernel11Ideal.Frame
public import proofs.«01_k».proof.Proof.Gen.Reference11Ideal.Run

@[expose] public section

set_option maxRecDepth 16384

noncomputable section

open Idealize.ShloMosaic Idealize.ShloMosaic.TcCoe Idealize.SL.Sem
open Idealize.ShloMosaic.Pipeline (Dat)

namespace Cert.GateMath

/-- The gate and its derivative. -/
def gate (x : EReal) : EReal := Ideal.logistic x
def dgate (x : EReal) : EReal := gate x * (1 - gate x)

variable (u gs ga ya yb o : EReal)

/-- The cotangents of the two gates, of the unit's two halves, and of the attention's output, from the mixture's. -/
def first : EReal := u * (ya * gate yb) * dgate gs
def second : EReal := u * o * dgate ga
def value : EReal := gate gs * u * gate yb
def within : EReal := ya * (gate gs * u) * dgate yb
def mixed : EReal := gate ga * u

end Cert.GateMath

namespace Cert.Kernel11Ideal.Gate

open Cert.Kernel11Ideal Cert.Kernel11Ideal.Gen Cert.GateMath

/-! ## The body -/

section

variable (d : FVec Ideal S512x1024 .f32) (w : FVec Ideal S1024x1024 .bf16) (gs ga ya yb o : FVec Ideal S512x1024 .bf16) (r : Fin 512) (j : Fin 1024)

/-- The mixture's cotangent, carried back through the projection. -/
def up : EReal := ∑ k : Fin 1024, d (ix2 r k) * w (ix2 j k)

theorem up_at : k0_pay6 (F := Ideal) d w (ix2 r j) = up d w r j := by
  pointwise [k0_pay6, up]

theorem first_at : k0_pay1 (F := Ideal) (k0_pay9 (F := Ideal) gs) (k0_pay16 (F := Ideal) d w ya yb) (ix2 r j)
    = first (up d w r j) (gs (ix2 r j)) (ya (ix2 r j)) (yb (ix2 r j)) := by
  unfold k0_pay1 k0_pay9 k0_pay16 k0_pay7 k0_pay8 k0_pay10
  pointwise [up_at, first, dgate, gate]

theorem second_at : k0_pay2 (F := Ideal) (k0_pay14 (F := Ideal) d w ga o) (ix2 r j)
    = second (up d w r j) (ga (ix2 r j)) (o (ix2 r j)) := by
  unfold k0_pay2 k0_pay14 k0_pay12
  pointwise [up_at, second, dgate, gate]

theorem value_at : k0_pay3 (F := Ideal) (k0_pay10 (F := Ideal) yb) (k0_pay15 (F := Ideal) d w gs) (ix2 r j)
    = value (up d w r j) (gs (ix2 r j)) (yb (ix2 r j)) := by
  unfold k0_pay3 k0_pay10 k0_pay15 k0_pay8
  pointwise [up_at, value, gate]

theorem inner_at : k0_pay4 (F := Ideal) (k0_pay11 (F := Ideal) yb) (k0_pay17 (F := Ideal) d w gs ya) (ix2 r j)
    = within (up d w r j) (gs (ix2 r j)) (ya (ix2 r j)) (yb (ix2 r j)) := by
  unfold k0_pay4 k0_pay11 k0_pay17 k0_pay15 k0_pay10 k0_pay7 k0_pay8
  pointwise [up_at, within, dgate, gate]

theorem mixed_at : k0_pay5 (F := Ideal) (k0_pay13 (F := Ideal) d w ga) (ix2 r j) = mixed (up d w r j) (ga (ix2 r j)) := by
  unfold k0_pay5 k0_pay13 k0_pay12
  pointwise [up_at, mixed, gate]

end

/-! ## The arrays -/

section

variable (z : FVec Ideal S8192x2848 .f32) (y : FVec Ideal S8192x2048 .f32) (o : FVec Ideal S8192x1024 .f32) (w : FVec Ideal S1024x1024 .f32)
  (d : FVec Ideal S8192x1024 .f32)

def upA (r : Fin 8192) (j : Fin 1024) : EReal := ∑ k : Fin 1024, d (ix2 r k) * w (ix2 j k)

/-- The lanes of the two gates, and of the unit's halves. -/
def gsA (r : Fin 8192) (j : Fin 1024) : EReal := z (ix2 r ⟨800 + j.val, by omega⟩)
def gaA (r : Fin 8192) (j : Fin 1024) : EReal := z (ix2 r ⟨1824 + j.val, by omega⟩)
def yaA (r : Fin 8192) (j : Fin 1024) : EReal := y (ix2 r ⟨j.val, by omega⟩)
def ybA (r : Fin 8192) (j : Fin 1024) : EReal := y (ix2 r ⟨1024 + j.val, by omega⟩)

def firstA : FVec Ideal S8192x1024 .bf16 := fun i => first (upA w d (i 0) (i 1)) (gsA z (i 0) (i 1)) (yaA y (i 0) (i 1)) (ybA y (i 0) (i 1))
def secondA : FVec Ideal S8192x1024 .bf16 := fun i => second (upA w d (i 0) (i 1)) (gaA z (i 0) (i 1)) (o (ix2 (i 0) (i 1)))
def valueA : FVec Ideal S8192x1024 .bf16 := fun i => value (upA w d (i 0) (i 1)) (gsA z (i 0) (i 1)) (ybA y (i 0) (i 1))
def innerA : FVec Ideal S8192x1024 .bf16 := fun i => within (upA w d (i 0) (i 1)) (gsA z (i 0) (i 1)) (yaA y (i 0) (i 1)) (ybA y (i 0) (i 1))
def mixedA : FVec Ideal S8192x1024 .bf16 := fun i => mixed (upA w d (i 0) (i 1)) (gaA z (i 0) (i 1))

end

/-! ## The blocks -/

/-- The gates' lanes among the permuted ones. -/
theorem gs_lane (z : FVec Ideal S8192x2848 .f32) (q : Fin 8192) (j : Fin 1024) : Cert.ZLanes.rowsZ z (ix2 q ⟨j.val, by omega⟩) = gsA z q j := by
  rw [Cert.ZLanes.rowsZ_at, Cert.ZLanes.zlane, dif_pos (show j.val < 2048 by omega)]; rfl
theorem ga_lane (z : FVec Ideal S8192x2848 .f32) (q : Fin 8192) (j : Fin 1024) : Cert.ZLanes.rowsZ z (ix2 q ⟨1024 + j.val, by omega⟩) = gaA z q j := by
  rw [Cert.ZLanes.rowsZ_at, Cert.ZLanes.zlane, dif_pos (show 1024 + j.val < 2048 by omega)]
  exact congrArg (fun k : Fin 2848 => z (ix2 _ k)) (Fin.ext (show 800 + (1024 + j.val) = 1824 + j.val by omega))

variable (m : (ℓ : Loc nD τ sig) → Buf (Elt Ideal) ℓ) (c : Dev nD)

abbrev zArg : FVec Ideal S8192x2848 .f32 := m ((c.tc : Thread nD τ).loc main_arg0)
abbrev yArg : FVec Ideal S8192x2048 .f32 := m ((c.tc : Thread nD τ).loc main_arg1)
abbrev oArg : FVec Ideal S8192x1024 .f32 := m ((c.tc : Thread nD τ).loc main_arg2)
abbrev wArg : FVec Ideal S1024x1024 .f32 := m ((c.tc : Thread nD τ).loc main_arg3)
abbrev dArg : FVec Ideal S8192x1024 .f32 := m ((c.tc : Thread nD τ).loc main_arg4)

theorem idx : ∀ t : Fin cfg0.N, win0_0.index t = ![t.val, 0] ∧ win0_1.index t = ![0, 0] ∧ win0_2.index t = ![t.val, 0] ∧ win0_3.index t = ![t.val, 1]
    ∧ win0_4.index t = ![t.val, 0] ∧ win0_5.index t = ![t.val, 1] ∧ win0_6.index t = ![t.val, 0] ∧ win0_7.index t = ![t.val, 0] ∧ win0_8.index t = ![t.val, 0]
    ∧ win0_9.index t = ![t.val, 0] ∧ win0_10.index t = ![t.val, 0] ∧ win0_11.index t = ![t.val, 0] :=
  (by decide +kernel : ∀ t : Fin grid0.N, _)

theorem V_z : V m c main_v5 = (truncf .bf16 (Cert.ZLanes.rowsZ (zArg m c)) bitsLt_bf16_f32 : FVec Ideal S8192x2944 .bf16) := by
  unfold V
  simp only [hostOps0, StableHlo.after_cons, StableHlo.after_nil]
  after_results_simp
  rfl
theorem V_y : V m c main_v6 = (truncf .bf16 (yArg m c) bitsLt_bf16_f32 : FVec Ideal S8192x2048 .bf16) := by entry_read; rfl
theorem V_w : V m c main_v7 = (truncf .bf16 (wArg m c) bitsLt_bf16_f32 : FVec Ideal S1024x1024 .bf16) := by entry_read; rfl
theorem V_o : V m c main_v8 = (truncf .bf16 (oArg m c) bitsLt_bf16_f32 : FVec Ideal S8192x1024 .bf16) := by entry_read; rfl

variable (t : Fin cfg0.N) (r : Fin 512) (j : Fin 1024) (ht : 512 * t.val + r.val < 8192)

theorem d_blk : (iblk m c 0 t : FVec Ideal S512x1024 .f32) (ix2 r j) = dArg m c (ix2 ⟨512 * t.val + r.val, ht⟩ j) := by
  show V m c main_arg4 (((cfg0.win 0).blk t).view.emb (ix2 r j)) = _
  rw [V_main_arg4]
  blk_ext [idx t]

theorem w_blk (k : Fin 1024) : (iblk m c 1 t : FVec Ideal S1024x1024 .bf16) (ix2 j k) = wArg m c (ix2 j k) := by
  show V m c main_v7 (((cfg0.win 1).blk t).view.emb (ix2 j k)) = _
  rw [V_w]
  blk_ext [idx t]

theorem up_blk : up (iblk m c 0 t) (iblk m c 1 t) r j = upA (wArg m c) (dArg m c) ⟨512 * t.val + r.val, ht⟩ j :=
  Finset.sum_congr rfl fun k _ => congrArg₂ (fun a b : EReal => a * b) (d_blk m c t r k ht) (w_blk m c t j k)

/-- A fetched block that is never cut is the block. -/
theorem gs_blk : (X0_2 m c t : FVec Ideal S512x1024 .bf16) (ix2 r j) = gsA (zArg m c) ⟨512 * t.val + r.val, ht⟩ j := by
  rw [← gs_lane]
  unfold X0_2 Pipeline.Window.fill
  rw [dif_pos (moved0_2 t _)]
  show V m c main_v5 (((cfg0.win 2).blk t).view.emb _) = _
  rw [V_z]
  generalize Cert.ZLanes.rowsZ (zArg m c) = q
  blk_ext [idx t]

theorem ga_blk : (X0_3 m c t : FVec Ideal S512x1024 .bf16) (ix2 r j) = gaA (zArg m c) ⟨512 * t.val + r.val, ht⟩ j := by
  rw [← ga_lane]
  unfold X0_3 Pipeline.Window.fill
  rw [dif_pos (moved0_3 t _)]
  show V m c main_v5 (((cfg0.win 3).blk t).view.emb _) = _
  rw [V_z]
  generalize Cert.ZLanes.rowsZ (zArg m c) = q
  blk_ext [idx t]

theorem ya_blk : (iblk m c 4 t : FVec Ideal S512x1024 .bf16) (ix2 r j) = yaA (yArg m c) ⟨512 * t.val + r.val, ht⟩ j := by
  show V m c main_v6 (((cfg0.win 4).blk t).view.emb (ix2 r j)) = _
  rw [V_y]
  unfold yaA
  blk_ext [idx t]

theorem yb_blk : (iblk m c 5 t : FVec Ideal S512x1024 .bf16) (ix2 r j) = ybA (yArg m c) ⟨512 * t.val + r.val, ht⟩ j := by
  show V m c main_v6 (((cfg0.win 5).blk t).view.emb (ix2 r j)) = _
  rw [V_y]
  unfold ybA
  blk_ext [idx t]

theorem o_blk : (iblk m c 6 t : FVec Ideal S512x1024 .bf16) (ix2 r j) = oArg m c (ix2 ⟨512 * t.val + r.val, ht⟩ j) := by
  show V m c main_v8 (((cfg0.win 6).blk t).view.emb (ix2 r j)) = _
  rw [V_o]
  blk_ext [idx t]

theorem rows_in (r : Fin 512) : 512 * t.val + r.val < 8192 := by have := lt_of_lt_of_eq t.isLt N_0; omega

/-- A tile is the array's, where it is so on every one of its entries. -/
theorem at_tile {A : FVec Ideal S8192x1024 .bf16} {B : FVec Ideal S512x1024 .bf16}
    (h : ∀ (y0 : Fin 512) (y1 : Fin 1024), B (ix2 y0 y1) = A (ix2 ⟨512 * t.val + y0.val, rows_in t y0⟩ y1)) (y : S512x1024.Idx) (i : S8192x1024.Idx)
    (h0 : (i 0).val = t.val * 512 + (y 0).val) (h1 : (i 1).val = (y 1).val) : B y = A i := by
  idx_vars y
  refine (h y0 y1).trans (congrArg A (funext fun a => ?_))
  fin_cases a
  · exact Fin.ext (Eq.symm (h0.trans (show t.val * 512 + y0.val = 512 * t.val + y0.val by omega)))
  · exact Fin.ext h1.symm

theorem final_first : (dats m 0 c).arrAt 7 (cfgs 0).N = firstA (zArg m c) (yArg m c) (wArg m c) (dArg m c) := by
  refine (dats m 0 c).arrAt_eq_of_covers 7 _ (by decide +kernel) fun t _ y => ?_
  blk_simp
  rw [after0_7]; unfold outsAt0; frame_out
  refine at_tile t (fun y0 y1 => ?_) y _ (by blk_simp [idx t]) (by blk_simp [idx t])
  refine (first_at _ _ _ _ _ y0 y1).trans ?_
  rw [up_blk m c t y0 y1 (rows_in t y0), gs_blk m c t y0 y1 (rows_in t y0), ya_blk m c t y0 y1 (rows_in t y0), yb_blk m c t y0 y1 (rows_in t y0)]
  rfl

theorem final_second : (dats m 0 c).arrAt 8 (cfgs 0).N = secondA (zArg m c) (oArg m c) (wArg m c) (dArg m c) := by
  refine (dats m 0 c).arrAt_eq_of_covers 8 _ (by decide +kernel) fun t _ y => ?_
  blk_simp
  rw [after0_8]; unfold outsAt0; frame_out
  refine at_tile t (fun y0 y1 => ?_) y _ (by blk_simp [idx t]) (by blk_simp [idx t])
  refine (second_at _ _ _ _ y0 y1).trans ?_
  rw [up_blk m c t y0 y1 (rows_in t y0), ga_blk m c t y0 y1 (rows_in t y0), o_blk m c t y0 y1 (rows_in t y0)]
  rfl

theorem final_value : (dats m 0 c).arrAt 9 (cfgs 0).N = valueA (zArg m c) (yArg m c) (wArg m c) (dArg m c) := by
  refine (dats m 0 c).arrAt_eq_of_covers 9 _ (by decide +kernel) fun t _ y => ?_
  blk_simp
  rw [after0_9]; unfold outsAt0; frame_out
  refine at_tile t (fun y0 y1 => ?_) y _ (by blk_simp [idx t]) (by blk_simp [idx t])
  refine (value_at _ _ _ _ y0 y1).trans ?_
  rw [up_blk m c t y0 y1 (rows_in t y0), gs_blk m c t y0 y1 (rows_in t y0), yb_blk m c t y0 y1 (rows_in t y0)]
  rfl

theorem final_inner : (dats m 0 c).arrAt 10 (cfgs 0).N = innerA (zArg m c) (yArg m c) (wArg m c) (dArg m c) := by
  refine (dats m 0 c).arrAt_eq_of_covers 10 _ (by decide +kernel) fun t _ y => ?_
  blk_simp
  rw [after0_10]; unfold outsAt0; frame_out
  refine at_tile t (fun y0 y1 => ?_) y _ (by blk_simp [idx t]) (by blk_simp [idx t])
  refine (inner_at _ _ _ _ _ y0 y1).trans ?_
  rw [up_blk m c t y0 y1 (rows_in t y0), gs_blk m c t y0 y1 (rows_in t y0), ya_blk m c t y0 y1 (rows_in t y0), yb_blk m c t y0 y1 (rows_in t y0)]
  rfl

theorem final_mixed : (dats m 0 c).arrAt 11 (cfgs 0).N = mixedA (zArg m c) (wArg m c) (dArg m c) := by
  refine (dats m 0 c).arrAt_eq_of_covers 11 _ (by decide +kernel) fun t _ y => ?_
  blk_simp
  rw [after0_11]; unfold outsAt0; frame_out
  refine at_tile t (fun y0 y1 => ?_) y _ (by blk_simp [idx t]) (by blk_simp [idx t])
  refine (mixed_at _ _ _ y0 y1).trans ?_
  rw [up_blk m c t y0 y1 (rows_in t y0), ga_blk m c t y0 y1 (rows_in t y0)]
  rfl

end Cert.Kernel11Ideal.Gate

namespace Cert.Reference11Ideal.Gate

open Cert.Reference11Ideal Cert.Reference11Ideal.Gen Cert.GateMath Cert.Kernel11Ideal.Gate

variable (z : FVec Ideal S8192x2848 .f32) (y : FVec Ideal S8192x2048 .f32) (o : FVec Ideal S8192x1024 .f32) (w : FVec Ideal S1024x1024 .f32)
  (d : FVec Ideal S8192x1024 .f32)

/-- The gate over an array, its derivative, and the mixture's cotangent, as the reference forms them. -/
abbrev one : FVec Ideal S8192x1024 .f32 := broadcastInDim S8192x1024 ![] bcast_S_S8192x1024 (constant S_ .f32 0x3F800000#32)
def gateR (x : FVec Ideal S8192x1024 .f32) : FVec Ideal S8192x1024 .f32 := Host.divf one (addf one (Host.exp (Host.negf x)))
def dgateR (x : FVec Ideal S8192x1024 .f32) : FVec Ideal S8192x1024 .f32 := mulf (gateR x) (subf one (gateR x))
def upR : FVec Ideal S8192x1024 .f32 := Host.dotGeneral dot_S8192x1024_S1024x1024_S8192x1024_1_1_0_0_n_n none d w

abbrev gsR : FVec Ideal S8192x1024 .f32 := extractStridedSlice S8192x1024 ![0, 800] z slices_S8192x2848_S8192x1024_0_800
abbrev gaR : FVec Ideal S8192x1024 .f32 := extractStridedSlice S8192x1024 ![0, 1824] z slices_S8192x2848_S8192x1024_0_1824
abbrev yaR : FVec Ideal S8192x1024 .f32 := extractStridedSlice S8192x1024 ![0, 0] y slices_S8192x2048_S8192x1024_0_0
abbrev ybR : FVec Ideal S8192x1024 .f32 := extractStridedSlice S8192x1024 ![0, 1024] y slices_S8192x2048_S8192x1024_0_1024

variable (r : Fin 8192) (j : Fin 1024)

theorem gate_at (x : FVec Ideal S8192x1024 .f32) : gateR x (ix2 r j) = gate (x (ix2 r j)) := by
  pointwise [gateR, gate, Ideal.logistic]

theorem dgate_at (x : FVec Ideal S8192x1024 .f32) : dgateR x (ix2 r j) = dgate (x (ix2 r j)) := by
  unfold dgateR
  pointwise [gate_at, dgate]

theorem up_at : upR w d (ix2 r j) = upA w d r j := by
  pointwise [upR, upA]

theorem first_eq : (truncf .bf16 (mulf (mulf (upR w d) (mulf (yaR y) (gateR (ybR y)))) (dgateR (gsR z))) bitsLt_bf16_f32 : FVec Ideal S8192x1024 .bf16)
    = firstA z y w d := funext fun i => by
  idx_vars i
  pointwise [up_at, gate_at, dgate_at, firstA, first, gsA, yaA, ybA]

theorem second_eq : (truncf .bf16 (mulf (mulf (upR w d) o) (dgateR (gaR z))) bitsLt_bf16_f32 : FVec Ideal S8192x1024 .bf16)
    = secondA z o w d := funext fun i => by
  idx_vars i
  pointwise [up_at, gate_at, dgate_at, secondA, second, gaA]

theorem value_eq : (truncf .bf16 (mulf (mulf (gateR (gsR z)) (upR w d)) (gateR (ybR y))) bitsLt_bf16_f32 : FVec Ideal S8192x1024 .bf16)
    = valueA z y w d := funext fun i => by
  idx_vars i
  pointwise [up_at, gate_at, dgate_at, valueA, value, gsA, ybA]

theorem inner_eq : (truncf .bf16 (mulf (mulf (yaR y) (mulf (gateR (gsR z)) (upR w d))) (dgateR (ybR y))) bitsLt_bf16_f32 : FVec Ideal S8192x1024 .bf16)
    = innerA z y w d := funext fun i => by
  idx_vars i
  pointwise [up_at, gate_at, dgate_at, innerA, within, gsA, yaA, ybA]

theorem mixed_eq : (truncf .bf16 (mulf (gateR (gaR z)) (upR w d)) bitsLt_bf16_f32 : FVec Ideal S8192x1024 .bf16)
    = mixedA z w d := funext fun i => by
  idx_vars i
  pointwise [up_at, gate_at, mixedA, mixed, gaA]

end Cert.Reference11Ideal.Gate

namespace Cert.GateEqual

open Cert.Kernel11Ideal.Gate Cert.Reference11Ideal.Gate

/-- The reference's frame. -/
theorem frame_reference : Cert.quiescent_Reference11Ideal := fun m ρ _ =>
  (θ_run Cert.Reference11Ideal.defs _ _).mono
    (fun r h => ⟨fun c => (h c).2.2.2.2.2, sem_eq_zero_of_no_sems (by decide) r.2⟩) (Cert.Reference11Ideal.Value.run m ρ)

theorem algebraic : Cert.algebraic_Kernel11Ideal_Reference11Ideal := by
  intro m g m' g' hpre hag
  refine ⟨fun c => firstA (zArg m c) (yArg m c) (wArg m c) (dArg m c), fun c => secondA (zArg m c) (oArg m c) (wArg m c) (dArg m c),
    fun c => valueA (zArg m c) (yArg m c) (wArg m c) (dArg m c), fun c => innerA (zArg m c) (yArg m c) (wArg m c) (dArg m c),
    fun c => mixedA (zArg m c) (wArg m c) (dArg m c),
    (θ_run _ _ _).mono (fun r h c => ?_) (θ_run_and (Cert.Kernel11Ideal.Gen.run_main m g) (Cert.Kernel11Ideal.Gen.unchanged m g)),
    (θ_run _ _ _).mono (fun r h c => ?_) (Cert.Reference11Ideal.Value.run m' g')⟩
  · exact ⟨((h.1 c).1 7).trans (final_first m c), ((h.1 c).1 8).trans (final_second m c), ((h.1 c).1 9).trans (final_value m c),
      ((h.1 c).1 10).trans (final_inner m c), ((h.1 c).1 11).trans (final_mixed m c), h.2 c⟩
  · obtain ⟨a0, a1, a2, a3, a4⟩ := hag c
    refine ⟨(h c).1.trans ?_, (h c).2.1.trans ?_, (h c).2.2.1.trans ?_, (h c).2.2.2.1.trans ?_, (h c).2.2.2.2.1.trans ?_, (h c).2.2.2.2.2⟩
    · rw [a0, a1, a3, a4]; exact first_eq _ _ _ _
    · rw [a0, a2, a3, a4]; exact second_eq _ _ _ _
    · rw [a0, a1, a3, a4]; exact value_eq _ _ _ _
    · rw [a0, a1, a3, a4]; exact inner_eq _ _ _ _
    · rw [a0, a3, a4]; exact mixed_eq _ _ _

end Cert.GateEqual

end
-- ==== Proof.Rms.Rows.lean ====
/- A root mean square norm's backward over 256 lanes: a row's gradients, what a tile of 1024 rows leaves, and what eight tiles
   leave together. -/
module

public import proofs.«01_k».proof.Proof.Norm.Claims
public import proofs.«01_k».proof.Proof.Attn.Math
public import proofs.«01_k».proof.Proof.Gen.Kernel12Ideal.Skeleton

@[expose] public section

set_option maxRecDepth 16384

noncomputable section

open Idealize.ShloMosaic Idealize.ShloMosaic.TcCoe Idealize.SL.Sem

namespace Cert.RmsMath

/-- The number of lanes, 256, the norm's small constant, and minus one half. -/
abbrev widthW : EReal := Ideal.ofBits .f32 0x43800000#32
abbrev tinyW : EReal := Ideal.ofBits .f32 0x358637BD#32
abbrev minusW : EReal := Ideal.ofBits .f32 0xBF000000#32

variable (c g p : Fin 256 → EReal)

/-- The mean square, its inverse root, and the root's derivative. -/
def ms : EReal := Ideal.div (∑ k, c k * c k) widthW + tinyW
def root : EReal := Ideal.rsqrt (ms c)
def droot : EReal := minusW * Ideal.div (root c) (ms c)

/-- What the mean square's cotangent gives every lane. -/
def share : EReal := Ideal.div ((∑ k, c k * (p k * g k)) * droot c) widthW

/-- The cotangent of the row, and the row's part of the scale's gradient. -/
def dc (j : Fin 256) : EReal := p j * g j * root c + c j * share c g p + share c g p * c j
def dg (j : Fin 256) : EReal := c j * root c * p j

/-- Eight equal parts of a sum. -/
theorem sum_parts {n N : ℕ} (hN : N = 8 * n) (f : Fin N → EReal) :
    ∑ l : Fin N, f l = ∑ h : Fin 8, ∑ d : Fin n, f ⟨n * h.val + d.val, by
      have := h.isLt; have := d.isLt; have : n * h.val ≤ n * 7 := Nat.mul_le_mul_left _ (by omega); omega⟩ := by
  subst hN
  rw [← Fintype.sum_prod_type' (fun (h : Fin 8) (d : Fin n) => f ⟨n * h.val + d.val, _⟩)]
  refine (Fintype.sum_equiv (finProdFinEquiv (m := 8) (n := n)) _ _ fun p => congrArg f (Fin.ext ?_)).symm
  simp only [finProdFinEquiv_apply_val]; omega

/-- A sum over lanes that are zero from lane `n` of each head on. -/
theorem sum_heads {n : ℕ} (hn : n ≤ 128) (F : Fin 1024 → EReal) (f : Fin 8 → Fin n → EReal)
    (hf : ∀ h d, F ⟨128 * h.val + d.val, by have := h.isLt; have := d.isLt; omega⟩ = f h d) (h0 : ∀ l : Fin 1024, n ≤ l.val % 128 → F l = 0) :
    ∑ l : Fin 1024, F l = ∑ h : Fin 8, ∑ d : Fin n, f h d := by
  rw [sum_parts (n := 128) rfl]
  refine Finset.sum_congr rfl fun h _ => ?_
  have e := Cert.AttnMath.sum_pad hn fun d => f h d
  rw [← e]
  refine Finset.sum_congr rfl fun d _ => ?_
  by_cases hd : d.val < n
  · rw [dif_pos hd]; exact hf h ⟨d.val, hd⟩
  · rw [dif_neg hd]; exact h0 _ (by show n ≤ (128 * h.val + d.val) % 128; omega)

end Cert.RmsMath

namespace Cert.RmsRows

open Cert.Kernel12Ideal Cert.Kernel12Ideal.Gen Cert.RmsMath

/-! ## A tile -/

section

variable (x : FVec Ideal S1024x256 .bf16) (p : FVec Ideal S1024x256 .f32) (g : FVec Ideal S1x256 .f32) (r : Fin 1024) (j : Fin 256)

/-- The rows of the norm's argument, of the cotangent of its result, and the scale's one. -/
abbrev rowX (r : Fin 1024) : Fin 256 → EReal := fun k => x (ix2 r k)
abbrev rowP (r : Fin 1024) : Fin 256 → EReal := fun k => p (ix2 r k)
abbrev row1 : Fin 256 → EReal := fun k => g (ix2 0 k)

/-- The tile's gradients, over the cotangent `p` of the norm's result. -/
def weightedB : FVec Ideal S1024x256 .f32 :=
  mulf p (broadcastTo S1024x256 (shapeCast S1x256 g shapeCasts_S1x256_S1x256) broadcasts_S1x256_S1024x256)

def partB : FVec Ideal S1024x1 .f32 :=
  divf (mulf (shapeCast S1024x1 (multiReduction .add [1] S1024 (mulf (k0_pay4 x) (weightedB p g)) 0x00000000#32 reduces_S1024x256_S1024 (.inl rfl) rfl)
      shapeCasts_S1024_S1024x1)
    (mulf (broadcast S1024x1 (Scalar.ofBits .f32 0xBF000000#32)) (divf (k0_pay6 x) (k0_pay5 x))))
    (broadcast S1024x1 (Scalar.ofBits .f32 0x43800000#32))

def shareB : FVec Ideal S1024x256 .f32 :=
  broadcastTo S1024x256 (shapeCast S1024x1 (multiReduction .add [1] S1024 (partB x p g) 0x00000000#32 reduces_S1024x1_S1024 (.inl rfl) rfl)
    shapeCasts_S1024_S1024x1) broadcasts_S1024x1_S1024x256

def gradB : FVec Ideal S1024x256 .bf16 :=
  k0_pay1 (k0_pay4 x) (mulf (weightedB p g) (broadcastTo S1024x256 (k0_pay6 x) broadcasts_S1024x1_S1024x256)) (shareB x p g)
    (mulf (k0_pay4 x) (shareB x p g))

def scaleB : FVec Ideal S1x256 .f32 :=
  shapeCast S1x256 (multiReduction .add [0] S256 (mulf (mulf (k0_pay4 x) (broadcastTo S1024x256 (k0_pay6 x) broadcasts_S1024x1_S1024x256)) p)
    0x00000000#32 reduces_S1024x256_S256 (.inl rfl) rfl) shapeCasts_S256_S1x256

theorem ms_at : k0_pay5 (F := Ideal) x (ix2 r 0) = ms (rowX x r) := by
  unfold k0_pay5 k0_pay4
  pointwise [ms]

theorem root_at : k0_pay6 (F := Ideal) x (ix2 r 0) = root (rowX x r) := by
  unfold k0_pay6
  pointwise [ms_at, root]

theorem weighted_at : weightedB p g (ix2 r j) = p (ix2 r j) * g (ix2 0 j) := by
  pointwise [weightedB]

theorem part_at : partB x p g (ix2 r 0) = share (rowX x r) (row1 g) (rowP p r) := by
  unfold partB k0_pay4
  pointwise [ms_at, root_at, weighted_at, share, droot]

theorem share_at : shareB x p g (ix2 r j) = share (rowX x r) (row1 g) (rowP p r) := by
  unfold shareB
  pointwise []
  simp only [Fin.sum_univ_one, part_at]

theorem grad_at : gradB x p g (ix2 r j) = dc (rowX x r) (row1 g) (rowP p r) j := by
  unfold gradB k0_pay1 k0_pay4
  pointwise [share_at, root_at, weighted_at, dc]

theorem scale_at : scaleB x p (ix2 0 j) = ∑ r : Fin 1024, dg (rowX x r) (rowP p r) j := by
  unfold scaleB k0_pay4
  pointwise [root_at, dg]

end

/-! ## The arrays -/

variable (C P : Fin 8192 → Fin 256 → EReal) (G : Fin 256 → EReal)

def gradArr : FVec Ideal S8192x256 .bf16 := fun i => dc (C (i 0)) G (P (i 0)) (i 1)

def scaleArr : FVec Ideal S1x256 .f32 := fun i => ∑ r : Fin 8192, dg (C r) (P r) (i 1)

/-- Tile `i / 8`'s sum, eight times over. -/
def scaleTiles : FVec Ideal S64x256 .f32 := fun i => ∑ r : Fin 1024, dg (C ⟨1024 * ((i 0).val / 8) + r.val, by
  have := (i 0).isLt; have h : (i 0).val < 64 := this; omega⟩) (P ⟨1024 * ((i 0).val / 8) + r.val, by
  have := (i 0).isLt; have h : (i 0).val < 64 := this; omega⟩) (i 1)

/-- The sum over the tiles, one row of each. -/
def tail (x : FVec Ideal S64x256 .f32) : FVec Ideal S1x256 .f32 :=
  broadcastInDim S1x256 ![1] bcast_S256_S1x256_1 (Host.reduceAdd (shapeCast S8x256
    (extractStridedSlice S8x1x256 ![0, 0, 0] (shapeCast S8x8x256 x shapeCasts_S64x256_S8x8x256) slices_S8x8x256_S8x1x256_0_0_0)
      shapeCasts_S8x1x256_S8x256)
    (constant S_ .f32 0x00000000#32) reducesTo_S8x256_S256_d0 h_S_)

theorem tail_at (x : FVec Ideal S64x256 .f32) (j : Fin 256) : tail x (ix2 0 j) = ∑ i : Fin 8, x (ix2 ⟨8 * i.val, by omega⟩ j) := by
  pointwise [tail]
  all_goals exact Finset.sum_congr rfl fun i _ => congrArg (fun k : Fin 64 => x (ix2 k j)) (Fin.ext (by simp only; omega))

theorem tail_scale : tail (scaleTiles C P) = scaleArr C P := funext fun i => by
  idx_vars i
  obtain rfl : i0 = 0 := Subsingleton.elim _ _
  rw [tail_at]
  refine Eq.trans ?_ (sum_parts (n := 1024) rfl fun r : Fin 8192 => dg (C r) (P r) i1).symm
  refine Finset.sum_congr rfl fun i _ => Finset.sum_congr rfl fun r _ => congrArg (fun k : Fin 8192 => dg (C k) (P k) i1) (Fin.ext ?_)
  show 1024 * (8 * i.val / 8) + r.val = 1024 * i.val + r.val
  omega

variable {C P G} {x : FVec Ideal S1024x256 .bf16} {p : FVec Ideal S1024x256 .f32} {g : FVec Ideal S1x256 .f32} {t : ℕ}
  (ht : ∀ r : Fin 1024, 1024 * t + r.val < 8192) (hx : ∀ r : Fin 1024, rowX x r = C ⟨1024 * t + r.val, ht r⟩)
  (hp : ∀ r : Fin 1024, rowP p r = P ⟨1024 * t + r.val, ht r⟩)

include hx hp in
theorem grad_block (hg : row1 g = G) (y : S1024x256.Idx) (i : S8192x256.Idx) (h0 : (i 0).val = t * 1024 + (y 0).val) (h1 : (i 1).val = (y 1).val) :
    gradB x p g y = gradArr C P G i := by
  idx_vars y
  rw [grad_at, hx, hp, hg]
  have e0 : (⟨1024 * t + y0.val, ht y0⟩ : Fin 8192) = i 0 := Fin.ext (by rw [h0]; show 1024 * t + y0.val = t * 1024 + y0.val; omega)
  have e1 : y1 = i 1 := Fin.ext h1.symm
  rw [e0, e1]; rfl

theorem spread (v : FVec Ideal S1x256 .f32) (i : Fin 8) (j : Fin 256) : k0_pay2 (F := Ideal) v (ix2 i j) = v (ix2 0 j) := by
  pointwise [k0_pay2]

include hx hp in
theorem scale_block (y : S8x256.Idx) (i : S64x256.Idx) (h0 : (i 0).val = t * 8 + (y 0).val) (h1 : (i 1).val = (y 1).val) :
    k0_pay2 (F := Ideal) (scaleB x p) y = scaleTiles C P i := by
  idx_vars y
  rw [spread, scale_at]
  have h8 : y0.val < 8 := y0.isLt
  have h0 : (i 0).val = t * 8 + y0.val := h0
  have e1 : y1 = i 1 := Fin.ext h1.symm
  rw [e1]
  refine Finset.sum_congr rfl fun r _ => ?_
  rw [hx, hp]
  exact congrArg (fun k : Fin 8192 => dg (C k) (P k) (i 1)) (Fin.ext (show 1024 * t + r.val = 1024 * ((i 0).val / 8) + r.val by omega))

end Cert.RmsRows

end
-- ==== Proof.Gate.Forward.lean ====
/- The forward call of the mixture: the attention's output projection, the two gates and the gated unit, and the claims about it. -/
module

public import proofs.«01_k».proof.Proof.Gate.Value
public import proofs.«01_k».proof.Proof.Delta.Value
public import proofs.«01_k».proof.Proof.Rms.Rows
public import proofs.«01_k».proof.Proof.Gen.Kernel17.Frame
public import proofs.«01_k».proof.Proof.Gen.Kernel17Ideal.Frame
public import proofs.«01_k».proof.Proof.Gen.Reference17Ideal.Run

@[expose] public section

set_option maxRecDepth 16384

noncomputable section

open Idealize.ShloMosaic Idealize.ShloMosaic.TcCoe Idealize.SL.Sem
open Idealize.ShloMosaic.Pipeline (Dat)

namespace Cert.MixEqual

open Cert.GateMath
open Cert.Kernel11Ideal.Gate (gsA gaA yaA ybA gs_lane ga_lane)
open Cert.Kernel5Ideal.Delta (spreadW spreadO wideW wideO wideW_at wideO_at)

/-- The gated unit and the attention's output, mixed by the two gates. -/
def mix (gs ga ya yb a : EReal) : EReal := gate gs * (ya * gate yb) + gate ga * a

section Kernel

open Cert.Kernel17Ideal Cert.Kernel17Ideal.Gen

section

variable (o : FVec Ideal S8192x8x64 .f32) (w : FVec Ideal S512x1024 .f32) (z : FVec Ideal S8192x2848 .f32) (y : FVec Ideal S8192x2048 .f32)
  (r : Fin 8192) (j : Fin 1024)

/-- The attention's output projected. -/
def attn : EReal := ∑ l : Fin 512, o (ix3 r ⟨l.val / 64, by omega⟩ ⟨l.val % 64, by omega⟩) * w (ix2 l j)

def attnArr : FVec Ideal S8192x1024 .bf16 := fun i => attn o w (i 0) (i 1)
def mixAt : EReal := mix (gsA z r j) (gaA z r j) (yaA y r j) (ybA y r j) (attn o w r j)
def mixArr : FVec Ideal S8192x1024 .bf16 := fun i => mixAt o w z y (i 0) (i 1)

/-- The lanes between the heads add nothing. -/
theorem attn_wide : ∑ l : Fin 1024, spreadO o r l * spreadW w l j = attn o w r j := by
  unfold attn
  rw [Cert.RmsMath.sum_parts (n := 64) (N := 512) rfl]
  refine Cert.RmsMath.sum_heads (n := 64) (by omega) _ _ (fun h d => ?_) fun l hl => ?_
  · unfold spreadO spreadW
    rw [dif_pos (show (128 * h.val + d.val) % 128 < 64 by omega), dif_pos (show (128 * h.val + d.val) % 128 < 64 by omega)]
    refine congrArg₂ (fun a b : EReal => a * b) (congrArg₂ (fun p q => o (ix3 r p q)) (Fin.ext ?_) (Fin.ext ?_)) (congrArg (fun p => w (ix2 p j)) (Fin.ext ?_))
    · show (128 * h.val + d.val) / 128 = (64 * h.val + d.val) / 64; omega
    · show (128 * h.val + d.val) % 128 = (64 * h.val + d.val) % 64; omega
    · show (128 * h.val + d.val) / 128 * 64 + (128 * h.val + d.val) % 128 = 64 * h.val + d.val; omega
  · show spreadO o r l * spreadW w l j = 0
    unfold spreadO
    rw [dif_neg (by omega), zero_mul]

end

section

variable (x : FVec Ideal S512x1024 .f32) (w : FVec Ideal S1024x1024 .bf16) (gs ga ya yb : FVec Ideal S512x1024 .bf16) (r : Fin 512) (j : Fin 1024)

theorem product : k0_pay1 (F := Ideal) x w (ix2 r j) = ∑ k : Fin 1024, x (ix2 r k) * w (ix2 k j) := by
  pointwise [k0_pay1]

theorem mixed : k0_pay3 (F := Ideal) x w gs ga ya yb (ix2 r j)
    = mix (gs (ix2 r j)) (ga (ix2 r j)) (ya (ix2 r j)) (yb (ix2 r j)) (k0_pay1 (F := Ideal) x w (ix2 r j)) := by
  unfold k0_pay3
  generalize k0_pay1 (F := Ideal) x w = o
  pointwise [mix, gate]

end

variable (m : (ℓ : Loc nD τ sig) → Buf (Elt Ideal) ℓ) (c : Dev nD)

abbrev oArg : FVec Ideal S8192x8x64 .f32 := m ((c.tc : Thread nD τ).loc main_arg0)
abbrev wArg : FVec Ideal S512x1024 .f32 := m ((c.tc : Thread nD τ).loc main_arg1)
abbrev zArg : FVec Ideal S8192x2848 .f32 := m ((c.tc : Thread nD τ).loc main_arg2)
abbrev yArg : FVec Ideal S8192x2048 .f32 := m ((c.tc : Thread nD τ).loc main_arg3)

theorem idx : ∀ t : Fin cfg0.N, win0_0.index t = ![t.val, 0] ∧ win0_1.index t = ![0, 0] ∧ win0_2.index t = ![t.val, 0] ∧ win0_3.index t = ![t.val, 1]
    ∧ win0_4.index t = ![t.val, 0] ∧ win0_5.index t = ![t.val, 1] ∧ win0_6.index t = ![t.val, 0] ∧ win0_7.index t = ![t.val, 0] :=
  (by decide +kernel : ∀ t : Fin grid0.N, _)

theorem V_o : V m c main_v11 = wideO (oArg m c) := by entry_read; rfl
theorem V_w : V m c main_v12 = (truncf .bf16 (wideW (wArg m c)) bitsLt_bf16_f32 : FVec Ideal S1024x1024 .bf16) := by entry_read; rfl
theorem V_z : V m c main_v8 = (truncf .bf16 (Cert.ZLanes.rowsZ (zArg m c)) bitsLt_bf16_f32 : FVec Ideal S8192x2944 .bf16) := by entry_read; rfl
theorem V_y : V m c main_v9 = (truncf .bf16 (yArg m c) bitsLt_bf16_f32 : FVec Ideal S8192x2048 .bf16) := by entry_read; rfl

variable (t : Fin cfg0.N) (r : Fin 512) (j : Fin 1024)

theorem rows_in : 512 * t.val + r.val < 8192 := by have := lt_of_lt_of_eq t.isLt N_0; omega

theorem o_blk : (iblk m c 0 t : FVec Ideal S512x1024 .f32) (ix2 r j) = spreadO (oArg m c) ⟨512 * t.val + r.val, rows_in t r⟩ j := by
  rw [← wideO_at]
  show V m c main_v11 (((cfg0.win 0).blk t).view.emb (ix2 r j)) = _
  rw [V_o]
  generalize wideO (oArg m c) = q
  blk_ext [idx t]

theorem w_blk (k : Fin 1024) : (iblk m c 1 t : FVec Ideal S1024x1024 .bf16) (ix2 k j) = spreadW (wArg m c) k j := by
  rw [← wideW_at]
  show V m c main_v12 (((cfg0.win 1).blk t).view.emb (ix2 k j)) = _
  rw [V_w]
  generalize wideW (wArg m c) = q
  blk_ext [idx t]

theorem gs_blk : (X0_2 m c t : FVec Ideal S512x1024 .bf16) (ix2 r j) = gsA (zArg m c) ⟨512 * t.val + r.val, rows_in t r⟩ j := by
  rw [← gs_lane]
  unfold X0_2 Pipeline.Window.fill
  rw [dif_pos (moved0_2 t _)]
  show V m c main_v8 (((cfg0.win 2).blk t).view.emb _) = _
  rw [V_z]
  generalize Cert.ZLanes.rowsZ (zArg m c) = q
  blk_ext [idx t]

theorem ga_blk : (X0_3 m c t : FVec Ideal S512x1024 .bf16) (ix2 r j) = gaA (zArg m c) ⟨512 * t.val + r.val, rows_in t r⟩ j := by
  rw [← ga_lane]
  unfold X0_3 Pipeline.Window.fill
  rw [dif_pos (moved0_3 t _)]
  show V m c main_v8 (((cfg0.win 3).blk t).view.emb _) = _
  rw [V_z]
  generalize Cert.ZLanes.rowsZ (zArg m c) = q
  blk_ext [idx t]

theorem ya_blk : (iblk m c 4 t : FVec Ideal S512x1024 .bf16) (ix2 r j) = yaA (yArg m c) ⟨512 * t.val + r.val, rows_in t r⟩ j := by
  show V m c main_v9 (((cfg0.win 4).blk t).view.emb (ix2 r j)) = _
  rw [V_y]
  unfold yaA
  blk_ext [idx t]

theorem yb_blk : (iblk m c 5 t : FVec Ideal S512x1024 .bf16) (ix2 r j) = ybA (yArg m c) ⟨512 * t.val + r.val, rows_in t r⟩ j := by
  show V m c main_v9 (((cfg0.win 5).blk t).view.emb (ix2 r j)) = _
  rw [V_y]
  unfold ybA
  blk_ext [idx t]

theorem attn_point : k0_pay1 (F := Ideal) (iblk m c 0 t) (iblk m c 1 t) (ix2 r j) = attn (oArg m c) (wArg m c) ⟨512 * t.val + r.val, rows_in t r⟩ j :=
  ((product _ _ _ _).trans (Finset.sum_congr rfl fun k _ => congrArg₂ (fun a b : EReal => a * b) (o_blk m c t r k) (w_blk m c t j k))).trans
    (attn_wide _ _ _ _)

theorem mix_point : k0_pay3 (F := Ideal) (iblk m c 0 t) (iblk m c 1 t) (X0_2 m c t) (X0_3 m c t) (iblk m c 4 t) (iblk m c 5 t) (ix2 r j)
    = mixAt (oArg m c) (wArg m c) (zArg m c) (yArg m c) ⟨512 * t.val + r.val, rows_in t r⟩ j := by
  refine (mixed _ _ _ _ _ _ _ _).trans ?_
  rw [attn_point, gs_blk, ga_blk, ya_blk, yb_blk]; rfl

theorem final_attn : (dats m 0 c).arrAt 6 (cfgs 0).N = attnArr (oArg m c) (wArg m c) := by
  refine (dats m 0 c).arrAt_eq_of_covers 6 _ (by decide +kernel) fun t _ y => ?_
  blk_simp
  rw [after0_6]; unfold outsAt0; frame_out
  idx_vars y
  refine (attn_point m c t y0 y1).trans ?_
  exact congrArg₂ (attn (oArg m c) (wArg m c)) (Fin.ext (by blk_simp [idx t]; exact (by omega : 512 * t.val + y0.val = t.val * 512 + y0.val)))
    (Fin.ext (by blk_simp [idx t]))

theorem final_mix : (dats m 0 c).arrAt 7 (cfgs 0).N = mixArr (oArg m c) (wArg m c) (zArg m c) (yArg m c) := by
  refine (dats m 0 c).arrAt_eq_of_covers 7 _ (by decide +kernel) fun t _ y => ?_
  blk_simp
  rw [after0_7]; unfold outsAt0; frame_out
  idx_vars y
  refine (mix_point m c t y0 y1).trans ?_
  exact congrArg₂ (mixAt (oArg m c) (wArg m c) (zArg m c) (yArg m c))
    (Fin.ext (by blk_simp [idx t]; exact (by omega : 512 * t.val + y0.val = t.val * 512 + y0.val))) (Fin.ext (by blk_simp [idx t]))

end Kernel

section Reference

open Cert.Reference17Ideal Cert.Reference17Ideal.Gen
open Cert.Reference11Ideal.Gate (gateR gate_at gsR gaR yaR ybR)

variable (o : FVec Ideal S8192x8x64 .f32) (w : FVec Ideal S512x1024 .f32) (z : FVec Ideal S8192x2848 .f32) (y : FVec Ideal S8192x2048 .f32)

def attnR : FVec Ideal S8192x1024 .f32 :=
  Host.dotGeneral dot_S8192x512_S512x1024_S8192x1024_1_0_0_1_n_n none (shapeCast S8192x512 o shapeCasts_S8192x8x64_S8192x512) w

theorem attnR_at (r : Fin 8192) (j : Fin 1024) : attnR o w (ix2 r j) = attn o w r j := by
  pointwise [attnR, attn]

theorem attn_ref : (truncf .bf16 (attnR o w) bitsLt_bf16_f32 : FVec Ideal S8192x1024 .bf16) = attnArr o w := funext fun i => by
  idx_vars i
  pointwise [attnR_at, attnArr]

theorem mix_ref : (truncf .bf16 (addf (mulf (gateR (gsR z)) (mulf (yaR y) (gateR (ybR y)))) (mulf (gateR (gaR z)) (attnR o w))) bitsLt_bf16_f32
    : FVec Ideal S8192x1024 .bf16) = mixArr o w z y := funext fun i => by
  idx_vars i
  pointwise [attnR_at, gate_at, mixArr, mixAt, mix, gsA, gaA, yaA, ybA]

end Reference

/-- The reference's frame. -/
theorem frame_reference : Cert.quiescent_Reference17Ideal := fun m ρ _ =>
  (θ_run Cert.Reference17Ideal.defs _ _).mono
    (fun r h => ⟨fun c => (h c).2.2, sem_eq_zero_of_no_sems (by decide) r.2⟩) (Cert.Reference17Ideal.Value.run m ρ)

theorem algebraic : Cert.algebraic_Kernel17Ideal_Reference17Ideal := by
  intro m g m' g' hpre hag
  refine ⟨fun c => attnArr (oArg m c) (wArg m c), fun c => mixArr (oArg m c) (wArg m c) (zArg m c) (yArg m c),
    (θ_run _ _ _).mono (fun r h c => ?_) (θ_run_and (Cert.Kernel17Ideal.Gen.run_main m g) (Cert.Kernel17Ideal.Gen.unchanged m g)),
    (θ_run _ _ _).mono (fun r h c => ?_) (Cert.Reference17Ideal.Value.run m' g')⟩
  · exact ⟨((h.1 c).1 6).trans (final_attn m c), ((h.1 c).1 7).trans (final_mix m c), h.2 c⟩
  · obtain ⟨a0, a1, a2, a3⟩ := hag c
    refine ⟨(h c).1.trans ?_, (h c).2.1.trans ?_, (h c).2.2⟩
    · rw [a0, a1]; exact Eq.trans rfl (attn_ref _ _)
    · rw [a0, a1, a2, a3]; exact Eq.trans rfl (mix_ref _ _ _ _)

end Cert.MixEqual

end
-- ==== Proof.Rms.Ref.lean ====
/- The reference's backward of a root mean square norm, row by row. -/
module

public import proofs.«01_k».proof.Proof.Rms.Rows
public import proofs.«01_k».proof.Proof.Gen.Reference12Ideal

@[expose] public section

set_option maxRecDepth 16384

noncomputable section

open Idealize.ShloMosaic Idealize.ShloMosaic.TcCoe Idealize.SL.Sem

namespace Cert.RmsRef

open Cert.Reference12Ideal Cert.Reference12Ideal.Gen Cert.RmsMath
open Cert.RmsRows (gradArr scaleArr)

variable (x p : FVec Ideal S8192x256 .f32) (g : FVec Ideal S256 .f32)

abbrev lanes : FVec Ideal S8192x1 .f32 := broadcastInDim S8192x1 ![] bcast_S_S8192x1 (constant S_ .f32 0x43800000#32)

abbrev wide (y : FVec Ideal S8192x1 .f32) : FVec Ideal S8192x256 .f32 := broadcastInDim S8192x256 ![0, 1] bcast_S8192x1_S8192x256_0_1 y

abbrev rowSum (y : FVec Ideal S8192x256 .f32) : FVec Ideal S8192 .f32 :=
  Host.reduceAdd y (constant S_ .f32 0x00000000#32) reducesTo_S8192x256_S8192_d1 h_S_

def msR : FVec Ideal S8192x1 .f32 :=
  addf (Host.divf (broadcastInDim S8192x1 ![0] bcast_S8192_S8192x1_0 (rowSum (mulf x x))) lanes)
    (broadcastInDim S8192x1 ![] bcast_S_S8192x1 (constant S_ .f32 0x358637BD#32))

def rootR : FVec Ideal S8192x1 .f32 := Host.rsqrt (msR x)

def drootR : FVec Ideal S8192x1 .f32 :=
  mulf (broadcastInDim S8192x1 ![] bcast_S_S8192x1 (constant S_ .f32 0xBF000000#32)) (Host.divf (rootR x) (msR x))

def weightedR : FVec Ideal S8192x256 .f32 :=
  mulf p (broadcastInDim S8192x256 ![0, 1] bcast_S1x256_S8192x256_0_1 (broadcastInDim S1x256 ![1] bcast_S256_S1x256_1 g))

def shareR : FVec Ideal S8192x256 .f32 :=
  broadcastInDim S8192x256 ![0] bcast_S8192_S8192x256_0 (Host.reduceAdd
    (Host.divf (mulf (shapeCast S8192x1 (rowSum (mulf x (weightedR p g))) shapeCasts_S8192_S8192x1) (drootR x)) lanes)
    (constant S_ .f32 0x00000000#32) reducesTo_S8192x1_S8192_d1 h_S_)

def gradR : FVec Ideal S8192x256 .bf16 :=
  truncf .bf16 (addf (addf (mulf (weightedR p g) (wide (rootR x))) (mulf x (shareR x p g))) (mulf (shareR x p g) x)) bitsLt_bf16_f32

def scaleR : FVec Ideal S1x256 .f32 :=
  broadcastInDim S1x256 ![1] bcast_S256_S1x256_1 (Host.reduceAdd (shapeCast S1x256 (Host.reduceAdd (mulf (mulf x (wide (rootR x))) p)
    (constant S_ .f32 0x00000000#32) reducesTo_S8192x256_S256_d0 h_S_) shapeCasts_S256_S1x256) (constant S_ .f32 0x00000000#32) reducesTo_S1x256_S256_d0 h_S_)

variable (r : Fin 8192) (j : Fin 256)

abbrev row (y : FVec Ideal S8192x256 .f32) (r : Fin 8192) : Fin 256 → EReal := fun k => y (ix2 r k)

theorem ms_at : msR x (ix2 r 0) = ms (row x r) := by
  pointwise [msR, ms]

theorem root_at : rootR x (ix2 r 0) = root (row x r) := by
  unfold rootR; pointwise [ms_at, root]

theorem droot_at : drootR x (ix2 r 0) = droot (row x r) := by
  unfold drootR; pointwise [ms_at, root_at, droot]

theorem weighted_at : weightedR p g (ix2 r j) = p (ix2 r j) * g (ix1 j) := by
  pointwise [weightedR]

theorem share_at : shareR x p g (ix2 r j) = share (row x r) (fun k => g (ix1 k)) (row p r) := by
  unfold shareR
  pointwise [weighted_at, droot_at]
  simp only [Fin.sum_univ_one, droot_at]
  rfl

theorem grad_at : gradR x p g (ix2 r j) = dc (row x r) (fun k => g (ix1 k)) (row p r) j := by
  unfold gradR
  pointwise [share_at, root_at, weighted_at, dc]

theorem scale_at : scaleR x p (ix2 0 j) = ∑ r : Fin 8192, dg (row x r) (row p r) j := by
  unfold scaleR
  pointwise [root_at, dg]
  all_goals simp only [Fin.sum_univ_one]

variable {x p} {C P : Fin 8192 → Fin 256 → EReal} (hx : ∀ r j, x (ix2 r j) = C r j) (hp : ∀ r j, p (ix2 r j) = P r j)

include hx hp in
theorem grad_rows : gradR x p g = gradArr C P (fun k => g (ix1 k)) := funext fun i => by
  idx_vars i
  rw [grad_at, show row x i0 = C i0 from funext (hx i0), show row p i0 = P i0 from funext (hp i0)]; rfl

include hx hp in
theorem scale_rows : scaleR x p = scaleArr C P := funext fun i => by
  idx_vars i
  obtain rfl : i0 = 0 := Subsingleton.elim _ _
  rw [scale_at]
  refine Finset.sum_congr rfl fun r _ => ?_
  rw [show row x r = C r from funext (hx r), show row p r = P r from funext (hp r)]; rfl

end Cert.RmsRef

end
-- ==== Proof.Rms.Queries.lean ====
/- The query latents' norm behind their projection, differentiated: what the call and the reference leave, and the claims about
   them. -/
module

public import proofs.«01_k».proof.Proof.Norm.Lanes
public import proofs.«01_k».proof.Proof.Rms.Ref
public import proofs.«01_k».proof.Proof.Gen.Kernel12.Frame
public import proofs.«01_k».proof.Proof.Gen.Kernel12Ideal.Frame
public import proofs.«01_k».proof.Proof.Gen.Reference12Ideal.Run

@[expose] public section

set_option maxRecDepth 16384

noncomputable section

open Idealize.ShloMosaic Idealize.ShloMosaic.TcCoe Idealize.SL.Sem
open Idealize.ShloMosaic.Pipeline (Dat)

namespace Cert.Kernel12Ideal.Rms

open Cert.Kernel12Ideal Cert.Kernel12Ideal.Gen Cert.RmsMath
open Cert.RmsRows (rowX rowP row1 gradB scaleB gradArr scaleArr scaleTiles tail tail_scale grad_block scale_block)

/-! ## The arrays -/

section

variable (z : FVec Ideal S8192x2848 .f32) (w : FVec Ideal S256x768 .f32) (d : FVec Ideal S8192x768 .f32)

/-- The latents, and the cotangent of their norm. -/
def latents (r : Fin 8192) (j : Fin 256) : EReal := z (ix2 r ⟨256 + j.val, by omega⟩)

def back (r : Fin 8192) (j : Fin 256) : EReal :=
  ∑ h : Fin 8, ∑ e : Fin 96, d (ix2 r ⟨96 * h.val + e.val, by omega⟩) * w (ix2 j ⟨96 * h.val + e.val, by omega⟩)

/-- The heads of 96 lanes, laid out 128 apart. -/
def zeroA : FVec Ideal S_ .f32 := sitofp .f32 (constantI S_ 32 0#32)

def padD : FVec Ideal S8192x1024 .f32 :=
  shapeCast S8192x1024 (pad S8192x8x128 ![0, 0, 0] ![0, 0, 32] ![0, 0, 0] (shapeCast S8192x8x96 d shapeCasts_S8192x768_S8192x8x96) zeroA
    pads_S8192x8x96_S8192x8x128_000_000_0320 h_S_) shapeCasts_S8192x8x128_S8192x1024

def padW : FVec Ideal S256x1024 .f32 :=
  shapeCast S256x1024 (pad S256x8x128 ![0, 0, 0] ![0, 0, 32] ![0, 0, 0] (shapeCast S256x8x96 w shapeCasts_S256x768_S256x8x96) zeroA
    pads_S256x8x96_S256x8x128_000_000_0320 h_S_) shapeCasts_S256x8x128_S256x1024

theorem zero_word : FloatOps.sitofp (F := Ideal) .f32 (0#32 : BitVec 32) = (0 : EReal) := by
  simp [FloatOps.sitofp]

/-- The lane a head's lane is. -/
theorem unpad {α : Type*} (f : Fin 768 → α) (y z : α) (hz : y = z) (l : Fin 1024) :
    (if h : l.val / 128 < 8 ∧ l.val % 128 < 96 then f ⟨l.val / 128 * 96 + l.val % 128, by omega⟩ else y)
      = if h : l.val % 128 < 96 then f ⟨96 * (l.val / 128) + l.val % 128, by omega⟩ else z := by
  by_cases h : l.val % 128 < 96
  · rw [dif_pos ⟨by omega, h⟩, dif_pos h]
    exact congrArg f (Fin.ext (show l.val / 128 * 96 + l.val % 128 = 96 * (l.val / 128) + l.val % 128 by omega))
  · rw [dif_neg fun h' => h h'.2, dif_neg h, hz]

theorem padD_at (r : Fin 8192) (l : Fin 1024) : padD d (ix2 r l)
    = if h : l.val % 128 < 96 then d (ix2 r ⟨96 * (l.val / 128) + l.val % 128, by omega⟩) else 0 := by
  pointwise [padD, zeroA]
  exact unpad (fun k => d (ix2 r k)) _ _ zero_word l

theorem padW_at (j : Fin 256) (l : Fin 1024) : padW w (ix2 j l)
    = if h : l.val % 128 < 96 then w (ix2 j ⟨96 * (l.val / 128) + l.val % 128, by omega⟩) else 0 := by
  pointwise [padW, zeroA]
  exact unpad (fun k => w (ix2 j k)) _ _ zero_word l

theorem back_pad (r : Fin 8192) (j : Fin 256) : ∑ l : Fin 1024, padD d (ix2 r l) * padW w (ix2 j l) = back w d r j := by
  refine sum_heads (n := 96) (by norm_num) _ _ (fun h e => ?_) fun l hl => ?_
  · have hm : (128 * h.val + e.val) % 128 = e.val := by omega
    have hd : (128 * h.val + e.val) / 128 = h.val := by omega
    rw [padD_at, padW_at, dif_pos (show (128 * h.val + e.val) % 128 < 96 by omega), dif_pos (show (128 * h.val + e.val) % 128 < 96 by omega)]
    simp only [hm, hd]
  · rw [padD_at, dif_neg (by omega), zero_mul]

end

/-! ## The body -/

variable (d0 : FVec Ideal S1024x1024 .bf16) (w0 : FVec Ideal S256x1024 .bf16) (x0 : FVec Ideal S1024x256 .bf16) (g0 : FVec Ideal S1x256 .f32)

theorem product_at (r : Fin 1024) (j : Fin 256) : k0_pay3 (F := Ideal) d0 w0 (ix2 r j) = ∑ l : Fin 1024, d0 (ix2 r l) * w0 (ix2 j l) := by
  pointwise [k0_pay3]

theorem grad_eq : k0_pay1 (F := Ideal) (k0_pay4 x0) (k0_pay9 (F := Ideal) d0 w0 x0 g0) (k0_pay10 (F := Ideal) d0 w0 x0 g0) (k0_pay11 (F := Ideal) d0 w0 x0 g0)
    = gradB x0 (k0_pay3 d0 w0) g0 := rfl

theorem scale_eq : k0_pay7 (F := Ideal) d0 w0 x0 = scaleB x0 (k0_pay3 d0 w0) := rfl

/-! ## The blocks -/

variable (m : (ℓ : Loc nD τ sig) → Buf (Elt Ideal) ℓ) (c : Dev nD)

abbrev zArg : FVec Ideal S8192x2848 .f32 := m ((c.tc : Thread nD τ).loc main_arg0)
abbrev gArg : FVec Ideal S256 .f32 := m ((c.tc : Thread nD τ).loc main_arg1)
abbrev wArg : FVec Ideal S256x768 .f32 := m ((c.tc : Thread nD τ).loc main_arg2)
abbrev dArg : FVec Ideal S8192x768 .f32 := m ((c.tc : Thread nD τ).loc main_arg3)

theorem idx : ∀ t : Fin cfg0.N, win0_0.index t = ![t.val, 0] ∧ win0_1.index t = ![0, 0] ∧ win0_2.index t = ![t.val, 9] ∧ win0_3.index t = ![0, 0]
    ∧ win0_4.index t = ![t.val, 0] ∧ win0_5.index t = ![t.val, 0] :=
  (by decide +kernel : ∀ t : Fin grid0.N, _)

theorem V_d : V m c main_v3 = (truncf .bf16 (padD (dArg m c)) bitsLt_bf16_f32 : FVec Ideal S8192x1024 .bf16) := by
  unfold V V0
  simp only [hostOps0, hostOps0_1, hostOps0_2, hostOps0_3, hostOps0_4, List.flatten_cons, List.flatten_nil, List.cons_append, List.nil_append,
    List.append_nil, StableHlo.after_cons, StableHlo.after_nil]
  after_results_simp
  rfl

theorem V_w : V m c main_v7 = (truncf .bf16 (padW (wArg m c)) bitsLt_bf16_f32 : FVec Ideal S256x1024 .bf16) := by
  unfold V V0
  simp only [hostOps0, hostOps0_1, hostOps0_2, hostOps0_3, hostOps0_4, List.flatten_cons, List.flatten_nil, List.cons_append, List.nil_append,
    List.append_nil, StableHlo.after_cons, StableHlo.after_nil]
  after_results_simp
  rfl

theorem V_z : V m c main_v13 = (truncf .bf16 (Cert.ZLanes.rowsZ (zArg m c)) bitsLt_bf16_f32 : FVec Ideal S8192x2944 .bf16) := by
  unfold V V0
  simp only [hostOps0, hostOps0_1, hostOps0_2, hostOps0_3, hostOps0_4, List.flatten_cons, List.flatten_nil, List.cons_append, List.nil_append,
    List.append_nil, StableHlo.after_cons, StableHlo.after_nil]
  after_results_simp
  rfl

theorem V_g : V m c main_v14 = (shapeCast S1x256 (gArg m c) shapeCasts_S256_S1x256 : FVec Ideal S1x256 .f32) := by
  unfold V V0
  simp only [hostOps0, hostOps0_1, hostOps0_2, hostOps0_3, hostOps0_4, List.flatten_cons, List.flatten_nil, List.cons_append, List.nil_append,
    List.append_nil, StableHlo.after_cons, StableHlo.after_nil]
  after_results_simp
  rfl

variable (t : Fin cfg0.N) (r : Fin 1024) (ht : 1024 * t.val + r.val < 8192)

theorem d_blk (l : Fin 1024) : (iblk m c 0 t : FVec Ideal S1024x1024 .bf16) (ix2 r l) = padD (dArg m c) (ix2 ⟨1024 * t.val + r.val, ht⟩ l) := by
  show V m c main_v3 (((cfg0.win 0).blk t).view.emb (ix2 r l)) = _
  rw [V_d]
  generalize padD (dArg m c) = o
  blk_ext [idx t]

theorem w_blk (j : Fin 256) (l : Fin 1024) : (iblk m c 1 t : FVec Ideal S256x1024 .bf16) (ix2 j l) = padW (wArg m c) (ix2 j l) := by
  show V m c main_v7 (((cfg0.win 1).blk t).view.emb (ix2 j l)) = _
  rw [V_w]
  generalize padW (wArg m c) = o
  blk_ext [idx t]

theorem p_row : rowP (k0_pay3 (F := Ideal) (iblk m c 0 t) (iblk m c 1 t)) r = back (wArg m c) (dArg m c) ⟨1024 * t.val + r.val, ht⟩ := funext fun j => by
  refine (product_at _ _ r j).trans (Eq.trans ?_ (back_pad (wArg m c) (dArg m c) _ j))
  exact Finset.sum_congr rfl fun l _ => congrArg₂ (fun a b : EReal => a * b) (d_blk m c t r ht l) (w_blk m c t j l)

theorem x_row : rowX (X0_2 m c t) r = latents (zArg m c) ⟨1024 * t.val + r.val, ht⟩ := funext fun j => by
  have hz : Cert.ZLanes.rowsZ (zArg m c) (ix2 ⟨1024 * t.val + r.val, ht⟩ ⟨2304 + j.val, by omega⟩) = latents (zArg m c) ⟨1024 * t.val + r.val, ht⟩ j := by
    rw [Cert.ZLanes.rowsZ_at]
    unfold Cert.ZLanes.zlane
    rw [dif_neg (show ¬ 2304 + j.val < 2048 by omega), dif_pos (show 2304 + j.val < 2848 by omega)]
    exact congrArg (fun k : Fin 2848 => zArg m c (ix2 _ k)) (Fin.ext (show 2304 + j.val - 2048 = 256 + j.val by omega))
  rw [← hz]
  unfold rowX X0_2 Pipeline.Window.fill
  rw [dif_pos (moved0_2 t _)]
  show V m c main_v13 (((cfg0.win 2).blk t).view.emb _) = _
  rw [V_z]
  generalize Cert.ZLanes.rowsZ (zArg m c) = q
  blk_ext [idx t]

theorem g_row : row1 (iblk m c 3 t : FVec Ideal S1x256 .f32) = fun j => gArg m c (ix1 j) := funext fun j => by
  have hs : shapeCast S1x256 (gArg m c) shapeCasts_S256_S1x256 (ix2 0 j) = gArg m c (ix1 j) := by pointwise []
  show _ = gArg m c (ix1 j)
  rw [← hs]
  show V m c main_v14 (((cfg0.win 3).blk t).view.emb (ix2 0 j)) = _
  rw [V_g]
  generalize shapeCast S1x256 (gArg m c) shapeCasts_S256_S1x256 = o
  blk_ext [idx t]

theorem rows_in (r : Fin 1024) : 1024 * t.val + r.val < 8192 := by have := lt_of_lt_of_eq t.isLt N_0; omega

/-- The arrays of the latents and of the cotangent. -/
abbrev C : Fin 8192 → Fin 256 → EReal := latents (zArg m c)
abbrev P : Fin 8192 → Fin 256 → EReal := back (wArg m c) (dArg m c)
abbrev G : Fin 256 → EReal := fun j => gArg m c (ix1 j)

theorem final_x : (dats m 0 c).arrAt 4 (cfgs 0).N = gradArr (C m c) (P m c) (G m c) := by
  refine (dats m 0 c).arrAt_eq_of_covers 4 _ (by decide +kernel) fun t _ y => ?_
  blk_simp
  rw [after0_4]; unfold outsAt0; frame_out
  rw [grad_eq]
  exact grad_block (rows_in t) (fun r => x_row m c t r (rows_in t r)) (fun r => p_row m c t r (rows_in t r)) (g_row m c t) y _
    (by blk_simp [idx t]) (by blk_simp [idx t])

theorem final_scale : (dats m 0 c).arrAt 5 (cfgs 0).N = scaleTiles (C m c) (P m c) := by
  refine (dats m 0 c).arrAt_eq_of_covers 5 _ (by decide +kernel) fun t _ y => ?_
  blk_simp
  rw [after0_5]; unfold outsAt0; frame_out
  rw [scale_eq]
  exact scale_block (rows_in t) (fun r => x_row m c t r (rows_in t r)) (fun r => p_row m c t r (rows_in t r)) y _
    (by blk_simp [idx t]) (by blk_simp [idx t])

theorem after_scale : Pipeline.afterTail₀ cfgs (dats m) 0 (V0 m) [hostOps1] c main_v20 = scaleArr (C m c) (P m c) := by
  rw [← tail_scale, ← final_scale m c]
  unfold Pipeline.afterTail₀
  rw [← Pipeline.withArrays_arr (cfgs 0).spec launch0.win.arr_inj c (V0 m c) (fun w => (dats m 0 c).arrAt w (cfgs 0).N) 5]
  generalize Pipeline.withArrays (cfgs 0).spec c (V0 m c) (fun w => (dats m 0 c).arrAt w (cfgs 0).N) = X
  simp only [hostOps1, List.flatten_cons, List.flatten_nil, List.append_nil]
  after_results_simp
  all_goals rfl

/-- The call's two results. -/
theorem run (ρ : Dev nD → PrngReg) : θ_run defs (onTc (τ := τ) (main (F := Ideal))) ⟨m, fun _ => 0, ρ⟩ (fun r => ∀ c : Dev nD,
    r.2.mem ((c.tc : Thread nD τ).loc main_v15_0) = gradArr (C m c) (P m c) (G m c)
      ∧ r.2.mem ((c.tc : Thread nD τ).loc main_v20) = scaleArr (C m c) (P m c)) :=
  (θ_run _ _ _).mono (fun r h c =>
    ⟨((h c).1 4).trans (final_x m c), ((h c).2 main_v20 (Pipeline.mem_restRefs_of main_v20 (by decide) (by decide))).trans (after_scale m c)⟩)
    (Gen.run_main m ρ)

end Cert.Kernel12Ideal.Rms

namespace Cert.QueriesEqual

open Cert.Kernel12Ideal.Rms Cert.RmsMath
open Cert.RmsRef (gradR scaleR grad_rows scale_rows)

/-- The reference leaves its arguments as they were; it has no semaphore. -/
theorem frame_reference : Cert.quiescent_Reference12Ideal := fun m ρ _ =>
  (θ_run Cert.Reference12Ideal.defs _ _).mono
    (fun r h => ⟨fun c => (h c).2.2, sem_eq_zero_of_no_sems (by decide) r.2⟩) (Cert.Reference12Ideal.Value.run m ρ)

section Reference

open Cert.Reference12Ideal Cert.Reference12Ideal.Gen

variable (z : FVec Ideal S8192x2848 .f32) (w : FVec Ideal S256x768 .f32) (d : FVec Ideal S8192x768 .f32)

/-- The latents and the cotangent of their norm, as the reference reads them. -/
def latentsR : FVec Ideal S8192x256 .f32 := extractStridedSlice S8192x256 ![0, 256] z slices_S8192x2848_S8192x256_0_256
def backR : FVec Ideal S8192x256 .f32 := Host.dotGeneral dot_S8192x768_S256x768_S8192x256_1_1_0_0_n_n none d w

theorem latents_at (r : Fin 8192) (j : Fin 256) : latentsR z (ix2 r j) = latents z r j := by
  pointwise [latentsR, latents]

theorem back_at (r : Fin 8192) (j : Fin 256) : backR w d (ix2 r j) = back w d r j := by
  pointwise [backR]
  exact sum_parts (n := 96) rfl _

end Reference

theorem algebraic : Cert.algebraic_Kernel12Ideal_Reference12Ideal := by
  intro m g m' g' hpre hag
  refine ⟨fun c => Cert.RmsRows.gradArr (C m c) (P m c) (G m c), fun c => Cert.RmsRows.scaleArr (C m c) (P m c),
    (θ_run _ _ _).mono (fun r h c => ?_) (θ_run_and (Cert.Kernel12Ideal.Rms.run m g) (Cert.Kernel12Ideal.Gen.unchanged m g)),
    (θ_run _ _ _).mono (fun r h c => ?_) (Cert.Reference12Ideal.Value.run m' g')⟩
  · exact ⟨(h.1 c).1, (h.1 c).2, h.2 c⟩
  · obtain ⟨a0, a1, a2, a3⟩ := hag c
    refine ⟨(h c).1.trans ?_, (h c).2.1.trans ?_, (h c).2.2⟩
    · unfold Cert.Reference12Ideal.Value.res_main_v39
      rw [a0, a1, a2, a3]
      exact (show _ = gradR (latentsR (zArg m c)) (backR (wArg m c) (dArg m c)) (gArg m c) from rfl).trans
        (grad_rows _ (latents_at _) (back_at _ _))
    · rw [a0, a2, a3]
      exact (show _ = scaleR (latentsR (zArg m c)) (backR (wArg m c) (dArg m c)) from rfl).trans (scale_rows (latents_at _) (back_at _ _))

end Cert.QueriesEqual

end
-- ==== Proof.Rms.Values.lean ====
/- The key and value latents' norm behind the values' projection, differentiated: what the call and the reference leave, and the
   claims about them. -/
module

public import proofs.«01_k».proof.Proof.Rms.Queries
public import proofs.«01_k».proof.Proof.Gen.Kernel13.Frame
public import proofs.«01_k».proof.Proof.Gen.Kernel13Ideal.Frame
public import proofs.«01_k».proof.Proof.Gen.Reference13Ideal.Run

@[expose] public section

set_option maxRecDepth 16384

noncomputable section

open Idealize.ShloMosaic Idealize.ShloMosaic.TcCoe Idealize.SL.Sem
open Idealize.ShloMosaic.Pipeline (Dat)

namespace Cert.Kernel13Ideal.Rms

open Cert.Kernel13Ideal Cert.Kernel13Ideal.Gen Cert.RmsMath
open Cert.RmsRows (rowX rowP row1 gradB scaleB gradArr scaleArr scaleTiles tail tail_scale grad_block scale_block)

/-! ## The arrays -/

section

variable (z : FVec Ideal S8192x2848 .f32) (w : FVec Ideal S256x1024 .f32) (d : FVec Ideal S8192x512 .f32) (e : FVec Ideal S8192x256 .f32)

/-- The latents, and the cotangent of their norm: what the keys give it, and what the values do. -/
def latents (r : Fin 8192) (j : Fin 256) : EReal := z (ix2 r ⟨512 + j.val, by omega⟩)

def fromValues (r : Fin 8192) (j : Fin 256) : EReal :=
  ∑ h : Fin 8, ∑ k : Fin 64, d (ix2 r ⟨64 * h.val + k.val, by omega⟩) * w (ix2 j ⟨128 * h.val + (64 + k.val), by omega⟩)

def back (r : Fin 8192) (j : Fin 256) : EReal := fromValues w d r j + e (ix2 r j)

/-- The values' heads of 64 lanes, laid out 128 apart, and the weights of their lanes. -/
def zeroA : FVec Ideal S_ .f32 := sitofp .f32 (constantI S_ 32 0#32)

def padD : FVec Ideal S8192x1024 .f32 :=
  shapeCast S8192x1024 (pad S8192x8x128 ![0, 0, 0] ![0, 0, 64] ![0, 0, 0] (shapeCast S8192x8x64 d shapeCasts_S8192x512_S8192x8x64) zeroA
    pads_S8192x8x64_S8192x8x128_000_000_0640 h_S_) shapeCasts_S8192x8x128_S8192x1024

def padW : FVec Ideal S256x1024 .f32 :=
  shapeCast S256x1024 (pad S256x8x128 ![0, 0, 0] ![0, 0, 64] ![0, 0, 0]
    (shapeCast S256x8x64 (shapeCast S256x512 (extractStridedSlice S256x8x64 ![0, 0, 64] (shapeCast S256x8x128 w shapeCasts_S256x1024_S256x8x128)
      slices_S256x8x128_S256x8x64_0_0_64) shapeCasts_S256x8x64_S256x512) shapeCasts_S256x512_S256x8x64) zeroA
    pads_S256x8x64_S256x8x128_000_000_0640 h_S_) shapeCasts_S256x8x128_S256x1024

theorem padD_at (r : Fin 8192) (l : Fin 1024) : padD d (ix2 r l)
    = if h : l.val % 128 < 64 then d (ix2 r ⟨64 * (l.val / 128) + l.val % 128, by omega⟩) else 0 := by
  pointwise [padD, zeroA]
  by_cases h : l.val % 128 < 64
  · rw [dif_pos ⟨by omega, h⟩, dif_pos h]
    exact congrArg (fun k : Fin 512 => d (ix2 r k)) (Fin.ext (by show l.val / 128 * 64 + l.val % 128 = 64 * (l.val / 128) + l.val % 128; omega))
  · rw [dif_neg fun h' => h h'.2, dif_neg h]
    exact Cert.Kernel12Ideal.Rms.zero_word

theorem padW_at (j : Fin 256) (h : Fin 8) (k : Fin 64) :
    padW w (ix2 j ⟨128 * h.val + k.val, by omega⟩) = w (ix2 j ⟨128 * h.val + (64 + k.val), by omega⟩) := by
  have e1 : (128 * h.val + k.val) / 128 = h.val := by omega
  have e2 : (128 * h.val + k.val) % 128 = k.val := by omega
  pointwise [padW, zeroA]
  rw [dif_pos (by omega)]
  exact congrArg (fun k : Fin 1024 => w (ix2 j k)) (Fin.ext (by simp only [e1, e2]; omega))

theorem values_pad (r : Fin 8192) (j : Fin 256) : ∑ l : Fin 1024, padD d (ix2 r l) * padW w (ix2 j l) = fromValues w d r j := by
  refine sum_heads (n := 64) (by norm_num) _ _ (fun h k => ?_) fun l hl => ?_
  · have hm : (128 * h.val + k.val) % 128 = k.val := by omega
    have hd : (128 * h.val + k.val) / 128 = h.val := by omega
    rw [padD_at, padW_at, dif_pos (show (128 * h.val + k.val) % 128 < 64 by omega)]
    simp only [hm, hd]
  · rw [padD_at, dif_neg (by omega), zero_mul]

end

/-! ## The body -/

variable (d0 : FVec Ideal S1024x1024 .bf16) (w0 : FVec Ideal S256x1024 .bf16) (e0 : FVec Ideal S1024x256 .f32) (x0 : FVec Ideal S1024x256 .bf16)
  (g0 : FVec Ideal S1x256 .f32)

theorem product_at (r : Fin 1024) (j : Fin 256) :
    k0_pay6 (F := Ideal) d0 w0 e0 (ix2 r j) = (∑ l : Fin 1024, d0 (ix2 r l) * w0 (ix2 j l)) + e0 (ix2 r j) := by
  pointwise [k0_pay6]

theorem grad_eq : k0_pay1 (F := Ideal) (k0_pay3 x0) (k0_pay9 (F := Ideal) d0 w0 e0 x0 g0) (k0_pay10 (F := Ideal) d0 w0 e0 x0 g0)
    = gradB x0 (k0_pay6 d0 w0 e0) g0 := rfl

theorem scale_eq : k0_pay2 (F := Ideal) (k0_pay7 (F := Ideal) d0 w0 e0 x0) = Cert.Kernel12Ideal.Gen.k0_pay2 (scaleB x0 (k0_pay6 d0 w0 e0)) := rfl

/-! ## The blocks -/

variable (m : (ℓ : Loc nD τ sig) → Buf (Elt Ideal) ℓ) (c : Dev nD)

abbrev zArg : FVec Ideal S8192x2848 .f32 := m ((c.tc : Thread nD τ).loc main_arg0)
abbrev gArg : FVec Ideal S256 .f32 := m ((c.tc : Thread nD τ).loc main_arg1)
abbrev wArg : FVec Ideal S256x1024 .f32 := m ((c.tc : Thread nD τ).loc main_arg2)
abbrev dArg : FVec Ideal S8192x512 .f32 := m ((c.tc : Thread nD τ).loc main_arg3)
abbrev eArg : FVec Ideal S8192x256 .f32 := m ((c.tc : Thread nD τ).loc main_arg4)

theorem idx : ∀ t : Fin cfg0.N, win0_0.index t = ![t.val, 0] ∧ win0_1.index t = ![0, 0] ∧ win0_2.index t = ![t.val, 0] ∧ win0_3.index t = ![t.val, 10]
    ∧ win0_4.index t = ![0, 0] ∧ win0_5.index t = ![t.val, 0] ∧ win0_6.index t = ![t.val, 0] :=
  (by decide +kernel : ∀ t : Fin grid0.N, _)

theorem V_d : V m c main_v9 = (truncf .bf16 (padD (dArg m c)) bitsLt_bf16_f32 : FVec Ideal S8192x1024 .bf16) := by
  unfold V V0
  simp only [hostOps0, hostOps0_1, hostOps0_2, hostOps0_3, hostOps0_4, List.flatten_cons, List.flatten_nil, List.cons_append, List.nil_append,
    List.append_nil, StableHlo.after_cons, StableHlo.after_nil]
  after_results_simp
  rfl

theorem V_w : V m c main_v10 = (truncf .bf16 (padW (wArg m c)) bitsLt_bf16_f32 : FVec Ideal S256x1024 .bf16) := by
  unfold V V0
  simp only [hostOps0, hostOps0_1, hostOps0_2, hostOps0_3, hostOps0_4, List.flatten_cons, List.flatten_nil, List.cons_append, List.nil_append,
    List.append_nil, StableHlo.after_cons, StableHlo.after_nil]
  after_results_simp
  rfl

theorem V_z : V m c main_v16 = (truncf .bf16 (Cert.ZLanes.rowsZ (zArg m c)) bitsLt_bf16_f32 : FVec Ideal S8192x2944 .bf16) := by
  unfold V V0
  simp only [hostOps0, hostOps0_1, hostOps0_2, hostOps0_3, hostOps0_4, List.flatten_cons, List.flatten_nil, List.cons_append, List.nil_append,
    List.append_nil, StableHlo.after_cons, StableHlo.after_nil]
  after_results_simp
  rfl

theorem V_g : V m c main_v17 = (shapeCast S1x256 (gArg m c) shapeCasts_S256_S1x256 : FVec Ideal S1x256 .f32) := by
  unfold V V0
  simp only [hostOps0, hostOps0_1, hostOps0_2, hostOps0_3, hostOps0_4, List.flatten_cons, List.flatten_nil, List.cons_append, List.nil_append,
    List.append_nil, StableHlo.after_cons, StableHlo.after_nil]
  after_results_simp
  rfl

variable (t : Fin cfg0.N) (r : Fin 1024) (ht : 1024 * t.val + r.val < 8192)

theorem d_blk (l : Fin 1024) : (iblk m c 0 t : FVec Ideal S1024x1024 .bf16) (ix2 r l) = padD (dArg m c) (ix2 ⟨1024 * t.val + r.val, ht⟩ l) := by
  show V m c main_v9 (((cfg0.win 0).blk t).view.emb (ix2 r l)) = _
  rw [V_d]
  generalize padD (dArg m c) = o
  blk_ext [idx t]

theorem w_blk (j : Fin 256) (l : Fin 1024) : (iblk m c 1 t : FVec Ideal S256x1024 .bf16) (ix2 j l) = padW (wArg m c) (ix2 j l) := by
  show V m c main_v10 (((cfg0.win 1).blk t).view.emb (ix2 j l)) = _
  rw [V_w]
  generalize padW (wArg m c) = o
  blk_ext [idx t]

theorem e_blk (j : Fin 256) : (iblk m c 2 t : FVec Ideal S1024x256 .f32) (ix2 r j) = eArg m c (ix2 ⟨1024 * t.val + r.val, ht⟩ j) := by
  show V m c main_arg4 (((cfg0.win 2).blk t).view.emb (ix2 r j)) = _
  rw [V_main_arg4]
  blk_ext [idx t]

theorem p_row : rowP (k0_pay6 (F := Ideal) (iblk m c 0 t) (iblk m c 1 t) (iblk m c 2 t)) r
    = back (wArg m c) (dArg m c) (eArg m c) ⟨1024 * t.val + r.val, ht⟩ := funext fun j => by
  refine (product_at _ _ _ r j).trans (congrArg₂ (fun a b : EReal => a + b) (Eq.trans ?_ (values_pad (wArg m c) (dArg m c) _ j)) (e_blk m c t r ht j))
  exact Finset.sum_congr rfl fun l _ => congrArg₂ (fun a b : EReal => a * b) (d_blk m c t r ht l) (w_blk m c t j l)

theorem x_row : rowX (X0_3 m c t) r = latents (zArg m c) ⟨1024 * t.val + r.val, ht⟩ := funext fun j => by
  have hz : Cert.ZLanes.rowsZ (zArg m c) (ix2 ⟨1024 * t.val + r.val, ht⟩ ⟨2560 + j.val, by omega⟩) = latents (zArg m c) ⟨1024 * t.val + r.val, ht⟩ j := by
    rw [Cert.ZLanes.rowsZ_at]
    unfold Cert.ZLanes.zlane
    rw [dif_neg (show ¬ 2560 + j.val < 2048 by omega), dif_pos (show 2560 + j.val < 2848 by omega)]
    exact congrArg (fun k : Fin 2848 => zArg m c (ix2 _ k)) (Fin.ext (show 2560 + j.val - 2048 = 512 + j.val by omega))
  rw [← hz]
  unfold rowX X0_3 Pipeline.Window.fill
  rw [dif_pos (moved0_3 t _)]
  show V m c main_v16 (((cfg0.win 3).blk t).view.emb _) = _
  rw [V_z]
  generalize Cert.ZLanes.rowsZ (zArg m c) = q
  blk_ext [idx t]

theorem g_row : row1 (iblk m c 4 t : FVec Ideal S1x256 .f32) = fun j => gArg m c (ix1 j) := funext fun j => by
  have hs : shapeCast S1x256 (gArg m c) shapeCasts_S256_S1x256 (ix2 0 j) = gArg m c (ix1 j) := by pointwise []
  show _ = gArg m c (ix1 j)
  rw [← hs]
  show V m c main_v17 (((cfg0.win 4).blk t).view.emb (ix2 0 j)) = _
  rw [V_g]
  generalize shapeCast S1x256 (gArg m c) shapeCasts_S256_S1x256 = o
  blk_ext [idx t]

theorem rows_in (r : Fin 1024) : 1024 * t.val + r.val < 8192 := by have := lt_of_lt_of_eq t.isLt N_0; omega

/-- The arrays of the latents and of the cotangent. -/
abbrev C : Fin 8192 → Fin 256 → EReal := latents (zArg m c)
abbrev P : Fin 8192 → Fin 256 → EReal := back (wArg m c) (dArg m c) (eArg m c)
abbrev G : Fin 256 → EReal := fun j => gArg m c (ix1 j)

theorem final_x : (dats m 0 c).arrAt 5 (cfgs 0).N = gradArr (C m c) (P m c) (G m c) := by
  refine (dats m 0 c).arrAt_eq_of_covers 5 _ (by decide +kernel) fun t _ y => ?_
  blk_simp
  rw [after0_5]; unfold outsAt0; frame_out
  rw [grad_eq]
  exact grad_block (rows_in t) (fun r => x_row m c t r (rows_in t r)) (fun r => p_row m c t r (rows_in t r)) (g_row m c t) y _
    (by blk_simp [idx t]) (by blk_simp [idx t])

theorem final_scale : (dats m 0 c).arrAt 6 (cfgs 0).N = scaleTiles (C m c) (P m c) := by
  refine (dats m 0 c).arrAt_eq_of_covers 6 _ (by decide +kernel) fun t _ y => ?_
  blk_simp
  rw [after0_6]; unfold outsAt0; frame_out
  rw [scale_eq]
  exact scale_block (rows_in t) (fun r => x_row m c t r (rows_in t r)) (fun r => p_row m c t r (rows_in t r)) y _
    (by blk_simp [idx t]) (by blk_simp [idx t])

theorem after_scale : Pipeline.afterTail₀ cfgs (dats m) 0 (V0 m) [hostOps1] c main_v23 = scaleArr (C m c) (P m c) := by
  rw [← tail_scale, ← final_scale m c]
  unfold Pipeline.afterTail₀
  rw [← Pipeline.withArrays_arr (cfgs 0).spec launch0.win.arr_inj c (V0 m c) (fun w => (dats m 0 c).arrAt w (cfgs 0).N) 6]
  generalize Pipeline.withArrays (cfgs 0).spec c (V0 m c) (fun w => (dats m 0 c).arrAt w (cfgs 0).N) = X
  simp only [hostOps1, List.flatten_cons, List.flatten_nil, List.append_nil]
  after_results_simp
  all_goals rfl

/-- The call's two results. -/
theorem run (ρ : Dev nD → PrngReg) : θ_run defs (onTc (τ := τ) (main (F := Ideal))) ⟨m, fun _ => 0, ρ⟩ (fun r => ∀ c : Dev nD,
    r.2.mem ((c.tc : Thread nD τ).loc main_v18_0) = gradArr (C m c) (P m c) (G m c)
      ∧ r.2.mem ((c.tc : Thread nD τ).loc main_v23) = scaleArr (C m c) (P m c)) :=
  (θ_run _ _ _).mono (fun r h c =>
    ⟨((h c).1 5).trans (final_x m c), ((h c).2 main_v23 (Pipeline.mem_restRefs_of main_v23 (by decide) (by decide))).trans (after_scale m c)⟩)
    (Gen.run_main m ρ)

end Cert.Kernel13Ideal.Rms

namespace Cert.ValuesEqual

open Cert.Kernel13Ideal.Rms Cert.RmsMath
open Cert.RmsRef (gradR scaleR grad_rows scale_rows)

/-- The reference leaves its arguments as they were; it has no semaphore. -/
theorem frame_reference : Cert.quiescent_Reference13Ideal := fun m ρ _ =>
  (θ_run Cert.Reference13Ideal.defs _ _).mono
    (fun r h => ⟨fun c => (h c).2.2, sem_eq_zero_of_no_sems (by decide) r.2⟩) (Cert.Reference13Ideal.Value.run m ρ)

section Reference

open Cert.Reference13Ideal Cert.Reference13Ideal.Gen

variable (z : FVec Ideal S8192x2848 .f32) (w : FVec Ideal S256x1024 .f32) (d : FVec Ideal S8192x512 .f32) (e : FVec Ideal S8192x256 .f32)

/-- The latents and the cotangent of their norm, as the reference reads them: the values' lanes are the last 64 of a head. -/
def latentsR : FVec Ideal S8192x256 .f32 := extractStridedSlice S8192x256 ![0, 512] z slices_S8192x2848_S8192x256_0_512

def padR : FVec Ideal S8192x1024 .f32 :=
  shapeCast S8192x1024 (pad S8192x8x128 ![0, 0, 64] ![0, 0, 0] ![0, 0, 0] (shapeCast S8192x8x64 d shapeCasts_S8192x512_S8192x8x64)
    (constant S_ .f32 0x00000000#32) pads_S8192x8x64_S8192x8x128_000_000_6400 h_S_) shapeCasts_S8192x8x128_S8192x1024

def backR : FVec Ideal S8192x256 .f32 := addf e (Host.dotGeneral dot_S8192x1024_S256x1024_S8192x256_1_1_0_0_n_n none (padR d) w)

theorem latents_at (r : Fin 8192) (j : Fin 256) : latentsR z (ix2 r j) = latents z r j := by
  pointwise [latentsR, latents]

theorem padR_at (r : Fin 8192) (l : Fin 1024) : padR d (ix2 r l)
    = if h : 64 ≤ l.val % 128 then d (ix2 r ⟨64 * (l.val / 128) + (l.val % 128 - 64), by omega⟩) else 0 := by
  pointwise [padR]
  by_cases h : 64 ≤ l.val % 128
  · rw [dif_pos ⟨by omega, h, by omega⟩, dif_pos h]
    exact congrArg (fun k : Fin 512 => d (ix2 r k))
      (Fin.ext (by show l.val / 128 * 64 + (l.val % 128 - 64) = 64 * (l.val / 128) + (l.val % 128 - 64); omega))
  · rw [dif_neg fun h' => h h'.2.1, dif_neg h]

theorem back_at (r : Fin 8192) (j : Fin 256) : backR w d e (ix2 r j) = back w d e r j := by
  have hs : ∑ l : Fin 1024, padR d (ix2 r l) * w (ix2 j l) = fromValues w d r j := by
    rw [sum_parts (n := 128) rfl]
    refine Finset.sum_congr rfl fun h _ => ?_
    rw [Fin.sum_univ_add (a := 64) (b := 64), Finset.sum_eq_zero fun k _ => ?_, zero_add]
    · refine Finset.sum_congr rfl fun k _ => ?_
      rw [padR_at]
      have hm : (128 * h.val + (64 + k.val)) % 128 = 64 + k.val := by omega
      have hd : (128 * h.val + (64 + k.val)) / 128 = h.val := by omega
      refine congrArg₂ (fun a b : EReal => a * b) ?_ rfl
      refine (dif_pos (show 64 ≤ (128 * h.val + (64 + k.val)) % 128 by omega)).trans ?_
      exact congrArg (fun k : Fin 512 => d (ix2 r k))
        (Fin.ext (by show 64 * ((128 * h.val + (64 + k.val)) / 128) + ((128 * h.val + (64 + k.val)) % 128 - 64) = 64 * h.val + k.val; rw [hm, hd]; omega))
    · rw [padR_at]
      have hk : k.val < 64 := k.isLt
      refine (congrArg (fun a : EReal => a * _) (dif_neg (show ¬ 64 ≤ (128 * h.val + k.val) % 128 by omega))).trans (zero_mul _)
  pointwise [backR]
  rw [hs, add_comm]
  rfl

end Reference

theorem algebraic : Cert.algebraic_Kernel13Ideal_Reference13Ideal := by
  intro m g m' g' hpre hag
  refine ⟨fun c => Cert.RmsRows.gradArr (C m c) (P m c) (G m c), fun c => Cert.RmsRows.scaleArr (C m c) (P m c),
    (θ_run _ _ _).mono (fun r h c => ?_) (θ_run_and (Cert.Kernel13Ideal.Rms.run m g) (Cert.Kernel13Ideal.Gen.unchanged m g)),
    (θ_run _ _ _).mono (fun r h c => ?_) (Cert.Reference13Ideal.Value.run m' g')⟩
  · exact ⟨(h.1 c).1, (h.1 c).2, h.2 c⟩
  · obtain ⟨a0, a1, a2, a3, a4⟩ := hag c
    refine ⟨(h c).1.trans ?_, (h c).2.1.trans ?_, (h c).2.2⟩
    · unfold Cert.Reference13Ideal.Value.res_main_v46
      rw [a0, a1, a2, a3, a4]
      exact (show _ = gradR (latentsR (zArg m c)) (backR (wArg m c) (dArg m c) (eArg m c)) (gArg m c) from rfl).trans
        (grad_rows _ (latents_at _) (back_at _ _ _))
    · rw [a0, a2, a3, a4]
      exact (show _ = scaleR (latentsR (zArg m c)) (backR (wArg m c) (dArg m c) (eArg m c)) from rfl).trans
        (scale_rows (latents_at _) (back_at _ _ _))

end Cert.ValuesEqual

end
-- ==== Proof.Xattn.Forward.lean ====
/- The cross attention's forward call leaves each query's average of the values over the softmax of its scores, and so does the
   reference — at any arguments, infinite ones too. -/
module

public import proofs.«01_k».proof.Proof.Xattn.Body
public import proofs.«01_k».proof.Proof.Xattn.Ref
public import proofs.«01_k».proof.Proof.Norm.Claims
public import proofs.«01_k».proof.Proof.Gen.Kernel14.Frame
public import proofs.«01_k».proof.Proof.Gen.Kernel14Ideal.Frame
public import proofs.«01_k».proof.Proof.Gen.Reference14Ideal.Run

@[expose] public section

set_option maxRecDepth 16384

noncomputable section

namespace Cert.CrossEqual

open Cert.Kernel3Ideal.Xattn Cert.XattnMath
open Cert.Kernel2Ideal.AttnValue (bot_word)
open Cert.Reference3Ideal.Xattn (lane rowsR keysR rowsR_apply keysR_apply scoresR maxR topR columnR_at exR totR prR)
open Idealize.ShloMosaic Idealize.ShloMosaic.TcCoe

/-- The softmax of a row of 256 scores. -/
def soft (s : Fin 256 → EReal) (j : Fin 256) : EReal :=
  Ideal.div (Ideal.exp (s j - Finset.univ.fold max ⊥ s)) (∑ i, Ideal.exp (s i - Finset.univ.fold max ⊥ s))

section Calls

variable {n : ℕ} {φ ψ : FTy} (q : FVec Ideal ⟨2, ![n, 1024]⟩ φ) (k v : FVec Ideal ⟨2, ![256, 1024]⟩ ψ)

/-- A query's scores at a head; -/
def score (t : Fin n) (h : Fin 4) (j : Fin 256) : EReal := (∑ d, q (ix2 t (lane h d)) * k (ix2 j (lane h d))) * (scale : EReal)
/-- its average of the values. -/
def mean (t : Fin n) (h : Fin 4) (d : Fin 256) : EReal := ∑ j, soft (score q k t h) j * v (ix2 j (lane h d))
/-- The averages of all queries, head after head. -/
def cross : FVec Ideal ⟨2, ![n, 1024]⟩ .bf16 := fun i =>
  mean q k v (i 0) ⟨(i 1).val / 256, by have : (i 1).val < 1024 := (i 1).isLt; omega⟩ ⟨(i 1).val % 256, Nat.mod_lt _ (by decide)⟩

theorem cross_at (t : Fin n) (h : Fin 4) (d : Fin 256) (l : Fin 1024) (hl : l.val = 256 * h.val + d.val) : cross q k v (ix2 t l) = mean q k v t h d := by
  have e1 : (⟨l.val / 256, by omega⟩ : Fin 4) = h := Fin.ext (by show l.val / 256 = h.val; omega)
  have e2 : (⟨l.val % 256, Nat.mod_lt _ (by decide)⟩ : Fin 256) = d := Fin.ext (by show l.val % 256 = d.val; omega)
  exact congrArg₂ (fun u w => mean q k v t u w) e1 e2

end Calls

section Block

open Cert.Kernel3Ideal Cert.Kernel3Ideal.Gen

variable (x0 : FVec Ideal S2048x1024 .bf16) (x1 x2 : FVec Ideal S256x1024 .bf16) (o : ℕ)
  (hq : Shape.Slices S2048x1024 ![0, o] S2048x256) (hk : Shape.Slices S256x1024 ![0, o] S256x256) (h : Fin 4)

theorem qs_lane (ho : o = 256 * h.val) (t : Fin 2048) (d : Fin 256) : qs x0 o hq (ix2 t d) = x0 (ix2 t (lane h d)) := by
  subst ho
  unfold qs
  rw [shapeCast_self]
  refine congrArg x0 (funext fun a => ?_)
  match a with
  | 0 => exact Fin.ext (Nat.zero_add _)
  | 1 => exact Fin.ext rfl

theorem ks_lane (ho : o = 256 * h.val) (j d : Fin 256) : ks x1 o hk (ix2 j d) = x1 (ix2 j (lane h d)) := by
  subst ho
  unfold ks
  rw [shapeCast_self]
  refine congrArg x1 (funext fun a => ?_)
  match a with
  | 0 => exact Fin.ext (Nat.zero_add _)
  | 1 => exact Fin.ext rfl

theorem scores_lane (ho : o = 256 * h.val) (t : Fin 2048) (j : Fin 256) :
    scores (qs x0 o hq) (ks x1 o hk) (ix2 t j) = score x0 x1 t h j := by
  pointwise [scores, along, scale_word, qs_lane x0 o hq h ho, ks_lane x1 o hk h ho, score]

/-- The weights of a head. -/
theorem weights_lane (ho : o = 256 * h.val) (t : Fin 2048) (j : Fin 256) : pw x0 x1 o hq hk (ix2 t j) = soft (score x0 x1 t h) j := by
  unfold pw
  pointwise [k0_pay13, scores_lane x0 x1 o hq hk h ho, bot_word, soft]

/-- What the body computes for a head. -/
def head : FVec Ideal S2048x256 .f32 := overKeys (truncf .bf16 (pw x0 x1 o hq hk) bitsLt_bf16_f32) (ks x2 o hk)

theorem head_at (ho : o = 256 * h.val) (t : Fin 2048) (d : Fin 256) : head x0 x1 x2 o hq hk (ix2 t d) = mean x0 x1 x2 t h d := by
  pointwise [head, overKeys, weights_lane x0 x1 o hq hk h ho, ks_lane x2 o hk h ho, mean]

/-- What the body stores. -/
theorem heads_at : (truncf .bf16 (concatenate S2048x1024 1 [⟨S2048x256, head x0 x1 x2 0 q0 k0⟩, ⟨S2048x256, head x0 x1 x2 256 q1 k1⟩,
    ⟨S2048x256, head x0 x1 x2 512 q2 k2⟩, ⟨S2048x256, head x0 x1 x2 768 q3 k3⟩] concatenates_S2048x256_S2048x256_S2048x256_S2048x256_S2048x1024_d1) bitsLt_bf16_f32
      : FVec Ideal S2048x1024 .bf16) = cross x0 x1 x2 := by
  funext i
  idx_vars i
  pointwise [head_at x0 x1 x2 0 q0 k0 0 rfl, head_at x0 x1 x2 256 q1 k1 1 rfl, head_at x0 x1 x2 512 q2 k2 2 rfl, head_at x0 x1 x2 768 q3 k3 3 rfl]
  split_ifs
  all_goals exact (cross_at x0 x1 x2 _ _ _ _ (by simp <;> omega)).symm

end Block

section Kernel

open Cert.Kernel14Ideal Cert.Kernel14Ideal.Gen
open Idealize.ShloMosaic.Pipeline (Dat)

variable (m : (ℓ : Loc nD τ sig) → Buf (Elt Ideal) ℓ) (c : Dev nD)

abbrev qArg : FVec Ideal S8192x1024 .f32 := m ((c.tc : Thread nD τ).loc main_arg0)
abbrev kArg : FVec Ideal S256x1024 .f32 := m ((c.tc : Thread nD τ).loc main_arg1)
abbrev vArg : FVec Ideal S256x1024 .f32 := m ((c.tc : Thread nD τ).loc main_arg2)

theorem stored (x0 : FVec Ideal S2048x1024 .bf16) (x1 x2 : FVec Ideal S256x1024 .bf16) :
    k0_pay1 (k0_pay2 x0) (k0_pay3 x1) (k0_pay4 x2) (k0_pay5 x0 x1) (k0_pay6 x0 x1) (k0_pay7 x0 x1) (k0_pay8 x0 x1) = cross x0 x1 x2 :=
  Eq.trans rfl (heads_at x0 x1 x2)

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

theorem V_q : V m c main_v0 = (truncf .bf16 (qArg m c) bitsLt_bf16_f32 : FVec Ideal S8192x1024 .bf16) := by entry_read; rfl
theorem V_k : V m c main_v1 = (truncf .bf16 (kArg m c) bitsLt_bf16_f32 : FVec Ideal S256x1024 .bf16) := by entry_read; rfl
theorem V_v : V m c main_v2 = (truncf .bf16 (vArg m c) bitsLt_bf16_f32 : FVec Ideal S256x1024 .bf16) := by entry_read; rfl

theorem k_blk (t : Fin cfg0.N) : iblk m c 1 t = kArg m c := by
  funext y
  idx_vars y
  show V m c main_v1 (((cfg0.win 1).blk t).view.emb (ix2 y0 y1)) = _
  rw [V_k]
  blk_ext [idx t]

theorem v_blk (t : Fin cfg0.N) : iblk m c 2 t = vArg m c := by
  funext y
  idx_vars y
  show V m c main_v2 (((cfg0.win 2).blk t).view.emb (ix2 y0 y1)) = _
  rw [V_v]
  blk_ext [idx t]

theorem q_blk (t : Fin cfg0.N) (r : Fin 2048) (l : Fin 1024) :
    iblk m c 0 t (ix2 r l) = qArg m c (ix2 ⟨2048 * t.val + r.val, by have := lt_of_lt_of_eq t.isLt N_0; omega⟩ l) := by
  show V m c main_v0 (((cfg0.win 0).blk t).view.emb (ix2 r l)) = _
  rw [V_q]
  refine congrArg (qArg m c) (funext fun a => ?_)
  match a with
  | 0 => exact Fin.ext (by blk_simp [idx t]; exact (by omega : t.val * 2048 + r.val = 2048 * t.val + r.val))
  | 1 => exact Fin.ext (by blk_simp [idx t])

theorem mean_blk (t : Fin cfg0.N) (r : Fin 2048) (h : Fin 4) (d : Fin 256) : mean (φ := .bf16) (iblk m c 0 t) (kArg m c) (vArg m c) r h d
    = mean (qArg m c) (kArg m c) (vArg m c) ⟨2048 * t.val + r.val, by have := lt_of_lt_of_eq t.isLt N_0; omega⟩ h d := by
  unfold mean
  have e : score (φ := .bf16) (iblk m c 0 t) (kArg m c) r h
      = score (qArg m c) (kArg m c) ⟨2048 * t.val + r.val, by have := lt_of_lt_of_eq t.isLt N_0; omega⟩ h :=
    funext fun i => congrArg (· * (scale : EReal)) (Finset.sum_congr rfl fun d _ => congrArg (· * kArg m c (ix2 i (lane h d))) (q_blk m c t r _))
  rw [e]

theorem final : (dats m 0 c).arrAt 3 (cfgs 0).N = cross (qArg m c) (kArg m c) (vArg m c) := by
  refine (dats m 0 c).arrAt_eq_of_covers 3 _ (by decide +kernel) fun t _ y => ?_
  blk_simp
  rw [after0_3]
  frame_out
  refine (congrFun (stored (iblk m c 0 t) (iblk m c 1 t) (iblk m c 2 t)) _).trans ?_
  rw [k_blk, v_blk]
  idx_vars y
  have e : (((cfg0.win 3).blk t).view.emb (ix2 y0 y1) : S8192x1024.Idx) = ix2 ⟨2048 * t.val + y0.val, by have := lt_of_lt_of_eq t.isLt N_0; omega⟩ y1 :=
    funext fun a => match a with
    | 0 => Fin.ext (by blk_simp [idx t]; exact (by omega : t.val * 2048 + y0.val = 2048 * t.val + y0.val))
    | 1 => Fin.ext (by blk_simp [idx t])
  refine Eq.trans ?_ (congrArg (cross (qArg m c) (kArg m c) (vArg m c)) e).symm
  exact mean_blk m c t y0 _ _

end Kernel

section Reference

open Cert.Reference3Ideal Cert.Reference3Ideal.Gen

variable (q : FVec Ideal S8192x1024 .f32) (k v : FVec Ideal S256x1024 .f32) (s e : FVec Ideal S4x8192x256 .f32) (x : FVec Ideal S4x8192x1 .f32)
  (h : Fin 4) (t : Fin 8192) (j : Fin 256)

theorem scores_ref : scoresR q k (ix3 h t j) = score q k t h j := by
  pointwise [scoresR, rowsR_apply, keysR_apply, scale_word, score]

theorem top_ref : topR s (ix3 h t 0) = Finset.univ.fold max ⊥ fun i => s (ix3 h t i) := by
  rw [topR, columnR_at]
  pointwise [maxR, bot_word]
  exact max_eq_right bot_le

theorem ex_ref : exR s x (ix3 h t j) = Ideal.exp (s (ix3 h t j) - x (ix3 h t 0)) := by
  pointwise [exR]

theorem tot_ref : totR e (ix3 h t 0) = ∑ i, e (ix3 h t i) := by
  pointwise [totR]

theorem pr_ref : prR e x (ix3 h t j) = Ideal.div (e (ix3 h t j)) (x (ix3 h t 0)) := by
  pointwise [prR]

/-- The weights of the reference. -/
def weights : FVec Ideal S4x8192x256 .f32 := prR (exR (scoresR q k) (topR (scoresR q k))) (totR (exR (scoresR q k) (topR (scoresR q k))))

theorem weights_ref : weights q k (ix3 h t j) = soft (score q k t h) j := by
  simp only [weights, pr_ref, tot_ref, ex_ref, top_ref, scores_ref]
  rfl

/-- What the reference leaves. -/
theorem result : (truncf .bf16 (shapeCast S8192x1024 (transpose S8192x4x256 [2, 0, 1]
    (Host.dotGeneral Cert.Reference14Ideal.dot_S256x4x256_S4x8192x256_S4x256x8192_0_2_2_1_1_0 none (keysR v) (weights q k))
    Cert.Reference14Ideal.Gen.transposes_S4x256x8192_S8192x4x256_2_0_1) shapeCasts_S8192x4x256_S8192x1024) bitsLt_bf16_f32 : FVec Ideal S8192x1024 .bf16)
      = cross q k v := by
  funext i
  idx_vars i
  pointwise [weights_ref, keysR_apply]
  refine Eq.trans ?_ (cross_at q k v i0 ⟨i1.val / 256, by omega⟩ ⟨i1.val % 256, by omega⟩ i1 (by show i1.val = 256 * (i1.val / 256) + i1.val % 256; omega)).symm
  exact Finset.sum_congr rfl fun j _ => mul_comm _ _

end Reference

/-- The reference's frame. -/
theorem frame_reference : Cert.quiescent_Reference14Ideal := fun m ρ _ =>
  (θ_run Cert.Reference14Ideal.defs _ _).mono
    (fun r h => ⟨fun c => (h c).2, sem_eq_zero_of_no_sems (by decide) r.2⟩) (Cert.Reference14Ideal.Value.run m ρ)

theorem algebraic : Cert.algebraic_Kernel14Ideal_Reference14Ideal := by
  pair_intro
  · run_from Cert.Kernel14Ideal.Gen.run_main m g
  · run_from Cert.Reference14Ideal.Value.run m' g'
    exact Eq.trans rfl ((result _ _ _).trans (final m c).symm)

end Cert.CrossEqual

end
-- ==== Proof.lean ====
module

public import proofs.«01_k».proof.Proof.Gen.Kernel.Frame
public import proofs.«01_k».proof.Proof.Relu.Value
public import proofs.«01_k».proof.Proof.Attn.Claims
public import proofs.«01_k».proof.Proof.Flash.Claims
public import proofs.«01_k».proof.Proof.Xattn.Claims
public import proofs.«01_k».proof.Proof.Delta.Claims
public import proofs.«01_k».proof.Proof.Rope.Claims
public import proofs.«01_k».proof.Proof.S5.Words
public import proofs.«01_k».proof.Proof.Norm.First
public import proofs.«01_k».proof.Proof.Norm.Entry
public import proofs.«01_k».proof.Proof.Norm.Forward
public import proofs.«01_k».proof.Proof.Loss.Claims
public import proofs.«01_k».proof.Proof.Gate.Forward
public import proofs.«01_k».proof.Proof.Rms.Values
public import proofs.«01_k».proof.Proof.Xattn.Forward

@[expose] public section

noncomputable section

namespace Cert.Proof

open Idealize.ShloMosaic Idealize.SL.Sem Cert.Kernel

theorem relu_algebraic : Cert.algebraic_KernelIdeal_ReferenceIdeal := by
  pair_intro
  · run_from Cert.KernelIdeal.Gen.run_main m g
  · run_from Cert.ReferenceIdeal.Value.run m' g'
    exact (Cert.ReferenceIdeal.Relu.reference _ _ _).trans (Cert.KernelIdeal.Relu.final m c).symm

/-- The reference leaves its arguments as they were; it has no semaphore. -/
theorem relu_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Pre_finite.Gen.facts, Cert.Pre_finite3.Gen.facts, Cert.Pre_finite15.Gen.facts,
  fun m ρ _ => Cert.Kernel.Gen.frame m ρ, fun m ρ _ => Cert.KernelIdeal.Gen.frame m ρ, relu_reference,
  Cert.Kernel2Ideal.Attn.frame_kernel, fun m ρ _ => Cert.Kernel2Ideal.Attn.frame m ρ, fun m ρ _ => Cert.Kernel2Ideal.Attn.frame m ρ,
  Cert.AttnEqual.frame_reference, fun m ρ _ => Cert.AttnEqual.frame_reference m ρ trivial,
  fun m ρ _ => Cert.Kernel3.Gen.frame m ρ, fun m ρ _ => Cert.Kernel3Ideal.Gen.frame m ρ, fun m ρ _ => Cert.Kernel3Ideal.Gen.frame m ρ,
  Cert.XattnEqual.frame_reference, fun m ρ _ => Cert.XattnEqual.frame_reference m ρ trivial,
  fun m ρ _ => Cert.Kernel4.Gen.frame m ρ, fun m ρ _ => Cert.Kernel4Ideal.Gen.frame m ρ, Cert.RopeEqual.frame_reference,
  fun m ρ _ => Cert.Kernel5.Gen.frame m ρ, fun m ρ _ => Cert.Kernel5Ideal.Gen.frame m ρ, Cert.DeltaEqual.frame_reference,
  fun m ρ _ => Cert.Kernel6.Gen.frame m ρ, fun m ρ _ => Cert.Kernel6Ideal.Gen.frame m ρ, Cert.NormEqual.frame_reference,
  Cert.Kernel7Ideal.S5.frame_kernel, fun m ρ _ => Cert.Kernel7Ideal.S5.frame m ρ,
  fun m ρ _ => Cert.Kernel8.Gen.frame m ρ, fun m ρ _ => Cert.Kernel8Ideal.Gen.frame m ρ, Cert.FirstEqual.frame_reference,
  fun m ρ _ => Cert.Kernel9.Gen.frame m ρ, fun m ρ _ => Cert.Kernel9Ideal.Gen.frame m ρ, Cert.EntryEqual.frame_reference,
  fun m ρ _ => Cert.Kernel10.Gen.frame m ρ, fun m ρ _ => Cert.Kernel10Ideal.Gen.frame m ρ, Cert.LossEqual.frame_reference,
  fun m ρ _ => Cert.Kernel11.Gen.frame m ρ, fun m ρ _ => Cert.Kernel11Ideal.Gen.frame m ρ, Cert.GateEqual.frame_reference,
  fun m ρ _ => Cert.Kernel12.Gen.frame m ρ, fun m ρ _ => Cert.Kernel12Ideal.Gen.frame m ρ, Cert.QueriesEqual.frame_reference,
  fun m ρ _ => Cert.Kernel13.Gen.frame m ρ, fun m ρ _ => Cert.Kernel13Ideal.Gen.frame m ρ, Cert.ValuesEqual.frame_reference,
  fun m ρ _ => Cert.Kernel14.Gen.frame m ρ, fun m ρ _ => Cert.Kernel14Ideal.Gen.frame m ρ, Cert.CrossEqual.frame_reference,
  Cert.Kernel15Ideal.Flash.frame_kernel, fun m ρ _ => Cert.Kernel15Ideal.Flash.frame m ρ, fun m ρ _ => Cert.Kernel15Ideal.Flash.frame m ρ,
  Cert.FlashEqual.frame_reference, fun m ρ _ => Cert.FlashEqual.frame_reference m ρ trivial,
  fun m ρ _ => Cert.Kernel16.Gen.frame m ρ, fun m ρ _ => Cert.Kernel16Ideal.Gen.frame m ρ, Cert.ForwardEqual.frame_reference,
  fun m ρ _ => Cert.Kernel17.Gen.frame m ρ, fun m ρ _ => Cert.Kernel17Ideal.Gen.frame m ρ, Cert.MixEqual.frame_reference,
  trivial, relu_algebraic, Cert.AttnEqual.preserves, Cert.AttnEqual.algebraic,
  trivial, Cert.XattnEqual.algebraic, trivial, Cert.RopeEqual.algebraic, trivial, Cert.DeltaEqual.algebraic, trivial, Cert.NormEqual.algebraic, trivial,
  trivial, Cert.FirstEqual.algebraic, trivial, Cert.EntryEqual.algebraic, trivial, Cert.LossEqual.algebraic, trivial, Cert.GateEqual.algebraic, trivial, Cert.QueriesEqual.algebraic, trivial, Cert.ValuesEqual.algebraic, trivial, Cert.CrossEqual.algebraic, Cert.FlashEqual.preserves, Cert.FlashEqual.algebraic, trivial, Cert.ForwardEqual.algebraic, trivial, Cert.MixEqual.algebraic⟩

end Cert.Proof

end
